-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Moba (m : (ℓ : Loc Cert.Moba.nD Cert.Moba.τ Cert.Moba.sig) → Buf (Elt Bits) ℓ) : Prop :=
  True

def Pre_MobaIdeal (m : (ℓ : Loc Cert.MobaIdeal.nD Cert.MobaIdeal.τ Cert.MobaIdeal.sig) → Buf (Elt Ideal) ℓ) : Prop :=
  True

def Pre_MobaIdeal_numbers [hPre_numbers : Cert.Pre_numbers.Facts] (m : (ℓ : Loc Cert.MobaIdeal.nD Cert.MobaIdeal.τ Cert.MobaIdeal.sig) → Buf (Elt Ideal) ℓ) : Prop :=
  ∀ c : Dev Cert.MobaIdeal.nD,
    (Cert.Pre_numbers.fn (F := Ideal) (m ((c.tc : Thread Cert.MobaIdeal.nD Cert.MobaIdeal.τ).loc Cert.MobaIdeal.main_arg0)) (m ((c.tc : Thread Cert.MobaIdeal.nD Cert.MobaIdeal.τ).loc Cert.MobaIdeal.main_arg1)) (m ((c.tc : Thread Cert.MobaIdeal.nD Cert.MobaIdeal.τ).loc Cert.MobaIdeal.main_arg2)) (m ((c.tc : Thread Cert.MobaIdeal.nD Cert.MobaIdeal.τ).loc Cert.MobaIdeal.main_arg3)) (m ((c.tc : Thread Cert.MobaIdeal.nD Cert.MobaIdeal.τ).loc Cert.MobaIdeal.main_arg4)) (m ((c.tc : Thread Cert.MobaIdeal.nD Cert.MobaIdeal.τ).loc Cert.MobaIdeal.main_arg5)) (m ((c.tc : Thread Cert.MobaIdeal.nD Cert.MobaIdeal.τ).loc Cert.MobaIdeal.main_arg6)) (m ((c.tc : Thread Cert.MobaIdeal.nD Cert.MobaIdeal.τ).loc Cert.MobaIdeal.main_arg7)) (m ((c.tc : Thread Cert.MobaIdeal.nD Cert.MobaIdeal.τ).loc Cert.MobaIdeal.main_arg8)) (m ((c.tc : Thread Cert.MobaIdeal.nD Cert.MobaIdeal.τ).loc Cert.MobaIdeal.main_arg9))) = (fun _ => 1#1)

def Pre_MobaRefIdeal (m : (ℓ : Loc Cert.MobaRefIdeal.nD Cert.MobaRefIdeal.τ Cert.MobaRefIdeal.sig) → Buf (Elt Ideal) ℓ) : Prop :=
  True

def Pre_MobaRefIdeal_numbers [hPre_numbers : Cert.Pre_numbers.Facts] (m : (ℓ : Loc Cert.MobaRefIdeal.nD Cert.MobaRefIdeal.τ Cert.MobaRefIdeal.sig) → Buf (Elt Ideal) ℓ) : Prop :=
  ∀ c : Dev Cert.MobaRefIdeal.nD,
    (Cert.Pre_numbers.fn (F := Ideal) (m ((c.tc : Thread Cert.MobaRefIdeal.nD Cert.MobaRefIdeal.τ).loc Cert.MobaRefIdeal.main_arg0)) (m ((c.tc : Thread Cert.MobaRefIdeal.nD Cert.MobaRefIdeal.τ).loc Cert.MobaRefIdeal.main_arg1)) (m ((c.tc : Thread Cert.MobaRefIdeal.nD Cert.MobaRefIdeal.τ).loc Cert.MobaRefIdeal.main_arg2)) (m ((c.tc : Thread Cert.MobaRefIdeal.nD Cert.MobaRefIdeal.τ).loc Cert.MobaRefIdeal.main_arg3)) (m ((c.tc : Thread Cert.MobaRefIdeal.nD Cert.MobaRefIdeal.τ).loc Cert.MobaRefIdeal.main_arg4)) (m ((c.tc : Thread Cert.MobaRefIdeal.nD Cert.MobaRefIdeal.τ).loc Cert.MobaRefIdeal.main_arg5)) (m ((c.tc : Thread Cert.MobaRefIdeal.nD Cert.MobaRefIdeal.τ).loc Cert.MobaRefIdeal.main_arg6)) (m ((c.tc : Thread Cert.MobaRefIdeal.nD Cert.MobaRefIdeal.τ).loc Cert.MobaRefIdeal.main_arg7)) (m ((c.tc : Thread Cert.MobaRefIdeal.nD Cert.MobaRefIdeal.τ).loc Cert.MobaRefIdeal.main_arg8)) (m ((c.tc : Thread Cert.MobaRefIdeal.nD Cert.MobaRefIdeal.τ).loc Cert.MobaRefIdeal.main_arg9))) = (fun _ => 1#1)

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def Pre_GlaIdeal_numbers_gla [hPre_numbers_gla : Cert.Pre_numbers_gla.Facts] (m : (ℓ : Loc Cert.GlaIdeal.nD Cert.GlaIdeal.τ Cert.GlaIdeal.sig) → Buf (Elt Ideal) ℓ) : Prop :=
  ∀ c : Dev Cert.GlaIdeal.nD,
    (Cert.Pre_numbers_gla.fn (F := Ideal) (m ((c.tc : Thread Cert.GlaIdeal.nD Cert.GlaIdeal.τ).loc Cert.GlaIdeal.main_arg0)) (m ((c.tc : Thread Cert.GlaIdeal.nD Cert.GlaIdeal.τ).loc Cert.GlaIdeal.main_arg1)) (m ((c.tc : Thread Cert.GlaIdeal.nD Cert.GlaIdeal.τ).loc Cert.GlaIdeal.main_arg2)) (m ((c.tc : Thread Cert.GlaIdeal.nD Cert.GlaIdeal.τ).loc Cert.GlaIdeal.main_arg3)) (m ((c.tc : Thread Cert.GlaIdeal.nD Cert.GlaIdeal.τ).loc Cert.GlaIdeal.main_arg4)) (m ((c.tc : Thread Cert.GlaIdeal.nD Cert.GlaIdeal.τ).loc Cert.GlaIdeal.main_arg5)) (m ((c.tc : Thread Cert.GlaIdeal.nD Cert.GlaIdeal.τ).loc Cert.GlaIdeal.main_arg6)) (m ((c.tc : Thread Cert.GlaIdeal.nD Cert.GlaIdeal.τ).loc Cert.GlaIdeal.main_arg7)) (m ((c.tc : Thread Cert.GlaIdeal.nD Cert.GlaIdeal.τ).loc Cert.GlaIdeal.main_arg8)) (m ((c.tc : Thread Cert.GlaIdeal.nD Cert.GlaIdeal.τ).loc Cert.GlaIdeal.main_arg9)) (m ((c.tc : Thread Cert.GlaIdeal.nD Cert.GlaIdeal.τ).loc Cert.GlaIdeal.main_arg10)) (m ((c.tc : Thread Cert.GlaIdeal.nD Cert.GlaIdeal.τ).loc Cert.GlaIdeal.main_arg11))) = (fun _ => 1#1)

def Pre_GlaRefIdeal (m : (ℓ : Loc Cert.GlaRefIdeal.nD Cert.GlaRefIdeal.τ Cert.GlaRefIdeal.sig) → Buf (Elt Ideal) ℓ) : Prop :=
  True

def Pre_GlaRefIdeal_numbers_gla [hPre_numbers_gla : Cert.Pre_numbers_gla.Facts] (m : (ℓ : Loc Cert.GlaRefIdeal.nD Cert.GlaRefIdeal.τ Cert.GlaRefIdeal.sig) → Buf (Elt Ideal) ℓ) : Prop :=
  ∀ c : Dev Cert.GlaRefIdeal.nD,
    (Cert.Pre_numbers_gla.fn (F := Ideal) (m ((c.tc : Thread Cert.GlaRefIdeal.nD Cert.GlaRefIdeal.τ).loc Cert.GlaRefIdeal.main_arg0)) (m ((c.tc : Thread Cert.GlaRefIdeal.nD Cert.GlaRefIdeal.τ).loc Cert.GlaRefIdeal.main_arg1)) (m ((c.tc : Thread Cert.GlaRefIdeal.nD Cert.GlaRefIdeal.τ).loc Cert.GlaRefIdeal.main_arg2)) (m ((c.tc : Thread Cert.GlaRefIdeal.nD Cert.GlaRefIdeal.τ).loc Cert.GlaRefIdeal.main_arg3)) (m ((c.tc : Thread Cert.GlaRefIdeal.nD Cert.GlaRefIdeal.τ).loc Cert.GlaRefIdeal.main_arg4)) (m ((c.tc : Thread Cert.GlaRefIdeal.nD Cert.GlaRefIdeal.τ).loc Cert.GlaRefIdeal.main_arg5)) (m ((c.tc : Thread Cert.GlaRefIdeal.nD Cert.GlaRefIdeal.τ).loc Cert.GlaRefIdeal.main_arg6)) (m ((c.tc : Thread Cert.GlaRefIdeal.nD Cert.GlaRefIdeal.τ).loc Cert.GlaRefIdeal.main_arg7)) (m ((c.tc : Thread Cert.GlaRefIdeal.nD Cert.GlaRefIdeal.τ).loc Cert.GlaRefIdeal.main_arg8)) (m ((c.tc : Thread Cert.GlaRefIdeal.nD Cert.GlaRefIdeal.τ).loc Cert.GlaRefIdeal.main_arg9)) (m ((c.tc : Thread Cert.GlaRefIdeal.nD Cert.GlaRefIdeal.τ).loc Cert.GlaRefIdeal.main_arg10)) (m ((c.tc : Thread Cert.GlaRefIdeal.nD Cert.GlaRefIdeal.τ).loc Cert.GlaRefIdeal.main_arg11))) = (fun _ => 1#1)

def Pre_GlaIn (m : (ℓ : Loc Cert.GlaIn.nD Cert.GlaIn.τ Cert.GlaIn.sig) → Buf (Elt Bits) ℓ) : Prop :=
  True

def Pre_GlaInIdeal (m : (ℓ : Loc Cert.GlaInIdeal.nD Cert.GlaInIdeal.τ Cert.GlaInIdeal.sig) → Buf (Elt Ideal) ℓ) : Prop :=
  True

def Pre_GlaInIdeal_numbers_in [hPre_numbers_in : Cert.Pre_numbers_in.Facts] (m : (ℓ : Loc Cert.GlaInIdeal.nD Cert.GlaInIdeal.τ Cert.GlaInIdeal.sig) → Buf (Elt Ideal) ℓ) : Prop :=
  ∀ c : Dev Cert.GlaInIdeal.nD,
    (Cert.Pre_numbers_in.fn (F := Ideal) (m ((c.tc : Thread Cert.GlaInIdeal.nD Cert.GlaInIdeal.τ).loc Cert.GlaInIdeal.main_arg0)) (m ((c.tc : Thread Cert.GlaInIdeal.nD Cert.GlaInIdeal.τ).loc Cert.GlaInIdeal.main_arg1)) (m ((c.tc : Thread Cert.GlaInIdeal.nD Cert.GlaInIdeal.τ).loc Cert.GlaInIdeal.main_arg2)) (m ((c.tc : Thread Cert.GlaInIdeal.nD Cert.GlaInIdeal.τ).loc Cert.GlaInIdeal.main_arg3)) (m ((c.tc : Thread Cert.GlaInIdeal.nD Cert.GlaInIdeal.τ).loc Cert.GlaInIdeal.main_arg4)) (m ((c.tc : Thread Cert.GlaInIdeal.nD Cert.GlaInIdeal.τ).loc Cert.GlaInIdeal.main_arg5)) (m ((c.tc : Thread Cert.GlaInIdeal.nD Cert.GlaInIdeal.τ).loc Cert.GlaInIdeal.main_arg6))) = (fun _ => 1#1)

def Pre_GlaInRefIdeal (m : (ℓ : Loc Cert.GlaInRefIdeal.nD Cert.GlaInRefIdeal.τ Cert.GlaInRefIdeal.sig) → Buf (Elt Ideal) ℓ) : Prop :=
  True

def Pre_GlaInRefIdeal_numbers_in [hPre_numbers_in : Cert.Pre_numbers_in.Facts] (m : (ℓ : Loc Cert.GlaInRefIdeal.nD Cert.GlaInRefIdeal.τ Cert.GlaInRefIdeal.sig) → Buf (Elt Ideal) ℓ) : Prop :=
  ∀ c : Dev Cert.GlaInRefIdeal.nD,
    (Cert.Pre_numbers_in.fn (F := Ideal) (m ((c.tc : Thread Cert.GlaInRefIdeal.nD Cert.GlaInRefIdeal.τ).loc Cert.GlaInRefIdeal.main_arg0)) (m ((c.tc : Thread Cert.GlaInRefIdeal.nD Cert.GlaInRefIdeal.τ).loc Cert.GlaInRefIdeal.main_arg1)) (m ((c.tc : Thread Cert.GlaInRefIdeal.nD Cert.GlaInRefIdeal.τ).loc Cert.GlaInRefIdeal.main_arg2)) (m ((c.tc : Thread Cert.GlaInRefIdeal.nD Cert.GlaInRefIdeal.τ).loc Cert.GlaInRefIdeal.main_arg3)) (m ((c.tc : Thread Cert.GlaInRefIdeal.nD Cert.GlaInRefIdeal.τ).loc Cert.GlaInRefIdeal.main_arg4)) (m ((c.tc : Thread Cert.GlaInRefIdeal.nD Cert.GlaInRefIdeal.τ).loc Cert.GlaInRefIdeal.main_arg5)) (m ((c.tc : Thread Cert.GlaInRefIdeal.nD Cert.GlaInRefIdeal.τ).loc Cert.GlaInRefIdeal.main_arg6))) = (fun _ => 1#1)

def Pre_KvSample (m : (ℓ : Loc Cert.KvSample.nD Cert.KvSample.τ Cert.KvSample.sig) → Buf (Elt Bits) ℓ) : Prop :=
  True

def Pre_KvSampleIdeal (m : (ℓ : Loc Cert.KvSampleIdeal.nD Cert.KvSampleIdeal.τ Cert.KvSampleIdeal.sig) → Buf (Elt Ideal) ℓ) : Prop :=
  True

def Pre_KvSampleRefIdeal (m : (ℓ : Loc Cert.KvSampleRefIdeal.nD Cert.KvSampleRefIdeal.τ Cert.KvSampleRefIdeal.sig) → Buf (Elt Ideal) ℓ) : Prop :=
  True

def Pre_MobaSample (m : (ℓ : Loc Cert.MobaSample.nD Cert.MobaSample.τ Cert.MobaSample.sig) → Buf (Elt Bits) ℓ) : Prop :=
  True

def Pre_MobaSampleIdeal (m : (ℓ : Loc Cert.MobaSampleIdeal.nD Cert.MobaSampleIdeal.τ Cert.MobaSampleIdeal.sig) → Buf (Elt Ideal) ℓ) : Prop :=
  True

def Pre_MobaSampleIdeal_numbers_sample [hPre_numbers_sample : Cert.Pre_numbers_sample.Facts] (m : (ℓ : Loc Cert.MobaSampleIdeal.nD Cert.MobaSampleIdeal.τ Cert.MobaSampleIdeal.sig) → Buf (Elt Ideal) ℓ) : Prop :=
  ∀ c : Dev Cert.MobaSampleIdeal.nD,
    (Cert.Pre_numbers_sample.fn (F := Ideal) (m ((c.tc : Thread Cert.MobaSampleIdeal.nD Cert.MobaSampleIdeal.τ).loc Cert.MobaSampleIdeal.main_arg0)) (m ((c.tc : Thread Cert.MobaSampleIdeal.nD Cert.MobaSampleIdeal.τ).loc Cert.MobaSampleIdeal.main_arg1)) (m ((c.tc : Thread Cert.MobaSampleIdeal.nD Cert.MobaSampleIdeal.τ).loc Cert.MobaSampleIdeal.main_arg2)) (m ((c.tc : Thread Cert.MobaSampleIdeal.nD Cert.MobaSampleIdeal.τ).loc Cert.MobaSampleIdeal.main_arg3)) (m ((c.tc : Thread Cert.MobaSampleIdeal.nD Cert.MobaSampleIdeal.τ).loc Cert.MobaSampleIdeal.main_arg4)) (m ((c.tc : Thread Cert.MobaSampleIdeal.nD Cert.MobaSampleIdeal.τ).loc Cert.MobaSampleIdeal.main_arg5)) (m ((c.tc : Thread Cert.MobaSampleIdeal.nD Cert.MobaSampleIdeal.τ).loc Cert.MobaSampleIdeal.main_arg6)) (m ((c.tc : Thread Cert.MobaSampleIdeal.nD Cert.MobaSampleIdeal.τ).loc Cert.MobaSampleIdeal.main_arg7)) (m ((c.tc : Thread Cert.MobaSampleIdeal.nD Cert.MobaSampleIdeal.τ).loc Cert.MobaSampleIdeal.main_arg8)) (m ((c.tc : Thread Cert.MobaSampleIdeal.nD Cert.MobaSampleIdeal.τ).loc Cert.MobaSampleIdeal.main_arg9))) = (fun _ => 1#1)

def Pre_MobaSampleRefIdeal (m : (ℓ : Loc Cert.MobaSampleRefIdeal.nD Cert.MobaSampleRefIdeal.τ Cert.MobaSampleRefIdeal.sig) → Buf (Elt Ideal) ℓ) : Prop :=
  True

def Pre_MobaSampleRefIdeal_numbers_sample [hPre_numbers_sample : Cert.Pre_numbers_sample.Facts] (m : (ℓ : Loc Cert.MobaSampleRefIdeal.nD Cert.MobaSampleRefIdeal.τ Cert.MobaSampleRefIdeal.sig) → Buf (Elt Ideal) ℓ) : Prop :=
  ∀ c : Dev Cert.MobaSampleRefIdeal.nD,
    (Cert.Pre_numbers_sample.fn (F := Ideal) (m ((c.tc : Thread Cert.MobaSampleRefIdeal.nD Cert.MobaSampleRefIdeal.τ).loc Cert.MobaSampleRefIdeal.main_arg0)) (m ((c.tc : Thread Cert.MobaSampleRefIdeal.nD Cert.MobaSampleRefIdeal.τ).loc Cert.MobaSampleRefIdeal.main_arg1)) (m ((c.tc : Thread Cert.MobaSampleRefIdeal.nD Cert.MobaSampleRefIdeal.τ).loc Cert.MobaSampleRefIdeal.main_arg2)) (m ((c.tc : Thread Cert.MobaSampleRefIdeal.nD Cert.MobaSampleRefIdeal.τ).loc Cert.MobaSampleRefIdeal.main_arg3)) (m ((c.tc : Thread Cert.MobaSampleRefIdeal.nD Cert.MobaSampleRefIdeal.τ).loc Cert.MobaSampleRefIdeal.main_arg4)) (m ((c.tc : Thread Cert.MobaSampleRefIdeal.nD Cert.MobaSampleRefIdeal.τ).loc Cert.MobaSampleRefIdeal.main_arg5)) (m ((c.tc : Thread Cert.MobaSampleRefIdeal.nD Cert.MobaSampleRefIdeal.τ).loc Cert.MobaSampleRefIdeal.main_arg6)) (m ((c.tc : Thread Cert.MobaSampleRefIdeal.nD Cert.MobaSampleRefIdeal.τ).loc Cert.MobaSampleRefIdeal.main_arg7)) (m ((c.tc : Thread Cert.MobaSampleRefIdeal.nD Cert.MobaSampleRefIdeal.τ).loc Cert.MobaSampleRefIdeal.main_arg8)) (m ((c.tc : Thread Cert.MobaSampleRefIdeal.nD Cert.MobaSampleRefIdeal.τ).loc Cert.MobaSampleRefIdeal.main_arg9))) = (fun _ => 1#1)

def Pre_RecSample (m : (ℓ : Loc Cert.RecSample.nD Cert.RecSample.τ Cert.RecSample.sig) → Buf (Elt Bits) ℓ) : Prop :=
  True

def Pre_RecSampleIdeal (m : (ℓ : Loc Cert.RecSampleIdeal.nD Cert.RecSampleIdeal.τ Cert.RecSampleIdeal.sig) → Buf (Elt Ideal) ℓ) : Prop :=
  True

def Pre_RecSampleIdeal_finite_sample [hPre_finite_sample : Cert.Pre_finite_sample.Facts] (m : (ℓ : Loc Cert.RecSampleIdeal.nD Cert.RecSampleIdeal.τ Cert.RecSampleIdeal.sig) → Buf (Elt Ideal) ℓ) : Prop :=
  ∀ c : Dev Cert.RecSampleIdeal.nD,
    (Cert.Pre_finite_sample.fn (F := Ideal) (m ((c.tc : Thread Cert.RecSampleIdeal.nD Cert.RecSampleIdeal.τ).loc Cert.RecSampleIdeal.main_arg0)) (m ((c.tc : Thread Cert.RecSampleIdeal.nD Cert.RecSampleIdeal.τ).loc Cert.RecSampleIdeal.main_arg1)) (m ((c.tc : Thread Cert.RecSampleIdeal.nD Cert.RecSampleIdeal.τ).loc Cert.RecSampleIdeal.main_arg2)) (m ((c.tc : Thread Cert.RecSampleIdeal.nD Cert.RecSampleIdeal.τ).loc Cert.RecSampleIdeal.main_arg3))) = (fun _ => 1#1)

def Pre_RecSampleRefIdeal (m : (ℓ : Loc Cert.RecSampleRefIdeal.nD Cert.RecSampleRefIdeal.τ Cert.RecSampleRefIdeal.sig) → Buf (Elt Ideal) ℓ) : Prop :=
  True

def Pre_RecSampleRefIdeal_finite_sample [hPre_finite_sample : Cert.Pre_finite_sample.Facts] (m : (ℓ : Loc Cert.RecSampleRefIdeal.nD Cert.RecSampleRefIdeal.τ Cert.RecSampleRefIdeal.sig) → Buf (Elt Ideal) ℓ) : Prop :=
  ∀ c : Dev Cert.RecSampleRefIdeal.nD,
    (Cert.Pre_finite_sample.fn (F := Ideal) (m ((c.tc : Thread Cert.RecSampleRefIdeal.nD Cert.RecSampleRefIdeal.τ).loc Cert.RecSampleRefIdeal.main_arg0)) (m ((c.tc : Thread Cert.RecSampleRefIdeal.nD Cert.RecSampleRefIdeal.τ).loc Cert.RecSampleRefIdeal.main_arg1)) (m ((c.tc : Thread Cert.RecSampleRefIdeal.nD Cert.RecSampleRefIdeal.τ).loc Cert.RecSampleRefIdeal.main_arg2)) (m ((c.tc : Thread Cert.RecSampleRefIdeal.nD Cert.RecSampleRefIdeal.τ).loc Cert.RecSampleRefIdeal.main_arg3))) = (fun _ => 1#1)

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Select (m : (ℓ : Loc Cert.Select.nD Cert.Select.τ Cert.Select.sig) → Buf (Elt Bits) ℓ) : Prop :=
  True

def Pre_SelectIdeal (m : (ℓ : Loc Cert.SelectIdeal.nD Cert.SelectIdeal.τ Cert.SelectIdeal.sig) → Buf (Elt Ideal) ℓ) : Prop :=
  True

def Pre_SelectIdeal_numbers_select [hPre_numbers_select : Cert.Pre_numbers_select.Facts] (m : (ℓ : Loc Cert.SelectIdeal.nD Cert.SelectIdeal.τ Cert.SelectIdeal.sig) → Buf (Elt Ideal) ℓ) : Prop :=
  ∀ c : Dev Cert.SelectIdeal.nD,
    (Cert.Pre_numbers_select.fn (F := Ideal) (m ((c.tc : Thread Cert.SelectIdeal.nD Cert.SelectIdeal.τ).loc Cert.SelectIdeal.main_arg0)) (m ((c.tc : Thread Cert.SelectIdeal.nD Cert.SelectIdeal.τ).loc Cert.SelectIdeal.main_arg1))) = (fun _ => 1#1)

def Pre_SelectRefIdeal (m : (ℓ : Loc Cert.SelectRefIdeal.nD Cert.SelectRefIdeal.τ Cert.SelectRefIdeal.sig) → Buf (Elt Ideal) ℓ) : Prop :=
  True

def Pre_SelectRefIdeal_numbers_select [hPre_numbers_select : Cert.Pre_numbers_select.Facts] (m : (ℓ : Loc Cert.SelectRefIdeal.nD Cert.SelectRefIdeal.τ Cert.SelectRefIdeal.sig) → Buf (Elt Ideal) ℓ) : Prop :=
  ∀ c : Dev Cert.SelectRefIdeal.nD,
    (Cert.Pre_numbers_select.fn (F := Ideal) (m ((c.tc : Thread Cert.SelectRefIdeal.nD Cert.SelectRefIdeal.τ).loc Cert.SelectRefIdeal.main_arg0)) (m ((c.tc : Thread Cert.SelectRefIdeal.nD Cert.SelectRefIdeal.τ).loc Cert.SelectRefIdeal.main_arg1))) = (fun _ => 1#1)

def Pre_Queries (m : (ℓ : Loc Cert.Queries.nD Cert.Queries.τ Cert.Queries.sig) → Buf (Elt Bits) ℓ) : Prop :=
  True

def Pre_QueriesIdeal (m : (ℓ : Loc Cert.QueriesIdeal.nD Cert.QueriesIdeal.τ Cert.QueriesIdeal.sig) → Buf (Elt Ideal) ℓ) : Prop :=
  True

def Pre_QueriesRefIdeal (m : (ℓ : Loc Cert.QueriesRefIdeal.nD Cert.QueriesRefIdeal.τ Cert.QueriesRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Moba [hMoba : Cert.Moba.Facts] : Prop :=
  ∀ (m : (ℓ : Loc Cert.Moba.nD Cert.Moba.τ Cert.Moba.sig) → Buf (Elt Bits) ℓ) (g : Dev Cert.Moba.nD → PrngReg), Pre_Moba m →
    θ_run (Cert.Moba.defs (F := Bits)) (onTc (τ := Cert.Moba.τ) (Cert.Moba.main (F := Bits))) ⟨m, fun _ => 0, g⟩ (fun r => (∀ c : Dev Cert.Moba.nD,
      r.2.mem ((c.tc : Thread Cert.Moba.nD Cert.Moba.τ).loc Cert.Moba.main_arg0) = m ((c.tc : Thread Cert.Moba.nD Cert.Moba.τ).loc Cert.Moba.main_arg0)
      ∧ r.2.mem ((c.tc : Thread Cert.Moba.nD Cert.Moba.τ).loc Cert.Moba.main_arg1) = m ((c.tc : Thread Cert.Moba.nD Cert.Moba.τ).loc Cert.Moba.main_arg1)
      ∧ r.2.mem ((c.tc : Thread Cert.Moba.nD Cert.Moba.τ).loc Cert.Moba.main_arg2) = m ((c.tc : Thread Cert.Moba.nD Cert.Moba.τ).loc Cert.Moba.main_arg2)
      ∧ r.2.mem ((c.tc : Thread Cert.Moba.nD Cert.Moba.τ).loc Cert.Moba.main_arg3) = m ((c.tc : Thread Cert.Moba.nD Cert.Moba.τ).loc Cert.Moba.main_arg3)
      ∧ r.2.mem ((c.tc : Thread Cert.Moba.nD Cert.Moba.τ).loc Cert.Moba.main_arg4) = m ((c.tc : Thread Cert.Moba.nD Cert.Moba.τ).loc Cert.Moba.main_arg4)
      ∧ r.2.mem ((c.tc : Thread Cert.Moba.nD Cert.Moba.τ).loc Cert.Moba.main_arg5) = m ((c.tc : Thread Cert.Moba.nD Cert.Moba.τ).loc Cert.Moba.main_arg5)
      ∧ r.2.mem ((c.tc : Thread Cert.Moba.nD Cert.Moba.τ).loc Cert.Moba.main_arg6) = m ((c.tc : Thread Cert.Moba.nD Cert.Moba.τ).loc Cert.Moba.main_arg6)
      ∧ r.2.mem ((c.tc : Thread Cert.Moba.nD Cert.Moba.τ).loc Cert.Moba.main_arg7) = m ((c.tc : Thread Cert.Moba.nD Cert.Moba.τ).loc Cert.Moba.main_arg7)
      ∧ r.2.mem ((c.tc : Thread Cert.Moba.nD Cert.Moba.τ).loc Cert.Moba.main_arg8) = m ((c.tc : Thread Cert.Moba.nD Cert.Moba.τ).loc Cert.Moba.main_arg8)
      ∧ r.2.mem ((c.tc : Thread Cert.Moba.nD Cert.Moba.τ).loc Cert.Moba.main_arg9) = m ((c.tc : Thread Cert.Moba.nD Cert.Moba.τ).loc Cert.Moba.main_arg9))
      ∧ r.2.sem = fun _ => 0)

def quiescent_MobaIdeal [hMobaIdeal : Cert.MobaIdeal.Facts] : Prop :=
  ∀ (m : (ℓ : Loc Cert.MobaIdeal.nD Cert.MobaIdeal.τ Cert.MobaIdeal.sig) → Buf (Elt Ideal) ℓ) (g : Dev Cert.MobaIdeal.nD → PrngReg), Pre_MobaIdeal m →
    θ_run (Cert.MobaIdeal.defs (F := Ideal)) (onTc (τ := Cert.MobaIdeal.τ) (Cert.MobaIdeal.main (F := Ideal))) ⟨m, fun _ => 0, g⟩ (fun r => (∀ c : Dev Cert.MobaIdeal.nD,
      r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0)
      ∧ r.2.mem ((c.tc : Thread Cert.MobaIdeal.nD Cert.MobaIdeal.τ).loc Cert.MobaIdeal.main_arg1) = m ((c.tc : Thread Cert.MobaIdeal.nD Cert.MobaIdeal.τ).loc Cert.MobaIdeal.main_arg1)
      ∧ r.2.mem ((c.tc : Thread Cert.MobaIdeal.nD Cert.MobaIdeal.τ).loc Cert.MobaIdeal.main_arg2) = m ((c.tc : Thread Cert.MobaIdeal.nD Cert.MobaIdeal.τ).loc Cert.MobaIdeal.main_arg2)
      ∧ r.2.mem ((c.tc : Thread Cert.MobaIdeal.nD Cert.MobaIdeal.τ).loc Cert.MobaIdeal.main_arg3) = m ((c.tc : Thread Cert.MobaIdeal.nD Cert.MobaIdeal.τ).loc Cert.MobaIdeal.main_arg3)
      ∧ r.2.mem ((c.tc : Thread Cert.MobaIdeal.nD Cert.MobaIdeal.τ).loc Cert.MobaIdeal.main_arg4) = m ((c.tc : Thread Cert.MobaIdeal.nD Cert.MobaIdeal.τ).loc Cert.MobaIdeal.main_arg4)
      ∧ r.2.mem ((c.tc : Thread Cert.MobaIdeal.nD Cert.MobaIdeal.τ).loc Cert.MobaIdeal.main_arg5) = m ((c.tc : Thread Cert.MobaIdeal.nD Cert.MobaIdeal.τ).loc Cert.MobaIdeal.main_arg5)
      ∧ r.2.mem ((c.tc : Thread Cert.MobaIdeal.nD Cert.MobaIdeal.τ).loc Cert.MobaIdeal.main_arg6) = m ((c.tc : Thread Cert.MobaIdeal.nD Cert.MobaIdeal.τ).loc Cert.MobaIdeal.main_arg6)
      ∧ r.2.mem ((c.tc : Thread Cert.MobaIdeal.nD Cert.MobaIdeal.τ).loc Cert.MobaIdeal.main_arg7) = m ((c.tc : Thread Cert.MobaIdeal.nD Cert.MobaIdeal.τ).loc Cert.MobaIdeal.main_arg7)
      ∧ r.2.mem ((c.tc : Thread Cert.MobaIdeal.nD Cert.MobaIdeal.τ).loc Cert.MobaIdeal.main_arg8) = m ((c.tc : Thread Cert.MobaIdeal.nD Cert.MobaIdeal.τ).loc Cert.MobaIdeal.main_arg8)
      ∧ r.2.mem ((c.tc : Thread Cert.MobaIdeal.nD Cert.MobaIdeal.τ).loc Cert.MobaIdeal.main_arg9) = m ((c.tc : Thread Cert.MobaIdeal.nD Cert.MobaIdeal.τ).loc Cert.MobaIdeal.main_arg9))
      ∧ r.2.sem = fun _ => 0)

def quiescent_MobaIdeal_pre_numbers [hMobaIdeal : Cert.MobaIdeal.Facts] [hPre_numbers : Cert.Pre_numbers.Facts] : Prop :=
  ∀ (m : (ℓ : Loc Cert.MobaIdeal.nD Cert.MobaIdeal.τ Cert.MobaIdeal.sig) → Buf (Elt Ideal) ℓ) (g : Dev Cert.MobaIdeal.nD → PrngReg), Pre_MobaIdeal_numbers m →
    θ_run (Cert.MobaIdeal.defs (F := Ideal)) (onTc (τ := Cert.MobaIdeal.τ) (Cert.MobaIdeal.main (F := Ideal))) ⟨m, fun _ => 0, g⟩ (fun r => (∀ c : Dev Cert.MobaIdeal.nD,
      r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0)
      ∧ r.2.mem ((c.tc : Thread Cert.MobaIdeal.nD Cert.MobaIdeal.τ).loc Cert.MobaIdeal.main_arg1) = m ((c.tc : Thread Cert.MobaIdeal.nD Cert.MobaIdeal.τ).loc Cert.MobaIdeal.main_arg1)
      ∧ r.2.mem ((c.tc : Thread Cert.MobaIdeal.nD Cert.MobaIdeal.τ).loc Cert.MobaIdeal.main_arg2) = m ((c.tc : Thread Cert.MobaIdeal.nD Cert.MobaIdeal.τ).loc Cert.MobaIdeal.main_arg2)
      ∧ r.2.mem ((c.tc : Thread Cert.MobaIdeal.nD Cert.MobaIdeal.τ).loc Cert.MobaIdeal.main_arg3) = m ((c.tc : Thread Cert.MobaIdeal.nD Cert.MobaIdeal.τ).loc Cert.MobaIdeal.main_arg3)
      ∧ r.2.mem ((c.tc : Thread Cert.MobaIdeal.nD Cert.MobaIdeal.τ).loc Cert.MobaIdeal.main_arg4) = m ((c.tc : Thread Cert.MobaIdeal.nD Cert.MobaIdeal.τ).loc Cert.MobaIdeal.main_arg4)
      ∧ r.2.mem ((c.tc : Thread Cert.MobaIdeal.nD Cert.MobaIdeal.τ).loc Cert.MobaIdeal.main_arg5) = m ((c.tc : Thread Cert.MobaIdeal.nD Cert.MobaIdeal.τ).loc Cert.MobaIdeal.main_arg5)
      ∧ r.2.mem ((c.tc : Thread Cert.MobaIdeal.nD Cert.MobaIdeal.τ).loc Cert.MobaIdeal.main_arg6) = m ((c.tc : Thread Cert.MobaIdeal.nD Cert.MobaIdeal.τ).loc Cert.MobaIdeal.main_arg6)
      ∧ r.2.mem ((c.tc : Thread Cert.MobaIdeal.nD Cert.MobaIdeal.τ).loc Cert.MobaIdeal.main_arg7) = m ((c.tc : Thread Cert.MobaIdeal.nD Cert.MobaIdeal.τ).loc Cert.MobaIdeal.main_arg7)
      ∧ r.2.mem ((c.tc : Thread Cert.MobaIdeal.nD Cert.MobaIdeal.τ).loc Cert.MobaIdeal.main_arg8) = m ((c.tc : Thread Cert.MobaIdeal.nD Cert.MobaIdeal.τ).loc Cert.MobaIdeal.main_arg8)
      ∧ r.2.mem ((c.tc : Thread Cert.MobaIdeal.nD Cert.MobaIdeal.τ).loc Cert.MobaIdeal.main_arg9) = m ((c.tc : Thread Cert.MobaIdeal.nD Cert.MobaIdeal.τ).loc Cert.MobaIdeal.main_arg9))
      ∧ r.2.sem = fun _ => 0)

def quiescent_MobaRefIdeal [hMobaRefIdeal : Cert.MobaRefIdeal.Facts] : Prop :=
  ∀ (m : (ℓ : Loc Cert.MobaRefIdeal.nD Cert.MobaRefIdeal.τ Cert.MobaRefIdeal.sig) → Buf (Elt Ideal) ℓ) (g : Dev Cert.MobaRefIdeal.nD → PrngReg), Pre_MobaRefIdeal m →
    θ_run (Cert.MobaRefIdeal.defs (F := Ideal)) (onTc (τ := Cert.MobaRefIdeal.τ) (Cert.MobaRefIdeal.main (F := Ideal))) ⟨m, fun _ => 0, g⟩ (fun r => (∀ c : Dev Cert.MobaRefIdeal.nD,
      r.2.mem ((c.tc : Thread Cert.MobaRefIdeal.nD Cert.MobaRefIdeal.τ).loc Cert.MobaRefIdeal.main_arg0) = m ((c.tc : Thread Cert.MobaRefIdeal.nD Cert.MobaRefIdeal.τ).loc Cert.MobaRefIdeal.main_arg0)
      ∧ r.2.mem ((c.tc : Thread Cert.MobaRefIdeal.nD Cert.MobaRefIdeal.τ).loc Cert.MobaRefIdeal.main_arg1) = m ((c.tc : Thread Cert.MobaRefIdeal.nD Cert.MobaRefIdeal.τ).loc Cert.MobaRefIdeal.main_arg1)
      ∧ r.2.mem ((c.tc : Thread Cert.MobaRefIdeal.nD Cert.MobaRefIdeal.τ).loc Cert.MobaRefIdeal.main_arg2) = m ((c.tc : Thread Cert.MobaRefIdeal.nD Cert.MobaRefIdeal.τ).loc Cert.MobaRefIdeal.main_arg2)
      ∧ r.2.mem ((c.tc : Thread Cert.MobaRefIdeal.nD Cert.MobaRefIdeal.τ).loc Cert.MobaRefIdeal.main_arg3) = m ((c.tc : Thread Cert.MobaRefIdeal.nD Cert.MobaRefIdeal.τ).loc Cert.MobaRefIdeal.main_arg3)
      ∧ r.2.mem ((c.tc : Thread Cert.MobaRefIdeal.nD Cert.MobaRefIdeal.τ).loc Cert.MobaRefIdeal.main_arg4) = m ((c.tc : Thread Cert.MobaRefIdeal.nD Cert.MobaRefIdeal.τ).loc Cert.MobaRefIdeal.main_arg4)
      ∧ r.2.mem ((c.tc : Thread Cert.MobaRefIdeal.nD Cert.MobaRefIdeal.τ).loc Cert.MobaRefIdeal.main_arg5) = m ((c.tc : Thread Cert.MobaRefIdeal.nD Cert.MobaRefIdeal.τ).loc Cert.MobaRefIdeal.main_arg5)
      ∧ r.2.mem ((c.tc : Thread Cert.MobaRefIdeal.nD Cert.MobaRefIdeal.τ).loc Cert.MobaRefIdeal.main_arg6) = m ((c.tc : Thread Cert.MobaRefIdeal.nD Cert.MobaRefIdeal.τ).loc Cert.MobaRefIdeal.main_arg6)
      ∧ r.2.mem ((c.tc : Thread Cert.MobaRefIdeal.nD Cert.MobaRefIdeal.τ).loc Cert.MobaRefIdeal.main_arg7) = m ((c.tc : Thread Cert.MobaRefIdeal.nD Cert.MobaRefIdeal.τ).loc Cert.MobaRefIdeal.main_arg7)
      ∧ r.2.mem ((c.tc : Thread Cert.MobaRefIdeal.nD Cert.MobaRefIdeal.τ).loc Cert.MobaRefIdeal.main_arg8) = m ((c.tc : Thread Cert.MobaRefIdeal.nD Cert.MobaRefIdeal.τ).loc Cert.MobaRefIdeal.main_arg8)
      ∧ r.2.mem ((c.tc : Thread Cert.MobaRefIdeal.nD Cert.MobaRefIdeal.τ).loc Cert.MobaRefIdeal.main_arg9) = m ((c.tc : Thread Cert.MobaRefIdeal.nD Cert.MobaRefIdeal.τ).loc Cert.MobaRefIdeal.main_arg9))
      ∧ r.2.sem = fun _ => 0)

def quiescent_MobaRefIdeal_pre_numbers [hMobaRefIdeal : Cert.MobaRefIdeal.Facts] [hPre_numbers : Cert.Pre_numbers.Facts] : Prop :=
  ∀ (m : (ℓ : Loc Cert.MobaRefIdeal.nD Cert.MobaRefIdeal.τ Cert.MobaRefIdeal.sig) → Buf (Elt Ideal) ℓ) (g : Dev Cert.MobaRefIdeal.nD → PrngReg), Pre_MobaRefIdeal_numbers m →
    θ_run (Cert.MobaRefIdeal.defs (F := Ideal)) (onTc (τ := Cert.MobaRefIdeal.τ) (Cert.MobaRefIdeal.main (F := Ideal))) ⟨m, fun _ => 0, g⟩ (fun r => (∀ c : Dev Cert.MobaRefIdeal.nD,
      r.2.mem ((c.tc : Thread Cert.MobaRefIdeal.nD Cert.MobaRefIdeal.τ).loc Cert.MobaRefIdeal.main_arg0) = m ((c.tc : Thread Cert.MobaRefIdeal.nD Cert.MobaRefIdeal.τ).loc Cert.MobaRefIdeal.main_arg0)
      ∧ r.2.mem ((c.tc : Thread Cert.MobaRefIdeal.nD Cert.MobaRefIdeal.τ).loc Cert.MobaRefIdeal.main_arg1) = m ((c.tc : Thread Cert.MobaRefIdeal.nD Cert.MobaRefIdeal.τ).loc Cert.MobaRefIdeal.main_arg1)
      ∧ r.2.mem ((c.tc : Thread Cert.MobaRefIdeal.nD Cert.MobaRefIdeal.τ).loc Cert.MobaRefIdeal.main_arg2) = m ((c.tc : Thread Cert.MobaRefIdeal.nD Cert.MobaRefIdeal.τ).loc Cert.MobaRefIdeal.main_arg2)
      ∧ r.2.mem ((c.tc : Thread Cert.MobaRefIdeal.nD Cert.MobaRefIdeal.τ).loc Cert.MobaRefIdeal.main_arg3) = m ((c.tc : Thread Cert.MobaRefIdeal.nD Cert.MobaRefIdeal.τ).loc Cert.MobaRefIdeal.main_arg3)
      ∧ r.2.mem ((c.tc : Thread Cert.MobaRefIdeal.nD Cert.MobaRefIdeal.τ).loc Cert.MobaRefIdeal.main_arg4) = m ((c.tc : Thread Cert.MobaRefIdeal.nD Cert.MobaRefIdeal.τ).loc Cert.MobaRefIdeal.main_arg4)
      ∧ r.2.mem ((c.tc : Thread Cert.MobaRefIdeal.nD Cert.MobaRefIdeal.τ).loc Cert.MobaRefIdeal.main_arg5) = m ((c.tc : Thread Cert.MobaRefIdeal.nD Cert.MobaRefIdeal.τ).loc Cert.MobaRefIdeal.main_arg5)
      ∧ r.2.mem ((c.tc : Thread Cert.MobaRefIdeal.nD Cert.MobaRefIdeal.τ).loc Cert.MobaRefIdeal.main_arg6) = m ((c.tc : Thread Cert.MobaRefIdeal.nD Cert.MobaRefIdeal.τ).loc Cert.MobaRefIdeal.main_arg6)
      ∧ r.2.mem ((c.tc : Thread Cert.MobaRefIdeal.nD Cert.MobaRefIdeal.τ).loc Cert.MobaRefIdeal.main_arg7) = m ((c.tc : Thread Cert.MobaRefIdeal.nD Cert.MobaRefIdeal.τ).loc Cert.MobaRefIdeal.main_arg7)
      ∧ r.2.mem ((c.tc : Thread Cert.MobaRefIdeal.nD Cert.MobaRefIdeal.τ).loc Cert.MobaRefIdeal.main_arg8) = m ((c.tc : Thread Cert.MobaRefIdeal.nD Cert.MobaRefIdeal.τ).loc Cert.MobaRefIdeal.main_arg8)
      ∧ r.2.mem ((c.tc : Thread Cert.MobaRefIdeal.nD Cert.MobaRefIdeal.τ).loc Cert.MobaRefIdeal.main_arg9) = m ((c.tc : Thread Cert.MobaRefIdeal.nD Cert.MobaRefIdeal.τ).loc Cert.MobaRefIdeal.main_arg9))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2)
      ∧ r.2.mem ((c.tc : Thread Cert.Kv.nD Cert.Kv.τ).loc Cert.Kv.main_arg3) = m ((c.tc : Thread Cert.Kv.nD Cert.Kv.τ).loc Cert.Kv.main_arg3)
      ∧ r.2.mem ((c.tc : Thread Cert.Kv.nD Cert.Kv.τ).loc Cert.Kv.main_arg4) = m ((c.tc : Thread Cert.Kv.nD Cert.Kv.τ).loc Cert.Kv.main_arg4)
      ∧ r.2.mem ((c.tc : Thread Cert.Kv.nD Cert.Kv.τ).loc Cert.Kv.main_arg5) = m ((c.tc : Thread Cert.Kv.nD Cert.Kv.τ).loc Cert.Kv.main_arg5))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
      ∧ r.2.mem ((c.tc : Thread Cert.KvIdeal.nD Cert.KvIdeal.τ).loc Cert.KvIdeal.main_arg3) = m ((c.tc : Thread Cert.KvIdeal.nD Cert.KvIdeal.τ).loc Cert.KvIdeal.main_arg3)
      ∧ r.2.mem ((c.tc : Thread Cert.KvIdeal.nD Cert.KvIdeal.τ).loc Cert.KvIdeal.main_arg4) = m ((c.tc : Thread Cert.KvIdeal.nD Cert.KvIdeal.τ).loc Cert.KvIdeal.main_arg4)
      ∧ r.2.mem ((c.tc : Thread Cert.KvIdeal.nD Cert.KvIdeal.τ).loc Cert.KvIdeal.main_arg5) = m ((c.tc : Thread Cert.KvIdeal.nD Cert.KvIdeal.τ).loc Cert.KvIdeal.main_arg5))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2)
      ∧ r.2.mem ((c.tc : Thread Cert.KvRefIdeal.nD Cert.KvRefIdeal.τ).loc Cert.KvRefIdeal.main_arg3) = m ((c.tc : Thread Cert.KvRefIdeal.nD Cert.KvRefIdeal.τ).loc Cert.KvRefIdeal.main_arg3)
      ∧ r.2.mem ((c.tc : Thread Cert.KvRefIdeal.nD Cert.KvRefIdeal.τ).loc Cert.KvRefIdeal.main_arg4) = m ((c.tc : Thread Cert.KvRefIdeal.nD Cert.KvRefIdeal.τ).loc Cert.KvRefIdeal.main_arg4)
      ∧ r.2.mem ((c.tc : Thread Cert.KvRefIdeal.nD Cert.KvRefIdeal.τ).loc Cert.KvRefIdeal.main_arg5) = m ((c.tc : Thread Cert.KvRefIdeal.nD Cert.KvRefIdeal.τ).loc Cert.KvRefIdeal.main_arg5))
      ∧ r.2.sem = fun _ => 0)

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3)
      ∧ r.2.mem ((c.tc : Thread Cert.Gla.nD Cert.Gla.τ).loc Cert.Gla.main_arg4) = m ((c.tc : Thread Cert.Gla.nD Cert.Gla.τ).loc Cert.Gla.main_arg4)
      ∧ r.2.mem ((c.tc : Thread Cert.Gla.nD Cert.Gla.τ).loc Cert.Gla.main_arg5) = m ((c.tc : Thread Cert.Gla.nD Cert.Gla.τ).loc Cert.Gla.main_arg5)
      ∧ r.2.mem ((c.tc : Thread Cert.Gla.nD Cert.Gla.τ).loc Cert.Gla.main_arg6) = m ((c.tc : Thread Cert.Gla.nD Cert.Gla.τ).loc Cert.Gla.main_arg6)
      ∧ r.2.mem ((c.tc : Thread Cert.Gla.nD Cert.Gla.τ).loc Cert.Gla.main_arg7) = m ((c.tc : Thread Cert.Gla.nD Cert.Gla.τ).loc Cert.Gla.main_arg7)
      ∧ r.2.mem ((c.tc : Thread Cert.Gla.nD Cert.Gla.τ).loc Cert.Gla.main_arg8) = m ((c.tc : Thread Cert.Gla.nD Cert.Gla.τ).loc Cert.Gla.main_arg8)
      ∧ r.2.mem ((c.tc : Thread Cert.Gla.nD Cert.Gla.τ).loc Cert.Gla.main_arg9) = m ((c.tc : Thread Cert.Gla.nD Cert.Gla.τ).loc Cert.Gla.main_arg9)
      ∧ r.2.mem ((c.tc : Thread Cert.Gla.nD Cert.Gla.τ).loc Cert.Gla.main_arg10) = m ((c.tc : Thread Cert.Gla.nD Cert.Gla.τ).loc Cert.Gla.main_arg10)
      ∧ r.2.mem ((c.tc : Thread Cert.Gla.nD Cert.Gla.τ).loc Cert.Gla.main_arg11) = m ((c.tc : Thread Cert.Gla.nD Cert.Gla.τ).loc Cert.Gla.main_arg11))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
      ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5)
      ∧ r.2.mem ((c.tc : Thread Cert.GlaIdeal.nD Cert.GlaIdeal.τ).loc Cert.GlaIdeal.main_arg6) = m ((c.tc : Thread Cert.GlaIdeal.nD Cert.GlaIdeal.τ).loc Cert.GlaIdeal.main_arg6)
      ∧ r.2.mem ((c.tc : Thread Cert.GlaIdeal.nD Cert.GlaIdeal.τ).loc Cert.GlaIdeal.main_arg7) = m ((c.tc : Thread Cert.GlaIdeal.nD Cert.GlaIdeal.τ).loc Cert.GlaIdeal.main_arg7)
      ∧ r.2.mem ((c.tc : Thread Cert.GlaIdeal.nD Cert.GlaIdeal.τ).loc Cert.GlaIdeal.main_arg8) = m ((c.tc : Thread Cert.GlaIdeal.nD Cert.GlaIdeal.τ).loc Cert.GlaIdeal.main_arg8)
      ∧ r.2.mem ((c.tc : Thread Cert.GlaIdeal.nD Cert.GlaIdeal.τ).loc Cert.GlaIdeal.main_arg9) = m ((c.tc : Thread Cert.GlaIdeal.nD Cert.GlaIdeal.τ).loc Cert.GlaIdeal.main_arg9)
      ∧ r.2.mem ((c.tc : Thread Cert.GlaIdeal.nD Cert.GlaIdeal.τ).loc Cert.GlaIdeal.main_arg10) = m ((c.tc : Thread Cert.GlaIdeal.nD Cert.GlaIdeal.τ).loc Cert.GlaIdeal.main_arg10)
      ∧ r.2.mem ((c.tc : Thread Cert.GlaIdeal.nD Cert.GlaIdeal.τ).loc Cert.GlaIdeal.main_arg11) = m ((c.tc : Thread Cert.GlaIdeal.nD Cert.GlaIdeal.τ).loc Cert.GlaIdeal.main_arg11))
      ∧ r.2.sem = fun _ => 0)

def quiescent_GlaIdeal_pre_numbers_gla [hGlaIdeal : Cert.GlaIdeal.Facts] [hPre_numbers_gla : Cert.Pre_numbers_gla.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal_numbers_gla m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
      ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5)
      ∧ r.2.mem ((c.tc : Thread Cert.GlaIdeal.nD Cert.GlaIdeal.τ).loc Cert.GlaIdeal.main_arg6) = m ((c.tc : Thread Cert.GlaIdeal.nD Cert.GlaIdeal.τ).loc Cert.GlaIdeal.main_arg6)
      ∧ r.2.mem ((c.tc : Thread Cert.GlaIdeal.nD Cert.GlaIdeal.τ).loc Cert.GlaIdeal.main_arg7) = m ((c.tc : Thread Cert.GlaIdeal.nD Cert.GlaIdeal.τ).loc Cert.GlaIdeal.main_arg7)
      ∧ r.2.mem ((c.tc : Thread Cert.GlaIdeal.nD Cert.GlaIdeal.τ).loc Cert.GlaIdeal.main_arg8) = m ((c.tc : Thread Cert.GlaIdeal.nD Cert.GlaIdeal.τ).loc Cert.GlaIdeal.main_arg8)
      ∧ r.2.mem ((c.tc : Thread Cert.GlaIdeal.nD Cert.GlaIdeal.τ).loc Cert.GlaIdeal.main_arg9) = m ((c.tc : Thread Cert.GlaIdeal.nD Cert.GlaIdeal.τ).loc Cert.GlaIdeal.main_arg9)
      ∧ r.2.mem ((c.tc : Thread Cert.GlaIdeal.nD Cert.GlaIdeal.τ).loc Cert.GlaIdeal.main_arg10) = m ((c.tc : Thread Cert.GlaIdeal.nD Cert.GlaIdeal.τ).loc Cert.GlaIdeal.main_arg10)
      ∧ r.2.mem ((c.tc : Thread Cert.GlaIdeal.nD Cert.GlaIdeal.τ).loc Cert.GlaIdeal.main_arg11) = m ((c.tc : Thread Cert.GlaIdeal.nD Cert.GlaIdeal.τ).loc Cert.GlaIdeal.main_arg11))
      ∧ r.2.sem = fun _ => 0)

def quiescent_GlaRefIdeal [hGlaRefIdeal : Cert.GlaRefIdeal.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3)
      ∧ r.2.mem ((c.tc : Thread Cert.GlaRefIdeal.nD Cert.GlaRefIdeal.τ).loc Cert.GlaRefIdeal.main_arg4) = m ((c.tc : Thread Cert.GlaRefIdeal.nD Cert.GlaRefIdeal.τ).loc Cert.GlaRefIdeal.main_arg4)
      ∧ r.2.mem ((c.tc : Thread Cert.GlaRefIdeal.nD Cert.GlaRefIdeal.τ).loc Cert.GlaRefIdeal.main_arg5) = m ((c.tc : Thread Cert.GlaRefIdeal.nD Cert.GlaRefIdeal.τ).loc Cert.GlaRefIdeal.main_arg5)
      ∧ r.2.mem ((c.tc : Thread Cert.GlaRefIdeal.nD Cert.GlaRefIdeal.τ).loc Cert.GlaRefIdeal.main_arg6) = m ((c.tc : Thread Cert.GlaRefIdeal.nD Cert.GlaRefIdeal.τ).loc Cert.GlaRefIdeal.main_arg6)
      ∧ r.2.mem ((c.tc : Thread Cert.GlaRefIdeal.nD Cert.GlaRefIdeal.τ).loc Cert.GlaRefIdeal.main_arg7) = m ((c.tc : Thread Cert.GlaRefIdeal.nD Cert.GlaRefIdeal.τ).loc Cert.GlaRefIdeal.main_arg7)
      ∧ r.2.mem ((c.tc : Thread Cert.GlaRefIdeal.nD Cert.GlaRefIdeal.τ).loc Cert.GlaRefIdeal.main_arg8) = m ((c.tc : Thread Cert.GlaRefIdeal.nD Cert.GlaRefIdeal.τ).loc Cert.GlaRefIdeal.main_arg8)
      ∧ r.2.mem ((c.tc : Thread Cert.GlaRefIdeal.nD Cert.GlaRefIdeal.τ).loc Cert.GlaRefIdeal.main_arg9) = m ((c.tc : Thread Cert.GlaRefIdeal.nD Cert.GlaRefIdeal.τ).loc Cert.GlaRefIdeal.main_arg9)
      ∧ r.2.mem ((c.tc : Thread Cert.GlaRefIdeal.nD Cert.GlaRefIdeal.τ).loc Cert.GlaRefIdeal.main_arg10) = m ((c.tc : Thread Cert.GlaRefIdeal.nD Cert.GlaRefIdeal.τ).loc Cert.GlaRefIdeal.main_arg10)
      ∧ r.2.mem ((c.tc : Thread Cert.GlaRefIdeal.nD Cert.GlaRefIdeal.τ).loc Cert.GlaRefIdeal.main_arg11) = m ((c.tc : Thread Cert.GlaRefIdeal.nD Cert.GlaRefIdeal.τ).loc Cert.GlaRefIdeal.main_arg11))
      ∧ r.2.sem = fun _ => 0)

def quiescent_GlaRefIdeal_pre_numbers_gla [hGlaRefIdeal : Cert.GlaRefIdeal.Facts] [hPre_numbers_gla : Cert.Pre_numbers_gla.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal_numbers_gla m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3)
      ∧ r.2.mem ((c.tc : Thread Cert.GlaRefIdeal.nD Cert.GlaRefIdeal.τ).loc Cert.GlaRefIdeal.main_arg4) = m ((c.tc : Thread Cert.GlaRefIdeal.nD Cert.GlaRefIdeal.τ).loc Cert.GlaRefIdeal.main_arg4)
      ∧ r.2.mem ((c.tc : Thread Cert.GlaRefIdeal.nD Cert.GlaRefIdeal.τ).loc Cert.GlaRefIdeal.main_arg5) = m ((c.tc : Thread Cert.GlaRefIdeal.nD Cert.GlaRefIdeal.τ).loc Cert.GlaRefIdeal.main_arg5)
      ∧ r.2.mem ((c.tc : Thread Cert.GlaRefIdeal.nD Cert.GlaRefIdeal.τ).loc Cert.GlaRefIdeal.main_arg6) = m ((c.tc : Thread Cert.GlaRefIdeal.nD Cert.GlaRefIdeal.τ).loc Cert.GlaRefIdeal.main_arg6)
      ∧ r.2.mem ((c.tc : Thread Cert.GlaRefIdeal.nD Cert.GlaRefIdeal.τ).loc Cert.GlaRefIdeal.main_arg7) = m ((c.tc : Thread Cert.GlaRefIdeal.nD Cert.GlaRefIdeal.τ).loc Cert.GlaRefIdeal.main_arg7)
      ∧ r.2.mem ((c.tc : Thread Cert.GlaRefIdeal.nD Cert.GlaRefIdeal.τ).loc Cert.GlaRefIdeal.main_arg8) = m ((c.tc : Thread Cert.GlaRefIdeal.nD Cert.GlaRefIdeal.τ).loc Cert.GlaRefIdeal.main_arg8)
      ∧ r.2.mem ((c.tc : Thread Cert.GlaRefIdeal.nD Cert.GlaRefIdeal.τ).loc Cert.GlaRefIdeal.main_arg9) = m ((c.tc : Thread Cert.GlaRefIdeal.nD Cert.GlaRefIdeal.τ).loc Cert.GlaRefIdeal.main_arg9)
      ∧ r.2.mem ((c.tc : Thread Cert.GlaRefIdeal.nD Cert.GlaRefIdeal.τ).loc Cert.GlaRefIdeal.main_arg10) = m ((c.tc : Thread Cert.GlaRefIdeal.nD Cert.GlaRefIdeal.τ).loc Cert.GlaRefIdeal.main_arg10)
      ∧ r.2.mem ((c.tc : Thread Cert.GlaRefIdeal.nD Cert.GlaRefIdeal.τ).loc Cert.GlaRefIdeal.main_arg11) = m ((c.tc : Thread Cert.GlaRefIdeal.nD Cert.GlaRefIdeal.τ).loc Cert.GlaRefIdeal.main_arg11))
      ∧ r.2.sem = fun _ => 0)

def quiescent_GlaIn [hGlaIn : Cert.GlaIn.Facts] : Prop :=
  ∀ (m : (ℓ : Loc Cert.GlaIn.nD Cert.GlaIn.τ Cert.GlaIn.sig) → Buf (Elt Bits) ℓ) (g : Dev Cert.GlaIn.nD → PrngReg), Pre_GlaIn m →
    θ_run (Cert.GlaIn.defs (F := Bits)) (onTc (τ := Cert.GlaIn.τ) (Cert.GlaIn.main (F := Bits))) ⟨m, fun _ => 0, g⟩ (fun r => (∀ c : Dev Cert.GlaIn.nD,
      r.2.mem ((c.tc : Thread Cert.GlaIn.nD Cert.GlaIn.τ).loc Cert.GlaIn.main_arg0) = m ((c.tc : Thread Cert.GlaIn.nD Cert.GlaIn.τ).loc Cert.GlaIn.main_arg0)
      ∧ r.2.mem ((c.tc : Thread Cert.GlaIn.nD Cert.GlaIn.τ).loc Cert.GlaIn.main_arg1) = m ((c.tc : Thread Cert.GlaIn.nD Cert.GlaIn.τ).loc Cert.GlaIn.main_arg1)
      ∧ r.2.mem ((c.tc : Thread Cert.GlaIn.nD Cert.GlaIn.τ).loc Cert.GlaIn.main_arg2) = m ((c.tc : Thread Cert.GlaIn.nD Cert.GlaIn.τ).loc Cert.GlaIn.main_arg2)
      ∧ r.2.mem ((c.tc : Thread Cert.GlaIn.nD Cert.GlaIn.τ).loc Cert.GlaIn.main_arg3) = m ((c.tc : Thread Cert.GlaIn.nD Cert.GlaIn.τ).loc Cert.GlaIn.main_arg3)
      ∧ r.2.mem ((c.tc : Thread Cert.GlaIn.nD Cert.GlaIn.τ).loc Cert.GlaIn.main_arg4) = m ((c.tc : Thread Cert.GlaIn.nD Cert.GlaIn.τ).loc Cert.GlaIn.main_arg4)
      ∧ r.2.mem ((c.tc : Thread Cert.GlaIn.nD Cert.GlaIn.τ).loc Cert.GlaIn.main_arg5) = m ((c.tc : Thread Cert.GlaIn.nD Cert.GlaIn.τ).loc Cert.GlaIn.main_arg5)
      ∧ r.2.mem ((c.tc : Thread Cert.GlaIn.nD Cert.GlaIn.τ).loc Cert.GlaIn.main_arg6) = m ((c.tc : Thread Cert.GlaIn.nD Cert.GlaIn.τ).loc Cert.GlaIn.main_arg6))
      ∧ r.2.sem = fun _ => 0)

def quiescent_GlaInIdeal [hGlaInIdeal : Cert.GlaInIdeal.Facts] : Prop :=
  ∀ (m : (ℓ : Loc Cert.GlaInIdeal.nD Cert.GlaInIdeal.τ Cert.GlaInIdeal.sig) → Buf (Elt Ideal) ℓ) (g : Dev Cert.GlaInIdeal.nD → PrngReg), Pre_GlaInIdeal m →
    θ_run (Cert.GlaInIdeal.defs (F := Ideal)) (onTc (τ := Cert.GlaInIdeal.τ) (Cert.GlaInIdeal.main (F := Ideal))) ⟨m, fun _ => 0, g⟩ (fun r => (∀ c : Dev Cert.GlaInIdeal.nD,
      r.2.mem ((c.tc : Thread Cert.GlaInIdeal.nD Cert.GlaInIdeal.τ).loc Cert.GlaInIdeal.main_arg0) = m ((c.tc : Thread Cert.GlaInIdeal.nD Cert.GlaInIdeal.τ).loc Cert.GlaInIdeal.main_arg0)
      ∧ r.2.mem ((c.tc : Thread Cert.GlaInIdeal.nD Cert.GlaInIdeal.τ).loc Cert.GlaInIdeal.main_arg1) = m ((c.tc : Thread Cert.GlaInIdeal.nD Cert.GlaInIdeal.τ).loc Cert.GlaInIdeal.main_arg1)
      ∧ r.2.mem ((c.tc : Thread Cert.GlaInIdeal.nD Cert.GlaInIdeal.τ).loc Cert.GlaInIdeal.main_arg2) = m ((c.tc : Thread Cert.GlaInIdeal.nD Cert.GlaInIdeal.τ).loc Cert.GlaInIdeal.main_arg2)
      ∧ r.2.mem ((c.tc : Thread Cert.GlaInIdeal.nD Cert.GlaInIdeal.τ).loc Cert.GlaInIdeal.main_arg3) = m ((c.tc : Thread Cert.GlaInIdeal.nD Cert.GlaInIdeal.τ).loc Cert.GlaInIdeal.main_arg3)
      ∧ r.2.mem ((c.tc : Thread Cert.GlaInIdeal.nD Cert.GlaInIdeal.τ).loc Cert.GlaInIdeal.main_arg4) = m ((c.tc : Thread Cert.GlaInIdeal.nD Cert.GlaInIdeal.τ).loc Cert.GlaInIdeal.main_arg4)
      ∧ r.2.mem ((c.tc : Thread Cert.GlaInIdeal.nD Cert.GlaInIdeal.τ).loc Cert.GlaInIdeal.main_arg5) = m ((c.tc : Thread Cert.GlaInIdeal.nD Cert.GlaInIdeal.τ).loc Cert.GlaInIdeal.main_arg5)
      ∧ r.2.mem ((c.tc : Thread Cert.GlaInIdeal.nD Cert.GlaInIdeal.τ).loc Cert.GlaInIdeal.main_arg6) = m ((c.tc : Thread Cert.GlaInIdeal.nD Cert.GlaInIdeal.τ).loc Cert.GlaInIdeal.main_arg6))
      ∧ r.2.sem = fun _ => 0)

def quiescent_GlaInIdeal_pre_numbers_in [hGlaInIdeal : Cert.GlaInIdeal.Facts] [hPre_numbers_in : Cert.Pre_numbers_in.Facts] : Prop :=
  ∀ (m : (ℓ : Loc Cert.GlaInIdeal.nD Cert.GlaInIdeal.τ Cert.GlaInIdeal.sig) → Buf (Elt Ideal) ℓ) (g : Dev Cert.GlaInIdeal.nD → PrngReg), Pre_GlaInIdeal_numbers_in m →
    θ_run (Cert.GlaInIdeal.defs (F := Ideal)) (onTc (τ := Cert.GlaInIdeal.τ) (Cert.GlaInIdeal.main (F := Ideal))) ⟨m, fun _ => 0, g⟩ (fun r => (∀ c : Dev Cert.GlaInIdeal.nD,
      r.2.mem ((c.tc : Thread Cert.GlaInIdeal.nD Cert.GlaInIdeal.τ).loc Cert.GlaInIdeal.main_arg0) = m ((c.tc : Thread Cert.GlaInIdeal.nD Cert.GlaInIdeal.τ).loc Cert.GlaInIdeal.main_arg0)
      ∧ r.2.mem ((c.tc : Thread Cert.GlaInIdeal.nD Cert.GlaInIdeal.τ).loc Cert.GlaInIdeal.main_arg1) = m ((c.tc : Thread Cert.GlaInIdeal.nD Cert.GlaInIdeal.τ).loc Cert.GlaInIdeal.main_arg1)
      ∧ r.2.mem ((c.tc : Thread Cert.GlaInIdeal.nD Cert.GlaInIdeal.τ).loc Cert.GlaInIdeal.main_arg2) = m ((c.tc : Thread Cert.GlaInIdeal.nD Cert.GlaInIdeal.τ).loc Cert.GlaInIdeal.main_arg2)
      ∧ r.2.mem ((c.tc : Thread Cert.GlaInIdeal.nD Cert.GlaInIdeal.τ).loc Cert.GlaInIdeal.main_arg3) = m ((c.tc : Thread Cert.GlaInIdeal.nD Cert.GlaInIdeal.τ).loc Cert.GlaInIdeal.main_arg3)
      ∧ r.2.mem ((c.tc : Thread Cert.GlaInIdeal.nD Cert.GlaInIdeal.τ).loc Cert.GlaInIdeal.main_arg4) = m ((c.tc : Thread Cert.GlaInIdeal.nD Cert.GlaInIdeal.τ).loc Cert.GlaInIdeal.main_arg4)
      ∧ r.2.mem ((c.tc : Thread Cert.GlaInIdeal.nD Cert.GlaInIdeal.τ).loc Cert.GlaInIdeal.main_arg5) = m ((c.tc : Thread Cert.GlaInIdeal.nD Cert.GlaInIdeal.τ).loc Cert.GlaInIdeal.main_arg5)
      ∧ r.2.mem ((c.tc : Thread Cert.GlaInIdeal.nD Cert.GlaInIdeal.τ).loc Cert.GlaInIdeal.main_arg6) = m ((c.tc : Thread Cert.GlaInIdeal.nD Cert.GlaInIdeal.τ).loc Cert.GlaInIdeal.main_arg6))
      ∧ r.2.sem = fun _ => 0)

def quiescent_GlaInRefIdeal [hGlaInRefIdeal : Cert.GlaInRefIdeal.Facts] : Prop :=
  ∀ (m : (ℓ : Loc Cert.GlaInRefIdeal.nD Cert.GlaInRefIdeal.τ Cert.GlaInRefIdeal.sig) → Buf (Elt Ideal) ℓ) (g : Dev Cert.GlaInRefIdeal.nD → PrngReg), Pre_GlaInRefIdeal m →
    θ_run (Cert.GlaInRefIdeal.defs (F := Ideal)) (onTc (τ := Cert.GlaInRefIdeal.τ) (Cert.GlaInRefIdeal.main (F := Ideal))) ⟨m, fun _ => 0, g⟩ (fun r => (∀ c : Dev Cert.GlaInRefIdeal.nD,
      r.2.mem ((c.tc : Thread Cert.GlaInRefIdeal.nD Cert.GlaInRefIdeal.τ).loc Cert.GlaInRefIdeal.main_arg0) = m ((c.tc : Thread Cert.GlaInRefIdeal.nD Cert.GlaInRefIdeal.τ).loc Cert.GlaInRefIdeal.main_arg0)
      ∧ r.2.mem ((c.tc : Thread Cert.GlaInRefIdeal.nD Cert.GlaInRefIdeal.τ).loc Cert.GlaInRefIdeal.main_arg1) = m ((c.tc : Thread Cert.GlaInRefIdeal.nD Cert.GlaInRefIdeal.τ).loc Cert.GlaInRefIdeal.main_arg1)
      ∧ r.2.mem ((c.tc : Thread Cert.GlaInRefIdeal.nD Cert.GlaInRefIdeal.τ).loc Cert.GlaInRefIdeal.main_arg2) = m ((c.tc : Thread Cert.GlaInRefIdeal.nD Cert.GlaInRefIdeal.τ).loc Cert.GlaInRefIdeal.main_arg2)
      ∧ r.2.mem ((c.tc : Thread Cert.GlaInRefIdeal.nD Cert.GlaInRefIdeal.τ).loc Cert.GlaInRefIdeal.main_arg3) = m ((c.tc : Thread Cert.GlaInRefIdeal.nD Cert.GlaInRefIdeal.τ).loc Cert.GlaInRefIdeal.main_arg3)
      ∧ r.2.mem ((c.tc : Thread Cert.GlaInRefIdeal.nD Cert.GlaInRefIdeal.τ).loc Cert.GlaInRefIdeal.main_arg4) = m ((c.tc : Thread Cert.GlaInRefIdeal.nD Cert.GlaInRefIdeal.τ).loc Cert.GlaInRefIdeal.main_arg4)
      ∧ r.2.mem ((c.tc : Thread Cert.GlaInRefIdeal.nD Cert.GlaInRefIdeal.τ).loc Cert.GlaInRefIdeal.main_arg5) = m ((c.tc : Thread Cert.GlaInRefIdeal.nD Cert.GlaInRefIdeal.τ).loc Cert.GlaInRefIdeal.main_arg5)
      ∧ r.2.mem ((c.tc : Thread Cert.GlaInRefIdeal.nD Cert.GlaInRefIdeal.τ).loc Cert.GlaInRefIdeal.main_arg6) = m ((c.tc : Thread Cert.GlaInRefIdeal.nD Cert.GlaInRefIdeal.τ).loc Cert.GlaInRefIdeal.main_arg6))
      ∧ r.2.sem = fun _ => 0)

def quiescent_GlaInRefIdeal_pre_numbers_in [hGlaInRefIdeal : Cert.GlaInRefIdeal.Facts] [hPre_numbers_in : Cert.Pre_numbers_in.Facts] : Prop :=
  ∀ (m : (ℓ : Loc Cert.GlaInRefIdeal.nD Cert.GlaInRefIdeal.τ Cert.GlaInRefIdeal.sig) → Buf (Elt Ideal) ℓ) (g : Dev Cert.GlaInRefIdeal.nD → PrngReg), Pre_GlaInRefIdeal_numbers_in m →
    θ_run (Cert.GlaInRefIdeal.defs (F := Ideal)) (onTc (τ := Cert.GlaInRefIdeal.τ) (Cert.GlaInRefIdeal.main (F := Ideal))) ⟨m, fun _ => 0, g⟩ (fun r => (∀ c : Dev Cert.GlaInRefIdeal.nD,
      r.2.mem ((c.tc : Thread Cert.GlaInRefIdeal.nD Cert.GlaInRefIdeal.τ).loc Cert.GlaInRefIdeal.main_arg0) = m ((c.tc : Thread Cert.GlaInRefIdeal.nD Cert.GlaInRefIdeal.τ).loc Cert.GlaInRefIdeal.main_arg0)
      ∧ r.2.mem ((c.tc : Thread Cert.GlaInRefIdeal.nD Cert.GlaInRefIdeal.τ).loc Cert.GlaInRefIdeal.main_arg1) = m ((c.tc : Thread Cert.GlaInRefIdeal.nD Cert.GlaInRefIdeal.τ).loc Cert.GlaInRefIdeal.main_arg1)
      ∧ r.2.mem ((c.tc : Thread Cert.GlaInRefIdeal.nD Cert.GlaInRefIdeal.τ).loc Cert.GlaInRefIdeal.main_arg2) = m ((c.tc : Thread Cert.GlaInRefIdeal.nD Cert.GlaInRefIdeal.τ).loc Cert.GlaInRefIdeal.main_arg2)
      ∧ r.2.mem ((c.tc : Thread Cert.GlaInRefIdeal.nD Cert.GlaInRefIdeal.τ).loc Cert.GlaInRefIdeal.main_arg3) = m ((c.tc : Thread Cert.GlaInRefIdeal.nD Cert.GlaInRefIdeal.τ).loc Cert.GlaInRefIdeal.main_arg3)
      ∧ r.2.mem ((c.tc : Thread Cert.GlaInRefIdeal.nD Cert.GlaInRefIdeal.τ).loc Cert.GlaInRefIdeal.main_arg4) = m ((c.tc : Thread Cert.GlaInRefIdeal.nD Cert.GlaInRefIdeal.τ).loc Cert.GlaInRefIdeal.main_arg4)
      ∧ r.2.mem ((c.tc : Thread Cert.GlaInRefIdeal.nD Cert.GlaInRefIdeal.τ).loc Cert.GlaInRefIdeal.main_arg5) = m ((c.tc : Thread Cert.GlaInRefIdeal.nD Cert.GlaInRefIdeal.τ).loc Cert.GlaInRefIdeal.main_arg5)
      ∧ r.2.mem ((c.tc : Thread Cert.GlaInRefIdeal.nD Cert.GlaInRefIdeal.τ).loc Cert.GlaInRefIdeal.main_arg6) = m ((c.tc : Thread Cert.GlaInRefIdeal.nD Cert.GlaInRefIdeal.τ).loc Cert.GlaInRefIdeal.main_arg6))
      ∧ r.2.sem = fun _ => 0)

def quiescent_KvSample [hKvSample : Cert.KvSample.Facts] : Prop :=
  ∀ (m : (ℓ : Loc Cert.KvSample.nD Cert.KvSample.τ Cert.KvSample.sig) → Buf (Elt Bits) ℓ) (g : Dev Cert.KvSample.nD → PrngReg), Pre_KvSample m →
    θ_run (Cert.KvSample.defs (F := Bits)) (onTc (τ := Cert.KvSample.τ) (Cert.KvSample.main (F := Bits))) ⟨m, fun _ => 0, g⟩ (fun r => (∀ c : Dev Cert.KvSample.nD,
      r.2.mem ((c.tc : Thread Cert.KvSample.nD Cert.KvSample.τ).loc Cert.KvSample.main_arg0) = m ((c.tc : Thread Cert.KvSample.nD Cert.KvSample.τ).loc Cert.KvSample.main_arg0)
      ∧ r.2.mem ((c.tc : Thread Cert.KvSample.nD Cert.KvSample.τ).loc Cert.KvSample.main_arg1) = m ((c.tc : Thread Cert.KvSample.nD Cert.KvSample.τ).loc Cert.KvSample.main_arg1)
      ∧ r.2.mem ((c.tc : Thread Cert.KvSample.nD Cert.KvSample.τ).loc Cert.KvSample.main_arg2) = m ((c.tc : Thread Cert.KvSample.nD Cert.KvSample.τ).loc Cert.KvSample.main_arg2)
      ∧ r.2.mem ((c.tc : Thread Cert.KvSample.nD Cert.KvSample.τ).loc Cert.KvSample.main_arg3) = m ((c.tc : Thread Cert.KvSample.nD Cert.KvSample.τ).loc Cert.KvSample.main_arg3)
      ∧ r.2.mem ((c.tc : Thread Cert.KvSample.nD Cert.KvSample.τ).loc Cert.KvSample.main_arg4) = m ((c.tc : Thread Cert.KvSample.nD Cert.KvSample.τ).loc Cert.KvSample.main_arg4)
      ∧ r.2.mem ((c.tc : Thread Cert.KvSample.nD Cert.KvSample.τ).loc Cert.KvSample.main_arg5) = m ((c.tc : Thread Cert.KvSample.nD Cert.KvSample.τ).loc Cert.KvSample.main_arg5))
      ∧ r.2.sem = fun _ => 0)

def quiescent_KvSampleIdeal [hKvSampleIdeal : Cert.KvSampleIdeal.Facts] : Prop :=
  ∀ (m : (ℓ : Loc Cert.KvSampleIdeal.nD Cert.KvSampleIdeal.τ Cert.KvSampleIdeal.sig) → Buf (Elt Ideal) ℓ) (g : Dev Cert.KvSampleIdeal.nD → PrngReg), Pre_KvSampleIdeal m →
    θ_run (Cert.KvSampleIdeal.defs (F := Ideal)) (onTc (τ := Cert.KvSampleIdeal.τ) (Cert.KvSampleIdeal.main (F := Ideal))) ⟨m, fun _ => 0, g⟩ (fun r => (∀ c : Dev Cert.KvSampleIdeal.nD,
      r.2.mem ((c.tc : Thread Cert.KvSampleIdeal.nD Cert.KvSampleIdeal.τ).loc Cert.KvSampleIdeal.main_arg0) = m ((c.tc : Thread Cert.KvSampleIdeal.nD Cert.KvSampleIdeal.τ).loc Cert.KvSampleIdeal.main_arg0)
      ∧ r.2.mem ((c.tc : Thread Cert.KvSampleIdeal.nD Cert.KvSampleIdeal.τ).loc Cert.KvSampleIdeal.main_arg1) = m ((c.tc : Thread Cert.KvSampleIdeal.nD Cert.KvSampleIdeal.τ).loc Cert.KvSampleIdeal.main_arg1)
      ∧ r.2.mem ((c.tc : Thread Cert.KvSampleIdeal.nD Cert.KvSampleIdeal.τ).loc Cert.KvSampleIdeal.main_arg2) = m ((c.tc : Thread Cert.KvSampleIdeal.nD Cert.KvSampleIdeal.τ).loc Cert.KvSampleIdeal.main_arg2)
      ∧ r.2.mem ((c.tc : Thread Cert.KvSampleIdeal.nD Cert.KvSampleIdeal.τ).loc Cert.KvSampleIdeal.main_arg3) = m ((c.tc : Thread Cert.KvSampleIdeal.nD Cert.KvSampleIdeal.τ).loc Cert.KvSampleIdeal.main_arg3)
      ∧ r.2.mem ((c.tc : Thread Cert.KvSampleIdeal.nD Cert.KvSampleIdeal.τ).loc Cert.KvSampleIdeal.main_arg4) = m ((c.tc : Thread Cert.KvSampleIdeal.nD Cert.KvSampleIdeal.τ).loc Cert.KvSampleIdeal.main_arg4)
      ∧ r.2.mem ((c.tc : Thread Cert.KvSampleIdeal.nD Cert.KvSampleIdeal.τ).loc Cert.KvSampleIdeal.main_arg5) = m ((c.tc : Thread Cert.KvSampleIdeal.nD Cert.KvSampleIdeal.τ).loc Cert.KvSampleIdeal.main_arg5))
      ∧ r.2.sem = fun _ => 0)

def quiescent_KvSampleRefIdeal [hKvSampleRefIdeal : Cert.KvSampleRefIdeal.Facts] : Prop :=
  ∀ (m : (ℓ : Loc Cert.KvSampleRefIdeal.nD Cert.KvSampleRefIdeal.τ Cert.KvSampleRefIdeal.sig) → Buf (Elt Ideal) ℓ) (g : Dev Cert.KvSampleRefIdeal.nD → PrngReg), Pre_KvSampleRefIdeal m →
    θ_run (Cert.KvSampleRefIdeal.defs (F := Ideal)) (onTc (τ := Cert.KvSampleRefIdeal.τ) (Cert.KvSampleRefIdeal.main (F := Ideal))) ⟨m, fun _ => 0, g⟩ (fun r => (∀ c : Dev Cert.KvSampleRefIdeal.nD,
      r.2.mem ((c.tc : Thread Cert.KvSampleRefIdeal.nD Cert.KvSampleRefIdeal.τ).loc Cert.KvSampleRefIdeal.main_arg0) = m ((c.tc : Thread Cert.KvSampleRefIdeal.nD Cert.KvSampleRefIdeal.τ).loc Cert.KvSampleRefIdeal.main_arg0)
      ∧ r.2.mem ((c.tc : Thread Cert.KvSampleRefIdeal.nD Cert.KvSampleRefIdeal.τ).loc Cert.KvSampleRefIdeal.main_arg1) = m ((c.tc : Thread Cert.KvSampleRefIdeal.nD Cert.KvSampleRefIdeal.τ).loc Cert.KvSampleRefIdeal.main_arg1)
      ∧ r.2.mem ((c.tc : Thread Cert.KvSampleRefIdeal.nD Cert.KvSampleRefIdeal.τ).loc Cert.KvSampleRefIdeal.main_arg2) = m ((c.tc : Thread Cert.KvSampleRefIdeal.nD Cert.KvSampleRefIdeal.τ).loc Cert.KvSampleRefIdeal.main_arg2)
      ∧ r.2.mem ((c.tc : Thread Cert.KvSampleRefIdeal.nD Cert.KvSampleRefIdeal.τ).loc Cert.KvSampleRefIdeal.main_arg3) = m ((c.tc : Thread Cert.KvSampleRefIdeal.nD Cert.KvSampleRefIdeal.τ).loc Cert.KvSampleRefIdeal.main_arg3)
      ∧ r.2.mem ((c.tc : Thread Cert.KvSampleRefIdeal.nD Cert.KvSampleRefIdeal.τ).loc Cert.KvSampleRefIdeal.main_arg4) = m ((c.tc : Thread Cert.KvSampleRefIdeal.nD Cert.KvSampleRefIdeal.τ).loc Cert.KvSampleRefIdeal.main_arg4)
      ∧ r.2.mem ((c.tc : Thread Cert.KvSampleRefIdeal.nD Cert.KvSampleRefIdeal.τ).loc Cert.KvSampleRefIdeal.main_arg5) = m ((c.tc : Thread Cert.KvSampleRefIdeal.nD Cert.KvSampleRefIdeal.τ).loc Cert.KvSampleRefIdeal.main_arg5))
      ∧ r.2.sem = fun _ => 0)

def quiescent_MobaSample [hMobaSample : Cert.MobaSample.Facts] : Prop :=
  ∀ (m : (ℓ : Loc Cert.MobaSample.nD Cert.MobaSample.τ Cert.MobaSample.sig) → Buf (Elt Bits) ℓ) (g : Dev Cert.MobaSample.nD → PrngReg), Pre_MobaSample m →
    θ_run (Cert.MobaSample.defs (F := Bits)) (onTc (τ := Cert.MobaSample.τ) (Cert.MobaSample.main (F := Bits))) ⟨m, fun _ => 0, g⟩ (fun r => (∀ c : Dev Cert.MobaSample.nD,
      r.2.mem ((c.tc : Thread Cert.MobaSample.nD Cert.MobaSample.τ).loc Cert.MobaSample.main_arg0) = m ((c.tc : Thread Cert.MobaSample.nD Cert.MobaSample.τ).loc Cert.MobaSample.main_arg0)
      ∧ r.2.mem ((c.tc : Thread Cert.MobaSample.nD Cert.MobaSample.τ).loc Cert.MobaSample.main_arg1) = m ((c.tc : Thread Cert.MobaSample.nD Cert.MobaSample.τ).loc Cert.MobaSample.main_arg1)
      ∧ r.2.mem ((c.tc : Thread Cert.MobaSample.nD Cert.MobaSample.τ).loc Cert.MobaSample.main_arg2) = m ((c.tc : Thread Cert.MobaSample.nD Cert.MobaSample.τ).loc Cert.MobaSample.main_arg2)
      ∧ r.2.mem ((c.tc : Thread Cert.MobaSample.nD Cert.MobaSample.τ).loc Cert.MobaSample.main_arg3) = m ((c.tc : Thread Cert.MobaSample.nD Cert.MobaSample.τ).loc Cert.MobaSample.main_arg3)
      ∧ r.2.mem ((c.tc : Thread Cert.MobaSample.nD Cert.MobaSample.τ).loc Cert.MobaSample.main_arg4) = m ((c.tc : Thread Cert.MobaSample.nD Cert.MobaSample.τ).loc Cert.MobaSample.main_arg4)
      ∧ r.2.mem ((c.tc : Thread Cert.MobaSample.nD Cert.MobaSample.τ).loc Cert.MobaSample.main_arg5) = m ((c.tc : Thread Cert.MobaSample.nD Cert.MobaSample.τ).loc Cert.MobaSample.main_arg5)
      ∧ r.2.mem ((c.tc : Thread Cert.MobaSample.nD Cert.MobaSample.τ).loc Cert.MobaSample.main_arg6) = m ((c.tc : Thread Cert.MobaSample.nD Cert.MobaSample.τ).loc Cert.MobaSample.main_arg6)
      ∧ r.2.mem ((c.tc : Thread Cert.MobaSample.nD Cert.MobaSample.τ).loc Cert.MobaSample.main_arg7) = m ((c.tc : Thread Cert.MobaSample.nD Cert.MobaSample.τ).loc Cert.MobaSample.main_arg7)
      ∧ r.2.mem ((c.tc : Thread Cert.MobaSample.nD Cert.MobaSample.τ).loc Cert.MobaSample.main_arg8) = m ((c.tc : Thread Cert.MobaSample.nD Cert.MobaSample.τ).loc Cert.MobaSample.main_arg8)
      ∧ r.2.mem ((c.tc : Thread Cert.MobaSample.nD Cert.MobaSample.τ).loc Cert.MobaSample.main_arg9) = m ((c.tc : Thread Cert.MobaSample.nD Cert.MobaSample.τ).loc Cert.MobaSample.main_arg9))
      ∧ r.2.sem = fun _ => 0)

def quiescent_MobaSampleIdeal [hMobaSampleIdeal : Cert.MobaSampleIdeal.Facts] : Prop :=
  ∀ (m : (ℓ : Loc Cert.MobaSampleIdeal.nD Cert.MobaSampleIdeal.τ Cert.MobaSampleIdeal.sig) → Buf (Elt Ideal) ℓ) (g : Dev Cert.MobaSampleIdeal.nD → PrngReg), Pre_MobaSampleIdeal m →
    θ_run (Cert.MobaSampleIdeal.defs (F := Ideal)) (onTc (τ := Cert.MobaSampleIdeal.τ) (Cert.MobaSampleIdeal.main (F := Ideal))) ⟨m, fun _ => 0, g⟩ (fun r => (∀ c : Dev Cert.MobaSampleIdeal.nD,
      r.2.mem ((c.tc : Thread Cert.MobaSampleIdeal.nD Cert.MobaSampleIdeal.τ).loc Cert.MobaSampleIdeal.main_arg0) = m ((c.tc : Thread Cert.MobaSampleIdeal.nD Cert.MobaSampleIdeal.τ).loc Cert.MobaSampleIdeal.main_arg0)
      ∧ r.2.mem ((c.tc : Thread Cert.MobaSampleIdeal.nD Cert.MobaSampleIdeal.τ).loc Cert.MobaSampleIdeal.main_arg1) = m ((c.tc : Thread Cert.MobaSampleIdeal.nD Cert.MobaSampleIdeal.τ).loc Cert.MobaSampleIdeal.main_arg1)
      ∧ r.2.mem ((c.tc : Thread Cert.MobaSampleIdeal.nD Cert.MobaSampleIdeal.τ).loc Cert.MobaSampleIdeal.main_arg2) = m ((c.tc : Thread Cert.MobaSampleIdeal.nD Cert.MobaSampleIdeal.τ).loc Cert.MobaSampleIdeal.main_arg2)
      ∧ r.2.mem ((c.tc : Thread Cert.MobaSampleIdeal.nD Cert.MobaSampleIdeal.τ).loc Cert.MobaSampleIdeal.main_arg3) = m ((c.tc : Thread Cert.MobaSampleIdeal.nD Cert.MobaSampleIdeal.τ).loc Cert.MobaSampleIdeal.main_arg3)
      ∧ r.2.mem ((c.tc : Thread Cert.MobaSampleIdeal.nD Cert.MobaSampleIdeal.τ).loc Cert.MobaSampleIdeal.main_arg4) = m ((c.tc : Thread Cert.MobaSampleIdeal.nD Cert.MobaSampleIdeal.τ).loc Cert.MobaSampleIdeal.main_arg4)
      ∧ r.2.mem ((c.tc : Thread Cert.MobaSampleIdeal.nD Cert.MobaSampleIdeal.τ).loc Cert.MobaSampleIdeal.main_arg5) = m ((c.tc : Thread Cert.MobaSampleIdeal.nD Cert.MobaSampleIdeal.τ).loc Cert.MobaSampleIdeal.main_arg5)
      ∧ r.2.mem ((c.tc : Thread Cert.MobaSampleIdeal.nD Cert.MobaSampleIdeal.τ).loc Cert.MobaSampleIdeal.main_arg6) = m ((c.tc : Thread Cert.MobaSampleIdeal.nD Cert.MobaSampleIdeal.τ).loc Cert.MobaSampleIdeal.main_arg6)
      ∧ r.2.mem ((c.tc : Thread Cert.MobaSampleIdeal.nD Cert.MobaSampleIdeal.τ).loc Cert.MobaSampleIdeal.main_arg7) = m ((c.tc : Thread Cert.MobaSampleIdeal.nD Cert.MobaSampleIdeal.τ).loc Cert.MobaSampleIdeal.main_arg7)
      ∧ r.2.mem ((c.tc : Thread Cert.MobaSampleIdeal.nD Cert.MobaSampleIdeal.τ).loc Cert.MobaSampleIdeal.main_arg8) = m ((c.tc : Thread Cert.MobaSampleIdeal.nD Cert.MobaSampleIdeal.τ).loc Cert.MobaSampleIdeal.main_arg8)
      ∧ r.2.mem ((c.tc : Thread Cert.MobaSampleIdeal.nD Cert.MobaSampleIdeal.τ).loc Cert.MobaSampleIdeal.main_arg9) = m ((c.tc : Thread Cert.MobaSampleIdeal.nD Cert.MobaSampleIdeal.τ).loc Cert.MobaSampleIdeal.main_arg9))
      ∧ r.2.sem = fun _ => 0)

def quiescent_MobaSampleIdeal_pre_numbers_sample [hMobaSampleIdeal : Cert.MobaSampleIdeal.Facts] [hPre_numbers_sample : Cert.Pre_numbers_sample.Facts] : Prop :=
  ∀ (m : (ℓ : Loc Cert.MobaSampleIdeal.nD Cert.MobaSampleIdeal.τ Cert.MobaSampleIdeal.sig) → Buf (Elt Ideal) ℓ) (g : Dev Cert.MobaSampleIdeal.nD → PrngReg), Pre_MobaSampleIdeal_numbers_sample m →
    θ_run (Cert.MobaSampleIdeal.defs (F := Ideal)) (onTc (τ := Cert.MobaSampleIdeal.τ) (Cert.MobaSampleIdeal.main (F := Ideal))) ⟨m, fun _ => 0, g⟩ (fun r => (∀ c : Dev Cert.MobaSampleIdeal.nD,
      r.2.mem ((c.tc : Thread Cert.MobaSampleIdeal.nD Cert.MobaSampleIdeal.τ).loc Cert.MobaSampleIdeal.main_arg0) = m ((c.tc : Thread Cert.MobaSampleIdeal.nD Cert.MobaSampleIdeal.τ).loc Cert.MobaSampleIdeal.main_arg0)
      ∧ r.2.mem ((c.tc : Thread Cert.MobaSampleIdeal.nD Cert.MobaSampleIdeal.τ).loc Cert.MobaSampleIdeal.main_arg1) = m ((c.tc : Thread Cert.MobaSampleIdeal.nD Cert.MobaSampleIdeal.τ).loc Cert.MobaSampleIdeal.main_arg1)
      ∧ r.2.mem ((c.tc : Thread Cert.MobaSampleIdeal.nD Cert.MobaSampleIdeal.τ).loc Cert.MobaSampleIdeal.main_arg2) = m ((c.tc : Thread Cert.MobaSampleIdeal.nD Cert.MobaSampleIdeal.τ).loc Cert.MobaSampleIdeal.main_arg2)
      ∧ r.2.mem ((c.tc : Thread Cert.MobaSampleIdeal.nD Cert.MobaSampleIdeal.τ).loc Cert.MobaSampleIdeal.main_arg3) = m ((c.tc : Thread Cert.MobaSampleIdeal.nD Cert.MobaSampleIdeal.τ).loc Cert.MobaSampleIdeal.main_arg3)
      ∧ r.2.mem ((c.tc : Thread Cert.MobaSampleIdeal.nD Cert.MobaSampleIdeal.τ).loc Cert.MobaSampleIdeal.main_arg4) = m ((c.tc : Thread Cert.MobaSampleIdeal.nD Cert.MobaSampleIdeal.τ).loc Cert.MobaSampleIdeal.main_arg4)
      ∧ r.2.mem ((c.tc : Thread Cert.MobaSampleIdeal.nD Cert.MobaSampleIdeal.τ).loc Cert.MobaSampleIdeal.main_arg5) = m ((c.tc : Thread Cert.MobaSampleIdeal.nD Cert.MobaSampleIdeal.τ).loc Cert.MobaSampleIdeal.main_arg5)
      ∧ r.2.mem ((c.tc : Thread Cert.MobaSampleIdeal.nD Cert.MobaSampleIdeal.τ).loc Cert.MobaSampleIdeal.main_arg6) = m ((c.tc : Thread Cert.MobaSampleIdeal.nD Cert.MobaSampleIdeal.τ).loc Cert.MobaSampleIdeal.main_arg6)
      ∧ r.2.mem ((c.tc : Thread Cert.MobaSampleIdeal.nD Cert.MobaSampleIdeal.τ).loc Cert.MobaSampleIdeal.main_arg7) = m ((c.tc : Thread Cert.MobaSampleIdeal.nD Cert.MobaSampleIdeal.τ).loc Cert.MobaSampleIdeal.main_arg7)
      ∧ r.2.mem ((c.tc : Thread Cert.MobaSampleIdeal.nD Cert.MobaSampleIdeal.τ).loc Cert.MobaSampleIdeal.main_arg8) = m ((c.tc : Thread Cert.MobaSampleIdeal.nD Cert.MobaSampleIdeal.τ).loc Cert.MobaSampleIdeal.main_arg8)
      ∧ r.2.mem ((c.tc : Thread Cert.MobaSampleIdeal.nD Cert.MobaSampleIdeal.τ).loc Cert.MobaSampleIdeal.main_arg9) = m ((c.tc : Thread Cert.MobaSampleIdeal.nD Cert.MobaSampleIdeal.τ).loc Cert.MobaSampleIdeal.main_arg9))
      ∧ r.2.sem = fun _ => 0)

def quiescent_MobaSampleRefIdeal [hMobaSampleRefIdeal : Cert.MobaSampleRefIdeal.Facts] : Prop :=
  ∀ (m : (ℓ : Loc Cert.MobaSampleRefIdeal.nD Cert.MobaSampleRefIdeal.τ Cert.MobaSampleRefIdeal.sig) → Buf (Elt Ideal) ℓ) (g : Dev Cert.MobaSampleRefIdeal.nD → PrngReg), Pre_MobaSampleRefIdeal m →
    θ_run (Cert.MobaSampleRefIdeal.defs (F := Ideal)) (onTc (τ := Cert.MobaSampleRefIdeal.τ) (Cert.MobaSampleRefIdeal.main (F := Ideal))) ⟨m, fun _ => 0, g⟩ (fun r => (∀ c : Dev Cert.MobaSampleRefIdeal.nD,
      r.2.mem ((c.tc : Thread Cert.MobaSampleRefIdeal.nD Cert.MobaSampleRefIdeal.τ).loc Cert.MobaSampleRefIdeal.main_arg0) = m ((c.tc : Thread Cert.MobaSampleRefIdeal.nD Cert.MobaSampleRefIdeal.τ).loc Cert.MobaSampleRefIdeal.main_arg0)
      ∧ r.2.mem ((c.tc : Thread Cert.MobaSampleRefIdeal.nD Cert.MobaSampleRefIdeal.τ).loc Cert.MobaSampleRefIdeal.main_arg1) = m ((c.tc : Thread Cert.MobaSampleRefIdeal.nD Cert.MobaSampleRefIdeal.τ).loc Cert.MobaSampleRefIdeal.main_arg1)
      ∧ r.2.mem ((c.tc : Thread Cert.MobaSampleRefIdeal.nD Cert.MobaSampleRefIdeal.τ).loc Cert.MobaSampleRefIdeal.main_arg2) = m ((c.tc : Thread Cert.MobaSampleRefIdeal.nD Cert.MobaSampleRefIdeal.τ).loc Cert.MobaSampleRefIdeal.main_arg2)
      ∧ r.2.mem ((c.tc : Thread Cert.MobaSampleRefIdeal.nD Cert.MobaSampleRefIdeal.τ).loc Cert.MobaSampleRefIdeal.main_arg3) = m ((c.tc : Thread Cert.MobaSampleRefIdeal.nD Cert.MobaSampleRefIdeal.τ).loc Cert.MobaSampleRefIdeal.main_arg3)
      ∧ r.2.mem ((c.tc : Thread Cert.MobaSampleRefIdeal.nD Cert.MobaSampleRefIdeal.τ).loc Cert.MobaSampleRefIdeal.main_arg4) = m ((c.tc : Thread Cert.MobaSampleRefIdeal.nD Cert.MobaSampleRefIdeal.τ).loc Cert.MobaSampleRefIdeal.main_arg4)
      ∧ r.2.mem ((c.tc : Thread Cert.MobaSampleRefIdeal.nD Cert.MobaSampleRefIdeal.τ).loc Cert.MobaSampleRefIdeal.main_arg5) = m ((c.tc : Thread Cert.MobaSampleRefIdeal.nD Cert.MobaSampleRefIdeal.τ).loc Cert.MobaSampleRefIdeal.main_arg5)
      ∧ r.2.mem ((c.tc : Thread Cert.MobaSampleRefIdeal.nD Cert.MobaSampleRefIdeal.τ).loc Cert.MobaSampleRefIdeal.main_arg6) = m ((c.tc : Thread Cert.MobaSampleRefIdeal.nD Cert.MobaSampleRefIdeal.τ).loc Cert.MobaSampleRefIdeal.main_arg6)
      ∧ r.2.mem ((c.tc : Thread Cert.MobaSampleRefIdeal.nD Cert.MobaSampleRefIdeal.τ).loc Cert.MobaSampleRefIdeal.main_arg7) = m ((c.tc : Thread Cert.MobaSampleRefIdeal.nD Cert.MobaSampleRefIdeal.τ).loc Cert.MobaSampleRefIdeal.main_arg7)
      ∧ r.2.mem ((c.tc : Thread Cert.MobaSampleRefIdeal.nD Cert.MobaSampleRefIdeal.τ).loc Cert.MobaSampleRefIdeal.main_arg8) = m ((c.tc : Thread Cert.MobaSampleRefIdeal.nD Cert.MobaSampleRefIdeal.τ).loc Cert.MobaSampleRefIdeal.main_arg8)
      ∧ r.2.mem ((c.tc : Thread Cert.MobaSampleRefIdeal.nD Cert.MobaSampleRefIdeal.τ).loc Cert.MobaSampleRefIdeal.main_arg9) = m ((c.tc : Thread Cert.MobaSampleRefIdeal.nD Cert.MobaSampleRefIdeal.τ).loc Cert.MobaSampleRefIdeal.main_arg9))
      ∧ r.2.sem = fun _ => 0)

def quiescent_MobaSampleRefIdeal_pre_numbers_sample [hMobaSampleRefIdeal : Cert.MobaSampleRefIdeal.Facts] [hPre_numbers_sample : Cert.Pre_numbers_sample.Facts] : Prop :=
  ∀ (m : (ℓ : Loc Cert.MobaSampleRefIdeal.nD Cert.MobaSampleRefIdeal.τ Cert.MobaSampleRefIdeal.sig) → Buf (Elt Ideal) ℓ) (g : Dev Cert.MobaSampleRefIdeal.nD → PrngReg), Pre_MobaSampleRefIdeal_numbers_sample m →
    θ_run (Cert.MobaSampleRefIdeal.defs (F := Ideal)) (onTc (τ := Cert.MobaSampleRefIdeal.τ) (Cert.MobaSampleRefIdeal.main (F := Ideal))) ⟨m, fun _ => 0, g⟩ (fun r => (∀ c : Dev Cert.MobaSampleRefIdeal.nD,
      r.2.mem ((c.tc : Thread Cert.MobaSampleRefIdeal.nD Cert.MobaSampleRefIdeal.τ).loc Cert.MobaSampleRefIdeal.main_arg0) = m ((c.tc : Thread Cert.MobaSampleRefIdeal.nD Cert.MobaSampleRefIdeal.τ).loc Cert.MobaSampleRefIdeal.main_arg0)
      ∧ r.2.mem ((c.tc : Thread Cert.MobaSampleRefIdeal.nD Cert.MobaSampleRefIdeal.τ).loc Cert.MobaSampleRefIdeal.main_arg1) = m ((c.tc : Thread Cert.MobaSampleRefIdeal.nD Cert.MobaSampleRefIdeal.τ).loc Cert.MobaSampleRefIdeal.main_arg1)
      ∧ r.2.mem ((c.tc : Thread Cert.MobaSampleRefIdeal.nD Cert.MobaSampleRefIdeal.τ).loc Cert.MobaSampleRefIdeal.main_arg2) = m ((c.tc : Thread Cert.MobaSampleRefIdeal.nD Cert.MobaSampleRefIdeal.τ).loc Cert.MobaSampleRefIdeal.main_arg2)
      ∧ r.2.mem ((c.tc : Thread Cert.MobaSampleRefIdeal.nD Cert.MobaSampleRefIdeal.τ).loc Cert.MobaSampleRefIdeal.main_arg3) = m ((c.tc : Thread Cert.MobaSampleRefIdeal.nD Cert.MobaSampleRefIdeal.τ).loc Cert.MobaSampleRefIdeal.main_arg3)
      ∧ r.2.mem ((c.tc : Thread Cert.MobaSampleRefIdeal.nD Cert.MobaSampleRefIdeal.τ).loc Cert.MobaSampleRefIdeal.main_arg4) = m ((c.tc : Thread Cert.MobaSampleRefIdeal.nD Cert.MobaSampleRefIdeal.τ).loc Cert.MobaSampleRefIdeal.main_arg4)
      ∧ r.2.mem ((c.tc : Thread Cert.MobaSampleRefIdeal.nD Cert.MobaSampleRefIdeal.τ).loc Cert.MobaSampleRefIdeal.main_arg5) = m ((c.tc : Thread Cert.MobaSampleRefIdeal.nD Cert.MobaSampleRefIdeal.τ).loc Cert.MobaSampleRefIdeal.main_arg5)
      ∧ r.2.mem ((c.tc : Thread Cert.MobaSampleRefIdeal.nD Cert.MobaSampleRefIdeal.τ).loc Cert.MobaSampleRefIdeal.main_arg6) = m ((c.tc : Thread Cert.MobaSampleRefIdeal.nD Cert.MobaSampleRefIdeal.τ).loc Cert.MobaSampleRefIdeal.main_arg6)
      ∧ r.2.mem ((c.tc : Thread Cert.MobaSampleRefIdeal.nD Cert.MobaSampleRefIdeal.τ).loc Cert.MobaSampleRefIdeal.main_arg7) = m ((c.tc : Thread Cert.MobaSampleRefIdeal.nD Cert.MobaSampleRefIdeal.τ).loc Cert.MobaSampleRefIdeal.main_arg7)
      ∧ r.2.mem ((c.tc : Thread Cert.MobaSampleRefIdeal.nD Cert.MobaSampleRefIdeal.τ).loc Cert.MobaSampleRefIdeal.main_arg8) = m ((c.tc : Thread Cert.MobaSampleRefIdeal.nD Cert.MobaSampleRefIdeal.τ).loc Cert.MobaSampleRefIdeal.main_arg8)
      ∧ r.2.mem ((c.tc : Thread Cert.MobaSampleRefIdeal.nD Cert.MobaSampleRefIdeal.τ).loc Cert.MobaSampleRefIdeal.main_arg9) = m ((c.tc : Thread Cert.MobaSampleRefIdeal.nD Cert.MobaSampleRefIdeal.τ).loc Cert.MobaSampleRefIdeal.main_arg9))
      ∧ r.2.sem = fun _ => 0)

def quiescent_RecSample [hRecSample : Cert.RecSample.Facts] : Prop :=
  ∀ (m : (ℓ : Loc Cert.RecSample.nD Cert.RecSample.τ Cert.RecSample.sig) → Buf (Elt Bits) ℓ) (g : Dev Cert.RecSample.nD → PrngReg), Pre_RecSample m →
    θ_run (Cert.RecSample.defs (F := Bits)) (onTc (τ := Cert.RecSample.τ) (Cert.RecSample.main (F := Bits))) ⟨m, fun _ => 0, g⟩ (fun r => (∀ c : Dev Cert.RecSample.nD,
      r.2.mem ((c.tc : Thread Cert.RecSample.nD Cert.RecSample.τ).loc Cert.RecSample.main_arg0) = m ((c.tc : Thread Cert.RecSample.nD Cert.RecSample.τ).loc Cert.RecSample.main_arg0)
      ∧ r.2.mem ((c.tc : Thread Cert.RecSample.nD Cert.RecSample.τ).loc Cert.RecSample.main_arg1) = m ((c.tc : Thread Cert.RecSample.nD Cert.RecSample.τ).loc Cert.RecSample.main_arg1)
      ∧ r.2.mem ((c.tc : Thread Cert.RecSample.nD Cert.RecSample.τ).loc Cert.RecSample.main_arg2) = m ((c.tc : Thread Cert.RecSample.nD Cert.RecSample.τ).loc Cert.RecSample.main_arg2)
      ∧ r.2.mem ((c.tc : Thread Cert.RecSample.nD Cert.RecSample.τ).loc Cert.RecSample.main_arg3) = m ((c.tc : Thread Cert.RecSample.nD Cert.RecSample.τ).loc Cert.RecSample.main_arg3))
      ∧ r.2.sem = fun _ => 0)

def quiescent_RecSampleIdeal [hRecSampleIdeal : Cert.RecSampleIdeal.Facts] : Prop :=
  ∀ (m : (ℓ : Loc Cert.RecSampleIdeal.nD Cert.RecSampleIdeal.τ Cert.RecSampleIdeal.sig) → Buf (Elt Ideal) ℓ) (g : Dev Cert.RecSampleIdeal.nD → PrngReg), Pre_RecSampleIdeal m →
    θ_run (Cert.RecSampleIdeal.defs (F := Ideal)) (onTc (τ := Cert.RecSampleIdeal.τ) (Cert.RecSampleIdeal.main (F := Ideal))) ⟨m, fun _ => 0, g⟩ (fun r => (∀ c : Dev Cert.RecSampleIdeal.nD,
      r.2.mem ((c.tc : Thread Cert.RecSampleIdeal.nD Cert.RecSampleIdeal.τ).loc Cert.RecSampleIdeal.main_arg0) = m ((c.tc : Thread Cert.RecSampleIdeal.nD Cert.RecSampleIdeal.τ).loc Cert.RecSampleIdeal.main_arg0)
      ∧ r.2.mem ((c.tc : Thread Cert.RecSampleIdeal.nD Cert.RecSampleIdeal.τ).loc Cert.RecSampleIdeal.main_arg1) = m ((c.tc : Thread Cert.RecSampleIdeal.nD Cert.RecSampleIdeal.τ).loc Cert.RecSampleIdeal.main_arg1)
      ∧ r.2.mem ((c.tc : Thread Cert.RecSampleIdeal.nD Cert.RecSampleIdeal.τ).loc Cert.RecSampleIdeal.main_arg2) = m ((c.tc : Thread Cert.RecSampleIdeal.nD Cert.RecSampleIdeal.τ).loc Cert.RecSampleIdeal.main_arg2)
      ∧ r.2.mem ((c.tc : Thread Cert.RecSampleIdeal.nD Cert.RecSampleIdeal.τ).loc Cert.RecSampleIdeal.main_arg3) = m ((c.tc : Thread Cert.RecSampleIdeal.nD Cert.RecSampleIdeal.τ).loc Cert.RecSampleIdeal.main_arg3))
      ∧ r.2.sem = fun _ => 0)

def quiescent_RecSampleIdeal_pre_finite_sample [hRecSampleIdeal : Cert.RecSampleIdeal.Facts] [hPre_finite_sample : Cert.Pre_finite_sample.Facts] : Prop :=
  ∀ (m : (ℓ : Loc Cert.RecSampleIdeal.nD Cert.RecSampleIdeal.τ Cert.RecSampleIdeal.sig) → Buf (Elt Ideal) ℓ) (g : Dev Cert.RecSampleIdeal.nD → PrngReg), Pre_RecSampleIdeal_finite_sample m →
    θ_run (Cert.RecSampleIdeal.defs (F := Ideal)) (onTc (τ := Cert.RecSampleIdeal.τ) (Cert.RecSampleIdeal.main (F := Ideal))) ⟨m, fun _ => 0, g⟩ (fun r => (∀ c : Dev Cert.RecSampleIdeal.nD,
      r.2.mem ((c.tc : Thread Cert.RecSampleIdeal.nD Cert.RecSampleIdeal.τ).loc Cert.RecSampleIdeal.main_arg0) = m ((c.tc : Thread Cert.RecSampleIdeal.nD Cert.RecSampleIdeal.τ).loc Cert.RecSampleIdeal.main_arg0)
      ∧ r.2.mem ((c.tc : Thread Cert.RecSampleIdeal.nD Cert.RecSampleIdeal.τ).loc Cert.RecSampleIdeal.main_arg1) = m ((c.tc : Thread Cert.RecSampleIdeal.nD Cert.RecSampleIdeal.τ).loc Cert.RecSampleIdeal.main_arg1)
      ∧ r.2.mem ((c.tc : Thread Cert.RecSampleIdeal.nD Cert.RecSampleIdeal.τ).loc Cert.RecSampleIdeal.main_arg2) = m ((c.tc : Thread Cert.RecSampleIdeal.nD Cert.RecSampleIdeal.τ).loc Cert.RecSampleIdeal.main_arg2)
      ∧ r.2.mem ((c.tc : Thread Cert.RecSampleIdeal.nD Cert.RecSampleIdeal.τ).loc Cert.RecSampleIdeal.main_arg3) = m ((c.tc : Thread Cert.RecSampleIdeal.nD Cert.RecSampleIdeal.τ).loc Cert.RecSampleIdeal.main_arg3))
      ∧ r.2.sem = fun _ => 0)

def quiescent_RecSampleRefIdeal [hRecSampleRefIdeal : Cert.RecSampleRefIdeal.Facts] : Prop :=
  ∀ (m : (ℓ : Loc Cert.RecSampleRefIdeal.nD Cert.RecSampleRefIdeal.τ Cert.RecSampleRefIdeal.sig) → Buf (Elt Ideal) ℓ) (g : Dev Cert.RecSampleRefIdeal.nD → PrngReg), Pre_RecSampleRefIdeal m →
    θ_run (Cert.RecSampleRefIdeal.defs (F := Ideal)) (onTc (τ := Cert.RecSampleRefIdeal.τ) (Cert.RecSampleRefIdeal.main (F := Ideal))) ⟨m, fun _ => 0, g⟩ (fun r => (∀ c : Dev Cert.RecSampleRefIdeal.nD,
      r.2.mem ((c.tc : Thread Cert.RecSampleRefIdeal.nD Cert.RecSampleRefIdeal.τ).loc Cert.RecSampleRefIdeal.main_arg0) = m ((c.tc : Thread Cert.RecSampleRefIdeal.nD Cert.RecSampleRefIdeal.τ).loc Cert.RecSampleRefIdeal.main_arg0)
      ∧ r.2.mem ((c.tc : Thread Cert.RecSampleRefIdeal.nD Cert.RecSampleRefIdeal.τ).loc Cert.RecSampleRefIdeal.main_arg1) = m ((c.tc : Thread Cert.RecSampleRefIdeal.nD Cert.RecSampleRefIdeal.τ).loc Cert.RecSampleRefIdeal.main_arg1)
      ∧ r.2.mem ((c.tc : Thread Cert.RecSampleRefIdeal.nD Cert.RecSampleRefIdeal.τ).loc Cert.RecSampleRefIdeal.main_arg2) = m ((c.tc : Thread Cert.RecSampleRefIdeal.nD Cert.RecSampleRefIdeal.τ).loc Cert.RecSampleRefIdeal.main_arg2)
      ∧ r.2.mem ((c.tc : Thread Cert.RecSampleRefIdeal.nD Cert.RecSampleRefIdeal.τ).loc Cert.RecSampleRefIdeal.main_arg3) = m ((c.tc : Thread Cert.RecSampleRefIdeal.nD Cert.RecSampleRefIdeal.τ).loc Cert.RecSampleRefIdeal.main_arg3))
      ∧ r.2.sem = fun _ => 0)

def quiescent_RecSampleRefIdeal_pre_finite_sample [hRecSampleRefIdeal : Cert.RecSampleRefIdeal.Facts] [hPre_finite_sample : Cert.Pre_finite_sample.Facts] : Prop :=
  ∀ (m : (ℓ : Loc Cert.RecSampleRefIdeal.nD Cert.RecSampleRefIdeal.τ Cert.RecSampleRefIdeal.sig) → Buf (Elt Ideal) ℓ) (g : Dev Cert.RecSampleRefIdeal.nD → PrngReg), Pre_RecSampleRefIdeal_finite_sample m →
    θ_run (Cert.RecSampleRefIdeal.defs (F := Ideal)) (onTc (τ := Cert.RecSampleRefIdeal.τ) (Cert.RecSampleRefIdeal.main (F := Ideal))) ⟨m, fun _ => 0, g⟩ (fun r => (∀ c : Dev Cert.RecSampleRefIdeal.nD,
      r.2.mem ((c.tc : Thread Cert.RecSampleRefIdeal.nD Cert.RecSampleRefIdeal.τ).loc Cert.RecSampleRefIdeal.main_arg0) = m ((c.tc : Thread Cert.RecSampleRefIdeal.nD Cert.RecSampleRefIdeal.τ).loc Cert.RecSampleRefIdeal.main_arg0)
      ∧ r.2.mem ((c.tc : Thread Cert.RecSampleRefIdeal.nD Cert.RecSampleRefIdeal.τ).loc Cert.RecSampleRefIdeal.main_arg1) = m ((c.tc : Thread Cert.RecSampleRefIdeal.nD Cert.RecSampleRefIdeal.τ).loc Cert.RecSampleRefIdeal.main_arg1)
      ∧ r.2.mem ((c.tc : Thread Cert.RecSampleRefIdeal.nD Cert.RecSampleRefIdeal.τ).loc Cert.RecSampleRefIdeal.main_arg2) = m ((c.tc : Thread Cert.RecSampleRefIdeal.nD Cert.RecSampleRefIdeal.τ).loc Cert.RecSampleRefIdeal.main_arg2)
      ∧ r.2.mem ((c.tc : Thread Cert.RecSampleRefIdeal.nD Cert.RecSampleRefIdeal.τ).loc Cert.RecSampleRefIdeal.main_arg3) = m ((c.tc : Thread Cert.RecSampleRefIdeal.nD Cert.RecSampleRefIdeal.τ).loc Cert.RecSampleRefIdeal.main_arg3))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_Select [hSelect : Cert.Select.Facts] : Prop :=
  ∀ (m : (ℓ : Loc Cert.Select.nD Cert.Select.τ Cert.Select.sig) → Buf (Elt Bits) ℓ) (g : Dev Cert.Select.nD → PrngReg), Pre_Select m →
    θ_run (Cert.Select.defs (F := Bits)) (onTc (τ := Cert.Select.τ) (Cert.Select.main (F := Bits))) ⟨m, fun _ => 0, g⟩ (fun r => (∀ c : Dev Cert.Select.nD,
      r.2.mem ((c.tc : Thread Cert.Select.nD Cert.Select.τ).loc Cert.Select.main_arg0) = m ((c.tc : Thread Cert.Select.nD Cert.Select.τ).loc Cert.Select.main_arg0)
      ∧ r.2.mem ((c.tc : Thread Cert.Select.nD Cert.Select.τ).loc Cert.Select.main_arg1) = m ((c.tc : Thread Cert.Select.nD Cert.Select.τ).loc Cert.Select.main_arg1))
      ∧ r.2.sem = fun _ => 0)

def quiescent_SelectIdeal [hSelectIdeal : Cert.SelectIdeal.Facts] : Prop :=
  ∀ (m : (ℓ : Loc Cert.SelectIdeal.nD Cert.SelectIdeal.τ Cert.SelectIdeal.sig) → Buf (Elt Ideal) ℓ) (g : Dev Cert.SelectIdeal.nD → PrngReg), Pre_SelectIdeal m →
    θ_run (Cert.SelectIdeal.defs (F := Ideal)) (onTc (τ := Cert.SelectIdeal.τ) (Cert.SelectIdeal.main (F := Ideal))) ⟨m, fun _ => 0, g⟩ (fun r => (∀ c : Dev Cert.SelectIdeal.nD,
      r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
      ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1))
      ∧ r.2.sem = fun _ => 0)

def quiescent_SelectIdeal_pre_numbers_select [hSelectIdeal : Cert.SelectIdeal.Facts] [hPre_numbers_select : Cert.Pre_numbers_select.Facts] : Prop :=
  ∀ (m : (ℓ : Loc Cert.SelectIdeal.nD Cert.SelectIdeal.τ Cert.SelectIdeal.sig) → Buf (Elt Ideal) ℓ) (g : Dev Cert.SelectIdeal.nD → PrngReg), Pre_SelectIdeal_numbers_select m →
    θ_run (Cert.SelectIdeal.defs (F := Ideal)) (onTc (τ := Cert.SelectIdeal.τ) (Cert.SelectIdeal.main (F := Ideal))) ⟨m, fun _ => 0, g⟩ (fun r => (∀ c : Dev Cert.SelectIdeal.nD,
      r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
      ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1))
      ∧ r.2.sem = fun _ => 0)

def quiescent_SelectRefIdeal [hSelectRefIdeal : Cert.SelectRefIdeal.Facts] : Prop :=
  ∀ (m : (ℓ : Loc Cert.SelectRefIdeal.nD Cert.SelectRefIdeal.τ Cert.SelectRefIdeal.sig) → Buf (Elt Ideal) ℓ) (g : Dev Cert.SelectRefIdeal.nD → PrngReg), Pre_SelectRefIdeal m →
    θ_run (Cert.SelectRefIdeal.defs (F := Ideal)) (onTc (τ := Cert.SelectRefIdeal.τ) (Cert.SelectRefIdeal.main (F := Ideal))) ⟨m, fun _ => 0, g⟩ (fun r => (∀ c : Dev Cert.SelectRefIdeal.nD,
      r.2.mem ((c.tc : Thread Cert.SelectRefIdeal.nD Cert.SelectRefIdeal.τ).loc Cert.SelectRefIdeal.main_arg0) = m ((c.tc : Thread Cert.SelectRefIdeal.nD Cert.SelectRefIdeal.τ).loc Cert.SelectRefIdeal.main_arg0)
      ∧ r.2.mem ((c.tc : Thread Cert.SelectRefIdeal.nD Cert.SelectRefIdeal.τ).loc Cert.SelectRefIdeal.main_arg1) = m ((c.tc : Thread Cert.SelectRefIdeal.nD Cert.SelectRefIdeal.τ).loc Cert.SelectRefIdeal.main_arg1))
      ∧ r.2.sem = fun _ => 0)

def quiescent_SelectRefIdeal_pre_numbers_select [hSelectRefIdeal : Cert.SelectRefIdeal.Facts] [hPre_numbers_select : Cert.Pre_numbers_select.Facts] : Prop :=
  ∀ (m : (ℓ : Loc Cert.SelectRefIdeal.nD Cert.SelectRefIdeal.τ Cert.SelectRefIdeal.sig) → Buf (Elt Ideal) ℓ) (g : Dev Cert.SelectRefIdeal.nD → PrngReg), Pre_SelectRefIdeal_numbers_select m →
    θ_run (Cert.SelectRefIdeal.defs (F := Ideal)) (onTc (τ := Cert.SelectRefIdeal.τ) (Cert.SelectRefIdeal.main (F := Ideal))) ⟨m, fun _ => 0, g⟩ (fun r => (∀ c : Dev Cert.SelectRefIdeal.nD,
      r.2.mem ((c.tc : Thread Cert.SelectRefIdeal.nD Cert.SelectRefIdeal.τ).loc Cert.SelectRefIdeal.main_arg0) = m ((c.tc : Thread Cert.SelectRefIdeal.nD Cert.SelectRefIdeal.τ).loc Cert.SelectRefIdeal.main_arg0)
      ∧ r.2.mem ((c.tc : Thread Cert.SelectRefIdeal.nD Cert.SelectRefIdeal.τ).loc Cert.SelectRefIdeal.main_arg1) = m ((c.tc : Thread Cert.SelectRefIdeal.nD Cert.SelectRefIdeal.τ).loc Cert.SelectRefIdeal.main_arg1))
      ∧ r.2.sem = fun _ => 0)

def quiescent_Queries [hQueries : Cert.Queries.Facts] : Prop :=
  ∀ (m : (ℓ : Loc Cert.Queries.nD Cert.Queries.τ Cert.Queries.sig) → Buf (Elt Bits) ℓ) (g : Dev Cert.Queries.nD → PrngReg), Pre_Queries m →
    θ_run (Cert.Queries.defs (F := Bits)) (onTc (τ := Cert.Queries.τ) (Cert.Queries.main (F := Bits))) ⟨m, fun _ => 0, g⟩ (fun r => (∀ c : Dev Cert.Queries.nD,
      r.2.mem ((c.tc : Thread Cert.Queries.nD Cert.Queries.τ).loc Cert.Queries.main_arg0) = m ((c.tc : Thread Cert.Queries.nD Cert.Queries.τ).loc Cert.Queries.main_arg0)
      ∧ r.2.mem ((c.tc : Thread Cert.Queries.nD Cert.Queries.τ).loc Cert.Queries.main_arg1) = m ((c.tc : Thread Cert.Queries.nD Cert.Queries.τ).loc Cert.Queries.main_arg1)
      ∧ r.2.mem ((c.tc : Thread Cert.Queries.nD Cert.Queries.τ).loc Cert.Queries.main_arg2) = m ((c.tc : Thread Cert.Queries.nD Cert.Queries.τ).loc Cert.Queries.main_arg2)
      ∧ r.2.mem ((c.tc : Thread Cert.Queries.nD Cert.Queries.τ).loc Cert.Queries.main_arg3) = m ((c.tc : Thread Cert.Queries.nD Cert.Queries.τ).loc Cert.Queries.main_arg3)
      ∧ r.2.mem ((c.tc : Thread Cert.Queries.nD Cert.Queries.τ).loc Cert.Queries.main_arg4) = m ((c.tc : Thread Cert.Queries.nD Cert.Queries.τ).loc Cert.Queries.main_arg4)
      ∧ r.2.mem ((c.tc : Thread Cert.Queries.nD Cert.Queries.τ).loc Cert.Queries.main_arg5) = m ((c.tc : Thread Cert.Queries.nD Cert.Queries.τ).loc Cert.Queries.main_arg5))
      ∧ r.2.sem = fun _ => 0)

def quiescent_QueriesIdeal [hQueriesIdeal : Cert.QueriesIdeal.Facts] : Prop :=
  ∀ (m : (ℓ : Loc Cert.QueriesIdeal.nD Cert.QueriesIdeal.τ Cert.QueriesIdeal.sig) → Buf (Elt Ideal) ℓ) (g : Dev Cert.QueriesIdeal.nD → PrngReg), Pre_QueriesIdeal m →
    θ_run (Cert.QueriesIdeal.defs (F := Ideal)) (onTc (τ := Cert.QueriesIdeal.τ) (Cert.QueriesIdeal.main (F := Ideal))) ⟨m, fun _ => 0, g⟩ (fun r => (∀ c : Dev Cert.QueriesIdeal.nD,
      r.2.mem ((c.tc : Thread Cert.QueriesIdeal.nD Cert.QueriesIdeal.τ).loc Cert.QueriesIdeal.main_arg0) = m ((c.tc : Thread Cert.QueriesIdeal.nD Cert.QueriesIdeal.τ).loc Cert.QueriesIdeal.main_arg0)
      ∧ r.2.mem ((c.tc : Thread Cert.QueriesIdeal.nD Cert.QueriesIdeal.τ).loc Cert.QueriesIdeal.main_arg1) = m ((c.tc : Thread Cert.QueriesIdeal.nD Cert.QueriesIdeal.τ).loc Cert.QueriesIdeal.main_arg1)
      ∧ r.2.mem ((c.tc : Thread Cert.QueriesIdeal.nD Cert.QueriesIdeal.τ).loc Cert.QueriesIdeal.main_arg2) = m ((c.tc : Thread Cert.QueriesIdeal.nD Cert.QueriesIdeal.τ).loc Cert.QueriesIdeal.main_arg2)
      ∧ r.2.mem ((c.tc : Thread Cert.QueriesIdeal.nD Cert.QueriesIdeal.τ).loc Cert.QueriesIdeal.main_arg3) = m ((c.tc : Thread Cert.QueriesIdeal.nD Cert.QueriesIdeal.τ).loc Cert.QueriesIdeal.main_arg3)
      ∧ r.2.mem ((c.tc : Thread Cert.QueriesIdeal.nD Cert.QueriesIdeal.τ).loc Cert.QueriesIdeal.main_arg4) = m ((c.tc : Thread Cert.QueriesIdeal.nD Cert.QueriesIdeal.τ).loc Cert.QueriesIdeal.main_arg4)
      ∧ r.2.mem ((c.tc : Thread Cert.QueriesIdeal.nD Cert.QueriesIdeal.τ).loc Cert.QueriesIdeal.main_arg5) = m ((c.tc : Thread Cert.QueriesIdeal.nD Cert.QueriesIdeal.τ).loc Cert.QueriesIdeal.main_arg5))
      ∧ r.2.sem = fun _ => 0)

def quiescent_QueriesRefIdeal [hQueriesRefIdeal : Cert.QueriesRefIdeal.Facts] : Prop :=
  ∀ (m : (ℓ : Loc Cert.QueriesRefIdeal.nD Cert.QueriesRefIdeal.τ Cert.QueriesRefIdeal.sig) → Buf (Elt Ideal) ℓ) (g : Dev Cert.QueriesRefIdeal.nD → PrngReg), Pre_QueriesRefIdeal m →
    θ_run (Cert.QueriesRefIdeal.defs (F := Ideal)) (onTc (τ := Cert.QueriesRefIdeal.τ) (Cert.QueriesRefIdeal.main (F := Ideal))) ⟨m, fun _ => 0, g⟩ (fun r => (∀ c : Dev Cert.QueriesRefIdeal.nD,
      r.2.mem ((c.tc : Thread Cert.QueriesRefIdeal.nD Cert.QueriesRefIdeal.τ).loc Cert.QueriesRefIdeal.main_arg0) = m ((c.tc : Thread Cert.QueriesRefIdeal.nD Cert.QueriesRefIdeal.τ).loc Cert.QueriesRefIdeal.main_arg0)
      ∧ r.2.mem ((c.tc : Thread Cert.QueriesRefIdeal.nD Cert.QueriesRefIdeal.τ).loc Cert.QueriesRefIdeal.main_arg1) = m ((c.tc : Thread Cert.QueriesRefIdeal.nD Cert.QueriesRefIdeal.τ).loc Cert.QueriesRefIdeal.main_arg1)
      ∧ r.2.mem ((c.tc : Thread Cert.QueriesRefIdeal.nD Cert.QueriesRefIdeal.τ).loc Cert.QueriesRefIdeal.main_arg2) = m ((c.tc : Thread Cert.QueriesRefIdeal.nD Cert.QueriesRefIdeal.τ).loc Cert.QueriesRefIdeal.main_arg2)
      ∧ r.2.mem ((c.tc : Thread Cert.QueriesRefIdeal.nD Cert.QueriesRefIdeal.τ).loc Cert.QueriesRefIdeal.main_arg3) = m ((c.tc : Thread Cert.QueriesRefIdeal.nD Cert.QueriesRefIdeal.τ).loc Cert.QueriesRefIdeal.main_arg3)
      ∧ r.2.mem ((c.tc : Thread Cert.QueriesRefIdeal.nD Cert.QueriesRefIdeal.τ).loc Cert.QueriesRefIdeal.main_arg4) = m ((c.tc : Thread Cert.QueriesRefIdeal.nD Cert.QueriesRefIdeal.τ).loc Cert.QueriesRefIdeal.main_arg4)
      ∧ r.2.mem ((c.tc : Thread Cert.QueriesRefIdeal.nD Cert.QueriesRefIdeal.τ).loc Cert.QueriesRefIdeal.main_arg5) = m ((c.tc : Thread Cert.QueriesRefIdeal.nD Cert.QueriesRefIdeal.τ).loc Cert.QueriesRefIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v21_6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Moba_MobaIdeal : Prop :=
  True

def algebraic_MobaIdeal_MobaRefIdeal_pre_numbers [hMobaIdeal : Cert.MobaIdeal.Facts] [hMobaRefIdeal : Cert.MobaRefIdeal.Facts] [hPre_numbers : Cert.Pre_numbers.Facts] : Prop :=
  ∀ (m : (ℓ : Loc Cert.MobaIdeal.nD Cert.MobaIdeal.τ Cert.MobaIdeal.sig) → Buf (Elt Ideal) ℓ) (g : Dev Cert.MobaIdeal.nD → PrngReg)
    (m' : (ℓ : Loc Cert.MobaRefIdeal.nD Cert.MobaRefIdeal.τ Cert.MobaRefIdeal.sig) → Buf (Elt Ideal) ℓ) (g' : Dev Cert.MobaRefIdeal.nD → PrngReg), Pre_MobaIdeal_numbers m →
    (∀ c : Dev Cert.MobaIdeal.nD,
      m' ((c.tc : Thread Cert.MobaRefIdeal.nD Cert.MobaRefIdeal.τ).loc Cert.MobaRefIdeal.main_arg0) = m ((c.tc : Thread Cert.MobaIdeal.nD Cert.MobaIdeal.τ).loc Cert.MobaIdeal.main_arg0)
      ∧ m' ((c.tc : Thread Cert.MobaRefIdeal.nD Cert.MobaRefIdeal.τ).loc Cert.MobaRefIdeal.main_arg1) = m ((c.tc : Thread Cert.MobaIdeal.nD Cert.MobaIdeal.τ).loc Cert.MobaIdeal.main_arg1)
      ∧ m' ((c.tc : Thread Cert.MobaRefIdeal.nD Cert.MobaRefIdeal.τ).loc Cert.MobaRefIdeal.main_arg2) = m ((c.tc : Thread Cert.MobaIdeal.nD Cert.MobaIdeal.τ).loc Cert.MobaIdeal.main_arg2)
      ∧ m' ((c.tc : Thread Cert.MobaRefIdeal.nD Cert.MobaRefIdeal.τ).loc Cert.MobaRefIdeal.main_arg3) = m ((c.tc : Thread Cert.MobaIdeal.nD Cert.MobaIdeal.τ).loc Cert.MobaIdeal.main_arg3)
      ∧ m' ((c.tc : Thread Cert.MobaRefIdeal.nD Cert.MobaRefIdeal.τ).loc Cert.MobaRefIdeal.main_arg4) = m ((c.tc : Thread Cert.MobaIdeal.nD Cert.MobaIdeal.τ).loc Cert.MobaIdeal.main_arg4)
      ∧ m' ((c.tc : Thread Cert.MobaRefIdeal.nD Cert.MobaRefIdeal.τ).loc Cert.MobaRefIdeal.main_arg5) = m ((c.tc : Thread Cert.MobaIdeal.nD Cert.MobaIdeal.τ).loc Cert.MobaIdeal.main_arg5)
      ∧ m' ((c.tc : Thread Cert.MobaRefIdeal.nD Cert.MobaRefIdeal.τ).loc Cert.MobaRefIdeal.main_arg6) = m ((c.tc : Thread Cert.MobaIdeal.nD Cert.MobaIdeal.τ).loc Cert.MobaIdeal.main_arg6)
      ∧ m' ((c.tc : Thread Cert.MobaRefIdeal.nD Cert.MobaRefIdeal.τ).loc Cert.MobaRefIdeal.main_arg7) = m ((c.tc : Thread Cert.MobaIdeal.nD Cert.MobaIdeal.τ).loc Cert.MobaIdeal.main_arg7)
      ∧ m' ((c.tc : Thread Cert.MobaRefIdeal.nD Cert.MobaRefIdeal.τ).loc Cert.MobaRefIdeal.main_arg8) = m ((c.tc : Thread Cert.MobaIdeal.nD Cert.MobaIdeal.τ).loc Cert.MobaIdeal.main_arg8)
      ∧ m' ((c.tc : Thread Cert.MobaRefIdeal.nD Cert.MobaRefIdeal.τ).loc Cert.MobaRefIdeal.main_arg9) = m ((c.tc : Thread Cert.MobaIdeal.nD Cert.MobaIdeal.τ).loc Cert.MobaIdeal.main_arg9)) →
    ∃ (v0 : (c : Dev Cert.MobaIdeal.nD) → Buf (Elt Ideal) ((c.tc : Thread Cert.MobaIdeal.nD Cert.MobaIdeal.τ).loc Cert.MobaIdeal.main_v8)),
      θ_run (Cert.MobaIdeal.defs (F := Ideal)) (onTc (τ := Cert.MobaIdeal.τ) (Cert.MobaIdeal.main (F := Ideal))) ⟨m, fun _ => 0, g⟩ (fun r => ∀ c : Dev Cert.MobaIdeal.nD,
          r.2.mem ((c.tc : Thread Cert.MobaIdeal.nD Cert.MobaIdeal.τ).loc Cert.MobaIdeal.main_v8) = v0 c
          ∧ r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0)
          ∧ r.2.mem ((c.tc : Thread Cert.MobaIdeal.nD Cert.MobaIdeal.τ).loc Cert.MobaIdeal.main_arg1) = m ((c.tc : Thread Cert.MobaIdeal.nD Cert.MobaIdeal.τ).loc Cert.MobaIdeal.main_arg1)
          ∧ r.2.mem ((c.tc : Thread Cert.MobaIdeal.nD Cert.MobaIdeal.τ).loc Cert.MobaIdeal.main_arg2) = m ((c.tc : Thread Cert.MobaIdeal.nD Cert.MobaIdeal.τ).loc Cert.MobaIdeal.main_arg2)
          ∧ r.2.mem ((c.tc : Thread Cert.MobaIdeal.nD Cert.MobaIdeal.τ).loc Cert.MobaIdeal.main_arg3) = m ((c.tc : Thread Cert.MobaIdeal.nD Cert.MobaIdeal.τ).loc Cert.MobaIdeal.main_arg3)
          ∧ r.2.mem ((c.tc : Thread Cert.MobaIdeal.nD Cert.MobaIdeal.τ).loc Cert.MobaIdeal.main_arg4) = m ((c.tc : Thread Cert.MobaIdeal.nD Cert.MobaIdeal.τ).loc Cert.MobaIdeal.main_arg4)
          ∧ r.2.mem ((c.tc : Thread Cert.MobaIdeal.nD Cert.MobaIdeal.τ).loc Cert.MobaIdeal.main_arg5) = m ((c.tc : Thread Cert.MobaIdeal.nD Cert.MobaIdeal.τ).loc Cert.MobaIdeal.main_arg5)
          ∧ r.2.mem ((c.tc : Thread Cert.MobaIdeal.nD Cert.MobaIdeal.τ).loc Cert.MobaIdeal.main_arg6) = m ((c.tc : Thread Cert.MobaIdeal.nD Cert.MobaIdeal.τ).loc Cert.MobaIdeal.main_arg6)
          ∧ r.2.mem ((c.tc : Thread Cert.MobaIdeal.nD Cert.MobaIdeal.τ).loc Cert.MobaIdeal.main_arg7) = m ((c.tc : Thread Cert.MobaIdeal.nD Cert.MobaIdeal.τ).loc Cert.MobaIdeal.main_arg7)
          ∧ r.2.mem ((c.tc : Thread Cert.MobaIdeal.nD Cert.MobaIdeal.τ).loc Cert.MobaIdeal.main_arg8) = m ((c.tc : Thread Cert.MobaIdeal.nD Cert.MobaIdeal.τ).loc Cert.MobaIdeal.main_arg8)
          ∧ r.2.mem ((c.tc : Thread Cert.MobaIdeal.nD Cert.MobaIdeal.τ).loc Cert.MobaIdeal.main_arg9) = m ((c.tc : Thread Cert.MobaIdeal.nD Cert.MobaIdeal.τ).loc Cert.MobaIdeal.main_arg9))
      ∧ θ_run (Cert.MobaRefIdeal.defs (F := Ideal)) (onTc (τ := Cert.MobaRefIdeal.τ) (Cert.MobaRefIdeal.main (F := Ideal))) ⟨m', fun _ => 0, g'⟩ (fun r => ∀ c : Dev Cert.MobaRefIdeal.nD,
          r.2.mem ((c.tc : Thread Cert.MobaRefIdeal.nD Cert.MobaRefIdeal.τ).loc Cert.MobaRefIdeal.main_v37) = v0 c
          ∧ r.2.mem ((c.tc : Thread Cert.MobaRefIdeal.nD Cert.MobaRefIdeal.τ).loc Cert.MobaRefIdeal.main_arg0) = m' ((c.tc : Thread Cert.MobaRefIdeal.nD Cert.MobaRefIdeal.τ).loc Cert.MobaRefIdeal.main_arg0)
          ∧ r.2.mem ((c.tc : Thread Cert.MobaRefIdeal.nD Cert.MobaRefIdeal.τ).loc Cert.MobaRefIdeal.main_arg1) = m' ((c.tc : Thread Cert.MobaRefIdeal.nD Cert.MobaRefIdeal.τ).loc Cert.MobaRefIdeal.main_arg1)
          ∧ r.2.mem ((c.tc : Thread Cert.MobaRefIdeal.nD Cert.MobaRefIdeal.τ).loc Cert.MobaRefIdeal.main_arg2) = m' ((c.tc : Thread Cert.MobaRefIdeal.nD Cert.MobaRefIdeal.τ).loc Cert.MobaRefIdeal.main_arg2)
          ∧ r.2.mem ((c.tc : Thread Cert.MobaRefIdeal.nD Cert.MobaRefIdeal.τ).loc Cert.MobaRefIdeal.main_arg3) = m' ((c.tc : Thread Cert.MobaRefIdeal.nD Cert.MobaRefIdeal.τ).loc Cert.MobaRefIdeal.main_arg3)
          ∧ r.2.mem ((c.tc : Thread Cert.MobaRefIdeal.nD Cert.MobaRefIdeal.τ).loc Cert.MobaRefIdeal.main_arg4) = m' ((c.tc : Thread Cert.MobaRefIdeal.nD Cert.MobaRefIdeal.τ).loc Cert.MobaRefIdeal.main_arg4)
          ∧ r.2.mem ((c.tc : Thread Cert.MobaRefIdeal.nD Cert.MobaRefIdeal.τ).loc Cert.MobaRefIdeal.main_arg5) = m' ((c.tc : Thread Cert.MobaRefIdeal.nD Cert.MobaRefIdeal.τ).loc Cert.MobaRefIdeal.main_arg5)
          ∧ r.2.mem ((c.tc : Thread Cert.MobaRefIdeal.nD Cert.MobaRefIdeal.τ).loc Cert.MobaRefIdeal.main_arg6) = m' ((c.tc : Thread Cert.MobaRefIdeal.nD Cert.MobaRefIdeal.τ).loc Cert.MobaRefIdeal.main_arg6)
          ∧ r.2.mem ((c.tc : Thread Cert.MobaRefIdeal.nD Cert.MobaRefIdeal.τ).loc Cert.MobaRefIdeal.main_arg7) = m' ((c.tc : Thread Cert.MobaRefIdeal.nD Cert.MobaRefIdeal.τ).loc Cert.MobaRefIdeal.main_arg7)
          ∧ r.2.mem ((c.tc : Thread Cert.MobaRefIdeal.nD Cert.MobaRefIdeal.τ).loc Cert.MobaRefIdeal.main_arg8) = m' ((c.tc : Thread Cert.MobaRefIdeal.nD Cert.MobaRefIdeal.τ).loc Cert.MobaRefIdeal.main_arg8)
          ∧ r.2.mem ((c.tc : Thread Cert.MobaRefIdeal.nD Cert.MobaRefIdeal.τ).loc Cert.MobaRefIdeal.main_arg9) = m' ((c.tc : Thread Cert.MobaRefIdeal.nD Cert.MobaRefIdeal.τ).loc Cert.MobaRefIdeal.main_arg9))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)
      ∧ m' ((c.tc : Thread Cert.KvRefIdeal.nD Cert.KvRefIdeal.τ).loc Cert.KvRefIdeal.main_arg2) = m ((c.tc : Thread Cert.KvIdeal.nD Cert.KvIdeal.τ).loc Cert.KvIdeal.main_arg2)
      ∧ m' ((c.tc : Thread Cert.KvRefIdeal.nD Cert.KvRefIdeal.τ).loc Cert.KvRefIdeal.main_arg3) = m ((c.tc : Thread Cert.KvIdeal.nD Cert.KvIdeal.τ).loc Cert.KvIdeal.main_arg3)
      ∧ m' ((c.tc : Thread Cert.KvRefIdeal.nD Cert.KvRefIdeal.τ).loc Cert.KvRefIdeal.main_arg4) = m ((c.tc : Thread Cert.KvIdeal.nD Cert.KvIdeal.τ).loc Cert.KvIdeal.main_arg4)
      ∧ m' ((c.tc : Thread Cert.KvRefIdeal.nD Cert.KvRefIdeal.τ).loc Cert.KvRefIdeal.main_arg5) = m ((c.tc : Thread Cert.KvIdeal.nD Cert.KvIdeal.τ).loc Cert.KvIdeal.main_arg5)) →
    ∃ (v0 : (c : Dev Cert.KvIdeal.nD) → Buf (Elt Ideal) ((c.tc : Thread Cert.KvIdeal.nD Cert.KvIdeal.τ).loc Cert.KvIdeal.main_v5_0)) (v1 : (c : Dev Cert.KvIdeal.nD) → Buf (Elt Ideal) ((c.tc : Thread Cert.KvIdeal.nD Cert.KvIdeal.τ).loc Cert.KvIdeal.main_v5_1)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v5_0) = v0 c
          ∧ r.2.mem ((c.tc : Thread Cert.KvIdeal.nD Cert.KvIdeal.τ).loc Cert.KvIdeal.main_v5_1) = v1 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
          ∧ r.2.mem ((c.tc : Thread Cert.KvIdeal.nD Cert.KvIdeal.τ).loc Cert.KvIdeal.main_arg3) = m ((c.tc : Thread Cert.KvIdeal.nD Cert.KvIdeal.τ).loc Cert.KvIdeal.main_arg3)
          ∧ r.2.mem ((c.tc : Thread Cert.KvIdeal.nD Cert.KvIdeal.τ).loc Cert.KvIdeal.main_arg4) = m ((c.tc : Thread Cert.KvIdeal.nD Cert.KvIdeal.τ).loc Cert.KvIdeal.main_arg4)
          ∧ r.2.mem ((c.tc : Thread Cert.KvIdeal.nD Cert.KvIdeal.τ).loc Cert.KvIdeal.main_arg5) = m ((c.tc : Thread Cert.KvIdeal.nD Cert.KvIdeal.τ).loc Cert.KvIdeal.main_arg5))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v39) = v0 c
          ∧ r.2.mem ((c.tc : Thread Cert.KvRefIdeal.nD Cert.KvRefIdeal.τ).loc Cert.KvRefIdeal.main_v40) = v1 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1)
          ∧ r.2.mem ((c.tc : Thread Cert.KvRefIdeal.nD Cert.KvRefIdeal.τ).loc Cert.KvRefIdeal.main_arg2) = m' ((c.tc : Thread Cert.KvRefIdeal.nD Cert.KvRefIdeal.τ).loc Cert.KvRefIdeal.main_arg2)
          ∧ r.2.mem ((c.tc : Thread Cert.KvRefIdeal.nD Cert.KvRefIdeal.τ).loc Cert.KvRefIdeal.main_arg3) = m' ((c.tc : Thread Cert.KvRefIdeal.nD Cert.KvRefIdeal.τ).loc Cert.KvRefIdeal.main_arg3)
          ∧ r.2.mem ((c.tc : Thread Cert.KvRefIdeal.nD Cert.KvRefIdeal.τ).loc Cert.KvRefIdeal.main_arg4) = m' ((c.tc : Thread Cert.KvRefIdeal.nD Cert.KvRefIdeal.τ).loc Cert.KvRefIdeal.main_arg4)
          ∧ r.2.mem ((c.tc : Thread Cert.KvRefIdeal.nD Cert.KvRefIdeal.τ).loc Cert.KvRefIdeal.main_arg5) = m' ((c.tc : Thread Cert.KvRefIdeal.nD Cert.KvRefIdeal.τ).loc Cert.KvRefIdeal.main_arg5))

def preserves_Gla_GlaIdeal : Prop :=
  True

def algebraic_GlaIdeal_GlaRefIdeal_pre_numbers_gla [hGlaIdeal : Cert.GlaIdeal.Facts] [hGlaRefIdeal : Cert.GlaRefIdeal.Facts] [hPre_numbers_gla : Cert.Pre_numbers_gla.Facts] : Prop :=
  ∀ (m : (ℓ : Loc Cert.GlaIdeal.nD Cert.GlaIdeal.τ Cert.GlaIdeal.sig) → Buf (Elt Ideal) ℓ) (g : Dev Cert.GlaIdeal.nD → PrngReg)
    (m' : (ℓ : Loc Cert.GlaRefIdeal.nD Cert.GlaRefIdeal.τ Cert.GlaRefIdeal.sig) → Buf (Elt Ideal) ℓ) (g' : Dev Cert.GlaRefIdeal.nD → PrngReg), Pre_GlaIdeal_numbers_gla m →
    (∀ c : Dev Cert.GlaIdeal.nD,
      m' ((c.tc : Thread Cert.GlaRefIdeal.nD Cert.GlaRefIdeal.τ).loc Cert.GlaRefIdeal.main_arg0) = m ((c.tc : Thread Cert.GlaIdeal.nD Cert.GlaIdeal.τ).loc Cert.GlaIdeal.main_arg0)
      ∧ m' ((c.tc : Thread Cert.GlaRefIdeal.nD Cert.GlaRefIdeal.τ).loc Cert.GlaRefIdeal.main_arg1) = m ((c.tc : Thread Cert.GlaIdeal.nD Cert.GlaIdeal.τ).loc Cert.GlaIdeal.main_arg1)
      ∧ m' ((c.tc : Thread Cert.GlaRefIdeal.nD Cert.GlaRefIdeal.τ).loc Cert.GlaRefIdeal.main_arg2) = m ((c.tc : Thread Cert.GlaIdeal.nD Cert.GlaIdeal.τ).loc Cert.GlaIdeal.main_arg2)
      ∧ m' ((c.tc : Thread Cert.GlaRefIdeal.nD Cert.GlaRefIdeal.τ).loc Cert.GlaRefIdeal.main_arg3) = m ((c.tc : Thread Cert.GlaIdeal.nD Cert.GlaIdeal.τ).loc Cert.GlaIdeal.main_arg3)
      ∧ m' ((c.tc : Thread Cert.GlaRefIdeal.nD Cert.GlaRefIdeal.τ).loc Cert.GlaRefIdeal.main_arg4) = m ((c.tc : Thread Cert.GlaIdeal.nD Cert.GlaIdeal.τ).loc Cert.GlaIdeal.main_arg4)
      ∧ m' ((c.tc : Thread Cert.GlaRefIdeal.nD Cert.GlaRefIdeal.τ).loc Cert.GlaRefIdeal.main_arg5) = m ((c.tc : Thread Cert.GlaIdeal.nD Cert.GlaIdeal.τ).loc Cert.GlaIdeal.main_arg5)
      ∧ m' ((c.tc : Thread Cert.GlaRefIdeal.nD Cert.GlaRefIdeal.τ).loc Cert.GlaRefIdeal.main_arg6) = m ((c.tc : Thread Cert.GlaIdeal.nD Cert.GlaIdeal.τ).loc Cert.GlaIdeal.main_arg6)
      ∧ m' ((c.tc : Thread Cert.GlaRefIdeal.nD Cert.GlaRefIdeal.τ).loc Cert.GlaRefIdeal.main_arg7) = m ((c.tc : Thread Cert.GlaIdeal.nD Cert.GlaIdeal.τ).loc Cert.GlaIdeal.main_arg7)
      ∧ m' ((c.tc : Thread Cert.GlaRefIdeal.nD Cert.GlaRefIdeal.τ).loc Cert.GlaRefIdeal.main_arg8) = m ((c.tc : Thread Cert.GlaIdeal.nD Cert.GlaIdeal.τ).loc Cert.GlaIdeal.main_arg8)
      ∧ m' ((c.tc : Thread Cert.GlaRefIdeal.nD Cert.GlaRefIdeal.τ).loc Cert.GlaRefIdeal.main_arg9) = m ((c.tc : Thread Cert.GlaIdeal.nD Cert.GlaIdeal.τ).loc Cert.GlaIdeal.main_arg9)
      ∧ m' ((c.tc : Thread Cert.GlaRefIdeal.nD Cert.GlaRefIdeal.τ).loc Cert.GlaRefIdeal.main_arg10) = m ((c.tc : Thread Cert.GlaIdeal.nD Cert.GlaIdeal.τ).loc Cert.GlaIdeal.main_arg10)
      ∧ m' ((c.tc : Thread Cert.GlaRefIdeal.nD Cert.GlaRefIdeal.τ).loc Cert.GlaRefIdeal.main_arg11) = m ((c.tc : Thread Cert.GlaIdeal.nD Cert.GlaIdeal.τ).loc Cert.GlaIdeal.main_arg11)) →
    ∃ (v0 : (c : Dev Cert.GlaIdeal.nD) → Buf (Elt Ideal) ((c.tc : Thread Cert.GlaIdeal.nD Cert.GlaIdeal.τ).loc Cert.GlaIdeal.main_v9)),
      θ_run (Cert.GlaIdeal.defs (F := Ideal)) (onTc (τ := Cert.GlaIdeal.τ) (Cert.GlaIdeal.main (F := Ideal))) ⟨m, fun _ => 0, g⟩ (fun r => ∀ c : Dev Cert.GlaIdeal.nD,
          r.2.mem ((c.tc : Thread Cert.GlaIdeal.nD Cert.GlaIdeal.τ).loc Cert.GlaIdeal.main_v9) = v0 c
          ∧ r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
          ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
          ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
          ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
          ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
          ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5)
          ∧ r.2.mem ((c.tc : Thread Cert.GlaIdeal.nD Cert.GlaIdeal.τ).loc Cert.GlaIdeal.main_arg6) = m ((c.tc : Thread Cert.GlaIdeal.nD Cert.GlaIdeal.τ).loc Cert.GlaIdeal.main_arg6)
          ∧ r.2.mem ((c.tc : Thread Cert.GlaIdeal.nD Cert.GlaIdeal.τ).loc Cert.GlaIdeal.main_arg7) = m ((c.tc : Thread Cert.GlaIdeal.nD Cert.GlaIdeal.τ).loc Cert.GlaIdeal.main_arg7)
          ∧ r.2.mem ((c.tc : Thread Cert.GlaIdeal.nD Cert.GlaIdeal.τ).loc Cert.GlaIdeal.main_arg8) = m ((c.tc : Thread Cert.GlaIdeal.nD Cert.GlaIdeal.τ).loc Cert.GlaIdeal.main_arg8)
          ∧ r.2.mem ((c.tc : Thread Cert.GlaIdeal.nD Cert.GlaIdeal.τ).loc Cert.GlaIdeal.main_arg9) = m ((c.tc : Thread Cert.GlaIdeal.nD Cert.GlaIdeal.τ).loc Cert.GlaIdeal.main_arg9)
          ∧ r.2.mem ((c.tc : Thread Cert.GlaIdeal.nD Cert.GlaIdeal.τ).loc Cert.GlaIdeal.main_arg10) = m ((c.tc : Thread Cert.GlaIdeal.nD Cert.GlaIdeal.τ).loc Cert.GlaIdeal.main_arg10)
          ∧ r.2.mem ((c.tc : Thread Cert.GlaIdeal.nD Cert.GlaIdeal.τ).loc Cert.GlaIdeal.main_arg11) = m ((c.tc : Thread Cert.GlaIdeal.nD Cert.GlaIdeal.τ).loc Cert.GlaIdeal.main_arg11))
      ∧ θ_run (Cert.GlaRefIdeal.defs (F := Ideal)) (onTc (τ := Cert.GlaRefIdeal.τ) (Cert.GlaRefIdeal.main (F := Ideal))) ⟨m', fun _ => 0, g'⟩ (fun r => ∀ c : Dev Cert.GlaRefIdeal.nD,
          r.2.mem ((c.tc : Thread Cert.GlaRefIdeal.nD Cert.GlaRefIdeal.τ).loc Cert.GlaRefIdeal.main_v55) = v0 c
          ∧ r.2.mem ((c.tc : Thread Cert.GlaRefIdeal.nD Cert.GlaRefIdeal.τ).loc Cert.GlaRefIdeal.main_arg0) = m' ((c.tc : Thread Cert.GlaRefIdeal.nD Cert.GlaRefIdeal.τ).loc Cert.GlaRefIdeal.main_arg0)
          ∧ r.2.mem ((c.tc : Thread Cert.GlaRefIdeal.nD Cert.GlaRefIdeal.τ).loc Cert.GlaRefIdeal.main_arg1) = m' ((c.tc : Thread Cert.GlaRefIdeal.nD Cert.GlaRefIdeal.τ).loc Cert.GlaRefIdeal.main_arg1)
          ∧ r.2.mem ((c.tc : Thread Cert.GlaRefIdeal.nD Cert.GlaRefIdeal.τ).loc Cert.GlaRefIdeal.main_arg2) = m' ((c.tc : Thread Cert.GlaRefIdeal.nD Cert.GlaRefIdeal.τ).loc Cert.GlaRefIdeal.main_arg2)
          ∧ r.2.mem ((c.tc : Thread Cert.GlaRefIdeal.nD Cert.GlaRefIdeal.τ).loc Cert.GlaRefIdeal.main_arg3) = m' ((c.tc : Thread Cert.GlaRefIdeal.nD Cert.GlaRefIdeal.τ).loc Cert.GlaRefIdeal.main_arg3)
          ∧ r.2.mem ((c.tc : Thread Cert.GlaRefIdeal.nD Cert.GlaRefIdeal.τ).loc Cert.GlaRefIdeal.main_arg4) = m' ((c.tc : Thread Cert.GlaRefIdeal.nD Cert.GlaRefIdeal.τ).loc Cert.GlaRefIdeal.main_arg4)
          ∧ r.2.mem ((c.tc : Thread Cert.GlaRefIdeal.nD Cert.GlaRefIdeal.τ).loc Cert.GlaRefIdeal.main_arg5) = m' ((c.tc : Thread Cert.GlaRefIdeal.nD Cert.GlaRefIdeal.τ).loc Cert.GlaRefIdeal.main_arg5)
          ∧ r.2.mem ((c.tc : Thread Cert.GlaRefIdeal.nD Cert.GlaRefIdeal.τ).loc Cert.GlaRefIdeal.main_arg6) = m' ((c.tc : Thread Cert.GlaRefIdeal.nD Cert.GlaRefIdeal.τ).loc Cert.GlaRefIdeal.main_arg6)
          ∧ r.2.mem ((c.tc : Thread Cert.GlaRefIdeal.nD Cert.GlaRefIdeal.τ).loc Cert.GlaRefIdeal.main_arg7) = m' ((c.tc : Thread Cert.GlaRefIdeal.nD Cert.GlaRefIdeal.τ).loc Cert.GlaRefIdeal.main_arg7)
          ∧ r.2.mem ((c.tc : Thread Cert.GlaRefIdeal.nD Cert.GlaRefIdeal.τ).loc Cert.GlaRefIdeal.main_arg8) = m' ((c.tc : Thread Cert.GlaRefIdeal.nD Cert.GlaRefIdeal.τ).loc Cert.GlaRefIdeal.main_arg8)
          ∧ r.2.mem ((c.tc : Thread Cert.GlaRefIdeal.nD Cert.GlaRefIdeal.τ).loc Cert.GlaRefIdeal.main_arg9) = m' ((c.tc : Thread Cert.GlaRefIdeal.nD Cert.GlaRefIdeal.τ).loc Cert.GlaRefIdeal.main_arg9)
          ∧ r.2.mem ((c.tc : Thread Cert.GlaRefIdeal.nD Cert.GlaRefIdeal.τ).loc Cert.GlaRefIdeal.main_arg10) = m' ((c.tc : Thread Cert.GlaRefIdeal.nD Cert.GlaRefIdeal.τ).loc Cert.GlaRefIdeal.main_arg10)
          ∧ r.2.mem ((c.tc : Thread Cert.GlaRefIdeal.nD Cert.GlaRefIdeal.τ).loc Cert.GlaRefIdeal.main_arg11) = m' ((c.tc : Thread Cert.GlaRefIdeal.nD Cert.GlaRefIdeal.τ).loc Cert.GlaRefIdeal.main_arg11))

def preserves_GlaIn_GlaInIdeal : Prop :=
  True

def algebraic_GlaInIdeal_GlaInRefIdeal_pre_numbers_in [hGlaInIdeal : Cert.GlaInIdeal.Facts] [hGlaInRefIdeal : Cert.GlaInRefIdeal.Facts] [hPre_numbers_in : Cert.Pre_numbers_in.Facts] : Prop :=
  ∀ (m : (ℓ : Loc Cert.GlaInIdeal.nD Cert.GlaInIdeal.τ Cert.GlaInIdeal.sig) → Buf (Elt Ideal) ℓ) (g : Dev Cert.GlaInIdeal.nD → PrngReg)
    (m' : (ℓ : Loc Cert.GlaInRefIdeal.nD Cert.GlaInRefIdeal.τ Cert.GlaInRefIdeal.sig) → Buf (Elt Ideal) ℓ) (g' : Dev Cert.GlaInRefIdeal.nD → PrngReg), Pre_GlaInIdeal_numbers_in m →
    (∀ c : Dev Cert.GlaInIdeal.nD,
      m' ((c.tc : Thread Cert.GlaInRefIdeal.nD Cert.GlaInRefIdeal.τ).loc Cert.GlaInRefIdeal.main_arg0) = m ((c.tc : Thread Cert.GlaInIdeal.nD Cert.GlaInIdeal.τ).loc Cert.GlaInIdeal.main_arg0)
      ∧ m' ((c.tc : Thread Cert.GlaInRefIdeal.nD Cert.GlaInRefIdeal.τ).loc Cert.GlaInRefIdeal.main_arg1) = m ((c.tc : Thread Cert.GlaInIdeal.nD Cert.GlaInIdeal.τ).loc Cert.GlaInIdeal.main_arg1)
      ∧ m' ((c.tc : Thread Cert.GlaInRefIdeal.nD Cert.GlaInRefIdeal.τ).loc Cert.GlaInRefIdeal.main_arg2) = m ((c.tc : Thread Cert.GlaInIdeal.nD Cert.GlaInIdeal.τ).loc Cert.GlaInIdeal.main_arg2)
      ∧ m' ((c.tc : Thread Cert.GlaInRefIdeal.nD Cert.GlaInRefIdeal.τ).loc Cert.GlaInRefIdeal.main_arg3) = m ((c.tc : Thread Cert.GlaInIdeal.nD Cert.GlaInIdeal.τ).loc Cert.GlaInIdeal.main_arg3)
      ∧ m' ((c.tc : Thread Cert.GlaInRefIdeal.nD Cert.GlaInRefIdeal.τ).loc Cert.GlaInRefIdeal.main_arg4) = m ((c.tc : Thread Cert.GlaInIdeal.nD Cert.GlaInIdeal.τ).loc Cert.GlaInIdeal.main_arg4)
      ∧ m' ((c.tc : Thread Cert.GlaInRefIdeal.nD Cert.GlaInRefIdeal.τ).loc Cert.GlaInRefIdeal.main_arg5) = m ((c.tc : Thread Cert.GlaInIdeal.nD Cert.GlaInIdeal.τ).loc Cert.GlaInIdeal.main_arg5)
      ∧ m' ((c.tc : Thread Cert.GlaInRefIdeal.nD Cert.GlaInRefIdeal.τ).loc Cert.GlaInRefIdeal.main_arg6) = m ((c.tc : Thread Cert.GlaInIdeal.nD Cert.GlaInIdeal.τ).loc Cert.GlaInIdeal.main_arg6)) →
    ∃ (v0 : (c : Dev Cert.GlaInIdeal.nD) → Buf (Elt Ideal) ((c.tc : Thread Cert.GlaInIdeal.nD Cert.GlaInIdeal.τ).loc Cert.GlaInIdeal.main_v19_0)) (v1 : (c : Dev Cert.GlaInIdeal.nD) → Buf (Elt Ideal) ((c.tc : Thread Cert.GlaInIdeal.nD Cert.GlaInIdeal.τ).loc Cert.GlaInIdeal.main_v19_1)) (v2 : (c : Dev Cert.GlaInIdeal.nD) → Buf (Elt Ideal) ((c.tc : Thread Cert.GlaInIdeal.nD Cert.GlaInIdeal.τ).loc Cert.GlaInIdeal.main_v19_2)) (v3 : (c : Dev Cert.GlaInIdeal.nD) → Buf (Elt Ideal) ((c.tc : Thread Cert.GlaInIdeal.nD Cert.GlaInIdeal.τ).loc Cert.GlaInIdeal.main_v19_3)),
      θ_run (Cert.GlaInIdeal.defs (F := Ideal)) (onTc (τ := Cert.GlaInIdeal.τ) (Cert.GlaInIdeal.main (F := Ideal))) ⟨m, fun _ => 0, g⟩ (fun r => ∀ c : Dev Cert.GlaInIdeal.nD,
          r.2.mem ((c.tc : Thread Cert.GlaInIdeal.nD Cert.GlaInIdeal.τ).loc Cert.GlaInIdeal.main_v19_0) = v0 c
          ∧ r.2.mem ((c.tc : Thread Cert.GlaInIdeal.nD Cert.GlaInIdeal.τ).loc Cert.GlaInIdeal.main_v19_1) = v1 c
          ∧ r.2.mem ((c.tc : Thread Cert.GlaInIdeal.nD Cert.GlaInIdeal.τ).loc Cert.GlaInIdeal.main_v19_2) = v2 c
          ∧ r.2.mem ((c.tc : Thread Cert.GlaInIdeal.nD Cert.GlaInIdeal.τ).loc Cert.GlaInIdeal.main_v19_3) = v3 c
          ∧ r.2.mem ((c.tc : Thread Cert.GlaInIdeal.nD Cert.GlaInIdeal.τ).loc Cert.GlaInIdeal.main_arg0) = m ((c.tc : Thread Cert.GlaInIdeal.nD Cert.GlaInIdeal.τ).loc Cert.GlaInIdeal.main_arg0)
          ∧ r.2.mem ((c.tc : Thread Cert.GlaInIdeal.nD Cert.GlaInIdeal.τ).loc Cert.GlaInIdeal.main_arg1) = m ((c.tc : Thread Cert.GlaInIdeal.nD Cert.GlaInIdeal.τ).loc Cert.GlaInIdeal.main_arg1)
          ∧ r.2.mem ((c.tc : Thread Cert.GlaInIdeal.nD Cert.GlaInIdeal.τ).loc Cert.GlaInIdeal.main_arg2) = m ((c.tc : Thread Cert.GlaInIdeal.nD Cert.GlaInIdeal.τ).loc Cert.GlaInIdeal.main_arg2)
          ∧ r.2.mem ((c.tc : Thread Cert.GlaInIdeal.nD Cert.GlaInIdeal.τ).loc Cert.GlaInIdeal.main_arg3) = m ((c.tc : Thread Cert.GlaInIdeal.nD Cert.GlaInIdeal.τ).loc Cert.GlaInIdeal.main_arg3)
          ∧ r.2.mem ((c.tc : Thread Cert.GlaInIdeal.nD Cert.GlaInIdeal.τ).loc Cert.GlaInIdeal.main_arg4) = m ((c.tc : Thread Cert.GlaInIdeal.nD Cert.GlaInIdeal.τ).loc Cert.GlaInIdeal.main_arg4)
          ∧ r.2.mem ((c.tc : Thread Cert.GlaInIdeal.nD Cert.GlaInIdeal.τ).loc Cert.GlaInIdeal.main_arg5) = m ((c.tc : Thread Cert.GlaInIdeal.nD Cert.GlaInIdeal.τ).loc Cert.GlaInIdeal.main_arg5)
          ∧ r.2.mem ((c.tc : Thread Cert.GlaInIdeal.nD Cert.GlaInIdeal.τ).loc Cert.GlaInIdeal.main_arg6) = m ((c.tc : Thread Cert.GlaInIdeal.nD Cert.GlaInIdeal.τ).loc Cert.GlaInIdeal.main_arg6))
      ∧ θ_run (Cert.GlaInRefIdeal.defs (F := Ideal)) (onTc (τ := Cert.GlaInRefIdeal.τ) (Cert.GlaInRefIdeal.main (F := Ideal))) ⟨m', fun _ => 0, g'⟩ (fun r => ∀ c : Dev Cert.GlaInRefIdeal.nD,
          r.2.mem ((c.tc : Thread Cert.GlaInRefIdeal.nD Cert.GlaInRefIdeal.τ).loc Cert.GlaInRefIdeal.main_v39) = v0 c
          ∧ r.2.mem ((c.tc : Thread Cert.GlaInRefIdeal.nD Cert.GlaInRefIdeal.τ).loc Cert.GlaInRefIdeal.main_v41) = v1 c
          ∧ r.2.mem ((c.tc : Thread Cert.GlaInRefIdeal.nD Cert.GlaInRefIdeal.τ).loc Cert.GlaInRefIdeal.main_v43) = v2 c
          ∧ r.2.mem ((c.tc : Thread Cert.GlaInRefIdeal.nD Cert.GlaInRefIdeal.τ).loc Cert.GlaInRefIdeal.main_v44) = v3 c
          ∧ r.2.mem ((c.tc : Thread Cert.GlaInRefIdeal.nD Cert.GlaInRefIdeal.τ).loc Cert.GlaInRefIdeal.main_arg0) = m' ((c.tc : Thread Cert.GlaInRefIdeal.nD Cert.GlaInRefIdeal.τ).loc Cert.GlaInRefIdeal.main_arg0)
          ∧ r.2.mem ((c.tc : Thread Cert.GlaInRefIdeal.nD Cert.GlaInRefIdeal.τ).loc Cert.GlaInRefIdeal.main_arg1) = m' ((c.tc : Thread Cert.GlaInRefIdeal.nD Cert.GlaInRefIdeal.τ).loc Cert.GlaInRefIdeal.main_arg1)
          ∧ r.2.mem ((c.tc : Thread Cert.GlaInRefIdeal.nD Cert.GlaInRefIdeal.τ).loc Cert.GlaInRefIdeal.main_arg2) = m' ((c.tc : Thread Cert.GlaInRefIdeal.nD Cert.GlaInRefIdeal.τ).loc Cert.GlaInRefIdeal.main_arg2)
          ∧ r.2.mem ((c.tc : Thread Cert.GlaInRefIdeal.nD Cert.GlaInRefIdeal.τ).loc Cert.GlaInRefIdeal.main_arg3) = m' ((c.tc : Thread Cert.GlaInRefIdeal.nD Cert.GlaInRefIdeal.τ).loc Cert.GlaInRefIdeal.main_arg3)
          ∧ r.2.mem ((c.tc : Thread Cert.GlaInRefIdeal.nD Cert.GlaInRefIdeal.τ).loc Cert.GlaInRefIdeal.main_arg4) = m' ((c.tc : Thread Cert.GlaInRefIdeal.nD Cert.GlaInRefIdeal.τ).loc Cert.GlaInRefIdeal.main_arg4)
          ∧ r.2.mem ((c.tc : Thread Cert.GlaInRefIdeal.nD Cert.GlaInRefIdeal.τ).loc Cert.GlaInRefIdeal.main_arg5) = m' ((c.tc : Thread Cert.GlaInRefIdeal.nD Cert.GlaInRefIdeal.τ).loc Cert.GlaInRefIdeal.main_arg5)
          ∧ r.2.mem ((c.tc : Thread Cert.GlaInRefIdeal.nD Cert.GlaInRefIdeal.τ).loc Cert.GlaInRefIdeal.main_arg6) = m' ((c.tc : Thread Cert.GlaInRefIdeal.nD Cert.GlaInRefIdeal.τ).loc Cert.GlaInRefIdeal.main_arg6))

def preserves_KvSample_KvSampleIdeal : Prop :=
  True

def algebraic_KvSampleIdeal_KvSampleRefIdeal [hKvSampleIdeal : Cert.KvSampleIdeal.Facts] [hKvSampleRefIdeal : Cert.KvSampleRefIdeal.Facts] : Prop :=
  ∀ (m : (ℓ : Loc Cert.KvSampleIdeal.nD Cert.KvSampleIdeal.τ Cert.KvSampleIdeal.sig) → Buf (Elt Ideal) ℓ) (g : Dev Cert.KvSampleIdeal.nD → PrngReg)
    (m' : (ℓ : Loc Cert.KvSampleRefIdeal.nD Cert.KvSampleRefIdeal.τ Cert.KvSampleRefIdeal.sig) → Buf (Elt Ideal) ℓ) (g' : Dev Cert.KvSampleRefIdeal.nD → PrngReg), Pre_KvSampleIdeal m →
    (∀ c : Dev Cert.KvSampleIdeal.nD,
      m' ((c.tc : Thread Cert.KvSampleRefIdeal.nD Cert.KvSampleRefIdeal.τ).loc Cert.KvSampleRefIdeal.main_arg0) = m ((c.tc : Thread Cert.KvSampleIdeal.nD Cert.KvSampleIdeal.τ).loc Cert.KvSampleIdeal.main_arg0)
      ∧ m' ((c.tc : Thread Cert.KvSampleRefIdeal.nD Cert.KvSampleRefIdeal.τ).loc Cert.KvSampleRefIdeal.main_arg1) = m ((c.tc : Thread Cert.KvSampleIdeal.nD Cert.KvSampleIdeal.τ).loc Cert.KvSampleIdeal.main_arg1)
      ∧ m' ((c.tc : Thread Cert.KvSampleRefIdeal.nD Cert.KvSampleRefIdeal.τ).loc Cert.KvSampleRefIdeal.main_arg2) = m ((c.tc : Thread Cert.KvSampleIdeal.nD Cert.KvSampleIdeal.τ).loc Cert.KvSampleIdeal.main_arg2)
      ∧ m' ((c.tc : Thread Cert.KvSampleRefIdeal.nD Cert.KvSampleRefIdeal.τ).loc Cert.KvSampleRefIdeal.main_arg3) = m ((c.tc : Thread Cert.KvSampleIdeal.nD Cert.KvSampleIdeal.τ).loc Cert.KvSampleIdeal.main_arg3)
      ∧ m' ((c.tc : Thread Cert.KvSampleRefIdeal.nD Cert.KvSampleRefIdeal.τ).loc Cert.KvSampleRefIdeal.main_arg4) = m ((c.tc : Thread Cert.KvSampleIdeal.nD Cert.KvSampleIdeal.τ).loc Cert.KvSampleIdeal.main_arg4)
      ∧ m' ((c.tc : Thread Cert.KvSampleRefIdeal.nD Cert.KvSampleRefIdeal.τ).loc Cert.KvSampleRefIdeal.main_arg5) = m ((c.tc : Thread Cert.KvSampleIdeal.nD Cert.KvSampleIdeal.τ).loc Cert.KvSampleIdeal.main_arg5)) →
    ∃ (v0 : (c : Dev Cert.KvSampleIdeal.nD) → Buf (Elt Ideal) ((c.tc : Thread Cert.KvSampleIdeal.nD Cert.KvSampleIdeal.τ).loc Cert.KvSampleIdeal.main_v9_0)) (v1 : (c : Dev Cert.KvSampleIdeal.nD) → Buf (Elt Ideal) ((c.tc : Thread Cert.KvSampleIdeal.nD Cert.KvSampleIdeal.τ).loc Cert.KvSampleIdeal.main_v9_1)),
      θ_run (Cert.KvSampleIdeal.defs (F := Ideal)) (onTc (τ := Cert.KvSampleIdeal.τ) (Cert.KvSampleIdeal.main (F := Ideal))) ⟨m, fun _ => 0, g⟩ (fun r => ∀ c : Dev Cert.KvSampleIdeal.nD,
          r.2.mem ((c.tc : Thread Cert.KvSampleIdeal.nD Cert.KvSampleIdeal.τ).loc Cert.KvSampleIdeal.main_v9_0) = v0 c
          ∧ r.2.mem ((c.tc : Thread Cert.KvSampleIdeal.nD Cert.KvSampleIdeal.τ).loc Cert.KvSampleIdeal.main_v9_1) = v1 c
          ∧ r.2.mem ((c.tc : Thread Cert.KvSampleIdeal.nD Cert.KvSampleIdeal.τ).loc Cert.KvSampleIdeal.main_arg0) = m ((c.tc : Thread Cert.KvSampleIdeal.nD Cert.KvSampleIdeal.τ).loc Cert.KvSampleIdeal.main_arg0)
          ∧ r.2.mem ((c.tc : Thread Cert.KvSampleIdeal.nD Cert.KvSampleIdeal.τ).loc Cert.KvSampleIdeal.main_arg1) = m ((c.tc : Thread Cert.KvSampleIdeal.nD Cert.KvSampleIdeal.τ).loc Cert.KvSampleIdeal.main_arg1)
          ∧ r.2.mem ((c.tc : Thread Cert.KvSampleIdeal.nD Cert.KvSampleIdeal.τ).loc Cert.KvSampleIdeal.main_arg2) = m ((c.tc : Thread Cert.KvSampleIdeal.nD Cert.KvSampleIdeal.τ).loc Cert.KvSampleIdeal.main_arg2)
          ∧ r.2.mem ((c.tc : Thread Cert.KvSampleIdeal.nD Cert.KvSampleIdeal.τ).loc Cert.KvSampleIdeal.main_arg3) = m ((c.tc : Thread Cert.KvSampleIdeal.nD Cert.KvSampleIdeal.τ).loc Cert.KvSampleIdeal.main_arg3)
          ∧ r.2.mem ((c.tc : Thread Cert.KvSampleIdeal.nD Cert.KvSampleIdeal.τ).loc Cert.KvSampleIdeal.main_arg4) = m ((c.tc : Thread Cert.KvSampleIdeal.nD Cert.KvSampleIdeal.τ).loc Cert.KvSampleIdeal.main_arg4)
          ∧ r.2.mem ((c.tc : Thread Cert.KvSampleIdeal.nD Cert.KvSampleIdeal.τ).loc Cert.KvSampleIdeal.main_arg5) = m ((c.tc : Thread Cert.KvSampleIdeal.nD Cert.KvSampleIdeal.τ).loc Cert.KvSampleIdeal.main_arg5))
      ∧ θ_run (Cert.KvSampleRefIdeal.defs (F := Ideal)) (onTc (τ := Cert.KvSampleRefIdeal.τ) (Cert.KvSampleRefIdeal.main (F := Ideal))) ⟨m', fun _ => 0, g'⟩ (fun r => ∀ c : Dev Cert.KvSampleRefIdeal.nD,
          r.2.mem ((c.tc : Thread Cert.KvSampleRefIdeal.nD Cert.KvSampleRefIdeal.τ).loc Cert.KvSampleRefIdeal.main_v39) = v0 c
          ∧ r.2.mem ((c.tc : Thread Cert.KvSampleRefIdeal.nD Cert.KvSampleRefIdeal.τ).loc Cert.KvSampleRefIdeal.main_v40) = v1 c
          ∧ r.2.mem ((c.tc : Thread Cert.KvSampleRefIdeal.nD Cert.KvSampleRefIdeal.τ).loc Cert.KvSampleRefIdeal.main_arg0) = m' ((c.tc : Thread Cert.KvSampleRefIdeal.nD Cert.KvSampleRefIdeal.τ).loc Cert.KvSampleRefIdeal.main_arg0)
          ∧ r.2.mem ((c.tc : Thread Cert.KvSampleRefIdeal.nD Cert.KvSampleRefIdeal.τ).loc Cert.KvSampleRefIdeal.main_arg1) = m' ((c.tc : Thread Cert.KvSampleRefIdeal.nD Cert.KvSampleRefIdeal.τ).loc Cert.KvSampleRefIdeal.main_arg1)
          ∧ r.2.mem ((c.tc : Thread Cert.KvSampleRefIdeal.nD Cert.KvSampleRefIdeal.τ).loc Cert.KvSampleRefIdeal.main_arg2) = m' ((c.tc : Thread Cert.KvSampleRefIdeal.nD Cert.KvSampleRefIdeal.τ).loc Cert.KvSampleRefIdeal.main_arg2)
          ∧ r.2.mem ((c.tc : Thread Cert.KvSampleRefIdeal.nD Cert.KvSampleRefIdeal.τ).loc Cert.KvSampleRefIdeal.main_arg3) = m' ((c.tc : Thread Cert.KvSampleRefIdeal.nD Cert.KvSampleRefIdeal.τ).loc Cert.KvSampleRefIdeal.main_arg3)
          ∧ r.2.mem ((c.tc : Thread Cert.KvSampleRefIdeal.nD Cert.KvSampleRefIdeal.τ).loc Cert.KvSampleRefIdeal.main_arg4) = m' ((c.tc : Thread Cert.KvSampleRefIdeal.nD Cert.KvSampleRefIdeal.τ).loc Cert.KvSampleRefIdeal.main_arg4)
          ∧ r.2.mem ((c.tc : Thread Cert.KvSampleRefIdeal.nD Cert.KvSampleRefIdeal.τ).loc Cert.KvSampleRefIdeal.main_arg5) = m' ((c.tc : Thread Cert.KvSampleRefIdeal.nD Cert.KvSampleRefIdeal.τ).loc Cert.KvSampleRefIdeal.main_arg5))

def preserves_MobaSample_MobaSampleIdeal : Prop :=
  True

def algebraic_MobaSampleIdeal_MobaSampleRefIdeal_pre_numbers_sample [hMobaSampleIdeal : Cert.MobaSampleIdeal.Facts] [hMobaSampleRefIdeal : Cert.MobaSampleRefIdeal.Facts] [hPre_numbers_sample : Cert.Pre_numbers_sample.Facts] : Prop :=
  ∀ (m : (ℓ : Loc Cert.MobaSampleIdeal.nD Cert.MobaSampleIdeal.τ Cert.MobaSampleIdeal.sig) → Buf (Elt Ideal) ℓ) (g : Dev Cert.MobaSampleIdeal.nD → PrngReg)
    (m' : (ℓ : Loc Cert.MobaSampleRefIdeal.nD Cert.MobaSampleRefIdeal.τ Cert.MobaSampleRefIdeal.sig) → Buf (Elt Ideal) ℓ) (g' : Dev Cert.MobaSampleRefIdeal.nD → PrngReg), Pre_MobaSampleIdeal_numbers_sample m →
    (∀ c : Dev Cert.MobaSampleIdeal.nD,
      m' ((c.tc : Thread Cert.MobaSampleRefIdeal.nD Cert.MobaSampleRefIdeal.τ).loc Cert.MobaSampleRefIdeal.main_arg0) = m ((c.tc : Thread Cert.MobaSampleIdeal.nD Cert.MobaSampleIdeal.τ).loc Cert.MobaSampleIdeal.main_arg0)
      ∧ m' ((c.tc : Thread Cert.MobaSampleRefIdeal.nD Cert.MobaSampleRefIdeal.τ).loc Cert.MobaSampleRefIdeal.main_arg1) = m ((c.tc : Thread Cert.MobaSampleIdeal.nD Cert.MobaSampleIdeal.τ).loc Cert.MobaSampleIdeal.main_arg1)
      ∧ m' ((c.tc : Thread Cert.MobaSampleRefIdeal.nD Cert.MobaSampleRefIdeal.τ).loc Cert.MobaSampleRefIdeal.main_arg2) = m ((c.tc : Thread Cert.MobaSampleIdeal.nD Cert.MobaSampleIdeal.τ).loc Cert.MobaSampleIdeal.main_arg2)
      ∧ m' ((c.tc : Thread Cert.MobaSampleRefIdeal.nD Cert.MobaSampleRefIdeal.τ).loc Cert.MobaSampleRefIdeal.main_arg3) = m ((c.tc : Thread Cert.MobaSampleIdeal.nD Cert.MobaSampleIdeal.τ).loc Cert.MobaSampleIdeal.main_arg3)
      ∧ m' ((c.tc : Thread Cert.MobaSampleRefIdeal.nD Cert.MobaSampleRefIdeal.τ).loc Cert.MobaSampleRefIdeal.main_arg4) = m ((c.tc : Thread Cert.MobaSampleIdeal.nD Cert.MobaSampleIdeal.τ).loc Cert.MobaSampleIdeal.main_arg4)
      ∧ m' ((c.tc : Thread Cert.MobaSampleRefIdeal.nD Cert.MobaSampleRefIdeal.τ).loc Cert.MobaSampleRefIdeal.main_arg5) = m ((c.tc : Thread Cert.MobaSampleIdeal.nD Cert.MobaSampleIdeal.τ).loc Cert.MobaSampleIdeal.main_arg5)
      ∧ m' ((c.tc : Thread Cert.MobaSampleRefIdeal.nD Cert.MobaSampleRefIdeal.τ).loc Cert.MobaSampleRefIdeal.main_arg6) = m ((c.tc : Thread Cert.MobaSampleIdeal.nD Cert.MobaSampleIdeal.τ).loc Cert.MobaSampleIdeal.main_arg6)
      ∧ m' ((c.tc : Thread Cert.MobaSampleRefIdeal.nD Cert.MobaSampleRefIdeal.τ).loc Cert.MobaSampleRefIdeal.main_arg7) = m ((c.tc : Thread Cert.MobaSampleIdeal.nD Cert.MobaSampleIdeal.τ).loc Cert.MobaSampleIdeal.main_arg7)
      ∧ m' ((c.tc : Thread Cert.MobaSampleRefIdeal.nD Cert.MobaSampleRefIdeal.τ).loc Cert.MobaSampleRefIdeal.main_arg8) = m ((c.tc : Thread Cert.MobaSampleIdeal.nD Cert.MobaSampleIdeal.τ).loc Cert.MobaSampleIdeal.main_arg8)
      ∧ m' ((c.tc : Thread Cert.MobaSampleRefIdeal.nD Cert.MobaSampleRefIdeal.τ).loc Cert.MobaSampleRefIdeal.main_arg9) = m ((c.tc : Thread Cert.MobaSampleIdeal.nD Cert.MobaSampleIdeal.τ).loc Cert.MobaSampleIdeal.main_arg9)) →
    ∃ (v0 : (c : Dev Cert.MobaSampleIdeal.nD) → Buf (Elt Ideal) ((c.tc : Thread Cert.MobaSampleIdeal.nD Cert.MobaSampleIdeal.τ).loc Cert.MobaSampleIdeal.main_v16)),
      θ_run (Cert.MobaSampleIdeal.defs (F := Ideal)) (onTc (τ := Cert.MobaSampleIdeal.τ) (Cert.MobaSampleIdeal.main (F := Ideal))) ⟨m, fun _ => 0, g⟩ (fun r => ∀ c : Dev Cert.MobaSampleIdeal.nD,
          r.2.mem ((c.tc : Thread Cert.MobaSampleIdeal.nD Cert.MobaSampleIdeal.τ).loc Cert.MobaSampleIdeal.main_v16) = v0 c
          ∧ r.2.mem ((c.tc : Thread Cert.MobaSampleIdeal.nD Cert.MobaSampleIdeal.τ).loc Cert.MobaSampleIdeal.main_arg0) = m ((c.tc : Thread Cert.MobaSampleIdeal.nD Cert.MobaSampleIdeal.τ).loc Cert.MobaSampleIdeal.main_arg0)
          ∧ r.2.mem ((c.tc : Thread Cert.MobaSampleIdeal.nD Cert.MobaSampleIdeal.τ).loc Cert.MobaSampleIdeal.main_arg1) = m ((c.tc : Thread Cert.MobaSampleIdeal.nD Cert.MobaSampleIdeal.τ).loc Cert.MobaSampleIdeal.main_arg1)
          ∧ r.2.mem ((c.tc : Thread Cert.MobaSampleIdeal.nD Cert.MobaSampleIdeal.τ).loc Cert.MobaSampleIdeal.main_arg2) = m ((c.tc : Thread Cert.MobaSampleIdeal.nD Cert.MobaSampleIdeal.τ).loc Cert.MobaSampleIdeal.main_arg2)
          ∧ r.2.mem ((c.tc : Thread Cert.MobaSampleIdeal.nD Cert.MobaSampleIdeal.τ).loc Cert.MobaSampleIdeal.main_arg3) = m ((c.tc : Thread Cert.MobaSampleIdeal.nD Cert.MobaSampleIdeal.τ).loc Cert.MobaSampleIdeal.main_arg3)
          ∧ r.2.mem ((c.tc : Thread Cert.MobaSampleIdeal.nD Cert.MobaSampleIdeal.τ).loc Cert.MobaSampleIdeal.main_arg4) = m ((c.tc : Thread Cert.MobaSampleIdeal.nD Cert.MobaSampleIdeal.τ).loc Cert.MobaSampleIdeal.main_arg4)
          ∧ r.2.mem ((c.tc : Thread Cert.MobaSampleIdeal.nD Cert.MobaSampleIdeal.τ).loc Cert.MobaSampleIdeal.main_arg5) = m ((c.tc : Thread Cert.MobaSampleIdeal.nD Cert.MobaSampleIdeal.τ).loc Cert.MobaSampleIdeal.main_arg5)
          ∧ r.2.mem ((c.tc : Thread Cert.MobaSampleIdeal.nD Cert.MobaSampleIdeal.τ).loc Cert.MobaSampleIdeal.main_arg6) = m ((c.tc : Thread Cert.MobaSampleIdeal.nD Cert.MobaSampleIdeal.τ).loc Cert.MobaSampleIdeal.main_arg6)
          ∧ r.2.mem ((c.tc : Thread Cert.MobaSampleIdeal.nD Cert.MobaSampleIdeal.τ).loc Cert.MobaSampleIdeal.main_arg7) = m ((c.tc : Thread Cert.MobaSampleIdeal.nD Cert.MobaSampleIdeal.τ).loc Cert.MobaSampleIdeal.main_arg7)
          ∧ r.2.mem ((c.tc : Thread Cert.MobaSampleIdeal.nD Cert.MobaSampleIdeal.τ).loc Cert.MobaSampleIdeal.main_arg8) = m ((c.tc : Thread Cert.MobaSampleIdeal.nD Cert.MobaSampleIdeal.τ).loc Cert.MobaSampleIdeal.main_arg8)
          ∧ r.2.mem ((c.tc : Thread Cert.MobaSampleIdeal.nD Cert.MobaSampleIdeal.τ).loc Cert.MobaSampleIdeal.main_arg9) = m ((c.tc : Thread Cert.MobaSampleIdeal.nD Cert.MobaSampleIdeal.τ).loc Cert.MobaSampleIdeal.main_arg9))
      ∧ θ_run (Cert.MobaSampleRefIdeal.defs (F := Ideal)) (onTc (τ := Cert.MobaSampleRefIdeal.τ) (Cert.MobaSampleRefIdeal.main (F := Ideal))) ⟨m', fun _ => 0, g'⟩ (fun r => ∀ c : Dev Cert.MobaSampleRefIdeal.nD,
          r.2.mem ((c.tc : Thread Cert.MobaSampleRefIdeal.nD Cert.MobaSampleRefIdeal.τ).loc Cert.MobaSampleRefIdeal.main_v36) = v0 c
          ∧ r.2.mem ((c.tc : Thread Cert.MobaSampleRefIdeal.nD Cert.MobaSampleRefIdeal.τ).loc Cert.MobaSampleRefIdeal.main_arg0) = m' ((c.tc : Thread Cert.MobaSampleRefIdeal.nD Cert.MobaSampleRefIdeal.τ).loc Cert.MobaSampleRefIdeal.main_arg0)
          ∧ r.2.mem ((c.tc : Thread Cert.MobaSampleRefIdeal.nD Cert.MobaSampleRefIdeal.τ).loc Cert.MobaSampleRefIdeal.main_arg1) = m' ((c.tc : Thread Cert.MobaSampleRefIdeal.nD Cert.MobaSampleRefIdeal.τ).loc Cert.MobaSampleRefIdeal.main_arg1)
          ∧ r.2.mem ((c.tc : Thread Cert.MobaSampleRefIdeal.nD Cert.MobaSampleRefIdeal.τ).loc Cert.MobaSampleRefIdeal.main_arg2) = m' ((c.tc : Thread Cert.MobaSampleRefIdeal.nD Cert.MobaSampleRefIdeal.τ).loc Cert.MobaSampleRefIdeal.main_arg2)
          ∧ r.2.mem ((c.tc : Thread Cert.MobaSampleRefIdeal.nD Cert.MobaSampleRefIdeal.τ).loc Cert.MobaSampleRefIdeal.main_arg3) = m' ((c.tc : Thread Cert.MobaSampleRefIdeal.nD Cert.MobaSampleRefIdeal.τ).loc Cert.MobaSampleRefIdeal.main_arg3)
          ∧ r.2.mem ((c.tc : Thread Cert.MobaSampleRefIdeal.nD Cert.MobaSampleRefIdeal.τ).loc Cert.MobaSampleRefIdeal.main_arg4) = m' ((c.tc : Thread Cert.MobaSampleRefIdeal.nD Cert.MobaSampleRefIdeal.τ).loc Cert.MobaSampleRefIdeal.main_arg4)
          ∧ r.2.mem ((c.tc : Thread Cert.MobaSampleRefIdeal.nD Cert.MobaSampleRefIdeal.τ).loc Cert.MobaSampleRefIdeal.main_arg5) = m' ((c.tc : Thread Cert.MobaSampleRefIdeal.nD Cert.MobaSampleRefIdeal.τ).loc Cert.MobaSampleRefIdeal.main_arg5)
          ∧ r.2.mem ((c.tc : Thread Cert.MobaSampleRefIdeal.nD Cert.MobaSampleRefIdeal.τ).loc Cert.MobaSampleRefIdeal.main_arg6) = m' ((c.tc : Thread Cert.MobaSampleRefIdeal.nD Cert.MobaSampleRefIdeal.τ).loc Cert.MobaSampleRefIdeal.main_arg6)
          ∧ r.2.mem ((c.tc : Thread Cert.MobaSampleRefIdeal.nD Cert.MobaSampleRefIdeal.τ).loc Cert.MobaSampleRefIdeal.main_arg7) = m' ((c.tc : Thread Cert.MobaSampleRefIdeal.nD Cert.MobaSampleRefIdeal.τ).loc Cert.MobaSampleRefIdeal.main_arg7)
          ∧ r.2.mem ((c.tc : Thread Cert.MobaSampleRefIdeal.nD Cert.MobaSampleRefIdeal.τ).loc Cert.MobaSampleRefIdeal.main_arg8) = m' ((c.tc : Thread Cert.MobaSampleRefIdeal.nD Cert.MobaSampleRefIdeal.τ).loc Cert.MobaSampleRefIdeal.main_arg8)
          ∧ r.2.mem ((c.tc : Thread Cert.MobaSampleRefIdeal.nD Cert.MobaSampleRefIdeal.τ).loc Cert.MobaSampleRefIdeal.main_arg9) = m' ((c.tc : Thread Cert.MobaSampleRefIdeal.nD Cert.MobaSampleRefIdeal.τ).loc Cert.MobaSampleRefIdeal.main_arg9))

def preserves_RecSample_RecSampleIdeal : Prop :=
  True

def algebraic_RecSampleIdeal_RecSampleRefIdeal_pre_finite_sample [hRecSampleIdeal : Cert.RecSampleIdeal.Facts] [hRecSampleRefIdeal : Cert.RecSampleRefIdeal.Facts] [hPre_finite_sample : Cert.Pre_finite_sample.Facts] : Prop :=
  ∀ (m : (ℓ : Loc Cert.RecSampleIdeal.nD Cert.RecSampleIdeal.τ Cert.RecSampleIdeal.sig) → Buf (Elt Ideal) ℓ) (g : Dev Cert.RecSampleIdeal.nD → PrngReg)
    (m' : (ℓ : Loc Cert.RecSampleRefIdeal.nD Cert.RecSampleRefIdeal.τ Cert.RecSampleRefIdeal.sig) → Buf (Elt Ideal) ℓ) (g' : Dev Cert.RecSampleRefIdeal.nD → PrngReg), Pre_RecSampleIdeal_finite_sample m →
    (∀ c : Dev Cert.RecSampleIdeal.nD,
      m' ((c.tc : Thread Cert.RecSampleRefIdeal.nD Cert.RecSampleRefIdeal.τ).loc Cert.RecSampleRefIdeal.main_arg0) = m ((c.tc : Thread Cert.RecSampleIdeal.nD Cert.RecSampleIdeal.τ).loc Cert.RecSampleIdeal.main_arg0)
      ∧ m' ((c.tc : Thread Cert.RecSampleRefIdeal.nD Cert.RecSampleRefIdeal.τ).loc Cert.RecSampleRefIdeal.main_arg1) = m ((c.tc : Thread Cert.RecSampleIdeal.nD Cert.RecSampleIdeal.τ).loc Cert.RecSampleIdeal.main_arg1)
      ∧ m' ((c.tc : Thread Cert.RecSampleRefIdeal.nD Cert.RecSampleRefIdeal.τ).loc Cert.RecSampleRefIdeal.main_arg2) = m ((c.tc : Thread Cert.RecSampleIdeal.nD Cert.RecSampleIdeal.τ).loc Cert.RecSampleIdeal.main_arg2)
      ∧ m' ((c.tc : Thread Cert.RecSampleRefIdeal.nD Cert.RecSampleRefIdeal.τ).loc Cert.RecSampleRefIdeal.main_arg3) = m ((c.tc : Thread Cert.RecSampleIdeal.nD Cert.RecSampleIdeal.τ).loc Cert.RecSampleIdeal.main_arg3)) →
    ∃ (v0 : (c : Dev Cert.RecSampleIdeal.nD) → Buf (Elt Ideal) ((c.tc : Thread Cert.RecSampleIdeal.nD Cert.RecSampleIdeal.τ).loc Cert.RecSampleIdeal.main_v12)) (v1 : (c : Dev Cert.RecSampleIdeal.nD) → Buf (Elt Ideal) ((c.tc : Thread Cert.RecSampleIdeal.nD Cert.RecSampleIdeal.τ).loc Cert.RecSampleIdeal.main_v9_1)),
      θ_run (Cert.RecSampleIdeal.defs (F := Ideal)) (onTc (τ := Cert.RecSampleIdeal.τ) (Cert.RecSampleIdeal.main (F := Ideal))) ⟨m, fun _ => 0, g⟩ (fun r => ∀ c : Dev Cert.RecSampleIdeal.nD,
          r.2.mem ((c.tc : Thread Cert.RecSampleIdeal.nD Cert.RecSampleIdeal.τ).loc Cert.RecSampleIdeal.main_v12) = v0 c
          ∧ r.2.mem ((c.tc : Thread Cert.RecSampleIdeal.nD Cert.RecSampleIdeal.τ).loc Cert.RecSampleIdeal.main_v9_1) = v1 c
          ∧ r.2.mem ((c.tc : Thread Cert.RecSampleIdeal.nD Cert.RecSampleIdeal.τ).loc Cert.RecSampleIdeal.main_arg0) = m ((c.tc : Thread Cert.RecSampleIdeal.nD Cert.RecSampleIdeal.τ).loc Cert.RecSampleIdeal.main_arg0)
          ∧ r.2.mem ((c.tc : Thread Cert.RecSampleIdeal.nD Cert.RecSampleIdeal.τ).loc Cert.RecSampleIdeal.main_arg1) = m ((c.tc : Thread Cert.RecSampleIdeal.nD Cert.RecSampleIdeal.τ).loc Cert.RecSampleIdeal.main_arg1)
          ∧ r.2.mem ((c.tc : Thread Cert.RecSampleIdeal.nD Cert.RecSampleIdeal.τ).loc Cert.RecSampleIdeal.main_arg2) = m ((c.tc : Thread Cert.RecSampleIdeal.nD Cert.RecSampleIdeal.τ).loc Cert.RecSampleIdeal.main_arg2)
          ∧ r.2.mem ((c.tc : Thread Cert.RecSampleIdeal.nD Cert.RecSampleIdeal.τ).loc Cert.RecSampleIdeal.main_arg3) = m ((c.tc : Thread Cert.RecSampleIdeal.nD Cert.RecSampleIdeal.τ).loc Cert.RecSampleIdeal.main_arg3))
      ∧ θ_run (Cert.RecSampleRefIdeal.defs (F := Ideal)) (onTc (τ := Cert.RecSampleRefIdeal.τ) (Cert.RecSampleRefIdeal.main (F := Ideal))) ⟨m', fun _ => 0, g'⟩ (fun r => ∀ c : Dev Cert.RecSampleRefIdeal.nD,
          r.2.mem ((c.tc : Thread Cert.RecSampleRefIdeal.nD Cert.RecSampleRefIdeal.τ).loc Cert.RecSampleRefIdeal.main_v45) = v0 c
          ∧ r.2.mem ((c.tc : Thread Cert.RecSampleRefIdeal.nD Cert.RecSampleRefIdeal.τ).loc Cert.RecSampleRefIdeal.main_v43) = v1 c
          ∧ r.2.mem ((c.tc : Thread Cert.RecSampleRefIdeal.nD Cert.RecSampleRefIdeal.τ).loc Cert.RecSampleRefIdeal.main_arg0) = m' ((c.tc : Thread Cert.RecSampleRefIdeal.nD Cert.RecSampleRefIdeal.τ).loc Cert.RecSampleRefIdeal.main_arg0)
          ∧ r.2.mem ((c.tc : Thread Cert.RecSampleRefIdeal.nD Cert.RecSampleRefIdeal.τ).loc Cert.RecSampleRefIdeal.main_arg1) = m' ((c.tc : Thread Cert.RecSampleRefIdeal.nD Cert.RecSampleRefIdeal.τ).loc Cert.RecSampleRefIdeal.main_arg1)
          ∧ r.2.mem ((c.tc : Thread Cert.RecSampleRefIdeal.nD Cert.RecSampleRefIdeal.τ).loc Cert.RecSampleRefIdeal.main_arg2) = m' ((c.tc : Thread Cert.RecSampleRefIdeal.nD Cert.RecSampleRefIdeal.τ).loc Cert.RecSampleRefIdeal.main_arg2)
          ∧ r.2.mem ((c.tc : Thread Cert.RecSampleRefIdeal.nD Cert.RecSampleRefIdeal.τ).loc Cert.RecSampleRefIdeal.main_arg3) = m' ((c.tc : Thread Cert.RecSampleRefIdeal.nD Cert.RecSampleRefIdeal.τ).loc Cert.RecSampleRefIdeal.main_arg3))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v5) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_Select_SelectIdeal : Prop :=
  True

def algebraic_SelectIdeal_SelectRefIdeal_pre_numbers_select [hSelectIdeal : Cert.SelectIdeal.Facts] [hSelectRefIdeal : Cert.SelectRefIdeal.Facts] [hPre_numbers_select : Cert.Pre_numbers_select.Facts] : Prop :=
  ∀ (m : (ℓ : Loc Cert.SelectIdeal.nD Cert.SelectIdeal.τ Cert.SelectIdeal.sig) → Buf (Elt Ideal) ℓ) (g : Dev Cert.SelectIdeal.nD → PrngReg)
    (m' : (ℓ : Loc Cert.SelectRefIdeal.nD Cert.SelectRefIdeal.τ Cert.SelectRefIdeal.sig) → Buf (Elt Ideal) ℓ) (g' : Dev Cert.SelectRefIdeal.nD → PrngReg), Pre_SelectIdeal_numbers_select m →
    (∀ c : Dev Cert.SelectIdeal.nD,
      m' ((c.tc : Thread Cert.SelectRefIdeal.nD Cert.SelectRefIdeal.τ).loc Cert.SelectRefIdeal.main_arg0) = m ((c.tc : Thread Cert.SelectIdeal.nD Cert.SelectIdeal.τ).loc Cert.SelectIdeal.main_arg0)
      ∧ m' ((c.tc : Thread Cert.SelectRefIdeal.nD Cert.SelectRefIdeal.τ).loc Cert.SelectRefIdeal.main_arg1) = m ((c.tc : Thread Cert.SelectIdeal.nD Cert.SelectIdeal.τ).loc Cert.SelectIdeal.main_arg1)) →
    ∃ (v0 : (c : Dev Cert.SelectIdeal.nD) → Buf (Elt Ideal) ((c.tc : Thread Cert.SelectIdeal.nD Cert.SelectIdeal.τ).loc Cert.SelectIdeal.main_v5)),
      θ_run (Cert.SelectIdeal.defs (F := Ideal)) (onTc (τ := Cert.SelectIdeal.τ) (Cert.SelectIdeal.main (F := Ideal))) ⟨m, fun _ => 0, g⟩ (fun r => ∀ c : Dev Cert.SelectIdeal.nD,
          r.2.mem ((c.tc : Thread Cert.SelectIdeal.nD Cert.SelectIdeal.τ).loc Cert.SelectIdeal.main_v5) = v0 c
          ∧ r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
          ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1))
      ∧ θ_run (Cert.SelectRefIdeal.defs (F := Ideal)) (onTc (τ := Cert.SelectRefIdeal.τ) (Cert.SelectRefIdeal.main (F := Ideal))) ⟨m', fun _ => 0, g'⟩ (fun r => ∀ c : Dev Cert.SelectRefIdeal.nD,
          r.2.mem ((c.tc : Thread Cert.SelectRefIdeal.nD Cert.SelectRefIdeal.τ).loc Cert.SelectRefIdeal.main_indices) = v0 c
          ∧ r.2.mem ((c.tc : Thread Cert.SelectRefIdeal.nD Cert.SelectRefIdeal.τ).loc Cert.SelectRefIdeal.main_arg0) = m' ((c.tc : Thread Cert.SelectRefIdeal.nD Cert.SelectRefIdeal.τ).loc Cert.SelectRefIdeal.main_arg0)
          ∧ r.2.mem ((c.tc : Thread Cert.SelectRefIdeal.nD Cert.SelectRefIdeal.τ).loc Cert.SelectRefIdeal.main_arg1) = m' ((c.tc : Thread Cert.SelectRefIdeal.nD Cert.SelectRefIdeal.τ).loc Cert.SelectRefIdeal.main_arg1))

def preserves_Queries_QueriesIdeal : Prop :=
  True

def algebraic_QueriesIdeal_QueriesRefIdeal [hQueriesIdeal : Cert.QueriesIdeal.Facts] [hQueriesRefIdeal : Cert.QueriesRefIdeal.Facts] : Prop :=
  ∀ (m : (ℓ : Loc Cert.QueriesIdeal.nD Cert.QueriesIdeal.τ Cert.QueriesIdeal.sig) → Buf (Elt Ideal) ℓ) (g : Dev Cert.QueriesIdeal.nD → PrngReg)
    (m' : (ℓ : Loc Cert.QueriesRefIdeal.nD Cert.QueriesRefIdeal.τ Cert.QueriesRefIdeal.sig) → Buf (Elt Ideal) ℓ) (g' : Dev Cert.QueriesRefIdeal.nD → PrngReg), Pre_QueriesIdeal m →
    (∀ c : Dev Cert.QueriesIdeal.nD,
      m' ((c.tc : Thread Cert.QueriesRefIdeal.nD Cert.QueriesRefIdeal.τ).loc Cert.QueriesRefIdeal.main_arg0) = m ((c.tc : Thread Cert.QueriesIdeal.nD Cert.QueriesIdeal.τ).loc Cert.QueriesIdeal.main_arg0)
      ∧ m' ((c.tc : Thread Cert.QueriesRefIdeal.nD Cert.QueriesRefIdeal.τ).loc Cert.QueriesRefIdeal.main_arg1) = m ((c.tc : Thread Cert.QueriesIdeal.nD Cert.QueriesIdeal.τ).loc Cert.QueriesIdeal.main_arg1)
      ∧ m' ((c.tc : Thread Cert.QueriesRefIdeal.nD Cert.QueriesRefIdeal.τ).loc Cert.QueriesRefIdeal.main_arg2) = m ((c.tc : Thread Cert.QueriesIdeal.nD Cert.QueriesIdeal.τ).loc Cert.QueriesIdeal.main_arg2)
      ∧ m' ((c.tc : Thread Cert.QueriesRefIdeal.nD Cert.QueriesRefIdeal.τ).loc Cert.QueriesRefIdeal.main_arg3) = m ((c.tc : Thread Cert.QueriesIdeal.nD Cert.QueriesIdeal.τ).loc Cert.QueriesIdeal.main_arg3)
      ∧ m' ((c.tc : Thread Cert.QueriesRefIdeal.nD Cert.QueriesRefIdeal.τ).loc Cert.QueriesRefIdeal.main_arg4) = m ((c.tc : Thread Cert.QueriesIdeal.nD Cert.QueriesIdeal.τ).loc Cert.QueriesIdeal.main_arg4)
      ∧ m' ((c.tc : Thread Cert.QueriesRefIdeal.nD Cert.QueriesRefIdeal.τ).loc Cert.QueriesRefIdeal.main_arg5) = m ((c.tc : Thread Cert.QueriesIdeal.nD Cert.QueriesIdeal.τ).loc Cert.QueriesIdeal.main_arg5)) →
    ∃ (v0 : (c : Dev Cert.QueriesIdeal.nD) → Buf (Elt Ideal) ((c.tc : Thread Cert.QueriesIdeal.nD Cert.QueriesIdeal.τ).loc Cert.QueriesIdeal.main_v9)),
      θ_run (Cert.QueriesIdeal.defs (F := Ideal)) (onTc (τ := Cert.QueriesIdeal.τ) (Cert.QueriesIdeal.main (F := Ideal))) ⟨m, fun _ => 0, g⟩ (fun r => ∀ c : Dev Cert.QueriesIdeal.nD,
          r.2.mem ((c.tc : Thread Cert.QueriesIdeal.nD Cert.QueriesIdeal.τ).loc Cert.QueriesIdeal.main_v9) = v0 c
          ∧ r.2.mem ((c.tc : Thread Cert.QueriesIdeal.nD Cert.QueriesIdeal.τ).loc Cert.QueriesIdeal.main_arg0) = m ((c.tc : Thread Cert.QueriesIdeal.nD Cert.QueriesIdeal.τ).loc Cert.QueriesIdeal.main_arg0)
          ∧ r.2.mem ((c.tc : Thread Cert.QueriesIdeal.nD Cert.QueriesIdeal.τ).loc Cert.QueriesIdeal.main_arg1) = m ((c.tc : Thread Cert.QueriesIdeal.nD Cert.QueriesIdeal.τ).loc Cert.QueriesIdeal.main_arg1)
          ∧ r.2.mem ((c.tc : Thread Cert.QueriesIdeal.nD Cert.QueriesIdeal.τ).loc Cert.QueriesIdeal.main_arg2) = m ((c.tc : Thread Cert.QueriesIdeal.nD Cert.QueriesIdeal.τ).loc Cert.QueriesIdeal.main_arg2)
          ∧ r.2.mem ((c.tc : Thread Cert.QueriesIdeal.nD Cert.QueriesIdeal.τ).loc Cert.QueriesIdeal.main_arg3) = m ((c.tc : Thread Cert.QueriesIdeal.nD Cert.QueriesIdeal.τ).loc Cert.QueriesIdeal.main_arg3)
          ∧ r.2.mem ((c.tc : Thread Cert.QueriesIdeal.nD Cert.QueriesIdeal.τ).loc Cert.QueriesIdeal.main_arg4) = m ((c.tc : Thread Cert.QueriesIdeal.nD Cert.QueriesIdeal.τ).loc Cert.QueriesIdeal.main_arg4)
          ∧ r.2.mem ((c.tc : Thread Cert.QueriesIdeal.nD Cert.QueriesIdeal.τ).loc Cert.QueriesIdeal.main_arg5) = m ((c.tc : Thread Cert.QueriesIdeal.nD Cert.QueriesIdeal.τ).loc Cert.QueriesIdeal.main_arg5))
      ∧ θ_run (Cert.QueriesRefIdeal.defs (F := Ideal)) (onTc (τ := Cert.QueriesRefIdeal.τ) (Cert.QueriesRefIdeal.main (F := Ideal))) ⟨m', fun _ => 0, g'⟩ (fun r => ∀ c : Dev Cert.QueriesRefIdeal.nD,
          r.2.mem ((c.tc : Thread Cert.QueriesRefIdeal.nD Cert.QueriesRefIdeal.τ).loc Cert.QueriesRefIdeal.main_v37) = v0 c
          ∧ r.2.mem ((c.tc : Thread Cert.QueriesRefIdeal.nD Cert.QueriesRefIdeal.τ).loc Cert.QueriesRefIdeal.main_arg0) = m' ((c.tc : Thread Cert.QueriesRefIdeal.nD Cert.QueriesRefIdeal.τ).loc Cert.QueriesRefIdeal.main_arg0)
          ∧ r.2.mem ((c.tc : Thread Cert.QueriesRefIdeal.nD Cert.QueriesRefIdeal.τ).loc Cert.QueriesRefIdeal.main_arg1) = m' ((c.tc : Thread Cert.QueriesRefIdeal.nD Cert.QueriesRefIdeal.τ).loc Cert.QueriesRefIdeal.main_arg1)
          ∧ r.2.mem ((c.tc : Thread Cert.QueriesRefIdeal.nD Cert.QueriesRefIdeal.τ).loc Cert.QueriesRefIdeal.main_arg2) = m' ((c.tc : Thread Cert.QueriesRefIdeal.nD Cert.QueriesRefIdeal.τ).loc Cert.QueriesRefIdeal.main_arg2)
          ∧ r.2.mem ((c.tc : Thread Cert.QueriesRefIdeal.nD Cert.QueriesRefIdeal.τ).loc Cert.QueriesRefIdeal.main_arg3) = m' ((c.tc : Thread Cert.QueriesRefIdeal.nD Cert.QueriesRefIdeal.τ).loc Cert.QueriesRefIdeal.main_arg3)
          ∧ r.2.mem ((c.tc : Thread Cert.QueriesRefIdeal.nD Cert.QueriesRefIdeal.τ).loc Cert.QueriesRefIdeal.main_arg4) = m' ((c.tc : Thread Cert.QueriesRefIdeal.nD Cert.QueriesRefIdeal.τ).loc Cert.QueriesRefIdeal.main_arg4)
          ∧ r.2.mem ((c.tc : Thread Cert.QueriesRefIdeal.nD Cert.QueriesRefIdeal.τ).loc Cert.QueriesRefIdeal.main_arg5) = m' ((c.tc : Thread Cert.QueriesRefIdeal.nD Cert.QueriesRefIdeal.τ).loc Cert.QueriesRefIdeal.main_arg5))

def Claim : Prop :=
  ∃ (hKernel : Cert.Kernel.Facts) (hKernelIdeal : Cert.KernelIdeal.Facts) (hReferenceIdeal : Cert.ReferenceIdeal.Facts) (hMoba : Cert.Moba.Facts) (hMobaIdeal : Cert.MobaIdeal.Facts) (hMobaRefIdeal : Cert.MobaRefIdeal.Facts) (hKv : Cert.Kv.Facts) (hKvIdeal : Cert.KvIdeal.Facts) (hKvRefIdeal : Cert.KvRefIdeal.Facts) (hGla : Cert.Gla.Facts) (hGlaIdeal : Cert.GlaIdeal.Facts) (hGlaRefIdeal : Cert.GlaRefIdeal.Facts) (hGlaIn : Cert.GlaIn.Facts) (hGlaInIdeal : Cert.GlaInIdeal.Facts) (hGlaInRefIdeal : Cert.GlaInRefIdeal.Facts) (hKvSample : Cert.KvSample.Facts) (hKvSampleIdeal : Cert.KvSampleIdeal.Facts) (hKvSampleRefIdeal : Cert.KvSampleRefIdeal.Facts) (hMobaSample : Cert.MobaSample.Facts) (hMobaSampleIdeal : Cert.MobaSampleIdeal.Facts) (hMobaSampleRefIdeal : Cert.MobaSampleRefIdeal.Facts) (hRecSample : Cert.RecSample.Facts) (hRecSampleIdeal : Cert.RecSampleIdeal.Facts) (hRecSampleRefIdeal : Cert.RecSampleRefIdeal.Facts) (hAda : Cert.Ada.Facts) (hAdaIdeal : Cert.AdaIdeal.Facts) (hAdaRefIdeal : Cert.AdaRefIdeal.Facts) (hSelect : Cert.Select.Facts) (hSelectIdeal : Cert.SelectIdeal.Facts) (hSelectRefIdeal : Cert.SelectRefIdeal.Facts) (hQueries : Cert.Queries.Facts) (hQueriesIdeal : Cert.QueriesIdeal.Facts) (hQueriesRefIdeal : Cert.QueriesRefIdeal.Facts) (hPre_finite : Cert.Pre_finite.Facts) (hPre_numbers : Cert.Pre_numbers.Facts) (hPre_numbers_gla : Cert.Pre_numbers_gla.Facts) (hPre_numbers_in : Cert.Pre_numbers_in.Facts) (hPre_numbers_sample : Cert.Pre_numbers_sample.Facts) (hPre_finite_sample : Cert.Pre_finite_sample.Facts) (hPre_numbers_select : Cert.Pre_numbers_select.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Moba (hMoba := hMoba)
    ∧ quiescent_MobaIdeal (hMobaIdeal := hMobaIdeal)
    ∧ quiescent_MobaIdeal_pre_numbers (hMobaIdeal := hMobaIdeal) (hPre_numbers := hPre_numbers)
    ∧ quiescent_MobaRefIdeal (hMobaRefIdeal := hMobaRefIdeal)
    ∧ quiescent_MobaRefIdeal_pre_numbers (hMobaRefIdeal := hMobaRefIdeal) (hPre_numbers := hPre_numbers)
    ∧ quiescent_Kv (hKv := hKv)
    ∧ quiescent_KvIdeal (hKvIdeal := hKvIdeal)
    ∧ quiescent_KvRefIdeal (hKvRefIdeal := hKvRefIdeal)
    ∧ quiescent_Gla (hGla := hGla)
    ∧ quiescent_GlaIdeal (hGlaIdeal := hGlaIdeal)
    ∧ quiescent_GlaIdeal_pre_numbers_gla (hGlaIdeal := hGlaIdeal) (hPre_numbers_gla := hPre_numbers_gla)
    ∧ quiescent_GlaRefIdeal (hGlaRefIdeal := hGlaRefIdeal)
    ∧ quiescent_GlaRefIdeal_pre_numbers_gla (hGlaRefIdeal := hGlaRefIdeal) (hPre_numbers_gla := hPre_numbers_gla)
    ∧ quiescent_GlaIn (hGlaIn := hGlaIn)
    ∧ quiescent_GlaInIdeal (hGlaInIdeal := hGlaInIdeal)
    ∧ quiescent_GlaInIdeal_pre_numbers_in (hGlaInIdeal := hGlaInIdeal) (hPre_numbers_in := hPre_numbers_in)
    ∧ quiescent_GlaInRefIdeal (hGlaInRefIdeal := hGlaInRefIdeal)
    ∧ quiescent_GlaInRefIdeal_pre_numbers_in (hGlaInRefIdeal := hGlaInRefIdeal) (hPre_numbers_in := hPre_numbers_in)
    ∧ quiescent_KvSample (hKvSample := hKvSample)
    ∧ quiescent_KvSampleIdeal (hKvSampleIdeal := hKvSampleIdeal)
    ∧ quiescent_KvSampleRefIdeal (hKvSampleRefIdeal := hKvSampleRefIdeal)
    ∧ quiescent_MobaSample (hMobaSample := hMobaSample)
    ∧ quiescent_MobaSampleIdeal (hMobaSampleIdeal := hMobaSampleIdeal)
    ∧ quiescent_MobaSampleIdeal_pre_numbers_sample (hMobaSampleIdeal := hMobaSampleIdeal) (hPre_numbers_sample := hPre_numbers_sample)
    ∧ quiescent_MobaSampleRefIdeal (hMobaSampleRefIdeal := hMobaSampleRefIdeal)
    ∧ quiescent_MobaSampleRefIdeal_pre_numbers_sample (hMobaSampleRefIdeal := hMobaSampleRefIdeal) (hPre_numbers_sample := hPre_numbers_sample)
    ∧ quiescent_RecSample (hRecSample := hRecSample)
    ∧ quiescent_RecSampleIdeal (hRecSampleIdeal := hRecSampleIdeal)
    ∧ quiescent_RecSampleIdeal_pre_finite_sample (hRecSampleIdeal := hRecSampleIdeal) (hPre_finite_sample := hPre_finite_sample)
    ∧ quiescent_RecSampleRefIdeal (hRecSampleRefIdeal := hRecSampleRefIdeal)
    ∧ quiescent_RecSampleRefIdeal_pre_finite_sample (hRecSampleRefIdeal := hRecSampleRefIdeal) (hPre_finite_sample := hPre_finite_sample)
    ∧ quiescent_Ada (hAda := hAda)
    ∧ quiescent_AdaIdeal (hAdaIdeal := hAdaIdeal)
    ∧ quiescent_AdaRefIdeal (hAdaRefIdeal := hAdaRefIdeal)
    ∧ quiescent_Select (hSelect := hSelect)
    ∧ quiescent_SelectIdeal (hSelectIdeal := hSelectIdeal)
    ∧ quiescent_SelectIdeal_pre_numbers_select (hSelectIdeal := hSelectIdeal) (hPre_numbers_select := hPre_numbers_select)
    ∧ quiescent_SelectRefIdeal (hSelectRefIdeal := hSelectRefIdeal)
    ∧ quiescent_SelectRefIdeal_pre_numbers_select (hSelectRefIdeal := hSelectRefIdeal) (hPre_numbers_select := hPre_numbers_select)
    ∧ quiescent_Queries (hQueries := hQueries)
    ∧ quiescent_QueriesIdeal (hQueriesIdeal := hQueriesIdeal)
    ∧ quiescent_QueriesRefIdeal (hQueriesRefIdeal := hQueriesRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Moba_MobaIdeal
    ∧ algebraic_MobaIdeal_MobaRefIdeal_pre_numbers (hMobaIdeal := hMobaIdeal) (hMobaRefIdeal := hMobaRefIdeal) (hPre_numbers := hPre_numbers)
    ∧ preserves_Kv_KvIdeal
    ∧ algebraic_KvIdeal_KvRefIdeal (hKvIdeal := hKvIdeal) (hKvRefIdeal := hKvRefIdeal)
    ∧ preserves_Gla_GlaIdeal
    ∧ algebraic_GlaIdeal_GlaRefIdeal_pre_numbers_gla (hGlaIdeal := hGlaIdeal) (hGlaRefIdeal := hGlaRefIdeal) (hPre_numbers_gla := hPre_numbers_gla)
    ∧ preserves_GlaIn_GlaInIdeal
    ∧ algebraic_GlaInIdeal_GlaInRefIdeal_pre_numbers_in (hGlaInIdeal := hGlaInIdeal) (hGlaInRefIdeal := hGlaInRefIdeal) (hPre_numbers_in := hPre_numbers_in)
    ∧ preserves_KvSample_KvSampleIdeal
    ∧ algebraic_KvSampleIdeal_KvSampleRefIdeal (hKvSampleIdeal := hKvSampleIdeal) (hKvSampleRefIdeal := hKvSampleRefIdeal)
    ∧ preserves_MobaSample_MobaSampleIdeal
    ∧ algebraic_MobaSampleIdeal_MobaSampleRefIdeal_pre_numbers_sample (hMobaSampleIdeal := hMobaSampleIdeal) (hMobaSampleRefIdeal := hMobaSampleRefIdeal) (hPre_numbers_sample := hPre_numbers_sample)
    ∧ preserves_RecSample_RecSampleIdeal
    ∧ algebraic_RecSampleIdeal_RecSampleRefIdeal_pre_finite_sample (hRecSampleIdeal := hRecSampleIdeal) (hRecSampleRefIdeal := hRecSampleRefIdeal) (hPre_finite_sample := hPre_finite_sample)
    ∧ preserves_Ada_AdaIdeal
    ∧ algebraic_AdaIdeal_AdaRefIdeal (hAdaIdeal := hAdaIdeal) (hAdaRefIdeal := hAdaRefIdeal)
    ∧ preserves_Select_SelectIdeal
    ∧ algebraic_SelectIdeal_SelectRefIdeal_pre_numbers_select (hSelectIdeal := hSelectIdeal) (hSelectRefIdeal := hSelectRefIdeal) (hPre_numbers_select := hPre_numbers_select)
    ∧ preserves_Queries_QueriesIdeal
    ∧ algebraic_QueriesIdeal_QueriesRefIdeal (hQueriesIdeal := hQueriesIdeal) (hQueriesRefIdeal := hQueriesRefIdeal)
-- ==== Pre_finite.lean ====
abbrev S16384x1024 : Shape := ⟨2, ![16384, 1024]⟩
abbrev S16384x512 : Shape := ⟨2, ![16384, 512]⟩
abbrev S2x4x128x256 : Shape := ⟨4, ![2, 4, 128, 256]⟩
abbrev S_ : Shape := ⟨0, ![]⟩

class Facts : Prop where
  bcast_S_S16384x512 : S_.BroadcastsInDim S16384x512 (![] : Fin 0 → Fin S16384x512.rank)

variable [Facts]

def fn {F : FTy → Type} [FloatOps F] (main_arg0 : FVec F S16384x1024 .bf16) (main_arg1 : FVec F S16384x1024 .bf16) (main_arg2 : FVec F S16384x512 .f32) (main_arg3 : FVec F S2x4x128x256 .f32) : IVec S16384x512 1 :=
  let main_v0 : FVec F S16384x512 .f32 := Host.absf main_arg2
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  main_v2
-- ==== Pre_finite_sample.lean ====
abbrev S128x1024 : Shape := ⟨2, ![128, 1024]⟩
abbrev S128x512 : Shape := ⟨2, ![128, 512]⟩
abbrev S32x4x128x256 : Shape := ⟨4, ![32, 4, 128, 256]⟩
abbrev S_ : Shape := ⟨0, ![]⟩

class Facts : Prop where
  bcast_S_S128x512 : S_.BroadcastsInDim S128x512 (![] : Fin 0 → Fin S128x512.rank)
  reducesTo_S128x512_S_d0_1 : S128x512.ReducesTo [0, 1] S_
  h_S_ : 0 < S_.numel

variable [Facts]

def fn {F : FTy → Type} [FloatOps F] (main_arg0 : FVec F S128x1024 .bf16) (main_arg1 : FVec F S128x1024 .bf16) (main_arg2 : FVec F S128x512 .f32) (main_arg3 : FVec F S32x4x128x256 .f32) : IVec S_ 1 :=
  let main_v0 : FVec F S128x512 .f32 := Host.absf main_arg2
  let main_cst : FVec F S_ .f32 := constant S_ .f32 0x7F800000#32
  let main_v1 : FVec F S128x512 .f32 := broadcastInDim S128x512 ![] bcast_S_S128x512 main_cst
  let main_v2 : IVec S128x512 1 := cmpf .olt main_v0 main_v1
  let main_c : IVec S_ 1 := constantI S_ 1 1#1
  let main_v3 : IVec S_ 1 := (fun x v => Host.reduce IntOp.andi x v reducesTo_S128x512_S_d0_1 h_S_) main_v2 main_c
  main_v3
-- ==== Pre_numbers.lean ====
abbrev S16384x1024 : Shape := ⟨2, ![16384, 1024]⟩
abbrev S1024x1024 : Shape := ⟨2, ![1024, 1024]⟩
abbrev S2x1024 : Shape := ⟨2, ![2, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S2x1024 : S_.BroadcastsInDim S2x1024 (![] : Fin 0 → Fin S2x1024.rank)
  reducesTo_S2x1024_S_d0_1 : S2x1024.ReducesTo [0, 1] S_
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part2 {F : FTy → Type} [FloatOps F] (main_arg8 : FVec F S1024x4096 .f32) (main_arg9 : FVec F S4096x1024 .f32) (main_v4 : IVec S_ 1) (main_v8 : IVec S_ 1) (main_v12 : IVec S_ 1) (main_v16 : IVec S_ 1) (main_v20 : IVec S_ 1) (main_v24 : IVec S_ 1) (main_v28 : IVec S_ 1) (main_v31 : IVec S2x1024 1) (main_c_13 : IVec S_ 1) : IVec S_ 1 :=
  let main_v32 : IVec S_ 1 := (fun x v => Host.reduce IntOp.andi x v reducesTo_S2x1024_S_d0_1 h_S_) main_v31 main_c_13
  let main_v33 : FVec F S1024x4096 .f32 := Host.absf main_arg8
  let main_cst_14 : FVec F S_ .f32 := constant S_ .f32 0x7F800000#32
  let main_v34 : FVec F S1024x4096 .f32 := broadcastInDim S1024x4096 ![] bcast_S_S1024x4096 main_cst_14
  let main_v35 : IVec S1024x4096 1 := cmpf .olt main_v33 main_v34
  let main_c_15 : IVec S_ 1 := constantI S_ 1 1#1
  let main_v36 : IVec S_ 1 := (fun x v => Host.reduce IntOp.andi x v reducesTo_S1024x4096_S_d0_1 h_S_) main_v35 main_c_15
  let main_v37 : FVec F S4096x1024 .f32 := Host.absf main_arg9
  let main_cst_16 : FVec F S_ .f32 := constant S_ .f32 0x7F800000#32
  let main_v38 : FVec F S4096x1024 .f32 := broadcastInDim S4096x1024 ![] bcast_S_S4096x1024 main_cst_16
  let main_v39 : IVec S4096x1024 1 := cmpf .olt main_v37 main_v38
  let main_c_17 : IVec S_ 1 := constantI S_ 1 1#1
  let main_v40 : IVec S_ 1 := (fun x v => Host.reduce IntOp.andi x v reducesTo_S4096x1024_S_d0_1 h_S_) main_v39 main_c_17
  let main_v41 : IVec S_ 1 := andi main_v4 main_v8
  let main_v42 : IVec S_ 1 := andi main_v41 main_v12
  let main_v43 : IVec S_ 1 := andi main_v42 main_v16
  let main_v44 : IVec S_ 1 := andi main_v43 main_v20
  let main_v45 : IVec S_ 1 := andi main_v44 main_v24
  let main_v46 : IVec S_ 1 := andi main_v45 main_v28
  let main_v47 : IVec S_ 1 := andi main_v46 main_v32
  let main_v48 : IVec S_ 1 := andi main_v47 main_v36
  let main_v49 : IVec S_ 1 := andi main_v48 main_v40
  main_v49

def fn_part1 {F : FTy → Type} [FloatOps F] (main_arg4 : FVec F S1024 .f32) (main_arg5 : FVec F S2x1024 .f32) (main_arg6 : FVec F S2x1024 .f32) (main_arg7 : FVec F S2x1024 .f32) (main_arg8 : FVec F S1024x4096 .f32) (main_arg9 : FVec F S4096x1024 .f32) (main_v4 : IVec S_ 1) (main_v8 : IVec S_ 1) (main_v12 : IVec S_ 1) (main_v15 : IVec S2x1024 1) (main_c_5 : IVec S_ 1) : IVec S_ 1 :=
  let main_v16 : IVec S_ 1 := (fun x v => Host.reduce IntOp.andi x v reducesTo_S2x1024_S_d0_1 h_S_) main_v15 main_c_5
  let main_v17 : FVec F S1024 .f32 := Host.absf main_arg4
  let main_cst_6 : FVec F S_ .f32 := constant S_ .f32 0x7F800000#32
  let main_v18 : FVec F S1024 .f32 := broadcastInDim S1024 ![] bcast_S_S1024 main_cst_6
  let main_v19 : IVec S1024 1 := cmpf .olt main_v17 main_v18
  let main_c_7 : IVec S_ 1 := constantI S_ 1 1#1
  let main_v20 : IVec S_ 1 := (fun x v => Host.reduce IntOp.andi x v reducesTo_S1024_S_d0 h_S_) main_v19 main_c_7
  let main_v21 : FVec F S2x1024 .f32 := Host.absf main_arg5
  let main_cst_8 : FVec F S_ .f32 := constant S_ .f32 0x7F800000#32
  let main_v22 : FVec F S2x1024 .f32 := broadcastInDim S2x1024 ![] bcast_S_S2x1024 main_cst_8
  let main_v23 : IVec S2x1024 1 := cmpf .olt main_v21 main_v22
  let main_c_9 : IVec S_ 1 := constantI S_ 1 1#1
  let main_v24 : IVec S_ 1 := (fun x v => Host.reduce IntOp.andi x v reducesTo_S2x1024_S_d0_1 h_S_) main_v23 main_c_9
  let main_v25 : FVec F S2x1024 .f32 := Host.absf main_arg6
  let main_cst_10 : FVec F S_ .f32 := constant S_ .f32 0x7F800000#32
  let main_v26 : FVec F S2x1024 .f32 := broadcastInDim S2x1024 ![] bcast_S_S2x1024 main_cst_10
  let main_v27 : IVec S2x1024 1 := cmpf .olt main_v25 main_v26
  let main_c_11 : IVec S_ 1 := constantI S_ 1 1#1
  let main_v28 : IVec S_ 1 := (fun x v => Host.reduce IntOp.andi x v reducesTo_S2x1024_S_d0_1 h_S_) main_v27 main_c_11
  let main_v29 : FVec F S2x1024 .f32 := Host.absf main_arg7
  let main_cst_12 : FVec F S_ .f32 := constant S_ .f32 0x7F800000#32
  let main_v30 : FVec F S2x1024 .f32 := broadcastInDim S2x1024 ![] bcast_S_S2x1024 main_cst_12
  let main_v31 : IVec S2x1024 1 := cmpf .olt main_v29 main_v30
  let main_c_13 : IVec S_ 1 := constantI S_ 1 1#1
  fn_part2 (F := F) main_arg8 main_arg9 main_v4 main_v8 main_v12 main_v16 main_v20 main_v24 main_v28 main_v31 main_c_13

def fn {F : FTy → Type} [FloatOps F] (main_arg0 : FVec F S16384x1024 .bf16) (main_arg1 : FVec F S16384x1024 .f32) (main_arg2 : FVec F S1024x1024 .f32) (main_arg3 : FVec F S2x1024 .f32) (main_arg4 : FVec F S1024 .f32) (main_arg5 : FVec F S2x1024 .f32) (main_arg6 : FVec F S2x1024 .f32) (main_arg7 : FVec F S2x1024 .f32) (main_arg8 : FVec F S1024x4096 .f32) (main_arg9 : FVec F S4096x1024 .f32) : IVec S_ 1 :=
  let main_v0 : FVec F S16384x1024 .f32 := (extf .f32 · bitsLt_bf16_f32) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_c : IVec S_ 1 := constantI S_ 1 1#1
  let main_v4 : IVec S_ 1 := (fun x v => Host.reduce IntOp.andi x v reducesTo_S16384x1024_S_d0_1 h_S_) main_v3 main_c
  let main_v5 : FVec F S16384x1024 .f32 := Host.absf main_arg1
  let main_cst_0 : FVec F S_ .f32 := constant S_ .f32 0x7F800000#32
  let main_v6 : FVec F S16384x1024 .f32 := broadcastInDim S16384x1024 ![] bcast_S_S16384x1024 main_cst_0
  let main_v7 : IVec S16384x1024 1 := cmpf .olt main_v5 main_v6
  let main_c_1 : IVec S_ 1 := constantI S_ 1 1#1
  let main_v8 : IVec S_ 1 := (fun x v => Host.reduce IntOp.andi x v reducesTo_S16384x1024_S_d0_1 h_S_) main_v7 main_c_1
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : FVec F S2x1024 .f32 := Host.absf main_arg3
  let main_cst_4 : FVec F S_ .f32 := constant S_ .f32 0x7F800000#32
  let main_v14 : FVec F S2x1024 .f32 := broadcastInDim S2x1024 ![] bcast_S_S2x1024 main_cst_4
  let main_v15 : IVec S2x1024 1 := cmpf .olt main_v13 main_v14
  let main_c_5 : IVec S_ 1 := constantI S_ 1 1#1
  fn_part1 (F := F) main_arg4 main_arg5 main_arg6 main_arg7 main_arg8 main_arg9 main_v4 main_v8 main_v12 main_v15 main_c_5
-- ==== Pre_numbers_gla.lean ====
abbrev S16384x1024 : Shape := ⟨2, ![16384, 1024]⟩
abbrev S256 : Shape := ⟨1, ![256]⟩
abbrev S1024x1024 : Shape := ⟨2, ![1024, 1024]⟩
abbrev S2x1024 : Shape := ⟨2, ![2, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S256 : S_.BroadcastsInDim S256 (![] : Fin 0 → Fin S256.rank)
  reducesTo_S256_S_d0 : S256.ReducesTo [0] S_
  bcast_S_S1024x1024 : S_.BroadcastsInDim S1024x1024 (![] : Fin 0 → Fin S1024x1024.rank)
  reducesTo_S1024x1024_S_d0_1 : S1024x1024.ReducesTo [0, 1] S_
  bcast_S_S2x1024 : S_.BroadcastsInDim S2x1024 (![] : Fin 0 → Fin S2x1024.rank)
  reducesTo_S2x1024_S_d0_1 : S2x1024.ReducesTo [0, 1] S_
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part3 {F : FTy → Type} [FloatOps F] (main_v5 : IVec S_ 1) (main_v9 : IVec S_ 1) (main_v13 : IVec S_ 1) (main_v17 : IVec S_ 1) (main_v21 : IVec S_ 1) (main_v25 : IVec S_ 1) (main_v29 : IVec S_ 1) (main_v33 : IVec S_ 1) (main_v37 : IVec S_ 1) (main_v41 : IVec S_ 1) (main_v45 : IVec S_ 1) (main_v48 : IVec S4096x1024 1) : IVec S_ 1 :=
  let main_c_21 : IVec S_ 1 := constantI S_ 1 1#1
  let main_v49 : IVec S_ 1 := (fun x v => Host.reduce IntOp.andi x v reducesTo_S4096x1024_S_d0_1 h_S_) main_v48 main_c_21
  let main_v50 : IVec S_ 1 := andi main_v5 main_v9
  let main_v51 : IVec S_ 1 := andi main_v50 main_v13
  let main_v52 : IVec S_ 1 := andi main_v51 main_v17
  let main_v53 : IVec S_ 1 := andi main_v52 main_v21
  let main_v54 : IVec S_ 1 := andi main_v53 main_v25
  let main_v55 : IVec S_ 1 := andi main_v54 main_v29
  let main_v56 : IVec S_ 1 := andi main_v55 main_v33
  let main_v57 : IVec S_ 1 := andi main_v56 main_v37
  let main_v58 : IVec S_ 1 := andi main_v57 main_v41
  let main_v59 : IVec S_ 1 := andi main_v58 main_v45
  let main_v60 : IVec S_ 1 := andi main_v59 main_v49
  main_v60

def fn_part2 {F : FTy → Type} [FloatOps F] (main_arg8 : FVec F S2x1024 .f32) (main_arg9 : FVec F S2x1024 .f32) (main_arg10 : FVec F S1024x4096 .f32) (main_arg11 : FVec F S4096x1024 .f32) (main_v5 : IVec S_ 1) (main_v9 : IVec S_ 1) (main_v13 : IVec S_ 1) (main_v17 : IVec S_ 1) (main_v21 : IVec S_ 1) (main_v25 : IVec S_ 1) (main_v29 : IVec S_ 1) (main_v32 : IVec S2x1024 1) : IVec S_ 1 :=
  let main_c_13 : IVec S_ 1 := constantI S_ 1 1#1
  let main_v33 : IVec S_ 1 := (fun x v => Host.reduce IntOp.andi x v reducesTo_S2x1024_S_d0_1 h_S_) main_v32 main_c_13
  let main_v34 : FVec F S2x1024 .f32 := Host.absf main_arg8
  let main_cst_14 : FVec F S_ .f32 := constant S_ .f32 0x7F800000#32
  let main_v35 : FVec F S2x1024 .f32 := broadcastInDim S2x1024 ![] bcast_S_S2x1024 main_cst_14
  let main_v36 : IVec S2x1024 1 := cmpf .olt main_v34 main_v35
  let main_c_15 : IVec S_ 1 := constantI S_ 1 1#1
  let main_v37 : IVec S_ 1 := (fun x v => Host.reduce IntOp.andi x v reducesTo_S2x1024_S_d0_1 h_S_) main_v36 main_c_15
  let main_v38 : FVec F S2x1024 .f32 := Host.absf main_arg9
  let main_cst_16 : FVec F S_ .f32 := constant S_ .f32 0x7F800000#32
  let main_v39 : FVec F S2x1024 .f32 := broadcastInDim S2x1024 ![] bcast_S_S2x1024 main_cst_16
  let main_v40 : IVec S2x1024 1 := cmpf .olt main_v38 main_v39
  let main_c_17 : IVec S_ 1 := constantI S_ 1 1#1
  let main_v41 : IVec S_ 1 := (fun x v => Host.reduce IntOp.andi x v reducesTo_S2x1024_S_d0_1 h_S_) main_v40 main_c_17
  let main_v42 : FVec F S1024x4096 .f32 := Host.absf main_arg10
  let main_cst_18 : FVec F S_ .f32 := constant S_ .f32 0x7F800000#32
  let main_v43 : FVec F S1024x4096 .f32 := broadcastInDim S1024x4096 ![] bcast_S_S1024x4096 main_cst_18
  let main_v44 : IVec S1024x4096 1 := cmpf .olt main_v42 main_v43
  let main_c_19 : IVec S_ 1 := constantI S_ 1 1#1
  let main_v45 : IVec S_ 1 := (fun x v => Host.reduce IntOp.andi x v reducesTo_S1024x4096_S_d0_1 h_S_) main_v44 main_c_19
  let main_v46 : FVec F S4096x1024 .f32 := Host.absf main_arg11
  let main_cst_20 : FVec F S_ .f32 := constant S_ .f32 0x7F800000#32
  let main_v47 : FVec F S4096x1024 .f32 := broadcastInDim S4096x1024 ![] bcast_S_S4096x1024 main_cst_20
  let main_v48 : IVec S4096x1024 1 := cmpf .olt main_v46 main_v47
  fn_part3 (F := F) main_v5 main_v9 main_v13 main_v17 main_v21 main_v25 main_v29 main_v33 main_v37 main_v41 main_v45 main_v48

def fn_part1 {F : FTy → Type} [FloatOps F] (main_arg4 : FVec F S1024x1024 .f32) (main_arg5 : FVec F S2x1024 .f32) (main_arg6 : FVec F S1024 .f32) (main_arg7 : FVec F S2x1024 .f32) (main_arg8 : FVec F S2x1024 .f32) (main_arg9 : FVec F S2x1024 .f32) (main_arg10 : FVec F S1024x4096 .f32) (main_arg11 : FVec F S4096x1024 .f32) (main_v5 : IVec S_ 1) (main_v9 : IVec S_ 1) (main_v13 : IVec S_ 1) (main_v16 : IVec S16384x1024 1) : IVec S_ 1 :=
  let main_c_5 : IVec S_ 1 := constantI S_ 1 1#1
  let main_v17 : IVec S_ 1 := (fun x v => Host.reduce IntOp.andi x v reducesTo_S16384x1024_S_d0_1 h_S_) main_v16 main_c_5
  let main_v18 : FVec F S1024x1024 .f32 := Host.absf main_arg4
  let main_cst_6 : FVec F S_ .f32 := constant S_ .f32 0x7F800000#32
  let main_v19 : FVec F S1024x1024 .f32 := broadcastInDim S1024x1024 ![] bcast_S_S1024x1024 main_cst_6
  let main_v20 : IVec S1024x1024 1 := cmpf .olt main_v18 main_v19
  let main_c_7 : IVec S_ 1 := constantI S_ 1 1#1
  let main_v21 : IVec S_ 1 := (fun x v => Host.reduce IntOp.andi x v reducesTo_S1024x1024_S_d0_1 h_S_) main_v20 main_c_7
  let main_v22 : FVec F S2x1024 .f32 := Host.absf main_arg5
  let main_cst_8 : FVec F S_ .f32 := constant S_ .f32 0x7F800000#32
  let main_v23 : FVec F S2x1024 .f32 := broadcastInDim S2x1024 ![] bcast_S_S2x1024 main_cst_8
  let main_v24 : IVec S2x1024 1 := cmpf .olt main_v22 main_v23
  let main_c_9 : IVec S_ 1 := constantI S_ 1 1#1
  let main_v25 : IVec S_ 1 := (fun x v => Host.reduce IntOp.andi x v reducesTo_S2x1024_S_d0_1 h_S_) main_v24 main_c_9
  let main_v26 : FVec F S1024 .f32 := Host.absf main_arg6
  let main_cst_10 : FVec F S_ .f32 := constant S_ .f32 0x7F800000#32
  let main_v27 : FVec F S1024 .f32 := broadcastInDim S1024 ![] bcast_S_S1024 main_cst_10
  let main_v28 : IVec S1024 1 := cmpf .olt main_v26 main_v27
  let main_c_11 : IVec S_ 1 := constantI S_ 1 1#1
  let main_v29 : IVec S_ 1 := (fun x v => Host.reduce IntOp.andi x v reducesTo_S1024_S_d0 h_S_) main_v28 main_c_11
  let main_v30 : FVec F S2x1024 .f32 := Host.absf main_arg7
  let main_cst_12 : FVec F S_ .f32 := constant S_ .f32 0x7F800000#32
  let main_v31 : FVec F S2x1024 .f32 := broadcastInDim S2x1024 ![] bcast_S_S2x1024 main_cst_12
  let main_v32 : IVec S2x1024 1 := cmpf .olt main_v30 main_v31
  fn_part2 (F := F) main_arg8 main_arg9 main_arg10 main_arg11 main_v5 main_v9 main_v13 main_v17 main_v21 main_v25 main_v29 main_v32

def fn {F : FTy → Type} [FloatOps F] (main_arg0 : FVec F S16384x1024 .bf16) (main_arg1 : FVec F S16384x1024 .bf16) (main_arg2 : FVec F S256 .f32) (main_arg3 : FVec F S16384x1024 .f32) (main_arg4 : FVec F S1024x1024 .f32) (main_arg5 : FVec F S2x1024 .f32) (main_arg6 : FVec F S1024 .f32) (main_arg7 : FVec F S2x1024 .f32) (main_arg8 : FVec F S2x1024 .f32) (main_arg9 : FVec F S2x1024 .f32) (main_arg10 : FVec F S1024x4096 .f32) (main_arg11 : FVec F S4096x1024 .f32) : IVec S_ 1 :=
  let main_v0 : FVec F S16384x1024 .f32 := (extf .f32 · bitsLt_bf16_f32) main_arg0
  let main_v1 : FVec F S16384x1024 .f32 := (extf .f32 · bitsLt_bf16_f32) main_arg1
  let main_v2 : FVec F S16384x1024 .f32 := Host.absf main_v0
  let main_cst : FVec F S_ .f32 := constant S_ .f32 0x7F800000#32
  let main_v3 : FVec F S16384x1024 .f32 := broadcastInDim S16384x1024 ![] bcast_S_S16384x1024 main_cst
  let main_v4 : IVec S16384x1024 1 := cmpf .olt main_v2 main_v3
  let main_c : IVec S_ 1 := constantI S_ 1 1#1
  let main_v5 : IVec S_ 1 := (fun x v => Host.reduce IntOp.andi x v reducesTo_S16384x1024_S_d0_1 h_S_) main_v4 main_c
  let main_v6 : FVec F S16384x1024 .f32 := Host.absf main_v1
  let main_cst_0 : FVec F S_ .f32 := constant S_ .f32 0x7F800000#32
  let main_v7 : FVec F S16384x1024 .f32 := broadcastInDim S16384x1024 ![] bcast_S_S16384x1024 main_cst_0
  let main_v8 : IVec S16384x1024 1 := cmpf .olt main_v6 main_v7
  let main_c_1 : IVec S_ 1 := constantI S_ 1 1#1
  let main_v9 : IVec S_ 1 := (fun x v => Host.reduce IntOp.andi x v reducesTo_S16384x1024_S_d0_1 h_S_) main_v8 main_c_1
  let main_v10 : FVec F S256 .f32 := Host.absf main_arg2
  let main_cst_2 : FVec F S_ .f32 := constant S_ .f32 0x7F800000#32
  let main_v11 : FVec F S256 .f32 := broadcastInDim S256 ![] bcast_S_S256 main_cst_2
  let main_v12 : IVec S256 1 := cmpf .olt main_v10 main_v11
  let main_c_3 : IVec S_ 1 := constantI S_ 1 1#1
  let main_v13 : IVec S_ 1 := (fun x v => Host.reduce IntOp.andi x v reducesTo_S256_S_d0 h_S_) main_v12 main_c_3
  let main_v14 : FVec F S16384x1024 .f32 := Host.absf main_arg3
  let main_cst_4 : FVec F S_ .f32 := constant S_ .f32 0x7F800000#32
  let main_v15 : FVec F S16384x1024 .f32 := broadcastInDim S16384x1024 ![] bcast_S_S16384x1024 main_cst_4
  let main_v16 : IVec S16384x1024 1 := cmpf .olt main_v14 main_v15
  fn_part1 (F := F) main_arg4 main_arg5 main_arg6 main_arg7 main_arg8 main_arg9 main_arg10 main_arg11 main_v5 main_v9 main_v13 main_v16
-- ==== Pre_numbers_in.lean ====
abbrev S16384x1024 : Shape := ⟨2, ![16384, 1024]⟩
abbrev S1024 : Shape := ⟨1, ![1024]⟩
abbrev S2x1024 : Shape := ⟨2, ![2, 1024]⟩
abbrev S1024x3088 : Shape := ⟨2, ![1024, 3088]⟩
abbrev S16x512 : Shape := ⟨2, ![16, 512]⟩
abbrev S512 : Shape := ⟨1, ![512]⟩
abbrev S1024x16 : Shape := ⟨2, ![1024, 16]⟩
abbrev S_ : Shape := ⟨0, ![]⟩

class Facts : Prop where
  slices_S1024x3088_S1024x16_0_3072 : S1024x3088.Slices ![0, 3072] S1024x16
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S2x1024 : S_.BroadcastsInDim S2x1024 (![] : Fin 0 → Fin S2x1024.rank)
  reducesTo_S2x1024_S_d0_1 : S2x1024.ReducesTo [0, 1] S_
  bcast_S_S1024x16 : S_.BroadcastsInDim S1024x16 (![] : Fin 0 → Fin S1024x16.rank)
  reducesTo_S1024x16_S_d0_1 : S1024x16.ReducesTo [0, 1] S_
  bcast_S_S16x512 : S_.BroadcastsInDim S16x512 (![] : Fin 0 → Fin S16x512.rank)
  reducesTo_S16x512_S_d0_1 : S16x512.ReducesTo [0, 1] S_

variable [Facts]

def fn_part1 {F : FTy → Type} [FloatOps F] (main_arg5 : FVec F S16x512 .f32) (main_v0 : FVec F S1024x16 .f32) (main_v4 : IVec S_ 1) (main_v8 : IVec S_ 1) (main_v12 : IVec S_ 1) (main_v15 : IVec S2x1024 1) (main_c_5 : IVec S_ 1) : IVec S_ 1 :=
  let main_v16 : IVec S_ 1 := (fun x v => Host.reduce IntOp.andi x v reducesTo_S2x1024_S_d0_1 h_S_) main_v15 main_c_5
  let main_v17 : FVec F S1024x16 .f32 := Host.absf main_v0
  let main_cst_6 : FVec F S_ .f32 := constant S_ .f32 0x7F800000#32
  let main_v18 : FVec F S1024x16 .f32 := broadcastInDim S1024x16 ![] bcast_S_S1024x16 main_cst_6
  let main_v19 : IVec S1024x16 1 := cmpf .olt main_v17 main_v18
  let main_c_7 : IVec S_ 1 := constantI S_ 1 1#1
  let main_v20 : IVec S_ 1 := (fun x v => Host.reduce IntOp.andi x v reducesTo_S1024x16_S_d0_1 h_S_) main_v19 main_c_7
  let main_v21 : FVec F S16x512 .f32 := Host.absf main_arg5
  let main_cst_8 : FVec F S_ .f32 := constant S_ .f32 0x7F800000#32
  let main_v22 : FVec F S16x512 .f32 := broadcastInDim S16x512 ![] bcast_S_S16x512 main_cst_8
  let main_v23 : IVec S16x512 1 := cmpf .olt main_v21 main_v22
  let main_c_9 : IVec S_ 1 := constantI S_ 1 1#1
  let main_v24 : IVec S_ 1 := (fun x v => Host.reduce IntOp.andi x v reducesTo_S16x512_S_d0_1 h_S_) main_v23 main_c_9
  let main_v25 : IVec S_ 1 := andi main_v4 main_v8
  let main_v26 : IVec S_ 1 := andi main_v25 main_v12
  let main_v27 : IVec S_ 1 := andi main_v26 main_v16
  let main_v28 : IVec S_ 1 := andi main_v27 main_v20
  let main_v29 : IVec S_ 1 := andi main_v28 main_v24
  main_v29

def fn {F : FTy → Type} [FloatOps F] (main_arg0 : FVec F S16384x1024 .f32) (main_arg1 : FVec F S1024 .f32) (main_arg2 : FVec F S2x1024 .f32) (main_arg3 : FVec F S2x1024 .f32) (main_arg4 : FVec F S1024x3088 .f32) (main_arg5 : FVec F S16x512 .f32) (main_arg6 : FVec F S512 .f32) : IVec S_ 1 :=
  let main_v0 : FVec F S1024x16 .f32 := (extractStridedSlice S1024x16 ![0, 3072] · slices_S1024x3088_S1024x16_0_3072) main_arg4
  let main_v1 : FVec F S16384x1024 .f32 := Host.absf main_arg0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_c : IVec S_ 1 := constantI S_ 1 1#1
  let main_v4 : IVec S_ 1 := (fun x v => Host.reduce IntOp.andi x v reducesTo_S16384x1024_S_d0_1 h_S_) main_v3 main_c
  let main_v5 : FVec F S1024 .f32 := Host.absf main_arg1
  let main_cst_0 : FVec F S_ .f32 := constant S_ .f32 0x7F800000#32
  let main_v6 : FVec F S1024 .f32 := broadcastInDim S1024 ![] bcast_S_S1024 main_cst_0
  let main_v7 : IVec S1024 1 := cmpf .olt main_v5 main_v6
  let main_c_1 : IVec S_ 1 := constantI S_ 1 1#1
  let main_v8 : IVec S_ 1 := (fun x v => Host.reduce IntOp.andi x v reducesTo_S1024_S_d0 h_S_) main_v7 main_c_1
  let main_v9 : FVec F S2x1024 .f32 := Host.absf main_arg2
  let main_cst_2 : FVec F S_ .f32 := constant S_ .f32 0x7F800000#32
  let main_v10 : FVec F S2x1024 .f32 := broadcastInDim S2x1024 ![] bcast_S_S2x1024 main_cst_2
  let main_v11 : IVec S2x1024 1 := cmpf .olt main_v9 main_v10
  let main_c_3 : IVec S_ 1 := constantI S_ 1 1#1
  let main_v12 : IVec S_ 1 := (fun x v => Host.reduce IntOp.andi x v reducesTo_S2x1024_S_d0_1 h_S_) main_v11 main_c_3
  let main_v13 : FVec F S2x1024 .f32 := Host.absf main_arg3
  let main_cst_4 : FVec F S_ .f32 := constant S_ .f32 0x7F800000#32
  let main_v14 : FVec F S2x1024 .f32 := broadcastInDim S2x1024 ![] bcast_S_S2x1024 main_cst_4
  let main_v15 : IVec S2x1024 1 := cmpf .olt main_v13 main_v14
  let main_c_5 : IVec S_ 1 := constantI S_ 1 1#1
  fn_part1 (F := F) main_arg5 main_v0 main_v4 main_v8 main_v12 main_v15 main_c_5
-- ==== Pre_numbers_sample.lean ====
abbrev S128x1024 : Shape := ⟨2, ![128, 1024]⟩
abbrev S1024x1024 : Shape := ⟨2, ![1024, 1024]⟩
abbrev S32x1024 : Shape := ⟨2, ![32, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩

class Facts : Prop where
  bcast_S_S128x1024 : S_.BroadcastsInDim S128x1024 (![] : Fin 0 → Fin S128x1024.rank)
  reducesTo_S128x1024_S_d0_1 : S128x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S32x1024 : S_.BroadcastsInDim S32x1024 (![] : Fin 0 → Fin S32x1024.rank)
  reducesTo_S32x1024_S_d0_1 : S32x1024.ReducesTo [0, 1] S_
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part2 {F : FTy → Type} [FloatOps F] (main_arg8 : FVec F S1024x4096 .f32) (main_arg9 : FVec F S4096x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S1024x4096 .f32 := Host.absf main_arg8
  let main_cst_14 : FVec F S_ .f32 := constant S_ .f32 0x7F800000#32
  let main_v33 : FVec F S1024x4096 .f32 := broadcastInDim S1024x4096 ![] bcast_S_S1024x4096 main_cst_14
  let main_v34 : IVec S1024x4096 1 := cmpf .olt main_v32 main_v33
  let main_c_15 : IVec S_ 1 := constantI S_ 1 1#1
  let main_v35 : IVec S_ 1 := (fun x v => Host.reduce IntOp.andi x v reducesTo_S1024x4096_S_d0_1 h_S_) main_v34 main_c_15
  let main_v36 : FVec F S4096x1024 .f32 := Host.absf main_arg9
  let main_cst_16 : FVec F S_ .f32 := constant S_ .f32 0x7F800000#32
  let main_v37 : FVec F S4096x1024 .f32 := broadcastInDim S4096x1024 ![] bcast_S_S4096x1024 main_cst_16
  let main_v38 : IVec S4096x1024 1 := cmpf .olt main_v36 main_v37
  let main_c_17 : IVec S_ 1 := constantI S_ 1 1#1
  let main_v39 : IVec S_ 1 := (fun x v => Host.reduce IntOp.andi x v reducesTo_S4096x1024_S_d0_1 h_S_) main_v38 main_c_17
  let main_v40 : IVec S_ 1 := andi main_v3 main_v7
  let main_v41 : IVec S_ 1 := andi main_v40 main_v11
  let main_v42 : IVec S_ 1 := andi main_v41 main_v15
  let main_v43 : IVec S_ 1 := andi main_v42 main_v19
  let main_v44 : IVec S_ 1 := andi main_v43 main_v23
  let main_v45 : IVec S_ 1 := andi main_v44 main_v27
  let main_v46 : IVec S_ 1 := andi main_v45 main_v31
  let main_v47 : IVec S_ 1 := andi main_v46 main_v35
  let main_v48 : IVec S_ 1 := andi main_v47 main_v39
  main_v48

def fn_part1 {F : FTy → Type} [FloatOps F] (main_arg4 : FVec F S1024 .f32) (main_arg5 : FVec F S32x1024 .f32) (main_arg6 : FVec F S32x1024 .f32) (main_arg7 : FVec F S32x1024 .f32) (main_arg8 : FVec F S1024x4096 .f32) (main_arg9 : FVec F S4096x1024 .f32) (main_v3 : IVec S_ 1) (main_v7 : IVec S_ 1) (main_v11 : IVec S_ 1) (main_v15 : IVec S_ 1) : IVec S_ 1 :=
  let main_v16 : FVec F S1024 .f32 := Host.absf main_arg4
  let main_cst_6 : FVec F S_ .f32 := constant S_ .f32 0x7F800000#32
  let main_v17 : FVec F S1024 .f32 := broadcastInDim S1024 ![] bcast_S_S1024 main_cst_6
  let main_v18 : IVec S1024 1 := cmpf .olt main_v16 main_v17
  let main_c_7 : IVec S_ 1 := constantI S_ 1 1#1
  let main_v19 : IVec S_ 1 := (fun x v => Host.reduce IntOp.andi x v reducesTo_S1024_S_d0 h_S_) main_v18 main_c_7
  let main_v20 : FVec F S32x1024 .f32 := Host.absf main_arg5
  let main_cst_8 : FVec F S_ .f32 := constant S_ .f32 0x7F800000#32
  let main_v21 : FVec F S32x1024 .f32 := broadcastInDim S32x1024 ![] bcast_S_S32x1024 main_cst_8
  let main_v22 : IVec S32x1024 1 := cmpf .olt main_v20 main_v21
  let main_c_9 : IVec S_ 1 := constantI S_ 1 1#1
  let main_v23 : IVec S_ 1 := (fun x v => Host.reduce IntOp.andi x v reducesTo_S32x1024_S_d0_1 h_S_) main_v22 main_c_9
  let main_v24 : FVec F S32x1024 .f32 := Host.absf main_arg6
  let main_cst_10 : FVec F S_ .f32 := constant S_ .f32 0x7F800000#32
  let main_v25 : FVec F S32x1024 .f32 := broadcastInDim S32x1024 ![] bcast_S_S32x1024 main_cst_10
  let main_v26 : IVec S32x1024 1 := cmpf .olt main_v24 main_v25
  let main_c_11 : IVec S_ 1 := constantI S_ 1 1#1
  let main_v27 : IVec S_ 1 := (fun x v => Host.reduce IntOp.andi x v reducesTo_S32x1024_S_d0_1 h_S_) main_v26 main_c_11
  let main_v28 : FVec F S32x1024 .f32 := Host.absf main_arg7
  let main_cst_12 : FVec F S_ .f32 := constant S_ .f32 0x7F800000#32
  let main_v29 : FVec F S32x1024 .f32 := broadcastInDim S32x1024 ![] bcast_S_S32x1024 main_cst_12
  let main_v30 : IVec S32x1024 1 := cmpf .olt main_v28 main_v29
  let main_c_13 : IVec S_ 1 := constantI S_ 1 1#1
  let main_v31 : IVec S_ 1 := (fun x v => Host.reduce IntOp.andi x v reducesTo_S32x1024_S_d0_1 h_S_) main_v30 main_c_13
  fn_part2 (F := F) main_arg8 main_arg9 main_v3 main_v7 main_v11 main_v15 main_v19 main_v23 main_v27 main_v31

def fn {F : FTy → Type} [FloatOps F] (main_arg0 : FVec F S128x1024 .f32) (main_arg1 : FVec F S128x1024 .f32) (main_arg2 : FVec F S1024x1024 .f32) (main_arg3 : FVec F S32x1024 .f32) (main_arg4 : FVec F S1024 .f32) (main_arg5 : FVec F S32x1024 .f32) (main_arg6 : FVec F S32x1024 .f32) (main_arg7 : FVec F S32x1024 .f32) (main_arg8 : FVec F S1024x4096 .f32) (main_arg9 : FVec F S4096x1024 .f32) : IVec S_ 1 :=
  let main_v0 : FVec F S128x1024 .f32 := Host.absf main_arg0
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_c : IVec S_ 1 := constantI S_ 1 1#1
  let main_v3 : IVec S_ 1 := (fun x v => Host.reduce IntOp.andi x v reducesTo_S128x1024_S_d0_1 h_S_) main_v2 main_c
  let main_v4 : FVec F S128x1024 .f32 := Host.absf main_arg1
  let main_cst_0 : FVec F S_ .f32 := constant S_ .f32 0x7F800000#32
  let main_v5 : FVec F S128x1024 .f32 := broadcastInDim S128x1024 ![] bcast_S_S128x1024 main_cst_0
  let main_v6 : IVec S128x1024 1 := cmpf .olt main_v4 main_v5
  let main_c_1 : IVec S_ 1 := constantI S_ 1 1#1
  let main_v7 : IVec S_ 1 := (fun x v => Host.reduce IntOp.andi x v reducesTo_S128x1024_S_d0_1 h_S_) main_v6 main_c_1
  let main_v8 : FVec F S1024x1024 .f32 := Host.absf main_arg2
  let main_cst_2 : FVec F S_ .f32 := constant S_ .f32 0x7F800000#32
  let main_v9 : FVec F S1024x1024 .f32 := broadcastInDim S1024x1024 ![] bcast_S_S1024x1024 main_cst_2
  let main_v10 : IVec S1024x1024 1 := cmpf .olt main_v8 main_v9
  let main_c_3 : IVec S_ 1 := constantI S_ 1 1#1
  let main_v11 : IVec S_ 1 := (fun x v => Host.reduce IntOp.andi x v reducesTo_S1024x1024_S_d0_1 h_S_) main_v10 main_c_3
  let main_v12 : FVec F S32x1024 .f32 := Host.absf main_arg3
  let main_cst_4 : FVec F S_ .f32 := constant S_ .f32 0x7F800000#32
  let main_v13 : FVec F S32x1024 .f32 := broadcastInDim S32x1024 ![] bcast_S_S32x1024 main_cst_4
  let main_v14 : IVec S32x1024 1 := cmpf .olt main_v12 main_v13
  let main_c_5 : IVec S_ 1 := constantI S_ 1 1#1
  let main_v15 : IVec S_ 1 := (fun x v => Host.reduce IntOp.andi x v reducesTo_S32x1024_S_d0_1 h_S_) main_v14 main_c_5
  fn_part1 (F := F) main_arg4 main_arg5 main_arg6 main_arg7 main_arg8 main_arg9 main_v3 main_v7 main_v11 main_v15
-- ==== Pre_numbers_select.lean ====
abbrev S128x1024 : Shape := ⟨2, ![128, 1024]⟩
abbrev S32x32x8x128 : Shape := ⟨4, ![32, 32, 8, 128]⟩
abbrev S_ : Shape := ⟨0, ![]⟩

class Facts : Prop where
  bcast_S_S128x1024 : S_.BroadcastsInDim S128x1024 (![] : Fin 0 → Fin S128x1024.rank)
  reducesTo_S128x1024_S_d0_1 : S128x1024.ReducesTo [0, 1] S_
  h_S_ : 0 < S_.numel
  bcast_S_S32x32x8x128 : S_.BroadcastsInDim S32x32x8x128 (![] : Fin 0 → Fin S32x32x8x128.rank)
  reducesTo_S32x32x8x128_S_d0_1_2_3 : S32x32x8x128.ReducesTo [0, 1, 2, 3] S_

variable [Facts]

def fn {F : FTy → Type} [FloatOps F] (main_arg0 : FVec F S128x1024 .f32) (main_arg1 : FVec F S32x32x8x128 .f32) : IVec S_ 1 :=
  let main_v0 : FVec F S128x1024 .f32 := Host.absf main_arg0
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_c : IVec S_ 1 := constantI S_ 1 1#1
  let main_v3 : IVec S_ 1 := (fun x v => Host.reduce IntOp.andi x v reducesTo_S128x1024_S_d0_1 h_S_) main_v2 main_c
  let main_v4 : FVec F S32x32x8x128 .f32 := Host.absf main_arg1
  let main_cst_0 : FVec F S_ .f32 := constant S_ .f32 0x7F800000#32
  let main_v5 : FVec F S32x32x8x128 .f32 := broadcastInDim S32x32x8x128 ![] bcast_S_S32x32x8x128 main_cst_0
  let main_v6 : IVec S32x32x8x128 1 := cmpf .olt main_v4 main_v5
  let main_c_1 : IVec S_ 1 := constantI S_ 1 1#1
  let main_v7 : IVec S_ 1 := (fun x v => Host.reduce IntOp.andi x v reducesTo_S32x32x8x128_S_d0_1_2_3 h_S_) main_v6 main_c_1
  let main_v8 : IVec S_ 1 := andi main_v3 main_v7
  main_v8
-- ==== Kernel.lean ====
abbrev S16384x1024 : Shape := ⟨2, ![16384, 1024]⟩
abbrev S16384x512 : Shape := ⟨2, ![16384, 512]⟩
abbrev S2x4x128x256 : Shape := ⟨4, ![2, 4, 128, 256]⟩
abbrev S1024x512 : Shape := ⟨2, ![1024, 512]⟩
abbrev S1024x1024 : Shape := ⟨2, ![1024, 1024]⟩
abbrev S1x4x128x256 : Shape := ⟨4, ![1, 4, 128, 256]⟩
abbrev S4x256x128 : Shape := ⟨3, ![4, 256, 128]⟩
abbrev S1x1x128x256 : Shape := ⟨4, ![1, 1, 128, 256]⟩
abbrev S128x256 : Shape := ⟨2, ![128, 256]⟩
abbrev S256x128 : Shape := ⟨2, ![256, 128]⟩
abbrev S1x256x128 : Shape := ⟨3, ![1, 256, 128]⟩
abbrev S64x64 : Shape := ⟨2, ![64, 64]⟩
abbrev S64x512 : Shape := ⟨2, ![64, 512]⟩
abbrev S64x128 : Shape := ⟨2, ![64, 128]⟩
abbrev S64x256 : Shape := ⟨2, ![64, 256]⟩
abbrev S1x128 : Shape := ⟨2, ![1, 128]⟩

abbrev nBuf : Space → Nat
  | .hbm => 6
  | .vmem => 15
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x512, .f32⟩
  | .hbm, ⟨3, _⟩ => ⟨S2x4x128x256, .f32⟩
  | .hbm, ⟨4, _⟩ => ⟨S16384x1024, .bf16⟩
  | .hbm, ⟨5, _⟩ => ⟨S2x4x128x256, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S1024x512, .f32⟩
  | .local _ .vmem, ⟨7, _⟩ => ⟨S1024x512, .f32⟩
  | .local _ .vmem, ⟨8, _⟩ => ⟨S1x4x128x256, .f32⟩
  | .local _ .vmem, ⟨9, _⟩ => ⟨S1x4x128x256, .f32⟩
  | .local _ .vmem, ⟨10, _⟩ => ⟨S1024x1024, .bf16⟩
  | .local _ .vmem, ⟨11, _⟩ => ⟨S1024x1024, .bf16⟩
  | .local _ .vmem, ⟨12, _⟩ => ⟨S1x4x128x256, .f32⟩
  | .local _ .vmem, ⟨13, _⟩ => ⟨S1x4x128x256, .f32⟩
  | .local _ .vmem, ⟨14, _⟩ => ⟨S4x256x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32_2 : BitVec 32 := 0#32
  let c8_i32 : BitVec 32 := 8#32
  let v10 : BitVec 32 := Scalar.addi c0_i32_2 c8_i32
  let c1_i32 : BitVec 32 := 1#32
  ⟨c0_i32_2, v10, c1_i32⟩
def k0_mult1 (k0_t1 : Fin k0_t1_loop.trips) : BitVec 32 :=
  let c0_i32_2 : BitVec 32 := 0#32
  let c1_i32 : BitVec 32 := 1#32
  let arg10 : BitVec 32 := Scf.iv c0_i32_2 c1_i32 k0_t1
  let c2_i32 : BitVec 32 := 2#32
  let v14 : BitVec 32 := Scalar.muli arg10 c2_i32
  let c0_i32_5 : BitVec 32 := 0#32
  let v15 : BitVec 32 := Scalar.addi v14 c0_i32_5
  let c64_i32 : BitVec 32 := 64#32
  let v16 : BitVec 32 := Scalar.muli v15 c64_i32
  v16
def k0_off1 (k0_t1 : Fin k0_t1_loop.trips) (c0_i32_5 : BitVec 32) : Fin 2 → Nat :=
  let c0_i32_2 : BitVec 32 := 0#32
  let c1_i32 : BitVec 32 := 1#32
  let arg10 : BitVec 32 := Scf.iv c0_i32_2 c1_i32 k0_t1
  let c2_i32 : BitVec 32 := 2#32
  let v14 : BitVec 32 := Scalar.muli arg10 c2_i32
  let v15 : BitVec 32 := Scalar.addi v14 c0_i32_5
  let c64_i32 : BitVec 32 := 64#32
  let v16 : BitVec 32 := Scalar.muli v15 c64_i32
  let v17 : BitVec 32 := v16
  let v18 : Index := Scalar.indexCast v17
  let c0 : Index := 0#32
  ![v18.toNat, 0]
def k0_off2 (k0_t1 : Fin k0_t1_loop.trips) (c0_i32_5 : BitVec 32) : Fin 2 → Nat :=
  let c0_i32_2 : BitVec 32 := 0#32
  let c1_i32 : BitVec 32 := 1#32
  let arg10 : BitVec 32 := Scf.iv c0_i32_2 c1_i32 k0_t1
  let c2_i32 : BitVec 32 := 2#32
  let v14 : BitVec 32 := Scalar.muli arg10 c2_i32
  let v15 : BitVec 32 := Scalar.addi v14 c0_i32_5
  let c64_i32 : BitVec 32 := 64#32
  let v16 : BitVec 32 := Scalar.muli v15 c64_i32
  let v17 : BitVec 32 := v16
  let v34 : Index := Scalar.indexCast v17
  let c0_10 : Index := 0#32
  ![v34.toNat, 0]
def k0_off3 (k0_t1 : Fin k0_t1_loop.trips) (c0_i32_5 : BitVec 32) : Fin 2 → Nat :=
  let c0_i32_2 : BitVec 32 := 0#32
  let c1_i32 : BitVec 32 := 1#32
  let arg10 : BitVec 32 := Scf.iv c0_i32_2 c1_i32 k0_t1
  let c2_i32 : BitVec 32 := 2#32
  let v14 : BitVec 32 := Scalar.muli arg10 c2_i32
  let v15 : BitVec 32 := Scalar.addi v14 c0_i32_5
  let c64_i32 : BitVec 32 := 64#32
  let v16 : BitVec 32 := Scalar.muli v15 c64_i32
  let v17 : BitVec 32 := v16
  let v40 : Index := Scalar.indexCast v17
  let c0_12 : Index := 0#32
  ![v40.toNat, 0]
def k0_off4 (k0_t1 : Fin k0_t1_loop.trips) (c0_i32_5 : BitVec 32) : Fin 2 → Nat :=
  let c0_i32_2 : BitVec 32 := 0#32
  let c1_i32 : BitVec 32 := 1#32
  let arg10 : BitVec 32 := Scf.iv c0_i32_2 c1_i32 k0_t1
  let c2_i32 : BitVec 32 := 2#32
  let v14 : BitVec 32 := Scalar.muli arg10 c2_i32
  let v15 : BitVec 32 := Scalar.addi v14 c0_i32_5
  let c64_i32 : BitVec 32 := 64#32
  let v16 : BitVec 32 := Scalar.muli v15 c64_i32
  let v17 : BitVec 32 := v16
  let v84 : Index := Scalar.indexCast v17
  let c128 : Index := 128#32
  ![v84.toNat, 128]
def k0_off5 (k0_t1 : Fin k0_t1_loop.trips) (c0_i32_5 : BitVec 32) : Fin 2 → Nat :=
  let c0_i32_2 : BitVec 32 := 0#32
  let c1_i32 : BitVec 32 := 1#32
  let arg10 : BitVec 32 := Scf.iv c0_i32_2 c1_i32 k0_t1
  let c2_i32 : BitVec 32 := 2#32
  let v14 : BitVec 32 := Scalar.muli arg10 c2_i32
  let v15 : BitVec 32 := Scalar.addi v14 c0_i32_5
  let c64_i32 : BitVec 32 := 64#32
  let v16 : BitVec 32 := Scalar.muli v15 c64_i32
  let v17 : BitVec 32 := v16
  let v90 : Index := Scalar.indexCast v17
  let c256 : Index := 256#32
  ![v90.toNat, 256]
def k0_off6 (k0_t1 : Fin k0_t1_loop.trips) (c0_i32_5 : BitVec 32) : Fin 2 → Nat :=
  let c0_i32_2 : BitVec 32 := 0#32
  let c1_i32 : BitVec 32 := 1#32
  let arg10 : BitVec 32 := Scf.iv c0_i32_2 c1_i32 k0_t1
  let c2_i32 : BitVec 32 := 2#32
  let v14 : BitVec 32 := Scalar.muli arg10 c2_i32
  let v15 : BitVec 32 := Scalar.addi v14 c0_i32_5
  let c64_i32 : BitVec 32 := 64#32
  let v16 : BitVec 32 := Scalar.muli v15 c64_i32
  let v17 : BitVec 32 := v16
  let v134 : Index := Scalar.indexCast v17
  let c256_37 : Index := 256#32
  ![v134.toNat, 256]
def k0_off7 (k0_t1 : Fin k0_t1_loop.trips) (c0_i32_5 : BitVec 32) : Fin 2 → Nat :=
  let c0_i32_2 : BitVec 32 := 0#32
  let c1_i32 : BitVec 32 := 1#32
  let arg10 : BitVec 32 := Scf.iv c0_i32_2 c1_i32 k0_t1
  let c2_i32 : BitVec 32 := 2#32
  let v14 : BitVec 32 := Scalar.muli arg10 c2_i32
  let v15 : BitVec 32 := Scalar.addi v14 c0_i32_5
  let c64_i32 : BitVec 32 := 64#32
  let v16 : BitVec 32 := Scalar.muli v15 c64_i32
  let v17 : BitVec 32 := v16
  let v140 : Index := Scalar.indexCast v17
  let c512 : Index := 512#32
  ![v140.toNat, 512]
def k0_off8 (k0_t1 : Fin k0_t1_loop.trips) (c0_i32_5 : BitVec 32) : Fin 2 → Nat :=
  let c0_i32_2 : BitVec 32 := 0#32
  let c1_i32 : BitVec 32 := 1#32
  let arg10 : BitVec 32 := Scf.iv c0_i32_2 c1_i32 k0_t1
  let c2_i32 : BitVec 32 := 2#32
  let v14 : BitVec 32 := Scalar.muli arg10 c2_i32
  let v15 : BitVec 32 := Scalar.addi v14 c0_i32_5
  let c64_i32 : BitVec 32 := 64#32
  let v16 : BitVec 32 := Scalar.muli v15 c64_i32
  let v17 : BitVec 32 := v16
  let v184 : Index := Scalar.indexCast v17
  let c384 : Index := 384#32
  ![v184.toNat, 384]
def k0_off9 (k0_t1 : Fin k0_t1_loop.trips) (c0_i32_5 : BitVec 32) : Fin 2 → Nat :=
  let c0_i32_2 : BitVec 32 := 0#32
  let c1_i32 : BitVec 32 := 1#32
  let arg10 : BitVec 32 := Scf.iv c0_i32_2 c1_i32 k0_t1
  let c2_i32 : BitVec 32 := 2#32
  let v14 : BitVec 32 := Scalar.muli arg10 c2_i32
  let v15 : BitVec 32 := Scalar.addi v14 c0_i32_5
  let c64_i32 : BitVec 32 := 64#32
  let v16 : BitVec 32 := Scalar.muli v15 c64_i32
  let v17 : BitVec 32 := v16
  let v190 : Index := Scalar.indexCast v17
  let c768 : Index := 768#32
  ![v190.toNat, 768]
def k0_mult2 (k0_t1 : Fin k0_t1_loop.trips) : BitVec 32 :=
  let c0_i32_2 : BitVec 32 := 0#32
  let c1_i32 : BitVec 32 := 1#32
  let arg10 : BitVec 32 := Scf.iv c0_i32_2 c1_i32 k0_t1
  let c2_i32_62 : BitVec 32 := 2#32
  let v234 : BitVec 32 := Scalar.muli arg10 c2_i32_62
  let c1_i32_63 : BitVec 32 := 1#32
  let v235 : BitVec 32 := Scalar.addi v234 c1_i32_63
  let c64_i32_64 : BitVec 32 := 64#32
  let v236 : BitVec 32 := Scalar.muli v235 c64_i32_64
  v236
def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_4 : BitVec 32 := 0#32
  let v13 : BitVec 1 := Scalar.cmpi .ne v12 c0_i32_4
  v13

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S16384x1024 : Shape := ⟨2, ![16384, 1024]⟩
abbrev S16384x512 : Shape := ⟨2, ![16384, 512]⟩
abbrev S2x4x128x256 : Shape := ⟨4, ![2, 4, 128, 256]⟩
abbrev S2x8192x4x128 : Shape := ⟨4, ![2, 8192, 4, 128]⟩
abbrev S2x8192x4x256 : Shape := ⟨4, ![2, 8192, 4, 256]⟩
abbrev S_ : Shape := ⟨0, ![]⟩
abbrev S64x64 : Shape := ⟨2, ![64, 64]⟩
abbrev S1x64x64x1x1 : Shape := ⟨5, ![1, 64, 64, 1, 1]⟩
abbrev S2x128x64x4x128 : Shape := ⟨5, ![2, 128, 64, 4, 128]⟩
abbrev S128x2x64x4x128 : Shape := ⟨5, ![128, 2, 64, 4, 128]⟩
abbrev S2x128x64x4x256 : Shape := ⟨5, ![2, 128, 64, 4, 256]⟩
abbrev S128x2x64x4x256 : Shape := ⟨5, ![128, 2, 64, 4, 256]⟩
abbrev S1x2x64x4x128 : Shape := ⟨5, ![1, 2, 64, 4, 128]⟩
abbrev S2x64x4x128 : Shape := ⟨4, ![2, 64, 4, 128]⟩
abbrev S1x2x64x4x256 : Shape := ⟨5, ![1, 2, 64, 4, 256]⟩
abbrev S2x64x4x256 : Shape := ⟨4, ![2, 64, 4, 256]⟩
abbrev S2x64x1x4x128 : Shape := ⟨5, ![2, 64, 1, 4, 128]⟩
abbrev S2x1x64x4x128 : Shape := ⟨5, ![2, 1, 64, 4, 128]⟩
abbrev S2x64x64x4x128 : Shape := ⟨5, ![2, 64, 64, 4, 128]⟩
abbrev S2x4x64x64 : Shape := ⟨4, ![2, 4, 64, 64]⟩
abbrev S2x4x256x64 : Shape := ⟨4, ![2, 4, 256, 64]⟩
abbrev S2x1x4x128 : Shape := ⟨4, ![2, 1, 4, 128]⟩
abbrev S2x4x128 : Shape := ⟨3, ![2, 4, 128]⟩
abbrev S2x4x128x1 : Shape := ⟨4, ![2, 4, 128, 1]⟩

abbrev nBuf : Space → Nat
  | .hbm => 119
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x512, .f32⟩
  | .hbm, ⟨3, _⟩ => ⟨S2x4x128x256, .f32⟩
  | .hbm, ⟨4, _⟩ => ⟨S16384x512, .bf16⟩
  | .hbm, ⟨5, _⟩ => ⟨S2x8192x4x128, .bf16⟩
  | .hbm, ⟨6, _⟩ => ⟨S16384x512, .bf16⟩
  | .hbm, ⟨7, _⟩ => ⟨S2x8192x4x128, .bf16⟩
  | .hbm, ⟨8, _⟩ => ⟨S2x8192x4x256, .bf16⟩
  | .hbm, ⟨9, _⟩ => ⟨S2x8192x4x128, .f32⟩
  | .hbm, ⟨10, _⟩ => ⟨S_, .i1⟩
  | .hbm, ⟨11, _⟩ => ⟨S64x64, .i1⟩
  | .hbm, ⟨12, _⟩ => ⟨S64x64, .i32⟩
  | .hbm, ⟨13, _⟩ => ⟨S_, .i32⟩
  | .hbm, ⟨14, _⟩ => ⟨S64x64, .i32⟩
  | .hbm, ⟨15, _⟩ => ⟨S64x64, .i32⟩
  | .hbm, ⟨16, _⟩ => ⟨S64x64, .i32⟩
  | .hbm, ⟨17, _⟩ => ⟨S64x64, .i1⟩
  | .hbm, ⟨18, _⟩ => ⟨S_, .i1⟩
  | .hbm, ⟨19, _⟩ => ⟨S64x64, .i1⟩
  | .hbm, ⟨20, _⟩ => ⟨S64x64, .i1⟩
  | .hbm, ⟨21, _⟩ => ⟨S1x64x64x1x1, .i1⟩
  | .hbm, ⟨22, _⟩ => ⟨S2x8192x4x128, .f32⟩
  | .hbm, ⟨23, _⟩ => ⟨S2x128x64x4x128, .f32⟩
  | .hbm, ⟨24, _⟩ => ⟨S128x2x64x4x128, .f32⟩
  | .hbm, ⟨25, _⟩ => ⟨S2x8192x4x128, .f32⟩
  | .hbm, ⟨26, _⟩ => ⟨S2x128x64x4x128, .f32⟩
  | .hbm, ⟨27, _⟩ => ⟨S128x2x64x4x128, .f32⟩
  | .hbm, ⟨28, _⟩ => ⟨S2x8192x4x256, .f32⟩
  | .hbm, ⟨29, _⟩ => ⟨S2x128x64x4x256, .f32⟩
  | .hbm, ⟨30, _⟩ => ⟨S128x2x64x4x256, .f32⟩
  | .hbm, ⟨31, _⟩ => ⟨S2x128x64x4x128, .f32⟩
  | .hbm, ⟨32, _⟩ => ⟨S128x2x64x4x128, .f32⟩
  | .hbm, ⟨33, _⟩ => ⟨S_, .f32⟩
  | .hbm, ⟨34, _⟩ => ⟨S128x2x64x4x256, .f32⟩
  | .hbm, ⟨35, _⟩ => ⟨S_, .i32⟩
  | .hbm, ⟨36, _⟩ => ⟨S128x2x64x4x128, .f32⟩
  | .hbm, ⟨37, _⟩ => ⟨S128x2x64x4x128, .f32⟩
  | .hbm, ⟨38, _⟩ => ⟨S128x2x64x4x256, .f32⟩
  | .hbm, ⟨39, _⟩ => ⟨S128x2x64x4x128, .f32⟩
  | .hbm, ⟨40, _⟩ => ⟨S1x64x64x1x1, .i1⟩
  | .hbm, ⟨41, _⟩ => ⟨S_, .i32⟩
  | .hbm, ⟨42, _⟩ => ⟨S2x4x128x256, .f32⟩
  | .hbm, ⟨43, _⟩ => ⟨S128x2x64x4x256, .f32⟩
  | .hbm, ⟨44, _⟩ => ⟨S_, .i32⟩
  | .hbm, ⟨45, _⟩ => ⟨S_, .i1⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S1x2x64x4x128, .f32⟩
  | .hbm, ⟨51, _⟩ => ⟨S2x64x4x128, .f32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S1x2x64x4x128, .f32⟩
  | .hbm, ⟨57, _⟩ => ⟨S2x64x4x128, .f32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S1x2x64x4x256, .f32⟩
  | .hbm, ⟨63, _⟩ => ⟨S2x64x4x256, .f32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S1x2x64x4x128, .f32⟩
  | .hbm, ⟨69, _⟩ => ⟨S2x64x4x128, .f32⟩
  | .hbm, ⟨70, _⟩ => ⟨S_, .f32⟩
  | .hbm, ⟨71, _⟩ => ⟨S_, .f32⟩
  | .hbm, ⟨72, _⟩ => ⟨S2x64x4x128, .f32⟩
  | .hbm, ⟨73, _⟩ => ⟨S2x64x1x4x128, .f32⟩
  | .hbm, ⟨74, _⟩ => ⟨S2x1x64x4x128, .f32⟩
  | .hbm, ⟨75, _⟩ => ⟨S2x64x64x4x128, .f32⟩
  | .hbm, ⟨76, _⟩ => ⟨S2x64x64x4x128, .f32⟩
  | .hbm, ⟨77, _⟩ => ⟨S2x64x64x4x128, .f32⟩
  | .hbm, ⟨78, _⟩ => ⟨S_, .f32⟩
  | .hbm, ⟨79, _⟩ => ⟨S_, .f32⟩
  | .hbm, ⟨80, _⟩ => ⟨S2x64x64x4x128, .i1⟩
  | .hbm, ⟨81, _⟩ => ⟨S2x64x64x4x128, .f32⟩
  | .hbm, ⟨82, _⟩ => ⟨S2x64x64x4x128, .f32⟩
  | .hbm, ⟨83, _⟩ => ⟨S2x64x64x4x128, .f32⟩
  | .hbm, ⟨84, _⟩ => ⟨S2x1x64x4x128, .f32⟩
  | .hbm, ⟨85, _⟩ => ⟨S2x64x64x4x128, .f32⟩
  | .hbm, ⟨86, _⟩ => ⟨S2x64x64x4x128, .f32⟩
  | .hbm, ⟨87, _⟩ => ⟨S2x4x64x64, .f32⟩
  | .hbm, ⟨88, _⟩ => ⟨S2x4x256x64, .f32⟩
  | .hbm, ⟨89, _⟩ => ⟨S2x64x4x256, .f32⟩
  | .hbm, ⟨90, _⟩ => ⟨S2x64x4x128, .f32⟩
  | .hbm, ⟨91, _⟩ => ⟨S2x64x4x128, .f32⟩
  | .hbm, ⟨92, _⟩ => ⟨S2x4x256x64, .f32⟩
  | .hbm, ⟨93, _⟩ => ⟨S2x64x4x256, .f32⟩
  | .hbm, ⟨94, _⟩ => ⟨S2x64x4x256, .f32⟩
  | .hbm, ⟨95, _⟩ => ⟨S2x1x4x128, .f32⟩
  | .hbm, ⟨96, _⟩ => ⟨S2x4x128, .f32⟩
  | .hbm, ⟨97, _⟩ => ⟨S2x4x128, .f32⟩
  | .hbm, ⟨98, _⟩ => ⟨S2x4x128x1, .f32⟩
  | .hbm, ⟨99, _⟩ => ⟨S2x4x128x256, .f32⟩
  | .hbm, ⟨100, _⟩ => ⟨S2x4x128x256, .f32⟩
  | .hbm, ⟨101, _⟩ => ⟨S2x1x4x128, .f32⟩
  | .hbm, ⟨102, _⟩ => ⟨S2x64x4x128, .f32⟩
  | .hbm, ⟨103, _⟩ => ⟨S2x64x4x128, .f32⟩
  | .hbm, ⟨104, _⟩ => ⟨S2x64x4x128, .f32⟩
  | .hbm, ⟨105, _⟩ => ⟨S2x64x4x128, .f32⟩
  | .hbm, ⟨106, _⟩ => ⟨S2x4x128x256, .f32⟩
  | .hbm, ⟨107, _⟩ => ⟨S2x4x128x256, .f32⟩
  | .hbm, ⟨108, _⟩ => ⟨S1x2x64x4x256, .f32⟩
  | .hbm, ⟨109, _⟩ => ⟨S_, .i32⟩
  | .hbm, ⟨110, _⟩ => ⟨S_, .i32⟩
  | .hbm, ⟨111, _⟩ => ⟨S_, .i32⟩
  | .hbm, ⟨112, _⟩ => ⟨S_, .i32⟩
  | .hbm, ⟨113, _⟩ => ⟨S128x2x64x4x256, .f32⟩
  | .hbm, ⟨114, _⟩ => ⟨S_, .i32⟩
  | .hbm, ⟨115, _⟩ => ⟨S_, .i32⟩
  | .hbm, ⟨116, _⟩ => ⟨S2x128x64x4x256, .f32⟩
  | .hbm, ⟨117, _⟩ => ⟨S16384x1024, .f32⟩
  | .hbm, ⟨118, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_0 : Ref sig .tc := ⟨.hbm, 18, rfl⟩
abbrev main_call0_v5 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst : Ref sig .tc := ⟨.hbm, 33, rfl⟩
abbrev main_v20 : Ref sig .tc := ⟨.hbm, 34, rfl⟩
abbrev main_c_0 : Ref sig .tc := ⟨.hbm, 35, rfl⟩
abbrev main_v21_0 : Ref sig .tc := ⟨.hbm, 36, rfl⟩
abbrev main_v21_1 : Ref sig .tc := ⟨.hbm, 37, rfl⟩
abbrev main_v21_2 : Ref sig .tc := ⟨.hbm, 38, rfl⟩
abbrev main_v21_3 : Ref sig .tc := ⟨.hbm, 39, rfl⟩
abbrev main_v21_4 : Ref sig .tc := ⟨.hbm, 40, rfl⟩
abbrev main_v21_5 : Ref sig .tc := ⟨.hbm, 41, rfl⟩
abbrev main_v21_6 : Ref sig .tc := ⟨.hbm, 42, rfl⟩
abbrev main_v21_7 : Ref sig .tc := ⟨.hbm, 43, rfl⟩
abbrev main_while0c_c_8 : Ref sig .tc := ⟨.hbm, 44, rfl⟩
abbrev main_while0c_v25 : Ref sig .tc := ⟨.hbm, 45, rfl⟩
abbrev main_while0b_call1_c : Ref sig .tc := ⟨.hbm, 46, rfl⟩
abbrev main_while0b_call1_c_0 : Ref sig .tc := ⟨.hbm, 47, rfl⟩
abbrev main_while0b_call1_c_1 : Ref sig .tc := ⟨.hbm, 48, rfl⟩
abbrev main_while0b_call1_c_2 : Ref sig .tc := ⟨.hbm, 49, rfl⟩
abbrev main_while0b_call1_v0 : Ref sig .tc := ⟨.hbm, 50, rfl⟩
abbrev main_while0b_v25 : Ref sig .tc := ⟨.hbm, 51, rfl⟩
abbrev main_while0b_call2_c : Ref sig .tc := ⟨.hbm, 52, rfl⟩
abbrev main_while0b_call2_c_0 : Ref sig .tc := ⟨.hbm, 53, rfl⟩
abbrev main_while0b_call2_c_1 : Ref sig .tc := ⟨.hbm, 54, rfl⟩
abbrev main_while0b_call2_c_2 : Ref sig .tc := ⟨.hbm, 55, rfl⟩
abbrev main_while0b_call2_v0 : Ref sig .tc := ⟨.hbm, 56, rfl⟩
abbrev main_while0b_v26 : Ref sig .tc := ⟨.hbm, 57, rfl⟩
abbrev main_while0b_call3_c : Ref sig .tc := ⟨.hbm, 58, rfl⟩
abbrev main_while0b_call3_c_0 : Ref sig .tc := ⟨.hbm, 59, rfl⟩
abbrev main_while0b_call3_c_1 : Ref sig .tc := ⟨.hbm, 60, rfl⟩
abbrev main_while0b_call3_c_2 : Ref sig .tc := ⟨.hbm, 61, rfl⟩
abbrev main_while0b_call3_v0 : Ref sig .tc := ⟨.hbm, 62, rfl⟩
abbrev main_while0b_v27 : Ref sig .tc := ⟨.hbm, 63, rfl⟩
abbrev main_while0b_call4_c : Ref sig .tc := ⟨.hbm, 64, rfl⟩
abbrev main_while0b_call4_c_0 : Ref sig .tc := ⟨.hbm, 65, rfl⟩
abbrev main_while0b_call4_c_1 : Ref sig .tc := ⟨.hbm, 66, rfl⟩
abbrev main_while0b_call4_c_2 : Ref sig .tc := ⟨.hbm, 67, rfl⟩
abbrev main_while0b_call4_v0 : Ref sig .tc := ⟨.hbm, 68, rfl⟩
abbrev main_while0b_v28 : Ref sig .tc := ⟨.hbm, 69, rfl⟩
abbrev main_while0b_call5_call0_cst : Ref sig .tc := ⟨.hbm, 70, rfl⟩
abbrev main_while0b_call5_call0_v0 : Ref sig .tc := ⟨.hbm, 71, rfl⟩
abbrev main_while0b_v29 : Ref sig .tc := ⟨.hbm, 72, rfl⟩
abbrev main_while0b_v30 : Ref sig .tc := ⟨.hbm, 73, rfl⟩
abbrev main_while0b_v31 : Ref sig .tc := ⟨.hbm, 74, rfl⟩
abbrev main_while0b_v32 : Ref sig .tc := ⟨.hbm, 75, rfl⟩
abbrev main_while0b_v33 : Ref sig .tc := ⟨.hbm, 76, rfl⟩
abbrev main_while0b_v34 : Ref sig .tc := ⟨.hbm, 77, rfl⟩
abbrev main_while0b_cst_8 : Ref sig .tc := ⟨.hbm, 78, rfl⟩
abbrev main_while0b_call6_v0 : Ref sig .tc := ⟨.hbm, 79, rfl⟩
abbrev main_while0b_call6_v1 : Ref sig .tc := ⟨.hbm, 80, rfl⟩
abbrev main_while0b_call6_v2 : Ref sig .tc := ⟨.hbm, 81, rfl⟩
abbrev main_while0b_v35 : Ref sig .tc := ⟨.hbm, 82, rfl⟩
abbrev main_while0b_v36 : Ref sig .tc := ⟨.hbm, 83, rfl⟩
abbrev main_while0b_v37 : Ref sig .tc := ⟨.hbm, 84, rfl⟩
abbrev main_while0b_v38 : Ref sig .tc := ⟨.hbm, 85, rfl⟩
abbrev main_while0b_v39 : Ref sig .tc := ⟨.hbm, 86, rfl⟩
abbrev main_while0b_v40 : Ref sig .tc := ⟨.hbm, 87, rfl⟩
abbrev main_while0b_v41 : Ref sig .tc := ⟨.hbm, 88, rfl⟩
abbrev main_while0b_v42 : Ref sig .tc := ⟨.hbm, 89, rfl⟩
abbrev main_while0b_v43 : Ref sig .tc := ⟨.hbm, 90, rfl⟩
abbrev main_while0b_v44 : Ref sig .tc := ⟨.hbm, 91, rfl⟩
abbrev main_while0b_v45 : Ref sig .tc := ⟨.hbm, 92, rfl⟩
abbrev main_while0b_v46 : Ref sig .tc := ⟨.hbm, 93, rfl⟩
abbrev main_while0b_v47 : Ref sig .tc := ⟨.hbm, 94, rfl⟩
abbrev main_while0b_v48 : Ref sig .tc := ⟨.hbm, 95, rfl⟩
abbrev main_while0b_v49 : Ref sig .tc := ⟨.hbm, 96, rfl⟩
abbrev main_while0b_v50 : Ref sig .tc := ⟨.hbm, 97, rfl⟩
abbrev main_while0b_v51 : Ref sig .tc := ⟨.hbm, 98, rfl⟩
abbrev main_while0b_v52 : Ref sig .tc := ⟨.hbm, 99, rfl⟩
abbrev main_while0b_v53 : Ref sig .tc := ⟨.hbm, 100, rfl⟩
abbrev main_while0b_v54 : Ref sig .tc := ⟨.hbm, 101, rfl⟩
abbrev main_while0b_v55 : Ref sig .tc := ⟨.hbm, 102, rfl⟩
abbrev main_while0b_v56 : Ref sig .tc := ⟨.hbm, 103, rfl⟩
abbrev main_while0b_v57 : Ref sig .tc := ⟨.hbm, 104, rfl⟩
abbrev main_while0b_v58 : Ref sig .tc := ⟨.hbm, 105, rfl⟩
abbrev main_while0b_v59 : Ref sig .tc := ⟨.hbm, 106, rfl⟩
abbrev main_while0b_v60 : Ref sig .tc := ⟨.hbm, 107, rfl⟩
abbrev main_while0b_call7_v0 : Ref sig .tc := ⟨.hbm, 108, rfl⟩
abbrev main_while0b_call7_c : Ref sig .tc := ⟨.hbm, 109, rfl⟩
abbrev main_while0b_call7_c_0 : Ref sig .tc := ⟨.hbm, 110, rfl⟩
abbrev main_while0b_call7_c_1 : Ref sig .tc := ⟨.hbm, 111, rfl⟩
abbrev main_while0b_call7_c_2 : Ref sig .tc := ⟨.hbm, 112, rfl⟩
abbrev main_while0b_v61 : Ref sig .tc := ⟨.hbm, 113, rfl⟩
abbrev main_while0b_c_9 : Ref sig .tc := ⟨.hbm, 114, rfl⟩
abbrev main_while0b_v62 : Ref sig .tc := ⟨.hbm, 115, rfl⟩
abbrev main_v22 : Ref sig .tc := ⟨.hbm, 116, rfl⟩
abbrev main_v23 : Ref sig .tc := ⟨.hbm, 117, rfl⟩
abbrev main_v24 : Ref sig .tc := ⟨.hbm, 118, rfl⟩

abbrev nD : Nat := 1
abbrev τ : Topo := Topo.v7x

variable {F : FTy → Type} [FloatOps F]

abbrev main_while0_count : Scf.Loop 32 := ⟨0#32, 128#32, 1#32⟩
-- ==== Moba.lean ====
abbrev S16384x1024 : Shape := ⟨2, ![16384, 1024]⟩
abbrev S1024x1024 : Shape := ⟨2, ![1024, 1024]⟩
abbrev S2x1024 : Shape := ⟨2, ![2, 1024]⟩
abbrev S1024 : Shape := ⟨1, ![1024]⟩
abbrev S1024x4096 : Shape := ⟨2, ![1024, 4096]⟩
abbrev S4096x1024 : Shape := ⟨2, ![4096, 1024]⟩
abbrev S2x1x1024 : Shape := ⟨3, ![2, 1, 1024]⟩
abbrev S1x1024 : Shape := ⟨2, ![1, 1024]⟩
abbrev S1x1x1024 : Shape := ⟨3, ![1, 1, 1024]⟩
abbrev S256x1024 : Shape := ⟨2, ![256, 1024]⟩
abbrev S256 : Shape := ⟨1, ![256]⟩
abbrev S256x1 : Shape := ⟨2, ![256, 1]⟩

abbrev nBuf : Space → Nat
  | .hbm => 19
  | .vmem => 21
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x1024, .f32⟩
  | .hbm, ⟨3, _⟩ => ⟨S2x1024, .f32⟩
  | .hbm, ⟨4, _⟩ => ⟨S1024, .f32⟩
  | .hbm, ⟨5, _⟩ => ⟨S2x1024, .f32⟩
  | .hbm, ⟨6, _⟩ => ⟨S2x1024, .f32⟩
  | .hbm, ⟨7, _⟩ => ⟨S2x1024, .f32⟩
  | .hbm, ⟨8, _⟩ => ⟨S1024x4096, .f32⟩
  | .hbm, ⟨9, _⟩ => ⟨S4096x1024, .f32⟩
  | .hbm, ⟨10, _⟩ => ⟨S1024x1024, .bf16⟩
  | .hbm, ⟨11, _⟩ => ⟨S2x1x1024, .f32⟩
  | .hbm, ⟨12, _⟩ => ⟨S1x1024, .f32⟩
  | .hbm, ⟨13, _⟩ => ⟨S2x1x1024, .f32⟩
  | .hbm, ⟨14, _⟩ => ⟨S2x1x1024, .f32⟩
  | .hbm, ⟨15, _⟩ => ⟨S2x1x1024, .f32⟩
  | .hbm, ⟨16, _⟩ => ⟨S1024x4096, .bf16⟩
  | .hbm, ⟨17, _⟩ => ⟨S4096x1024, .bf16⟩
  | .hbm, ⟨18, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1x1x1024, .f32⟩
  | .local _ .vmem, ⟨6, _⟩ => ⟨S1x1x1024, .f32⟩
  | .local _ .vmem, ⟨7, _⟩ => ⟨S1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .f32⟩
  | .local _ .vmem, ⟨19, _⟩ => ⟨S1024x1024, .f32⟩
  | .local _ .vmem, ⟨20, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== MobaRefIdeal.lean ====
abbrev S16384x1024 : Shape := ⟨2, ![16384, 1024]⟩
abbrev S1024x1024 : Shape := ⟨2, ![1024, 1024]⟩
abbrev S2x1024 : Shape := ⟨2, ![2, 1024]⟩
abbrev S1024 : Shape := ⟨1, ![1024]⟩
abbrev S1024x4096 : Shape := ⟨2, ![1024, 4096]⟩
abbrev S4096x1024 : Shape := ⟨2, ![4096, 1024]⟩
abbrev S2x8192x1024 : Shape := ⟨3, ![2, 8192, 1024]⟩
abbrev S2x1x1024 : Shape := ⟨3, ![2, 1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x4096 : Shape := ⟨3, ![2, 8192, 4096]⟩

abbrev nBuf : Space → Nat
  | .hbm => 54
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x1024, .f32⟩
  | .hbm, ⟨3, _⟩ => ⟨S2x1024, .f32⟩
  | .hbm, ⟨4, _⟩ => ⟨S1024, .f32⟩
  | .hbm, ⟨5, _⟩ => ⟨S2x1024, .f32⟩
  | .hbm, ⟨6, _⟩ => ⟨S2x1024, .f32⟩
  | .hbm, ⟨7, _⟩ => ⟨S2x1024, .f32⟩
  | .hbm, ⟨8, _⟩ => ⟨S1024x4096, .f32⟩
  | .hbm, ⟨9, _⟩ => ⟨S4096x1024, .f32⟩
  | .hbm, ⟨10, _⟩ => ⟨S2x8192x1024, .f32⟩
  | .hbm, ⟨11, _⟩ => ⟨S16384x1024, .f32⟩
  | .hbm, ⟨12, _⟩ => ⟨S2x8192x1024, .f32⟩
  | .hbm, ⟨13, _⟩ => ⟨S2x8192x1024, .f32⟩
  | .hbm, ⟨14, _⟩ => ⟨S2x1x1024, .f32⟩
  | .hbm, ⟨15, _⟩ => ⟨S2x8192x1024, .f32⟩
  | .hbm, ⟨16, _⟩ => ⟨S2x8192x1024, .f32⟩
  | .hbm, ⟨17, _⟩ => ⟨S2x8192x1024, .f32⟩
  | .hbm, ⟨18, _⟩ => ⟨S2x1x1024, .f32⟩
  | .hbm, ⟨19, _⟩ => ⟨S2x8192x1024, .f32⟩
  | .hbm, ⟨20, _⟩ => ⟨S_, .f32⟩
  | .hbm, ⟨21, _⟩ => ⟨S2x8192, .f32⟩
  | .hbm, ⟨22, _⟩ => ⟨S2x8192x1, .f32⟩
  | .hbm, ⟨23, _⟩ => ⟨S_, .f32⟩
  | .hbm, ⟨24, _⟩ => ⟨S2x8192x1, .f32⟩
  | .hbm, ⟨25, _⟩ => ⟨S2x8192x1, .f32⟩
  | .hbm, ⟨26, _⟩ => ⟨S_, .f32⟩
  | .hbm, ⟨27, _⟩ => ⟨S2x8192x1, .f32⟩
  | .hbm, ⟨28, _⟩ => ⟨S2x8192x1, .f32⟩
  | .hbm, ⟨29, _⟩ => ⟨S2x8192x1, .f32⟩
  | .hbm, ⟨30, _⟩ => ⟨S2x8192x1024, .f32⟩
  | .hbm, ⟨31, _⟩ => ⟨S2x8192x1024, .f32⟩
  | .hbm, ⟨32, _⟩ => ⟨S1x1x1024, .f32⟩
  | .hbm, ⟨33, _⟩ => ⟨S2x8192x1024, .f32⟩
  | .hbm, ⟨34, _⟩ => ⟨S2x8192x1024, .f32⟩
  | .hbm, ⟨35, _⟩ => ⟨S2x1x1024, .f32⟩
  | .hbm, ⟨36, _⟩ => ⟨S_, .f32⟩
  | .hbm, ⟨37, _⟩ => ⟨S2x1x1024, .f32⟩
  | .hbm, ⟨38, _⟩ => ⟨S2x1x1024, .f32⟩
  | .hbm, ⟨39, _⟩ => ⟨S2x8192x1024, .f32⟩
  | .hbm, ⟨40, _⟩ => ⟨S2x8192x1024, .f32⟩
  | .hbm, ⟨41, _⟩ => ⟨S2x1x1024, .f32⟩
  | .hbm, ⟨42, _⟩ => ⟨S2x8192x1024, .f32⟩
  | .hbm, ⟨43, _⟩ => ⟨S2x8192x1024, .f32⟩
  | .hbm, ⟨44, _⟩ => ⟨S2x8192x4096, .f32⟩
  | .hbm, ⟨45, _⟩ => ⟨S_, .f32⟩
  | .hbm, ⟨46, _⟩ => ⟨S2x8192x4096, .f32⟩
  | .hbm, ⟨47, _⟩ => ⟨S2x8192x4096, .f32⟩
  | .hbm, ⟨48, _⟩ => ⟨S2x8192x4096, .f32⟩
  | .hbm, ⟨49, _⟩ => ⟨S2x8192x1024, .f32⟩
  | .hbm, ⟨50, _⟩ => ⟨S2x8192x1024, .f32⟩
  | .hbm, ⟨51, _⟩ => ⟨S2x8192x1024, .f32⟩
  | .hbm, ⟨52, _⟩ => ⟨S2x8192x1024, .f32⟩
  | .hbm, ⟨53, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩

abbrev nD : Nat := 1
abbrev τ : Topo := Topo.v7x

variable {F : FTy → Type} [FloatOps F]
-- ==== Kv.lean ====
abbrev S16384x1024 : Shape := ⟨2, ![16384, 1024]⟩
abbrev S1024 : Shape := ⟨1, ![1024]⟩
abbrev S2x1024 : Shape := ⟨2, ![2, 1024]⟩
abbrev S1024x2048 : Shape := ⟨2, ![1024, 2048]⟩
abbrev S128 : Shape := ⟨1, ![128]⟩
abbrev S1x1024 : Shape := ⟨2, ![1, 1024]⟩
abbrev S2x1x1024 : Shape := ⟨3, ![2, 1, 1024]⟩
abbrev S1x128 : Shape := ⟨2, ![1, 128]⟩
abbrev S16384x2048 : Shape := ⟨2, ![16384, 2048]⟩
abbrev S64x1x1024 : Shape := ⟨3, ![64, 1, 1024]⟩
abbrev S512x1024 : Shape := ⟨2, ![512, 1024]⟩
abbrev S1x1x1024 : Shape := ⟨3, ![1, 1, 1024]⟩
abbrev S512x2048 : Shape := ⟨2, ![512, 2048]⟩
abbrev S512 : Shape := ⟨1, ![512]⟩
abbrev S512x1 : Shape := ⟨2, ![512, 1]⟩
abbrev S1024x1024 : Shape := ⟨2, ![1024, 1024]⟩
abbrev S512x128 : Shape := ⟨2, ![512, 128]⟩
abbrev S256x128 : Shape := ⟨2, ![256, 128]⟩
abbrev S1x1x128 : Shape := ⟨3, ![1, 1, 128]⟩

abbrev nBuf : Space → Nat
  | .hbm => 16
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S1024x2048, .f32⟩
  | .hbm, ⟨5, _⟩ => ⟨S128, .f32⟩
  | .hbm, ⟨6, _⟩ => ⟨S1x1024, .f32⟩
  | .hbm, ⟨7, _⟩ => ⟨S2x1x1024, .f32⟩
  | .hbm, ⟨8, _⟩ => ⟨S2x1x1024, .f32⟩
  | .hbm, ⟨9, _⟩ => ⟨S1024x2048, .bf16⟩
  | .hbm, ⟨10, _⟩ => ⟨S1x128, .f32⟩
  | .hbm, ⟨11, _⟩ => ⟨S16384x1024, .f32⟩
  | .hbm, ⟨12, _⟩ => ⟨S16384x1024, .f32⟩
  | .hbm, ⟨13, _⟩ => ⟨S16384x2048, .bf16⟩
  | .hbm, ⟨14, _⟩ => ⟨S16384x2048, .bf16⟩
  | .hbm, ⟨15, _⟩ => ⟨S64x1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2048, .bf16⟩
  | .local _ .vmem, ⟨8, _⟩ => ⟨S1x128, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x2048, .bf16⟩
  | .local _ .vmem, ⟨14, _⟩ => ⟨S512x2048, .bf16⟩
  | .local _ .vmem, ⟨15, _⟩ => ⟨S512x2048, .bf16⟩
  | .local _ .vmem, ⟨16, _⟩ => ⟨S512x2048, .bf16⟩
  | .local _ .vmem, ⟨17, _⟩ => ⟨S2x1x1024, .f32⟩
  | .local _ .vmem, ⟨18, _⟩ => ⟨S2x1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KvRefIdeal.lean ====
abbrev S16384x1024 : Shape := ⟨2, ![16384, 1024]⟩
abbrev S1024 : Shape := ⟨1, ![1024]⟩
abbrev S2x1024 : Shape := ⟨2, ![2, 1024]⟩
abbrev S1024x2048 : Shape := ⟨2, ![1024, 2048]⟩
abbrev S128 : Shape := ⟨1, ![128]⟩
abbrev S2x8192x1024 : Shape := ⟨3, ![2, 8192, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x1x1024 : Shape := ⟨3, ![2, 1, 1024]⟩
abbrev S2x8192x2048 : Shape := ⟨3, ![2, 8192, 2048]⟩
abbrev S2x8192x8x128 : Shape := ⟨4, ![2, 8192, 8, 128]⟩
abbrev S2x8192x8 : Shape := ⟨3, ![2, 8192, 8]⟩
abbrev S2x8192x8x1 : Shape := ⟨4, ![2, 8192, 8, 1]⟩
abbrev S1x1x1x128 : Shape := ⟨4, ![1, 1, 1, 128]⟩

abbrev nBuf : Space → Nat
  | .hbm => 54
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S1024x2048, .f32⟩
  | .hbm, ⟨5, _⟩ => ⟨S128, .f32⟩
  | .hbm, ⟨6, _⟩ => ⟨S2x8192x1024, .f32⟩
  | .hbm, ⟨7, _⟩ => ⟨S2x8192x1024, .f32⟩
  | .hbm, ⟨8, _⟩ => ⟨S_, .f32⟩
  | .hbm, ⟨9, _⟩ => ⟨S2x8192, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S2x8192x1, .f32⟩
  | .hbm, ⟨18, _⟩ => ⟨S2x8192x1024, .f32⟩
  | .hbm, ⟨19, _⟩ => ⟨S2x8192x1024, .f32⟩
  | .hbm, ⟨20, _⟩ => ⟨S1x1x1024, .f32⟩
  | .hbm, ⟨21, _⟩ => ⟨S2x8192x1024, .f32⟩
  | .hbm, ⟨22, _⟩ => ⟨S2x8192x1024, .f32⟩
  | .hbm, ⟨23, _⟩ => ⟨S2x1x1024, .f32⟩
  | .hbm, ⟨24, _⟩ => ⟨S_, .f32⟩
  | .hbm, ⟨25, _⟩ => ⟨S2x1x1024, .f32⟩
  | .hbm, ⟨26, _⟩ => ⟨S2x1x1024, .f32⟩
  | .hbm, ⟨27, _⟩ => ⟨S2x8192x1024, .f32⟩
  | .hbm, ⟨28, _⟩ => ⟨S2x8192x1024, .f32⟩
  | .hbm, ⟨29, _⟩ => ⟨S2x1x1024, .f32⟩
  | .hbm, ⟨30, _⟩ => ⟨S2x8192x1024, .f32⟩
  | .hbm, ⟨31, _⟩ => ⟨S2x8192x1024, .f32⟩
  | .hbm, ⟨32, _⟩ => ⟨S2x8192x2048, .f32⟩
  | .hbm, ⟨33, _⟩ => ⟨S2x8192x1024, .f32⟩
  | .hbm, ⟨34, _⟩ => ⟨S2x8192x1024, .f32⟩
  | .hbm, ⟨35, _⟩ => ⟨S2x8192x8x128, .f32⟩
  | .hbm, ⟨36, _⟩ => ⟨S2x8192x8x128, .f32⟩
  | .hbm, ⟨37, _⟩ => ⟨S_, .f32⟩
  | .hbm, ⟨38, _⟩ => ⟨S2x8192x8, .f32⟩
  | .hbm, ⟨39, _⟩ => ⟨S2x8192x8x1, .f32⟩
  | .hbm, ⟨40, _⟩ => ⟨S_, .f32⟩
  | .hbm, ⟨41, _⟩ => ⟨S2x8192x8x1, .f32⟩
  | .hbm, ⟨42, _⟩ => ⟨S2x8192x8x1, .f32⟩
  | .hbm, ⟨43, _⟩ => ⟨S_, .f32⟩
  | .hbm, ⟨44, _⟩ => ⟨S2x8192x8x1, .f32⟩
  | .hbm, ⟨45, _⟩ => ⟨S2x8192x8x1, .f32⟩
  | .hbm, ⟨46, _⟩ => ⟨S2x8192x8x1, .f32⟩
  | .hbm, ⟨47, _⟩ => ⟨S2x8192x8x128, .f32⟩
  | .hbm, ⟨48, _⟩ => ⟨S2x8192x8x128, .f32⟩
  | .hbm, ⟨49, _⟩ => ⟨S1x1x1x128, .f32⟩
  | .hbm, ⟨50, _⟩ => ⟨S2x8192x8x128, .f32⟩
  | .hbm, ⟨51, _⟩ => ⟨S2x8192x8x128, .f32⟩
  | .hbm, ⟨52, _⟩ => ⟨S16384x1024, .f32⟩
  | .hbm, ⟨53, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Gla.lean ====
abbrev S16384x1024 : Shape := ⟨2, ![16384, 1024]⟩
abbrev S256 : Shape := ⟨1, ![256]⟩
abbrev S1024x1024 : Shape := ⟨2, ![1024, 1024]⟩
abbrev S2x1024 : Shape := ⟨2, ![2, 1024]⟩
abbrev S1024 : Shape := ⟨1, ![1024]⟩
abbrev S1024x4096 : Shape := ⟨2, ![1024, 4096]⟩
abbrev S4096x1024 : Shape := ⟨2, ![4096, 1024]⟩
abbrev S1x256 : Shape := ⟨2, ![1, 256]⟩
abbrev S2x1x1024 : Shape := ⟨3, ![2, 1, 1024]⟩
abbrev S1x1024 : Shape := ⟨2, ![1, 1024]⟩
abbrev S1x1x1024 : Shape := ⟨3, ![1, 1, 1024]⟩
abbrev S256x1024 : Shape := ⟨2, ![256, 1024]⟩
abbrev S256x256 : Shape := ⟨2, ![256, 256]⟩
abbrev S256x1 : Shape := ⟨2, ![256, 1]⟩

abbrev nBuf : Space → Nat
  | .hbm => 22
  | .vmem => 24
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S256, .f32⟩
  | .hbm, ⟨3, _⟩ => ⟨S16384x1024, .f32⟩
  | .hbm, ⟨4, _⟩ => ⟨S1024x1024, .f32⟩
  | .hbm, ⟨5, _⟩ => ⟨S2x1024, .f32⟩
  | .hbm, ⟨6, _⟩ => ⟨S1024, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S1024x4096, .f32⟩
  | .hbm, ⟨11, _⟩ => ⟨S4096x1024, .f32⟩
  | .hbm, ⟨12, _⟩ => ⟨S1x256, .f32⟩
  | .hbm, ⟨13, _⟩ => ⟨S1024x1024, .bf16⟩
  | .hbm, ⟨14, _⟩ => ⟨S2x1x1024, .f32⟩
  | .hbm, ⟨15, _⟩ => ⟨S1x1024, .f32⟩
  | .hbm, ⟨16, _⟩ => ⟨S2x1x1024, .f32⟩
  | .hbm, ⟨17, _⟩ => ⟨S2x1x1024, .f32⟩
  | .hbm, ⟨18, _⟩ => ⟨S2x1x1024, .f32⟩
  | .hbm, ⟨19, _⟩ => ⟨S1024x4096, .bf16⟩
  | .hbm, ⟨20, _⟩ => ⟨S4096x1024, .bf16⟩
  | .hbm, ⟨21, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x256, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1024x1024, .f32⟩
  | .local _ .vmem, ⟨22, _⟩ => ⟨S1024x1024, .f32⟩
  | .local _ .vmem, ⟨23, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== GlaRefIdeal.lean ====
abbrev S16384x1024 : Shape := ⟨2, ![16384, 1024]⟩
abbrev S256 : Shape := ⟨1, ![256]⟩
abbrev S1024x1024 : Shape := ⟨2, ![1024, 1024]⟩
abbrev S2x1024 : Shape := ⟨2, ![2, 1024]⟩
abbrev S1024 : Shape := ⟨1, ![1024]⟩
abbrev S1024x4096 : Shape := ⟨2, ![1024, 4096]⟩
abbrev S4096x1024 : Shape := ⟨2, ![4096, 1024]⟩
abbrev S2x8192x1024 : Shape := ⟨3, ![2, 8192, 1024]⟩
abbrev S2x8192x4x256 : Shape := ⟨4, ![2, 8192, 4, 256]⟩
abbrev S_ : Shape := ⟨0, ![]⟩
abbrev S2x8192x4 : Shape := ⟨3, ![2, 8192, 4]⟩
abbrev S2x8192x4x1 : Shape := ⟨4, ![2, 8192, 4, 1]⟩
abbrev S1x1x1x256 : Shape := ⟨4, ![1, 1, 1, 256]⟩
abbrev S2x1x1024 : Shape := ⟨3, ![2, 1, 1024]⟩
abbrev S2x8192 : Shape := ⟨2, ![2, 8192]⟩
abbrev S2x8192x1 : Shape := ⟨3, ![2, 8192, 1]⟩
abbrev S1x1x1024 : Shape := ⟨3, ![1, 1, 1024]⟩
abbrev S2x8192x4096 : Shape := ⟨3, ![2, 8192, 4096]⟩

abbrev nBuf : Space → Nat
  | .hbm => 85
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S256, .f32⟩
  | .hbm, ⟨3, _⟩ => ⟨S16384x1024, .f32⟩
  | .hbm, ⟨4, _⟩ => ⟨S1024x1024, .f32⟩
  | .hbm, ⟨5, _⟩ => ⟨S2x1024, .f32⟩
  | .hbm, ⟨6, _⟩ => ⟨S1024, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S1024x4096, .f32⟩
  | .hbm, ⟨11, _⟩ => ⟨S4096x1024, .f32⟩
  | .hbm, ⟨12, _⟩ => ⟨S2x8192x1024, .f32⟩
  | .hbm, ⟨13, _⟩ => ⟨S16384x1024, .f32⟩
  | .hbm, ⟨14, _⟩ => ⟨S2x8192x4x256, .f32⟩
  | .hbm, ⟨15, _⟩ => ⟨S2x8192x4x256, .f32⟩
  | .hbm, ⟨16, _⟩ => ⟨S_, .f32⟩
  | .hbm, ⟨17, _⟩ => ⟨S2x8192x4, .f32⟩
  | .hbm, ⟨18, _⟩ => ⟨S2x8192x4x1, .f32⟩
  | .hbm, ⟨19, _⟩ => ⟨S_, .f32⟩
  | .hbm, ⟨20, _⟩ => ⟨S2x8192x4x1, .f32⟩
  | .hbm, ⟨21, _⟩ => ⟨S2x8192x4x1, .f32⟩
  | .hbm, ⟨22, _⟩ => ⟨S_, .f32⟩
  | .hbm, ⟨23, _⟩ => ⟨S2x8192x4x1, .f32⟩
  | .hbm, ⟨24, _⟩ => ⟨S2x8192x4x1, .f32⟩
  | .hbm, ⟨25, _⟩ => ⟨S2x8192x4x1, .f32⟩
  | .hbm, ⟨26, _⟩ => ⟨S2x8192x4x256, .f32⟩
  | .hbm, ⟨27, _⟩ => ⟨S2x8192x4x256, .f32⟩
  | .hbm, ⟨28, _⟩ => ⟨S1x1x1x256, .f32⟩
  | .hbm, ⟨29, _⟩ => ⟨S2x8192x4x256, .f32⟩
  | .hbm, ⟨30, _⟩ => ⟨S2x8192x4x256, .f32⟩
  | .hbm, ⟨31, _⟩ => ⟨S2x8192x1024, .f32⟩
  | .hbm, ⟨32, _⟩ => ⟨S16384x1024, .f32⟩
  | .hbm, ⟨33, _⟩ => ⟨S2x8192x1024, .f32⟩
  | .hbm, ⟨34, _⟩ => ⟨S2x8192x1024, .f32⟩
  | .hbm, ⟨35, _⟩ => ⟨S2x8192x1024, .f32⟩
  | .hbm, ⟨36, _⟩ => ⟨S_, .f32⟩
  | .hbm, ⟨37, _⟩ => ⟨S2x8192x1024, .f32⟩
  | .hbm, ⟨38, _⟩ => ⟨S2x8192x1024, .f32⟩
  | .hbm, ⟨39, _⟩ => ⟨S_, .f32⟩
  | .hbm, ⟨40, _⟩ => ⟨S2x8192x1024, .f32⟩
  | .hbm, ⟨41, _⟩ => ⟨S2x8192x1024, .f32⟩
  | .hbm, ⟨42, _⟩ => ⟨S2x8192x1024, .f32⟩
  | .hbm, ⟨43, _⟩ => ⟨S2x8192x1024, .f32⟩
  | .hbm, ⟨44, _⟩ => ⟨S2x8192x1024, .f32⟩
  | .hbm, ⟨45, _⟩ => ⟨S2x1x1024, .f32⟩
  | .hbm, ⟨46, _⟩ => ⟨S2x8192x1024, .f32⟩
  | .hbm, ⟨47, _⟩ => ⟨S2x8192x1024, .f32⟩
  | .hbm, ⟨48, _⟩ => ⟨S2x8192x1024, .f32⟩
  | .hbm, ⟨49, _⟩ => ⟨S2x1x1024, .f32⟩
  | .hbm, ⟨50, _⟩ => ⟨S2x8192x1024, .f32⟩
  | .hbm, ⟨51, _⟩ => ⟨S_, .f32⟩
  | .hbm, ⟨52, _⟩ => ⟨S2x8192, .f32⟩
  | .hbm, ⟨53, _⟩ => ⟨S2x8192x1, .f32⟩
  | .hbm, ⟨54, _⟩ => ⟨S_, .f32⟩
  | .hbm, ⟨55, _⟩ => ⟨S2x8192x1, .f32⟩
  | .hbm, ⟨56, _⟩ => ⟨S2x8192x1, .f32⟩
  | .hbm, ⟨57, _⟩ => ⟨S_, .f32⟩
  | .hbm, ⟨58, _⟩ => ⟨S2x8192x1, .f32⟩
  | .hbm, ⟨59, _⟩ => ⟨S2x8192x1, .f32⟩
  | .hbm, ⟨60, _⟩ => ⟨S2x8192x1, .f32⟩
  | .hbm, ⟨61, _⟩ => ⟨S2x8192x1024, .f32⟩
  | .hbm, ⟨62, _⟩ => ⟨S2x8192x1024, .f32⟩
  | .hbm, ⟨63, _⟩ => ⟨S1x1x1024, .f32⟩
  | .hbm, ⟨64, _⟩ => ⟨S2x8192x1024, .f32⟩
  | .hbm, ⟨65, _⟩ => ⟨S2x8192x1024, .f32⟩
  | .hbm, ⟨66, _⟩ => ⟨S2x1x1024, .f32⟩
  | .hbm, ⟨67, _⟩ => ⟨S_, .f32⟩
  | .hbm, ⟨68, _⟩ => ⟨S2x1x1024, .f32⟩
  | .hbm, ⟨69, _⟩ => ⟨S2x1x1024, .f32⟩
  | .hbm, ⟨70, _⟩ => ⟨S2x8192x1024, .f32⟩
  | .hbm, ⟨71, _⟩ => ⟨S2x8192x1024, .f32⟩
  | .hbm, ⟨72, _⟩ => ⟨S2x1x1024, .f32⟩
  | .hbm, ⟨73, _⟩ => ⟨S2x8192x1024, .f32⟩
  | .hbm, ⟨74, _⟩ => ⟨S2x8192x1024, .f32⟩
  | .hbm, ⟨75, _⟩ => ⟨S2x8192x4096, .f32⟩
  | .hbm, ⟨76, _⟩ => ⟨S_, .f32⟩
  | .hbm, ⟨77, _⟩ => ⟨S2x8192x4096, .f32⟩
  | .hbm, ⟨78, _⟩ => ⟨S2x8192x4096, .f32⟩
  | .hbm, ⟨79, _⟩ => ⟨S2x8192x4096, .f32⟩
  | .hbm, ⟨80, _⟩ => ⟨S2x8192x1024, .f32⟩
  | .hbm, ⟨81, _⟩ => ⟨S2x8192x1024, .f32⟩
  | .hbm, ⟨82, _⟩ => ⟨S2x8192x1024, .f32⟩
  | .hbm, ⟨83, _⟩ => ⟨S2x8192x1024, .f32⟩
  | .hbm, ⟨84, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_2 : Ref sig .tc := ⟨.hbm, 51, rfl⟩
abbrev main_v28 : Ref sig .tc := ⟨.hbm, 52, rfl⟩
abbrev main_v29 : Ref sig .tc := ⟨.hbm, 53, rfl⟩
abbrev main_cst_3 : Ref sig .tc := ⟨.hbm, 54, rfl⟩
abbrev main_v30 : Ref sig .tc := ⟨.hbm, 55, rfl⟩
abbrev main_v31 : Ref sig .tc := ⟨.hbm, 56, rfl⟩
abbrev main_cst_4 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_5 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_call1_cst : Ref sig .tc := ⟨.hbm, 76, rfl⟩
abbrev main_call1_v0 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩

abbrev nD : Nat := 1
abbrev τ : Topo := Topo.v7x

variable {F : FTy → Type} [FloatOps F]
-- ==== GlaIn.lean ====
abbrev S16384x1024 : Shape := ⟨2, ![16384, 1024]⟩
abbrev S1024 : Shape := ⟨1, ![1024]⟩
abbrev S2x1024 : Shape := ⟨2, ![2, 1024]⟩
abbrev S1024x3088 : Shape := ⟨2, ![1024, 3088]⟩
abbrev S16x512 : Shape := ⟨2, ![16, 512]⟩
abbrev S512 : Shape := ⟨1, ![512]⟩
abbrev S1024x3072 : Shape := ⟨2, ![1024, 3072]⟩
abbrev S1024x16 : Shape := ⟨2, ![1024, 16]⟩
abbrev S_ : Shape := ⟨0, ![]⟩
abbrev S1024x128 : Shape := ⟨2, ![1024, 128]⟩
abbrev S1x16x512 : Shape := ⟨3, ![1, 16, 512]⟩
abbrev S1x128x512 : Shape := ⟨3, ![1, 128, 512]⟩
abbrev S1x1x128x512 : Shape := ⟨4, ![1, 1, 128, 512]⟩
abbrev S1x2x128x512 : Shape := ⟨4, ![1, 2, 128, 512]⟩
abbrev S2x128x512 : Shape := ⟨3, ![2, 128, 512]⟩
abbrev S1x1024 : Shape := ⟨2, ![1, 1024]⟩
abbrev S2x1x1024 : Shape := ⟨3, ![2, 1, 1024]⟩
abbrev S1x512 : Shape := ⟨2, ![1, 512]⟩
abbrev S16384x512 : Shape := ⟨2, ![16384, 512]⟩
abbrev S512x1024 : Shape := ⟨2, ![512, 1024]⟩
abbrev S1x1x1024 : Shape := ⟨3, ![1, 1, 1024]⟩
abbrev S512x512 : Shape := ⟨2, ![512, 512]⟩
abbrev S256x1024 : Shape := ⟨2, ![256, 1024]⟩
abbrev S256 : Shape := ⟨1, ![256]⟩
abbrev S256x1 : Shape := ⟨2, ![256, 1]⟩
abbrev S256x128 : Shape := ⟨2, ![256, 128]⟩
abbrev S128x512 : Shape := ⟨2, ![128, 512]⟩
abbrev S256x512 : Shape := ⟨2, ![256, 512]⟩
abbrev S1024x512 : Shape := ⟨2, ![1024, 512]⟩
abbrev S1024x1024 : Shape := ⟨2, ![1024, 1024]⟩

abbrev nBuf : Space → Nat
  | .hbm => 34
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S1024x3088, .f32⟩
  | .hbm, ⟨5, _⟩ => ⟨S16x512, .f32⟩
  | .hbm, ⟨6, _⟩ => ⟨S512, .f32⟩
  | .hbm, ⟨7, _⟩ => ⟨S1024x3072, .f32⟩
  | .hbm, ⟨8, _⟩ => ⟨S1024x3072, .bf16⟩
  | .hbm, ⟨9, _⟩ => ⟨S1024x16, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x128, .bf16⟩
  | .hbm, ⟨14, _⟩ => ⟨S1x16x512, .f32⟩
  | .hbm, ⟨15, _⟩ => ⟨S_, .i32⟩
  | .hbm, ⟨16, _⟩ => ⟨S_, .f32⟩
  | .hbm, ⟨17, _⟩ => ⟨S1x128x512, .f32⟩
  | .hbm, ⟨18, _⟩ => ⟨S1x128x512, .bf16⟩
  | .hbm, ⟨19, _⟩ => ⟨S1x128x512, .f32⟩
  | .hbm, ⟨20, _⟩ => ⟨S1x128x512, .f32⟩
  | .hbm, ⟨21, _⟩ => ⟨S1x128x512, .bf16⟩
  | .hbm, ⟨22, _⟩ => ⟨S1x1x128x512, .bf16⟩
  | .hbm, ⟨23, _⟩ => ⟨S1x1x128x512, .bf16⟩
  | .hbm, ⟨24, _⟩ => ⟨S1x2x128x512, .bf16⟩
  | .hbm, ⟨25, _⟩ => ⟨S2x128x512, .bf16⟩
  | .hbm, ⟨26, _⟩ => ⟨S1x1024, .f32⟩
  | .hbm, ⟨27, _⟩ => ⟨S2x1x1024, .f32⟩
  | .hbm, ⟨28, _⟩ => ⟨S2x1x1024, .f32⟩
  | .hbm, ⟨29, _⟩ => ⟨S1x512, .f32⟩
  | .hbm, ⟨30, _⟩ => ⟨S16384x1024, .bf16⟩
  | .hbm, ⟨31, _⟩ => ⟨S16384x1024, .bf16⟩
  | .hbm, ⟨32, _⟩ => ⟨S16384x1024, .bf16⟩
  | .hbm, ⟨33, _⟩ => ⟨S16384x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3072, .bf16⟩
  | .local _ .vmem, ⟨8, _⟩ => ⟨S1024x128, .bf16⟩
  | .local _ .vmem, ⟨9, _⟩ => ⟨S2x128x512, .bf16⟩
  | .local _ .vmem, ⟨10, _⟩ => ⟨S1x512, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x512, .f32⟩
  | .local _ .vmem, ⟨18, _⟩ => ⟨S512x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_call1_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19_0 : Ref sig .tc := ⟨.hbm, 30, rfl⟩
abbrev main_v19_1 : Ref sig .tc := ⟨.hbm, 31, rfl⟩
abbrev main_v19_2 : Ref sig .tc := ⟨.hbm, 32, rfl⟩
abbrev main_v19_3 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== GlaInRefIdeal.lean ====
abbrev S16384x1024 : Shape := ⟨2, ![16384, 1024]⟩
abbrev S1024 : Shape := ⟨1, ![1024]⟩
abbrev S2x1024 : Shape := ⟨2, ![2, 1024]⟩
abbrev S1024x3088 : Shape := ⟨2, ![1024, 3088]⟩
abbrev S16x512 : Shape := ⟨2, ![16, 512]⟩
abbrev S512 : Shape := ⟨1, ![512]⟩
abbrev S2x8192x1024 : Shape := ⟨3, ![2, 8192, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x1x1024 : Shape := ⟨3, ![2, 1, 1024]⟩
abbrev S2x8192x3088 : Shape := ⟨3, ![2, 8192, 3088]⟩
abbrev S2x8192x512 : Shape := ⟨3, ![2, 8192, 512]⟩
abbrev S2x8192x16 : Shape := ⟨3, ![2, 8192, 16]⟩
abbrev S1x1x512 : Shape := ⟨3, ![1, 1, 512]⟩
abbrev S16384x512 : Shape := ⟨2, ![16384, 512]⟩

abbrev nBuf : Space → Nat
  | .hbm => 73
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S1024x3088, .f32⟩
  | .hbm, ⟨5, _⟩ => ⟨S16x512, .f32⟩
  | .hbm, ⟨6, _⟩ => ⟨S512, .f32⟩
  | .hbm, ⟨7, _⟩ => ⟨S2x8192x1024, .f32⟩
  | .hbm, ⟨8, _⟩ => ⟨S2x8192x1024, .f32⟩
  | .hbm, ⟨9, _⟩ => ⟨S_, .f32⟩
  | .hbm, ⟨10, _⟩ => ⟨S2x8192, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S2x8192x1, .f32⟩
  | .hbm, ⟨19, _⟩ => ⟨S2x8192x1024, .f32⟩
  | .hbm, ⟨20, _⟩ => ⟨S2x8192x1024, .f32⟩
  | .hbm, ⟨21, _⟩ => ⟨S1x1x1024, .f32⟩
  | .hbm, ⟨22, _⟩ => ⟨S2x8192x1024, .f32⟩
  | .hbm, ⟨23, _⟩ => ⟨S2x8192x1024, .f32⟩
  | .hbm, ⟨24, _⟩ => ⟨S2x1x1024, .f32⟩
  | .hbm, ⟨25, _⟩ => ⟨S_, .f32⟩
  | .hbm, ⟨26, _⟩ => ⟨S2x1x1024, .f32⟩
  | .hbm, ⟨27, _⟩ => ⟨S2x1x1024, .f32⟩
  | .hbm, ⟨28, _⟩ => ⟨S2x8192x1024, .f32⟩
  | .hbm, ⟨29, _⟩ => ⟨S2x8192x1024, .f32⟩
  | .hbm, ⟨30, _⟩ => ⟨S2x1x1024, .f32⟩
  | .hbm, ⟨31, _⟩ => ⟨S2x8192x1024, .f32⟩
  | .hbm, ⟨32, _⟩ => ⟨S2x8192x1024, .f32⟩
  | .hbm, ⟨33, _⟩ => ⟨S2x8192x3088, .f32⟩
  | .hbm, ⟨34, _⟩ => ⟨S2x8192x512, .f32⟩
  | .hbm, ⟨35, _⟩ => ⟨S2x8192x512, .f32⟩
  | .hbm, ⟨36, _⟩ => ⟨S2x8192x1024, .f32⟩
  | .hbm, ⟨37, _⟩ => ⟨S2x8192x1024, .f32⟩
  | .hbm, ⟨38, _⟩ => ⟨S2x8192x16, .f32⟩
  | .hbm, ⟨39, _⟩ => ⟨S2x8192x512, .f32⟩
  | .hbm, ⟨40, _⟩ => ⟨S1x1x512, .f32⟩
  | .hbm, ⟨41, _⟩ => ⟨S2x8192x512, .f32⟩
  | .hbm, ⟨42, _⟩ => ⟨S2x8192x512, .f32⟩
  | .hbm, ⟨43, _⟩ => ⟨S2x8192x512, .f32⟩
  | .hbm, ⟨44, _⟩ => ⟨S_, .f32⟩
  | .hbm, ⟨45, _⟩ => ⟨S2x8192x512, .f32⟩
  | .hbm, ⟨46, _⟩ => ⟨S2x8192x512, .f32⟩
  | .hbm, ⟨47, _⟩ => ⟨S2x8192x512, .f32⟩
  | .hbm, ⟨48, _⟩ => ⟨S2x8192x512, .f32⟩
  | .hbm, ⟨49, _⟩ => ⟨S2x8192x512, .i1⟩
  | .hbm, ⟨50, _⟩ => ⟨S2x8192x512, .f32⟩
  | .hbm, ⟨51, _⟩ => ⟨S2x8192x512, .f32⟩
  | .hbm, ⟨52, _⟩ => ⟨S2x8192x512, .f32⟩
  | .hbm, ⟨53, _⟩ => ⟨S2x8192x512, .f32⟩
  | .hbm, ⟨54, _⟩ => ⟨S2x8192x512, .f32⟩
  | .hbm, ⟨55, _⟩ => ⟨S2x8192x512, .f32⟩
  | .hbm, ⟨56, _⟩ => ⟨S2x8192x512, .f32⟩
  | .hbm, ⟨57, _⟩ => ⟨S2x8192x512, .f32⟩
  | .hbm, ⟨58, _⟩ => ⟨S2x8192x512, .f32⟩
  | .hbm, ⟨59, _⟩ => ⟨S_, .f32⟩
  | .hbm, ⟨60, _⟩ => ⟨S2x8192x512, .f32⟩
  | .hbm, ⟨61, _⟩ => ⟨S2x8192x512, .f32⟩
  | .hbm, ⟨62, _⟩ => ⟨S_, .f32⟩
  | .hbm, ⟨63, _⟩ => ⟨S2x8192x512, .f32⟩
  | .hbm, ⟨64, _⟩ => ⟨S2x8192x512, .f32⟩
  | .hbm, ⟨65, _⟩ => ⟨S2x8192x1024, .f32⟩
  | .hbm, ⟨66, _⟩ => ⟨S16384x1024, .f32⟩
  | .hbm, ⟨67, _⟩ => ⟨S16384x1024, .bf16⟩
  | .hbm, ⟨68, _⟩ => ⟨S16384x1024, .f32⟩
  | .hbm, ⟨69, _⟩ => ⟨S16384x1024, .bf16⟩
  | .hbm, ⟨70, _⟩ => ⟨S16384x1024, .f32⟩
  | .hbm, ⟨71, _⟩ => ⟨S16384x1024, .bf16⟩
  | .hbm, ⟨72, _⟩ => ⟨S16384x512, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_call0_v0 : Ref sig .tc := ⟨.hbm, 43, rfl⟩
abbrev main_call0_call0_cst : Ref sig .tc := ⟨.hbm, 44, rfl⟩
abbrev main_call0_call0_v0 : Ref sig .tc := ⟨.hbm, 45, rfl⟩
abbrev main_call0_call0_v1 : Ref sig .tc := ⟨.hbm, 46, rfl⟩
abbrev main_call0_call0_v2 : Ref sig .tc := ⟨.hbm, 47, rfl⟩
abbrev main_call0_call0_v3 : Ref sig .tc := ⟨.hbm, 48, rfl⟩
abbrev main_call0_call0_v4 : Ref sig .tc := ⟨.hbm, 49, rfl⟩
abbrev main_call0_call0_v5 : Ref sig .tc := ⟨.hbm, 50, rfl⟩
abbrev main_call0_call0_v6 : Ref sig .tc := ⟨.hbm, 51, rfl⟩
abbrev main_call0_call0_v7 : Ref sig .tc := ⟨.hbm, 52, rfl⟩
abbrev main_call0_call0_v8 : Ref sig .tc := ⟨.hbm, 53, rfl⟩
abbrev main_call0_call0_v9 : Ref sig .tc := ⟨.hbm, 54, rfl⟩
abbrev main_call0_call0_v10 : Ref sig .tc := ⟨.hbm, 55, rfl⟩
abbrev main_call0_call0_v11 : Ref sig .tc := ⟨.hbm, 56, rfl⟩
abbrev main_call0_v1 : Ref sig .tc := ⟨.hbm, 57, rfl⟩
abbrev main_v32 : Ref sig .tc := ⟨.hbm, 58, rfl⟩
abbrev main_cst_3 : Ref sig .tc := ⟨.hbm, 59, rfl⟩
abbrev main_v33 : Ref sig .tc := ⟨.hbm, 60, rfl⟩
abbrev main_v34 : Ref sig .tc := ⟨.hbm, 61, rfl⟩
abbrev main_cst_4 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩

abbrev nD : Nat := 1
abbrev τ : Topo := Topo.v7x

variable {F : FTy → Type} [FloatOps F]
-- ==== KvSample.lean ====
abbrev S128x1024 : Shape := ⟨2, ![128, 1024]⟩
abbrev S1024 : Shape := ⟨1, ![1024]⟩
abbrev S32x1024 : Shape := ⟨2, ![32, 1024]⟩
abbrev S1024x2048 : Shape := ⟨2, ![1024, 2048]⟩
abbrev S128 : Shape := ⟨1, ![128]⟩
abbrev S1x1024 : Shape := ⟨2, ![1, 1024]⟩
abbrev S32x4x1024 : Shape := ⟨3, ![32, 4, 1024]⟩
abbrev S1x128x1024 : Shape := ⟨3, ![1, 128, 1024]⟩
abbrev S1x128 : Shape := ⟨2, ![1, 128]⟩
abbrev S128x1 : Shape := ⟨2, ![128, 1]⟩
abbrev S1024x1024 : Shape := ⟨2, ![1024, 1024]⟩
abbrev S128x128 : Shape := ⟨2, ![128, 128]⟩

abbrev nBuf : Space → Nat
  | .hbm => 17
  | .vmem => 8
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S32x1024, .f32⟩
  | .hbm, ⟨3, _⟩ => ⟨S32x1024, .f32⟩
  | .hbm, ⟨4, _⟩ => ⟨S1024x2048, .f32⟩
  | .hbm, ⟨5, _⟩ => ⟨S128, .f32⟩
  | .hbm, ⟨6, _⟩ => ⟨S1x1024, .f32⟩
  | .hbm, ⟨7, _⟩ => ⟨S32x4x1024, .f32⟩
  | .hbm, ⟨8, _⟩ => ⟨S128x1024, .f32⟩
  | .hbm, ⟨9, _⟩ => ⟨S1x128x1024, .f32⟩
  | .hbm, ⟨10, _⟩ => ⟨S32x4x1024, .f32⟩
  | .hbm, ⟨11, _⟩ => ⟨S128x1024, .f32⟩
  | .hbm, ⟨12, _⟩ => ⟨S1x128x1024, .f32⟩
  | .hbm, ⟨13, _⟩ => ⟨S1024x2048, .bf16⟩
  | .hbm, ⟨14, _⟩ => ⟨S1x128, .f32⟩
  | .hbm, ⟨15, _⟩ => ⟨S128x1024, .f32⟩
  | .hbm, ⟨16, _⟩ => ⟨S128x1024, .f32⟩
  | .local _ .vmem, ⟨0, _⟩ => ⟨S128x1024, .f32⟩
  | .local _ .vmem, ⟨1, _⟩ => ⟨S1x1024, .f32⟩
  | .local _ .vmem, ⟨2, _⟩ => ⟨S1x128x1024, .f32⟩
  | .local _ .vmem, ⟨3, _⟩ => ⟨S1x128x1024, .f32⟩
  | .local _ .vmem, ⟨4, _⟩ => ⟨S1024x2048, .bf16⟩
  | .local _ .vmem, ⟨5, _⟩ => ⟨S1x128, .f32⟩
  | .local _ .vmem, ⟨6, _⟩ => ⟨S128x1024, .f32⟩
  | .local _ .vmem, ⟨7, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_3 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== KvSampleRefIdeal.lean ====
abbrev S128x1024 : Shape := ⟨2, ![128, 1024]⟩
abbrev S1024 : Shape := ⟨1, ![1024]⟩
abbrev S32x1024 : Shape := ⟨2, ![32, 1024]⟩
abbrev S1024x2048 : Shape := ⟨2, ![1024, 2048]⟩
abbrev S128 : Shape := ⟨1, ![128]⟩
abbrev S32x4x1024 : Shape := ⟨3, ![32, 4, 1024]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S32x1x1024 : Shape := ⟨3, ![32, 1, 1024]⟩
abbrev S32x4x2048 : Shape := ⟨3, ![32, 4, 2048]⟩
abbrev S32x4x8x128 : Shape := ⟨4, ![32, 4, 8, 128]⟩
abbrev S32x4x8 : Shape := ⟨3, ![32, 4, 8]⟩
abbrev S32x4x8x1 : Shape := ⟨4, ![32, 4, 8, 1]⟩
abbrev S1x1x1x128 : Shape := ⟨4, ![1, 1, 1, 128]⟩

abbrev nBuf : Space → Nat
  | .hbm => 54
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S32x1024, .f32⟩
  | .hbm, ⟨3, _⟩ => ⟨S32x1024, .f32⟩
  | .hbm, ⟨4, _⟩ => ⟨S1024x2048, .f32⟩
  | .hbm, ⟨5, _⟩ => ⟨S128, .f32⟩
  | .hbm, ⟨6, _⟩ => ⟨S32x4x1024, .f32⟩
  | .hbm, ⟨7, _⟩ => ⟨S32x4x1024, .f32⟩
  | .hbm, ⟨8, _⟩ => ⟨S_, .f32⟩
  | .hbm, ⟨9, _⟩ => ⟨S32x4, .f32⟩
  | .hbm, ⟨10, _⟩ => ⟨S32x4x1, .f32⟩
  | .hbm, ⟨11, _⟩ => ⟨S_, .f32⟩
  | .hbm, ⟨12, _⟩ => ⟨S32x4x1, .f32⟩
  | .hbm, ⟨13, _⟩ => ⟨S32x4x1, .f32⟩
  | .hbm, ⟨14, _⟩ => ⟨S_, .f32⟩
  | .hbm, ⟨15, _⟩ => ⟨S32x4x1, .f32⟩
  | .hbm, ⟨16, _⟩ => ⟨S32x4x1, .f32⟩
  | .hbm, ⟨17, _⟩ => ⟨S32x4x1, .f32⟩
  | .hbm, ⟨18, _⟩ => ⟨S32x4x1024, .f32⟩
  | .hbm, ⟨19, _⟩ => ⟨S32x4x1024, .f32⟩
  | .hbm, ⟨20, _⟩ => ⟨S1x1x1024, .f32⟩
  | .hbm, ⟨21, _⟩ => ⟨S32x4x1024, .f32⟩
  | .hbm, ⟨22, _⟩ => ⟨S32x4x1024, .f32⟩
  | .hbm, ⟨23, _⟩ => ⟨S32x1x1024, .f32⟩
  | .hbm, ⟨24, _⟩ => ⟨S_, .f32⟩
  | .hbm, ⟨25, _⟩ => ⟨S32x1x1024, .f32⟩
  | .hbm, ⟨26, _⟩ => ⟨S32x1x1024, .f32⟩
  | .hbm, ⟨27, _⟩ => ⟨S32x4x1024, .f32⟩
  | .hbm, ⟨28, _⟩ => ⟨S32x4x1024, .f32⟩
  | .hbm, ⟨29, _⟩ => ⟨S32x1x1024, .f32⟩
  | .hbm, ⟨30, _⟩ => ⟨S32x4x1024, .f32⟩
  | .hbm, ⟨31, _⟩ => ⟨S32x4x1024, .f32⟩
  | .hbm, ⟨32, _⟩ => ⟨S32x4x2048, .f32⟩
  | .hbm, ⟨33, _⟩ => ⟨S32x4x1024, .f32⟩
  | .hbm, ⟨34, _⟩ => ⟨S32x4x1024, .f32⟩
  | .hbm, ⟨35, _⟩ => ⟨S32x4x8x128, .f32⟩
  | .hbm, ⟨36, _⟩ => ⟨S32x4x8x128, .f32⟩
  | .hbm, ⟨37, _⟩ => ⟨S_, .f32⟩
  | .hbm, ⟨38, _⟩ => ⟨S32x4x8, .f32⟩
  | .hbm, ⟨39, _⟩ => ⟨S32x4x8x1, .f32⟩
  | .hbm, ⟨40, _⟩ => ⟨S_, .f32⟩
  | .hbm, ⟨41, _⟩ => ⟨S32x4x8x1, .f32⟩
  | .hbm, ⟨42, _⟩ => ⟨S32x4x8x1, .f32⟩
  | .hbm, ⟨43, _⟩ => ⟨S_, .f32⟩
  | .hbm, ⟨44, _⟩ => ⟨S32x4x8x1, .f32⟩
  | .hbm, ⟨45, _⟩ => ⟨S32x4x8x1, .f32⟩
  | .hbm, ⟨46, _⟩ => ⟨S32x4x8x1, .f32⟩
  | .hbm, ⟨47, _⟩ => ⟨S32x4x8x128, .f32⟩
  | .hbm, ⟨48, _⟩ => ⟨S32x4x8x128, .f32⟩
  | .hbm, ⟨49, _⟩ => ⟨S1x1x1x128, .f32⟩
  | .hbm, ⟨50, _⟩ => ⟨S32x4x8x128, .f32⟩
  | .hbm, ⟨51, _⟩ => ⟨S32x4x8x128, .f32⟩
  | .hbm, ⟨52, _⟩ => ⟨S128x1024, .f32⟩
  | .hbm, ⟨53, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== MobaSample.lean ====
abbrev S128x1024 : Shape := ⟨2, ![128, 1024]⟩
abbrev S1024x1024 : Shape := ⟨2, ![1024, 1024]⟩
abbrev S32x1024 : Shape := ⟨2, ![32, 1024]⟩
abbrev S1024 : Shape := ⟨1, ![1024]⟩
abbrev S1024x4096 : Shape := ⟨2, ![1024, 4096]⟩
abbrev S4096x1024 : Shape := ⟨2, ![4096, 1024]⟩
abbrev S32x4x1024 : Shape := ⟨3, ![32, 4, 1024]⟩
abbrev S1x128x1024 : Shape := ⟨3, ![1, 128, 1024]⟩
abbrev S1x1024 : Shape := ⟨2, ![1, 1024]⟩
abbrev S128 : Shape := ⟨1, ![128]⟩
abbrev S128x1 : Shape := ⟨2, ![128, 1]⟩

abbrev nBuf : Space → Nat
  | .hbm => 27
  | .vmem => 14
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S1024x1024, .f32⟩
  | .hbm, ⟨3, _⟩ => ⟨S32x1024, .f32⟩
  | .hbm, ⟨4, _⟩ => ⟨S1024, .f32⟩
  | .hbm, ⟨5, _⟩ => ⟨S32x1024, .f32⟩
  | .hbm, ⟨6, _⟩ => ⟨S32x1024, .f32⟩
  | .hbm, ⟨7, _⟩ => ⟨S32x1024, .f32⟩
  | .hbm, ⟨8, _⟩ => ⟨S1024x4096, .f32⟩
  | .hbm, ⟨9, _⟩ => ⟨S4096x1024, .f32⟩
  | .hbm, ⟨10, _⟩ => ⟨S1024x1024, .bf16⟩
  | .hbm, ⟨11, _⟩ => ⟨S32x4x1024, .f32⟩
  | .hbm, ⟨12, _⟩ => ⟨S128x1024, .f32⟩
  | .hbm, ⟨13, _⟩ => ⟨S1x128x1024, .f32⟩
  | .hbm, ⟨14, _⟩ => ⟨S1x1024, .f32⟩
  | .hbm, ⟨15, _⟩ => ⟨S32x4x1024, .f32⟩
  | .hbm, ⟨16, _⟩ => ⟨S128x1024, .f32⟩
  | .hbm, ⟨17, _⟩ => ⟨S1x128x1024, .f32⟩
  | .hbm, ⟨18, _⟩ => ⟨S32x4x1024, .f32⟩
  | .hbm, ⟨19, _⟩ => ⟨S128x1024, .f32⟩
  | .hbm, ⟨20, _⟩ => ⟨S1x128x1024, .f32⟩
  | .hbm, ⟨21, _⟩ => ⟨S32x4x1024, .f32⟩
  | .hbm, ⟨22, _⟩ => ⟨S128x1024, .f32⟩
  | .hbm, ⟨23, _⟩ => ⟨S1x128x1024, .f32⟩
  | .hbm, ⟨24, _⟩ => ⟨S1024x4096, .bf16⟩
  | .hbm, ⟨25, _⟩ => ⟨S4096x1024, .bf16⟩
  | .hbm, ⟨26, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S1024x1024, .bf16⟩
  | .local _ .vmem, ⟨3, _⟩ => ⟨S1x128x1024, .f32⟩
  | .local _ .vmem, ⟨4, _⟩ => ⟨S1x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S128x1024, .f32⟩
  | .local _ .vmem, ⟨13, _⟩ => ⟨S128x1024, .bf16⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_scratch0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem8_1 : DmaSem sig := 9
abbrev cc0_sem9_0 : DmaSem sig := 10
abbrev cc0_sem9_1 : DmaSem sig := 11
abbrev cc0_sem10_0 : DmaSem sig := 12

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]
-- ==== MobaSampleRefIdeal.lean ====
abbrev S128x1024 : Shape := ⟨2, ![128, 1024]⟩
abbrev S1024x1024 : Shape := ⟨2, ![1024, 1024]⟩
abbrev S32x1024 : Shape := ⟨2, ![32, 1024]⟩
abbrev S1024 : Shape := ⟨1, ![1024]⟩
abbrev S1024x4096 : Shape := ⟨2, ![1024, 4096]⟩
abbrev S4096x1024 : Shape := ⟨2, ![4096, 1024]⟩
abbrev S32x4x1024 : Shape := ⟨3, ![32, 4, 1024]⟩
abbrev S32x1x1024 : Shape := ⟨3, ![32, 1, 1024]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S32x4x4096 : Shape := ⟨3, ![32, 4, 4096]⟩

abbrev nBuf : Space → Nat
  | .hbm => 53
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S1024x1024, .f32⟩
  | .hbm, ⟨3, _⟩ => ⟨S32x1024, .f32⟩
  | .hbm, ⟨4, _⟩ => ⟨S1024, .f32⟩
  | .hbm, ⟨5, _⟩ => ⟨S32x1024, .f32⟩
  | .hbm, ⟨6, _⟩ => ⟨S32x1024, .f32⟩
  | .hbm, ⟨7, _⟩ => ⟨S32x1024, .f32⟩
  | .hbm, ⟨8, _⟩ => ⟨S1024x4096, .f32⟩
  | .hbm, ⟨9, _⟩ => ⟨S4096x1024, .f32⟩
  | .hbm, ⟨10, _⟩ => ⟨S32x4x1024, .f32⟩
  | .hbm, ⟨11, _⟩ => ⟨S32x4x1024, .f32⟩
  | .hbm, ⟨12, _⟩ => ⟨S32x4x1024, .f32⟩
  | .hbm, ⟨13, _⟩ => ⟨S32x1x1024, .f32⟩
  | .hbm, ⟨14, _⟩ => ⟨S32x4x1024, .f32⟩
  | .hbm, ⟨15, _⟩ => ⟨S32x4x1024, .f32⟩
  | .hbm, ⟨16, _⟩ => ⟨S32x4x1024, .f32⟩
  | .hbm, ⟨17, _⟩ => ⟨S32x1x1024, .f32⟩
  | .hbm, ⟨18, _⟩ => ⟨S32x4x1024, .f32⟩
  | .hbm, ⟨19, _⟩ => ⟨S_, .f32⟩
  | .hbm, ⟨20, _⟩ => ⟨S32x4, .f32⟩
  | .hbm, ⟨21, _⟩ => ⟨S32x4x1, .f32⟩
  | .hbm, ⟨22, _⟩ => ⟨S_, .f32⟩
  | .hbm, ⟨23, _⟩ => ⟨S32x4x1, .f32⟩
  | .hbm, ⟨24, _⟩ => ⟨S32x4x1, .f32⟩
  | .hbm, ⟨25, _⟩ => ⟨S_, .f32⟩
  | .hbm, ⟨26, _⟩ => ⟨S32x4x1, .f32⟩
  | .hbm, ⟨27, _⟩ => ⟨S32x4x1, .f32⟩
  | .hbm, ⟨28, _⟩ => ⟨S32x4x1, .f32⟩
  | .hbm, ⟨29, _⟩ => ⟨S32x4x1024, .f32⟩
  | .hbm, ⟨30, _⟩ => ⟨S32x4x1024, .f32⟩
  | .hbm, ⟨31, _⟩ => ⟨S1x1x1024, .f32⟩
  | .hbm, ⟨32, _⟩ => ⟨S32x4x1024, .f32⟩
  | .hbm, ⟨33, _⟩ => ⟨S32x4x1024, .f32⟩
  | .hbm, ⟨34, _⟩ => ⟨S32x1x1024, .f32⟩
  | .hbm, ⟨35, _⟩ => ⟨S_, .f32⟩
  | .hbm, ⟨36, _⟩ => ⟨S32x1x1024, .f32⟩
  | .hbm, ⟨37, _⟩ => ⟨S32x1x1024, .f32⟩
  | .hbm, ⟨38, _⟩ => ⟨S32x4x1024, .f32⟩
  | .hbm, ⟨39, _⟩ => ⟨S32x4x1024, .f32⟩
  | .hbm, ⟨40, _⟩ => ⟨S32x1x1024, .f32⟩
  | .hbm, ⟨41, _⟩ => ⟨S32x4x1024, .f32⟩
  | .hbm, ⟨42, _⟩ => ⟨S32x4x1024, .f32⟩
  | .hbm, ⟨43, _⟩ => ⟨S32x4x4096, .f32⟩
  | .hbm, ⟨44, _⟩ => ⟨S_, .f32⟩
  | .hbm, ⟨45, _⟩ => ⟨S32x4x4096, .f32⟩
  | .hbm, ⟨46, _⟩ => ⟨S32x4x4096, .f32⟩
  | .hbm, ⟨47, _⟩ => ⟨S32x4x4096, .f32⟩
  | .hbm, ⟨48, _⟩ => ⟨S32x4x1024, .f32⟩
  | .hbm, ⟨49, _⟩ => ⟨S32x4x1024, .f32⟩
  | .hbm, ⟨50, _⟩ => ⟨S32x4x1024, .f32⟩
  | .hbm, ⟨51, _⟩ => ⟨S32x4x1024, .f32⟩
  | .hbm, ⟨52, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call0_cst : Ref sig .tc := ⟨.hbm, 44, rfl⟩
abbrev main_call0_v0 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]
-- ==== RecSample.lean ====
abbrev S128x1024 : Shape := ⟨2, ![128, 1024]⟩
abbrev S128x512 : Shape := ⟨2, ![128, 512]⟩
abbrev S32x4x128x256 : Shape := ⟨4, ![32, 4, 128, 256]⟩
abbrev S32x4x1024 : Shape := ⟨3, ![32, 4, 1024]⟩
abbrev S_ : Shape := ⟨0, ![]⟩
abbrev S32x16x1024 : Shape := ⟨3, ![32, 16, 1024]⟩
abbrev S512x1024 : Shape := ⟨2, ![512, 1024]⟩
abbrev S32x4x512 : Shape := ⟨3, ![32, 4, 512]⟩
abbrev S32x16x512 : Shape := ⟨3, ![32, 16, 512]⟩
abbrev S512x512 : Shape := ⟨2, ![512, 512]⟩
abbrev S16x512 : Shape := ⟨2, ![16, 512]⟩
abbrev S16x1024 : Shape := ⟨2, ![16, 1024]⟩
abbrev S1x4x128x256 : Shape := ⟨4, ![1, 4, 128, 256]⟩
abbrev S4x256x128 : Shape := ⟨3, ![4, 256, 128]⟩
abbrev S1x1x128x256 : Shape := ⟨4, ![1, 1, 128, 256]⟩
abbrev S128x256 : Shape := ⟨2, ![128, 256]⟩
abbrev S256x128 : Shape := ⟨2, ![256, 128]⟩
abbrev S1x256x128 : Shape := ⟨3, ![1, 256, 128]⟩
abbrev S16x16 : Shape := ⟨2, ![16, 16]⟩
abbrev S16x128 : Shape := ⟨2, ![16, 128]⟩
abbrev S16x256 : Shape := ⟨2, ![16, 256]⟩
abbrev S1x128 : Shape := ⟨2, ![1, 128]⟩

abbrev nBuf : Space → Nat
  | .hbm => 24
  | .vmem => 15
  | .smem => 0
  | _ => 0

abbrev bufTy : (tb : Table) → Fin (tcTables nBuf tb) → BufTy
  | .hbm, ⟨0, _⟩ => ⟨S128x1024, .bf16⟩
  | .hbm, ⟨1, _⟩ => ⟨S128x1024, .bf16⟩
  | .hbm, ⟨2, _⟩ => ⟨S128x512, .f32⟩
  | .hbm, ⟨3, _⟩ => ⟨S32x4x128x256, .f32⟩
  | .hbm, ⟨4, _⟩ => ⟨S32x4x1024, .bf16⟩
  | .hbm, ⟨5, _⟩ => ⟨S_, .i32⟩
  | .hbm, ⟨6, _⟩ => ⟨S_, .bf16⟩
  | .hbm, ⟨7, _⟩ => ⟨S32x16x1024, .bf16⟩
  | .hbm, ⟨8, _⟩ => ⟨S512x1024, .bf16⟩
  | .hbm, ⟨9, _⟩ => ⟨S32x4x1024, .bf16⟩
  | .hbm, ⟨10, _⟩ => ⟨S_, .i32⟩
  | .hbm, ⟨11, _⟩ => ⟨S_, .bf16⟩
  | .hbm, ⟨12, _⟩ => ⟨S32x16x1024, .bf16⟩
  | .hbm, ⟨13, _⟩ => ⟨S512x1024, .bf16⟩
  | .hbm, ⟨14, _⟩ => ⟨S32x4x512, .f32⟩
  | .hbm, ⟨15, _⟩ => ⟨S_, .i32⟩
  | .hbm, ⟨16, _⟩ => ⟨S_, .f32⟩
  | .hbm, ⟨17, _⟩ => ⟨S32x16x512, .f32⟩
  | .hbm, ⟨18, _⟩ => ⟨S512x512, .f32⟩
  | .hbm, ⟨19, _⟩ => ⟨S512x1024, .bf16⟩
  | .hbm, ⟨20, _⟩ => ⟨S32x4x128x256, .f32⟩
  | .hbm, ⟨21, _⟩ => ⟨S32x16x1024, .bf16⟩
  | .hbm, ⟨22, _⟩ => ⟨S32x4x1024, .bf16⟩
  | .hbm, ⟨23, _⟩ => ⟨S128x1024, .bf16⟩
  | .local _ .vmem, ⟨0, _⟩ => ⟨S16x512, .bf16⟩
  | .local _ .vmem, ⟨1, _⟩ => ⟨S16x512, .bf16⟩
  | .local _ .vmem, ⟨2, _⟩ => ⟨S16x512, .bf16⟩
  | .local _ .vmem, ⟨3, _⟩ => ⟨S16x512, .bf16⟩
  | .local _ .vmem, ⟨4, _⟩ => ⟨S16x1024, .bf16⟩
  | .local _ .vmem, ⟨5, _⟩ => ⟨S16x1024, .bf16⟩
  | .local _ .vmem, ⟨6, _⟩ => ⟨S16x512, .f32⟩
  | .local _ .vmem, ⟨7, _⟩ => ⟨S16x512, .f32⟩
  | .local _ .vmem, ⟨8, _⟩ => ⟨S1x4x128x256, .f32⟩
  | .local _ .vmem, ⟨9, _⟩ => ⟨S1x4x128x256, .f32⟩
  | .local _ .vmem, ⟨10, _⟩ => ⟨S16x1024, .bf16⟩
  | .local _ .vmem, ⟨11, _⟩ => ⟨S16x1024, .bf16⟩
  | .local _ .vmem, ⟨12, _⟩ => ⟨S1x4x128x256, .f32⟩
  | .local _ .vmem, ⟨13, _⟩ => ⟨S1x4x128x256, .f32⟩
  | .local _ .vmem, ⟨14, _⟩ => ⟨S4x256x128, .f32⟩
  | _, _ => ⟨S128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_call2_v0 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![32, 1], ![false, false]⟩

def k0_mult1 : BitVec 32 :=
  let c0_i32_2 : BitVec 32 := 0#32
  let c1_i32 : BitVec 32 := 1#32
  let v10 : BitVec 32 := Scalar.muli c0_i32_2 c1_i32
  let c0_i32_3 : BitVec 32 := 0#32
  let v11 : BitVec 32 := Scalar.addi v10 c0_i32_3
  let c16_i32 : BitVec 32 := 16#32
  let v12 : BitVec 32 := Scalar.muli v11 c16_i32
  v12
def k0_off1 : Fin 2 → Nat :=
  let c0_i32_2 : BitVec 32 := 0#32
  let c1_i32 : BitVec 32 := 1#32
  let v10 : BitVec 32 := Scalar.muli c0_i32_2 c1_i32
  let c0_i32_3 : BitVec 32 := 0#32
  let v11 : BitVec 32 := Scalar.addi v10 c0_i32_3
  let c16_i32 : BitVec 32 := 16#32
  let v12 : BitVec 32 := Scalar.muli v11 c16_i32
  let v13 : BitVec 32 := v12
  let v14 : Index := Scalar.indexCast v13
  let c0 : Index := 0#32
  ![v14.toNat, 0]
def k0_off2 : Fin 2 → Nat :=
  let c0_i32_2 : BitVec 32 := 0#32
  let c1_i32 : BitVec 32 := 1#32
  let v10 : BitVec 32 := Scalar.muli c0_i32_2 c1_i32
  let c0_i32_3 : BitVec 32 := 0#32
  let v11 : BitVec 32 := Scalar.addi v10 c0_i32_3
  let c16_i32 : BitVec 32 := 16#32
  let v12 : BitVec 32 := Scalar.muli v11 c16_i32
  let v13 : BitVec 32 := v12
  let v31 : Index := Scalar.indexCast v13
  let c0_8 : Index := 0#32
  ![v31.toNat, 0]
def k0_off3 : Fin 2 → Nat :=
  let c0_i32_2 : BitVec 32 := 0#32
  let c1_i32 : BitVec 32 := 1#32
  let v10 : BitVec 32 := Scalar.muli c0_i32_2 c1_i32
  let c0_i32_3 : BitVec 32 := 0#32
  let v11 : BitVec 32 := Scalar.addi v10 c0_i32_3
  let c16_i32 : BitVec 32 := 16#32
  let v12 : BitVec 32 := Scalar.muli v11 c16_i32
  let v13 : BitVec 32 := v12
  let v39 : Index := Scalar.indexCast v13
  let c0_10 : Index := 0#32
  ![v39.toNat, 0]
def k0_off4 : Fin 2 → Nat :=
  let c0_i32_2 : BitVec 32 := 0#32
  let c1_i32 : BitVec 32 := 1#32
  let v10 : BitVec 32 := Scalar.muli c0_i32_2 c1_i32
  let c0_i32_3 : BitVec 32 := 0#32
  let v11 : BitVec 32 := Scalar.addi v10 c0_i32_3
  let c16_i32 : BitVec 32 := 16#32
  let v12 : BitVec 32 := Scalar.muli v11 c16_i32
  let v13 : BitVec 32 := v12
  let v84 : Index := Scalar.indexCast v13
  let c128 : Index := 128#32
  ![v84.toNat, 128]
def k0_off5 : Fin 2 → Nat :=
  let c0_i32_2 : BitVec 32 := 0#32
  let c1_i32 : BitVec 32 := 1#32
  let v10 : BitVec 32 := Scalar.muli c0_i32_2 c1_i32
  let c0_i32_3 : BitVec 32 := 0#32
  let v11 : BitVec 32 := Scalar.addi v10 c0_i32_3
  let c16_i32 : BitVec 32 := 16#32
  let v12 : BitVec 32 := Scalar.muli v11 c16_i32
  let v13 : BitVec 32 := v12
  let v92 : Index := Scalar.indexCast v13
  let c256 : Index := 256#32
  ![v92.toNat, 256]
def k0_off6 : Fin 2 → Nat :=
  let c0_i32_2 : BitVec 32 := 0#32
  let c1_i32 : BitVec 32 := 1#32
  let v10 : BitVec 32 := Scalar.muli c0_i32_2 c1_i32
  let c0_i32_3 : BitVec 32 := 0#32
  let v11 : BitVec 32 := Scalar.addi v10 c0_i32_3
  let c16_i32 : BitVec 32 := 16#32
  let v12 : BitVec 32 := Scalar.muli v11 c16_i32
  let v13 : BitVec 32 := v12
  let v137 : Index := Scalar.indexCast v13
  let c256_35 : Index := 256#32
  ![v137.toNat, 256]
def k0_off7 : Fin 2 → Nat :=
  let c0_i32_2 : BitVec 32 := 0#32
  let c1_i32 : BitVec 32 := 1#32
  let v10 : BitVec 32 := Scalar.muli c0_i32_2 c1_i32
  let c0_i32_3 : BitVec 32 := 0#32
  let v11 : BitVec 32 := Scalar.addi v10 c0_i32_3
  let c16_i32 : BitVec 32 := 16#32
  let v12 : BitVec 32 := Scalar.muli v11 c16_i32
  let v13 : BitVec 32 := v12
  let v145 : Index := Scalar.indexCast v13
  let c512 : Index := 512#32
  ![v145.toNat, 512]
def k0_off8 : Fin 2 → Nat :=
  let c0_i32_2 : BitVec 32 := 0#32
  let c1_i32 : BitVec 32 := 1#32
  let v10 : BitVec 32 := Scalar.muli c0_i32_2 c1_i32
  let c0_i32_3 : BitVec 32 := 0#32
  let v11 : BitVec 32 := Scalar.addi v10 c0_i32_3
  let c16_i32 : BitVec 32 := 16#32
  let v12 : BitVec 32 := Scalar.muli v11 c16_i32
  let v13 : BitVec 32 := v12
  let v190 : Index := Scalar.indexCast v13
  let c384 : Index := 384#32
  ![v190.toNat, 384]
def k0_off9 : Fin 2 → Nat :=
  let c0_i32_2 : BitVec 32 := 0#32
  let c1_i32 : BitVec 32 := 1#32
  let v10 : BitVec 32 := Scalar.muli c0_i32_2 c1_i32
  let c0_i32_3 : BitVec 32 := 0#32
  let v11 : BitVec 32 := Scalar.addi v10 c0_i32_3
  let c16_i32 : BitVec 32 := 16#32
  let v12 : BitVec 32 := Scalar.muli v11 c16_i32
  let v13 : BitVec 32 := v12
  let v198 : Index := Scalar.indexCast v13
  let c768 : Index := 768#32
  ![v198.toNat, 768]
def k0_cond2 (i : grid0.Coords) : BitVec 1 :=
  let arg1 : BitVec 32 := BitVec.ofNat 32 (i 1).val
  let c0_i32_61 : BitVec 32 := 0#32
  let v243 : BitVec 1 := Scalar.cmpi .eq arg1 c0_i32_61
  let v244 : BitVec 32 := Scalar.extui v243
  let c0_i32_62 : BitVec 32 := 0#32
  let v245 : BitVec 1 := Scalar.cmpi .ne v244 c0_i32_62
  v245

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  ![v1.toNat, c1_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S16x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== RecSampleRefIdeal.lean ====
abbrev S128x1024 : Shape := ⟨2, ![128, 1024]⟩
abbrev S128x512 : Shape := ⟨2, ![128, 512]⟩
abbrev S32x4x128x256 : Shape := ⟨4, ![32, 4, 128, 256]⟩
abbrev S32x4x4x128 : Shape := ⟨4, ![32, 4, 4, 128]⟩
abbrev S32x4x4x256 : Shape := ⟨4, ![32, 4, 4, 256]⟩
abbrev S_ : Shape := ⟨0, ![]⟩
abbrev S4x4 : Shape := ⟨2, ![4, 4]⟩
abbrev S1x4x4x1x1 : Shape := ⟨5, ![1, 4, 4, 1, 1]⟩
abbrev S32x4x1x4x128 : Shape := ⟨5, ![32, 4, 1, 4, 128]⟩
abbrev S32x1x4x4x128 : Shape := ⟨5, ![32, 1, 4, 4, 128]⟩
abbrev S32x4x4x4x128 : Shape := ⟨5, ![32, 4, 4, 4, 128]⟩
abbrev S32x4x4x4 : Shape := ⟨4, ![32, 4, 4, 4]⟩
abbrev S32x4x256x4 : Shape := ⟨4, ![32, 4, 256, 4]⟩
abbrev S32x1x4x128 : Shape := ⟨4, ![32, 1, 4, 128]⟩
abbrev S32x4x128 : Shape := ⟨3, ![32, 4, 128]⟩
abbrev S32x4x128x1 : Shape := ⟨4, ![32, 4, 128, 1]⟩

abbrev nBuf : Space → Nat
  | .hbm => 65
  | .vmem => 0
  | .smem => 0
  | _ => 0

abbrev bufTy : (tb : Table) → Fin (tcTables nBuf tb) → BufTy
  | .hbm, ⟨0, _⟩ => ⟨S128x1024, .bf16⟩
  | .hbm, ⟨1, _⟩ => ⟨S128x1024, .bf16⟩
  | .hbm, ⟨2, _⟩ => ⟨S128x512, .f32⟩
  | .hbm, ⟨3, _⟩ => ⟨S32x4x128x256, .f32⟩
  | .hbm, ⟨4, _⟩ => ⟨S128x512, .bf16⟩
  | .hbm, ⟨5, _⟩ => ⟨S32x4x4x128, .bf16⟩
  | .hbm, ⟨6, _⟩ => ⟨S32x4x4x128, .f32⟩
  | .hbm, ⟨7, _⟩ => ⟨S128x512, .bf16⟩
  | .hbm, ⟨8, _⟩ => ⟨S32x4x4x128, .bf16⟩
  | .hbm, ⟨9, _⟩ => ⟨S32x4x4x128, .f32⟩
  | .hbm, ⟨10, _⟩ => ⟨S32x4x4x256, .bf16⟩
  | .hbm, ⟨11, _⟩ => ⟨S32x4x4x256, .f32⟩
  | .hbm, ⟨12, _⟩ => ⟨S32x4x4x128, .f32⟩
  | .hbm, ⟨13, _⟩ => ⟨S_, .i1⟩
  | .hbm, ⟨14, _⟩ => ⟨S4x4, .i1⟩
  | .hbm, ⟨15, _⟩ => ⟨S4x4, .i32⟩
  | .hbm, ⟨16, _⟩ => ⟨S_, .i32⟩
  | .hbm, ⟨17, _⟩ => ⟨S4x4, .i32⟩
  | .hbm, ⟨18, _⟩ => ⟨S4x4, .i32⟩
  | .hbm, ⟨19, _⟩ => ⟨S4x4, .i32⟩
  | .hbm, ⟨20, _⟩ => ⟨S4x4, .i1⟩
  | .hbm, ⟨21, _⟩ => ⟨S_, .i1⟩
  | .hbm, ⟨22, _⟩ => ⟨S4x4, .i1⟩
  | .hbm, ⟨23, _⟩ => ⟨S4x4, .i1⟩
  | .hbm, ⟨24, _⟩ => ⟨S1x4x4x1x1, .i1⟩
  | .hbm, ⟨25, _⟩ => ⟨S_, .f32⟩
  | .hbm, ⟨26, _⟩ => ⟨S_, .f32⟩
  | .hbm, ⟨27, _⟩ => ⟨S32x4x4x128, .f32⟩
  | .hbm, ⟨28, _⟩ => ⟨S32x4x1x4x128, .f32⟩
  | .hbm, ⟨29, _⟩ => ⟨S32x1x4x4x128, .f32⟩
  | .hbm, ⟨30, _⟩ => ⟨S32x4x4x4x128, .f32⟩
  | .hbm, ⟨31, _⟩ => ⟨S32x4x4x4x128, .f32⟩
  | .hbm, ⟨32, _⟩ => ⟨S32x4x4x4x128, .f32⟩
  | .hbm, ⟨33, _⟩ => ⟨S_, .f32⟩
  | .hbm, ⟨34, _⟩ => ⟨S_, .f32⟩
  | .hbm, ⟨35, _⟩ => ⟨S32x4x4x4x128, .i1⟩
  | .hbm, ⟨36, _⟩ => ⟨S32x4x4x4x128, .f32⟩
  | .hbm, ⟨37, _⟩ => ⟨S32x4x4x4x128, .f32⟩
  | .hbm, ⟨38, _⟩ => ⟨S32x4x4x4x128, .f32⟩
  | .hbm, ⟨39, _⟩ => ⟨S32x1x4x4x128, .f32⟩
  | .hbm, ⟨40, _⟩ => ⟨S32x4x4x4x128, .f32⟩
  | .hbm, ⟨41, _⟩ => ⟨S32x4x4x4x128, .f32⟩
  | .hbm, ⟨42, _⟩ => ⟨S32x4x4x4, .f32⟩
  | .hbm, ⟨43, _⟩ => ⟨S32x4x256x4, .f32⟩
  | .hbm, ⟨44, _⟩ => ⟨S32x4x4x256, .f32⟩
  | .hbm, ⟨45, _⟩ => ⟨S32x4x4x128, .f32⟩
  | .hbm, ⟨46, _⟩ => ⟨S32x4x4x128, .f32⟩
  | .hbm, ⟨47, _⟩ => ⟨S32x4x256x4, .f32⟩
  | .hbm, ⟨48, _⟩ => ⟨S32x4x4x256, .f32⟩
  | .hbm, ⟨49, _⟩ => ⟨S32x4x4x256, .f32⟩
  | .hbm, ⟨50, _⟩ => ⟨S32x1x4x128, .f32⟩
  | .hbm, ⟨51, _⟩ => ⟨S32x4x128, .f32⟩
  | .hbm, ⟨52, _⟩ => ⟨S32x4x128, .f32⟩
  | .hbm, ⟨53, _⟩ => ⟨S32x4x128x1, .f32⟩
  | .hbm, ⟨54, _⟩ => ⟨S32x4x128x256, .f32⟩
  | .hbm, ⟨55, _⟩ => ⟨S32x4x128x256, .f32⟩
  | .hbm, ⟨56, _⟩ => ⟨S32x1x4x128, .f32⟩
  | .hbm, ⟨57, _⟩ => ⟨S32x4x4x128, .f32⟩
  | .hbm, ⟨58, _⟩ => ⟨S32x4x4x128, .f32⟩
  | .hbm, ⟨59, _⟩ => ⟨S32x4x4x128, .f32⟩
  | .hbm, ⟨60, _⟩ => ⟨S32x4x4x128, .f32⟩
  | .hbm, ⟨61, _⟩ => ⟨S32x4x128x256, .f32⟩
  | .hbm, ⟨62, _⟩ => ⟨S32x4x128x256, .f32⟩
  | .hbm, ⟨63, _⟩ => ⟨S128x1024, .f32⟩
  | .hbm, ⟨64, _⟩ => ⟨S128x1024, .bf16⟩
  | _, _ => ⟨S128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c_0 : Ref sig .tc := ⟨.hbm, 21, rfl⟩
abbrev main_call0_v5 : Ref sig .tc := ⟨.hbm, 22, rfl⟩
abbrev main_v10 : Ref sig .tc := ⟨.hbm, 23, rfl⟩
abbrev main_v11 : Ref sig .tc := ⟨.hbm, 24, rfl⟩
abbrev main_call1_call0_cst : Ref sig .tc := ⟨.hbm, 25, rfl⟩
abbrev main_call1_call0_v0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst : Ref sig .tc := ⟨.hbm, 33, rfl⟩
abbrev main_call2_v0 : Ref sig .tc := ⟨.hbm, 34, rfl⟩
abbrev main_call2_v1 : Ref sig .tc := ⟨.hbm, 35, rfl⟩
abbrev main_call2_v2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩

abbrev nD : Nat := 1
abbrev τ : Topo := Topo.v7x

variable {F : FTy → Type} [FloatOps F]
-- ==== Ada.lean ====
abbrev S40x1024 : Shape := ⟨2, ![40, 1024]⟩
abbrev S4x1024x6144 : Shape := ⟨3, ![4, 1024, 6144]⟩
abbrev S4x6144 : Shape := ⟨2, ![4, 6144]⟩
abbrev S4x1x6144 : Shape := ⟨3, ![4, 1, 6144]⟩
abbrev S4x40x6144 : Shape := ⟨3, ![4, 40, 6144]⟩
abbrev S1x1024x1024 : Shape := ⟨3, ![1, 1024, 1024]⟩
abbrev S1x1x1024 : Shape := ⟨3, ![1, 1, 1024]⟩
abbrev S1x40x1024 : Shape := ⟨3, ![1, 40, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S40x1024, .f32⟩
  | .hbm, ⟨1, _⟩ => ⟨S4x1024x6144, .f32⟩
  | .hbm, ⟨2, _⟩ => ⟨S4x6144, .f32⟩
  | .hbm, ⟨3, _⟩ => ⟨S4x1x6144, .f32⟩
  | .hbm, ⟨4, _⟩ => ⟨S4x40x6144, .f32⟩
  | .local _ .vmem, ⟨0, _⟩ => ⟨S40x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x40x1024, .f32⟩
  | .local _ .vmem, ⟨6, _⟩ => ⟨S1x40x1024, .f32⟩
  | _, _ => ⟨S40x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S40x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x40x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S40x1024 : Shape := ⟨2, ![40, 1024]⟩
abbrev S4x1024x6144 : Shape := ⟨3, ![4, 1024, 6144]⟩
abbrev S4x6144 : Shape := ⟨2, ![4, 6144]⟩
abbrev S_ : Shape := ⟨0, ![]⟩
abbrev S4x6144x40 : Shape := ⟨3, ![4, 6144, 40]⟩
abbrev S4x40x6144 : Shape := ⟨3, ![4, 40, 6144]⟩
abbrev S4x1x6144 : Shape := ⟨3, ![4, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S40x1024, .f32⟩
  | .hbm, ⟨1, _⟩ => ⟨S4x1024x6144, .f32⟩
  | .hbm, ⟨2, _⟩ => ⟨S4x6144, .f32⟩
  | .hbm, ⟨3, _⟩ => ⟨S40x1024, .f32⟩
  | .hbm, ⟨4, _⟩ => ⟨S40x1024, .f32⟩
  | .hbm, ⟨5, _⟩ => ⟨S_, .f32⟩
  | .hbm, ⟨6, _⟩ => ⟨S40x1024, .f32⟩
  | .hbm, ⟨7, _⟩ => ⟨S40x1024, .f32⟩
  | .hbm, ⟨8, _⟩ => ⟨S_, .f32⟩
  | .hbm, ⟨9, _⟩ => ⟨S40x1024, .f32⟩
  | .hbm, ⟨10, _⟩ => ⟨S40x1024, .f32⟩
  | .hbm, ⟨11, _⟩ => ⟨S40x1024, .f32⟩
  | .hbm, ⟨12, _⟩ => ⟨S4x6144x40, .f32⟩
  | .hbm, ⟨13, _⟩ => ⟨S4x40x6144, .f32⟩
  | .hbm, ⟨14, _⟩ => ⟨S4x1x6144, .f32⟩
  | .hbm, ⟨15, _⟩ => ⟨S4x40x6144, .f32⟩
  | .hbm, ⟨16, _⟩ => ⟨S4x40x6144, .f32⟩
  | _, _ => ⟨S40x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Select.lean ====
abbrev S128x1024 : Shape := ⟨2, ![128, 1024]⟩
abbrev S32x32x8x128 : Shape := ⟨4, ![32, 32, 8, 128]⟩
abbrev S32x4x1024 : Shape := ⟨3, ![32, 4, 1024]⟩
abbrev S_ : Shape := ⟨0, ![]⟩
abbrev S32x8x1024 : Shape := ⟨3, ![32, 8, 1024]⟩
abbrev S32x8x128 : Shape := ⟨3, ![32, 8, 128]⟩
abbrev S1x8x1024 : Shape := ⟨3, ![1, 8, 1024]⟩
abbrev S1x32x8x128 : Shape := ⟨4, ![1, 32, 8, 128]⟩
abbrev S1x8x128 : Shape := ⟨3, ![1, 8, 128]⟩
abbrev S8x128 : Shape := ⟨2, ![8, 128]⟩
abbrev S1x32x1x128 : Shape := ⟨4, ![1, 32, 1, 128]⟩
abbrev S32x128 : Shape := ⟨2, ![32, 128]⟩
abbrev S8x32 : Shape := ⟨2, ![8, 32]⟩
abbrev S8 : Shape := ⟨1, ![8]⟩
abbrev S8x1 : Shape := ⟨2, ![8, 1]⟩
abbrev S32x4x24 : Shape := ⟨3, ![32, 4, 24]⟩
abbrev S32x4x8x3 : Shape := ⟨4, ![32, 4, 8, 3]⟩
abbrev S32x8x4x3 : Shape := ⟨4, ![32, 8, 4, 3]⟩

abbrev nBuf : Space → Nat
  | .hbm => 10
  | .vmem => 6
  | .smem => 0
  | _ => 0

abbrev bufTy : (tb : Table) → Fin (tcTables nBuf tb) → BufTy
  | .hbm, ⟨0, _⟩ => ⟨S128x1024, .f32⟩
  | .hbm, ⟨1, _⟩ => ⟨S32x32x8x128, .f32⟩
  | .hbm, ⟨2, _⟩ => ⟨S32x4x1024, .f32⟩
  | .hbm, ⟨3, _⟩ => ⟨S_, .i32⟩
  | .hbm, ⟨4, _⟩ => ⟨S_, .f32⟩
  | .hbm, ⟨5, _⟩ => ⟨S32x8x1024, .f32⟩
  | .hbm, ⟨6, _⟩ => ⟨S32x8x128, .i32⟩
  | .hbm, ⟨7, _⟩ => ⟨S32x4x24, .i32⟩
  | .hbm, ⟨8, _⟩ => ⟨S32x4x8x3, .i32⟩
  | .hbm, ⟨9, _⟩ => ⟨S32x8x4x3, .i32⟩
  | .local _ .vmem, ⟨0, _⟩ => ⟨S1x8x1024, .f32⟩
  | .local _ .vmem, ⟨1, _⟩ => ⟨S1x8x1024, .f32⟩
  | .local _ .vmem, ⟨2, _⟩ => ⟨S1x32x8x128, .f32⟩
  | .local _ .vmem, ⟨3, _⟩ => ⟨S1x32x8x128, .f32⟩
  | .local _ .vmem, ⟨4, _⟩ => ⟨S1x8x128, .i32⟩
  | .local _ .vmem, ⟨5, _⟩ => ⟨S1x8x128, .i32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SelectRefIdeal.lean ====
abbrev S128x1024 : Shape := ⟨2, ![128, 1024]⟩
abbrev S32x32x8x128 : Shape := ⟨4, ![32, 32, 8, 128]⟩
abbrev S32x8x32x128 : Shape := ⟨4, ![32, 8, 32, 128]⟩
abbrev S_ : Shape := ⟨0, ![]⟩
abbrev S32x4x8x128 : Shape := ⟨4, ![32, 4, 8, 128]⟩
abbrev S32x8x4x128 : Shape := ⟨4, ![32, 8, 4, 128]⟩
abbrev S32x8x4x32 : Shape := ⟨4, ![32, 8, 4, 32]⟩
abbrev S32x8x4x3 : Shape := ⟨4, ![32, 8, 4, 3]⟩

abbrev nBuf : Space → Nat
  | .hbm => 11
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S32x32x8x128, .f32⟩
  | .hbm, ⟨2, _⟩ => ⟨S32x8x32x128, .f32⟩
  | .hbm, ⟨3, _⟩ => ⟨S_, .f32⟩
  | .hbm, ⟨4, _⟩ => ⟨S32x8x32x128, .f32⟩
  | .hbm, ⟨5, _⟩ => ⟨S32x8x32x128, .f32⟩
  | .hbm, ⟨6, _⟩ => ⟨S32x4x8x128, .f32⟩
  | .hbm, ⟨7, _⟩ => ⟨S32x8x4x128, .f32⟩
  | .hbm, ⟨8, _⟩ => ⟨S32x8x4x32, .f32⟩
  | .hbm, ⟨9, _⟩ => ⟨S32x8x4x3, .f32⟩
  | .hbm, ⟨10, _⟩ => ⟨S32x8x4x3, .i32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_values : Ref sig .tc := ⟨.hbm, 9, rfl⟩
abbrev main_indices : Ref sig .tc := ⟨.hbm, 10, rfl⟩

abbrev nD : Nat := 1
abbrev τ : Topo := Topo.v7x

variable {F : FTy → Type} [FloatOps F]
-- ==== Queries.lean ====
abbrev S128x1024 : Shape := ⟨2, ![128, 1024]⟩
abbrev S1024 : Shape := ⟨1, ![1024]⟩
abbrev S32x1024 : Shape := ⟨2, ![32, 1024]⟩
abbrev S1024x1024 : Shape := ⟨2, ![1024, 1024]⟩
abbrev S128 : Shape := ⟨1, ![128]⟩
abbrev S1x1024 : Shape := ⟨2, ![1, 1024]⟩
abbrev S32x4x1024 : Shape := ⟨3, ![32, 4, 1024]⟩
abbrev S1x128x1024 : Shape := ⟨3, ![1, 128, 1024]⟩
abbrev S1x128 : Shape := ⟨2, ![1, 128]⟩
abbrev S128x1 : Shape := ⟨2, ![128, 1]⟩
abbrev S128x128 : Shape := ⟨2, ![128, 128]⟩

abbrev nBuf : Space → Nat
  | .hbm => 16
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S32x1024, .f32⟩
  | .hbm, ⟨3, _⟩ => ⟨S32x1024, .f32⟩
  | .hbm, ⟨4, _⟩ => ⟨S1024x1024, .f32⟩
  | .hbm, ⟨5, _⟩ => ⟨S128, .f32⟩
  | .hbm, ⟨6, _⟩ => ⟨S1x1024, .f32⟩
  | .hbm, ⟨7, _⟩ => ⟨S32x4x1024, .f32⟩
  | .hbm, ⟨8, _⟩ => ⟨S128x1024, .f32⟩
  | .hbm, ⟨9, _⟩ => ⟨S1x128x1024, .f32⟩
  | .hbm, ⟨10, _⟩ => ⟨S32x4x1024, .f32⟩
  | .hbm, ⟨11, _⟩ => ⟨S128x1024, .f32⟩
  | .hbm, ⟨12, _⟩ => ⟨S1x128x1024, .f32⟩
  | .hbm, ⟨13, _⟩ => ⟨S1024x1024, .bf16⟩
  | .hbm, ⟨14, _⟩ => ⟨S1x128, .f32⟩
  | .hbm, ⟨15, _⟩ => ⟨S128x1024, .f32⟩
  | .local _ .vmem, ⟨0, _⟩ => ⟨S128x1024, .f32⟩
  | .local _ .vmem, ⟨1, _⟩ => ⟨S1x1024, .f32⟩
  | .local _ .vmem, ⟨2, _⟩ => ⟨S1x128x1024, .f32⟩
  | .local _ .vmem, ⟨3, _⟩ => ⟨S1x128x1024, .f32⟩
  | .local _ .vmem, ⟨4, _⟩ => ⟨S1024x1024, .bf16⟩
  | .local _ .vmem, ⟨5, _⟩ => ⟨S1x128, .f32⟩
  | .local _ .vmem, ⟨6, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_3 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== QueriesRefIdeal.lean ====
abbrev S128x1024 : Shape := ⟨2, ![128, 1024]⟩
abbrev S1024 : Shape := ⟨1, ![1024]⟩
abbrev S32x1024 : Shape := ⟨2, ![32, 1024]⟩
abbrev S1024x1024 : Shape := ⟨2, ![1024, 1024]⟩
abbrev S128 : Shape := ⟨1, ![128]⟩
abbrev S32x4x1024 : Shape := ⟨3, ![32, 4, 1024]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S32x1x1024 : Shape := ⟨3, ![32, 1, 1024]⟩
abbrev S32x4x8x128 : Shape := ⟨4, ![32, 4, 8, 128]⟩
abbrev S32x4x8 : Shape := ⟨3, ![32, 4, 8]⟩
abbrev S32x4x8x1 : Shape := ⟨4, ![32, 4, 8, 1]⟩
abbrev S1x1x1x128 : Shape := ⟨4, ![1, 1, 1, 128]⟩

abbrev nBuf : Space → Nat
  | .hbm => 51
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S32x1024, .f32⟩
  | .hbm, ⟨3, _⟩ => ⟨S32x1024, .f32⟩
  | .hbm, ⟨4, _⟩ => ⟨S1024x1024, .f32⟩
  | .hbm, ⟨5, _⟩ => ⟨S128, .f32⟩
  | .hbm, ⟨6, _⟩ => ⟨S32x4x1024, .f32⟩
  | .hbm, ⟨7, _⟩ => ⟨S32x4x1024, .f32⟩
  | .hbm, ⟨8, _⟩ => ⟨S_, .f32⟩
  | .hbm, ⟨9, _⟩ => ⟨S32x4, .f32⟩
  | .hbm, ⟨10, _⟩ => ⟨S32x4x1, .f32⟩
  | .hbm, ⟨11, _⟩ => ⟨S_, .f32⟩
  | .hbm, ⟨12, _⟩ => ⟨S32x4x1, .f32⟩
  | .hbm, ⟨13, _⟩ => ⟨S32x4x1, .f32⟩
  | .hbm, ⟨14, _⟩ => ⟨S_, .f32⟩
  | .hbm, ⟨15, _⟩ => ⟨S32x4x1, .f32⟩
  | .hbm, ⟨16, _⟩ => ⟨S32x4x1, .f32⟩
  | .hbm, ⟨17, _⟩ => ⟨S32x4x1, .f32⟩
  | .hbm, ⟨18, _⟩ => ⟨S32x4x1024, .f32⟩
  | .hbm, ⟨19, _⟩ => ⟨S32x4x1024, .f32⟩
  | .hbm, ⟨20, _⟩ => ⟨S1x1x1024, .f32⟩
  | .hbm, ⟨21, _⟩ => ⟨S32x4x1024, .f32⟩
  | .hbm, ⟨22, _⟩ => ⟨S32x4x1024, .f32⟩
  | .hbm, ⟨23, _⟩ => ⟨S32x1x1024, .f32⟩
  | .hbm, ⟨24, _⟩ => ⟨S_, .f32⟩
  | .hbm, ⟨25, _⟩ => ⟨S32x1x1024, .f32⟩
  | .hbm, ⟨26, _⟩ => ⟨S32x1x1024, .f32⟩
  | .hbm, ⟨27, _⟩ => ⟨S32x4x1024, .f32⟩
  | .hbm, ⟨28, _⟩ => ⟨S32x4x1024, .f32⟩
  | .hbm, ⟨29, _⟩ => ⟨S32x1x1024, .f32⟩
  | .hbm, ⟨30, _⟩ => ⟨S32x4x1024, .f32⟩
  | .hbm, ⟨31, _⟩ => ⟨S32x4x1024, .f32⟩
  | .hbm, ⟨32, _⟩ => ⟨S32x4x1024, .f32⟩
  | .hbm, ⟨33, _⟩ => ⟨S32x4x8x128, .f32⟩
  | .hbm, ⟨34, _⟩ => ⟨S32x4x8x128, .f32⟩
  | .hbm, ⟨35, _⟩ => ⟨S_, .f32⟩
  | .hbm, ⟨36, _⟩ => ⟨S32x4x8, .f32⟩
  | .hbm, ⟨37, _⟩ => ⟨S32x4x8x1, .f32⟩
  | .hbm, ⟨38, _⟩ => ⟨S_, .f32⟩
  | .hbm, ⟨39, _⟩ => ⟨S32x4x8x1, .f32⟩
  | .hbm, ⟨40, _⟩ => ⟨S32x4x8x1, .f32⟩
  | .hbm, ⟨41, _⟩ => ⟨S_, .f32⟩
  | .hbm, ⟨42, _⟩ => ⟨S32x4x8x1, .f32⟩
  | .hbm, ⟨43, _⟩ => ⟨S32x4x8x1, .f32⟩
  | .hbm, ⟨44, _⟩ => ⟨S32x4x8x1, .f32⟩
  | .hbm, ⟨45, _⟩ => ⟨S32x4x8x128, .f32⟩
  | .hbm, ⟨46, _⟩ => ⟨S32x4x8x128, .f32⟩
  | .hbm, ⟨47, _⟩ => ⟨S1x1x1x128, .f32⟩
  | .hbm, ⟨48, _⟩ => ⟨S32x4x8x128, .f32⟩
  | .hbm, ⟨49, _⟩ => ⟨S32x4x8x128, .f32⟩
  | .hbm, ⟨50, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Proof.Chunk.lean ====
/- What one chunk of the recurrence computes for one head, as functions of the chunk's own vectors: the decays summed
   within the chunk (`cum`), the causal scores (`scores`), the rows of the output (`headO`) and the state the chunk
   leaves (`headS`); and the blocks of a point's windows a chunk reads. -/
module

public import proofs.«01_k».proof.Proof.Gen.KernelIdeal.Loops

@[expose] public section

set_option maxRecDepth 16384

noncomputable section

namespace Cert.KernelIdeal.Rec

open Cert.KernelIdeal Cert.KernelIdeal.Gen Idealize.ShloMosaic Idealize.ShloMosaic.TcCoe Idealize.ShloMosaic.Tactic

variable {F : FTy → Type} [FloatOps F]

/-- The decays of the chunk summed from its first position, all heads side by side. -/
def cum (la : Vec F S64x512 .f32) : FVec F S64x512 .f32 := k0_pay12 k0_pay6 la

/-- The columns of the summed decays that belong to head `h`. -/
def colsOf (b : FVec F S64x512 .f32) : Fin 4 → FVec F S64x128 .f32 :=
  ![extractStridedSlice S64x128 ![0, 0] b slices_S64x512_o0_0_S64x128,
    extractStridedSlice S64x128 ![0, 128] b slices_S64x512_o0_128_S64x128,
    extractStridedSlice S64x128 ![0, 256] b slices_S64x512_o0_256_S64x128,
    extractStridedSlice S64x128 ![0, 384] b slices_S64x512_o0_384_S64x128]

/-- The causal scores of one head: queries and keys moved to the chunk's middle position, their products, and zero above
    the diagonal. -/
def scores (l : FVec F S64x128 .f32) (q k : Vec F S64x128 .bf16) : FVec F S64x64 .bf16 :=
  let mid : FVec F S64x128 .f32 := broadcastTo S64x128 (extractStridedSlice S1x128 ![31, 0] l slices_S64x128_o31_0_S1x128) broadcasts_S1x128_S64x128
  let qm : FVec F S64x128 .bf16 := truncf .bf16 (mulf (extf .f32 q bitsLt_bf16_f32) (exp (subf l mid))) bitsLt_bf16_f32
  let km : FVec F S64x128 .bf16 := truncf .bf16 (mulf (extf .f32 k bitsLt_bf16_f32) (exp (subf mid l))) bitsLt_bf16_f32
  let a : FVec F S64x64 .f32 := matmul dot_S64x128_S64x128_S64x64_1_1_0_0_n_n none qm km (constant S64x64 .f32 0x00000000#32)
  truncf .bf16 (select k0_pay5 a (broadcast S64x64 (Scalar.ofBits .f32 0x00000000#32))) bitsLt_bf16_f32

/-- The output rows of one head of one chunk, from the state `S` the chunk finds. -/
def headO (l : FVec F S64x128 .f32) (q k : Vec F S64x128 .bf16) (v : Vec F S64x256 .bf16) (S : Vec F S1x256x128 .f32) : FVec F S64x256 .bf16 :=
  k0_pay19 (k0_pay13 q) v l (scores l q k) S

/-- The state one chunk of one head leaves, from the state `S` it finds. -/
def headS (l : FVec F S64x128 .f32) (k : Vec F S64x128 .bf16) (v : Vec F S64x256 .bf16) (S : Vec F S1x256x128 .f32) : FVec F S1x256x128 .f32 :=
  k0_pay20 (k0_pay14 k) v l (extractStridedSlice S1x128 ![63, 0] l slices_S64x128_o63_0_S1x128) S

/-- Rows `64 n …` and columns `128 h …` of a block of 1024 rows (queries and keys of head `h` of chunk `n`). -/
def tile128 {e : EltTy} (x : Vec F S1024x512 e) (n : Fin 16) (h : Fin 4) : Vec F S64x128 e :=
  fun y => x (show S1024x512.Idx from fun
    | ⟨0, _⟩ => (⟨64 * n.val + (y 0).val, by have h0 : (y 0).val < 64 := (y 0).isLt; have hn := n.isLt; show _ < 1024; omega⟩ : Fin 1024)
    | ⟨1, _⟩ => (⟨128 * h.val + (y 1).val, by have h0 : (y 1).val < 128 := (y 1).isLt; have hn := h.isLt; show _ < 512; omega⟩ : Fin 512))

/-- The same of a block of values, 256 columns to a head. -/
def tile256 {e : EltTy} (x : Vec F S1024x1024 e) (n : Fin 16) (h : Fin 4) : Vec F S64x256 e :=
  fun y => x (show S1024x1024.Idx from fun
    | ⟨0, _⟩ => (⟨64 * n.val + (y 0).val, by have h0 : (y 0).val < 64 := (y 0).isLt; have hn := n.isLt; show _ < 1024; omega⟩ : Fin 1024)
    | ⟨1, _⟩ => (⟨256 * h.val + (y 1).val, by have h0 : (y 1).val < 256 := (y 1).isLt; have hn := h.isLt; show _ < 1024; omega⟩ : Fin 1024))

/-- Rows `64 n …` of the decays, all heads. -/
def tileLa (x : Vec F S1024x512 .f32) (n : Fin 16) : Vec F S64x512 .f32 :=
  fun y => x (show S1024x512.Idx from fun
    | ⟨0, _⟩ => (⟨64 * n.val + (y 0).val, by have h0 : (y 0).val < 64 := (y 0).isLt; have hn := n.isLt; show _ < 1024; omega⟩ : Fin 1024)
    | ⟨1, _⟩ => (⟨(y 1).val, (y 1).isLt⟩ : Fin 512))

/-- The state of head `h` after chunk `n` of a point's blocks, from the state `S` before it. -/
def stepS (x1 : Vec F S1024x512 .bf16) (x2 : Vec F S1024x1024 .bf16) (x3 : Vec F S1024x512 .f32) (n : Fin 16) (h : Fin 4) (S : Vec F S1x256x128 .f32) : Vec F S1x256x128 .f32 :=
  headS (colsOf (cum (tileLa x3 n)) h) (tile128 x1 n h) (tile256 x2 n h) S

/-- The output of head `h` of chunk `n` of a point's blocks, from the state `S` before it. -/
def stepO (x0 x1 : Vec F S1024x512 .bf16) (x2 : Vec F S1024x1024 .bf16) (x3 : Vec F S1024x512 .f32) (n : Fin 16) (h : Fin 4) (S : Vec F S1x256x128 .f32) : Vec F S64x256 .bf16 :=
  headO (colsOf (cum (tileLa x3 n)) h) (tile128 x0 n h) (tile128 x1 n h) (tile256 x2 n h) S

/-- The slab of a state array that belongs to head `h`. -/
def slab (s : Vec F S4x256x128 .f32) (h : Fin 4) : Vec F S1x256x128 .f32 :=
  fun y => s (show S4x256x128.Idx from fun
    | ⟨0, _⟩ => (h : Fin 4)
    | ⟨1, _⟩ => (⟨(y 1).val, (y 1).isLt⟩ : Fin 256)
    | ⟨2, _⟩ => (⟨(y 2).val, (y 2).isLt⟩ : Fin 128))

/-- Four slabs as one state array. -/
def ofSlabs (S : Fin 4 → Vec F S1x256x128 .f32) : Vec F S4x256x128 .f32 :=
  fun y => S (show Fin 4 from y 0) (show S1x256x128.Idx from fun
    | ⟨0, _⟩ => (0 : Fin 1)
    | ⟨1, _⟩ => (⟨(y 1).val, (y 1).isLt⟩ : Fin 256)
    | ⟨2, _⟩ => (⟨(y 2).val, (y 2).isLt⟩ : Fin 128))

/-- The state of head `h` after the first `n` chunks of a point's blocks. -/
def stateAfter (x1 : Vec F S1024x512 .bf16) (x2 : Vec F S1024x1024 .bf16) (x3 : Vec F S1024x512 .f32) (s : Vec F S4x256x128 .f32) : ℕ → Fin 4 → Vec F S1x256x128 .f32
  | 0, h => slab s h
  | n + 1, h => if hn : n < 16 then stepS x1 x2 x3 ⟨n, hn⟩ h (stateAfter x1 x2 x3 s n h) else stateAfter x1 x2 x3 s n h

theorem stateAfter_succ (x1 : Vec F S1024x512 .bf16) (x2 : Vec F S1024x1024 .bf16) (x3 : Vec F S1024x512 .f32) (s : Vec F S4x256x128 .f32) (n : ℕ) (hn : n < 16) (h : Fin 4) :
    stateAfter x1 x2 x3 s (n + 1) h = stepS x1 x2 x3 ⟨n, hn⟩ h (stateAfter x1 x2 x3 s n h) := by
  rw [stateAfter]; exact dif_pos hn

/-- The state array a point leaves. -/
def outS (x1 : Vec F S1024x512 .bf16) (x2 : Vec F S1024x1024 .bf16) (x3 : Vec F S1024x512 .f32) (s : Vec F S4x256x128 .f32) : Vec F S4x256x128 .f32 :=
  ofSlabs (stateAfter x1 x2 x3 s 16)

/-- The output block a point leaves. -/
def outO (x0 x1 : Vec F S1024x512 .bf16) (x2 : Vec F S1024x1024 .bf16) (x3 : Vec F S1024x512 .f32) (s : Vec F S4x256x128 .f32) : Vec F S1024x1024 .bf16 :=
  fun y =>
    have h0 : (y 0).val < 1024 := (y 0).isLt
    have h1 : (y 1).val < 1024 := (y 1).isLt
    stepO x0 x1 x2 x3 ⟨(y 0).val / 64, by omega⟩ ⟨(y 1).val / 256, by omega⟩ (stateAfter x1 x2 x3 s ((y 0).val / 64) ⟨(y 1).val / 256, by omega⟩)
      (show S64x256.Idx from fun
        | ⟨0, _⟩ => (⟨(y 0).val % 64, Nat.mod_lt _ (by decide)⟩ : Fin 64)
        | ⟨1, _⟩ => (⟨(y 1).val % 256, Nat.mod_lt _ (by decide)⟩ : Fin 256))

end Cert.KernelIdeal.Rec

end
-- ==== Proof.Trip.lean ====
/- One trip of the recurrence's loop: the pieces it writes are, for each head of its two chunks, the chunk's output rows
   and the state the chunk leaves. -/
module

public import proofs.«01_k».proof.Proof.Chunk
public import Idealize.ShloMosaic.Lib.WritesUnit
public import Idealize.ShloMosaic.Lib.Pipeline.ValueKit

@[expose] public section

set_option maxRecDepth 16384

noncomputable section

namespace Cert.KernelIdeal.Rec

open Cert.KernelIdeal Cert.KernelIdeal.Gen Idealize.ShloMosaic Idealize.ShloMosaic.TcCoe Idealize.ShloMosaic.Tactic

variable {F : FTy → Type} [FloatOps F]

/-- The buffers one run of the body is given, and what the four it only reads hold. -/
structure Bufs (F : FTy → Type) [FloatOps F] where
  c : Dev nD
  i : grid0.Coords
  a2 : Memref sig .tc .vmem S1024x512 .bf16
  h2 : a2.IsWhole
  a3 : Memref sig .tc .vmem S1024x512 .bf16
  h3 : a3.IsWhole
  a4 : Memref sig .tc .vmem S1024x1024 .bf16
  h4 : a4.IsWhole
  a5 : Memref sig .tc .vmem S1024x512 .f32
  h5 : a5.IsWhole
  a6 : Memref sig .tc .vmem S1x4x128x256 .f32
  h6 : a6.IsWhole
  a7 : Memref sig .tc .vmem S1024x1024 .bf16
  h7 : a7.IsWhole
  a8 : Memref sig .tc .vmem S1x4x128x256 .f32
  h8 : a8.IsWhole
  a9 : Memref sig .tc .vmem S4x256x128 .f32
  h9 : a9.IsWhole
  x2 : BufTy.Contents (Elt F) a2.view.ty
  x3 : BufTy.Contents (Elt F) a3.view.ty
  x4 : BufTy.Contents (Elt F) a4.view.ty
  x5 : BufTy.Contents (Elt F) a5.view.ty

/-- One trip of the loop over these buffers. -/
abbrev Bufs.trip (B : Bufs F) (𝒱 : Variants) (bd : Option 𝒱.V) (k : Fin k0_t1_loop.trips) :=
  trip_k0_t1 (F := F) 𝒱 B.c bd B.i B.a2 B.h2 B.a3 B.h3 B.a4 B.h4 B.a5 B.h5 B.a6 B.h6 B.a7 B.h7 B.a8 B.h8 B.a9 B.h9 B.x2 B.x3 B.x4 B.x5 k

/-- The queries, keys, values and decays the buffers hold. -/
abbrev Bufs.Q (B : Bufs F) : Vec F S1024x512 .bf16 := B.a2.view.read (Elt F) B.x2
abbrev Bufs.K (B : Bufs F) : Vec F S1024x512 .bf16 := B.a3.view.read (Elt F) B.x3
abbrev Bufs.V (B : Bufs F) : Vec F S1024x1024 .bf16 := B.a4.view.read (Elt F) B.x4
abbrev Bufs.La (B : Bufs F) : Vec F S1024x512 .f32 := B.a5.view.read (Elt F) B.x5

/-- The output rows of chunk 0 of a trip, by head, from the blocks the trip loads. -/
def Bufs.o0 (B : Bufs F) (k : Fin k0_t1_loop.trips) : Fin 4 → Vec F S1x256x128 .f32 → FVec F S64x256 .bf16 :=
  ![fun S => headO (colsOf (cum (View.readAt (Elt F) B.a5.view (Rect.unit (s := S1024x512) (k0_off1 k 0#32) S64x512.size (k0_off1_inb k 0)).toLoadRect B.x5)) 0) (View.readAt (Elt F) B.a2.view (Rect.unit (s := S1024x512) (k0_off2 k 0#32) S64x128.size (k0_off2_inb k 0)).toLoadRect B.x2) (View.readAt (Elt F) B.a3.view (Rect.unit (s := S1024x512) (k0_off2 k 0#32) S64x128.size (k0_off2_inb k 0)).toLoadRect B.x3) (View.readAt (Elt F) B.a4.view (Rect.unit (s := S1024x1024) (k0_off3 k 0#32) S64x256.size (k0_off3_inb k 0)).toLoadRect B.x4) S,
    fun S => headO (colsOf (cum (View.readAt (Elt F) B.a5.view (Rect.unit (s := S1024x512) (k0_off1 k 0#32) S64x512.size (k0_off1_inb k 0)).toLoadRect B.x5)) 1) (View.readAt (Elt F) B.a2.view (Rect.unit (s := S1024x512) (k0_off4 k 0#32) S64x128.size (k0_off4_inb k 0)).toLoadRect B.x2) (View.readAt (Elt F) B.a3.view (Rect.unit (s := S1024x512) (k0_off4 k 0#32) S64x128.size (k0_off4_inb k 0)).toLoadRect B.x3) (View.readAt (Elt F) B.a4.view (Rect.unit (s := S1024x1024) (k0_off5 k 0#32) S64x256.size (k0_off5_inb k 0)).toLoadRect B.x4) S,
    fun S => headO (colsOf (cum (View.readAt (Elt F) B.a5.view (Rect.unit (s := S1024x512) (k0_off1 k 0#32) S64x512.size (k0_off1_inb k 0)).toLoadRect B.x5)) 2) (View.readAt (Elt F) B.a2.view (Rect.unit (s := S1024x512) (k0_off6 k 0#32) S64x128.size (k0_off6_inb k 0)).toLoadRect B.x2) (View.readAt (Elt F) B.a3.view (Rect.unit (s := S1024x512) (k0_off6 k 0#32) S64x128.size (k0_off6_inb k 0)).toLoadRect B.x3) (View.readAt (Elt F) B.a4.view (Rect.unit (s := S1024x1024) (k0_off7 k 0#32) S64x256.size (k0_off7_inb k 0)).toLoadRect B.x4) S,
    fun S => headO (colsOf (cum (View.readAt (Elt F) B.a5.view (Rect.unit (s := S1024x512) (k0_off1 k 0#32) S64x512.size (k0_off1_inb k 0)).toLoadRect B.x5)) 3) (View.readAt (Elt F) B.a2.view (Rect.unit (s := S1024x512) (k0_off8 k 0#32) S64x128.size (k0_off8_inb k 0)).toLoadRect B.x2) (View.readAt (Elt F) B.a3.view (Rect.unit (s := S1024x512) (k0_off8 k 0#32) S64x128.size (k0_off8_inb k 0)).toLoadRect B.x3) (View.readAt (Elt F) B.a4.view (Rect.unit (s := S1024x1024) (k0_off9 k 0#32) S64x256.size (k0_off9_inb k 0)).toLoadRect B.x4) S]

/-- The state chunk 0 of a trip leaves, by head, from the blocks the trip loads. -/
def Bufs.s0 (B : Bufs F) (k : Fin k0_t1_loop.trips) : Fin 4 → Vec F S1x256x128 .f32 → FVec F S1x256x128 .f32 :=
  ![fun S => headS (colsOf (cum (View.readAt (Elt F) B.a5.view (Rect.unit (s := S1024x512) (k0_off1 k 0#32) S64x512.size (k0_off1_inb k 0)).toLoadRect B.x5)) 0) (View.readAt (Elt F) B.a3.view (Rect.unit (s := S1024x512) (k0_off2 k 0#32) S64x128.size (k0_off2_inb k 0)).toLoadRect B.x3) (View.readAt (Elt F) B.a4.view (Rect.unit (s := S1024x1024) (k0_off3 k 0#32) S64x256.size (k0_off3_inb k 0)).toLoadRect B.x4) S,
    fun S => headS (colsOf (cum (View.readAt (Elt F) B.a5.view (Rect.unit (s := S1024x512) (k0_off1 k 0#32) S64x512.size (k0_off1_inb k 0)).toLoadRect B.x5)) 1) (View.readAt (Elt F) B.a3.view (Rect.unit (s := S1024x512) (k0_off4 k 0#32) S64x128.size (k0_off4_inb k 0)).toLoadRect B.x3) (View.readAt (Elt F) B.a4.view (Rect.unit (s := S1024x1024) (k0_off5 k 0#32) S64x256.size (k0_off5_inb k 0)).toLoadRect B.x4) S,
    fun S => headS (colsOf (cum (View.readAt (Elt F) B.a5.view (Rect.unit (s := S1024x512) (k0_off1 k 0#32) S64x512.size (k0_off1_inb k 0)).toLoadRect B.x5)) 2) (View.readAt (Elt F) B.a3.view (Rect.unit (s := S1024x512) (k0_off6 k 0#32) S64x128.size (k0_off6_inb k 0)).toLoadRect B.x3) (View.readAt (Elt F) B.a4.view (Rect.unit (s := S1024x1024) (k0_off7 k 0#32) S64x256.size (k0_off7_inb k 0)).toLoadRect B.x4) S,
    fun S => headS (colsOf (cum (View.readAt (Elt F) B.a5.view (Rect.unit (s := S1024x512) (k0_off1 k 0#32) S64x512.size (k0_off1_inb k 0)).toLoadRect B.x5)) 3) (View.readAt (Elt F) B.a3.view (Rect.unit (s := S1024x512) (k0_off8 k 0#32) S64x128.size (k0_off8_inb k 0)).toLoadRect B.x3) (View.readAt (Elt F) B.a4.view (Rect.unit (s := S1024x1024) (k0_off9 k 0#32) S64x256.size (k0_off9_inb k 0)).toLoadRect B.x4) S]

/-- The output rows of chunk 1 of a trip, by head, from the blocks the trip loads. -/
def Bufs.o1 (B : Bufs F) (k : Fin k0_t1_loop.trips) : Fin 4 → Vec F S1x256x128 .f32 → FVec F S64x256 .bf16 :=
  ![fun S => headO (colsOf (cum (View.readAt (Elt F) B.a5.view (Rect.unit (s := S1024x512) (k0_off1 k 1#32) S64x512.size (k0_off1_inb k 1)).toLoadRect B.x5)) 0) (View.readAt (Elt F) B.a2.view (Rect.unit (s := S1024x512) (k0_off2 k 1#32) S64x128.size (k0_off2_inb k 1)).toLoadRect B.x2) (View.readAt (Elt F) B.a3.view (Rect.unit (s := S1024x512) (k0_off2 k 1#32) S64x128.size (k0_off2_inb k 1)).toLoadRect B.x3) (View.readAt (Elt F) B.a4.view (Rect.unit (s := S1024x1024) (k0_off3 k 1#32) S64x256.size (k0_off3_inb k 1)).toLoadRect B.x4) S,
    fun S => headO (colsOf (cum (View.readAt (Elt F) B.a5.view (Rect.unit (s := S1024x512) (k0_off1 k 1#32) S64x512.size (k0_off1_inb k 1)).toLoadRect B.x5)) 1) (View.readAt (Elt F) B.a2.view (Rect.unit (s := S1024x512) (k0_off4 k 1#32) S64x128.size (k0_off4_inb k 1)).toLoadRect B.x2) (View.readAt (Elt F) B.a3.view (Rect.unit (s := S1024x512) (k0_off4 k 1#32) S64x128.size (k0_off4_inb k 1)).toLoadRect B.x3) (View.readAt (Elt F) B.a4.view (Rect.unit (s := S1024x1024) (k0_off5 k 1#32) S64x256.size (k0_off5_inb k 1)).toLoadRect B.x4) S,
    fun S => headO (colsOf (cum (View.readAt (Elt F) B.a5.view (Rect.unit (s := S1024x512) (k0_off1 k 1#32) S64x512.size (k0_off1_inb k 1)).toLoadRect B.x5)) 2) (View.readAt (Elt F) B.a2.view (Rect.unit (s := S1024x512) (k0_off6 k 1#32) S64x128.size (k0_off6_inb k 1)).toLoadRect B.x2) (View.readAt (Elt F) B.a3.view (Rect.unit (s := S1024x512) (k0_off6 k 1#32) S64x128.size (k0_off6_inb k 1)).toLoadRect B.x3) (View.readAt (Elt F) B.a4.view (Rect.unit (s := S1024x1024) (k0_off7 k 1#32) S64x256.size (k0_off7_inb k 1)).toLoadRect B.x4) S,
    fun S => headO (colsOf (cum (View.readAt (Elt F) B.a5.view (Rect.unit (s := S1024x512) (k0_off1 k 1#32) S64x512.size (k0_off1_inb k 1)).toLoadRect B.x5)) 3) (View.readAt (Elt F) B.a2.view (Rect.unit (s := S1024x512) (k0_off8 k 1#32) S64x128.size (k0_off8_inb k 1)).toLoadRect B.x2) (View.readAt (Elt F) B.a3.view (Rect.unit (s := S1024x512) (k0_off8 k 1#32) S64x128.size (k0_off8_inb k 1)).toLoadRect B.x3) (View.readAt (Elt F) B.a4.view (Rect.unit (s := S1024x1024) (k0_off9 k 1#32) S64x256.size (k0_off9_inb k 1)).toLoadRect B.x4) S]

/-- The state chunk 1 of a trip leaves, by head, from the blocks the trip loads. -/
def Bufs.s1 (B : Bufs F) (k : Fin k0_t1_loop.trips) : Fin 4 → Vec F S1x256x128 .f32 → FVec F S1x256x128 .f32 :=
  ![fun S => headS (colsOf (cum (View.readAt (Elt F) B.a5.view (Rect.unit (s := S1024x512) (k0_off1 k 1#32) S64x512.size (k0_off1_inb k 1)).toLoadRect B.x5)) 0) (View.readAt (Elt F) B.a3.view (Rect.unit (s := S1024x512) (k0_off2 k 1#32) S64x128.size (k0_off2_inb k 1)).toLoadRect B.x3) (View.readAt (Elt F) B.a4.view (Rect.unit (s := S1024x1024) (k0_off3 k 1#32) S64x256.size (k0_off3_inb k 1)).toLoadRect B.x4) S,
    fun S => headS (colsOf (cum (View.readAt (Elt F) B.a5.view (Rect.unit (s := S1024x512) (k0_off1 k 1#32) S64x512.size (k0_off1_inb k 1)).toLoadRect B.x5)) 1) (View.readAt (Elt F) B.a3.view (Rect.unit (s := S1024x512) (k0_off4 k 1#32) S64x128.size (k0_off4_inb k 1)).toLoadRect B.x3) (View.readAt (Elt F) B.a4.view (Rect.unit (s := S1024x1024) (k0_off5 k 1#32) S64x256.size (k0_off5_inb k 1)).toLoadRect B.x4) S,
    fun S => headS (colsOf (cum (View.readAt (Elt F) B.a5.view (Rect.unit (s := S1024x512) (k0_off1 k 1#32) S64x512.size (k0_off1_inb k 1)).toLoadRect B.x5)) 2) (View.readAt (Elt F) B.a3.view (Rect.unit (s := S1024x512) (k0_off6 k 1#32) S64x128.size (k0_off6_inb k 1)).toLoadRect B.x3) (View.readAt (Elt F) B.a4.view (Rect.unit (s := S1024x1024) (k0_off7 k 1#32) S64x256.size (k0_off7_inb k 1)).toLoadRect B.x4) S,
    fun S => headS (colsOf (cum (View.readAt (Elt F) B.a5.view (Rect.unit (s := S1024x512) (k0_off1 k 1#32) S64x512.size (k0_off1_inb k 1)).toLoadRect B.x5)) 3) (View.readAt (Elt F) B.a3.view (Rect.unit (s := S1024x512) (k0_off8 k 1#32) S64x128.size (k0_off8_inb k 1)).toLoadRect B.x3) (View.readAt (Elt F) B.a4.view (Rect.unit (s := S1024x1024) (k0_off9 k 1#32) S64x256.size (k0_off9_inb k 1)).toLoadRect B.x4) S]

/-- The slab of head `h` a trip finds in the state buffer. -/
def Bufs.slab9 (B : Bufs F) (f9 : BufTy.Contents (Elt F) B.a9.view.ty) : Fin 4 → Vec F S1x256x128 .f32 :=
  ![View.readAt (Elt F) B.a9.view (Rect.unit (s := S4x256x128) ![0, 0, 0] S1x256x128.size inb_S4x256x128_S1x256x128_0_0_0).toLoadRect f9,
    View.readAt (Elt F) B.a9.view (Rect.unit (s := S4x256x128) ![1, 0, 0] S1x256x128.size inb_S4x256x128_S1x256x128_1_0_0).toLoadRect f9,
    View.readAt (Elt F) B.a9.view (Rect.unit (s := S4x256x128) ![2, 0, 0] S1x256x128.size inb_S4x256x128_S1x256x128_2_0_0).toLoadRect f9,
    View.readAt (Elt F) B.a9.view (Rect.unit (s := S4x256x128) ![3, 0, 0] S1x256x128.size inb_S4x256x128_S1x256x128_3_0_0).toLoadRect f9]

variable (B : Bufs F) (k : Fin k0_t1_loop.trips) (f9 : BufTy.Contents (Elt F) B.a9.view.ty)

/-- The slabs of two heads have no element in common. -/
theorem slabs_disjoint {o o' : Fin 3 → ℕ} {i : ∀ a, o a + S1x256x128.size a ≤ S4x256x128.size a} {i' : ∀ a, o' a + S1x256x128.size a ≤ S4x256x128.size a}
    (h : o 0 ≠ o' 0) : Disjoint (Rect.unit (s := S4x256x128) o S1x256x128.size i).set (Rect.unit (s := S4x256x128) o' S1x256x128.size i').toLoadRect.set := by
  rw [Finset.disjoint_left]
  intro y hy hy'
  have h1 := Rect.mem_set_unit.mp hy 0
  have h2 := Rect.mem_set_unit.mp hy' 0
  have e : S1x256x128.size 0 = 1 := rfl
  omega

theorem load1 : trip_k0_t1.sl.v329 B.a3 B.a4 B.a5 B.a9 B.x3 B.x4 B.x5 k f9 = B.s0 k 1 (B.slab9 f9 1) := by
  unfold trip_k0_t1.sl.v329 trip_k0_t1.sl.HW_arg9_5 trip_k0_t1.sl.HW_arg9_4
  rw [View.readCov_cons_of_disjoint]; swap; · exact slabs_disjoint (i := inb_S4x256x128_S1x256x128_0_0_0) (by decide)
  rw [View.readCov_cons_of_disjoint]; swap; · exact slabs_disjoint (i := inb_S4x256x128_S1x256x128_3_0_0) (by decide)
  rw [View.readCov_cons_of_disjoint]; swap; · exact slabs_disjoint (i := inb_S4x256x128_S1x256x128_2_0_0) (by decide)
  rw [View.readCov_cons_toLoadRect]
  rfl

theorem load2 : trip_k0_t1.sl.v379 B.a3 B.a4 B.a5 B.a9 B.x3 B.x4 B.x5 k f9 = B.s0 k 2 (B.slab9 f9 2) := by
  unfold trip_k0_t1.sl.v379 trip_k0_t1.sl.HW_arg9_6 trip_k0_t1.sl.HW_arg9_5 trip_k0_t1.sl.HW_arg9_4
  rw [View.readCov_cons_of_disjoint]; swap; · exact slabs_disjoint (i := inb_S4x256x128_S1x256x128_1_0_0) (by decide)
  rw [View.readCov_cons_of_disjoint]; swap; · exact slabs_disjoint (i := inb_S4x256x128_S1x256x128_0_0_0) (by decide)
  rw [View.readCov_cons_of_disjoint]; swap; · exact slabs_disjoint (i := inb_S4x256x128_S1x256x128_3_0_0) (by decide)
  rw [View.readCov_cons_toLoadRect]
  rfl

theorem load3 : trip_k0_t1.sl.v429 B.a3 B.a4 B.a5 B.a9 B.x3 B.x4 B.x5 k f9 = B.s0 k 3 (B.slab9 f9 3) := by
  unfold trip_k0_t1.sl.v429 trip_k0_t1.sl.HW_arg9_7 trip_k0_t1.sl.HW_arg9_6 trip_k0_t1.sl.HW_arg9_5 trip_k0_t1.sl.HW_arg9_4
  rw [View.readCov_cons_of_disjoint]; swap; · exact slabs_disjoint (i := inb_S4x256x128_S1x256x128_2_0_0) (by decide)
  rw [View.readCov_cons_of_disjoint]; swap; · exact slabs_disjoint (i := inb_S4x256x128_S1x256x128_1_0_0) (by decide)
  rw [View.readCov_cons_of_disjoint]; swap; · exact slabs_disjoint (i := inb_S4x256x128_S1x256x128_0_0_0) (by decide)
  rw [View.readCov_cons_toLoadRect]
  rfl

theorem load0 : trip_k0_t1.sl.r_30 B.a3 B.a4 B.a5 B.a9 B.x3 B.x4 B.x5 k f9 = k0_pay52 (B.s0 k 0 (B.slab9 f9 0)) := by
  unfold trip_k0_t1.sl.r_30 trip_k0_t1.sl.v279 trip_k0_t1.sl.HW_arg9_4
  rw [View.readCov_cons_of_disjoint]; swap; · exact slabs_disjoint (i := inb_S4x256x128_S1x256x128_3_0_0) (by decide)
  rw [View.readCov_cons_of_disjoint]; swap; · exact slabs_disjoint (i := inb_S4x256x128_S1x256x128_2_0_0) (by decide)
  rw [View.readCov_cons_of_disjoint]; swap; · exact slabs_disjoint (i := inb_S4x256x128_S1x256x128_1_0_0) (by decide)
  rw [View.readCov_cons_toLoadRect]
  rfl

variable (𝒱 : Variants) (bd : Option 𝒱.V) (f7 : BufTy.Contents (Elt F) B.a7.view.ty)

/-- What a trip writes into the output block, last first. -/
theorem trip_out : (B.trip 𝒱 bd k).1 f7 f9 =
    [⟨Rect.unit (s := S1024x1024) (k0_off9 k 1#32) S64x256.size (k0_off9_inb k 1), B.o1 k 3 (B.s0 k 3 (B.slab9 f9 3))⟩,
      ⟨Rect.unit (s := S1024x1024) (k0_off7 k 1#32) S64x256.size (k0_off7_inb k 1), B.o1 k 2 (B.s0 k 2 (B.slab9 f9 2))⟩,
      ⟨Rect.unit (s := S1024x1024) (k0_off5 k 1#32) S64x256.size (k0_off5_inb k 1), B.o1 k 1 (B.s0 k 1 (B.slab9 f9 1))⟩,
      ⟨Rect.unit (s := S1024x1024) (k0_off3 k 1#32) S64x256.size (k0_off3_inb k 1), B.o1 k 0 (B.s0 k 0 (B.slab9 f9 0))⟩,
      ⟨Rect.unit (s := S1024x1024) (k0_off9 k 0#32) S64x256.size (k0_off9_inb k 0), B.o0 k 3 (B.slab9 f9 3)⟩,
      ⟨Rect.unit (s := S1024x1024) (k0_off7 k 0#32) S64x256.size (k0_off7_inb k 0), B.o0 k 2 (B.slab9 f9 2)⟩,
      ⟨Rect.unit (s := S1024x1024) (k0_off5 k 0#32) S64x256.size (k0_off5_inb k 0), B.o0 k 1 (B.slab9 f9 1)⟩,
      ⟨Rect.unit (s := S1024x1024) (k0_off3 k 0#32) S64x256.size (k0_off3_inb k 0), B.o0 k 0 (B.slab9 f9 0)⟩] := by
  unfold Bufs.trip trip_k0_t1
  dsimp only
  rw [load0, load1, load2, load3]
  refine congrArg₂ List.cons (congrArg (Sigma.mk _) ?h0) (congrArg₂ List.cons (congrArg (Sigma.mk _) ?h1) (congrArg₂ List.cons (congrArg (Sigma.mk _) ?h2) (congrArg₂ List.cons (congrArg (Sigma.mk _) ?h3) (congrArg₂ List.cons (congrArg (Sigma.mk _) ?h4) (congrArg₂ List.cons (congrArg (Sigma.mk _) ?h5) (congrArg₂ List.cons (congrArg (Sigma.mk _) ?h6) (congrArg₂ List.cons (congrArg (Sigma.mk _) ?h7) rfl)))))))
  case h0 => rfl
  case h1 => rfl
  case h2 => rfl
  case h3 => rfl
  case h4 => rfl
  case h5 => rfl
  case h6 => rfl
  case h7 => rfl

/-- What a trip writes into the state buffer, last first. -/
theorem trip_state : (B.trip 𝒱 bd k).2.1 f7 f9 =
    [⟨Rect.unit (s := S4x256x128) ![3, 0, 0] S1x256x128.size inb_S4x256x128_S1x256x128_3_0_0, B.s1 k 3 (B.s0 k 3 (B.slab9 f9 3))⟩,
      ⟨Rect.unit (s := S4x256x128) ![2, 0, 0] S1x256x128.size inb_S4x256x128_S1x256x128_2_0_0, B.s1 k 2 (B.s0 k 2 (B.slab9 f9 2))⟩,
      ⟨Rect.unit (s := S4x256x128) ![1, 0, 0] S1x256x128.size inb_S4x256x128_S1x256x128_1_0_0, B.s1 k 1 (B.s0 k 1 (B.slab9 f9 1))⟩,
      ⟨Rect.unit (s := S4x256x128) ![0, 0, 0] S1x256x128.size inb_S4x256x128_S1x256x128_0_0_0, B.s1 k 0 (B.s0 k 0 (B.slab9 f9 0))⟩,
      ⟨Rect.unit (s := S4x256x128) ![3, 0, 0] S1x256x128.size inb_S4x256x128_S1x256x128_3_0_0, B.s0 k 3 (B.slab9 f9 3)⟩,
      ⟨Rect.unit (s := S4x256x128) ![2, 0, 0] S1x256x128.size inb_S4x256x128_S1x256x128_2_0_0, B.s0 k 2 (B.slab9 f9 2)⟩,
      ⟨Rect.unit (s := S4x256x128) ![1, 0, 0] S1x256x128.size inb_S4x256x128_S1x256x128_1_0_0, B.s0 k 1 (B.slab9 f9 1)⟩,
      ⟨Rect.unit (s := S4x256x128) ![0, 0, 0] S1x256x128.size inb_S4x256x128_S1x256x128_0_0_0, B.s0 k 0 (B.slab9 f9 0)⟩] := by
  unfold Bufs.trip trip_k0_t1
  dsimp only
  unfold trip_k0_t1.sl.r_50
  rw [load3]
  unfold trip_k0_t1.sl.HW_arg9_7 trip_k0_t1.sl.HW_arg9_6 trip_k0_t1.sl.HW_arg9_5 trip_k0_t1.sl.HW_arg9_4
  rw [load0, load1, load2]
  refine congrArg₂ List.cons (congrArg (Sigma.mk _) ?h0) (congrArg₂ List.cons (congrArg (Sigma.mk _) ?h1) (congrArg₂ List.cons (congrArg (Sigma.mk _) ?h2) (congrArg₂ List.cons (congrArg (Sigma.mk _) ?h3) (congrArg₂ List.cons (congrArg (Sigma.mk _) ?h4) (congrArg₂ List.cons (congrArg (Sigma.mk _) ?h5) (congrArg₂ List.cons (congrArg (Sigma.mk _) ?h6) (congrArg₂ List.cons (congrArg (Sigma.mk _) ?h7) rfl)))))))
  case h0 => rfl
  case h1 => rfl
  case h2 => rfl
  case h3 => rfl
  case h4 => rfl
  case h5 => rfl
  case h6 => rfl
  case h7 => rfl

end Cert.KernelIdeal.Rec

end
-- ==== Proof.Tiles.lean ====
/- What a trip loads are tiles of the point's blocks, and what four stores side by side leave: the two facts about
   positions the loop's invariant rests on. -/
module

public import proofs.«01_k».proof.Proof.Trip

@[expose] public section

set_option maxRecDepth 16384

noncomputable section

namespace Cert.KernelIdeal.Rec

open Cert.KernelIdeal Cert.KernelIdeal.Gen Idealize.ShloMosaic Idealize.ShloMosaic.TcCoe Idealize.ShloMosaic.Tactic

variable {F : FTy → Type} [FloatOps F]

theorem trips_lt (k : Fin k0_t1_loop.trips) : k.val < 8 := Nat.lt_of_lt_of_le k.isLt k0_t1_abs.2.1

/-- Chunk `u` of trip `k`, counted from the start of the point's blocks. -/
def chunkNo (k : Fin k0_t1_loop.trips) (u : Fin 2) : Fin 16 := ⟨2 * k.val + u.val, by have := trips_lt k; omega⟩

/-- A load of 64 rows and 128 columns is a tile. -/
theorem ld_tile128 {e : EltTy} (x : Vec F S1024x512 e) (n : Fin 16) (h : Fin 4) {off : Fin 2 → ℕ} (inb : ∀ a, off a + S64x128.size a ≤ S1024x512.size a)
    (ho : off = ![64 * n.val, 128 * h.val]) : View.ld x (Rect.unit off S64x128.size inb) = tile128 x n h := by
  subst ho
  funext y
  refine View.ld_unit_apply_of x _ _ inb y _ ?_
  refine Fin.forall_fin_two.mpr ⟨rfl, rfl⟩

/-- A load of 64 rows and 256 columns is a tile. -/
theorem ld_tile256 {e : EltTy} (x : Vec F S1024x1024 e) (n : Fin 16) (h : Fin 4) {off : Fin 2 → ℕ} (inb : ∀ a, off a + S64x256.size a ≤ S1024x1024.size a)
    (ho : off = ![64 * n.val, 256 * h.val]) : View.ld x (Rect.unit off S64x256.size inb) = tile256 x n h := by
  subst ho
  funext y
  refine View.ld_unit_apply_of x _ _ inb y _ ?_
  refine Fin.forall_fin_two.mpr ⟨rfl, rfl⟩

/-- A load of 64 whole rows of the decays. -/
theorem ld_tileLa (x : Vec F S1024x512 .f32) (n : Fin 16) {off : Fin 2 → ℕ} (inb : ∀ a, off a + S64x512.size a ≤ S1024x512.size a)
    (ho : off = ![64 * n.val, 0]) : View.ld x (Rect.unit off S64x512.size inb) = tileLa x n := by
  subst ho
  funext y
  refine View.ld_unit_apply_of x _ _ inb y _ ?_
  refine Fin.forall_fin_two.mpr ⟨rfl, (Nat.zero_add _).symm⟩

/-- A load of one head's slab of the state. -/
theorem ld_slab (s : Vec F S4x256x128 .f32) (h : Fin 4) {off : Fin 3 → ℕ} (inb : ∀ a, off a + S1x256x128.size a ≤ S4x256x128.size a)
    (ho : off = ![h.val, 0, 0]) : View.ld s (Rect.unit off S1x256x128.size inb) = slab s h := by
  subst ho
  funext y
  refine View.ld_unit_apply_of s _ _ inb y _ ?_
  intro a
  have h0 : (y 0).val < 1 := (y 0).isLt
  match a with
  | ⟨0, _⟩ => show h.val = h.val + (y 0).val; omega
  | ⟨1, _⟩ => exact (Nat.zero_add _).symm
  | ⟨2, _⟩ => exact (Nat.zero_add _).symm

variable (B : Bufs F) (k : Fin k0_t1_loop.trips)

theorem off_eq {off : Fin 2 → ℕ} {k u C : ℕ} {n : ℕ} (h : off = ![128 * k + 64 * u, C]) (hn : n = 2 * k + u) : off = ![64 * n, C] := by
  rw [h, hn, Nat.mul_add, ← Nat.mul_assoc]

/-- A chunk's output, from the loads. -/
theorem headO_ld (Q K : Vec F S1024x512 .bf16) (V : Vec F S1024x1024 .bf16) (La : Vec F S1024x512 .f32) (n : Fin 16) (h : Fin 4) {o1 oq ov : Fin 2 → ℕ}
    {i1 : ∀ a, o1 a + S64x512.size a ≤ S1024x512.size a} {iq : ∀ a, oq a + S64x128.size a ≤ S1024x512.size a} {iv : ∀ a, ov a + S64x256.size a ≤ S1024x1024.size a}
    (e1 : o1 = ![64 * n.val, 0]) (eq : oq = ![64 * n.val, 128 * h.val]) (ev : ov = ![64 * n.val, 256 * h.val]) (S : Vec F S1x256x128 .f32) :
    headO (colsOf (cum (View.ld La (Rect.unit (s := S1024x512) o1 S64x512.size i1))) h) (View.ld Q (Rect.unit (s := S1024x512) oq S64x128.size iq))
      (View.ld K (Rect.unit (s := S1024x512) oq S64x128.size iq)) (View.ld V (Rect.unit (s := S1024x1024) ov S64x256.size iv)) S = stepO Q K V La n h S := by
  rw [ld_tileLa La n i1 e1, ld_tile128 Q n h iq eq, ld_tile128 K n h iq eq, ld_tile256 V n h iv ev]
  rfl

/-- A chunk's state, from the loads. -/
theorem headS_ld (K : Vec F S1024x512 .bf16) (V : Vec F S1024x1024 .bf16) (La : Vec F S1024x512 .f32) (n : Fin 16) (h : Fin 4) {o1 oq ov : Fin 2 → ℕ}
    {i1 : ∀ a, o1 a + S64x512.size a ≤ S1024x512.size a} {iq : ∀ a, oq a + S64x128.size a ≤ S1024x512.size a} {iv : ∀ a, ov a + S64x256.size a ≤ S1024x1024.size a}
    (e1 : o1 = ![64 * n.val, 0]) (eq : oq = ![64 * n.val, 128 * h.val]) (ev : ov = ![64 * n.val, 256 * h.val]) (S : Vec F S1x256x128 .f32) :
    headS (colsOf (cum (View.ld La (Rect.unit (s := S1024x512) o1 S64x512.size i1))) h)
      (View.ld K (Rect.unit (s := S1024x512) oq S64x128.size iq)) (View.ld V (Rect.unit (s := S1024x1024) ov S64x256.size iv)) S = stepS K V La n h S := by
  rw [ld_tileLa La n i1 e1, ld_tile128 K n h iq eq, ld_tile256 V n h iv ev]
  rfl

theorem fin4_cases {P : Fin 4 → Prop} (h0 : P 0) (h1 : P 1) (h2 : P 2) (h3 : P 3) (h : Fin 4) : P h := by
  have := h.isLt
  match h with
  | ⟨0, _⟩ => exact h0
  | ⟨1, _⟩ => exact h1
  | ⟨2, _⟩ => exact h2
  | ⟨3, _⟩ => exact h3

theorem o0_eq (h : Fin 4) (S : Vec F S1x256x128 .f32) : B.o0 k h S = stepO B.Q B.K B.V B.La (chunkNo k 0) h S := by
  revert h
  refine fin4_cases ?_ ?_ ?_ ?_
  · exact headO_ld B.Q B.K B.V B.La (chunkNo k 0) 0 (off_eq (k0_off1_eq k 0) rfl) (off_eq (k0_off2_eq k 0) rfl) (off_eq (k0_off3_eq k 0) rfl) S
  · exact headO_ld B.Q B.K B.V B.La (chunkNo k 0) 1 (off_eq (k0_off1_eq k 0) rfl) (off_eq (k0_off4_eq k 0) rfl) (off_eq (k0_off5_eq k 0) rfl) S
  · exact headO_ld B.Q B.K B.V B.La (chunkNo k 0) 2 (off_eq (k0_off1_eq k 0) rfl) (off_eq (k0_off6_eq k 0) rfl) (off_eq (k0_off7_eq k 0) rfl) S
  · exact headO_ld B.Q B.K B.V B.La (chunkNo k 0) 3 (off_eq (k0_off1_eq k 0) rfl) (off_eq (k0_off8_eq k 0) rfl) (off_eq (k0_off9_eq k 0) rfl) S

theorem s0_eq (h : Fin 4) (S : Vec F S1x256x128 .f32) : B.s0 k h S = stepS B.K B.V B.La (chunkNo k 0) h S := by
  revert h
  refine fin4_cases ?_ ?_ ?_ ?_
  · exact headS_ld B.K B.V B.La (chunkNo k 0) 0 (off_eq (k0_off1_eq k 0) rfl) (off_eq (k0_off2_eq k 0) rfl) (off_eq (k0_off3_eq k 0) rfl) S
  · exact headS_ld B.K B.V B.La (chunkNo k 0) 1 (off_eq (k0_off1_eq k 0) rfl) (off_eq (k0_off4_eq k 0) rfl) (off_eq (k0_off5_eq k 0) rfl) S
  · exact headS_ld B.K B.V B.La (chunkNo k 0) 2 (off_eq (k0_off1_eq k 0) rfl) (off_eq (k0_off6_eq k 0) rfl) (off_eq (k0_off7_eq k 0) rfl) S
  · exact headS_ld B.K B.V B.La (chunkNo k 0) 3 (off_eq (k0_off1_eq k 0) rfl) (off_eq (k0_off8_eq k 0) rfl) (off_eq (k0_off9_eq k 0) rfl) S

theorem o1_eq (h : Fin 4) (S : Vec F S1x256x128 .f32) : B.o1 k h S = stepO B.Q B.K B.V B.La (chunkNo k 1) h S := by
  revert h
  refine fin4_cases ?_ ?_ ?_ ?_
  · exact headO_ld B.Q B.K B.V B.La (chunkNo k 1) 0 (off_eq (k0_off1_eq k 1) rfl) (off_eq (k0_off2_eq k 1) rfl) (off_eq (k0_off3_eq k 1) rfl) S
  · exact headO_ld B.Q B.K B.V B.La (chunkNo k 1) 1 (off_eq (k0_off1_eq k 1) rfl) (off_eq (k0_off4_eq k 1) rfl) (off_eq (k0_off5_eq k 1) rfl) S
  · exact headO_ld B.Q B.K B.V B.La (chunkNo k 1) 2 (off_eq (k0_off1_eq k 1) rfl) (off_eq (k0_off6_eq k 1) rfl) (off_eq (k0_off7_eq k 1) rfl) S
  · exact headO_ld B.Q B.K B.V B.La (chunkNo k 1) 3 (off_eq (k0_off1_eq k 1) rfl) (off_eq (k0_off8_eq k 1) rfl) (off_eq (k0_off9_eq k 1) rfl) S

theorem s1_eq (h : Fin 4) (S : Vec F S1x256x128 .f32) : B.s1 k h S = stepS B.K B.V B.La (chunkNo k 1) h S := by
  revert h
  refine fin4_cases ?_ ?_ ?_ ?_
  · exact headS_ld B.K B.V B.La (chunkNo k 1) 0 (off_eq (k0_off1_eq k 1) rfl) (off_eq (k0_off2_eq k 1) rfl) (off_eq (k0_off3_eq k 1) rfl) S
  · exact headS_ld B.K B.V B.La (chunkNo k 1) 1 (off_eq (k0_off1_eq k 1) rfl) (off_eq (k0_off4_eq k 1) rfl) (off_eq (k0_off5_eq k 1) rfl) S
  · exact headS_ld B.K B.V B.La (chunkNo k 1) 2 (off_eq (k0_off1_eq k 1) rfl) (off_eq (k0_off6_eq k 1) rfl) (off_eq (k0_off7_eq k 1) rfl) S
  · exact headS_ld B.K B.V B.La (chunkNo k 1) 3 (off_eq (k0_off1_eq k 1) rfl) (off_eq (k0_off8_eq k 1) rfl) (off_eq (k0_off9_eq k 1) rfl) S

theorem slab9_eq (f9 : BufTy.Contents (Elt F) B.a9.view.ty) (h : Fin 4) : B.slab9 f9 h = slab (B.a9.view.read (Elt F) f9) h := by
  revert h
  refine fin4_cases ?_ ?_ ?_ ?_
  · exact ld_slab (B.a9.view.read (Elt F) f9) 0 inb_S4x256x128_S1x256x128_0_0_0 rfl
  · exact ld_slab (B.a9.view.read (Elt F) f9) 1 inb_S4x256x128_S1x256x128_1_0_0 rfl
  · exact ld_slab (B.a9.view.read (Elt F) f9) 2 inb_S4x256x128_S1x256x128_2_0_0 rfl
  · exact ld_slab (B.a9.view.read (Elt F) f9) 3 inb_S4x256x128_S1x256x128_3_0_0 rfl

/-- Four stores of whole slabs leave the array of the four. -/
theorem read_slabs (f9 : BufTy.Contents (Elt F) B.a9.view.ty) (w : Fin 4 → Vec F S1x256x128 .f32) (L : List (View.Piece (Elt F) S4x256x128 .f32)) :
    B.a9.view.read (Elt F) (B.a9.view.writes (Elt F) f9
      (⟨Rect.unit (s := S4x256x128) ![3, 0, 0] S1x256x128.size inb_S4x256x128_S1x256x128_3_0_0, w 3⟩ ::
       ⟨Rect.unit (s := S4x256x128) ![2, 0, 0] S1x256x128.size inb_S4x256x128_S1x256x128_2_0_0, w 2⟩ ::
       ⟨Rect.unit (s := S4x256x128) ![1, 0, 0] S1x256x128.size inb_S4x256x128_S1x256x128_1_0_0, w 1⟩ ::
       ⟨Rect.unit (s := S4x256x128) ![0, 0, 0] S1x256x128.size inb_S4x256x128_S1x256x128_0_0_0, w 0⟩ :: L)) = ofSlabs w := by
  funext y
  have hy : (y 0).val < 4 := (y 0).isLt
  have key (h : Fin 4) (hh : (y 0).val = h.val) (e : (show Fin 4 from y 0) = h) : ∀ a : Fin 3, (y a).val = (![h.val, 0, 0] : Fin 3 → ℕ) a + ((show S1x256x128.Idx from fun
    | ⟨0, _⟩ => (0 : Fin 1)
    | ⟨1, _⟩ => (⟨(y 1).val, (y 1).isLt⟩ : Fin 256)
    | ⟨2, _⟩ => (⟨(y 2).val, (y 2).isLt⟩ : Fin 128)) a).val := by
    intro a
    match a with
    | ⟨0, _⟩ => exact hh
    | ⟨1, _⟩ => exact (Nat.zero_add _).symm
    | ⟨2, _⟩ => exact (Nat.zero_add _).symm
  have fin (h : Fin 4) (e : (show Fin 4 from y 0) = h) : w h (show S1x256x128.Idx from fun
    | ⟨0, _⟩ => (0 : Fin 1)
    | ⟨1, _⟩ => (⟨(y 1).val, (y 1).isLt⟩ : Fin 256)
    | ⟨2, _⟩ => (⟨(y 2).val, (y 2).isLt⟩ : Fin 128)) = ofSlabs w y := by subst e; rfl
  have cases : (y 0).val = 3 ∨ (y 0).val = 2 ∨ (y 0).val = 1 ∨ (y 0).val = 0 := by omega
  rcases cases with h | h | h | h
  · have e : (show Fin 4 from y 0) = 3 := Fin.ext h
    rw [View.read_writes_cons_unit_of_mem (s := S4x256x128) (size := S1x256x128.size) _ _ inb_S4x256x128_S1x256x128_3_0_0 _ _ y _ rfl (key 3 h e)]
    exact fin 3 e
  · have e : (show Fin 4 from y 0) = 2 := Fin.ext h
    rw [View.read_writes_cons_unit_of_not_mem (s := S4x256x128) (size := S1x256x128.size) _ _ inb_S4x256x128_S1x256x128_3_0_0 _ _ y rfl 0 (Or.inl (by show (y 0).val < 3; omega)),
      View.read_writes_cons_unit_of_mem (s := S4x256x128) (size := S1x256x128.size) _ _ inb_S4x256x128_S1x256x128_2_0_0 _ _ y _ rfl (key 2 h e)]
    exact fin 2 e
  · have e : (show Fin 4 from y 0) = 1 := Fin.ext h
    rw [View.read_writes_cons_unit_of_not_mem (s := S4x256x128) (size := S1x256x128.size) _ _ inb_S4x256x128_S1x256x128_3_0_0 _ _ y rfl 0 (Or.inl (by show (y 0).val < 3; omega)),
      View.read_writes_cons_unit_of_not_mem (s := S4x256x128) (size := S1x256x128.size) _ _ inb_S4x256x128_S1x256x128_2_0_0 _ _ y rfl 0 (Or.inl (by show (y 0).val < 2; omega)),
      View.read_writes_cons_unit_of_mem (s := S4x256x128) (size := S1x256x128.size) _ _ inb_S4x256x128_S1x256x128_1_0_0 _ _ y _ rfl (key 1 h e)]
    exact fin 1 e
  · have e : (show Fin 4 from y 0) = 0 := Fin.ext h
    rw [View.read_writes_cons_unit_of_not_mem (s := S4x256x128) (size := S1x256x128.size) _ _ inb_S4x256x128_S1x256x128_3_0_0 _ _ y rfl 0 (Or.inl (by show (y 0).val < 3; omega)),
      View.read_writes_cons_unit_of_not_mem (s := S4x256x128) (size := S1x256x128.size) _ _ inb_S4x256x128_S1x256x128_2_0_0 _ _ y rfl 0 (Or.inl (by show (y 0).val < 2; omega)),
      View.read_writes_cons_unit_of_not_mem (s := S4x256x128) (size := S1x256x128.size) _ _ inb_S4x256x128_S1x256x128_1_0_0 _ _ y rfl 0 (Or.inl (by show (y 0).val < 1; omega)),
      View.read_writes_cons_unit_of_mem (s := S4x256x128) (size := S1x256x128.size) _ _ inb_S4x256x128_S1x256x128_0_0_0 _ _ y _ rfl (key 0 h e)]
    exact fin 0 e

/-- The position within a chunk's output of a row and column of the block. -/
def inTile (y : S1024x1024.Idx) : S64x256.Idx := show S64x256.Idx from fun
  | ⟨0, _⟩ => (⟨(y 0).val % 64, Nat.mod_lt _ (by decide)⟩ : Fin 64)
  | ⟨1, _⟩ => (⟨(y 1).val % 256, Nat.mod_lt _ (by decide)⟩ : Fin 256)

/-- The head a column of the block belongs to. -/
def headOf (y : S1024x1024.Idx) : Fin 4 := ⟨(y 1).val / 256, by have : (y 1).val < 1024 := (y 1).isLt; omega⟩

section
variable (f7 : BufTy.Contents (Elt F) B.a7.view.ty) (w : Fin 4 → FVec F S64x256 .bf16) (L : List (View.Piece (Elt F) S1024x1024 .bf16)) (n : ℕ)
  {o0 o1 o2 o3 : Fin 2 → ℕ}
  (i0 : ∀ a, o0 a + S64x256.size a ≤ S1024x1024.size a) (i1 : ∀ a, o1 a + S64x256.size a ≤ S1024x1024.size a)
  (i2 : ∀ a, o2 a + S64x256.size a ≤ S1024x1024.size a) (i3 : ∀ a, o3 a + S64x256.size a ≤ S1024x1024.size a)
  (e0 : o0 = ![64 * n, 0]) (e1 : o1 = ![64 * n, 256]) (e2 : o2 = ![64 * n, 512]) (e3 : o3 = ![64 * n, 768]) (y : S1024x1024.Idx)
include e0 e1 e2 e3

/-- Four stores of a chunk's output side by side, read at one of the chunk's rows. -/
theorem read_chunk_of_mem (hy : (y 0).val / 64 = n) :
    B.a7.view.read (Elt F) (B.a7.view.writes (Elt F) f7
      (⟨Rect.unit (s := S1024x1024) o3 S64x256.size i3, w 3⟩ :: ⟨Rect.unit (s := S1024x1024) o2 S64x256.size i2, w 2⟩ ::
       ⟨Rect.unit (s := S1024x1024) o1 S64x256.size i1, w 1⟩ :: ⟨Rect.unit (s := S1024x1024) o0 S64x256.size i0, w 0⟩ :: L)) y
      = w (headOf y) (inTile y) := by
  have h1 : (y 1).val < 1024 := (y 1).isLt
  have key (h : Fin 4) (hh : (y 1).val / 256 = h.val) (C : ℕ) (hC : C = 256 * h.val) : ∀ a : Fin 2, (y a).val = (![64 * n, C] : Fin 2 → ℕ) a + (inTile y a).val := by
    subst hC
    refine Fin.forall_fin_two.mpr ⟨?_, ?_⟩
    · show (y 0).val = 64 * n + (y 0).val % 64; omega
    · show (y 1).val = 256 * h.val + (y 1).val % 256; omega
  have cases : (y 1).val / 256 = 3 ∨ (y 1).val / 256 = 2 ∨ (y 1).val / 256 = 1 ∨ (y 1).val / 256 = 0 := by omega
  rcases cases with h | h | h | h
  · have e : headOf y = 3 := Fin.ext h
    rw [View.read_writes_cons_unit_of_mem (s := S1024x1024) (size := S64x256.size) _ _ i3 _ _ y (inTile y) e3 (key 3 h _ rfl), e]
  · have e : headOf y = 2 := Fin.ext h
    rw [View.read_writes_cons_unit_of_not_mem (s := S1024x1024) (size := S64x256.size) _ _ i3 _ _ y e3 1 (Or.inl (by show (y 1).val < 768; omega)),
      View.read_writes_cons_unit_of_mem (s := S1024x1024) (size := S64x256.size) _ _ i2 _ _ y (inTile y) e2 (key 2 h _ rfl), e]
  · have e : headOf y = 1 := Fin.ext h
    rw [View.read_writes_cons_unit_of_not_mem (s := S1024x1024) (size := S64x256.size) _ _ i3 _ _ y e3 1 (Or.inl (by show (y 1).val < 768; omega)),
      View.read_writes_cons_unit_of_not_mem (s := S1024x1024) (size := S64x256.size) _ _ i2 _ _ y e2 1 (Or.inl (by show (y 1).val < 512; omega)),
      View.read_writes_cons_unit_of_mem (s := S1024x1024) (size := S64x256.size) _ _ i1 _ _ y (inTile y) e1 (key 1 h _ rfl), e]
  · have e : headOf y = 0 := Fin.ext h
    rw [View.read_writes_cons_unit_of_not_mem (s := S1024x1024) (size := S64x256.size) _ _ i3 _ _ y e3 1 (Or.inl (by show (y 1).val < 768; omega)),
      View.read_writes_cons_unit_of_not_mem (s := S1024x1024) (size := S64x256.size) _ _ i2 _ _ y e2 1 (Or.inl (by show (y 1).val < 512; omega)),
      View.read_writes_cons_unit_of_not_mem (s := S1024x1024) (size := S64x256.size) _ _ i1 _ _ y e1 1 (Or.inl (by show (y 1).val < 256; omega)),
      View.read_writes_cons_unit_of_mem (s := S1024x1024) (size := S64x256.size) _ _ i0 _ _ y (inTile y) e0 (key 0 h _ rfl), e]

/-- and read at another row, where they leave what was there. -/
theorem read_chunk_of_not_mem (hy : (y 0).val / 64 ≠ n) :
    B.a7.view.read (Elt F) (B.a7.view.writes (Elt F) f7
      (⟨Rect.unit (s := S1024x1024) o3 S64x256.size i3, w 3⟩ :: ⟨Rect.unit (s := S1024x1024) o2 S64x256.size i2, w 2⟩ ::
       ⟨Rect.unit (s := S1024x1024) o1 S64x256.size i1, w 1⟩ :: ⟨Rect.unit (s := S1024x1024) o0 S64x256.size i0, w 0⟩ :: L)) y
      = B.a7.view.read (Elt F) (B.a7.view.writes (Elt F) f7 L) y := by
  have key (C : ℕ) : (y 0).val < (![64 * n, C] : Fin 2 → ℕ) 0 ∨ (![64 * n, C] : Fin 2 → ℕ) 0 + S64x256.size 0 ≤ (y 0).val := by
    show (y 0).val < 64 * n ∨ 64 * n + 64 ≤ (y 0).val
    omega
  rw [View.read_writes_cons_unit_of_not_mem (s := S1024x1024) (size := S64x256.size) _ _ i3 _ _ y e3 0 (key 768), View.read_writes_cons_unit_of_not_mem (s := S1024x1024) (size := S64x256.size) _ _ i2 _ _ y e2 0 (key 512),
    View.read_writes_cons_unit_of_not_mem (s := S1024x1024) (size := S64x256.size) _ _ i1 _ _ y e1 0 (key 256), View.read_writes_cons_unit_of_not_mem (s := S1024x1024) (size := S64x256.size) _ _ i0 _ _ y e0 0 (key 0)]

end

end Cert.KernelIdeal.Rec

end
-- ==== Proof.Loop.lean ====
/- The recurrence's loop: after its eight trips the output block and the state buffer hold the closed forms of the point's
   sixteen chunks, whatever the output block held before. -/
module

public import proofs.«01_k».proof.Proof.Tiles

@[expose] public section

set_option maxRecDepth 16384

noncomputable section

namespace Cert.KernelIdeal.Rec

open Cert.KernelIdeal Cert.KernelIdeal.Gen Idealize.ShloMosaic Idealize.ShloMosaic.TcCoe Idealize.ShloMosaic.Tactic

variable {F : FTy → Type} [FloatOps F]

theorem ofSlabs_slab (s : Vec F S4x256x128 .f32) : ofSlabs (slab s) = s := by
  funext y
  refine congrArg s (funext fun a => ?_)
  match a with
  | ⟨0, _⟩ => rfl
  | ⟨1, _⟩ => rfl
  | ⟨2, _⟩ => rfl

theorem slab_ofSlabs (S : Fin 4 → Vec F S1x256x128 .f32) (h : Fin 4) : slab (ofSlabs S) h = S h := by
  funext y
  refine congrArg (S h) (funext fun a => ?_)
  match a with
  | ⟨0, _⟩ => exact Subsingleton.elim (α := Fin 1) _ _
  | ⟨1, _⟩ => rfl
  | ⟨2, _⟩ => rfl

/-- What the loop's first `k` trips wrote, last first. -/
abbrev Bufs.pb (B : Bufs F) (𝒱 : Variants) (bd : Option 𝒱.V) (G7 : BufTy.Contents (Elt F) B.a7.view.ty) (G9 : BufTy.Contents (Elt F) B.a9.view.ty) (k : ℕ) :=
  pb_k0_t1 (F := F) 𝒱 B.c bd B.i B.a2 B.h2 B.a3 B.h3 B.a4 B.h4 B.a5 B.h5 B.a6 B.h6 B.a7 B.h7 B.a8 B.h8 B.a9 B.h9 B.x2 B.x3 B.x4 B.x5 G7 G9 k

variable (B : Bufs F) (𝒱 : Variants) (bd : Option 𝒱.V) (G7 : BufTy.Contents (Elt F) B.a7.view.ty) (G9 : BufTy.Contents (Elt F) B.a9.view.ty)

/-- The state of head `h` after `n` chunks, over what the buffers hold at loop entry. -/
abbrev Bufs.st (n : ℕ) (h : Fin 4) : Vec F S1x256x128 .f32 := stateAfter B.K B.V B.La (B.a9.view.read (Elt F) G9) n h

theorem trips_eq : k0_t1_loop.trips = 8 := by decide +kernel

theorem loop_aux : ∀ k : ℕ, k ≤ 8 →
    B.a9.view.read (Elt F) (B.a9.view.writes (Elt F) G9 (B.pb 𝒱 bd G7 G9 k).2) = ofSlabs (B.st G9 (2 * k))
      ∧ ∀ y : S1024x1024.Idx, (y 0).val < 128 * k →
        B.a7.view.read (Elt F) (B.a7.view.writes (Elt F) G7 (B.pb 𝒱 bd G7 G9 k).1) y = outO B.Q B.K B.V B.La (B.a9.view.read (Elt F) G9) y
  | 0, _ => ⟨(ofSlabs_slab _).symm, fun y h => absurd h (Nat.not_lt_zero _)⟩
  | k + 1, hk => by
    obtain ⟨ih9, ih7⟩ := loop_aux k (by omega)
    have hk' : k < k0_t1_loop.trips := by rw [trips_eq]; omega
    have hpb := pb_k0_t1_succ (F := F) 𝒱 B.c bd B.i B.a2 B.h2 B.a3 B.h3 B.a4 B.h4 B.a5 B.h5 B.a6 B.h6 B.a7 B.h7 B.a8 B.h8 B.a9 B.h9 B.x2 B.x3 B.x4 B.x5 G7 G9 ⟨k, hk'⟩
    have e9 := trip_state B ⟨k, hk'⟩ (B.a9.view.writes (Elt F) G9 (B.pb 𝒱 bd G7 G9 k).2) 𝒱 bd (B.a7.view.writes (Elt F) G7 (B.pb 𝒱 bd G7 G9 k).1)
    have e7 := trip_out B ⟨k, hk'⟩ (B.a9.view.writes (Elt F) G9 (B.pb 𝒱 bd G7 G9 k).2) 𝒱 bd (B.a7.view.writes (Elt F) G7 (B.pb 𝒱 bd G7 G9 k).1)
    have hs (h : Fin 4) : B.slab9 (B.a9.view.writes (Elt F) G9 (B.pb 𝒱 bd G7 G9 k).2) h = B.st G9 (2 * k) h := by
      rw [slab9_eq, ih9, slab_ofSlabs]
    have hs1 (h : Fin 4) : B.s0 ⟨k, hk'⟩ h (B.st G9 (2 * k) h) = B.st G9 (2 * k + 1) h := by
      rw [s0_eq]; exact (stateAfter_succ B.K B.V B.La _ (2 * k) (by omega) h).symm
    have hs2 (h : Fin 4) : B.s1 ⟨k, hk'⟩ h (B.st G9 (2 * k + 1) h) = B.st G9 (2 * (k + 1)) h := by
      rw [s1_eq]; exact (stateAfter_succ B.K B.V B.La _ (2 * k + 1) (by omega) h).symm
    refine ⟨?_, fun y hy => ?_⟩
    · refine (congrArg (fun L => B.a9.view.read (Elt F) (B.a9.view.writes (Elt F) G9 L)) ((congrArg Prod.snd hpb).trans (congrArg (· ++ (B.pb 𝒱 bd G7 G9 k).2) e9))).trans ?_
      refine (read_slabs B G9 (fun h => B.s1 ⟨k, hk'⟩ h (B.s0 ⟨k, hk'⟩ h (B.slab9 (B.a9.view.writes (Elt F) G9 (B.pb 𝒱 bd G7 G9 k).2) h))) _).trans ?_
      refine congrArg ofSlabs (funext fun h => ?_)
      rw [hs, hs1, hs2]
    · refine (congrArg (fun L => B.a7.view.read (Elt F) (B.a7.view.writes (Elt F) G7 L) y) ((congrArg Prod.fst hpb).trans (congrArg (· ++ (B.pb 𝒱 bd G7 G9 k).1) e7))).trans ?_
      by_cases h1 : (y 0).val / 64 = 2 * k + 1
      · refine (read_chunk_of_mem B G7 (fun h => B.o1 ⟨k, hk'⟩ h (B.s0 ⟨k, hk'⟩ h (B.slab9 (B.a9.view.writes (Elt F) G9 (B.pb 𝒱 bd G7 G9 k).2) h))) _ (2 * k + 1)
          (k0_off3_inb _ 1) (k0_off5_inb _ 1) (k0_off7_inb _ 1) (k0_off9_inb _ 1)
          (off_eq (k0_off3_eq _ 1) rfl) (off_eq (k0_off5_eq _ 1) rfl) (off_eq (k0_off7_eq _ 1) rfl) (off_eq (k0_off9_eq _ 1) rfl) y h1).trans ?_
        have ec : chunkNo ⟨k, hk'⟩ 1 = ⟨(y 0).val / 64, by have : (y 0).val < 1024 := (y 0).isLt; omega⟩ := Fin.ext h1.symm
        show B.o1 ⟨k, hk'⟩ (headOf y) _ (inTile y) = _
        rw [hs, hs1, o1_eq, ec, ← h1]
        rfl
      · refine (read_chunk_of_not_mem B G7 (fun h => B.o1 ⟨k, hk'⟩ h (B.s0 ⟨k, hk'⟩ h (B.slab9 (B.a9.view.writes (Elt F) G9 (B.pb 𝒱 bd G7 G9 k).2) h))) _ (2 * k + 1)
          (k0_off3_inb _ 1) (k0_off5_inb _ 1) (k0_off7_inb _ 1) (k0_off9_inb _ 1)
          (off_eq (k0_off3_eq _ 1) rfl) (off_eq (k0_off5_eq _ 1) rfl) (off_eq (k0_off7_eq _ 1) rfl) (off_eq (k0_off9_eq _ 1) rfl) y h1).trans ?_
        by_cases h0 : (y 0).val / 64 = 2 * k
        · refine (read_chunk_of_mem B G7 (fun h => B.o0 ⟨k, hk'⟩ h (B.slab9 (B.a9.view.writes (Elt F) G9 (B.pb 𝒱 bd G7 G9 k).2) h)) _ (2 * k)
            (k0_off3_inb _ 0) (k0_off5_inb _ 0) (k0_off7_inb _ 0) (k0_off9_inb _ 0)
            (off_eq (k0_off3_eq _ 0) rfl) (off_eq (k0_off5_eq _ 0) rfl) (off_eq (k0_off7_eq _ 0) rfl) (off_eq (k0_off9_eq _ 0) rfl) y h0).trans ?_
          have ec : chunkNo ⟨k, hk'⟩ 0 = ⟨(y 0).val / 64, by have : (y 0).val < 1024 := (y 0).isLt; omega⟩ := Fin.ext h0.symm
          show B.o0 ⟨k, hk'⟩ (headOf y) _ (inTile y) = _
          rw [hs, o0_eq, ec, ← h0]
          rfl
        · refine (read_chunk_of_not_mem B G7 (fun h => B.o0 ⟨k, hk'⟩ h (B.slab9 (B.a9.view.writes (Elt F) G9 (B.pb 𝒱 bd G7 G9 k).2) h)) _ (2 * k)
            (k0_off3_inb _ 0) (k0_off5_inb _ 0) (k0_off7_inb _ 0) (k0_off9_inb _ 0)
            (off_eq (k0_off3_eq _ 0) rfl) (off_eq (k0_off5_eq _ 0) rfl) (off_eq (k0_off7_eq _ 0) rfl) (off_eq (k0_off9_eq _ 0) rfl) y h0).trans ?_
          exact ih7 y (by omega)

/-- The state buffer after the loop. -/
theorem loop_state : B.a9.view.read (Elt F) (B.a9.view.writes (Elt F) G9 (B.pb 𝒱 bd G7 G9 k0_t1_loop.trips).2) = outS B.K B.V B.La (B.a9.view.read (Elt F) G9) := by
  rw [trips_eq]; exact (loop_aux B 𝒱 bd G7 G9 8 le_rfl).1

/-- The output block after the loop. -/
theorem loop_out : B.a7.view.read (Elt F) (B.a7.view.writes (Elt F) G7 (B.pb 𝒱 bd G7 G9 k0_t1_loop.trips).1) = outO B.Q B.K B.V B.La (B.a9.view.read (Elt F) G9) := by
  rw [trips_eq]; funext y; exact (loop_aux B 𝒱 bd G7 G9 8 le_rfl).2 y (y 0).isLt

end Cert.KernelIdeal.Rec

end
-- ==== Proof.Body.lean ====
/- What one run of the kernel's body leaves, in each of its three cases: the first point of a sequence (the state is
   taken from its operand), an inner point, and the last one (the state is also written out). -/
module

public import proofs.«01_k».proof.Proof.Loop
public import proofs.«01_k».proof.Proof.Gen.KernelIdeal.Frame.Runs

@[expose] public section

set_option maxRecDepth 16384

noncomputable section

namespace Cert.KernelIdeal.Rec

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The state of head `h` in the operand's own layout. -/
def tile4 (x : Vec F S1x4x128x256 .f32) (h : Fin 4) : Vec F S1x1x128x256 .f32 :=
  fun y => x (show S1x4x128x256.Idx from fun
    | ⟨0, _⟩ => (0 : Fin 1)
    | ⟨1, _⟩ => (h : Fin 4)
    | ⟨2, _⟩ => (⟨(y 2).val, (y 2).isLt⟩ : Fin 128)
    | ⟨3, _⟩ => (⟨(y 3).val, (y 3).isLt⟩ : Fin 256))

/-- The state the first point of a sequence starts from: its operand's, each head transposed. -/
def initS (x : Vec F S1x4x128x256 .f32) : Vec F S4x256x128 .f32 := ofSlabs fun h => k0_pay1 (tile4 x h)

/-- The state in the operand's layout again, each head transposed back. -/
def outT (s : Vec F S4x256x128 .f32) : Vec F S1x4x128x256 .f32 :=
  fun y => k0_pay8 (slab s (show Fin 4 from y 1)) (show S1x1x128x256.Idx from fun
    | ⟨0, _⟩ => (0 : Fin 1)
    | ⟨1, _⟩ => (0 : Fin 1)
    | ⟨2, _⟩ => (⟨(y 2).val, (y 2).isLt⟩ : Fin 128)
    | ⟨3, _⟩ => (⟨(y 3).val, (y 3).isLt⟩ : Fin 256))

/-- A load of one head of the operand's state. -/
theorem ld_tile4 (x : Vec F S1x4x128x256 .f32) (h : Fin 4) {off : Fin 4 → ℕ} (inb : ∀ a, off a + S1x1x128x256.size a ≤ S1x4x128x256.size a)
    (ho : off = ![0, h.val, 0, 0]) : View.ld x (Rect.unit off S1x1x128x256.size inb) = tile4 x h := by
  subst ho
  funext y
  refine View.ld_unit_apply_of x _ _ inb y _ ?_
  intro a
  have h1 : (y 1).val < 1 := (y 1).isLt
  have h0 : (y 0).val < 1 := (y 0).isLt
  match a with
  | ⟨0, _⟩ => show 0 = 0 + (y 0).val; omega
  | ⟨1, _⟩ => show h.val = h.val + (y 1).val; omega
  | ⟨2, _⟩ => exact (Nat.zero_add _).symm
  | ⟨3, _⟩ => exact (Nat.zero_add _).symm

/-- Four stores of one head each leave the state of the four. -/
theorem read_heads (v : View sig .tc .vmem S1x4x128x256 .f32) (f : v.ty.Contents (Elt F)) (s : Vec F S4x256x128 .f32) (w : Fin 4 → Vec F S1x1x128x256 .f32)
    (hw : ∀ h, w h = k0_pay8 (slab s h)) :
    v.read (Elt F) (v.writes (Elt F) f
      [⟨Rect.unit (s := S1x4x128x256) ![0, 3, 0, 0] S1x1x128x256.size inb_S1x4x128x256_S1x1x128x256_0_3_0_0, w 3⟩,
       ⟨Rect.unit (s := S1x4x128x256) ![0, 2, 0, 0] S1x1x128x256.size inb_S1x4x128x256_S1x1x128x256_0_2_0_0, w 2⟩,
       ⟨Rect.unit (s := S1x4x128x256) ![0, 1, 0, 0] S1x1x128x256.size inb_S1x4x128x256_S1x1x128x256_0_1_0_0, w 1⟩,
       ⟨Rect.unit (s := S1x4x128x256) ![0, 0, 0, 0] S1x1x128x256.size inb_S1x4x128x256_S1x1x128x256_0_0_0_0, w 0⟩]) = outT s := by
  funext y
  have hy : (y 1).val < 4 := (y 1).isLt
  have hy0 : (y 0).val < 1 := (y 0).isLt
  obtain ⟨x, hx⟩ : ∃ x : S1x1x128x256.Idx, x = (show S1x1x128x256.Idx from fun
    | ⟨0, _⟩ => (0 : Fin 1)
    | ⟨1, _⟩ => (0 : Fin 1)
    | ⟨2, _⟩ => (⟨(y 2).val, (y 2).isLt⟩ : Fin 128)
    | ⟨3, _⟩ => (⟨(y 3).val, (y 3).isLt⟩ : Fin 256)) := ⟨_, rfl⟩
  have key (h : Fin 4) (hh : (y 1).val = h.val) : ∀ a : Fin 4, (y a).val = (![0, h.val, 0, 0] : Fin 4 → ℕ) a + (x a).val := by
    intro a
    subst hx
    match a with
    | ⟨0, _⟩ => show (y 0).val = 0 + 0; omega
    | ⟨1, _⟩ => exact hh
    | ⟨2, _⟩ => exact (Nat.zero_add _).symm
    | ⟨3, _⟩ => exact (Nat.zero_add _).symm
  have fin (h : Fin 4) (e : (show Fin 4 from y 1) = h) : w h x = outT s y := by rw [hw, hx]; subst e; rfl
  have cases : (y 1).val = 3 ∨ (y 1).val = 2 ∨ (y 1).val = 1 ∨ (y 1).val = 0 := by omega
  rcases cases with h | h | h | h
  · rw [View.read_writes_cons_unit_of_mem (s := S1x4x128x256) (size := S1x1x128x256.size) _ _ inb_S1x4x128x256_S1x1x128x256_0_3_0_0 _ _ y x rfl (key 3 h)]
    exact fin 3 (Fin.ext h)
  · rw [View.read_writes_cons_unit_of_not_mem (s := S1x4x128x256) (size := S1x1x128x256.size) _ _ inb_S1x4x128x256_S1x1x128x256_0_3_0_0 _ _ y rfl 1 (Or.inl (by show (y 1).val < 3; omega)),
      View.read_writes_cons_unit_of_mem (s := S1x4x128x256) (size := S1x1x128x256.size) _ _ inb_S1x4x128x256_S1x1x128x256_0_2_0_0 _ _ y x rfl (key 2 h)]
    exact fin 2 (Fin.ext h)
  · rw [View.read_writes_cons_unit_of_not_mem (s := S1x4x128x256) (size := S1x1x128x256.size) _ _ inb_S1x4x128x256_S1x1x128x256_0_3_0_0 _ _ y rfl 1 (Or.inl (by show (y 1).val < 3; omega)),
      View.read_writes_cons_unit_of_not_mem (s := S1x4x128x256) (size := S1x1x128x256.size) _ _ inb_S1x4x128x256_S1x1x128x256_0_2_0_0 _ _ y rfl 1 (Or.inl (by show (y 1).val < 2; omega)),
      View.read_writes_cons_unit_of_mem (s := S1x4x128x256) (size := S1x1x128x256.size) _ _ inb_S1x4x128x256_S1x1x128x256_0_1_0_0 _ _ y x rfl (key 1 h)]
    exact fin 1 (Fin.ext h)
  · rw [View.read_writes_cons_unit_of_not_mem (s := S1x4x128x256) (size := S1x1x128x256.size) _ _ inb_S1x4x128x256_S1x1x128x256_0_3_0_0 _ _ y rfl 1 (Or.inl (by show (y 1).val < 3; omega)),
      View.read_writes_cons_unit_of_not_mem (s := S1x4x128x256) (size := S1x1x128x256.size) _ _ inb_S1x4x128x256_S1x1x128x256_0_2_0_0 _ _ y rfl 1 (Or.inl (by show (y 1).val < 2; omega)),
      View.read_writes_cons_unit_of_not_mem (s := S1x4x128x256) (size := S1x1x128x256.size) _ _ inb_S1x4x128x256_S1x1x128x256_0_1_0_0 _ _ y rfl 1 (Or.inl (by show (y 1).val < 1; omega)),
      View.read_writes_cons_unit_of_mem (s := S1x4x128x256) (size := S1x1x128x256.size) _ _ inb_S1x4x128x256_S1x1x128x256_0_0_0_0 _ _ y x rfl (key 0 h)]
    exact fin 0 (Fin.ext h)

set_option maxHeartbeats 1000000 in
/-- The body at the first point of a sequence. -/
theorem body_A (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1024 .bf16) (harg4 : arg4.IsWhole) (arg5 : Memref sig .tc .vmem S1024x512 .f32) (harg5 : arg5.IsWhole) (arg6 : Memref sig .tc .vmem S1x4x128x256 .f32) (harg6 : arg6.IsWhole) (arg7 : Memref sig .tc .vmem S1024x1024 .bf16) (harg7 : arg7.IsWhole) (arg8 : Memref sig .tc .vmem S1x4x128x256 .f32) (harg8 : arg8.IsWhole) (arg9 : Memref sig .tc .vmem S4x256x128 .f32) (harg9 : arg9.IsWhole) (hc0 : cond0_0 i) (hc1 : ¬cond0_1 i)
    (x0 : Vec F S1024x512 .bf16) (x1 : Vec F S1024x512 .bf16) (x2 : Vec F S1024x1024 .bf16) (x3 : Vec F S1024x512 .f32) (x4 : Vec F S1x4x128x256 .f32) (xi6 : Vec F S1x4x128x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outO x0 x1 x2 x3 (initS x4)) ∗ owns (c : Thread nD τ) arg8 fullShare xi6 ∗ owns (c : Thread nD τ) arg9 fullShare (outS x1 x2 x3 (initS x4))) -∗ K ⟨⟩))
      ⊢ wp frame (wpE (defs₀ (F := F)) Variants.none c none) E (cc0_gla_recurrence i arg2 harg2 arg3 harg3 arg4 harg4 arg5 harg5 arg6 harg6 arg7 harg7 arg8 harg8 arg9 harg9) K := by
  simp only [cc0_gla_recurrence_eq_skeleton]; unfold cc0_gla_recurrence_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%ds0, %fs0, -, HS0⟩, Hk⟩
  subst hf0 hf1 hf2 hf3 hf4 hf6
  sl_exec (disch := first | sl_exact hc0 | sl_exact hc1)
  sl_step
  have hini : arg9.view.read (Elt F) (arg9.view.writes (Elt F) arg9.view.junk (body_A.sl.HS0_4 c arg6 f4)) = initS (arg6.view.read (Elt F) f4) := by
    unfold body_A.sl.HS0_4
    refine Eq.trans (congrArg (fun L => arg9.view.read (Elt F) (arg9.view.writes (Elt F) arg9.view.junk L)) (congrArg₂ List.cons (congrArg (Sigma.mk _) (congrArg (k0_pay1 (F := F)) (ld_tile4 (arg6.view.read (Elt F) f4) 3 inb_S1x4x128x256_S1x1x128x256_0_3_0_0 rfl)))
      (congrArg₂ List.cons (congrArg (Sigma.mk _) (congrArg (k0_pay1 (F := F)) (ld_tile4 (arg6.view.read (Elt F) f4) 2 inb_S1x4x128x256_S1x1x128x256_0_2_0_0 rfl)))
      (congrArg₂ List.cons (congrArg (Sigma.mk _) (congrArg (k0_pay1 (F := F)) (ld_tile4 (arg6.view.read (Elt F) f4) 1 inb_S1x4x128x256_S1x1x128x256_0_1_0_0 rfl)))
      (congrArg₂ List.cons (congrArg (Sigma.mk _) (congrArg (k0_pay1 (F := F)) (ld_tile4 (arg6.view.read (Elt F) f4) 0 inb_S1x4x128x256_S1x1x128x256_0_0_0_0 rfl))) rfl)))))
      (read_slabs ⟨c, i, arg2, harg2, arg3, harg3, arg4, harg4, arg5, harg5, arg6, harg6, arg7, harg7, arg8, harg8, arg9, harg9, f0, f1, f2, f3⟩ arg9.view.junk (fun h => k0_pay1 (tile4 (arg6.view.read (Elt F) f4) h)) [])
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; swap; · iexact H5
    ipureintro
    exact (loop_out ⟨c, i, arg2, harg2, arg3, harg3, arg4, harg4, arg5, harg5, arg6, harg6, arg7, harg7, arg8, harg8, arg9, harg9, f0, f1, f2, f3⟩ Variants.none none f5 (arg9.view.writes (Elt F) arg9.view.junk (body_A.sl.HS0_4 c arg6 f4))).trans (by rw [hini])
  isplitl [H6]
  · iexists _; isplitr; · ipureintro; rfl
    iexact H6
  iexists _; isplitr; swap; · iexact HS0
  ipureintro
  rw [View.writes_append]
  exact (loop_state ⟨c, i, arg2, harg2, arg3, harg3, arg4, harg4, arg5, harg5, arg6, harg6, arg7, harg7, arg8, harg8, arg9, harg9, f0, f1, f2, f3⟩ Variants.none none f5 (arg9.view.writes (Elt F) arg9.view.junk (body_A.sl.HS0_4 c arg6 f4))).trans (by rw [hini])

set_option maxHeartbeats 1000000 in
/-- The body at an inner point. -/
theorem body_B (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1024 .bf16) (harg4 : arg4.IsWhole) (arg5 : Memref sig .tc .vmem S1024x512 .f32) (harg5 : arg5.IsWhole) (arg6 : Memref sig .tc .vmem S1x4x128x256 .f32) (harg6 : arg6.IsWhole) (arg7 : Memref sig .tc .vmem S1024x1024 .bf16) (harg7 : arg7.IsWhole) (arg8 : Memref sig .tc .vmem S1x4x128x256 .f32) (harg8 : arg8.IsWhole) (arg9 : Memref sig .tc .vmem S4x256x128 .f32) (harg9 : arg9.IsWhole) (hc0 : ¬cond0_0 i) (hc1 : ¬cond0_1 i)
    (x0 : Vec F S1024x512 .bf16) (x1 : Vec F S1024x512 .bf16) (x2 : Vec F S1024x1024 .bf16) (x3 : Vec F S1024x512 .f32) (x4 : Vec F S1x4x128x256 .f32) (xs0 : Vec F S4x256x128 .f32) (xi6 : Vec F S1x4x128x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ owns (c : Thread nD τ) arg9 fullShare xs0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outO x0 x1 x2 x3 xs0) ∗ owns (c : Thread nD τ) arg8 fullShare xi6 ∗ owns (c : Thread nD τ) arg9 fullShare (outS x1 x2 x3 xs0)) -∗ K ⟨⟩))
      ⊢ wp frame (wpE (defs₀ (F := F)) Variants.none c none) E (cc0_gla_recurrence i arg2 harg2 arg3 harg3 arg4 harg4 arg5 harg5 arg6 harg6 arg7 harg7 arg8 harg8 arg9 harg9) K := by
  simp only [cc0_gla_recurrence_eq_skeleton]; unfold cc0_gla_recurrence_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, Hk⟩
  subst hf0 hf1 hf2 hf3 hf4 hf6 hfs0
  sl_exec (disch := first | sl_exact hc0 | sl_exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; swap; · iexact H5
    ipureintro
    exact (loop_out ⟨c, i, arg2, harg2, arg3, harg3, arg4, harg4, arg5, harg5, arg6, harg6, arg7, harg7, arg8, harg8, arg9, harg9, f0, f1, f2, f3⟩ Variants.none none f5 fs0)
  isplitl [H6]
  · iexists _; isplitr; · ipureintro; rfl
    iexact H6
  iexists _; isplitr; swap; · iexact HS0
  ipureintro
  exact (loop_state ⟨c, i, arg2, harg2, arg3, harg3, arg4, harg4, arg5, harg5, arg6, harg6, arg7, harg7, arg8, harg8, arg9, harg9, f0, f1, f2, f3⟩ Variants.none none f5 fs0)

set_option maxHeartbeats 1000000 in
/-- The body at the last point of a sequence. -/
theorem body_C (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1024 .bf16) (harg4 : arg4.IsWhole) (arg5 : Memref sig .tc .vmem S1024x512 .f32) (harg5 : arg5.IsWhole) (arg6 : Memref sig .tc .vmem S1x4x128x256 .f32) (harg6 : arg6.IsWhole) (arg7 : Memref sig .tc .vmem S1024x1024 .bf16) (harg7 : arg7.IsWhole) (arg8 : Memref sig .tc .vmem S1x4x128x256 .f32) (harg8 : arg8.IsWhole) (arg9 : Memref sig .tc .vmem S4x256x128 .f32) (harg9 : arg9.IsWhole) (hc0 : ¬cond0_0 i) (hc1 : cond0_1 i)
    (x0 : Vec F S1024x512 .bf16) (x1 : Vec F S1024x512 .bf16) (x2 : Vec F S1024x1024 .bf16) (x3 : Vec F S1024x512 .f32) (x4 : Vec F S1x4x128x256 .f32) (xs0 : Vec F S4x256x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outO x0 x1 x2 x3 xs0) ∗ owns (c : Thread nD τ) arg8 fullShare (outT (outS x1 x2 x3 xs0)) ∗ owns (c : Thread nD τ) arg9 fullShare (outS x1 x2 x3 xs0)) -∗ K ⟨⟩))
      ⊢ wp frame (wpE (defs₀ (F := F)) Variants.none c none) E (cc0_gla_recurrence i arg2 harg2 arg3 harg3 arg4 harg4 arg5 harg5 arg6 harg6 arg7 harg7 arg8 harg8 arg9 harg9) K := by
  simp only [cc0_gla_recurrence_eq_skeleton]; unfold cc0_gla_recurrence_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, Hk⟩
  subst hf0 hf1 hf2 hf3 hf4 hfs0
  sl_exec (disch := first | sl_exact hc0 | sl_exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; swap; · iexact H5
    ipureintro
    exact (loop_out ⟨c, i, arg2, harg2, arg3, harg3, arg4, harg4, arg5, harg5, arg6, harg6, arg7, harg7, arg8, harg8, arg9, harg9, f0, f1, f2, f3⟩ Variants.none none f5 fs0)
  isplitl [H6]
  · iexists _; isplitr; swap; · iexact H6
    ipureintro
    unfold body_C.sl.v32 body_C.sl.v26 body_C.sl.v20 body_C.sl.v14
    have hst := loop_state ⟨c, i, arg2, harg2, arg3, harg3, arg4, harg4, arg5, harg5, arg6, harg6, arg7, harg7, arg8, harg8, arg9, harg9, f0, f1, f2, f3⟩ Variants.none none f5 fs0
    have hS (h : Fin 4) {off : Fin 3 → ℕ} (inb : ∀ a, off a + S1x256x128.size a ≤ S4x256x128.size a) (ho : off = ![h.val, 0, 0]) :=
      (congrArg (fun s => View.ld s (Rect.unit (s := S4x256x128) off S1x256x128.size inb)) hst).trans (ld_slab (outS (arg3.view.read (Elt F) f1) (arg4.view.read (Elt F) f2) (arg5.view.read (Elt F) f3) (arg9.view.read (Elt F) fs0)) h inb ho)
    exact (congrArg (fun L => arg8.view.read (Elt F) (arg8.view.writes (Elt F) f6 L)) (congrArg₂ List.cons (congrArg (Sigma.mk _) (congrArg (k0_pay8 (F := F)) (hS 3 inb_S4x256x128_S1x256x128_3_0_0 rfl)))
      (congrArg₂ List.cons (congrArg (Sigma.mk _) (congrArg (k0_pay8 (F := F)) (hS 2 inb_S4x256x128_S1x256x128_2_0_0 rfl)))
      (congrArg₂ List.cons (congrArg (Sigma.mk _) (congrArg (k0_pay8 (F := F)) (hS 1 inb_S4x256x128_S1x256x128_1_0_0 rfl)))
      (congrArg₂ List.cons (congrArg (Sigma.mk _) (congrArg (k0_pay8 (F := F)) (hS 0 inb_S4x256x128_S1x256x128_0_0_0 rfl))) rfl))))).trans
      (read_heads arg8.view f6 _ (fun h => k0_pay8 (slab (outS (arg3.view.read (Elt F) f1) (arg4.view.read (Elt F) f2) (arg5.view.read (Elt F) f3) (arg9.view.read (Elt F) fs0)) h)) fun _ => rfl)
  iexists _; isplitr; swap; · iexact HS0
  ipureintro
  exact (loop_state ⟨c, i, arg2, harg2, arg3, harg3, arg4, harg4, arg5, harg5, arg6, harg6, arg7, harg7, arg8, harg8, arg9, harg9, f0, f1, f2, f3⟩ Variants.none none f5 fs0)

end Cert.KernelIdeal.Rec

end
-- ==== Proof.Run.lean ====
/- The run of the recurrence over its grid: what the carried state and the two outputs hold after every point, the
   pipeline's proof data, the body's obligation at a point and the launch. -/
module

public import proofs.«01_k».proof.Proof.Body
public import Idealize.ShloMosaic.Lib.Claim

@[expose] public section

set_option maxRecDepth 16384

noncomputable section

namespace Cert.KernelIdeal.Rec

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The state that point `n` leaves: sixteen chunks from the point's start, which is the operand at a sequence's first
    point (one point in eight) and the state the point before left otherwise. -/
def stAt (c : Dev nD) : (n : ℕ) → n < cfg0.N → Vec F S4x256x128 .f32
  | 0, h => outS (iblk m c 1 ⟨0, h⟩) (iblk m c 2 ⟨0, h⟩) (iblk m c 3 ⟨0, h⟩) (initS (iblk m c 4 ⟨0, h⟩))
  | n + 1, h => outS (iblk m c 1 ⟨n + 1, h⟩) (iblk m c 2 ⟨n + 1, h⟩) (iblk m c 3 ⟨n + 1, h⟩)
      (if (n + 1) % 8 = 0 then initS (iblk m c 4 ⟨n + 1, h⟩) else stAt c n (Nat.lt_of_succ_lt h))

/-- The state that point `t` starts from. -/
def fromAt (c : Dev nD) (t : Fin cfg0.N) : Vec F S4x256x128 .f32 :=
  if t.val % 8 = 0 then initS (iblk m c 4 t) else stAt m c (t.val - 1) (Nat.lt_of_le_of_lt (Nat.sub_le _ _) t.isLt)

theorem stAt_eq (c : Dev nD) (t : Fin cfg0.N) :
    stAt m c t.val t.isLt = outS (iblk m c 1 t) (iblk m c 2 t) (iblk m c 3 t) (fromAt m c t) := by
  obtain ⟨n, hn⟩ := t
  cases n with
  | zero => rfl
  | succ n => rfl

theorem fromAt_first (c : Dev nD) (t : Fin cfg0.N) (h : t.val % 8 = 0) : fromAt m c t = initS (iblk m c 4 t) := if_pos h

theorem fromAt_later (c : Dev nD) (t : Fin cfg0.N) (h : ¬t.val % 8 = 0) :
    fromAt m c t = stAt m c (t.val - 1) (Nat.lt_of_le_of_lt (Nat.sub_le _ _) t.isLt) := if_neg h

/-- The output rows that point `t` leaves. -/
def oAt (c : Dev nD) (t : Fin cfg0.N) : Vec F S1024x1024 .bf16 :=
  outO (iblk m c 0 t) (iblk m c 1 t) (iblk m c 2 t) (iblk m c 3 t) (fromAt m c t)

/-- What holds between points: before the first one the scratch holds anything, afterwards the state. -/
def inv (c : Dev nD) : (n : ℕ) → n ≤ cfg0.N → sProp 𝕄
  | 0, _ => Pipeline.ΦA spec0 c
  | n + 1, h => iprop(iprop(owns (c : Thread nD τ) scM0_0 fullShare (stAt m c n h)) ∗ (∃ r, prngReg c r))

theorem inv_first (c : Dev nD) (n : ℕ) (h : n ≤ cfg0.N) (hz : n = 0) : inv m c n h = Pipeline.ΦA spec0 c := by
  subst hz; rfl

theorem inv_later (c : Dev nD) (n : ℕ) (h : n ≤ cfg0.N) (hz : n ≠ 0) :
    inv m c n h = iprop(iprop(owns (c : Thread nD τ) scM0_0 fullShare (stAt m c (n - 1) (by omega))) ∗ (∃ r, prngReg c r)) := by
  cases n with
  | zero => exact absurd rfl hz
  | succ n => rfl

/-- Between points the scratch is owned at something, whatever it holds. -/
theorem inv_weak (c : Dev nD) (n : ℕ) (h : n ≤ cfg0.N) :
    inv m c n h ⊢ iprop(iprop((∃ d, owns (c : Thread nD τ) scM0_0 fullShare d)) ∗ (∃ r, prngReg c r)) := by
  by_cases hz : n = 0
  · rw [inv_first m c n h hz, PhiA0_eq]
  · rw [inv_later m c n h hz]
    iintro ⟨HS, Hg⟩
    isplitl [HS]
    · iexists _; iexact HS
    iexact Hg

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => oAt m c t
    | ⟨6, _⟩ => outT (stAt m c t.val t.isLt)
  Φ t := inv m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; exact Pipeline.Dat.Φ_castSucc (inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = oAt m c t := by dsimp only [dats]
theorem after_6 (c : Dev nD) (t : Fin cfg0.N) : (dats m 0 c).after 6 t = outT (stAt m c t.val t.isLt) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
/-- Where the pipeline writes the outputs: the rows at every point, the state only at a sequence's last point. -/
theorem live_5 : ∀ t : Fin cfg0.N, cfg0.idle 5 (grid0.coords t) = false := fun _ => rfl
theorem idle_6_A : ∀ t : Fin cfg0.N, cond0_0 (grid0.coords t) → ¬cond0_1 (grid0.coords t) → cfg0.idle 6 (grid0.coords t) = true := by decide +kernel
theorem kept_6_A : ∀ t : Fin cfg0.N, cond0_0 (grid0.coords t) → ¬cond0_1 (grid0.coords t) → (cfg0.win 6).flush t = false := by decide +kernel
theorem idle_6_B : ∀ t : Fin cfg0.N, ¬cond0_0 (grid0.coords t) → ¬cond0_1 (grid0.coords t) → cfg0.idle 6 (grid0.coords t) = true := by decide +kernel
theorem kept_6_B : ∀ t : Fin cfg0.N, ¬cond0_0 (grid0.coords t) → ¬cond0_1 (grid0.coords t) → (cfg0.win 6).flush t = false := by decide +kernel
theorem live_6_C : ∀ t : Fin cfg0.N, ¬cond0_0 (grid0.coords t) → cond0_1 (grid0.coords t) → cfg0.idle 6 (grid0.coords t) = false := by decide +kernel

theorem leaves_0 (c : Dev nD) (t : Fin cfg0.N) :
    (dats m 0 c).leavesExact 0 t = owns (c : Thread nD τ) (ms0_0 t) fullShare ((dats m 0 c).after 0 t) := by
  unfold Dat.leavesExact; rw [liveAt0_0 t]
theorem leaves_1 (c : Dev nD) (t : Fin cfg0.N) :
    (dats m 0 c).leavesExact 1 t = owns (c : Thread nD τ) (ms0_1 t) fullShare ((dats m 0 c).after 1 t) := by
  unfold Dat.leavesExact; rw [liveAt0_1 t]
theorem leaves_2 (c : Dev nD) (t : Fin cfg0.N) :
    (dats m 0 c).leavesExact 2 t = owns (c : Thread nD τ) (ms0_2 t) fullShare ((dats m 0 c).after 2 t) := by
  unfold Dat.leavesExact; rw [liveAt0_2 t]
theorem leaves_3 (c : Dev nD) (t : Fin cfg0.N) :
    (dats m 0 c).leavesExact 3 t = owns (c : Thread nD τ) (ms0_3 t) fullShare ((dats m 0 c).after 3 t) := by
  unfold Dat.leavesExact; rw [liveAt0_3 t]
theorem leaves_4 (c : Dev nD) (t : Fin cfg0.N) :
    (dats m 0 c).leavesExact 4 t = owns (c : Thread nD τ) (ms0_4 t) fullShare ((dats m 0 c).after 4 t) := by
  unfold Dat.leavesExact; rw [liveAt0_4 t]
theorem leaves_5 (c : Dev nD) (t : Fin cfg0.N) :
    (dats m 0 c).leavesExact 5 t = owns (c : Thread nD τ) (ms0_5 t) fullShare ((dats m 0 c).after 5 t) := by
  unfold Dat.leavesExact; rw [live_5 t]

/-- What the body finds at point `t`. -/
def pre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What it leaves there. -/
def post (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-- Case A of the body at a point of the grid. -/
theorem at_A (c : Dev nD) (t : Fin cfg0.N) (h0 : t.val % 8 = 0) (h1 : ¬t.val % 8 = 7) :
    pre m c t ⊢ wp frame (wpE (defs₀ (F := F)) Variants.none c none) Set.univ (bodyAt0 t) (fun _ => post m c t) := by
  unfold pre post bodyAt0
  simp only [before_0, before_1, before_2, before_3, before_4]
  rw [show (dats m 0 c).owesAt () t.succ = (dats m 0 c).owesAt () t.castSucc from rfl,
    show (dats m 0 c).Φ t.succ = iprop(iprop(owns (c : Thread nD τ) scM0_0 fullShare (stAt m c t.val t.isLt)) ∗ (∃ r, prngReg c r)) from rfl,
    leaves_0, leaves_1, leaves_2, leaves_3, leaves_4, leaves_5, after_0, after_1, after_2, after_3, after_4, after_5, inv_castSucc]
  rw [Dat.leavesExact_idle (dats m 0 c) 6 t (idle_6_A t ((hcond0_0 t).mpr h0) (fun h => h1 ((hcond0_1 t).mp h))) (kept_6_A t ((hcond0_0 t).mpr h0) (fun h => h1 ((hcond0_1 t).mp h)))]
  rw [oAt, stAt_eq, fromAt_first m c t h0]
  refine (Laws.sep_mono (inv_weak m c _ _) (Entails.refl _)).trans ?_
  iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
  iapply (body_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk m c 0 t) (iblk m c 1 t) (iblk m c 2 t) (iblk m c 3 t) (iblk m c 4 t) _ Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [HS0]; · iexact HS0
  iintro ⟨H0, H1, H2, H3, H4, H5, H6, HS0⟩
  isplitl [HS0 Hg]
  · isplitl [HS0]; · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

/-- Case B of the body at a point of the grid. -/
theorem at_B (c : Dev nD) (t : Fin cfg0.N) (h0 : ¬t.val % 8 = 0) (h1 : ¬t.val % 8 = 7) :
    pre m c t ⊢ wp frame (wpE (defs₀ (F := F)) Variants.none c none) Set.univ (bodyAt0 t) (fun _ => post m c t) := by
  unfold pre post bodyAt0
  simp only [before_0, before_1, before_2, before_3, before_4]
  rw [show (dats m 0 c).owesAt () t.succ = (dats m 0 c).owesAt () t.castSucc from rfl,
    show (dats m 0 c).Φ t.succ = iprop(iprop(owns (c : Thread nD τ) scM0_0 fullShare (stAt m c t.val t.isLt)) ∗ (∃ r, prngReg c r)) from rfl,
    leaves_0, leaves_1, leaves_2, leaves_3, leaves_4, leaves_5, after_0, after_1, after_2, after_3, after_4, after_5, inv_castSucc]
  rw [Dat.leavesExact_idle (dats m 0 c) 6 t (idle_6_B t (fun h => h0 ((hcond0_0 t).mp h)) (fun h => h1 ((hcond0_1 t).mp h))) (kept_6_B t (fun h => h0 ((hcond0_0 t).mp h)) (fun h => h1 ((hcond0_1 t).mp h)))]
  rw [oAt, stAt_eq, fromAt_later m c t h0, inv_later m c _ _ (by omega)]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
  iapply (body_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) _ _ Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [HS0]; · iexact HS0
  iintro ⟨H0, H1, H2, H3, H4, H5, H6, HS0⟩
  isplitl [HS0 Hg]
  · isplitl [HS0]; · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

/-- Case C of the body at a point of the grid. -/
theorem at_C (c : Dev nD) (t : Fin cfg0.N) (h0 : ¬t.val % 8 = 0) (h1 : t.val % 8 = 7) :
    pre m c t ⊢ wp frame (wpE (defs₀ (F := F)) Variants.none c none) Set.univ (bodyAt0 t) (fun _ => post m c t) := by
  unfold pre post bodyAt0
  simp only [before_0, before_1, before_2, before_3, before_4]
  rw [show (dats m 0 c).owesAt () t.succ = (dats m 0 c).owesAt () t.castSucc from rfl,
    show (dats m 0 c).Φ t.succ = iprop(iprop(owns (c : Thread nD τ) scM0_0 fullShare (stAt m c t.val t.isLt)) ∗ (∃ r, prngReg c r)) from rfl,
    leaves_0, leaves_1, leaves_2, leaves_3, leaves_4, leaves_5, after_0, after_1, after_2, after_3, after_4, after_5, inv_castSucc]
  rw [show (dats m 0 c).leavesExact 6 t = owns (c : Thread nD τ) (ms0_6 t) fullShare ((dats m 0 c).after 6 t) from by
    unfold Dat.leavesExact; rw [live_6_C t (fun h => h0 ((hcond0_0 t).mp h)) ((hcond0_1 t).mpr h1)], after_6]
  rw [oAt, stAt_eq, fromAt_later m c t h0, inv_later m c _ _ (by omega)]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
  iapply (body_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) _ Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS0]; · iexact HS0
  iintro ⟨H0, H1, H2, H3, H4, H5, H6, HS0⟩
  isplitl [HS0 Hg]
  · isplitl [HS0]; · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at any point. -/
theorem at_point (c : Dev nD) (t : Fin cfg0.N) :
    pre m c t ⊢ wp frame (wpE (defs₀ (F := F)) Variants.none c none) Set.univ (bodyAt0 t) (fun _ => post m c t) := by
  by_cases h0 : t.val % 8 = 0
  · exact at_A m c t h0 (by omega)
  · by_cases h1 : t.val % 8 = 7
    · exact at_C m c t h0 h1
    · exact at_B m c t h0 h1

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (at_point m c t) rfl .rfl fun _ => .rfl

theorem enter (c : Dev nD) : Pipeline.ΦA spec0 c ⊢ (dats m 0 c).Φ 0 := by
  rw [show (dats m 0 c).Φ 0 = inv m c 0 (Nat.zero_le _) from rfl, inv_first m c 0 _ rfl]

theorem leave (c : Dev nD) : (dats m 0 c).Φ (Fin.last cfg0.N) ⊢ Pipeline.ΦA spec0 c := by
  rw [show (dats m 0 c).Φ (Fin.last cfg0.N) = inv m c cfg0.N (Nat.le_refl _) from rfl, PhiA0_eq]
  exact inv_weak m c _ _

set_option backward.isDefEq.respectTransparency.types false in
/-- The launch: every execution ends with the arrays at what the proof data says and no counter left. -/
theorem launch : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := enter m) (hout := leave m)

theorem launch_arrays : θ_run defs (onTc (τ := τ) (main (F := F))) (s₀ m ρ) (Pipeline.FramePost cfgs (dats m) 0 (V m)) :=
  (θ_run defs _ _).mono (fun _ h => h.1) (launch m ρ)

theorem end_of_arg (r : PUnit × MemSt nD τ sig (Elt F)) (h : Pipeline.FramePost cfgs (dats m) 0 (V m) r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  ⟨((h c).1 1).trans (((dats m 0 c).arrAt_in 1 rfl _).trans ((A_eq m c 1).trans (V_main_arg0 m c))),
    ((h c).1 2).trans (((dats m 0 c).arrAt_in 2 rfl _).trans ((A_eq m c 2).trans (V_main_arg1 m c))),
    ((h c).1 3).trans (((dats m 0 c).arrAt_in 3 rfl _).trans ((A_eq m c 3).trans (V_main_arg2 m c))),
    ((h c).1 4).trans (((dats m 0 c).arrAt_in 4 rfl _).trans ((A_eq m c 4).trans (V_main_arg3 m c)))⟩

/-- The frame: the arguments end as they were and no counter is left. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => end_of_arg m r h.1 c, h.2⟩) (launch m ρ)

end Cert.KernelIdeal.Rec

end
-- ==== Proof.Frame.lean ====
/- The frame of the kernel as printed, from its idealization's run: the two programs have the same text, so the run over
   any float values (Proof/Run.lean) is read at the machine's words. -/
module

public import proofs.«01_k».proof.Defs
public import proofs.«01_k».proof.Proof.Gen.Kernel
public import proofs.«01_k».proof.Proof.Run

@[expose] public section

noncomputable section

namespace Cert.Proof

open Idealize.ShloMosaic Idealize.SL.Sem

variable {F : FTy → Type} [FloatOps F]

/-- The two bodies are one program, -/
theorem body_eq : Cert.Kernel.cc0_gla_recurrence (F := F) = Cert.KernelIdeal.cc0_gla_recurrence (F := F) := rfl

/-- so the tables of bodies are one, -/
theorem bodies_eq : Cert.Kernel.defs₀ (F := F) = Cert.KernelIdeal.defs₀ (F := F) := by
  unfold Cert.Kernel.defs₀ Cert.KernelIdeal.defs₀
  refine congrArg _ (funext fun l => funext fun a => ?_)
  revert a
  refine Fin.cases (fun a => ?_) (fun l => l.elim0) l
  rfl

/-- also with the pipeline's own. -/
theorem defs_eq : Cert.Kernel.defs (F := F) = Cert.KernelIdeal.defs (F := F) :=
  congrArg (Pipeline.defs Cert.KernelIdeal.pcfgs) bodies_eq

/-- The kernel as printed runs, its arguments unchanged. -/
theorem frame_kernel : Cert.quiescent_Kernel := fun m ρ _ => by
  have h := Cert.KernelIdeal.Rec.frame (F := Bits) m ρ
  rw [← defs_eq] at h
  exact h

end Cert.Proof

end
-- ==== Proof.Math.lean ====
/- The recurrence of one head over one chunk of 64 positions, on extended reals: the decays summed within the chunk,
   the causal scores, the rows of the output and the state handed on. -/
module

public import Idealize.ShloMosaic.Lib.Pointwise
public import Idealize.ShloMosaic.Lib.IdealHost

@[expose] public section

noncomputable section

namespace Cert.Math

open Idealize.ShloMosaic

/-- The decays of the chunk summed up to position `t`. -/
def cum (la : Fin 64 → Fin 128 → EReal) (t : Fin 64) (d : Fin 128) : EReal := ∑ s : Fin 64, if s ≤ t then la s d else 0

/-- The score of query position `t` against key position `s`, decayed from `s` to `t`; nothing comes from the future. -/
def score (la q k : Fin 64 → Fin 128 → EReal) (t s : Fin 64) : EReal :=
  if s ≤ t then ∑ d : Fin 128, Ideal.exp (cum la t d - cum la s d) * (k s d * q t d) else 0

/-- The output of position `t` in column `c`: what the chunk's own values give and what the state gives. -/
def out (la q k : Fin 64 → Fin 128 → EReal) (v : Fin 64 → Fin 256 → EReal) (S : Fin 128 → Fin 256 → EReal) (t : Fin 64) (c : Fin 256) : EReal :=
  (∑ s : Fin 64, v s c * score la q k t s) + ∑ d : Fin 128, S d c * (q t d * Ideal.exp (cum la t d))

/-- The state after the chunk. -/
def next (la k : Fin 64 → Fin 128 → EReal) (v : Fin 64 → Fin 256 → EReal) (S : Fin 128 → Fin 256 → EReal) (d : Fin 128) (c : Fin 256) : EReal :=
  Ideal.exp (cum la 63 d) * S d c + ∑ s : Fin 64, k s d * Ideal.exp (cum la 63 d - cum la s d) * v s c

/-- The decays are numbers (not infinite). -/
def Finite (la : Fin 64 → Fin 128 → EReal) : Prop := ∀ s d, ∃ r : ℝ, la s d = (r : EReal)

/-- A sum of numbers is a number. -/
theorem sum_coe {n : ℕ} (f : Fin n → EReal) (h : ∀ i, ∃ r : ℝ, f i = (r : EReal)) : ∃ r : ℝ, ∑ i, f i = (r : EReal) := by
  choose g hg using h
  refine ⟨∑ i, g i, ?_⟩
  simp only [hg]
  induction (Finset.univ : Finset (Fin n)) using Finset.induction_on with
  | empty => simp
  | insert a s ha ih => rw [Finset.sum_insert ha, Finset.sum_insert ha, EReal.coe_add, ih]

theorem cum_coe (la : Fin 64 → Fin 128 → EReal) (h : Finite la) (t : Fin 64) (d : Fin 128) : ∃ r : ℝ, cum la t d = (r : EReal) := by
  refine sum_coe _ fun s => ?_
  by_cases hs : s ≤ t
  · rw [if_pos hs]; exact h s d
  · rw [if_neg hs]; exact ⟨0, rfl⟩

/-- A decay from `s` to `t` may be taken in two steps, through any number `m`. -/
theorem exp_split (x m y : ℝ) : Ideal.exp ((x : EReal) - m) * Ideal.exp ((m : EReal) - y) = Ideal.exp ((x : EReal) - y) := by
  rw [← EReal.coe_sub, ← EReal.coe_sub, ← EReal.coe_sub, Ideal.exp_coe, Ideal.exp_coe, Ideal.exp_coe, ← EReal.coe_mul, ← Real.exp_add]
  congr 2
  ring

/-- A score with queries and keys each moved to a common position first. -/
theorem score_mid (la q k : Fin 64 → Fin 128 → EReal) (h : Finite la) (m t s : Fin 64) (hs : s ≤ t) :
    ∑ d : Fin 128, q t d * Ideal.exp (cum la t d - cum la m d) * (k s d * Ideal.exp (cum la m d - cum la s d)) = score la q k t s := by
  rw [score, if_pos hs]
  refine Finset.sum_congr rfl fun d _ => ?_
  obtain ⟨x, hx⟩ := cum_coe la h t d
  obtain ⟨y, hy⟩ := cum_coe la h m d
  obtain ⟨z, hz⟩ := cum_coe la h s d
  rw [hx, hy, hz, ← exp_split x y z, mul_mul_mul_comm, mul_comm (q t d), mul_comm (k s d * q t d)]

end Cert.Math

end
-- ==== Proof.Closed.lean ====
/- The kernel's chunk on extended reals: its vectors, read at an index, are the recurrence of Math.lean. -/
module

public import proofs.«01_k».proof.Proof.Chunk
public import proofs.«01_k».proof.Proof.Math

@[expose] public section

set_option maxRecDepth 16384

noncomputable section

namespace Cert.KernelIdeal.Rec

open Cert.KernelIdeal Cert.KernelIdeal.Gen Idealize.ShloMosaic Idealize.ShloMosaic.TcCoe Idealize.ShloMosaic.Tactic

/-- The causal mask: position `s` is seen from position `t` when it is not later. -/
theorem mask_at (t s : Fin 64) : k0_pay5 (ix2 t s) = if s ≤ t then 1#1 else 0#1 := by
  pointwise [k0_pay5]
  revert t s
  decide +kernel

theorem tri_at (t s : Fin 64) : (k0_pay6 (F := Ideal)) (ix2 t s) = if s ≤ t then (1 : EReal) else 0 := by
  pointwise [k0_pay6]
  rw [mask_at]
  by_cases h : s ≤ t
  · rw [if_pos h, if_pos h]; rfl
  · rw [if_neg h, if_neg h]; rfl

/-- The summed decays: the two correction terms of the split into three parts are zero, the decays being numbers. -/
theorem cum_at (la : Vec Ideal S64x512 .f32) (d : Fin 512) (hf : ∀ s : Fin 64, ∃ r : ℝ, (la (ix2 s d) : EReal) = (r : EReal)) (t : Fin 64) :
    (cum (F := Ideal) la (ix2 t d) : EReal) = ∑ s : Fin 64, if s ≤ t then (la (ix2 s d) : EReal) else 0 := by
  unfold cum
  pointwise [k0_pay12]
  have h0 : ∀ s : Fin 64, (la (ix2 s d) : EReal) - la (ix2 s d) = 0 := fun s => by
    obtain ⟨r, hr⟩ := hf s
    rw [hr, ← EReal.coe_sub, sub_self, EReal.coe_zero]
  simp only [h0, sub_zero, mul_zero, Finset.sum_const_zero, add_zero]
  refine Finset.sum_congr rfl fun s _ => ?_
  rw [tri_at]
  by_cases h : s ≤ t
  · rw [if_pos h, if_pos h, one_mul]
  · rw [if_neg h, if_neg h, zero_mul]

/-- Head `h`'s columns of them. -/
theorem colsOf_at (b : FVec Ideal S64x512 .f32) (h : Fin 4) (t : Fin 64) (d : Fin 128) :
    colsOf b h (ix2 t d) = b (ix2 t ⟨128 * h.val + d.val, by have := h.isLt; have := d.isLt; omega⟩) := by
  match h with
  | ⟨0, _⟩ => show extractStridedSlice S64x128 ![0, 0] b slices_S64x512_o0_0_S64x128 (ix2 t d) = _; pointwise []
  | ⟨1, _⟩ => show extractStridedSlice S64x128 ![0, 128] b slices_S64x512_o0_128_S64x128 (ix2 t d) = _; pointwise []
  | ⟨2, _⟩ => show extractStridedSlice S64x128 ![0, 256] b slices_S64x512_o0_256_S64x128 (ix2 t d) = _; pointwise []
  | ⟨3, _⟩ => show extractStridedSlice S64x128 ![0, 384] b slices_S64x512_o0_384_S64x128 (ix2 t d) = _; pointwise []

section chunk

variable (la q k : Fin 64 → Fin 128 → EReal) (v : Fin 64 → Fin 256 → EReal) (S : Fin 128 → Fin 256 → EReal)
variable (l : FVec Ideal S64x128 .f32) (q' k' : Vec Ideal S64x128 .bf16) (v' : Vec Ideal S64x256 .bf16) (S' : Vec Ideal S1x256x128 .f32)

theorem headS_at (hl : ∀ t d, (l (ix2 t d) : EReal) = Math.cum la t d) (hk : ∀ t d, (k' (ix2 t d) : EReal) = k t d)
    (hv : ∀ t c, (v' (ix2 t c) : EReal) = v t c) (hS : ∀ d c, (S' (ix3 0 c d) : EReal) = S d c) (c : Fin 256) (d : Fin 128) :
    (headS l k' v' S' (ix3 0 c d) : EReal) = Math.next la k v S d c := by
  unfold headS
  pointwise [k0_pay20, k0_pay18, k0_pay14]
  simp only [hl, hk, hv, hS, Math.next]
  rw [mul_comm]
  congr 1
  exact Finset.sum_congr rfl fun s _ => mul_comm _ _

theorem scores_at (hf : Math.Finite la) (hl : ∀ t d, (l (ix2 t d) : EReal) = Math.cum la t d) (hq : ∀ t d, (q' (ix2 t d) : EReal) = q t d)
    (hk : ∀ t d, (k' (ix2 t d) : EReal) = k t d) (t s : Fin 64) :
    (scores l q' k' (ix2 t s) : EReal) = Math.score la q k t s := by
  unfold scores
  pointwise []
  rw [mask_at]
  by_cases h : s ≤ t
  · rw [if_pos h]
    simp only [hl, hq, hk]
    exact Math.score_mid la q k hf 31 t s h
  · rw [if_neg h, Math.score, if_neg h]; rfl

theorem headO_at (hf : Math.Finite la) (hl : ∀ t d, (l (ix2 t d) : EReal) = Math.cum la t d) (hq : ∀ t d, (q' (ix2 t d) : EReal) = q t d)
    (hk : ∀ t d, (k' (ix2 t d) : EReal) = k t d) (hv : ∀ t c, (v' (ix2 t c) : EReal) = v t c) (hS : ∀ d c, (S' (ix3 0 c d) : EReal) = S d c)
    (t : Fin 64) (c : Fin 256) :
    (headO l q' k' v' S' (ix2 t c) : EReal) = Math.out la q k v S t c := by
  have hA := scores_at la q k l q' k' hf hl hq hk
  unfold headO
  generalize scores l q' k' = A at hA
  pointwise [k0_pay19, k0_pay18, k0_pay13]
  simp only [hA, hl, hq, hv, hS, Math.out]
  congr 1
  · exact Finset.sum_congr rfl fun s _ => mul_comm _ _
  · exact Finset.sum_congr rfl fun s _ => mul_comm _ _

end chunk

end Cert.KernelIdeal.Rec

end
-- ==== Proof.Spec.lean ====
/- The recurrence over whole arrays, on extended reals: 256 chunks of 64 rows (128 chunks to a sequence, two sequences),
   four heads side by side in the columns; the state of every head before every chunk, and the two results. -/
module

public import proofs.«01_k».proof.Proof.Math

@[expose] public section

noncomputable section

namespace Cert.Math

open Idealize.ShloMosaic

/-- Queries (columns 0 … 511 of the packed array) of head `h` in chunk `n`, -/
def qC (A : (⟨2, ![16384, 1024]⟩ : Shape).Idx → EReal) (n : Fin 256) (h : Fin 4) (t : Fin 64) (d : Fin 128) : EReal :=
  A (ix2 ⟨64 * n.val + t.val, by omega⟩ ⟨128 * h.val + d.val, by omega⟩)

/-- keys (columns 512 … 1023), -/
def kC (A : (⟨2, ![16384, 1024]⟩ : Shape).Idx → EReal) (n : Fin 256) (h : Fin 4) (t : Fin 64) (d : Fin 128) : EReal :=
  A (ix2 ⟨64 * n.val + t.val, by omega⟩ ⟨512 + (128 * h.val + d.val), by omega⟩)

/-- values, -/
def vC (A : (⟨2, ![16384, 1024]⟩ : Shape).Idx → EReal) (n : Fin 256) (h : Fin 4) (t : Fin 64) (c : Fin 256) : EReal :=
  A (ix2 ⟨64 * n.val + t.val, by omega⟩ ⟨256 * h.val + c.val, by omega⟩)

/-- and decays. -/
def laC (A : (⟨2, ![16384, 512]⟩ : Shape).Idx → EReal) (n : Fin 256) (h : Fin 4) (t : Fin 64) (d : Fin 128) : EReal :=
  A (ix2 ⟨64 * n.val + t.val, by omega⟩ ⟨128 * h.val + d.val, by omega⟩)

variable (A0 A1 : (⟨2, ![16384, 1024]⟩ : Shape).Idx → EReal) (A2 : (⟨2, ![16384, 512]⟩ : Shape).Idx → EReal)
  (A3 : (⟨4, ![2, 4, 128, 256]⟩ : Shape).Idx → EReal)

/-- The state of head `h` of sequence `b` before its chunk `n`. -/
def state (b : Fin 2) (h : Fin 4) : ℕ → Fin 128 → Fin 256 → EReal
  | 0 => fun d c => A3 (ix4 b h d c)
  | n + 1 =>
    if hn : n < 128 then
      next (laC A2 ⟨128 * b.val + n, by omega⟩ h) (kC A0 ⟨128 * b.val + n, by omega⟩ h) (vC A1 ⟨128 * b.val + n, by omega⟩ h) (state b h n)
    else state b h n

theorem state_succ (b : Fin 2) (h : Fin 4) (n : ℕ) (hn : n < 128) :
    state A0 A1 A2 A3 b h (n + 1) = next (laC A2 ⟨128 * b.val + n, by omega⟩ h) (kC A0 ⟨128 * b.val + n, by omega⟩ h)
      (vC A1 ⟨128 * b.val + n, by omega⟩ h) (state A0 A1 A2 A3 b h n) := by
  rw [state]; exact dif_pos hn

/-- The output of row `64 n + t`, head `h`, column `c`. -/
def outAt (n : Fin 256) (h : Fin 4) (t : Fin 64) (c : Fin 256) : EReal :=
  out (laC A2 n h) (qC A0 n h) (kC A0 n h) (vC A1 n h) (state A0 A1 A2 A3 ⟨n.val / 128, by omega⟩ h (n.val % 128)) t c

/-- The two results: all output rows, -/
def resultO : (⟨2, ![16384, 1024]⟩ : Shape).Idx → EReal := fun y =>
  outAt A0 A1 A2 A3 ⟨(y 0).val / 64, by have h : (y 0).val < 16384 := (y 0).isLt; omega⟩ ⟨(y 1).val / 256, by have h : (y 1).val < 1024 := (y 1).isLt; omega⟩
    ⟨(y 0).val % 64, Nat.mod_lt _ (by decide)⟩ ⟨(y 1).val % 256, Nat.mod_lt _ (by decide)⟩

/-- and the last states. -/
def resultS : (⟨4, ![2, 4, 128, 256]⟩ : Shape).Idx → EReal := fun y =>
  state A0 A1 A2 A3 ⟨(y 0).val, (y 0).isLt⟩ ⟨(y 1).val, (y 1).isLt⟩ 128 ⟨(y 2).val, (y 2).isLt⟩ ⟨(y 3).val, (y 3).isLt⟩

/-- All decays are numbers. -/
def AllFinite : Prop := ∀ i, ∃ r : ℝ, A2 i = (r : EReal)

theorem AllFinite.chunk {A2 : (⟨2, ![16384, 512]⟩ : Shape).Idx → EReal} (h : AllFinite A2) (n : Fin 256) (k : Fin 4) : Finite (laC A2 n k) := fun _ _ => h _

end Cert.Math

end
-- ==== Proof.Arrays.lean ====
/- What the kernel's two arrays hold after the run, on extended reals: the recurrence of Spec.lean over the arguments. -/
module

public import proofs.«01_k».proof.Proof.Run
public import proofs.«01_k».proof.Proof.Closed
public import proofs.«01_k».proof.Proof.Spec
public import Idealize.ShloMosaic.Lib.Pipeline.ValueKit

@[expose] public section

set_option maxRecDepth 16384

noncomputable section

namespace Cert.KernelIdeal.Rec

open Cert.KernelIdeal Cert.KernelIdeal.Gen Idealize.ShloMosaic Idealize.ShloMosaic.TcCoe Idealize.ShloMosaic.Tactic
open Idealize.SL.Sem
open Idealize.ShloMosaic.Pipeline (Dat)

variable (m : (ℓ : Loc nD τ sig) → Buf (Elt Ideal) ℓ)

/-- The index maps, at every point of the grid. -/
theorem maps : ∀ t : Fin cfg0.N, win0_0.index t = ![t.val, 0] ∧ win0_1.index t = ![t.val, 1] ∧ win0_2.index t = ![t.val, 0]
    ∧ win0_3.index t = ![t.val, 0] ∧ win0_4.index t = ![t.val / 8, 0, 0, 0] ∧ win0_5.index t = ![t.val, 0] ∧ win0_6.index t = ![t.val / 8, 0, 0, 0] :=
  (by decide +kernel : ∀ t : Fin grid0.N, _)

theorem points (t : Fin cfg0.N) : t.val < 16 := lt_of_lt_of_eq t.isLt (show cfg0.N = 16 from N_0)

abbrev arg0 (c : Dev nD) : (⟨2, ![16384, 1024]⟩ : Shape).Idx → EReal := m ((c : Thread nD τ).loc main_arg0)
abbrev arg1 (c : Dev nD) : (⟨2, ![16384, 1024]⟩ : Shape).Idx → EReal := m ((c : Thread nD τ).loc main_arg1)
abbrev arg2 (c : Dev nD) : (⟨2, ![16384, 512]⟩ : Shape).Idx → EReal := m ((c : Thread nD τ).loc main_arg2)
abbrev arg3 (c : Dev nD) : (⟨4, ![2, 4, 128, 256]⟩ : Shape).Idx → EReal := m ((c : Thread nD τ).loc main_arg3)

theorem blk_q (c : Dev nD) (t : Fin cfg0.N) (r : Fin 1024) (x : Fin 512) :
    (iblk m c 0 t (ix2 r x : S1024x512.Idx) : EReal) = arg0 m c (ix2 ⟨1024 * t.val + r.val, by have := points t; omega⟩ ⟨x.val, by omega⟩) := by
  have e := (maps t).1
  blk_ext [iblk, V, e]

theorem blk_k (c : Dev nD) (t : Fin cfg0.N) (r : Fin 1024) (x : Fin 512) :
    (iblk m c 1 t (ix2 r x : S1024x512.Idx) : EReal) = arg0 m c (ix2 ⟨1024 * t.val + r.val, by have := points t; omega⟩ ⟨512 + x.val, by omega⟩) := by
  have e := (maps t).2.1
  blk_ext [iblk, V, e]

theorem blk_v (c : Dev nD) (t : Fin cfg0.N) (r : Fin 1024) (x : Fin 1024) :
    (iblk m c 2 t (ix2 r x : S1024x1024.Idx) : EReal) = arg1 m c (ix2 ⟨1024 * t.val + r.val, by have := points t; omega⟩ x) := by
  have e := (maps t).2.2.1
  blk_ext [iblk, V, e]

theorem blk_la (c : Dev nD) (t : Fin cfg0.N) (r : Fin 1024) (x : Fin 512) :
    (iblk m c 3 t (ix2 r x : S1024x512.Idx) : EReal) = arg2 m c (ix2 ⟨1024 * t.val + r.val, by have := points t; omega⟩ x) := by
  have e := (maps t).2.2.2.1
  blk_ext [iblk, V, e]

theorem blk_s (c : Dev nD) (t : Fin cfg0.N) (h : Fin 4) (d : Fin 128) (x : Fin 256) :
    (iblk m c 4 t (ix4 0 h d x : S1x4x128x256.Idx) : EReal) = arg3 m c (ix4 ⟨t.val / 8, by have := points t; omega⟩ h d x) := by
  have e := (maps t).2.2.2.2.1
  blk_ext [iblk, V, e]

/-- The number of chunk `n` of point `t`. -/
abbrev chunk (t : Fin cfg0.N) (n : Fin 16) : Fin 256 := ⟨16 * t.val + n.val, by have := points t; omega⟩

theorem tile128_ix {e : EltTy} (x : Vec Ideal S1024x512 e) (n : Fin 16) (h : Fin 4) (r : Fin 64) (d : Fin 128) :
    tile128 x n h (ix2 r d) = x (ix2 ⟨64 * n.val + r.val, by omega⟩ ⟨128 * h.val + d.val, by omega⟩) :=
  congrArg x (funext (Fin.forall_fin_two.mpr ⟨rfl, rfl⟩))

theorem tile256_ix {e : EltTy} (x : Vec Ideal S1024x1024 e) (n : Fin 16) (h : Fin 4) (r : Fin 64) (d : Fin 256) :
    tile256 x n h (ix2 r d) = x (ix2 ⟨64 * n.val + r.val, by omega⟩ ⟨256 * h.val + d.val, by omega⟩) :=
  congrArg x (funext (Fin.forall_fin_two.mpr ⟨rfl, rfl⟩))

theorem tileLa_ix (x : Vec Ideal S1024x512 .f32) (n : Fin 16) (r : Fin 64) (d : Fin 512) :
    tileLa x n (ix2 r d) = x (ix2 ⟨64 * n.val + r.val, by omega⟩ d) :=
  congrArg x (funext (Fin.forall_fin_two.mpr ⟨rfl, rfl⟩))

theorem tile4_ix (x : Vec Ideal S1x4x128x256 .f32) (h : Fin 4) (d : Fin 128) (y : Fin 256) :
    tile4 x h (ix4 0 0 d y) = x (ix4 0 h d y) :=
  congrArg x (funext fun a => match a with
    | ⟨0, _⟩ => rfl
    | ⟨1, _⟩ => rfl
    | ⟨2, _⟩ => rfl
    | ⟨3, _⟩ => rfl)

/-- Row `r` of point `t`'s chunk `n`, counted from the array's start. -/
theorem row_eq (t : Fin cfg0.N) (n : Fin 16) (r : Fin 64) (h : 1024 * t.val + (64 * n.val + r.val) < 16384) (h' : 64 * (16 * t.val + n.val) + r.val < 16384) :
    (⟨1024 * t.val + (64 * n.val + r.val), h⟩ : Fin 16384) = ⟨64 * (16 * t.val + n.val) + r.val, h'⟩ := Fin.ext (by show 1024 * t.val + (64 * n.val + r.val) = 64 * (16 * t.val + n.val) + r.val; omega)

theorem q_at (c : Dev nD) (t : Fin cfg0.N) (n : Fin 16) (h : Fin 4) (r : Fin 64) (d : Fin 128) :
    (tile128 (F := Ideal) (e := .bf16) (iblk m c 0 t) n h (ix2 r d) : EReal) = Math.qC (arg0 m c) (chunk t n) h r d := by
  have hp := points t
  refine (tile128_ix (e := .bf16) (iblk m c 0 t) n h r d).trans ((blk_q m c t ⟨64 * n.val + r.val, by omega⟩ ⟨128 * h.val + d.val, by omega⟩).trans ?_)
  exact congrArg (fun i => arg0 m c (ix2 i _)) (row_eq t n r _ _)

theorem k_at (c : Dev nD) (t : Fin cfg0.N) (n : Fin 16) (h : Fin 4) (r : Fin 64) (d : Fin 128) :
    (tile128 (F := Ideal) (e := .bf16) (iblk m c 1 t) n h (ix2 r d) : EReal) = Math.kC (arg0 m c) (chunk t n) h r d := by
  have hp := points t
  refine (tile128_ix (e := .bf16) (iblk m c 1 t) n h r d).trans ((blk_k m c t ⟨64 * n.val + r.val, by omega⟩ ⟨128 * h.val + d.val, by omega⟩).trans ?_)
  exact congrArg (fun i => arg0 m c (ix2 i _)) (row_eq t n r _ _)

theorem v_at (c : Dev nD) (t : Fin cfg0.N) (n : Fin 16) (h : Fin 4) (r : Fin 64) (d : Fin 256) :
    (tile256 (F := Ideal) (e := .bf16) (iblk m c 2 t) n h (ix2 r d) : EReal) = Math.vC (arg1 m c) (chunk t n) h r d := by
  have hp := points t
  refine (tile256_ix (e := .bf16) (iblk m c 2 t) n h r d).trans ((blk_v m c t ⟨64 * n.val + r.val, by omega⟩ ⟨256 * h.val + d.val, by omega⟩).trans ?_)
  exact congrArg (fun i => arg1 m c (ix2 i _)) (row_eq t n r _ _)

theorem la_at (c : Dev nD) (t : Fin cfg0.N) (n : Fin 16) (h : Fin 4) (r : Fin 64) (d : Fin 128) :
    (tileLa (F := Ideal) (iblk m c 3 t) n (ix2 r ⟨128 * h.val + d.val, by omega⟩) : EReal) = Math.laC (arg2 m c) (chunk t n) h r d := by
  have hp := points t
  refine (tileLa_ix (iblk m c 3 t) n r _).trans ((blk_la m c t ⟨64 * n.val + r.val, by omega⟩ ⟨128 * h.val + d.val, by omega⟩).trans ?_)
  exact congrArg (fun i => arg2 m c (ix2 i _)) (row_eq t n r _ _)

/-- The summed decays of a chunk, read in head `h`'s columns. -/
theorem l_at (c : Dev nD) (hf : Math.AllFinite (arg2 m c)) (t : Fin cfg0.N) (n : Fin 16) (h : Fin 4) (r : Fin 64) (d : Fin 128) :
    (colsOf (cum (F := Ideal) (tileLa (iblk m c 3 t) n)) h (ix2 r d) : EReal) = Math.cum (Math.laC (arg2 m c) (chunk t n) h) r d := by
  rw [colsOf_at]
  refine (cum_at _ _ (fun s => ?_) r).trans ?_
  · rw [la_at]; exact hf _
  · exact Finset.sum_congr rfl fun s _ => by rw [la_at]

/-- Head `h`'s state of sequence `b`, at any chunk. -/
abbrev st (c : Dev nD) (b : Fin 2) (h : Fin 4) (n : ℕ) : Fin 128 → Fin 256 → EReal :=
  Math.state (arg0 m c) (arg1 m c) (arg2 m c) (arg3 m c) b h n

abbrev seqOf (t : Fin cfg0.N) : Fin 2 := ⟨t.val / 8, by have := points t; omega⟩

/-- Through a point's chunks the state follows the recurrence, if it does at the point's start. -/
theorem stateAfter_at (c : Dev nD) (hf : Math.AllFinite (arg2 m c)) (t : Fin cfg0.N) (s : Vec Ideal S4x256x128 .f32) (h : Fin 4)
    (hs : ∀ d x, (slab s h (ix3 0 x d) : EReal) = st m c (seqOf t) h (16 * (t.val % 8)) d x) (n : ℕ) (hn : n ≤ 16) (d : Fin 128) (x : Fin 256) :
    (stateAfter (F := Ideal) (iblk m c 1 t) (iblk m c 2 t) (iblk m c 3 t) s n h (ix3 0 x d) : EReal) = st m c (seqOf t) h (16 * (t.val % 8) + n) d x := by
  induction n generalizing d x with
  | zero => exact hs d x
  | succ n ih =>
    rw [stateAfter_succ _ _ _ _ n (by omega), stepS,
      headS_at (Math.laC (arg2 m c) (chunk t ⟨n, by omega⟩) h) (Math.kC (arg0 m c) (chunk t ⟨n, by omega⟩) h) (Math.vC (arg1 m c) (chunk t ⟨n, by omega⟩) h)
        (st m c (seqOf t) h (16 * (t.val % 8) + n)) _ _ _ _ (l_at m c hf t ⟨n, by omega⟩ h) (k_at m c t ⟨n, by omega⟩ h) (v_at m c t ⟨n, by omega⟩ h)
        (fun d x => ih (by omega) d x)]
    have hp := points t
    refine Eq.trans ?_ (congrFun (congrFun (Math.state_succ (arg0 m c) (arg1 m c) (arg2 m c) (arg3 m c) (seqOf t) h (16 * (t.val % 8) + n) (by omega)) d) x).symm
    rw [show (⟨128 * (seqOf t).val + (16 * (t.val % 8) + n), by have := points t; show 128 * (t.val / 8) + _ < 256; omega⟩ : Fin 256) = chunk t ⟨n, by omega⟩ from
      Fin.ext (by show 128 * (t.val / 8) + (16 * (t.val % 8) + n) = 16 * t.val + n; omega)]

/-- The operand's state, moved into the scratch's layout. -/
theorem init_at (c : Dev nD) (t : Fin cfg0.N) (h : Fin 4) (d : Fin 128) (x : Fin 256) :
    (slab (initS (F := Ideal) (iblk m c 4 t)) h (ix3 0 x d) : EReal) = arg3 m c (ix4 (seqOf t) h d x) := by
  show (k0_pay1 (tile4 (iblk m c 4 t) h) (ix3 0 x d) : EReal) = _
  pointwise [k0_pay1]
  exact (tile4_ix (iblk m c 4 t) h d x).trans (blk_s m c t h d x)

theorem slab_outS (x1 : Vec Ideal S1024x512 .bf16) (x2 : Vec Ideal S1024x1024 .bf16) (x3 : Vec Ideal S1024x512 .f32) (s : Vec Ideal S4x256x128 .f32) (h : Fin 4) (d : Fin 128) (x : Fin 256) :
    slab (outS x1 x2 x3 s) h (ix3 0 x d) = stateAfter x1 x2 x3 s 16 h (ix3 0 x d) := by
  unfold outS
  rw [slab_ofSlabs]

/-- Where a point starts, -/
theorem from_at (c : Dev nD) (hf : Math.AllFinite (arg2 m c)) (n : ℕ) (hn : n < cfg0.N) (h : Fin 4) (d : Fin 128) (x : Fin 256) :
    (slab (fromAt m c ⟨n, hn⟩) h (ix3 0 x d) : EReal) = st m c (seqOf ⟨n, hn⟩) h (16 * (n % 8)) d x := by
  induction n generalizing d x with
  | zero => rw [fromAt_first m c ⟨0, hn⟩ rfl, init_at]; rfl
  | succ n ih =>
    by_cases h0 : (n + 1) % 8 = 0
    · rw [fromAt_first m c ⟨n + 1, hn⟩ h0, init_at, h0]; rfl
    · rw [fromAt_later m c ⟨n + 1, hn⟩ h0]
      have hn' : n < cfg0.N := Nat.lt_of_succ_lt hn
      have hp := points ⟨n + 1, hn⟩
      refine Eq.trans (congrArg (fun s => (slab s h (ix3 0 x d) : EReal)) (stAt_eq m c ⟨n, hn'⟩)) ?_
      refine (slab_outS _ _ _ _ h d x).trans ((stateAfter_at m c hf ⟨n, hn'⟩ _ h (fun d x => ih hn' d x) 16 le_rfl d x).trans ?_)
      rw [show seqOf ⟨n, hn'⟩ = seqOf ⟨n + 1, hn⟩ from Fin.ext (by show n / 8 = (n + 1) / 8; omega), show 16 * (n % 8) + 16 = 16 * ((n + 1) % 8) from by omega]

/-- and what it leaves. -/
theorem stAt_at (c : Dev nD) (hf : Math.AllFinite (arg2 m c)) (t : Fin cfg0.N) (h : Fin 4) (d : Fin 128) (x : Fin 256) :
    (slab (stAt m c t.val t.isLt) h (ix3 0 x d) : EReal) = st m c (seqOf t) h (16 * (t.val % 8) + 16) d x := by
  rw [stAt_eq]
  exact (slab_outS _ _ _ _ h d x).trans (stateAfter_at m c hf t _ h (fun d x => from_at m c hf t.val t.isLt h d x) 16 le_rfl d x)

theorem outO_ix (x0 x1 : Vec Ideal S1024x512 .bf16) (x2 : Vec Ideal S1024x1024 .bf16) (x3 : Vec Ideal S1024x512 .f32) (s : Vec Ideal S4x256x128 .f32)
    (n : Fin 16) (h : Fin 4) (r : Fin 64) (x : Fin 256) (R X : Fin 1024) (hR : R.val = 64 * n.val + r.val) (hX : X.val = 256 * h.val + x.val) :
    outO x0 x1 x2 x3 s (ix2 R X) = stepO x0 x1 x2 x3 n h (stateAfter x1 x2 x3 s n.val h) (ix2 r x) := by
  have e1 : R.val / 64 = n.val := by omega
  have e2 : X.val / 256 = h.val := by omega
  have e3 : R.val % 64 = r.val := by omega
  have e4 : X.val % 256 = x.val := by omega
  have E1 : (⟨R.val / 64, by omega⟩ : Fin 16) = n := Fin.ext e1
  have E2 : (⟨X.val / 256, by omega⟩ : Fin 4) = h := Fin.ext e2
  have E3 : (⟨R.val % 64, Nat.mod_lt _ (by decide)⟩ : Fin 64) = r := Fin.ext e3
  have E4 : (⟨X.val % 256, Nat.mod_lt _ (by decide)⟩ : Fin 256) = x := Fin.ext e4
  refine Eq.trans (b := stepO x0 x1 x2 x3 ⟨R.val / 64, by omega⟩ ⟨X.val / 256, by omega⟩ (stateAfter x1 x2 x3 s (R.val / 64) ⟨X.val / 256, by omega⟩)
    (ix2 ⟨R.val % 64, Nat.mod_lt _ (by decide)⟩ ⟨X.val % 256, Nat.mod_lt _ (by decide)⟩)) ?_ ?_
  · exact congrArg (stepO x0 x1 x2 x3 _ _ _) (funext (Fin.forall_fin_two.mpr ⟨rfl, rfl⟩))
  · rw [E1, E2, E3, E4, e1]

/-- One entry of the output, by its chunk, head, row and column. -/
theorem resultO_ix (c : Dev nD) (t : Fin cfg0.N) (n : Fin 16) (h : Fin 4) (r : Fin 64) (x : Fin 256) (R : Fin 16384) (X : Fin 1024)
    (hR : R.val = 1024 * t.val + (64 * n.val + r.val)) (hX : X.val = 256 * h.val + x.val) :
    Math.resultO (arg0 m c) (arg1 m c) (arg2 m c) (arg3 m c) (ix2 R X)
      = Math.out (Math.laC (arg2 m c) (chunk t n) h) (Math.qC (arg0 m c) (chunk t n) h) (Math.kC (arg0 m c) (chunk t n) h) (Math.vC (arg1 m c) (chunk t n) h)
          (st m c (seqOf t) h (16 * (t.val % 8) + n.val)) r x := by
  have hp := points t
  have E1 : (⟨R.val / 64, by omega⟩ : Fin 256) = chunk t n := Fin.ext (by show R.val / 64 = 16 * t.val + n.val; omega)
  have E2 : (⟨X.val / 256, by omega⟩ : Fin 4) = h := Fin.ext (by show X.val / 256 = h.val; omega)
  have E3 : (⟨R.val % 64, Nat.mod_lt _ (by decide)⟩ : Fin 64) = r := Fin.ext (by show R.val % 64 = r.val; omega)
  have E4 : (⟨X.val % 256, Nat.mod_lt _ (by decide)⟩ : Fin 256) = x := Fin.ext (by show X.val % 256 = x.val; omega)
  have E5 : (⟨(chunk t n).val / 128, by omega⟩ : Fin 2) = seqOf t := Fin.ext (by show (16 * t.val + n.val) / 128 = t.val / 8; omega)
  have E6 : (chunk t n).val % 128 = 16 * (t.val % 8) + n.val := by show (16 * t.val + n.val) % 128 = _; omega
  refine Eq.trans (b := Math.outAt (arg0 m c) (arg1 m c) (arg2 m c) (arg3 m c) ⟨R.val / 64, by omega⟩ ⟨X.val / 256, by omega⟩ ⟨R.val % 64, Nat.mod_lt _ (by decide)⟩ ⟨X.val % 256, Nat.mod_lt _ (by decide)⟩) rfl ?_
  rw [E1, E2, E3, E4, Math.outAt, E5, E6]

/-- The rows a point writes. -/
theorem oAt_at (c : Dev nD) (hf : Math.AllFinite (arg2 m c)) (t : Fin cfg0.N) (r : Fin 1024) (x : Fin 1024) :
    (oAt m c t (ix2 r x) : EReal) = Math.resultO (arg0 m c) (arg1 m c) (arg2 m c) (arg3 m c) (ix2 ⟨1024 * t.val + r.val, by have := points t; omega⟩ x) := by
  have hp := points t
  obtain ⟨n, r', hr⟩ : ∃ (n : Fin 16) (r' : Fin 64), r.val = 64 * n.val + r'.val := ⟨⟨r.val / 64, by omega⟩, ⟨r.val % 64, Nat.mod_lt _ (by decide)⟩, by show r.val = 64 * (r.val / 64) + r.val % 64; omega⟩
  obtain ⟨h, x', hx⟩ : ∃ (h : Fin 4) (x' : Fin 256), x.val = 256 * h.val + x'.val := ⟨⟨x.val / 256, by omega⟩, ⟨x.val % 256, Nat.mod_lt _ (by decide)⟩, by show x.val = 256 * (x.val / 256) + x.val % 256; omega⟩
  refine Eq.trans (outO_ix _ _ _ _ _ n h r' x' r x hr hx) ?_
  refine Eq.trans ?_ (resultO_ix m c t n h r' x' _ x (by show 1024 * t.val + r.val = _; omega) hx).symm
  exact headO_at (Math.laC (arg2 m c) (chunk t n) h) (Math.qC (arg0 m c) (chunk t n) h) (Math.kC (arg0 m c) (chunk t n) h) (Math.vC (arg1 m c) (chunk t n) h)
    (st m c (seqOf t) h (16 * (t.val % 8) + n.val)) _ _ _ _ _ (hf.chunk _ _) (l_at m c hf t n h) (q_at m c t n h) (k_at m c t n h) (v_at m c t n h)
    (fun d y => stateAfter_at m c hf t _ h (fun d y => from_at m c hf t.val t.isLt h d y) n.val (by omega) d y) r' x'

/-- The output array after the run. -/
theorem final_o (c : Dev nD) (hf : Math.AllFinite (arg2 m c)) :
    (dats m 0 c).arrAt 5 cfg0.N = (Math.resultO (arg0 m c) (arg1 m c) (arg2 m c) (arg3 m c) : Buf (Elt Ideal) ((c : Thread nD τ).loc main_v0_0)) := by
  refine (dats m 0 c).arrAt_eq_of_covers 5 _ (by decide +kernel) fun t hfl y => ?_
  blk_simp
  rw [after_5]
  have e := (maps t).2.2.2.2.2.1
  obtain ⟨r, x, rfl⟩ : ∃ (r : Fin 1024) (x : Fin 1024), y = (ix2 r x : S1024x1024.Idx) := ⟨y 0, y 1, eq_ix2 y⟩
  refine (oAt_at m c hf t r x).trans ?_
  blk_ext [e]

theorem outT_at (s : Vec Ideal S4x256x128 .f32) (h : Fin 4) (d : Fin 128) (x : Fin 256) :
    outT s (ix4 0 h d x) = slab s h (ix3 0 x d) := by
  show k0_pay8 (slab s h) (ix4 0 0 d x) = _
  pointwise [k0_pay8]

/-- The state array after the run. -/
theorem final_s (c : Dev nD) (hf : Math.AllFinite (arg2 m c)) :
    (dats m 0 c).arrAt 6 cfg0.N = (Math.resultS (arg0 m c) (arg1 m c) (arg2 m c) (arg3 m c) : Buf (Elt Ideal) ((c : Thread nD τ).loc main_v0_1)) := by
  refine (dats m 0 c).arrAt_eq_of_covers 6 _ (by decide +kernel) fun t hfl y => ?_
  blk_simp
  rw [after_6]
  have e := (maps t).2.2.2.2.2.2
  have h7 : t.val % 8 = 7 := (by decide +kernel : ∀ t : Fin cfg0.N, (cfg0.win 6).flush t = true → t.val % 8 = 7) t hfl
  obtain ⟨z, h, d, x, rfl⟩ : ∃ (z : Fin 1) (h : Fin 4) (d : Fin 128) (x : Fin 256), y = (ix4 z h d x : S1x4x128x256.Idx) := ⟨y 0, y 1, y 2, y 3, eq_ix4 y⟩
  obtain rfl : z = 0 := Subsingleton.elim _ _
  refine ((outT_at _ h d x).trans (stAt_at m c hf t h d x)).trans ?_
  rw [h7]
  have hi : (((cfg0.win 6).blk t).view.emb (ix4 0 h d x : S1x4x128x256.Idx) : S2x4x128x256.Idx) = ix4 (seqOf t) h d x := by blk_ext [e]
  exact (congrArg (Math.resultS (arg0 m c) (arg1 m c) (arg2 m c) (arg3 m c)) hi).symm

/-- The kernel's run: both results, and the arguments unchanged. -/
theorem run (ρ : Dev nD → PrngReg) (hf : ∀ c : Dev nD, Math.AllFinite (arg2 m c)) :
    θ_run defs (onTc (τ := τ) (main (F := Ideal))) ⟨m, fun _ => 0, ρ⟩ (fun r => ∀ c : Dev nD,
      r.2.mem ((c.tc : Thread nD τ).loc main_v0_0) = Math.resultO (arg0 m c) (arg1 m c) (arg2 m c) (arg3 m c)
      ∧ r.2.mem ((c.tc : Thread nD τ).loc main_v0_1) = Math.resultS (arg0 m c) (arg1 m c) (arg2 m c) (arg3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).1 5).trans (final_o m c (hf c)), ((h.1 c).1 6).trans (final_s m c (hf c)), end_of_arg m r h.1 c⟩) (launch m ρ)

end Cert.KernelIdeal.Rec

end
-- ==== Proof.Window.lean ====
/- A running sum along axis 1, which a reference's host code writes as a sum over a window of all `n + 1` rows padded `n`
   rows low: entry `t` is the sum of the entries up to and including `t`. -/
module

public import Idealize.ShloMosaic.Lib.Pipeline.ValueKit

@[expose] public section

set_option maxRecDepth 16384

noncomputable section

namespace Cert.Math

open Idealize.ShloMosaic

/-- The window: all rows. -/
abbrev Win (n : ℕ) : Shape := ⟨4, ![1, n + 1, 1, 1]⟩

/-- Its positions are its rows. -/
def winRow (n : ℕ) : (Win n).Idx ≃ Fin (n + 1) where
  toFun w := ⟨(w 1).val, (w 1).isLt⟩
  invFun r := ix4 0 r 0 0
  left_inv w := funext fun a => match a with
    | ⟨0, _⟩ => Subsingleton.elim (α := Fin 1) _ _
    | ⟨1, _⟩ => rfl
    | ⟨2, _⟩ => Subsingleton.elim (α := Fin 1) _ _
    | ⟨3, _⟩ => Subsingleton.elim (α := Fin 1) _ _
  right_inv r := rfl

theorem foldl_add_sum {n : ℕ} (g : Fin n → EReal) (i : EReal) : (List.finRange n).foldl (fun r k => r + g k) i = i + ∑ k, g k := by
  have : ∀ (l : List (Fin n)) (i : EReal), l.foldl (fun r k => r + g k) i = i + (l.map g).sum := by
    intro l
    induction l with
    | nil => intro i; simp
    | cons a l ih => intro i; rw [List.foldl_cons, ih, List.map_cons, List.sum_cons, add_assoc]
  rw [this, ← List.ofFn_eq_map, List.sum_ofFn]

/-- A window's sum is the sum of the rows not later. -/
theorem shifted_sum {n : ℕ} (f : Fin (n + 1) → EReal) (t : Fin (n + 1)) :
    (∑ w : Fin (n + 1), if h : n ≤ t.val + w.val then f ⟨t.val + w.val - n, by omega⟩ else 0) = ∑ s : Fin (n + 1), if s ≤ t then f s else 0 := by
  rw [← Finset.sum_filter]
  have e : (∑ w : Fin (n + 1), if h : n ≤ t.val + w.val then f ⟨t.val + w.val - n, by omega⟩ else 0)
      = ∑ w ∈ Finset.univ.filter (fun w : Fin (n + 1) => n ≤ t.val + w.val), f ⟨t.val + w.val - n, by omega⟩ := by
    rw [Finset.sum_filter]
    refine Finset.sum_congr rfl fun w _ => ?_
    by_cases h : n ≤ t.val + w.val
    · rw [dif_pos h, if_pos h]
    · rw [dif_neg h, if_neg h]
  rw [e]
  refine Finset.sum_bij (fun w _ => ⟨t.val + w.val - n, by omega⟩) (fun w hw => ?_) (fun a ha b hb hab => ?_) (fun s hs => ?_) (fun w hw => rfl)
  · rw [Finset.mem_filter]
    refine ⟨Finset.mem_univ _, ?_⟩
    show t.val + w.val - n ≤ t.val
    omega
  · have h1 : n ≤ t.val + a.val := (Finset.mem_filter.mp ha).2
    have h2 : n ≤ t.val + b.val := (Finset.mem_filter.mp hb).2
    have h3 : t.val + a.val - n = t.val + b.val - n := congrArg Fin.val hab
    exact Fin.ext (by omega)
  · have h1 : s.val ≤ t.val := (Finset.mem_filter.mp hs).2
    refine ⟨⟨n - (t.val - s.val), by omega⟩, Finset.mem_filter.mpr ⟨Finset.mem_univ _, ?_⟩, Fin.ext ?_⟩
    · show n ≤ t.val + (n - (t.val - s.val))
      omega
    · show t.val + (n - (t.val - s.val)) - n = s.val
      omega

theorem running_sum {B n : ℕ} (x : (⟨4, ![B, n + 1, 4, 128]⟩ : Shape).Idx → EReal) (init : EReal) (hi : init = 0)
    (h : (⟨4, ![B, n + 1, 4, 128]⟩ : Shape).ReduceWindows ![1, n + 1, 1, 1] ![1, 1, 1, 1] ![0, n, 0, 0] ![0, 0, 0, 0] ⟨4, ![B, n + 1, 4, 128]⟩)
    (b : Fin B) (t : Fin (n + 1)) (g : Fin 4) (d : Fin 128) :
    Ideal.hostReduceWindowAdd (s := ⟨4, ![B, n + 1, 4, 128]⟩) ![1, n + 1, 1, 1] ![1, 1, 1, 1] ![0, n, 0, 0] ![0, 0, 0, 0] h x init (ix4 b t g d)
      = ∑ s : Fin (n + 1), if s ≤ t then x (ix4 b s g d) else 0 := by
  subst hi
  rw [← shifted_sum (fun s => x (ix4 b s g d)) t]
  unfold Ideal.hostReduceWindowAdd Host.reduceWindow
  refine (foldl_add_sum _ _).trans ?_
  rw [zero_add]
  refine Fintype.sum_equiv ((Shape.rowMajor (Win n)).symm.trans (winRow n)) _ (fun w : Fin (n + 1) => if h : n ≤ t.val + w.val then x (ix4 b ⟨t.val + w.val - n, by omega⟩ g d) else 0) fun k => ?_
  obtain ⟨w, rfl⟩ := (Shape.rowMajor (Win n)).surjective k
  obtain ⟨r, rfl⟩ := (winRow n).symm.surjective w
  have hn : ((Shape.rowMajor (Win n)).symm.trans (winRow n)) ((Win n).rowMajor ((winRow n).symm r)) = r := by
    rw [Equiv.trans_apply, Equiv.symm_apply_apply, Equiv.apply_symm_apply]
  refine Eq.trans ?_ (congrArg (fun w : Fin (n + 1) => if h : n ≤ t.val + w.val then x (ix4 b ⟨t.val + w.val - n, by omega⟩ g d) else 0) hn).symm
  show _ = if h : n ≤ t.val + r.val then x (ix4 b ⟨t.val + r.val - n, by omega⟩ g d) else 0
  have e : (Win n).rowMajor.symm ((Win n).rowMajor ((winRow n).symm r)) = ix4 0 r 0 0 := Equiv.symm_apply_apply _ _
  have hb := b.isLt
  have hg := g.isLt
  have hd := d.isLt
  have ht := t.isLt
  by_cases hr : n ≤ t.val + r.val
  · rw [dif_pos hr, dif_pos (fun a => by
      show _ ≤ _ * _ + ((Win n).rowMajor.symm ((Win n).rowMajor ((winRow n).symm r)) a).val ∧ _ * _ + ((Win n).rowMajor.symm ((Win n).rowMajor ((winRow n).symm r)) a).val - _ < _
      rw [e]
      match a with
      | ⟨0, _⟩ => show 0 ≤ b.val * 1 + 0 ∧ b.val * 1 + 0 - 0 < B; omega
      | ⟨1, _⟩ => show n ≤ t.val * 1 + r.val ∧ t.val * 1 + r.val - n < n + 1; omega
      | ⟨2, _⟩ => show 0 ≤ g.val * 1 + 0 ∧ g.val * 1 + 0 - 0 < 4; omega
      | ⟨3, _⟩ => show 0 ≤ d.val * 1 + 0 ∧ d.val * 1 + 0 - 0 < 128; omega)]
    refine congrArg x (funext fun a => Fin.ext ?_)
    show _ * _ + ((Win n).rowMajor.symm ((Win n).rowMajor ((winRow n).symm r)) a).val - _ = _
    rw [e]
    match a with
    | ⟨0, _⟩ => show b.val * 1 + 0 - 0 = b.val; omega
    | ⟨1, _⟩ => show t.val * 1 + r.val - n = t.val + r.val - n; omega
    | ⟨2, _⟩ => show g.val * 1 + 0 - 0 = g.val; omega
    | ⟨3, _⟩ => show d.val * 1 + 0 - 0 = d.val; omega
  · rw [dif_neg hr, dif_neg]
    intro hin
    have h1 := (hin 1).1
    change n ≤ t.val * 1 + ((Win n).rowMajor.symm ((Win n).rowMajor ((winRow n).symm r)) 1).val at h1
    rw [e] at h1
    change n ≤ t.val * 1 + r.val at h1
    omega

end Cert.Math

end
-- ==== Proof.RefRun.lean ====
/- The reference's run as its trip iterated: the generated module StepRun.lean of the reference with one step of one proof
   written otherwise (`step_7`, whose rewriting does not find its left side there). A valuation HOLDS a state when the
   carried buffers, the loop's constants and the counter read it; one trip keeps it holding the next state; so the two
   results are read off state number 128. -/
module

public import proofs.«01_k».proof.Proof.Gen.ReferenceIdeal.Run
public import proofs.«01_k».proof.Proof.Gen.ReferenceIdeal.Step

@[expose] public section

noncomputable section

namespace Cert.ReferenceIdeal.Trips

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_6 : V0 (Proc.devRef .tc main_v21_6) = s.main_v21_6
  f_7 : V0 (Proc.devRef .tc main_v21_7) = s.main_v21_7
  f_0 : V0 (Proc.devRef .tc main_v21_0) = s.main_v21_0
  f_1 : V0 (Proc.devRef .tc main_v21_1) = s.main_v21_1
  f_2 : V0 (Proc.devRef .tc main_v21_2) = s.main_v21_2
  f_3 : V0 (Proc.devRef .tc main_v21_3) = s.main_v21_3
  n_5 : V0 (Proc.devRef .tc main_v21_5) = constantI S_ 32 (BitVec.ofNat 32 j)
  k_4 : V0 (Proc.devRef .tc main_v21_4) = Cert.ReferenceIdeal.Step.K_main_v8 (F := F)

variable {V0 s j}

set_option maxRecDepth 8192 in
theorem al_0 (h : Holds V0 s j) : (constantI S_ 32 0#32 : (Proc.devRef .tc main_while0b_call1_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call1_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call1_c_1 : DevRef τ sig).ty.Contents (Elt F)) = Cert.ReferenceIdeal.Step.b2 j s := by
  unfold Cert.ReferenceIdeal.Step.b2
  rfl
set_option maxRecDepth 8192 in
theorem al_3 (h : Holds V0 s j) : (constantI S_ 32 0#32 : (Proc.devRef .tc main_while0b_call1_c_2 : DevRef τ sig).ty.Contents (Elt F)) = Cert.ReferenceIdeal.Step.b3 j s := by
  unfold Cert.ReferenceIdeal.Step.b3
  rfl
set_option maxRecDepth 8192 in
theorem al_4 (h : Holds V0 s j) : (Host.dynamicSlice S1x2x64x4x128 (V0 (Proc.devRef .tc main_v21_0)) (fun k => (((![V0 (Proc.devRef .tc main_v21_5), constantI S_ 32 0#32, constantI S_ 32 0#32, constantI S_ 32 0#32, constantI S_ 32 0#32] : Fin 5 → (⟨S_, .i32⟩ : BufTy).Contents (Elt F))) k (Shape.Idx.first h_S_)).toInt) sliceFits_S128x2x64x4x128_S1x2x64x4x128 : (Proc.devRef .tc main_while0b_call1_v0 : DevRef τ sig).ty.Contents (Elt F)) = Cert.ReferenceIdeal.Step.b4 j s := by
  unfold Cert.ReferenceIdeal.Step.b4
  rw [← al_0 h, ← al_1 h, ← al_2 h, ← al_3 h, h.f_0, h.n_5]
  try rfl
set_option maxRecDepth 8192 in
theorem al_5 (h : Holds V0 s j) : (res_main_while0b_v25 V0 : (Proc.devRef .tc main_while0b_v25 : DevRef τ sig).ty.Contents (Elt F)) = Cert.ReferenceIdeal.Step.b5 j s := by
  unfold res_main_while0b_v25 Cert.ReferenceIdeal.Step.b5
  rw [← al_4 h]
  try rfl
set_option maxRecDepth 8192 in
theorem al_6 (h : Holds V0 s j) : (constantI S_ 32 0#32 : (Proc.devRef .tc main_while0b_call2_c : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call2_c_0 : DevRef τ sig).ty.Contents (Elt F)) = Cert.ReferenceIdeal.Step.b7 j s := by
  unfold Cert.ReferenceIdeal.Step.b7
  rfl
set_option maxRecDepth 8192 in
theorem al_8 (h : Holds V0 s j) : (constantI S_ 32 0#32 : (Proc.devRef .tc main_while0b_call2_c_1 : DevRef τ sig).ty.Contents (Elt F)) = Cert.ReferenceIdeal.Step.b8 j s := by
  unfold Cert.ReferenceIdeal.Step.b8
  rfl
set_option maxRecDepth 8192 in
theorem al_9 (h : Holds V0 s j) : (constantI S_ 32 0#32 : (Proc.devRef .tc main_while0b_call2_c_2 : DevRef τ sig).ty.Contents (Elt F)) = Cert.ReferenceIdeal.Step.b9 j s := by
  unfold Cert.ReferenceIdeal.Step.b9
  rfl
set_option maxRecDepth 8192 in
theorem al_10 (h : Holds V0 s j) : (Host.dynamicSlice S1x2x64x4x128 (V0 (Proc.devRef .tc main_v21_1)) (fun k => (((![V0 (Proc.devRef .tc main_v21_5), constantI S_ 32 0#32, constantI S_ 32 0#32, constantI S_ 32 0#32, constantI S_ 32 0#32] : Fin 5 → (⟨S_, .i32⟩ : BufTy).Contents (Elt F))) k (Shape.Idx.first h_S_)).toInt) sliceFits_S128x2x64x4x128_S1x2x64x4x128 : (Proc.devRef .tc main_while0b_call2_v0 : DevRef τ sig).ty.Contents (Elt F)) = Cert.ReferenceIdeal.Step.b10 j s := by
  unfold Cert.ReferenceIdeal.Step.b10
  rw [← al_6 h, ← al_7 h, ← al_8 h, ← al_9 h, h.f_1, h.n_5]
  try rfl
set_option maxRecDepth 8192 in
theorem al_11 (h : Holds V0 s j) : (res_main_while0b_v26 V0 : (Proc.devRef .tc main_while0b_v26 : DevRef τ sig).ty.Contents (Elt F)) = Cert.ReferenceIdeal.Step.b11 j s := by
  unfold res_main_while0b_v26 Cert.ReferenceIdeal.Step.b11
  rw [← al_10 h]
  try rfl
set_option maxRecDepth 8192 in
theorem al_12 (h : Holds V0 s j) : (constantI S_ 32 0#32 : (Proc.devRef .tc main_while0b_call3_c : DevRef τ sig).ty.Contents (Elt F)) = Cert.ReferenceIdeal.Step.b12 j s := by
  unfold Cert.ReferenceIdeal.Step.b12
  rfl
set_option maxRecDepth 8192 in
theorem al_13 (h : Holds V0 s j) : (constantI S_ 32 0#32 : (Proc.devRef .tc main_while0b_call3_c_0 : DevRef τ sig).ty.Contents (Elt F)) = Cert.ReferenceIdeal.Step.b13 j s := by
  unfold Cert.ReferenceIdeal.Step.b13
  rfl
set_option maxRecDepth 8192 in
theorem al_14 (h : Holds V0 s j) : (constantI S_ 32 0#32 : (Proc.devRef .tc main_while0b_call3_c_1 : DevRef τ sig).ty.Contents (Elt F)) = Cert.ReferenceIdeal.Step.b14 j s := by
  unfold Cert.ReferenceIdeal.Step.b14
  rfl
set_option maxRecDepth 8192 in
theorem al_15 (h : Holds V0 s j) : (constantI S_ 32 0#32 : (Proc.devRef .tc main_while0b_call3_c_2 : DevRef τ sig).ty.Contents (Elt F)) = Cert.ReferenceIdeal.Step.b15 j s := by
  unfold Cert.ReferenceIdeal.Step.b15
  rfl
set_option maxRecDepth 8192 in
theorem al_16 (h : Holds V0 s j) : (Host.dynamicSlice S1x2x64x4x256 (V0 (Proc.devRef .tc main_v21_2)) (fun k => (((![V0 (Proc.devRef .tc main_v21_5), constantI S_ 32 0#32, constantI S_ 32 0#32, constantI S_ 32 0#32, constantI S_ 32 0#32] : Fin 5 → (⟨S_, .i32⟩ : BufTy).Contents (Elt F))) k (Shape.Idx.first h_S_)).toInt) sliceFits_S128x2x64x4x256_S1x2x64x4x256 : (Proc.devRef .tc main_while0b_call3_v0 : DevRef τ sig).ty.Contents (Elt F)) = Cert.ReferenceIdeal.Step.b16 j s := by
  unfold Cert.ReferenceIdeal.Step.b16
  rw [← al_12 h, ← al_13 h, ← al_14 h, ← al_15 h, h.f_2, h.n_5]
  try rfl
set_option maxRecDepth 8192 in
theorem al_17 (h : Holds V0 s j) : (res_main_while0b_v27 V0 : (Proc.devRef .tc main_while0b_v27 : DevRef τ sig).ty.Contents (Elt F)) = Cert.ReferenceIdeal.Step.b17 j s := by
  unfold res_main_while0b_v27 Cert.ReferenceIdeal.Step.b17
  rw [← al_16 h]
  try rfl
set_option maxRecDepth 8192 in
theorem al_18 (h : Holds V0 s j) : (constantI S_ 32 0#32 : (Proc.devRef .tc main_while0b_call4_c : DevRef τ sig).ty.Contents (Elt F)) = Cert.ReferenceIdeal.Step.b18 j s := by
  unfold Cert.ReferenceIdeal.Step.b18
  rfl
set_option maxRecDepth 8192 in
theorem al_19 (h : Holds V0 s j) : (constantI S_ 32 0#32 : (Proc.devRef .tc main_while0b_call4_c_0 : DevRef τ sig).ty.Contents (Elt F)) = Cert.ReferenceIdeal.Step.b19 j s := by
  unfold Cert.ReferenceIdeal.Step.b19
  rfl
set_option maxRecDepth 8192 in
theorem al_20 (h : Holds V0 s j) : (constantI S_ 32 0#32 : (Proc.devRef .tc main_while0b_call4_c_1 : DevRef τ sig).ty.Contents (Elt F)) = Cert.ReferenceIdeal.Step.b20 j s := by
  unfold Cert.ReferenceIdeal.Step.b20
  rfl
set_option maxRecDepth 8192 in
theorem al_21 (h : Holds V0 s j) : (constantI S_ 32 0#32 : (Proc.devRef .tc main_while0b_call4_c_2 : DevRef τ sig).ty.Contents (Elt F)) = Cert.ReferenceIdeal.Step.b21 j s := by
  unfold Cert.ReferenceIdeal.Step.b21
  rfl
set_option maxRecDepth 8192 in
theorem al_22 (h : Holds V0 s j) : (Host.dynamicSlice S1x2x64x4x128 (V0 (Proc.devRef .tc main_v21_3)) (fun k => (((![V0 (Proc.devRef .tc main_v21_5), constantI S_ 32 0#32, constantI S_ 32 0#32, constantI S_ 32 0#32, constantI S_ 32 0#32] : Fin 5 → (⟨S_, .i32⟩ : BufTy).Contents (Elt F))) k (Shape.Idx.first h_S_)).toInt) sliceFits_S128x2x64x4x128_S1x2x64x4x128 : (Proc.devRef .tc main_while0b_call4_v0 : DevRef τ sig).ty.Contents (Elt F)) = Cert.ReferenceIdeal.Step.b22 j s := by
  unfold Cert.ReferenceIdeal.Step.b22
  rw [← al_18 h, ← al_19 h, ← al_20 h, ← al_21 h, h.f_3, h.n_5]
  try rfl
set_option maxRecDepth 8192 in
theorem al_23 (h : Holds V0 s j) : (shapeCast S2x64x4x128 (Host.dynamicSlice S1x2x64x4x128 (V0 (Proc.devRef .tc main_v21_3)) (fun k => (((![V0 (Proc.devRef .tc main_v21_5), constantI S_ 32 0#32, constantI S_ 32 0#32, constantI S_ 32 0#32, constantI S_ 32 0#32] : Fin 5 → (⟨S_, .i32⟩ : BufTy).Contents (Elt F))) k (Shape.Idx.first h_S_)).toInt) sliceFits_S128x2x64x4x128_S1x2x64x4x128) shapeCasts_S1x2x64x4x128_S2x64x4x128 : (Proc.devRef .tc main_while0b_v28 : DevRef τ sig).ty.Contents (Elt F)) = Cert.ReferenceIdeal.Step.b23 j s := by
  unfold Cert.ReferenceIdeal.Step.b23
  rw [← al_22 h]
  try rfl
set_option maxRecDepth 8192 in
theorem al_24 (h : Holds V0 s j) : (constant S_ .f32 0x00000000#32 : (Proc.devRef .tc main_while0b_call5_call0_cst : DevRef τ sig).ty.Contents (Elt F)) = Cert.ReferenceIdeal.Step.b24 j s := by
  unfold Cert.ReferenceIdeal.Step.b24
  rfl
set_option maxRecDepth 8192 in
theorem al_25 (h : Holds V0 s j) : (broadcastInDim S_ ![] bcast_S_S_ (constant S_ .f32 0x00000000#32) : (Proc.devRef .tc main_while0b_call5_call0_v0 : DevRef τ sig).ty.Contents (Elt F)) = Cert.ReferenceIdeal.Step.b25 j s := by
  unfold Cert.ReferenceIdeal.Step.b25
  rw [← al_24 h]
  try rfl
set_option maxRecDepth 8192 in
theorem al_26 (h : Holds V0 s j) : (res_main_while0b_v29 V0 : (Proc.devRef .tc main_while0b_v29 : DevRef τ sig).ty.Contents (Elt F)) = Cert.ReferenceIdeal.Step.b26 j s := by
  unfold res_main_while0b_v29 Cert.ReferenceIdeal.Step.b26
  rw [← al_23 h, ← al_25 h]
  try rfl
set_option maxRecDepth 8192 in
theorem al_27 (h : Holds V0 s j) : (broadcastInDim S2x64x1x4x128 ![0, 1, 3, 4] bcast_S2x64x4x128_S2x64x1x4x128_0_1_3_4 (res_main_while0b_v29 V0) : (Proc.devRef .tc main_while0b_v30 : DevRef τ sig).ty.Contents (Elt F)) = Cert.ReferenceIdeal.Step.b27 j s := by
  unfold Cert.ReferenceIdeal.Step.b27
  rw [← al_26 h]
  try rfl
set_option maxRecDepth 8192 in
theorem al_28 (h : Holds V0 s j) : (broadcastInDim S2x1x64x4x128 ![0, 2, 3, 4] bcast_S2x64x4x128_S2x1x64x4x128_0_2_3_4 (res_main_while0b_v29 V0) : (Proc.devRef .tc main_while0b_v31 : DevRef τ sig).ty.Contents (Elt F)) = Cert.ReferenceIdeal.Step.b28 j s := by
  unfold Cert.ReferenceIdeal.Step.b28
  rw [← al_26 h]
  try rfl
set_option maxRecDepth 8192 in
theorem al_29 (h : Holds V0 s j) : (broadcastInDim S2x64x64x4x128 ![0, 1, 2, 3, 4] bcast_S2x64x1x4x128_S2x64x64x4x128_0_1_2_3_4 (broadcastInDim S2x64x1x4x128 ![0, 1, 3, 4] bcast_S2x64x4x128_S2x64x1x4x128_0_1_3_4 (res_main_while0b_v29 V0)) : (Proc.devRef .tc main_while0b_v32 : DevRef τ sig).ty.Contents (Elt F)) = Cert.ReferenceIdeal.Step.b29 j s := by
  unfold Cert.ReferenceIdeal.Step.b29
  rw [← al_27 h]
  try rfl
set_option maxRecDepth 8192 in
theorem al_30 (h : Holds V0 s j) : (broadcastInDim S2x64x64x4x128 ![0, 1, 2, 3, 4] bcast_S2x1x64x4x128_S2x64x64x4x128_0_1_2_3_4 (broadcastInDim S2x1x64x4x128 ![0, 2, 3, 4] bcast_S2x64x4x128_S2x1x64x4x128_0_2_3_4 (res_main_while0b_v29 V0)) : (Proc.devRef .tc main_while0b_v33 : DevRef τ sig).ty.Contents (Elt F)) = Cert.ReferenceIdeal.Step.b30 j s := by
  unfold Cert.ReferenceIdeal.Step.b30
  rw [← al_28 h]
  try rfl
set_option maxRecDepth 8192 in
theorem al_31 (h : Holds V0 s j) : (subf (broadcastInDim S2x64x64x4x128 ![0, 1, 2, 3, 4] bcast_S2x64x1x4x128_S2x64x64x4x128_0_1_2_3_4 (broadcastInDim S2x64x1x4x128 ![0, 1, 3, 4] bcast_S2x64x4x128_S2x64x1x4x128_0_1_3_4 (res_main_while0b_v29 V0))) (broadcastInDim S2x64x64x4x128 ![0, 1, 2, 3, 4] bcast_S2x1x64x4x128_S2x64x64x4x128_0_1_2_3_4 (broadcastInDim S2x1x64x4x128 ![0, 2, 3, 4] bcast_S2x64x4x128_S2x1x64x4x128_0_2_3_4 (res_main_while0b_v29 V0))) : (Proc.devRef .tc main_while0b_v34 : DevRef τ sig).ty.Contents (Elt F)) = Cert.ReferenceIdeal.Step.b31 j s := by
  unfold Cert.ReferenceIdeal.Step.b31
  rw [← al_29 h, ← al_30 h]
  try rfl
set_option maxRecDepth 8192 in
theorem al_32 (h : Holds V0 s j) : (constant S_ .f32 0xFF800000#32 : (Proc.devRef .tc main_while0b_cst_8 : DevRef τ sig).ty.Contents (Elt F)) = Cert.ReferenceIdeal.Step.b32 j s := by
  unfold Cert.ReferenceIdeal.Step.b32
  rfl
set_option maxRecDepth 8192 in
theorem al_33 (h : Holds V0 s j) : (id (constant S_ .f32 0xFF800000#32) : (Proc.devRef .tc main_while0b_call6_v0 : DevRef τ sig).ty.Contents (Elt F)) = Cert.ReferenceIdeal.Step.b33 j s := by
  unfold Cert.ReferenceIdeal.Step.b33
  rw [← al_32 h]
  try rfl
set_option maxRecDepth 8192 in
theorem al_34 (h : Holds V0 s j) : (broadcastInDim S2x64x64x4x128 ![0, 1, 2, 3, 4] bcast_S1x64x64x1x1_S2x64x64x4x128_0_1_2_3_4 (V0 (Proc.devRef .tc main_v21_4)) : (Proc.devRef .tc main_while0b_call6_v1 : DevRef τ sig).ty.Contents (Elt F)) = Cert.ReferenceIdeal.Step.b34 j s := by
  unfold Cert.ReferenceIdeal.Step.b34
  rw [h.k_4]
  try rfl
set_option maxRecDepth 8192 in
theorem al_35 (h : Holds V0 s j) : (broadcastInDim S2x64x64x4x128 ![] bcast_S_S2x64x64x4x128 (id (constant S_ .f32 0xFF800000#32)) : (Proc.devRef .tc main_while0b_call6_v2 : DevRef τ sig).ty.Contents (Elt F)) = Cert.ReferenceIdeal.Step.b35 j s := by
  unfold Cert.ReferenceIdeal.Step.b35
  rw [← al_33 h]
  try rfl
set_option maxRecDepth 8192 in
theorem al_36 (h : Holds V0 s j) : (select (broadcastInDim S2x64x64x4x128 ![0, 1, 2, 3, 4] bcast_S1x64x64x1x1_S2x64x64x4x128_0_1_2_3_4 (V0 (Proc.devRef .tc main_v21_4))) (subf (broadcastInDim S2x64x64x4x128 ![0, 1, 2, 3, 4] bcast_S2x64x1x4x128_S2x64x64x4x128_0_1_2_3_4 (broadcastInDim S2x64x1x4x128 ![0, 1, 3, 4] bcast_S2x64x4x128_S2x64x1x4x128_0_1_3_4 (res_main_while0b_v29 V0))) (broadcastInDim S2x64x64x4x128 ![0, 1, 2, 3, 4] bcast_S2x1x64x4x128_S2x64x64x4x128_0_1_2_3_4 (broadcastInDim S2x1x64x4x128 ![0, 2, 3, 4] bcast_S2x64x4x128_S2x1x64x4x128_0_2_3_4 (res_main_while0b_v29 V0)))) (broadcastInDim S2x64x64x4x128 ![] bcast_S_S2x64x64x4x128 (id (constant S_ .f32 0xFF800000#32))) : (Proc.devRef .tc main_while0b_v35 : DevRef τ sig).ty.Contents (Elt F)) = Cert.ReferenceIdeal.Step.b36 j s := by
  unfold Cert.ReferenceIdeal.Step.b36
  rw [← al_34 h, ← al_31 h, ← al_35 h]
  try rfl
set_option maxRecDepth 8192 in
theorem al_37 (h : Holds V0 s j) : (Host.exp (select (broadcastInDim S2x64x64x4x128 ![0, 1, 2, 3, 4] bcast_S1x64x64x1x1_S2x64x64x4x128_0_1_2_3_4 (V0 (Proc.devRef .tc main_v21_4))) (subf (broadcastInDim S2x64x64x4x128 ![0, 1, 2, 3, 4] bcast_S2x64x1x4x128_S2x64x64x4x128_0_1_2_3_4 (broadcastInDim S2x64x1x4x128 ![0, 1, 3, 4] bcast_S2x64x4x128_S2x64x1x4x128_0_1_3_4 (res_main_while0b_v29 V0))) (broadcastInDim S2x64x64x4x128 ![0, 1, 2, 3, 4] bcast_S2x1x64x4x128_S2x64x64x4x128_0_1_2_3_4 (broadcastInDim S2x1x64x4x128 ![0, 2, 3, 4] bcast_S2x64x4x128_S2x1x64x4x128_0_2_3_4 (res_main_while0b_v29 V0)))) (broadcastInDim S2x64x64x4x128 ![] bcast_S_S2x64x64x4x128 (id (constant S_ .f32 0xFF800000#32)))) : (Proc.devRef .tc main_while0b_v36 : DevRef τ sig).ty.Contents (Elt F)) = Cert.ReferenceIdeal.Step.b37 j s := by
  unfold Cert.ReferenceIdeal.Step.b37
  rw [← al_36 h]
  try rfl
set_option maxRecDepth 8192 in
theorem al_38 (h : Holds V0 s j) : (broadcastInDim S2x1x64x4x128 ![0, 2, 3, 4] bcast_S2x64x4x128_S2x1x64x4x128_0_2_3_4 (res_main_while0b_v26 V0) : (Proc.devRef .tc main_while0b_v37 : DevRef τ sig).ty.Contents (Elt F)) = Cert.ReferenceIdeal.Step.b38 j s := by
  unfold Cert.ReferenceIdeal.Step.b38
  rw [← al_11 h]
  try rfl
set_option maxRecDepth 8192 in
theorem al_39 (h : Holds V0 s j) : (broadcastInDim S2x64x64x4x128 ![0, 1, 2, 3, 4] bcast_S2x1x64x4x128_S2x64x64x4x128_0_1_2_3_4 (broadcastInDim S2x1x64x4x128 ![0, 2, 3, 4] bcast_S2x64x4x128_S2x1x64x4x128_0_2_3_4 (res_main_while0b_v26 V0)) : (Proc.devRef .tc main_while0b_v38 : DevRef τ sig).ty.Contents (Elt F)) = Cert.ReferenceIdeal.Step.b39 j s := by
  unfold Cert.ReferenceIdeal.Step.b39
  rw [← al_38 h]
  try rfl
set_option maxRecDepth 8192 in
theorem al_40 (h : Holds V0 s j) : (mulf (broadcastInDim S2x64x64x4x128 ![0, 1, 2, 3, 4] bcast_S2x1x64x4x128_S2x64x64x4x128_0_1_2_3_4 (broadcastInDim S2x1x64x4x128 ![0, 2, 3, 4] bcast_S2x64x4x128_S2x1x64x4x128_0_2_3_4 (res_main_while0b_v26 V0))) (Host.exp (select (broadcastInDim S2x64x64x4x128 ![0, 1, 2, 3, 4] bcast_S1x64x64x1x1_S2x64x64x4x128_0_1_2_3_4 (V0 (Proc.devRef .tc main_v21_4))) (subf (broadcastInDim S2x64x64x4x128 ![0, 1, 2, 3, 4] bcast_S2x64x1x4x128_S2x64x64x4x128_0_1_2_3_4 (broadcastInDim S2x64x1x4x128 ![0, 1, 3, 4] bcast_S2x64x4x128_S2x64x1x4x128_0_1_3_4 (res_main_while0b_v29 V0))) (broadcastInDim S2x64x64x4x128 ![0, 1, 2, 3, 4] bcast_S2x1x64x4x128_S2x64x64x4x128_0_1_2_3_4 (broadcastInDim S2x1x64x4x128 ![0, 2, 3, 4] bcast_S2x64x4x128_S2x1x64x4x128_0_2_3_4 (res_main_while0b_v29 V0)))) (broadcastInDim S2x64x64x4x128 ![] bcast_S_S2x64x64x4x128 (id (constant S_ .f32 0xFF800000#32))))) : (Proc.devRef .tc main_while0b_v39 : DevRef τ sig).ty.Contents (Elt F)) = Cert.ReferenceIdeal.Step.b40 j s := by
  unfold Cert.ReferenceIdeal.Step.b40
  rw [← al_39 h, ← al_37 h]
  try rfl
set_option maxRecDepth 8192 in
theorem al_41 (h : Holds V0 s j) : (Host.dotGeneral dot_S2x64x4x128_S2x64x64x4x128_S2x4x64x64_3_4_n_2_021_031 none (res_main_while0b_v25 V0) (mulf (broadcastInDim S2x64x64x4x128 ![0, 1, 2, 3, 4] bcast_S2x1x64x4x128_S2x64x64x4x128_0_1_2_3_4 (broadcastInDim S2x1x64x4x128 ![0, 2, 3, 4] bcast_S2x64x4x128_S2x1x64x4x128_0_2_3_4 (res_main_while0b_v26 V0))) (Host.exp (select (broadcastInDim S2x64x64x4x128 ![0, 1, 2, 3, 4] bcast_S1x64x64x1x1_S2x64x64x4x128_0_1_2_3_4 (V0 (Proc.devRef .tc main_v21_4))) (subf (broadcastInDim S2x64x64x4x128 ![0, 1, 2, 3, 4] bcast_S2x64x1x4x128_S2x64x64x4x128_0_1_2_3_4 (broadcastInDim S2x64x1x4x128 ![0, 1, 3, 4] bcast_S2x64x4x128_S2x64x1x4x128_0_1_3_4 (res_main_while0b_v29 V0))) (broadcastInDim S2x64x64x4x128 ![0, 1, 2, 3, 4] bcast_S2x1x64x4x128_S2x64x64x4x128_0_1_2_3_4 (broadcastInDim S2x1x64x4x128 ![0, 2, 3, 4] bcast_S2x64x4x128_S2x1x64x4x128_0_2_3_4 (res_main_while0b_v29 V0)))) (broadcastInDim S2x64x64x4x128 ![] bcast_S_S2x64x64x4x128 (id (constant S_ .f32 0xFF800000#32)))))) : (Proc.devRef .tc main_while0b_v40 : DevRef τ sig).ty.Contents (Elt F)) = Cert.ReferenceIdeal.Step.b41 j s := by
  unfold Cert.ReferenceIdeal.Step.b41
  rw [← al_5 h, ← al_40 h]
  try rfl
set_option maxRecDepth 8192 in
theorem al_42 (h : Holds V0 s j) : (Host.dotGeneral dot_S2x64x4x256_S2x4x64x64_S2x4x256x64_1_3_3_2_02_01 none (res_main_while0b_v27 V0) (Host.dotGeneral dot_S2x64x4x128_S2x64x64x4x128_S2x4x64x64_3_4_n_2_021_031 none (res_main_while0b_v25 V0) (mulf (broadcastInDim S2x64x64x4x128 ![0, 1, 2, 3, 4] bcast_S2x1x64x4x128_S2x64x64x4x128_0_1_2_3_4 (broadcastInDim S2x1x64x4x128 ![0, 2, 3, 4] bcast_S2x64x4x128_S2x1x64x4x128_0_2_3_4 (res_main_while0b_v26 V0))) (Host.exp (select (broadcastInDim S2x64x64x4x128 ![0, 1, 2, 3, 4] bcast_S1x64x64x1x1_S2x64x64x4x128_0_1_2_3_4 (V0 (Proc.devRef .tc main_v21_4))) (subf (broadcastInDim S2x64x64x4x128 ![0, 1, 2, 3, 4] bcast_S2x64x1x4x128_S2x64x64x4x128_0_1_2_3_4 (broadcastInDim S2x64x1x4x128 ![0, 1, 3, 4] bcast_S2x64x4x128_S2x64x1x4x128_0_1_3_4 (res_main_while0b_v29 V0))) (broadcastInDim S2x64x64x4x128 ![0, 1, 2, 3, 4] bcast_S2x1x64x4x128_S2x64x64x4x128_0_1_2_3_4 (broadcastInDim S2x1x64x4x128 ![0, 2, 3, 4] bcast_S2x64x4x128_S2x1x64x4x128_0_2_3_4 (res_main_while0b_v29 V0)))) (broadcastInDim S2x64x64x4x128 ![] bcast_S_S2x64x64x4x128 (id (constant S_ .f32 0xFF800000#32))))))) : (Proc.devRef .tc main_while0b_v41 : DevRef τ sig).ty.Contents (Elt F)) = Cert.ReferenceIdeal.Step.b42 j s := by
  unfold Cert.ReferenceIdeal.Step.b42
  rw [← al_17 h, ← al_41 h]
  try rfl
set_option maxRecDepth 8192 in
theorem al_43 (h : Holds V0 s j) : (transpose S2x64x4x256 [0, 3, 1, 2] (Host.dotGeneral dot_S2x64x4x256_S2x4x64x64_S2x4x256x64_1_3_3_2_02_01 none (res_main_while0b_v27 V0) (Host.dotGeneral dot_S2x64x4x128_S2x64x64x4x128_S2x4x64x64_3_4_n_2_021_031 none (res_main_while0b_v25 V0) (mulf (broadcastInDim S2x64x64x4x128 ![0, 1, 2, 3, 4] bcast_S2x1x64x4x128_S2x64x64x4x128_0_1_2_3_4 (broadcastInDim S2x1x64x4x128 ![0, 2, 3, 4] bcast_S2x64x4x128_S2x1x64x4x128_0_2_3_4 (res_main_while0b_v26 V0))) (Host.exp (select (broadcastInDim S2x64x64x4x128 ![0, 1, 2, 3, 4] bcast_S1x64x64x1x1_S2x64x64x4x128_0_1_2_3_4 (V0 (Proc.devRef .tc main_v21_4))) (subf (broadcastInDim S2x64x64x4x128 ![0, 1, 2, 3, 4] bcast_S2x64x1x4x128_S2x64x64x4x128_0_1_2_3_4 (broadcastInDim S2x64x1x4x128 ![0, 1, 3, 4] bcast_S2x64x4x128_S2x64x1x4x128_0_1_3_4 (res_main_while0b_v29 V0))) (broadcastInDim S2x64x64x4x128 ![0, 1, 2, 3, 4] bcast_S2x1x64x4x128_S2x64x64x4x128_0_1_2_3_4 (broadcastInDim S2x1x64x4x128 ![0, 2, 3, 4] bcast_S2x64x4x128_S2x1x64x4x128_0_2_3_4 (res_main_while0b_v29 V0)))) (broadcastInDim S2x64x64x4x128 ![] bcast_S_S2x64x64x4x128 (id (constant S_ .f32 0xFF800000#32)))))))) transposes_S2x4x256x64_S2x64x4x256_0_3_1_2 : (Proc.devRef .tc main_while0b_v42 : DevRef τ sig).ty.Contents (Elt F)) = Cert.ReferenceIdeal.Step.b43 j s := by
  unfold Cert.ReferenceIdeal.Step.b43
  rw [← al_42 h]
  try rfl
set_option maxRecDepth 8192 in
theorem al_44 (h : Holds V0 s j) : (Host.exp (res_main_while0b_v29 V0) : (Proc.devRef .tc main_while0b_v43 : DevRef τ sig).ty.Contents (Elt F)) = Cert.ReferenceIdeal.Step.b44 j s := by
  unfold Cert.ReferenceIdeal.Step.b44
  rw [← al_26 h]
  try rfl
set_option maxRecDepth 8192 in
theorem al_45 (h : Holds V0 s j) : (mulf (res_main_while0b_v25 V0) (Host.exp (res_main_while0b_v29 V0)) : (Proc.devRef .tc main_while0b_v44 : DevRef τ sig).ty.Contents (Elt F)) = Cert.ReferenceIdeal.Step.b45 j s := by
  unfold Cert.ReferenceIdeal.Step.b45
  rw [← al_5 h, ← al_44 h]
  try rfl
set_option maxRecDepth 8192 in
theorem al_46 (h : Holds V0 s j) : (Host.dotGeneral dot_S2x4x128x256_S2x64x4x128_S2x4x256x64_2_3_3_1_01_02 none (V0 (Proc.devRef .tc main_v21_6)) (mulf (res_main_while0b_v25 V0) (Host.exp (res_main_while0b_v29 V0))) : (Proc.devRef .tc main_while0b_v45 : DevRef τ sig).ty.Contents (Elt F)) = Cert.ReferenceIdeal.Step.b46 j s := by
  unfold Cert.ReferenceIdeal.Step.b46
  rw [← al_45 h, h.f_6]
  try rfl
set_option maxRecDepth 8192 in
theorem al_47 (h : Holds V0 s j) : (transpose S2x64x4x256 [0, 3, 1, 2] (Host.dotGeneral dot_S2x4x128x256_S2x64x4x128_S2x4x256x64_2_3_3_1_01_02 none (V0 (Proc.devRef .tc main_v21_6)) (mulf (res_main_while0b_v25 V0) (Host.exp (res_main_while0b_v29 V0)))) transposes_S2x4x256x64_S2x64x4x256_0_3_1_2 : (Proc.devRef .tc main_while0b_v46 : DevRef τ sig).ty.Contents (Elt F)) = Cert.ReferenceIdeal.Step.b47 j s := by
  unfold Cert.ReferenceIdeal.Step.b47
  rw [← al_46 h]
  try rfl
set_option maxRecDepth 8192 in
theorem al_48 (h : Holds V0 s j) : (addf (transpose S2x64x4x256 [0, 3, 1, 2] (Host.dotGeneral dot_S2x64x4x256_S2x4x64x64_S2x4x256x64_1_3_3_2_02_01 none (res_main_while0b_v27 V0) (Host.dotGeneral dot_S2x64x4x128_S2x64x64x4x128_S2x4x64x64_3_4_n_2_021_031 none (res_main_while0b_v25 V0) (mulf (broadcastInDim S2x64x64x4x128 ![0, 1, 2, 3, 4] bcast_S2x1x64x4x128_S2x64x64x4x128_0_1_2_3_4 (broadcastInDim S2x1x64x4x128 ![0, 2, 3, 4] bcast_S2x64x4x128_S2x1x64x4x128_0_2_3_4 (res_main_while0b_v26 V0))) (Host.exp (select (broadcastInDim S2x64x64x4x128 ![0, 1, 2, 3, 4] bcast_S1x64x64x1x1_S2x64x64x4x128_0_1_2_3_4 (V0 (Proc.devRef .tc main_v21_4))) (subf (broadcastInDim S2x64x64x4x128 ![0, 1, 2, 3, 4] bcast_S2x64x1x4x128_S2x64x64x4x128_0_1_2_3_4 (broadcastInDim S2x64x1x4x128 ![0, 1, 3, 4] bcast_S2x64x4x128_S2x64x1x4x128_0_1_3_4 (res_main_while0b_v29 V0))) (broadcastInDim S2x64x64x4x128 ![0, 1, 2, 3, 4] bcast_S2x1x64x4x128_S2x64x64x4x128_0_1_2_3_4 (broadcastInDim S2x1x64x4x128 ![0, 2, 3, 4] bcast_S2x64x4x128_S2x1x64x4x128_0_2_3_4 (res_main_while0b_v29 V0)))) (broadcastInDim S2x64x64x4x128 ![] bcast_S_S2x64x64x4x128 (id (constant S_ .f32 0xFF800000#32)))))))) transposes_S2x4x256x64_S2x64x4x256_0_3_1_2) (transpose S2x64x4x256 [0, 3, 1, 2] (Host.dotGeneral dot_S2x4x128x256_S2x64x4x128_S2x4x256x64_2_3_3_1_01_02 none (V0 (Proc.devRef .tc main_v21_6)) (mulf (res_main_while0b_v25 V0) (Host.exp (res_main_while0b_v29 V0)))) transposes_S2x4x256x64_S2x64x4x256_0_3_1_2) : (Proc.devRef .tc main_while0b_v47 : DevRef τ sig).ty.Contents (Elt F)) = Cert.ReferenceIdeal.Step.b48 j s := by
  unfold Cert.ReferenceIdeal.Step.b48
  rw [← al_43 h, ← al_47 h]
  try rfl
set_option maxRecDepth 8192 in
theorem al_49 (h : Holds V0 s j) : (extractStridedSlice S2x1x4x128 ![0, 63, 0, 0] (res_main_while0b_v29 V0) slices_S2x64x4x128_S2x1x4x128_0_63_0_0 : (Proc.devRef .tc main_while0b_v48 : DevRef τ sig).ty.Contents (Elt F)) = Cert.ReferenceIdeal.Step.b49 j s := by
  unfold Cert.ReferenceIdeal.Step.b49
  rw [← al_26 h]
  try rfl
set_option maxRecDepth 8192 in
theorem al_50 (h : Holds V0 s j) : (res_main_while0b_v49 V0 : (Proc.devRef .tc main_while0b_v49 : DevRef τ sig).ty.Contents (Elt F)) = Cert.ReferenceIdeal.Step.b50 j s := by
  unfold res_main_while0b_v49 Cert.ReferenceIdeal.Step.b50
  rw [← al_49 h]
  try rfl
set_option maxRecDepth 8192 in
theorem al_51 (h : Holds V0 s j) : (Host.exp (res_main_while0b_v49 V0) : (Proc.devRef .tc main_while0b_v50 : DevRef τ sig).ty.Contents (Elt F)) = Cert.ReferenceIdeal.Step.b51 j s := by
  unfold Cert.ReferenceIdeal.Step.b51
  rw [← al_50 h]
  try rfl
set_option maxRecDepth 8192 in
theorem al_52 (h : Holds V0 s j) : (broadcastInDim S2x4x128x1 ![0, 1, 2] bcast_S2x4x128_S2x4x128x1_0_1_2 (Host.exp (res_main_while0b_v49 V0)) : (Proc.devRef .tc main_while0b_v51 : DevRef τ sig).ty.Contents (Elt F)) = Cert.ReferenceIdeal.Step.b52 j s := by
  unfold Cert.ReferenceIdeal.Step.b52
  rw [← al_51 h]
  try rfl
set_option maxRecDepth 8192 in
theorem al_53 (h : Holds V0 s j) : (broadcastInDim S2x4x128x256 ![0, 1, 2, 3] bcast_S2x4x128x1_S2x4x128x256_0_1_2_3 (broadcastInDim S2x4x128x1 ![0, 1, 2] bcast_S2x4x128_S2x4x128x1_0_1_2 (Host.exp (res_main_while0b_v49 V0))) : (Proc.devRef .tc main_while0b_v52 : DevRef τ sig).ty.Contents (Elt F)) = Cert.ReferenceIdeal.Step.b53 j s := by
  unfold Cert.ReferenceIdeal.Step.b53
  rw [← al_52 h]
  try rfl
set_option maxRecDepth 8192 in
theorem al_54 (h : Holds V0 s j) : (mulf (broadcastInDim S2x4x128x256 ![0, 1, 2, 3] bcast_S2x4x128x1_S2x4x128x256_0_1_2_3 (broadcastInDim S2x4x128x1 ![0, 1, 2] bcast_S2x4x128_S2x4x128x1_0_1_2 (Host.exp (res_main_while0b_v49 V0)))) (V0 (Proc.devRef .tc main_v21_6)) : (Proc.devRef .tc main_while0b_v53 : DevRef τ sig).ty.Contents (Elt F)) = Cert.ReferenceIdeal.Step.b54 j s := by
  unfold Cert.ReferenceIdeal.Step.b54
  rw [← al_53 h, h.f_6]
  try rfl
set_option maxRecDepth 8192 in
theorem al_55 (h : Holds V0 s j) : (broadcastInDim S2x1x4x128 ![0, 2, 3] bcast_S2x4x128_S2x1x4x128_0_2_3 (res_main_while0b_v49 V0) : (Proc.devRef .tc main_while0b_v54 : DevRef τ sig).ty.Contents (Elt F)) = Cert.ReferenceIdeal.Step.b55 j s := by
  unfold Cert.ReferenceIdeal.Step.b55
  rw [← al_50 h]
  try rfl
set_option maxRecDepth 8192 in
theorem al_56 (h : Holds V0 s j) : (broadcastInDim S2x64x4x128 ![0, 1, 2, 3] bcast_S2x1x4x128_S2x64x4x128_0_1_2_3 (broadcastInDim S2x1x4x128 ![0, 2, 3] bcast_S2x4x128_S2x1x4x128_0_2_3 (res_main_while0b_v49 V0)) : (Proc.devRef .tc main_while0b_v55 : DevRef τ sig).ty.Contents (Elt F)) = Cert.ReferenceIdeal.Step.b56 j s := by
  unfold Cert.ReferenceIdeal.Step.b56
  rw [← al_55 h]
  try rfl
set_option maxRecDepth 8192 in
theorem al_57 (h : Holds V0 s j) : (subf (broadcastInDim S2x64x4x128 ![0, 1, 2, 3] bcast_S2x1x4x128_S2x64x4x128_0_1_2_3 (broadcastInDim S2x1x4x128 ![0, 2, 3] bcast_S2x4x128_S2x1x4x128_0_2_3 (res_main_while0b_v49 V0))) (res_main_while0b_v29 V0) : (Proc.devRef .tc main_while0b_v56 : DevRef τ sig).ty.Contents (Elt F)) = Cert.ReferenceIdeal.Step.b57 j s := by
  unfold Cert.ReferenceIdeal.Step.b57
  rw [← al_56 h, ← al_26 h]
  try rfl
set_option maxRecDepth 8192 in
theorem al_58 (h : Holds V0 s j) : (Host.exp (subf (broadcastInDim S2x64x4x128 ![0, 1, 2, 3] bcast_S2x1x4x128_S2x64x4x128_0_1_2_3 (broadcastInDim S2x1x4x128 ![0, 2, 3] bcast_S2x4x128_S2x1x4x128_0_2_3 (res_main_while0b_v49 V0))) (res_main_while0b_v29 V0)) : (Proc.devRef .tc main_while0b_v57 : DevRef τ sig).ty.Contents (Elt F)) = Cert.ReferenceIdeal.Step.b58 j s := by
  unfold Cert.ReferenceIdeal.Step.b58
  rw [← al_57 h]
  try rfl
set_option maxRecDepth 8192 in
theorem al_59 (h : Holds V0 s j) : (mulf (res_main_while0b_v26 V0) (Host.exp (subf (broadcastInDim S2x64x4x128 ![0, 1, 2, 3] bcast_S2x1x4x128_S2x64x4x128_0_1_2_3 (broadcastInDim S2x1x4x128 ![0, 2, 3] bcast_S2x4x128_S2x1x4x128_0_2_3 (res_main_while0b_v49 V0))) (res_main_while0b_v29 V0))) : (Proc.devRef .tc main_while0b_v58 : DevRef τ sig).ty.Contents (Elt F)) = Cert.ReferenceIdeal.Step.b59 j s := by
  unfold Cert.ReferenceIdeal.Step.b59
  rw [← al_11 h, ← al_58 h]
  try rfl
set_option maxRecDepth 8192 in
theorem al_60 (h : Holds V0 s j) : (Host.dotGeneral dot_S2x64x4x128_S2x64x4x256_S2x4x128x256_1_1_3_3_02_02 none (mulf (res_main_while0b_v26 V0) (Host.exp (subf (broadcastInDim S2x64x4x128 ![0, 1, 2, 3] bcast_S2x1x4x128_S2x64x4x128_0_1_2_3 (broadcastInDim S2x1x4x128 ![0, 2, 3] bcast_S2x4x128_S2x1x4x128_0_2_3 (res_main_while0b_v49 V0))) (res_main_while0b_v29 V0)))) (res_main_while0b_v27 V0) : (Proc.devRef .tc main_while0b_v59 : DevRef τ sig).ty.Contents (Elt F)) = Cert.ReferenceIdeal.Step.b60 j s := by
  unfold Cert.ReferenceIdeal.Step.b60
  rw [← al_59 h, ← al_17 h]
  try rfl
set_option maxRecDepth 8192 in
theorem al_61 (h : Holds V0 s j) : (addf (mulf (broadcastInDim S2x4x128x256 ![0, 1, 2, 3] bcast_S2x4x128x1_S2x4x128x256_0_1_2_3 (broadcastInDim S2x4x128x1 ![0, 1, 2] bcast_S2x4x128_S2x4x128x1_0_1_2 (Host.exp (res_main_while0b_v49 V0)))) (V0 (Proc.devRef .tc main_v21_6))) (Host.dotGeneral dot_S2x64x4x128_S2x64x4x256_S2x4x128x256_1_1_3_3_02_02 none (mulf (res_main_while0b_v26 V0) (Host.exp (subf (broadcastInDim S2x64x4x128 ![0, 1, 2, 3] bcast_S2x1x4x128_S2x64x4x128_0_1_2_3 (broadcastInDim S2x1x4x128 ![0, 2, 3] bcast_S2x4x128_S2x1x4x128_0_2_3 (res_main_while0b_v49 V0))) (res_main_while0b_v29 V0)))) (res_main_while0b_v27 V0)) : (Proc.devRef .tc main_while0b_v60 : DevRef τ sig).ty.Contents (Elt F)) = Cert.ReferenceIdeal.Step.b61 j s := by
  unfold Cert.ReferenceIdeal.Step.b61
  rw [← al_54 h, ← al_60 h]
  try rfl
set_option maxRecDepth 8192 in
theorem al_62 (h : Holds V0 s j) : (broadcastInDim S1x2x64x4x256 ![1, 2, 3, 4] bcast_S2x64x4x256_S1x2x64x4x256_1_2_3_4 (addf (transpose S2x64x4x256 [0, 3, 1, 2] (Host.dotGeneral dot_S2x64x4x256_S2x4x64x64_S2x4x256x64_1_3_3_2_02_01 none (res_main_while0b_v27 V0) (Host.dotGeneral dot_S2x64x4x128_S2x64x64x4x128_S2x4x64x64_3_4_n_2_021_031 none (res_main_while0b_v25 V0) (mulf (broadcastInDim S2x64x64x4x128 ![0, 1, 2, 3, 4] bcast_S2x1x64x4x128_S2x64x64x4x128_0_1_2_3_4 (broadcastInDim S2x1x64x4x128 ![0, 2, 3, 4] bcast_S2x64x4x128_S2x1x64x4x128_0_2_3_4 (res_main_while0b_v26 V0))) (Host.exp (select (broadcastInDim S2x64x64x4x128 ![0, 1, 2, 3, 4] bcast_S1x64x64x1x1_S2x64x64x4x128_0_1_2_3_4 (V0 (Proc.devRef .tc main_v21_4))) (subf (broadcastInDim S2x64x64x4x128 ![0, 1, 2, 3, 4] bcast_S2x64x1x4x128_S2x64x64x4x128_0_1_2_3_4 (broadcastInDim S2x64x1x4x128 ![0, 1, 3, 4] bcast_S2x64x4x128_S2x64x1x4x128_0_1_3_4 (res_main_while0b_v29 V0))) (broadcastInDim S2x64x64x4x128 ![0, 1, 2, 3, 4] bcast_S2x1x64x4x128_S2x64x64x4x128_0_1_2_3_4 (broadcastInDim S2x1x64x4x128 ![0, 2, 3, 4] bcast_S2x64x4x128_S2x1x64x4x128_0_2_3_4 (res_main_while0b_v29 V0)))) (broadcastInDim S2x64x64x4x128 ![] bcast_S_S2x64x64x4x128 (id (constant S_ .f32 0xFF800000#32)))))))) transposes_S2x4x256x64_S2x64x4x256_0_3_1_2) (transpose S2x64x4x256 [0, 3, 1, 2] (Host.dotGeneral dot_S2x4x128x256_S2x64x4x128_S2x4x256x64_2_3_3_1_01_02 none (V0 (Proc.devRef .tc main_v21_6)) (mulf (res_main_while0b_v25 V0) (Host.exp (res_main_while0b_v29 V0)))) transposes_S2x4x256x64_S2x64x4x256_0_3_1_2)) : (Proc.devRef .tc main_while0b_call7_v0 : DevRef τ sig).ty.Contents (Elt F)) = Cert.ReferenceIdeal.Step.b62 j s := by
  unfold Cert.ReferenceIdeal.Step.b62
  rw [← al_48 h]
  try rfl
set_option maxRecDepth 8192 in
theorem al_63 (h : Holds V0 s j) : (constantI S_ 32 0#32 : (Proc.devRef .tc main_while0b_call7_c : DevRef τ sig).ty.Contents (Elt F)) = Cert.ReferenceIdeal.Step.b63 j s := by
  unfold Cert.ReferenceIdeal.Step.b63
  rfl
set_option maxRecDepth 8192 in
theorem al_64 (h : Holds V0 s j) : (constantI S_ 32 0#32 : (Proc.devRef .tc main_while0b_call7_c_0 : DevRef τ sig).ty.Contents (Elt F)) = Cert.ReferenceIdeal.Step.b64 j s := by
  unfold Cert.ReferenceIdeal.Step.b64
  rfl
set_option maxRecDepth 8192 in
theorem al_65 (h : Holds V0 s j) : (constantI S_ 32 0#32 : (Proc.devRef .tc main_while0b_call7_c_1 : DevRef τ sig).ty.Contents (Elt F)) = Cert.ReferenceIdeal.Step.b65 j s := by
  unfold Cert.ReferenceIdeal.Step.b65
  rfl
set_option maxRecDepth 8192 in
theorem al_66 (h : Holds V0 s j) : (constantI S_ 32 0#32 : (Proc.devRef .tc main_while0b_call7_c_2 : DevRef τ sig).ty.Contents (Elt F)) = Cert.ReferenceIdeal.Step.b66 j s := by
  unfold Cert.ReferenceIdeal.Step.b66
  rfl
set_option maxRecDepth 8192 in
theorem al_67 (h : Holds V0 s j) : (Host.dynamicUpdateSlice (V0 (Proc.devRef .tc main_v21_7)) (broadcastInDim S1x2x64x4x256 ![1, 2, 3, 4] bcast_S2x64x4x256_S1x2x64x4x256_1_2_3_4 (addf (transpose S2x64x4x256 [0, 3, 1, 2] (Host.dotGeneral dot_S2x64x4x256_S2x4x64x64_S2x4x256x64_1_3_3_2_02_01 none (res_main_while0b_v27 V0) (Host.dotGeneral dot_S2x64x4x128_S2x64x64x4x128_S2x4x64x64_3_4_n_2_021_031 none (res_main_while0b_v25 V0) (mulf (broadcastInDim S2x64x64x4x128 ![0, 1, 2, 3, 4] bcast_S2x1x64x4x128_S2x64x64x4x128_0_1_2_3_4 (broadcastInDim S2x1x64x4x128 ![0, 2, 3, 4] bcast_S2x64x4x128_S2x1x64x4x128_0_2_3_4 (res_main_while0b_v26 V0))) (Host.exp (select (broadcastInDim S2x64x64x4x128 ![0, 1, 2, 3, 4] bcast_S1x64x64x1x1_S2x64x64x4x128_0_1_2_3_4 (V0 (Proc.devRef .tc main_v21_4))) (subf (broadcastInDim S2x64x64x4x128 ![0, 1, 2, 3, 4] bcast_S2x64x1x4x128_S2x64x64x4x128_0_1_2_3_4 (broadcastInDim S2x64x1x4x128 ![0, 1, 3, 4] bcast_S2x64x4x128_S2x64x1x4x128_0_1_3_4 (res_main_while0b_v29 V0))) (broadcastInDim S2x64x64x4x128 ![0, 1, 2, 3, 4] bcast_S2x1x64x4x128_S2x64x64x4x128_0_1_2_3_4 (broadcastInDim S2x1x64x4x128 ![0, 2, 3, 4] bcast_S2x64x4x128_S2x1x64x4x128_0_2_3_4 (res_main_while0b_v29 V0)))) (broadcastInDim S2x64x64x4x128 ![] bcast_S_S2x64x64x4x128 (id (constant S_ .f32 0xFF800000#32)))))))) transposes_S2x4x256x64_S2x64x4x256_0_3_1_2) (transpose S2x64x4x256 [0, 3, 1, 2] (Host.dotGeneral dot_S2x4x128x256_S2x64x4x128_S2x4x256x64_2_3_3_1_01_02 none (V0 (Proc.devRef .tc main_v21_6)) (mulf (res_main_while0b_v25 V0) (Host.exp (res_main_while0b_v29 V0)))) transposes_S2x4x256x64_S2x64x4x256_0_3_1_2))) (fun k => (((![V0 (Proc.devRef .tc main_v21_5), constantI S_ 32 0#32, constantI S_ 32 0#32, constantI S_ 32 0#32, constantI S_ 32 0#32] : Fin 5 → (⟨S_, .i32⟩ : BufTy).Contents (Elt F))) k (Shape.Idx.first h_S_)).toInt) updateFits_S128x2x64x4x256_S1x2x64x4x256 : (Proc.devRef .tc main_while0b_v61 : DevRef τ sig).ty.Contents (Elt F)) = Cert.ReferenceIdeal.Step.b67 j s := by
  unfold Cert.ReferenceIdeal.Step.b67
  rw [← al_62 h, ← al_63 h, ← al_64 h, ← al_65 h, ← al_66 h, h.f_7, h.n_5]
  try rfl

/-! One trip's step of the carried values is `step`, field by field; a counter steps to the next number. -/

theorem step_6 (h : Holds V0 s j) : step_main_v21_6 V0 = (step j s).main_v21_6 := by
  unfold step_main_v21_6 Cert.ReferenceIdeal.Step.step
  show id (addf (mulf (broadcastInDim S2x4x128x256 ![0, 1, 2, 3] bcast_S2x4x128x1_S2x4x128x256_0_1_2_3 (broadcastInDim S2x4x128x1 ![0, 1, 2] bcast_S2x4x128_S2x4x128x1_0_1_2 (Host.exp (res_main_while0b_v49 V0)))) (V0 (Proc.devRef .tc main_v21_6))) (Host.dotGeneral dot_S2x64x4x128_S2x64x4x256_S2x4x128x256_1_1_3_3_02_02 none (mulf (res_main_while0b_v26 V0) (Host.exp (subf (broadcastInDim S2x64x4x128 ![0, 1, 2, 3] bcast_S2x1x4x128_S2x64x4x128_0_1_2_3 (broadcastInDim S2x1x4x128 ![0, 2, 3] bcast_S2x4x128_S2x1x4x128_0_2_3 (res_main_while0b_v49 V0))) (res_main_while0b_v29 V0)))) (res_main_while0b_v27 V0))) = _
  rw [al_61 h]
  try rfl
theorem step_7 (h : Holds V0 s j) : step_main_v21_7 V0 = (step j s).main_v21_7 := by
  unfold step_main_v21_7 Cert.ReferenceIdeal.Step.step
  exact al_67 h
theorem step_5 (h : Holds V0 s j) : step_main_v21_5 V0 = constantI S_ 32 (BitVec.ofNat 32 (j + 1)) := by
  unfold step_main_v21_5
  rw [h.n_5]
  funext i
  show BitVec.ofNat 32 j + 1#32 = BitVec.ofNat 32 (j + 1)
  simp only [BitVec.ofNat_add]

set_option maxRecDepth 8192 in
theorem out_main_v24_holds (h : Holds V0 s j) : out_main_v24 V0 = Cert.ReferenceIdeal.Step.R_main_v24 s := by
  unfold out_main_v24 Cert.ReferenceIdeal.Step.R_main_v24
  rw [h.f_7]
  try rfl

/-- One trip keeps the valuation holding: `step` of the state, the same set-up values, the next number. -/
theorem holds_step (h : Holds V0 s j) : Holds (STEP V0) (step j s) (j + 1) where
  f_6 := (STEP_main_v21_6 V0).trans (step_6 h)
  f_7 := (STEP_main_v21_7 V0).trans (step_7 h)
  n_5 := (STEP_main_v21_5 V0).trans (step_5 h)
  k_4 := (STEP_main_v21_4 V0).trans h.k_4
  f_0 := (STEP_main_v21_0 V0).trans h.f_0
  f_1 := (STEP_main_v21_1 V0).trans h.f_1
  f_2 := (STEP_main_v21_2 V0).trans h.f_2
  f_3 := (STEP_main_v21_3 V0).trans h.f_3

/-- The state the first trip starts from, of the memory the run starts from. -/
abbrev initState (m : (ℓ : Loc nD τ sig) → Buf (Elt F) ℓ) (c : Dev nD) : State F :=
  init (m ((c.tc : Thread nD τ).loc main_arg3)) (m ((c.tc : Thread nD τ).loc main_arg0)) (m ((c.tc : Thread nD τ).loc main_arg1)) (m ((c.tc : Thread nD τ).loc main_arg2))

variable (m : (ℓ : Loc nD τ sig) → Buf (Elt F) ℓ) (c : Dev nD)

set_option maxRecDepth 65536 in
set_option maxHeartbeats 400000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 128 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v24) = Cert.ReferenceIdeal.Step.R_main_v24 (it c 128)
      ∧ r.2.mem ((c.tc : Thread nD τ).loc main_v21_6) = (it c 128).main_v21_6
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    have hk := holds_iter m c (it c) (h0 c) (hs c) 128
    ⟨(h c).1.trans (out_main_v24_holds hk), (h c).2.1.trans hk.f_6, (h c).2.2.1, (h c).2.2.2.1, (h c).2.2.2.2.1, (h c).2.2.2.2.2⟩) (Value.run m ρ)

end Cert.ReferenceIdeal.Trips

end
-- ==== Proof.RefStep.lean ====
/- One trip of the reference's loop on extended reals, read at an index: the recurrence of Math.lean. -/
module

public import proofs.«01_k».proof.Proof.Window
public import proofs.«01_k».proof.Proof.Math
public import proofs.«01_k».proof.Proof.RefRun
public import Idealize.ShloMosaic.Lib.DynamicIndex
public import Idealize.ShloMosaic.Lib.Pipeline.ValueKit

@[expose] public section

set_option maxRecDepth 16384

noncomputable section

namespace Cert.ReferenceIdeal.Rec

open Cert.ReferenceIdeal Cert.ReferenceIdeal.Gen Cert.ReferenceIdeal.Step Idealize.ShloMosaic Idealize.ShloMosaic.Tactic

variable (j : ℕ) (hj : j < 128) (s : State Ideal)

/-- The start of a trip's slices: the trip's number on the leading axis, zero on the others. -/
theorem start_eq (hj : j < 128) (z1 z2 z3 z4 : (⟨S_, .i32⟩ : BufTy).Contents (Elt Ideal)) (h1 : z1 = constantI S_ 32 0#32) (h2 : z2 = constantI S_ 32 0#32)
    (h3 : z3 = constantI S_ 32 0#32) (h4 : z4 = constantI S_ 32 0#32) (a : Fin 5) :
    (((![(constantI S_ 32 (BitVec.ofNat 32 j) : (⟨S_, .i32⟩ : BufTy).Contents (Elt Ideal)), z1, z2, z3, z4] : Fin 5 → (⟨S_, .i32⟩ : BufTy).Contents (Elt Ideal))) a (Shape.Idx.first h_S_)).toInt
      = (((![j, 0, 0, 0, 0] : Fin 5 → ℕ) a : ℕ) : Int) := by
  subst h1 h2 h3 h4
  match a with
  | ⟨0, _⟩ => exact toInt_ofNat_of_lt (by omega)
  | ⟨1, _⟩ => rfl
  | ⟨2, _⟩ => rfl
  | ⟨3, _⟩ => rfl
  | ⟨4, _⟩ => rfl

theorem fits128 (hj : j < 128) : S128x2x64x4x128.Slices ![j, 0, 0, 0, 0] S1x2x64x4x128 :=
  ⟨rfl, fun a => match a with
    | ⟨0, _⟩ => (by show j + 1 ≤ 128; omega)
    | ⟨1, _⟩ => (by show 0 + 2 ≤ 2; omega)
    | ⟨2, _⟩ => (by show 0 + 64 ≤ 64; omega)
    | ⟨3, _⟩ => (by show 0 + 4 ≤ 4; omega)
    | ⟨4, _⟩ => (by show 0 + 128 ≤ 128; omega)⟩

theorem fits256 (hj : j < 128) : S128x2x64x4x256.Slices ![j, 0, 0, 0, 0] S1x2x64x4x256 :=
  ⟨rfl, fun a => match a with
    | ⟨0, _⟩ => (by show j + 1 ≤ 128; omega)
    | ⟨1, _⟩ => (by show 0 + 2 ≤ 2; omega)
    | ⟨2, _⟩ => (by show 0 + 64 ≤ 64; omega)
    | ⟨3, _⟩ => (by show 0 + 4 ≤ 4; omega)
    | ⟨4, _⟩ => (by show 0 + 256 ≤ 256; omega)⟩

include hj in
theorem q_at (b : Fin 2) (t : Fin 64) (h : Fin 4) (d : Fin 128) : (b5 j s (ix4 b t h d) : EReal) = s.main_v21_0 (ix5 ⟨j, hj⟩ b t h d) := by
  unfold b5 b4
  rw [Host.dynamicSlice_eq_extractStridedSlice _ _ _ ![j, 0, 0, 0, 0] _ (fits128 j hj) (start_eq j hj _ _ _ _ rfl rfl rfl rfl)]
  pointwise []

include hj in
theorem k_at (b : Fin 2) (t : Fin 64) (h : Fin 4) (d : Fin 128) : (b11 j s (ix4 b t h d) : EReal) = s.main_v21_1 (ix5 ⟨j, hj⟩ b t h d) := by
  unfold b11 b10
  rw [Host.dynamicSlice_eq_extractStridedSlice _ _ _ ![j, 0, 0, 0, 0] _ (fits128 j hj) (start_eq j hj _ _ _ _ rfl rfl rfl rfl)]
  pointwise []

include hj in
theorem v_at (b : Fin 2) (t : Fin 64) (h : Fin 4) (d : Fin 256) : (b17 j s (ix4 b t h d) : EReal) = s.main_v21_2 (ix5 ⟨j, hj⟩ b t h d) := by
  unfold b17 b16
  rw [Host.dynamicSlice_eq_extractStridedSlice _ _ _ ![j, 0, 0, 0, 0] _ (fits256 j hj) (start_eq j hj _ _ _ _ rfl rfl rfl rfl)]
  pointwise []

include hj in
theorem la_at (b : Fin 2) (t : Fin 64) (h : Fin 4) (d : Fin 128) : (b23 j s (ix4 b t h d) : EReal) = s.main_v21_3 (ix5 ⟨j, hj⟩ b t h d) := by
  unfold b23 b22
  rw [Host.dynamicSlice_eq_extractStridedSlice _ _ _ ![j, 0, 0, 0, 0] _ (fits128 j hj) (start_eq j hj _ _ _ _ rfl rfl rfl rfl)]
  pointwise []

/-- The chunk's operands of one sequence and head. -/
abbrev qR (b : Fin 2) (h : Fin 4) (t : Fin 64) (d : Fin 128) : EReal := b5 j s (ix4 b t h d)
abbrev kR (b : Fin 2) (h : Fin 4) (t : Fin 64) (d : Fin 128) : EReal := b11 j s (ix4 b t h d)
abbrev vR (b : Fin 2) (h : Fin 4) (t : Fin 64) (d : Fin 256) : EReal := b17 j s (ix4 b t h d)
abbrev laR (b : Fin 2) (h : Fin 4) (t : Fin 64) (d : Fin 128) : EReal := b23 j s (ix4 b t h d)
abbrev sR (b : Fin 2) (h : Fin 4) (d : Fin 128) (c : Fin 256) : EReal := s.main_v21_6 (ix4 b h d c)

theorem zero_at (i : S_.Idx) : (b25 j s i : EReal) = 0 := by
  pointwise [b25, b24]

/-- The running sums of the decays. -/
theorem cum_at (b : Fin 2) (t : Fin 64) (h : Fin 4) (d : Fin 128) : (b26 j s (ix4 b t h d) : EReal) = Math.cum (laR j s b h) t d :=
  Math.running_sum (n := 63) (b23 j s) _ (zero_at j s _) reduceWindows_S2x64x4x128_S2x64x4x128_w1s1p0_0_w64s1p63_0_w1s1p0_0_w1s1p0_0 b t h d

theorem mask_at (t u : Fin 64) : K_main_v8 (F := Ideal) (ix5 0 t u 0 0) = if u ≤ t then 1#1 else 0#1 := by
  pointwise [K_main_v8, K_main_v7, K_main_call0_v4, K_main_call0_v2, K_main_call0_v0, K_main_call0_v1, K_main_call0_c, K_main_call0_v3, K_main_v6, K_main_c, K_main_call0_v5, K_main_call0_c_0]
  revert t u
  decide +kernel

theorem decay_at (b : Fin 2) (t u : Fin 64) (h : Fin 4) (d : Fin 128) :
    (b37 j s (ix5 b t u h d) : EReal) = if u ≤ t then Ideal.exp (Math.cum (laR j s b h) t d - Math.cum (laR j s b h) u d) else 0 := by
  pointwise [b37, b36, b34, b31, b35, b33, b32, b29, b30, b27, b28]
  rw [mask_at, cum_at, cum_at]
  by_cases hu : u ≤ t
  · rw [if_pos hu, if_pos hu]
    rfl
  · rw [if_neg hu, if_neg hu]
    have e : Ideal.ofBits .f32 0xFF800000#32 = ⊥ := by simp [Ideal.ofBits, Ideal.ieee]
    exact congrArg Ideal.exp e

theorem score_at (b : Fin 2) (h : Fin 4) (t u : Fin 64) :
    (b41 j s (ix4 b h t u) : EReal) = Math.score (laR j s b h) (qR j s b h) (kR j s b h) t u := by
  pointwise [b41, b40, b39, b38]
  unfold Math.score
  by_cases hu : u ≤ t
  · rw [if_pos hu]
    refine Finset.sum_congr rfl fun d _ => ?_
    rw [decay_at, if_pos hu]
    ac_rfl
  · rw [if_neg hu]
    refine Finset.sum_eq_zero fun d _ => ?_
    rw [decay_at, if_neg hu, mul_zero, mul_zero]

theorem out_at (b : Fin 2) (t : Fin 64) (h : Fin 4) (c : Fin 256) :
    (b48 j s (ix4 b t h c) : EReal) = Math.out (laR j s b h) (qR j s b h) (kR j s b h) (vR j s b h) (sR s b h) t c := by
  pointwise [b48, b43, b42, b47, b46, b45, b44]
  unfold Math.out
  simp only [score_at, cum_at]

theorem end_at (b : Fin 2) (h : Fin 4) (d : Fin 128) : (b50 j s (ix3 b h d) : EReal) = Math.cum (laR j s b h) 63 d := by
  pointwise [b50, b49]
  exact cum_at j s b 63 h d

theorem next_at (b : Fin 2) (h : Fin 4) (d : Fin 128) (c : Fin 256) :
    (b61 j s (ix4 b h d c) : EReal) = Math.next (laR j s b h) (kR j s b h) (vR j s b h) (sR s b h) d c := by
  pointwise [b61, b54, b53, b52, b51, b60, b59, b58, b57, b56, b55]
  unfold Math.next
  simp only [end_at, cum_at]

end Cert.ReferenceIdeal.Rec

end
-- ==== Proof.RefArrays.lean ====
/- What the reference's two results are, on extended reals: the recurrence of Spec.lean over the arguments, by induction
   over the loop's trips. -/
module

public import proofs.«01_k».proof.Proof.RefStep
public import proofs.«01_k».proof.Proof.Spec

@[expose] public section

set_option maxRecDepth 16384

noncomputable section

namespace Cert.ReferenceIdeal.Rec

open Cert.ReferenceIdeal Cert.ReferenceIdeal.Gen Cert.ReferenceIdeal.Step Cert.ReferenceIdeal.Trips Idealize.ShloMosaic Idealize.ShloMosaic.TcCoe Idealize.ShloMosaic.Tactic
open Idealize.SL.Sem

variable (A0 : (⟨S16384x1024, .bf16⟩ : BufTy).Contents (Elt Ideal)) (A1 : (⟨S16384x1024, .bf16⟩ : BufTy).Contents (Elt Ideal))
  (A2 : (⟨S16384x512, .f32⟩ : BufTy).Contents (Elt Ideal)) (A3 : (⟨S2x4x128x256, .f32⟩ : BufTy).Contents (Elt Ideal))

abbrev chunk (b : Fin 2) (n : Fin 128) : Fin 256 := ⟨128 * b.val + n.val, by omega⟩

theorem init_q (n : Fin 128) (b : Fin 2) (t : Fin 64) (h : Fin 4) (d : Fin 128) :
    (A_main_v11 A0 A1 A2 (ix5 n b t h d) : EReal) = Math.qC A0 (chunk b n) h t d := by
  pointwise [A_main_v11, A_main_v10, A_main_v9, A_main_v1, A_main_v0]
  exact congrArg A0 (congrArg₂ ix2 (Fin.ext (by simp only []; omega)) (Fin.ext (by simp only []; omega)))

theorem init_k (n : Fin 128) (b : Fin 2) (t : Fin 64) (h : Fin 4) (d : Fin 128) :
    (A_main_v14 A0 A1 A2 (ix5 n b t h d) : EReal) = Math.kC A0 (chunk b n) h t d := by
  pointwise [A_main_v14, A_main_v13, A_main_v12, A_main_v3, A_main_v2]
  exact congrArg A0 (congrArg₂ ix2 (Fin.ext (by simp only []; omega)) (Fin.ext (by simp only []; omega)))

theorem init_v (n : Fin 128) (b : Fin 2) (t : Fin 64) (h : Fin 4) (d : Fin 256) :
    (A_main_v17 A0 A1 A2 (ix5 n b t h d) : EReal) = Math.vC A1 (chunk b n) h t d := by
  pointwise [A_main_v17, A_main_v16, A_main_v15, A_main_v4]
  exact congrArg A1 (congrArg₂ ix2 (Fin.ext (by simp only []; omega)) (Fin.ext (by simp only []; omega)))

theorem init_la (n : Fin 128) (b : Fin 2) (t : Fin 64) (h : Fin 4) (d : Fin 128) :
    (A_main_v19 A0 A1 A2 (ix5 n b t h d) : EReal) = Math.laC A2 (chunk b n) h t d := by
  pointwise [A_main_v19, A_main_v18, A_main_v5]
  exact congrArg A2 (congrArg₂ ix2 (Fin.ext (by simp only []; omega)) (Fin.ext (by simp only []; omega)))

/-- The states of the trips. -/
def it : ℕ → State Ideal
  | 0 => init A3 A0 A1 A2
  | n + 1 => step n (it n)

theorem it_q (n : ℕ) : (it A0 A1 A2 A3 n).main_v21_0 = A_main_v11 A0 A1 A2 := by
  induction n with
  | zero => rfl
  | succ n ih => exact ih

theorem it_k (n : ℕ) : (it A0 A1 A2 A3 n).main_v21_1 = A_main_v14 A0 A1 A2 := by
  induction n with
  | zero => rfl
  | succ n ih => exact ih

theorem it_v (n : ℕ) : (it A0 A1 A2 A3 n).main_v21_2 = A_main_v17 A0 A1 A2 := by
  induction n with
  | zero => rfl
  | succ n ih => exact ih

theorem it_la (n : ℕ) : (it A0 A1 A2 A3 n).main_v21_3 = A_main_v19 A0 A1 A2 := by
  induction n with
  | zero => rfl
  | succ n ih => exact ih

section trip

variable (n : ℕ) (hn : n < 128) (b : Fin 2) (h : Fin 4)

theorem q_it : qR n (it A0 A1 A2 A3 n) b h = Math.qC A0 (chunk b ⟨n, hn⟩) h := by
  funext t d
  rw [qR, q_at n hn, it_q, init_q]

theorem k_it : kR n (it A0 A1 A2 A3 n) b h = Math.kC A0 (chunk b ⟨n, hn⟩) h := by
  funext t d
  rw [kR, k_at n hn, it_k, init_k]

theorem v_it : vR n (it A0 A1 A2 A3 n) b h = Math.vC A1 (chunk b ⟨n, hn⟩) h := by
  funext t d
  rw [vR, v_at n hn, it_v, init_v]

theorem la_it : laR n (it A0 A1 A2 A3 n) b h = Math.laC A2 (chunk b ⟨n, hn⟩) h := by
  funext t d
  rw [laR, la_at n hn, it_la, init_la]

end trip

/-- The state before each trip. -/
theorem s_it (n : ℕ) (hn : n ≤ 128) (b : Fin 2) (h : Fin 4) : sR (it A0 A1 A2 A3 n) b h = Math.state A0 A1 A2 A3 b h n := by
  induction n with
  | zero => rfl
  | succ n ih =>
    funext d c
    refine (next_at n (it A0 A1 A2 A3 n) b h d c).trans ?_
    rw [la_it A0 A1 A2 A3 n (by omega), k_it A0 A1 A2 A3 n (by omega), v_it A0 A1 A2 A3 n (by omega), ih (by omega), Math.state_succ _ _ _ _ _ _ _ (by omega)]

theorem b67_eq (n : ℕ) (hn : n < 128) (s : State Ideal) : b67 n s = updateSlice s.main_v21_7 (b62 n s) ![n, 0, 0, 0, 0] (fits256 n hn) := by
  unfold b67
  refine Host.dynamicUpdateSlice_eq_updateSlice _ _ _ _ _ (fun a => ?_) (fits256 n hn)
  rw [start_eq n hn (b63 n s) (b64 n s) (b65 n s) (b66 n s) rfl rfl rfl rfl a]
  have := (fits256 n hn).2 a
  exact (by omega : ∀ k m : ℕ, k ≤ m → (min (max (k : Int) 0) (m : Int)).toNat = k) _ _ (by
    match a with
    | ⟨0, _⟩ => show n ≤ 128 - 1; omega
    | ⟨1, _⟩ => exact Nat.zero_le _
    | ⟨2, _⟩ => exact Nat.zero_le _
    | ⟨3, _⟩ => exact Nat.zero_le _
    | ⟨4, _⟩ => exact Nat.zero_le _)

/-- One trip writes its chunk's rows, -/
theorem row_hit (n : ℕ) (hn : n < 128) (s : State Ideal) (b : Fin 2) (t : Fin 64) (h : Fin 4) (c : Fin 256) :
    (b67 n s (ix5 ⟨n, hn⟩ b t h c) : EReal) = b48 n s (ix4 b t h c) := by
  have hb := b.isLt
  have ht := t.isLt
  have hh := h.isLt
  have hc := c.isLt
  rw [b67_eq n hn]
  refine (dif_pos (fun a => ?_)).trans ?_
  · match a with
    | ⟨0, _⟩ => show n ≤ n ∧ n < n + 1; omega
    | ⟨1, _⟩ => show 0 ≤ b.val ∧ b.val < 0 + 2; omega
    | ⟨2, _⟩ => show 0 ≤ t.val ∧ t.val < 0 + 64; omega
    | ⟨3, _⟩ => show 0 ≤ h.val ∧ h.val < 0 + 4; omega
    | ⟨4, _⟩ => show 0 ≤ c.val ∧ c.val < 0 + 256; omega
  · refine (congrArg (b62 n s) (a₂ := ix5 0 b t h c) (funext fun a => Fin.ext ?_)).trans ?_
    · match a with
      | ⟨0, _⟩ => show n - n = 0; omega
      | ⟨1, _⟩ => exact Nat.sub_zero _
      | ⟨2, _⟩ => exact Nat.sub_zero _
      | ⟨3, _⟩ => exact Nat.sub_zero _
      | ⟨4, _⟩ => exact Nat.sub_zero _
    · pointwise [b62]

/-- and leaves the others. -/
theorem row_miss (n : ℕ) (hn : n < 128) (s : State Ideal) (i : Fin 128) (hi : i.val ≠ n) (b : Fin 2) (t : Fin 64) (h : Fin 4) (c : Fin 256) :
    (b67 n s (ix5 i b t h c) : EReal) = s.main_v21_7 (ix5 i b t h c) := by
  rw [b67_eq n hn]
  refine dif_neg fun hin => hi ?_
  have h0 : n ≤ i.val ∧ i.val < n + 1 := hin 0
  omega

/-- The output rows after each trip. -/
theorem o_it (n : ℕ) (hn : n ≤ 128) (i : Fin 128) (hi : i.val < n) (b : Fin 2) (t : Fin 64) (h : Fin 4) (c : Fin 256) :
    ((it A0 A1 A2 A3 n).main_v21_7 (ix5 i b t h c) : EReal) = Math.outAt A0 A1 A2 A3 (chunk b i) h t c := by
  induction n with
  | zero => omega
  | succ n ih =>
    show (b67 n (it A0 A1 A2 A3 n) (ix5 i b t h c) : EReal) = _
    by_cases h0 : i.val = n
    · have hi' : i = ⟨n, by omega⟩ := Fin.ext h0
      rw [hi']
      rw [row_hit n (by omega), out_at, la_it A0 A1 A2 A3 n (by omega), q_it A0 A1 A2 A3 n (by omega), k_it A0 A1 A2 A3 n (by omega), v_it A0 A1 A2 A3 n (by omega), s_it A0 A1 A2 A3 n (by omega)]
      have e1 : (⟨(chunk b ⟨n, by omega⟩).val / 128, by omega⟩ : Fin 2) = b := Fin.ext (by show (128 * b.val + n) / 128 = b.val; omega)
      have e2 : (chunk b ⟨n, by omega⟩).val % 128 = n := by show (128 * b.val + n) % 128 = n; omega
      rw [Math.outAt, e1, e2]
    · rw [row_miss n (by omega) _ i h0]
      exact ih (by omega) (by omega)

theorem result_s : (it A0 A1 A2 A3 128).main_v21_6 = Math.resultS A0 A1 A2 A3 := by
  funext y
  obtain ⟨b, h, d, c, rfl⟩ : ∃ (b : Fin 2) (h : Fin 4) (d : Fin 128) (c : Fin 256), y = (ix4 b h d c : S2x4x128x256.Idx) := ⟨y 0, y 1, y 2, y 3, eq_ix4 y⟩
  exact congrFun (congrFun (s_it A0 A1 A2 A3 128 le_rfl b h) d) c

theorem result_o : R_main_v24 (it A0 A1 A2 A3 128) = Math.resultO A0 A1 A2 A3 := by
  funext y
  obtain ⟨R, X, rfl⟩ : ∃ (R : Fin 16384) (X : Fin 1024), y = (ix2 R X : S16384x1024.Idx) := ⟨y 0, y 1, eq_ix2 y⟩
  pointwise [R_main_v24]
  refine (o_it A0 A1 A2 A3 128 le_rfl ⟨R.val / 64 % 128, by omega⟩ (by show R.val / 64 % 128 < 128; omega) ⟨R.val / 8192, by omega⟩ ⟨R.val % 64, by omega⟩ ⟨X.val / 256, by omega⟩ ⟨X.val % 256, by omega⟩).trans ?_
  have e : chunk ⟨R.val / 8192, by omega⟩ ⟨R.val / 64 % 128, by omega⟩ = ⟨R.val / 64, by omega⟩ := Fin.ext (by show 128 * (R.val / 8192) + R.val / 64 % 128 = R.val / 64; omega)
  rw [e]
  rfl

/-- The reference's run: both results, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v24) = Math.resultO (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v21_6) = Math.resultS (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (result_o _ _ _ _), (h c).2.1.trans (result_s _ _ _ _), (h c).2.2⟩)
    (run_iter m ρ (fun c => it (m ((c.tc : Thread nD τ).loc main_arg0)) (m ((c.tc : Thread nD τ).loc main_arg1)) (m ((c.tc : Thread nD τ).loc main_arg2)) (m ((c.tc : Thread nD τ).loc main_arg3)))
      (fun _ => rfl) (fun _ _ => rfl))

end Cert.ReferenceIdeal.Rec

end
-- ==== Proof.Precond.lean ====
/- The precondition in words: `finite` says of every log-decay that its absolute value is below infinity, so that it is
   a number. -/
module

public import proofs.«01_k».proof.Defs
public import proofs.«01_k».proof.Proof.Spec

@[expose] public section

noncomputable section

namespace Cert.Pre_finite

open Idealize.ShloMosaic

/-- The predicate's one side condition, a broadcast's. -/
instance facts : Facts := ⟨by decide⟩

/-- What the predicate says of the log-decays. -/
theorem allFinite (x y : FVec Ideal S16384x1024 .bf16) (la : FVec Ideal S16384x512 .f32) (s : FVec Ideal S2x4x128x256 .f32)
    (h : fn (F := Ideal) x y la s = fun _ => 1#1) : Math.AllFinite la := by
  intro i
  have hi := congrFun h i
  have e : Ideal.ofBits .f32 0x7F800000#32 = (⊤ : EReal) := by simp [Ideal.ofBits, Ideal.ieee]
  change Ideal.cmp .olt (max (la i) (-(la i)) : EReal) (Ideal.ofBits .f32 0x7F800000#32) = 1#1 at hi
  rw [e] at hi
  have hlt : (max (la i) (-(la i)) : EReal) < ⊤ := by
    by_contra hn
    simp [Ideal.cmp, hn] at hi
  have h1 : (la i : EReal) ≠ ⊤ := ((le_max_left _ _).trans_lt hlt).ne
  have h2 : (la i : EReal) ≠ ⊥ := fun hb => ((le_max_right (la i : EReal) (-(la i))).trans_lt hlt).ne (by rw [hb]; rfl)
  exact ⟨EReal.toReal (la i), (EReal.coe_toReal h1 h2).symm⟩

end Cert.Pre_finite

end
-- ==== Proof.Layer.lean ====
/- The row mathematics the layers share, on extended reals: the modulated norm, the key norm, the projections. -/
module

public import Idealize.ShloMosaic.PureOps.Ideal
public import Idealize.ShloMosaic.Lib.Pipeline.ValueKit

@[expose] public section

noncomputable section

namespace Cert.Layer

open Idealize.ShloMosaic Idealize.ShloMosaic.Tactic

/-- The norms' additive constant. -/
abbrev eps : EReal := Ideal.ofBits .f32 0x358637BD#32

/-- The mean square of a row. -/
def ms (x : Fin 1024 → EReal) : EReal := Ideal.div (∑ e, x e * x e) (Ideal.ofBits .f32 0x44800000#32)

/-- The modulated norm of a row `x`: weight `g`, shift `sh`, scale `sc`. -/
def pre (x g sh sc : Fin 1024 → EReal) (d : Fin 1024) : EReal :=
  x d * Ideal.rsqrt (ms x + eps) * g d * (1 + sc d) + sh d

/-- A row through the key-value weights. -/
def kvAt (h : Fin 1024 → EReal) (w : Fin 1024 → Fin 2048 → EReal) (j : Fin 2048) : EReal := ∑ d, h d * w d j

/-- The norm of each head of 128 columns of a row. -/
def headAt (row : Fin 1024 → EReal) (kn : Fin 128 → EReal) (j : Fin 1024) : EReal :=
  row j * Ideal.rsqrt (Ideal.div (∑ e : Fin 128, row ⟨j.val / 128 * 128 + e.val, by omega⟩ * row ⟨j.val / 128 * 128 + e.val, by omega⟩) (Ideal.ofBits .f32 0x43000000#32) + eps)
    * kn ⟨j.val % 128, Nat.mod_lt _ (by decide)⟩

/-- The same, in the head that starts at column `o`. -/
theorem headAt_block (row : Fin 1024 → EReal) (kn : Fin 128 → EReal) (o : ℕ) (h0 : o % 128 = 0) (h1 : o + 128 ≤ 1024) (d : Fin 128) :
    headAt row kn ⟨o + d.val, by omega⟩
      = row ⟨o + d.val, by omega⟩ * Ideal.rsqrt (Ideal.div (∑ e : Fin 128, row ⟨o + e.val, by omega⟩ * row ⟨o + e.val, by omega⟩) (Ideal.ofBits .f32 0x43000000#32) + eps) * kn d := by
  have e1 : (o + d.val) / 128 * 128 = o := by omega
  have e2 : (⟨(o + d.val) % 128, Nat.mod_lt _ (by decide)⟩ : Fin 128) = d := Fin.ext (by show (o + d.val) % 128 = d.val; omega)
  unfold headAt
  rw [e2]
  simp only [e1]

/-- A key: the row through the first half of the key-value weights, its heads normed. -/
def keyAt (h : Fin 1024 → EReal) (w : Fin 1024 → Fin 2048 → EReal) (kn : Fin 128 → EReal) (j : Fin 1024) : EReal :=
  headAt (fun j => kvAt h w ⟨j.val, by omega⟩) kn j

/-- A value: the row through the second half. -/
def valAt (h : Fin 1024 → EReal) (w : Fin 1024 → Fin 2048 → EReal) (j : Fin 1024) : EReal := kvAt h w ⟨1024 + j.val, by omega⟩

/-- A row plus its projected mixing, gated. -/
def mix (x o g1 : Fin 1024 → EReal) (wo : Fin 1024 → Fin 1024 → EReal) (j : Fin 1024) : EReal := x j + g1 j * ∑ d, o d * wo d j

/-- The feed-forward layer's hidden values: a row through the first weights, rectified and squared. -/
def up {n : ℕ} (h : Fin 1024 → EReal) (wu : Fin 1024 → Fin n → EReal) (f : Fin n) : EReal := max (∑ d, h d * wu d f) 0 * max (∑ d, h d * wu d f) 0

/-- The feed-forward layer added to a row, gated by `g2`. -/
def ff (x g sh sc g2 : Fin 1024 → EReal) (wu : Fin 1024 → Fin 4096 → EReal) (wd : Fin 4096 → Fin 1024 → EReal) (j : Fin 1024) : EReal :=
  x j + g2 j * ∑ f, up (pre x g sh sc) wu f * wd f j

section Arrays
variable (x : (⟨2, ![16384, 1024]⟩ : Shape).Idx → EReal) (g : (⟨1, ![1024]⟩ : Shape).Idx → EReal) (sh sc : (⟨2, ![2, 1024]⟩ : Shape).Idx → EReal)
  (w : (⟨2, ![1024, 2048]⟩ : Shape).Idx → EReal) (kn : (⟨1, ![128]⟩ : Shape).Idx → EReal)

/-- Row `R` of the array, normed and modulated by its sequence's shift and scale. -/
abbrev row (R : Fin 16384) : Fin 1024 → EReal :=
  pre (fun d => x (ix2 R d)) (fun d => g (ix1 d)) (fun d => sh (ix2 ⟨R.val / 8192, by omega⟩ d)) (fun d => sc (ix2 ⟨R.val / 8192, by omega⟩ d))

/-- The keys of every row, -/
def keys : (⟨2, ![16384, 1024]⟩ : Shape).Idx → EReal := fun i => keyAt (row x g sh sc (i 0)) (fun d j => w (ix2 d j)) (fun e => kn (ix1 e)) (i 1)

/-- and the values. -/
def vals : (⟨2, ![16384, 1024]⟩ : Shape).Idx → EReal := fun i => valAt (row x g sh sc (i 0)) (fun d j => w (ix2 d j)) (i 1)

end Arrays

section Mix
variable (o x : (⟨2, ![16384, 1024]⟩ : Shape).Idx → EReal) (wo : (⟨2, ![1024, 1024]⟩ : Shape).Idx → EReal) (g1 : (⟨2, ![2, 1024]⟩ : Shape).Idx → EReal)
  (g : (⟨1, ![1024]⟩ : Shape).Idx → EReal) (sh sc g2 : (⟨2, ![2, 1024]⟩ : Shape).Idx → EReal)
  (wu : (⟨2, ![1024, 4096]⟩ : Shape).Idx → EReal) (wd : (⟨2, ![4096, 1024]⟩ : Shape).Idx → EReal)

/-- Row `R` of `x` plus the projected, gated row of `o`. -/
abbrev mixRow (R : Fin 16384) : Fin 1024 → EReal :=
  mix (fun d => x (ix2 R d)) (fun d => o (ix2 R d)) (fun d => g1 (ix2 ⟨R.val / 8192, by omega⟩ d)) (fun d j => wo (ix2 d j))

/-- The second half of a layer, over every row. -/
def moba : (⟨2, ![16384, 1024]⟩ : Shape).Idx → EReal := fun i =>
  ff (mixRow o x wo g1 (i 0)) (fun d => g (ix1 d)) (fun d => sh (ix2 ⟨(i 0).val / 8192, by have : (i 0).val < 16384 := (i 0).isLt; omega⟩ d))
    (fun d => sc (ix2 ⟨(i 0).val / 8192, by have : (i 0).val < 16384 := (i 0).isLt; omega⟩ d)) (fun d => g2 (ix2 ⟨(i 0).val / 8192, by have : (i 0).val < 16384 := (i 0).isLt; omega⟩ d))
    (fun d f => wu (ix2 d f)) (fun f j => wd (ix2 f j)) (i 1)

end Mix

end Cert.Layer

end
-- ==== Proof.Moba.Block.lean ====
/- The output-projection and feed-forward call's blocks, read at an index on extended reals. -/
module

public import proofs.«01_k».proof.Proof.Layer
public import proofs.«01_k».proof.Proof.Gen.MobaIdeal.Value
public import Idealize.ShloMosaic.Lib.Pipeline.ReadBack
public import Idealize.ShloMosaic.Lib.Pipeline.ValueKit

@[expose] public section

set_option maxRecDepth 16384

noncomputable section

namespace Cert.MobaIdeal.Pf

open Cert.MobaIdeal Cert.MobaIdeal.Gen Idealize.ShloMosaic Idealize.ShloMosaic.TcCoe Idealize.ShloMosaic.Tactic

section Parts
variable (o : Vec Ideal S256x1024 .bf16) (wo : Vec Ideal S1024x1024 .bf16) (x : Vec Ideal S256x1024 .f32) (g1 : Vec Ideal S1x1x1024 .f32)
  (g : Vec Ideal S1x1024 .f32) (sh sc : Vec Ideal S1x1x1024 .f32) (r : Fin 256) (j : Fin 1024)

/-- Row `r` of a part after the projection. -/
abbrev mixRow : Fin 1024 → EReal :=
  Layer.mix (fun d => x (ix2 r d)) (fun d => o (ix2 r d)) (fun d => g1 (ix3 0 0 d)) (fun d j => wo (ix2 d j))

theorem x1_0 : (k0_pay3 o wo x g1 (ix2 r j) : EReal) = mixRow o wo x g1 r j := by
  pointwise [k0_pay3]
  rfl
theorem x1_1 : (k0_pay6 o wo x g1 (ix2 r j) : EReal) = mixRow o wo x g1 r j := by
  pointwise [k0_pay6]
  rfl
theorem x1_2 : (k0_pay11 o wo x g1 (ix2 r j) : EReal) = mixRow o wo x g1 r j := by
  pointwise [k0_pay11]
  rfl
theorem x1_3 : (k0_pay17 o wo x g1 (ix2 r j) : EReal) = mixRow o wo x g1 r j := by
  pointwise [k0_pay17]
  rfl

/-- Row `r` of a part, normed and modulated. -/
abbrev hRow : Fin 1024 → EReal :=
  Layer.pre (mixRow o wo x g1 r) (fun d => g (ix2 0 d)) (fun d => sh (ix3 0 0 d)) (fun d => sc (ix3 0 0 d))

theorem h_0 : (k0_pay5 (k0_pay4 o wo x g1 g sh sc) (ix2 r j) : EReal) = hRow o wo x g1 g sh sc r j := by
  pointwise [k0_pay5, k0_pay4]
  simp only [x1_0]
  rfl
theorem h_1 : (k0_pay10 (k0_pay7 sh) (k0_pay8 sc) (k0_pay9 o wo x g1 g) (ix2 r j) : EReal) = hRow o wo x g1 g sh sc r j := by
  pointwise [k0_pay10, k0_pay7, k0_pay8, k0_pay9]
  simp only [x1_1]
  rfl

theorem h_2 : (k0_pay16 (k0_pay11 o wo x g1) (k0_pay12 g) (k0_pay13 sh) (k0_pay14 sc) (k0_pay15 o wo x g1) (Scalar.ofBits .f32 0x358637BD#32) (ix2 r j) : EReal) = hRow o wo x g1 g sh sc r j := by
  pointwise [k0_pay16, k0_pay12, k0_pay13, k0_pay14, k0_pay15]
  simp only [x1_2]
  rfl
theorem h_3 : (k0_pay1 (k0_pay17 o wo x g1) (k0_pay18 g) (k0_pay19 sh) (k0_pay20 sc) (k0_pay21 o wo x g1) (ix2 r j) : EReal) = hRow o wo x g1 g sh sc r j := by
  pointwise [k0_pay1, k0_pay18, k0_pay19, k0_pay20, k0_pay21]
  simp only [x1_3]
  rfl

end Parts

theorem acc_at (h wu : Vec Ideal S1024x1024 .bf16) (out : Vec Ideal S1024x1024 .f32) (g2 : Vec Ideal S1x1x1024 .f32) (wd : Vec Ideal S1024x1024 .bf16) (r j : Fin 1024) :
    (k0_pay2 h wu out g2 wd (ix2 r j) : EReal) = out (ix2 r j) + g2 (ix3 0 0 j) * ∑ f : Fin 1024, Layer.up (fun d => h (ix2 r d)) (fun d f => wu (ix2 d f)) f * wd (ix2 f j) := by
  pointwise [k0_pay2]
  rfl

section Whole
variable (x0 : Vec Ideal S1024x1024 .bf16) (x1 : Vec Ideal S1024x1024 .f32) (x2 : Vec Ideal S1024x1024 .bf16) (x3 : Vec Ideal S1x1x1024 .f32) (x4 : Vec Ideal S1x1024 .f32) (x5 x6 : Vec Ideal S1x1x1024 .f32)

/-- Row `r` of the block after the projection, -/
abbrev mixB (r : Fin 1024) : Fin 1024 → EReal :=
  Layer.mix (fun d => x1 (ix2 r d)) (fun d => x0 (ix2 r d)) (fun d => x3 (ix3 0 0 d)) (fun d j => x2 (ix2 d j))

/-- and normed and modulated. -/
abbrev hB (r : Fin 1024) : Fin 1024 → EReal :=
  Layer.pre (mixB x0 x1 x2 x3 r) (fun d => x4 (ix2 0 d)) (fun d => x5 (ix3 0 0 d)) (fun d => x6 (ix3 0 0 d))

/-- The two over the whole block. -/
def mixA : S1024x1024.Idx → EReal := fun y => mixB x0 x1 x2 x3 (y 0) (y 1)
def hA : S1024x1024.Idx → EReal := fun y => hB x0 x1 x2 x3 x4 x5 x6 (y 0) (y 1)

variable (o : ℕ) (ho : o + 256 ≤ 1024) (inb : ∀ a, (![o, 0] : Fin 2 → ℕ) a + S256x1024.size a ≤ S1024x1024.size a)

theorem part_emb (r : Fin 256) (d : Fin 1024) :
    (Rect.unit (s := S1024x1024) ![o, 0] S256x1024.size inb).emb (ix2 r d : S256x1024.Idx) = (ix2 ⟨o + r.val, by omega⟩ d : S1024x1024.Idx) :=
  funext (Fin.forall_fin_two.mpr ⟨Fin.ext (by show o + 1 * r.val = o + r.val; omega), Fin.ext (by show 0 + 1 * d.val = d.val; omega)⟩)

theorem mix_part (r : Fin 256) :
    mixRow (View.ld x0 (Rect.unit (s := S1024x1024) ![o, 0] S256x1024.size inb)) x2 (View.ld x1 (Rect.unit (s := S1024x1024) ![o, 0] S256x1024.size inb)) x3 r
      = mixB x0 x1 x2 x3 ⟨o + r.val, by omega⟩ :=
  congrArg₂ (fun a b : Fin 1024 → EReal => Layer.mix a b (fun d => x3 (ix3 0 0 d)) (fun d j => x2 (ix2 d j)))
    (funext fun d => congrArg x1 (part_emb o ho inb r d)) (funext fun d => congrArg x0 (part_emb o ho inb r d))

/-- A store of one part of a block that is `G` throughout. -/
theorem part_at (G : Fin 1024 → Fin 1024 → EReal) (p : S256x1024.Idx → EReal)
    (h : ∀ (r : Fin 256) (d : Fin 1024), p (ix2 r d) = G ⟨o + r.val, by omega⟩ d)
    (y : (Rect.unit (s := S1024x1024) ![o, 0] S256x1024.size inb).shape.Idx) :
    p y = (fun y : S1024x1024.Idx => G (y 0) (y 1)) ((Rect.unit (s := S1024x1024) ![o, 0] S256x1024.size inb).emb y) := by
  obtain ⟨r, d, rfl⟩ : ∃ (r : Fin 256) (d : Fin 1024), y = (ix2 r d : S256x1024.Idx) := ⟨y 0, y 1, eq_ix2 y⟩
  refine (h r d).trans ?_
  rw [part_emb o ho inb r d]
  rfl

end Whole

section Cases
variable (c : Dev nD) (i : grid0.Coords) (a2 : Memref sig .tc .vmem S1024x1024 .bf16) (h2 : a2.IsWhole) (a3 : Memref sig .tc .vmem S1024x1024 .f32) (h3 : a3.IsWhole) (a4 : Memref sig .tc .vmem S1024x1024 .bf16) (h4 : a4.IsWhole) (a5 : Memref sig .tc .vmem S1x1x1024 .f32) (h5 : a5.IsWhole) (a6 : Memref sig .tc .vmem S1x1024 .f32) (h6 : a6.IsWhole) (a7 : Memref sig .tc .vmem S1x1x1024 .f32) (h7 : a7.IsWhole) (a8 : Memref sig .tc .vmem S1x1x1024 .f32) (h8 : a8.IsWhole) (a9 : Memref sig .tc .vmem S1x1x1024 .f32) (h9 : a9.IsWhole) (a10 : Memref sig .tc .vmem S1024x1024 .bf16) (h10 : a10.IsWhole) (a11 : Memref sig .tc .vmem S1024x1024 .bf16) (h11 : a11.IsWhole) (a12 : Memref sig .tc .vmem S1024x1024 .f32) (h12 : a12.IsWhole) (a13 : Memref sig .tc .vmem S1024x1024 .bf16) (h13 : a13.IsWhole)
  (x0 : Vec Ideal S1024x1024 .bf16) (x1 : Vec Ideal S1024x1024 .f32) (x2 : Vec Ideal S1024x1024 .bf16) (x3 : Vec Ideal S1x1x1024 .f32) (x4 : Vec Ideal S1x1024 .f32) (x5 : Vec Ideal S1x1x1024 .f32) (x6 : Vec Ideal S1x1x1024 .f32) (x7 : Vec Ideal S1x1x1024 .f32) (x8 : Vec Ideal S1024x1024 .bf16) (x9 : Vec Ideal S1024x1024 .bf16)

theorem out_B (hc : ¬cond0_0 i) (xo : Vec Ideal S1024x1024 .f32) (xs : Vec Ideal S1024x1024 .bf16) :
    out0_B_10 c i a2 h2 a3 h3 a4 h4 a5 h5 a6 h6 a7 h7 a8 h8 a9 h9 a10 h10 a11 h11 a12 h12 a13 h13 hc x0 x1 x2 x3 x4 x5 x6 x7 x8 x9 xo xs = k0_pay2 xs x8 xo x7 x9 := by
  unfold out0_B_10
  rw [View.read_writes_eq_canon _ _ _ (cover0_B_10 c i a2 h2 a3 h3 a4 h4 a5 h5 a6 h6 a7 h7 a8 h8 a9 h9 a10 h10 a11 h11 a12 h12 a13 h13 hc x0 x1 x2 x3 x4 x5 x6 x7 x8 x9 xo xs)]
  unfold kernelRun0_B
  dsimp only
  sl_unfold_words
  rw [View.canon_cons_unit_lit _ _ _ (by decide)]
  simp only [View.readAt_eq_ld, h13.read_unread, h12.read_unread, h10.read_unread, h11.read_unread, h9.read_unread]
  rw [View.ld_unit_lit _ xs (by decide), View.ld_unit_lit _ xo (by decide), View.ld_unit_lit _ x8 (by decide), View.ld_unit_lit _ x7 (by decide), View.ld_unit_lit _ x9 (by decide)]

theorem sout_A (hc : cond0_0 i) :
    (sout0_A_0 c i a2 h2 a3 h3 a4 h4 a5 h5 a6 h6 a7 h7 a8 h8 a9 h9 a10 h10 a11 h11 a12 h12 a13 h13 hc x0 x1 x2 x3 x4 x5 x6 x7 x8 x9 : S1024x1024.Idx → EReal) = hA x0 x1 x2 x3 x4 x5 x6 := by
  unfold sout0_A_0
  rw [View.read_writes_eq_canon _ _ _ (scover0_A_0 c i a2 h2 a3 h3 a4 h4 a5 h5 a6 h6 a7 h7 a8 h8 a9 h9 a10 h10 a11 h11 a12 h12 a13 h13 hc x0 x1 x2 x3 x4 x5 x6 x7 x8 x9)]
  have hcov := scover0_A_0 c i a2 h2 a3 h3 a4 h4 a5 h5 a6 h6 a7 h7 a8 h8 a9 h9 a10 h10 a11 h11 a12 h12 a13 h13 hc x0 x1 x2 x3 x4 x5 x6 x7 x8 x9
  revert hcov
  unfold kernelRun0_A
  dsimp only
  sl_unfold_words
  simp only [View.readAt_eq_ld, h13.read_unread, h12.read_unread, h10.read_unread, h11.read_unread, h9.read_unread, h2.read_unread, h3.read_unread, h4.read_unread, h5.read_unread, h6.read_unread, h7.read_unread, h8.read_unread]
  intro hcov
  rw [View.ld_unit_lit _ x2 (by decide), View.ld_unit_lit _ x3 (by decide), View.ld_unit_lit _ x4 (by decide), View.ld_unit_lit _ x5 (by decide), View.ld_unit_lit _ x6 (by decide)] at hcov ⊢
  funext y
  refine View.canon_apply_of_pieces (hA x0 x1 x2 x3 x4 x5 x6) _ (View.PiecesOf.mem ?_) y (hcov y)
  exact ⟨part_at 768 (by decide) inb_S1024x1024_S256x1024_768_0 (hB x0 x1 x2 x3 x4 x5 x6) _ fun r d => (h_3 _ _ _ _ _ _ _ r d).trans (by unfold hRow; rw [mix_part x0 x1 x2 x3 768 (by decide) inb_S1024x1024_S256x1024_768_0]),
    part_at 512 (by decide) inb_S1024x1024_S256x1024_512_0 (hB x0 x1 x2 x3 x4 x5 x6) _ fun r d => (h_2 _ _ _ _ _ _ _ r d).trans (by unfold hRow; rw [mix_part x0 x1 x2 x3 512 (by decide) inb_S1024x1024_S256x1024_512_0]),
    part_at 256 (by decide) inb_S1024x1024_S256x1024_256_0 (hB x0 x1 x2 x3 x4 x5 x6) _ fun r d => (h_1 _ _ _ _ _ _ _ r d).trans (by unfold hRow; rw [mix_part x0 x1 x2 x3 256 (by decide) inb_S1024x1024_S256x1024_256_0]),
    part_at 0 (by decide) inb_S1024x1024_S256x1024_0_0 (hB x0 x1 x2 x3 x4 x5 x6) _ fun r d => (h_0 _ _ _ _ _ _ _ r d).trans (by unfold hRow; rw [mix_part x0 x1 x2 x3 0 (by decide) inb_S1024x1024_S256x1024_0_0]), trivial⟩

theorem out_A (hc : cond0_0 i) :
    out0_A_10 c i a2 h2 a3 h3 a4 h4 a5 h5 a6 h6 a7 h7 a8 h8 a9 h9 a10 h10 a11 h11 a12 h12 a13 h13 hc x0 x1 x2 x3 x4 x5 x6 x7 x8 x9 = k0_pay2 (hA x0 x1 x2 x3 x4 x5 x6) x8 (mixA x0 x1 x2 x3) x7 x9 := by
  have hs := sout_A c i a2 h2 a3 h3 a4 h4 a5 h5 a6 h6 a7 h7 a8 h8 a9 h9 a10 h10 a11 h11 a12 h12 a13 h13 x0 x1 x2 x3 x4 x5 x6 x7 x8 x9 hc
  have hscov := scover0_A_0 c i a2 h2 a3 h3 a4 h4 a5 h5 a6 h6 a7 h7 a8 h8 a9 h9 a10 h10 a11 h11 a12 h12 a13 h13 hc x0 x1 x2 x3 x4 x5 x6 x7 x8 x9
  unfold sout0_A_0 at hs
  rw [View.read_writes_eq_canon _ _ _ hscov] at hs
  unfold out0_A_10
  rw [View.read_writes_eq_canon _ _ _ (cover0_A_10 c i a2 h2 a3 h3 a4 h4 a5 h5 a6 h6 a7 h7 a8 h8 a9 h9 a10 h10 a11 h11 a12 h12 a13 h13 hc x0 x1 x2 x3 x4 x5 x6 x7 x8 x9)]
  clear hscov
  revert hs
  unfold kernelRun0_A
  dsimp only
  sl_unfold_words
  intro hs
  rw [View.canon_cons_unit_lit _ _ _ (by decide), View.readCov_eq_canon', View.readCov_eq_canon']
  simp only [View.readAt_eq_ld, h13.read_unread, h12.read_unread, h10.read_unread, h11.read_unread, h9.read_unread, h2.read_unread, h3.read_unread, h4.read_unread, h5.read_unread, h6.read_unread, h7.read_unread, h8.read_unread] at hs ⊢
  rw [View.ld_unit_lit _ x2 (by decide), View.ld_unit_lit _ x3 (by decide), View.ld_unit_lit _ x4 (by decide), View.ld_unit_lit _ x5 (by decide), View.ld_unit_lit _ x6 (by decide)] at hs ⊢
  rw [View.ld_unit_lit _ x7 (by decide), View.ld_unit_lit _ x8 (by decide), View.ld_unit_lit _ x9 (by decide)]
  refine congrArg₂ (fun a b => k0_pay2 a x8 b x7 x9) ((View.ld_unit_lit _ _ (by decide)).trans hs) ((View.ld_unit_lit _ _ (by decide)).trans (funext fun y => ?_))
  refine View.canon_apply_of_pieces (Val := Elt Ideal) (e := .f32) (S := S1024x1024) (mixA x0 x1 x2 x3) _ (View.PiecesOf.mem ?_) y (View.cover_of_tiledL (s := S1024x1024) _ S256x1024.size (by sl_kernel_rfl) y)
  exact ⟨part_at 768 (by decide) inb_S1024x1024_S256x1024_768_0 (mixB x0 x1 x2 x3) _ fun r d => (x1_3 _ _ _ _ r d).trans (by rw [mix_part x0 x1 x2 x3 768 (by decide) inb_S1024x1024_S256x1024_768_0]),
    part_at 512 (by decide) inb_S1024x1024_S256x1024_512_0 (mixB x0 x1 x2 x3) _ fun r d => (x1_2 _ _ _ _ r d).trans (by rw [mix_part x0 x1 x2 x3 512 (by decide) inb_S1024x1024_S256x1024_512_0]),
    part_at 256 (by decide) inb_S1024x1024_S256x1024_256_0 (mixB x0 x1 x2 x3) _ fun r d => (x1_1 _ _ _ _ r d).trans (by rw [mix_part x0 x1 x2 x3 256 (by decide) inb_S1024x1024_S256x1024_256_0]),
    part_at 0 (by decide) inb_S1024x1024_S256x1024_0_0 (mixB x0 x1 x2 x3) _ fun r d => (x1_0 _ _ _ _ r d).trans (by rw [mix_part x0 x1 x2 x3 0 (by decide) inb_S1024x1024_S256x1024_0_0]), trivial⟩

end Cases

end Cert.MobaIdeal.Pf
-- ==== Proof.FeedForward.lean ====
/- The feed-forward sum taken in four quarters: for real entries, the gate goes over the sum. -/
module

public import proofs.«01_k».proof.Proof.Layer

@[expose] public section

noncomputable section

namespace Cert.Layer

open Idealize.ShloMosaic

/-- An extended real that is a number. -/
def IsReal (x : EReal) : Prop := ∃ r : ℝ, x = (r : EReal)

theorem IsReal.add {x y : EReal} : IsReal x → IsReal y → IsReal (x + y)
  | ⟨a, ha⟩, ⟨b, hb⟩ => ⟨a + b, by rw [ha, hb]; rfl⟩
theorem IsReal.mul {x y : EReal} : IsReal x → IsReal y → IsReal (x * y)
  | ⟨a, ha⟩, ⟨b, hb⟩ => ⟨a * b, by rw [ha, hb]; rfl⟩
theorem IsReal.max0 {x : EReal} : IsReal x → IsReal (max x 0)
  | ⟨a, ha⟩ => ⟨max a 0, by rw [ha]; exact (EReal.coe_strictMono.monotone.map_max (a := a) (b := 0)).symm⟩
theorem IsReal.one : IsReal 1 := ⟨1, rfl⟩
theorem coe_sum {n : ℕ} (g : Fin n → ℝ) : ((∑ i, g i : ℝ) : EReal) = ∑ i, (g i : EReal) :=
  map_sum (⟨⟨fun r : ℝ => (r : EReal), rfl⟩, fun _ _ => rfl⟩ : ℝ →+ EReal) g Finset.univ
theorem IsReal.sum {n : ℕ} {f : Fin n → EReal} (h : ∀ i, IsReal (f i)) : IsReal (∑ i, f i) := by
  choose g hg using h
  exact ⟨∑ i, g i, by simp only [hg]; exact (coe_sum g).symm⟩

/-- The gate over two numbers. -/
theorem gate_add {c a b : EReal} : IsReal c → IsReal a → IsReal b → c * (a + b) = c * a + c * b
  | ⟨c, hc⟩, ⟨a, ha⟩, ⟨b, hb⟩ => by
    rw [hc, ha, hb]
    exact congrArg ((↑) : ℝ → EReal) (mul_add c a b)

theorem eps_pos : ∃ e : ℝ, 0 < e ∧ eps = (e : EReal) := by
  refine ⟨_, ?_, by simp [eps, Ideal.ofBits, Ideal.ieee]; rfl⟩
  norm_num

theorem ms_real {x : Fin 1024 → EReal} (h : ∀ d, IsReal (x d)) : ∃ r : ℝ, 0 ≤ r ∧ ms x = (r : EReal) := by
  choose y hy using h
  have e : Ideal.ofBits .f32 0x44800000#32 = ((1024 : ℝ) : EReal) := by
    simp [Ideal.ofBits, Ideal.ieee]
    exact congrArg ((↑) : ℝ → EReal) (show (8388608 : ℝ) * (2 ^ 13)⁻¹ = 1024 by norm_num)
  have hs : (∑ d, x d * x d : EReal) = ((∑ d, y d * y d : ℝ) : EReal) := by
    simp only [hy]
    rw [coe_sum]
    rfl
  refine ⟨(∑ d, y d * y d) * (1 / 1024), mul_nonneg (Finset.sum_nonneg fun d _ => mul_self_nonneg _) (by norm_num), ?_⟩
  unfold ms
  rw [e, hs, Ideal.div_coe (by norm_num)]
  rfl

theorem pre_real {x g sh sc : Fin 1024 → EReal} (hx : ∀ d, IsReal (x d)) (hg : ∀ d, IsReal (g d)) (hsh : ∀ d, IsReal (sh d)) (hsc : ∀ d, IsReal (sc d)) (d : Fin 1024) :
    IsReal (pre x g sh sc d) := by
  obtain ⟨r, hr, er⟩ := ms_real hx
  obtain ⟨e, he, ee⟩ := eps_pos
  have hrs : IsReal (Ideal.rsqrt (ms x + eps)) := by
    rw [er, ee]
    refine ⟨(Real.sqrt (r + e))⁻¹, ?_⟩
    show Ideal.rsqrt ((r + e : ℝ) : EReal) = _
    rw [Ideal.rsqrt_coe, if_neg (by linarith), if_neg (by linarith)]
  exact ((((hx d).mul hrs).mul (hg d)).mul (IsReal.one.add (hsc d))).add (hsh d)

theorem up_real {n : ℕ} {h : Fin 1024 → EReal} {wu : Fin 1024 → Fin n → EReal} (hh : ∀ d, IsReal (h d)) (hw : ∀ d f, IsReal (wu d f)) (f : Fin n) : IsReal (up h wu f) :=
  have := IsReal.max0 (IsReal.sum fun d => (hh d).mul (hw d f))
  this.mul this

/-- Column `f` of quarter `k`. -/
abbrev col (k : ℕ) (f : Fin 1024) : Fin 4096 := ⟨(1024 * k + f.val) % 4096, Nat.mod_lt _ (by decide)⟩

section Quarters
variable (x h g2 : Fin 1024 → EReal) (wu : Fin 1024 → Fin 4096 → EReal) (wd : Fin 4096 → Fin 1024 → EReal) (j : Fin 1024)

/-- Quarter `k` of the feed-forward sum. -/
def quarter (k : ℕ) : EReal := ∑ f, up h (fun d f => wu d (col k f)) f * wd (col k f) j

/-- The first quarters, gated one by one. -/
def quarters : ℕ → EReal
  | 0 => x j + g2 j * quarter h wu wd j 0
  | k + 1 => quarters k + g2 j * quarter h wu wd j (k + 1)

theorem sum_quarters (F : Fin 4096 → EReal) :
    ∑ f, F f = (((∑ f, F (col 0 f)) + ∑ f, F (col 1 f)) + ∑ f, F (col 2 f)) + ∑ f, F (col 3 f) := by
  rw [← (finProdFinEquiv (m := 4) (n := 1024)).sum_comp F, Fintype.sum_prod_type, Fin.sum_univ_four]
  have e : ∀ (k : Fin 4) (f : Fin 1024), finProdFinEquiv (m := 4) (n := 1024) (k, f) = col k.val f := fun k f =>
    Fin.ext (by show f.val + 1024 * k.val = (1024 * k.val + f.val) % 4096; omega)
  simp only [e]
  rfl

theorem quarters_eq (hh : ∀ d, IsReal (h d)) (hg : ∀ d, IsReal (g2 d)) (hu : ∀ d f, IsReal (wu d f)) (hd : ∀ f j, IsReal (wd f j)) :
    quarters x h g2 wu wd j 3 = x j + g2 j * ∑ f, up h wu f * wd f j := by
  have hq : ∀ k, IsReal (quarter h wu wd j k) := fun k => IsReal.sum fun f => (up_real hh (fun d f => hu d _) f).mul (hd _ j)
  rw [sum_quarters]
  show x j + g2 j * quarter h wu wd j 0 + g2 j * quarter h wu wd j 1 + g2 j * quarter h wu wd j 2 + g2 j * quarter h wu wd j 3
    = x j + g2 j * (quarter h wu wd j 0 + quarter h wu wd j 1 + quarter h wu wd j 2 + quarter h wu wd j 3)
  rw [gate_add (hg j) (((hq 0).add (hq 1)).add (hq 2)) (hq 3), gate_add (hg j) ((hq 0).add (hq 1)) (hq 2), gate_add (hg j) (hq 0) (hq 1)]
  simp only [add_assoc]

end Quarters

theorem mix_real {x o g1 : Fin 1024 → EReal} {wo : Fin 1024 → Fin 1024 → EReal} (hx : ∀ d, IsReal (x d)) (ho : ∀ d, IsReal (o d)) (hg : ∀ d, IsReal (g1 d)) (hw : ∀ d j, IsReal (wo d j)) (j : Fin 1024) :
    IsReal (mix x o g1 wo j) := (hx j).add ((hg j).mul (IsReal.sum fun d => (ho d).mul (hw d j)))

end Cert.Layer

end
-- ==== Proof.Moba.Arrays.lean ====
/- What the output-projection and feed-forward call's array holds after the run, on extended reals. -/
module

public import proofs.«01_k».proof.Proof.Moba.Block
public import proofs.«01_k».proof.Proof.FeedForward
public import Idealize.ShloMosaic.Lib.Claim
public import Idealize.ShloMosaic.Lib.Pipeline.ValueKit

@[expose] public section

set_option maxRecDepth 16384

noncomputable section

namespace Cert.MobaIdeal.Pf

open Cert.MobaIdeal Cert.MobaIdeal.Gen Idealize.ShloMosaic Idealize.ShloMosaic.TcCoe Idealize.ShloMosaic.Tactic
open Idealize.SL.Sem
open Idealize.ShloMosaic.Pipeline (Dat)

variable (m : (ℓ : Loc nD τ sig) → Buf (Elt Ideal) ℓ)

theorem maps : ∀ t : Fin cfg0.N, win0_0.index t = ![t.val / 4, 0]
    ∧ win0_1.index t = ![t.val / 4, 0]
    ∧ win0_2.index t = ![0, 0]
    ∧ win0_3.index t = ![t.val / 32, 0, 0]
    ∧ win0_4.index t = ![0, 0]
    ∧ win0_5.index t = ![t.val / 32, 0, 0]
    ∧ win0_6.index t = ![t.val / 32, 0, 0]
    ∧ win0_7.index t = ![t.val / 32, 0, 0]
    ∧ win0_8.index t = ![0, t.val % 4]
    ∧ win0_9.index t = ![t.val % 4, 0]
    ∧ win0_10.index t = ![t.val / 4, 0] :=
  (by decide +kernel : ∀ t : Fin grid0.N, _)

theorem points (t : Fin cfg0.N) : t.val < 64 := lt_of_lt_of_eq t.isLt (show cfg0.N = 64 from N_0)

abbrev arg0 (c : Dev nD) : (⟨2, ![16384, 1024]⟩ : Shape).Idx → EReal := m ((c : Thread nD τ).loc main_arg0)
abbrev arg1 (c : Dev nD) : (⟨2, ![16384, 1024]⟩ : Shape).Idx → EReal := m ((c : Thread nD τ).loc main_arg1)
abbrev arg2 (c : Dev nD) : (⟨2, ![1024, 1024]⟩ : Shape).Idx → EReal := m ((c : Thread nD τ).loc main_arg2)
abbrev arg3 (c : Dev nD) : (⟨2, ![2, 1024]⟩ : Shape).Idx → EReal := m ((c : Thread nD τ).loc main_arg3)
abbrev arg4 (c : Dev nD) : (⟨1, ![1024]⟩ : Shape).Idx → EReal := m ((c : Thread nD τ).loc main_arg4)
abbrev arg5 (c : Dev nD) : (⟨2, ![2, 1024]⟩ : Shape).Idx → EReal := m ((c : Thread nD τ).loc main_arg5)
abbrev arg6 (c : Dev nD) : (⟨2, ![2, 1024]⟩ : Shape).Idx → EReal := m ((c : Thread nD τ).loc main_arg6)
abbrev arg7 (c : Dev nD) : (⟨2, ![2, 1024]⟩ : Shape).Idx → EReal := m ((c : Thread nD τ).loc main_arg7)
abbrev arg8 (c : Dev nD) : (⟨2, ![1024, 4096]⟩ : Shape).Idx → EReal := m ((c : Thread nD τ).loc main_arg8)
abbrev arg9 (c : Dev nD) : (⟨2, ![4096, 1024]⟩ : Shape).Idx → EReal := m ((c : Thread nD τ).loc main_arg9)

theorem V_g1 (c : Dev nD) : (V m c main_v1 : S2x1x1024.Idx → EReal) = shapeCast S2x1x1024 (arg3 m c : FVec Ideal S2x1024 .f32) shapeCasts_S2x1024_S2x1x1024 := by
  show StableHlo.after hostOps0 (fun b => m (c, b)) (Proc.tc.devRef main_v1) = _
  simp only [hostOps0]
  after_results
  rfl

theorem V_g (c : Dev nD) : (V m c main_v2 : S1x1024.Idx → EReal) = shapeCast S1x1024 (arg4 m c : FVec Ideal S1024 .f32) shapeCasts_S1024_S1x1024 := by
  show StableHlo.after hostOps0 (fun b => m (c, b)) (Proc.tc.devRef main_v2) = _
  simp only [hostOps0]
  after_results
  rfl

theorem V_sh (c : Dev nD) : (V m c main_v3 : S2x1x1024.Idx → EReal) = shapeCast S2x1x1024 (arg5 m c : FVec Ideal S2x1024 .f32) shapeCasts_S2x1024_S2x1x1024 := by
  show StableHlo.after hostOps0 (fun b => m (c, b)) (Proc.tc.devRef main_v3) = _
  simp only [hostOps0]
  after_results
  rfl

theorem V_sc (c : Dev nD) : (V m c main_v4 : S2x1x1024.Idx → EReal) = shapeCast S2x1x1024 (arg6 m c : FVec Ideal S2x1024 .f32) shapeCasts_S2x1024_S2x1x1024 := by
  show StableHlo.after hostOps0 (fun b => m (c, b)) (Proc.tc.devRef main_v4) = _
  simp only [hostOps0]
  after_results
  rfl

theorem V_g2 (c : Dev nD) : (V m c main_v5 : S2x1x1024.Idx → EReal) = shapeCast S2x1x1024 (arg7 m c : FVec Ideal S2x1024 .f32) shapeCasts_S2x1024_S2x1x1024 := by
  show StableHlo.after hostOps0 (fun b => m (c, b)) (Proc.tc.devRef main_v5) = _
  simp only [hostOps0]
  after_results
  rfl

theorem blk_o (c : Dev nD) (t : Fin cfg0.N) (r : Fin 1024) (d : Fin 1024) :
    (iblk m c 0 t (ix2 r d : S1024x1024.Idx) : EReal) = arg0 m c (ix2 ⟨1024 * (t.val / 4) + r.val, by have := points t; omega⟩ d) := by
  have e := (maps t).1
  blk_ext [iblk, V, e]

theorem blk_x (c : Dev nD) (t : Fin cfg0.N) (r : Fin 1024) (d : Fin 1024) :
    (iblk m c 1 t (ix2 r d : S1024x1024.Idx) : EReal) = arg1 m c (ix2 ⟨1024 * (t.val / 4) + r.val, by have := points t; omega⟩ d) := by
  have e := (maps t).2.1
  blk_ext [iblk, V, e]

theorem blk_wo (c : Dev nD) (t : Fin cfg0.N) (d j : Fin 1024) :
    (iblk m c 2 t (ix2 d j : S1024x1024.Idx) : EReal) = arg2 m c (ix2 d j) := by
  have e := (maps t).2.2.1
  blk_ext [iblk, V, e]

theorem blk_g (c : Dev nD) (t : Fin cfg0.N) (d : Fin 1024) :
    (iblk m c 4 t (ix2 0 d : S1x1024.Idx) : EReal) = arg4 m c (ix1 d) := by
  have e := (maps t).2.2.2.2.1
  have hi : (((cfg0.win 4).blk t).view.emb (ix2 0 d : S1x1024.Idx) : S1x1024.Idx) = ix2 0 d := by blk_ext [e]
  refine (congrArg (V m c main_v2 : S1x1024.Idx → EReal) hi).trans ?_
  rw [V_g]
  pointwise []

theorem blk_g1 (c : Dev nD) (t : Fin cfg0.N) (d : Fin 1024) :
    (iblk m c 3 t (ix3 0 0 d : S1x1x1024.Idx) : EReal) = arg3 m c (ix2 ⟨t.val / 32, by have := points t; omega⟩ d) := by
  have e := (maps t).2.2.2.1
  have hi : (((cfg0.win 3).blk t).view.emb (ix3 0 0 d : S1x1x1024.Idx) : S2x1x1024.Idx) = ix3 ⟨t.val / 32, by have := points t; omega⟩ 0 d := by blk_ext [e]
  refine (congrArg (V m c main_v1 : S2x1x1024.Idx → EReal) hi).trans ?_
  rw [V_g1]
  pointwise []

theorem blk_sh (c : Dev nD) (t : Fin cfg0.N) (d : Fin 1024) :
    (iblk m c 5 t (ix3 0 0 d : S1x1x1024.Idx) : EReal) = arg5 m c (ix2 ⟨t.val / 32, by have := points t; omega⟩ d) := by
  have e := (maps t).2.2.2.2.2.1
  have hi : (((cfg0.win 5).blk t).view.emb (ix3 0 0 d : S1x1x1024.Idx) : S2x1x1024.Idx) = ix3 ⟨t.val / 32, by have := points t; omega⟩ 0 d := by blk_ext [e]
  refine (congrArg (V m c main_v3 : S2x1x1024.Idx → EReal) hi).trans ?_
  rw [V_sh]
  pointwise []

theorem blk_sc (c : Dev nD) (t : Fin cfg0.N) (d : Fin 1024) :
    (iblk m c 6 t (ix3 0 0 d : S1x1x1024.Idx) : EReal) = arg6 m c (ix2 ⟨t.val / 32, by have := points t; omega⟩ d) := by
  have e := (maps t).2.2.2.2.2.2.1
  have hi : (((cfg0.win 6).blk t).view.emb (ix3 0 0 d : S1x1x1024.Idx) : S2x1x1024.Idx) = ix3 ⟨t.val / 32, by have := points t; omega⟩ 0 d := by blk_ext [e]
  refine (congrArg (V m c main_v4 : S2x1x1024.Idx → EReal) hi).trans ?_
  rw [V_sc]
  pointwise []

theorem blk_g2 (c : Dev nD) (t : Fin cfg0.N) (d : Fin 1024) :
    (iblk m c 7 t (ix3 0 0 d : S1x1x1024.Idx) : EReal) = arg7 m c (ix2 ⟨t.val / 32, by have := points t; omega⟩ d) := by
  have e := (maps t).2.2.2.2.2.2.2.1
  have hi : (((cfg0.win 7).blk t).view.emb (ix3 0 0 d : S1x1x1024.Idx) : S2x1x1024.Idx) = ix3 ⟨t.val / 32, by have := points t; omega⟩ 0 d := by blk_ext [e]
  refine (congrArg (V m c main_v5 : S2x1x1024.Idx → EReal) hi).trans ?_
  rw [V_g2]
  pointwise []

theorem blk_wu (c : Dev nD) (t : Fin cfg0.N) (d f : Fin 1024) :
    (iblk m c 8 t (ix2 d f : S1024x1024.Idx) : EReal) = arg8 m c (ix2 d (Layer.col (t.val % 4) f)) := by
  have e := (maps t).2.2.2.2.2.2.2.2.1
  have ec : Layer.col (t.val % 4) f = ⟨1024 * (t.val % 4) + f.val, by omega⟩ := Fin.ext (by show (1024 * (t.val % 4) + f.val) % 4096 = 1024 * (t.val % 4) + f.val; omega)
  rw [ec]
  blk_ext [iblk, V, e]

theorem blk_wd (c : Dev nD) (t : Fin cfg0.N) (f j : Fin 1024) :
    (iblk m c 9 t (ix2 f j : S1024x1024.Idx) : EReal) = arg9 m c (ix2 (Layer.col (t.val % 4) f) j) := by
  have e := (maps t).2.2.2.2.2.2.2.2.2.1
  have ec : Layer.col (t.val % 4) f = ⟨1024 * (t.val % 4) + f.val, by omega⟩ := Fin.ext (by show (1024 * (t.val % 4) + f.val) % 4096 = 1024 * (t.val % 4) + f.val; omega)
  rw [ec]
  blk_ext [iblk, V, e]

/-- Row `R` after the projection, -/
abbrev x1Row (c : Dev nD) (R : Fin 16384) : Fin 1024 → EReal := Layer.mixRow (arg0 m c) (arg1 m c) (arg2 m c) (arg3 m c) R

/-- normed and modulated, -/
abbrev preRow (c : Dev nD) (R : Fin 16384) : Fin 1024 → EReal :=
  Layer.pre (x1Row m c R) (fun d => arg4 m c (ix1 d)) (fun d => arg5 m c (ix2 ⟨R.val / 8192, by omega⟩ d)) (fun d => arg6 m c (ix2 ⟨R.val / 8192, by omega⟩ d))

/-- and with the first quarters `0 … k` of the feed-forward sum. -/
abbrev accRow (c : Dev nD) (R : Fin 16384) (k : ℕ) (j : Fin 1024) : EReal :=
  Layer.quarters (x1Row m c R) (preRow m c R) (fun d => arg7 m c (ix2 ⟨R.val / 8192, by omega⟩ d)) (fun d f => arg8 m c (ix2 d f)) (fun f j => arg9 m c (ix2 f j)) j k

theorem seq_eq (t : Fin cfg0.N) (r : Fin 1024) (h : (1024 * (t.val / 4) + r.val) / 8192 < 2) :
    (⟨(1024 * (t.val / 4) + r.val) / 8192, h⟩ : Fin 2) = ⟨t.val / 32, by have := points t; omega⟩ :=
  Fin.ext (by show (1024 * (t.val / 4) + r.val) / 8192 = t.val / 32; omega)

theorem x1_eq (c : Dev nD) (t : Fin cfg0.N) (r : Fin 1024) :
    mixB (iblk m c 0 t) (iblk m c 1 t) (iblk m c 2 t) (iblk m c 3 t) r = x1Row m c ⟨1024 * (t.val / 4) + r.val, by have := points t; omega⟩ := by
  unfold mixB x1Row Layer.mixRow
  rw [seq_eq]
  simp only [blk_o, blk_x, blk_wo, blk_g1]

theorem pre_eq (c : Dev nD) (t : Fin cfg0.N) (r : Fin 1024) :
    hB (iblk m c 0 t) (iblk m c 1 t) (iblk m c 2 t) (iblk m c 3 t) (iblk m c 4 t) (iblk m c 5 t) (iblk m c 6 t) r = preRow m c ⟨1024 * (t.val / 4) + r.val, by have := points t; omega⟩ := by
  unfold hB preRow
  rw [x1_eq, seq_eq]
  simp only [blk_g, blk_sh, blk_sc]

theorem quarter_eq (c : Dev nD) (t : Fin cfg0.N) (h : Fin 1024 → EReal) (j : Fin 1024) :
    (∑ f : Fin 1024, Layer.up h (fun d f => iblk m c 8 t (ix2 d f : S1024x1024.Idx)) f * iblk m c 9 t (ix2 f j : S1024x1024.Idx) : EReal)
      = Layer.quarter h (fun d f => arg8 m c (ix2 d f)) (fun f j => arg9 m c (ix2 f j)) j (t.val % 4) := by
  unfold Layer.quarter
  simp only [blk_wu, blk_wd]

/-- What a row block's first point leaves. -/
theorem outs_A (c : Dev nD) (t : Fin cfg0.N) (h0 : t.val % 4 = 0) :
    outsAt0 m c t.val t.isLt = (k0_pay2 (F := Ideal) (hA (iblk m c 0 t) (iblk m c 1 t) (iblk m c 2 t) (iblk m c 3 t) (iblk m c 4 t) (iblk m c 5 t) (iblk m c 6 t)) (iblk m c 8 t) (mixA (iblk m c 0 t) (iblk m c 1 t) (iblk m c 2 t) (iblk m c 3 t)) (iblk m c 7 t) (iblk m c 9 t), hA (iblk m c 0 t) (iblk m c 1 t) (iblk m c 2 t) (iblk m c 3 t) (iblk m c 4 t) (iblk m c 5 t) (iblk m c 6 t)) :=
  (outsAt0_A m c t h0).trans (congrArg₂ Prod.mk
    (out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) ((hcond0_0 t).mpr h0))
    (sout_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) ((hcond0_0 t).mpr h0)))

/-- What a later point leaves, over what the point before left. -/
theorem outs_B (c : Dev nD) (t : Fin cfg0.N) (h0 : ¬t.val % 4 = 0) (hp : t.val - 1 < cfg0.N) :
    outsAt0 m c t.val t.isLt = (k0_pay2 (F := Ideal) (outsAt0 m c (t.val - 1) hp).2 (iblk m c 8 t) (outsAt0 m c (t.val - 1) hp).1 (iblk m c 7 t) (iblk m c 9 t), (outsAt0 m c (t.val - 1) hp).2) :=
  (outsAt0_B m c t h0).trans (congrArg₂ Prod.mk
    (out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (fun h => h0 ((hcond0_0 t).mp h)) (outsAt0 m c (t.val - 1) hp).1 (outsAt0 m c (t.val - 1) hp).2)
    rfl)

/-- The first point of a row block leaves its first quarter, and the normed rows. -/
theorem first_eq (c : Dev nD) (t : Fin cfg0.N) (h0 : t.val % 4 = 0) (r j : Fin 1024) :
    ((outsAt0 m c t.val t.isLt).1 (ix2 r j : S1024x1024.Idx) : EReal) = accRow m c ⟨1024 * (t.val / 4) + r.val, by have := points t; omega⟩ (t.val % 4) j
    ∧ ((outsAt0 m c t.val t.isLt).2 (ix2 r j : S1024x1024.Idx) : EReal) = preRow m c ⟨1024 * (t.val / 4) + r.val, by have := points t; omega⟩ j := by
  have hx : (mixA (iblk m c 0 t) (iblk m c 1 t) (iblk m c 2 t) (iblk m c 3 t) (ix2 r j : S1024x1024.Idx) : EReal) = x1Row m c ⟨1024 * (t.val / 4) + r.val, by have := points t; omega⟩ j :=
    congrFun (x1_eq m c t r) j
  have hh : (fun d => (hA (iblk m c 0 t) (iblk m c 1 t) (iblk m c 2 t) (iblk m c 3 t) (iblk m c 4 t) (iblk m c 5 t) (iblk m c 6 t) (ix2 r d : S1024x1024.Idx) : EReal)) = preRow m c ⟨1024 * (t.val / 4) + r.val, by have := points t; omega⟩ :=
    pre_eq m c t r
  have hq := quarter_eq m c t (preRow m c ⟨1024 * (t.val / 4) + r.val, by have := points t; omega⟩) j
  rw [outs_A m c t h0]
  refine ⟨(acc_at _ _ _ _ _ r j).trans ?_, congrFun hh j⟩
  rw [hx, hh, hq, blk_g2, h0]
  unfold accRow
  rw [Layer.quarters, seq_eq]

/-- After each point, the output's block holds its row block's quarters so far, and the scratch the normed rows. -/
theorem outs_eq (c : Dev nD) : ∀ (n : ℕ) (t : Fin cfg0.N) (e : t.val = n) (r j : Fin 1024),
    ((outsAt0 m c t.val t.isLt).1 (ix2 r j : S1024x1024.Idx) : EReal) = accRow m c ⟨1024 * (t.val / 4) + r.val, by have := points t; omega⟩ (t.val % 4) j
    ∧ ((outsAt0 m c t.val t.isLt).2 (ix2 r j : S1024x1024.Idx) : EReal) = preRow m c ⟨1024 * (t.val / 4) + r.val, by have := points t; omega⟩ j := by
  intro n
  induction n with
  | zero => exact fun t e => first_eq m c t (by omega)
  | succ n ih =>
    intro t e r j
    by_cases h0 : t.val % 4 = 0
    · exact first_eq m c t h0 r j
    have hp := points t
    have hpr : t.val - 1 < cfg0.N := Nat.lt_of_le_of_lt (Nat.sub_le _ _) t.isLt
    have hq := ih ⟨t.val - 1, hpr⟩ (by show t.val - 1 = n; omega)
    have e4 : (t.val - 1) / 4 = t.val / 4 := by omega
    have em : t.val % 4 = (t.val - 1) % 4 + 1 := by omega
    simp only [e4] at hq
    rw [outs_B m c t h0 hpr]
    refine ⟨(acc_at _ _ _ _ _ r j).trans ?_, (hq r j).2⟩
    have hu := quarter_eq m c t (preRow m c ⟨1024 * (t.val / 4) + r.val, by omega⟩) j
    have hh : (fun d => ((outsAt0 m c (t.val - 1) hpr).2 (ix2 r d : S1024x1024.Idx) : EReal)) = preRow m c ⟨1024 * (t.val / 4) + r.val, by omega⟩ := funext fun d => (hq r d).2
    rw [(hq r j).1, hh, hu, blk_g2]
    rw [em]
    unfold accRow
    rw [Layer.quarters, seq_eq]

/-- The result, before the quarters are joined. -/
def acc (c : Dev nD) : (⟨2, ![16384, 1024]⟩ : Shape).Idx → EReal := fun i => accRow m c (i 0) 3 (i 1)

theorem final (c : Dev nD) : (dats m 0 c).arrAt 10 cfg0.N = (acc m c : Buf (Elt Ideal) ((c : Thread nD τ).loc main_v8)) := by
  refine (dats m 0 c).arrAt_eq_of_covers 10 _ (by decide +kernel) fun t hfl y => ?_
  have hm : t.val % 4 = 3 := (flush0_10 t).mp hfl
  blk_simp
  rw [after0_10]
  have hp := points t
  have e := (maps t).2.2.2.2.2.2.2.2.2.2
  obtain ⟨r, j, rfl⟩ : ∃ (r : Fin 1024) (j : Fin 1024), y = (ix2 r j : S1024x1024.Idx) := ⟨y 0, y 1, eq_ix2 y⟩
  refine (outs_eq m c t.val t rfl r j).1.trans ?_
  have hi : (((cfg0.win 10).blk t).view.emb (ix2 r j : S1024x1024.Idx) : S16384x1024.Idx) = ix2 ⟨1024 * (t.val / 4) + r.val, by omega⟩ j := by blk_ext [e]
  refine Eq.trans ?_ (congrArg (acc m c) hi).symm
  rw [hm]
  rfl

/-- Every entry of every argument is a number. -/
structure Numbers (c : Dev nD) : Prop where
  o : ∀ i, Layer.IsReal (arg0 m c i)
  x : ∀ i, Layer.IsReal (arg1 m c i)
  wo : ∀ i, Layer.IsReal (arg2 m c i)
  g1 : ∀ i, Layer.IsReal (arg3 m c i)
  g : ∀ i, Layer.IsReal (arg4 m c i)
  sh : ∀ i, Layer.IsReal (arg5 m c i)
  sc : ∀ i, Layer.IsReal (arg6 m c i)
  g2 : ∀ i, Layer.IsReal (arg7 m c i)
  wu : ∀ i, Layer.IsReal (arg8 m c i)
  wd : ∀ i, Layer.IsReal (arg9 m c i)

/-- Of numbers, the quarters join. -/
theorem acc_eq (c : Dev nD) (h : Numbers m c) :
    acc m c = Layer.moba (arg0 m c) (arg1 m c) (arg2 m c) (arg3 m c) (arg4 m c) (arg5 m c) (arg6 m c) (arg7 m c) (arg8 m c) (arg9 m c) :=
  funext fun i => Layer.quarters_eq _ _ _ _ _ (i 1)
    (Layer.pre_real (Layer.mix_real (fun _ => h.x _) (fun _ => h.o _) (fun _ => h.g1 _) (fun _ _ => h.wo _)) (fun _ => h.g _) (fun _ => h.sh _) (fun _ => h.sc _))
    (fun _ => h.g2 _) (fun _ _ => h.wu _) (fun _ _ => h.wd _)

/-- The call's run: its result, and the arguments unchanged. -/
theorem run (ρ : Dev nD → PrngReg) (hn : ∀ c, Numbers m c) :
    θ_run defs (onTc (τ := τ) (main (F := Ideal))) ⟨m, fun _ => 0, ρ⟩ (fun r => ∀ c : Dev nD,
      r.2.mem ((c.tc : Thread nD τ).loc main_v8) = Layer.moba (arg0 m c) (arg1 m c) (arg2 m c) (arg3 m c) (arg4 m c) (arg5 m c) (arg6 m c) (arg7 m c) (arg8 m c) (arg9 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans ((final m c).trans (acc_eq m c (hn c))), (h c).2⟩) (Value.run_blocks m ρ)

end Cert.MobaIdeal.Pf

end
-- ==== Proof.Moba.Ref.lean ====
/- The output-projection and feed-forward reference, read at an index on extended reals. -/
module

public import proofs.«01_k».proof.Proof.Layer
public import proofs.«01_k».proof.Proof.Gen.MobaRefIdeal.Run
public import Idealize.ShloMosaic.Lib.Pipeline.ValueKit

@[expose] public section

set_option maxRecDepth 16384

noncomputable section

namespace Cert.MobaRefIdeal.Pf

open Cert.MobaRefIdeal Cert.MobaRefIdeal.Gen Idealize.ShloMosaic Idealize.ShloMosaic.TcCoe Idealize.ShloMosaic.Tactic

variable (o : FVec Ideal S16384x1024 .bf16) (x : FVec Ideal S16384x1024 .f32) (wo : FVec Ideal S1024x1024 .f32) (g1 : FVec Ideal S2x1024 .f32)
  (g : FVec Ideal S1024 .f32) (sh sc g2 : FVec Ideal S2x1024 .f32) (wu : FVec Ideal S1024x4096 .f32) (wd : FVec Ideal S4096x1024 .f32)

/-- A per-sequence row over its sequence. -/
abbrev seqRow (a : FVec Ideal S2x1024 .f32) : FVec Ideal S2x8192x1024 .f32 :=
  broadcastInDim S2x8192x1024 ![0, 1, 2] bcast_S2x1x1024_S2x8192x1024_0_1_2 (broadcastInDim S2x1x1024 ![0, 2] bcast_S2x1024_S2x1x1024_0_2 a)

/-- The rows plus the projected, gated mixing. -/
def x1 : FVec Ideal S2x8192x1024 .f32 :=
  addf (shapeCast _ x shapeCasts_S16384x1024_S2x8192x1024) (mulf (seqRow g1)
    (Host.dotGeneral dot_S2x8192x1024_S1024x1024_S2x8192x1024_2_0_01_1_n_n none (shapeCast _ (extf .f32 o bitsLt_bf16_f32) shapeCasts_S16384x1024_S2x8192x1024) wo))

/-- The mean square of every row. -/
def ms (y : FVec Ideal S2x8192x1024 .f32) : FVec Ideal S2x8192x1 .f32 :=
  Host.divf (broadcastInDim S2x8192x1 ![0, 1] bcast_S2x8192_S2x8192x1_0_1 (Host.reduceAdd (mulf y y) (constant S_ .f32 0x00000000#32) reducesTo_S2x8192x1024_S2x8192_d2 h_S_))
    (broadcastInDim S2x8192x1 ![] bcast_S_S2x8192x1 (constant S_ .f32 0x44800000#32))

/-- The normalized, scaled and shifted rows. -/
def h (y : FVec Ideal S2x8192x1024 .f32) : FVec Ideal S2x8192x1024 .f32 :=
  addf (mulf (mulf (mulf y (broadcastInDim S2x8192x1024 ![0, 1, 2] bcast_S2x8192x1_S2x8192x1024_0_1_2 (Host.rsqrt (addf (ms y) (broadcastInDim S2x8192x1 ![] bcast_S_S2x8192x1 (constant S_ .f32 0x358637BD#32))))))
      (broadcastInDim S2x8192x1024 ![0, 1, 2] bcast_S1x1x1024_S2x8192x1024_0_1_2 (broadcastInDim S1x1x1024 ![2] bcast_S1024_S1x1x1024_2 g)))
    (broadcastInDim S2x8192x1024 ![0, 1, 2] bcast_S2x1x1024_S2x8192x1024_0_1_2 (addf (broadcastInDim S2x1x1024 ![] bcast_S_S2x1x1024 (constant S_ .f32 0x3F800000#32)) (broadcastInDim S2x1x1024 ![0, 2] bcast_S2x1024_S2x1x1024_0_2 sc))))
    (seqRow sh)

/-- The hidden values, rectified. -/
def u (y : FVec Ideal S2x8192x1024 .f32) : FVec Ideal S2x8192x4096 .f32 :=
  maximumf (Host.dotGeneral dot_S2x8192x1024_S1024x4096_S2x8192x4096_2_0_01_1_n_n none (h g sh sc y) wu) (broadcastInDim S2x8192x4096 ![] bcast_S_S2x8192x4096 (constant S_ .f32 0x00000000#32))

/-- The result. -/
def res (y : FVec Ideal S2x8192x1024 .f32) : FVec Ideal S16384x1024 .f32 :=
  shapeCast _ (addf y (mulf (seqRow g2) (Host.dotGeneral dot_S2x8192x4096_S4096x1024_S2x8192x1024_2_0_01_1_n_n none (mulf (u g sh sc wu y) (u g sh sc wu y)) wd))) shapeCasts_S2x8192x1024_S16384x1024

theorem x1_at (b : Fin 2) (t : Fin 8192) (d : Fin 1024) :
    (x1 o x wo g1 (ix3 b t d) : EReal) = Layer.mix (fun d => x (ix2 ⟨b.val * 8192 + t.val, by omega⟩ d)) (fun d => o (ix2 ⟨b.val * 8192 + t.val, by omega⟩ d)) (fun d => g1 (ix2 b d)) (fun d j => wo (ix2 d j)) d := by
  pointwise [x1]
  rfl

theorem h_at (y : FVec Ideal S2x8192x1024 .f32) (b : Fin 2) (t : Fin 8192) (d : Fin 1024) :
    (h g sh sc y (ix3 b t d) : EReal) = Layer.pre (fun d => y (ix3 b t d)) (fun d => g (ix1 d)) (fun d => sh (ix2 b d)) (fun d => sc (ix2 b d)) d := by
  have e : (ms y (ix3 b t 0) : EReal) = Layer.ms fun d => y (ix3 b t d) := by
    pointwise [ms]
    rfl
  pointwise [h]
  rw [e]
  rfl

theorem res_at (y : FVec Ideal S2x8192x1024 .f32) (R : Fin 16384) (j : Fin 1024) :
    (res g sh sc g2 wu wd y (ix2 R j) : EReal) = Layer.ff (fun d => y (ix3 ⟨R.val / 8192, by omega⟩ ⟨R.val % 8192, by omega⟩ d)) (fun d => g (ix1 d)) (fun d => sh (ix2 ⟨R.val / 8192, by omega⟩ d))
      (fun d => sc (ix2 ⟨R.val / 8192, by omega⟩ d)) (fun d => g2 (ix2 ⟨R.val / 8192, by omega⟩ d)) (fun d f => wu (ix2 d f)) (fun f j => wd (ix2 f j)) j := by
  pointwise [res, u]
  simp only [h_at]
  rfl

theorem seq_row (R : Fin 16384) (h : R.val / 8192 * 8192 + R.val % 8192 < 16384) : (⟨R.val / 8192 * 8192 + R.val % 8192, h⟩ : Fin 16384) = R := Fin.ext (by show R.val / 8192 * 8192 + R.val % 8192 = R.val; omega)

theorem res_eq : (res g sh sc g2 wu wd (x1 o x wo g1) : S16384x1024.Idx → EReal) = Layer.moba o x wo g1 g sh sc g2 wu wd := by
  funext i
  obtain ⟨R, j, rfl⟩ : ∃ (R : Fin 16384) (j : Fin 1024), i = (ix2 R j : S16384x1024.Idx) := ⟨i 0, i 1, eq_ix2 i⟩
  rw [res_at]
  simp only [x1_at, seq_row]
  rfl

open Idealize.SL.Sem

variable (m : (ℓ : Loc nD τ sig) → Buf (Elt Ideal) ℓ)

/-- The reference's run: the result, and the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v37) = Layer.moba (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => by
    obtain ⟨h0, h⟩ := h c
    refine ⟨h0.trans ?_, h⟩
    unfold Value.res_main_v37
    exact res_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) (Value.run m ρ)

end Cert.MobaRefIdeal.Pf

end
-- ==== Proof.Moba.Precond.lean ====
/- The precondition `numbers` in words: every entry of every argument is a number. -/
module

public import proofs.«01_k».proof.Defs
public import proofs.«01_k».proof.Proof.FeedForward
public import Idealize.ShloMosaic.Lib.Pipeline.ValueKit
public import Idealize.ShloMosaic.Lib.ReduceAll

@[expose] public section

noncomputable section

namespace Cert.Pre_numbers

open Idealize.ShloMosaic

instance facts : Facts := ⟨by decide, by decide, by decide, by decide, by decide, by decide, by decide, by decide, by decide, by decide, by decide, by decide, by decide, by decide⟩

open Facts

/-- An absolute value below infinity is a number's. -/
theorem real_of_lt (x : EReal) (hi : Ideal.cmp .olt (max x (-x)) (Ideal.ofBits .f32 0x7F800000#32) = 1#1) : Layer.IsReal x := by
  have e : Ideal.ofBits .f32 0x7F800000#32 = (⊤ : EReal) := by simp [Ideal.ofBits, Ideal.ieee]
  rw [e] at hi
  have hlt : (max x (-x) : EReal) < ⊤ := by
    by_contra hn
    simp [Ideal.cmp, hn] at hi
  have h1 : x ≠ ⊤ := ((le_max_left _ _).trans_lt hlt).ne
  have h2 : x ≠ ⊥ := fun hb => ((le_max_right x (-x)).trans_lt hlt).ne (by rw [hb]; rfl)
  exact ⟨EReal.toReal x, (EReal.coe_toReal h1 h2).symm⟩

/-- An all-reduction of such comparisons says it of every entry. -/
theorem real_of_all {s : Shape} {axes : List (Fin s.rank)} (x : s.Idx → EReal) (hb : S_.BroadcastsInDim s (![] : Fin 0 → Fin s.rank)) (hr : s.ReducesTo axes S_)
    (e : Host.reduce IntOp.andi (cmpf (F := Ideal) (φ := .f32) .olt (Host.absf (F := Ideal) (φ := .f32) x) (broadcastInDim s ![] hb (constant S_ .f32 0x7F800000#32)))
      (constantI S_ 1 1#1) hr h_S_ ix0 = 1#1) (i : s.Idx) : Layer.IsReal (x i) :=
  haveI : Subsingleton S_.Idx := ⟨fun a b => funext fun k => k.elim0⟩
  real_of_lt (x i) (Host.reduce_andi_all _ _ hr h_S_ ix0 e i)

theorem and_one : ∀ a b : BitVec 1, IntOp.andi a b = 1#1 → a = 1#1 ∧ b = 1#1 := by decide

/-- What the predicate says of the ten arguments. -/
theorem allReal (a0 : FVec Ideal S16384x1024 .bf16) (a1 : FVec Ideal S16384x1024 .f32) (a2 : FVec Ideal S1024x1024 .f32) (a3 : FVec Ideal S2x1024 .f32) (a4 : FVec Ideal S1024 .f32) (a5 : FVec Ideal S2x1024 .f32) (a6 : FVec Ideal S2x1024 .f32) (a7 : FVec Ideal S2x1024 .f32) (a8 : FVec Ideal S1024x4096 .f32) (a9 : FVec Ideal S4096x1024 .f32)
    (h : fn (F := Ideal) a0 a1 a2 a3 a4 a5 a6 a7 a8 a9 = fun _ => 1#1) :
    (∀ i, Layer.IsReal (a0 i)) ∧ (∀ i, Layer.IsReal (a1 i)) ∧ (∀ i, Layer.IsReal (a2 i)) ∧ (∀ i, Layer.IsReal (a3 i)) ∧ (∀ i, Layer.IsReal (a4 i)) ∧ (∀ i, Layer.IsReal (a5 i)) ∧ (∀ i, Layer.IsReal (a6 i)) ∧ (∀ i, Layer.IsReal (a7 i)) ∧ (∀ i, Layer.IsReal (a8 i)) ∧ (∀ i, Layer.IsReal (a9 i)) := by
  have h9 := congrFun h ix0
  obtain ⟨h8, e9⟩ := and_one _ _ h9
  obtain ⟨h7, e8⟩ := and_one _ _ h8
  obtain ⟨h6, e7⟩ := and_one _ _ h7
  obtain ⟨h5, e6⟩ := and_one _ _ h6
  obtain ⟨h4, e5⟩ := and_one _ _ h5
  obtain ⟨h3, e4⟩ := and_one _ _ h4
  obtain ⟨h2, e3⟩ := and_one _ _ h3
  obtain ⟨h1, e2⟩ := and_one _ _ h2
  obtain ⟨h0, e1⟩ := and_one _ _ h1
  exact ⟨real_of_all a0 _ _ h0, real_of_all a1 _ _ e1, real_of_all a2 _ _ e2, real_of_all a3 _ _ e3, real_of_all a4 _ _ e4, real_of_all a5 _ _ e5, real_of_all a6 _ _ e6, real_of_all a7 _ _ e7, real_of_all a8 _ _ e8, real_of_all a9 _ _ e9⟩

end Cert.Pre_numbers

end
-- ==== Proof.Moba.Agree.lean ====
/- The attention layer's closing call and its reference end with the same rows. -/
module

public import proofs.«01_k».proof.Defs
public import proofs.«01_k».proof.Proof.Moba.Arrays
public import proofs.«01_k».proof.Proof.Moba.Ref
public import proofs.«01_k».proof.Proof.Moba.Precond
public import Idealize.ShloMosaic.Adequacy
public import Idealize.ShloMosaic.Init

@[expose] public section

noncomputable section

namespace Cert.Proof

open Idealize.ShloMosaic Idealize.SL.Sem

theorem moba_frame_reference : Cert.quiescent_MobaRefIdeal := fun m ρ _ =>
  (θ_run Cert.MobaRefIdeal.defs _ _).mono (fun r h => ⟨fun c => (h c).2, Idealize.ShloMosaic.sem_eq_zero_of_no_sems (by decide) r.2⟩)
    (Cert.MobaRefIdeal.Value.run m ρ)

theorem moba_frame_reference_pre : Cert.quiescent_MobaRefIdeal_pre_numbers := fun m ρ _ =>
  (θ_run Cert.MobaRefIdeal.defs _ _).mono (fun r h => ⟨fun c => (h c).2, Idealize.ShloMosaic.sem_eq_zero_of_no_sems (by decide) r.2⟩)
    (Cert.MobaRefIdeal.Value.run m ρ)

theorem moba : Cert.algebraic_MobaIdeal_MobaRefIdeal_pre_numbers := by
  intro m ρ m' ρ' hpre hagree
  have hn : ∀ c, Cert.MobaIdeal.Pf.Numbers m c := fun c => by
    obtain ⟨h0, h1, h2, h3, h4, h5, h6, h7, h8, h9⟩ := Cert.Pre_numbers.allReal _ _ _ _ _ _ _ _ _ _ (hpre c)
    exact ⟨h0, h1, h2, h3, h4, h5, h6, h7, h8, h9⟩
  refine ⟨_, Cert.MobaIdeal.Pf.run m ρ hn, ?_⟩
  refine (θ_run Cert.MobaRefIdeal.defs _ _).mono (fun r h c => ?_) (Cert.MobaRefIdeal.Pf.run m' ρ')
  obtain ⟨h0, h2⟩ := h c
  obtain ⟨e0, e1, e2, e3, e4, e5, e6, e7, e8, e9⟩ := hagree c
  rw [e0, e1, e2, e3, e4, e5, e6, e7, e8, e9] at h0
  exact ⟨h0, h2⟩

end Cert.Proof

end
-- ==== Proof.Kv.Block.lean ====
/- The key-value call's blocks, read at an index on extended reals. -/
module

public import proofs.«01_k».proof.Proof.Layer
public import proofs.«01_k».proof.Proof.Gen.KvIdeal.Value
public import Idealize.ShloMosaic.Lib.Pipeline.ReadBack
public import Idealize.ShloMosaic.Lib.Pipeline.ValueKit

@[expose] public section

set_option maxRecDepth 16384

noncomputable section

namespace Cert.KvIdeal.Pf

open Cert.KvIdeal Cert.KvIdeal.Gen Idealize.ShloMosaic Idealize.ShloMosaic.TcCoe Idealize.ShloMosaic.Tactic

variable (i : grid0.Coords) (x0 : Vec Ideal S512x1024 .f32) (x1 : Vec Ideal S1x1024 .f32) (x2 x3 : Vec Ideal S1x1x1024 .f32) (x4 : Vec Ideal S1024x2048 .bf16) (x5 : Vec Ideal S1x128 .f32)

/-- Row `r` of the block, normed and modulated. -/
abbrev hRow (r : Fin 512) : Fin 1024 → EReal :=
  Layer.pre (fun d => x0 (ix2 r d)) (fun d => x1 (ix2 0 d)) (fun d => x2 (ix3 0 0 d)) (fun d => x3 (ix3 0 0 d))

theorem h_at (r : Fin 512) (d : Fin 1024) : (k0_pay4 x0 x1 x2 x3 (ix2 r d) : EReal) = hRow x0 x1 x2 x3 r d := by
  pointwise [k0_pay4]
  rfl

theorem proj_at (w : Vec Ideal S1024x1024 .bf16) (r : Fin 512) (j : Fin 1024) :
    (k0_pay5 x0 x1 x2 x3 w (ix2 r j) : EReal) = ∑ d, hRow x0 x1 x2 x3 r d * w (ix2 d j) := by
  pointwise [k0_pay5]
  simp only [h_at]

theorem proj_at' (w : Vec Ideal S1024x1024 .bf16) (r : Fin 512) (j : Fin 1024) :
    (k0_pay6 x0 x1 x2 x3 w (ix2 r j) : EReal) = ∑ d, hRow x0 x1 x2 x3 r d * w (ix2 d j) := by
  pointwise [k0_pay6]
  simp only [h_at]

theorem loads : View.ld x0 r0_0 = x0 ∧ View.ld x1 r0_1 = x1 ∧ View.ld x2 r0_2 = x2 ∧ View.ld x3 r0_2 = x3 ∧ View.ld x5 r0_5 = x5 :=
  ⟨View.ld_unit_lit _ x0 (by decide), View.ld_unit_lit _ x1 (by decide), View.ld_unit_lit _ x2 (by decide), View.ld_unit_lit _ x3 (by decide), View.ld_unit_lit _ x5 (by decide)⟩

theorem ldK (d j : Fin 1024) : (View.ld x4 r0_3 (ix2 d j) : EReal) = x4 (ix2 d ⟨j.val, by omega⟩) :=
  congrArg x4 (funext (Fin.forall_fin_two.mpr ⟨Fin.ext (by show 0 + 1 * d.val = d.val; omega), Fin.ext (by show 0 + 1 * j.val = j.val; omega)⟩))

theorem ldV (d j : Fin 1024) : (View.ld x4 r0_4 (ix2 d j) : EReal) = x4 (ix2 d ⟨1024 + j.val, by omega⟩) :=
  congrArg x4 (funext (Fin.forall_fin_two.mpr ⟨Fin.ext (by show 0 + 1 * d.val = d.val; omega), Fin.ext (by show 1024 + 1 * j.val = 1024 + j.val; omega)⟩))

/-- The block of values. -/
theorem out7_at (r : Fin 512) (j : Fin 1024) :
    (out0_7 i x0 x1 x2 x3 x4 x5 (ix2 r j) : EReal) = Layer.valAt (hRow x0 x1 x2 x3 r) (fun d j => x4 (ix2 d j)) j := by
  obtain ⟨e0, e1, e2, e3, e5⟩ := loads x0 x1 x2 x3 x5
  unfold out0_7
  rw [View.canon_cons_unit_lit _ _ _ (by decide), e0, e1, e2, e3, proj_at']
  exact Finset.sum_congr rfl fun d _ => congrArg (hRow x0 x1 x2 x3 r d * ·) (ldV x4 d j)

section Heads
variable (w : FVec Ideal S512x1024 .f32) (r : Fin 512) (d : Fin 128)

theorem head0 : (k0_pay10 (k0_pay9 w) x5 (ix2 r d) : EReal) = Layer.headAt (fun j => w (ix2 r j)) (fun e => x5 (ix2 0 e)) ⟨d.val, by omega⟩ := by
  pointwise [k0_pay10, k0_pay9]
  have h := Layer.headAt_block (fun j => (w (ix2 r j) : EReal)) (fun e => x5 (ix2 0 e)) 0 rfl (by decide) d
  simp only [Nat.zero_add] at h
  exact h.symm
theorem head1 : (k0_pay16 w x5 (ix2 r d) : EReal) = Layer.headAt (fun j => w (ix2 r j)) (fun e => x5 (ix2 0 e)) ⟨128 + d.val, by omega⟩ := by
  pointwise [k0_pay16]
  exact (Layer.headAt_block (fun j => (w (ix2 r j) : EReal)) (fun e => x5 (ix2 0 e)) 128 rfl (by decide) d).symm
theorem head2 : (k0_pay22 w x5 (ix2 r d) : EReal) = Layer.headAt (fun j => w (ix2 r j)) (fun e => x5 (ix2 0 e)) ⟨256 + d.val, by omega⟩ := by
  pointwise [k0_pay22]
  exact (Layer.headAt_block (fun j => (w (ix2 r j) : EReal)) (fun e => x5 (ix2 0 e)) 256 rfl (by decide) d).symm
theorem head3 : (k0_pay28 w x5 (ix2 r d) : EReal) = Layer.headAt (fun j => w (ix2 r j)) (fun e => x5 (ix2 0 e)) ⟨384 + d.val, by omega⟩ := by
  pointwise [k0_pay28]
  exact (Layer.headAt_block (fun j => (w (ix2 r j) : EReal)) (fun e => x5 (ix2 0 e)) 384 rfl (by decide) d).symm
theorem head4 : (k0_pay34 w x5 (ix2 r d) : EReal) = Layer.headAt (fun j => w (ix2 r j)) (fun e => x5 (ix2 0 e)) ⟨512 + d.val, by omega⟩ := by
  pointwise [k0_pay34]
  exact (Layer.headAt_block (fun j => (w (ix2 r j) : EReal)) (fun e => x5 (ix2 0 e)) 512 rfl (by decide) d).symm
theorem head5 : (k0_pay39 w x5 (ix2 r d) : EReal) = Layer.headAt (fun j => w (ix2 r j)) (fun e => x5 (ix2 0 e)) ⟨640 + d.val, by omega⟩ := by
  pointwise [k0_pay39]
  exact (Layer.headAt_block (fun j => (w (ix2 r j) : EReal)) (fun e => x5 (ix2 0 e)) 640 rfl (by decide) d).symm
theorem head6 : (k0_pay44 w x5 (ix2 r d) : EReal) = Layer.headAt (fun j => w (ix2 r j)) (fun e => x5 (ix2 0 e)) ⟨768 + d.val, by omega⟩ := by
  pointwise [k0_pay44]
  exact (Layer.headAt_block (fun j => (w (ix2 r j) : EReal)) (fun e => x5 (ix2 0 e)) 768 rfl (by decide) d).symm
theorem head7 : (k0_pay49 w x5 (ix2 r d) : EReal) = Layer.headAt (fun j => w (ix2 r j)) (fun e => x5 (ix2 0 e)) ⟨896 + d.val, by omega⟩ := by
  pointwise [k0_pay49]
  exact (Layer.headAt_block (fun j => (w (ix2 r j) : EReal)) (fun e => x5 (ix2 0 e)) 896 rfl (by decide) d).symm
end Heads

/-- The heads' norms over the whole block. -/
def heads (w : FVec Ideal S512x1024 .f32) (x5 : Vec Ideal S1x128 .f32) (y : S512x1024.Idx) : EReal :=
  Layer.headAt (fun j => w (ix2 (y 0) j)) (fun e => x5 (ix2 0 e)) (y 1)

/-- One store of the block: the columns from `o`. -/
theorem piece_at (w : FVec Ideal S512x1024 .f32) (o : ℕ) (ho : o + 128 ≤ 1024) (inb : ∀ a, (![0, o] : Fin 2 → ℕ) a + S512x128.size a ≤ S512x1024.size a)
    (p : FVec Ideal S512x128 .f32)
    (h : ∀ r d, (p (ix2 r d) : EReal) = Layer.headAt (fun j => w (ix2 r j)) (fun e => x5 (ix2 0 e)) ⟨o + d.val, by omega⟩)
    (y : (Rect.unit (s := S512x1024) ![0, o] S512x128.size inb).shape.Idx) : p y = heads w x5 ((Rect.unit (s := S512x1024) ![0, o] S512x128.size inb).emb y) := by
  obtain ⟨r, d, rfl⟩ : ∃ (r : Fin 512) (d : Fin 128), y = (ix2 r d : S512x128.Idx) := ⟨y 0, y 1, eq_ix2 y⟩
  refine (h r d).trans ?_
  have e : (Rect.unit (s := S512x1024) ![0, o] S512x128.size inb).emb (ix2 r d : S512x128.Idx) = (ix2 r ⟨o + d.val, by omega⟩ : S512x1024.Idx) :=
    funext (Fin.forall_fin_two.mpr ⟨Fin.ext (by show 0 + 1 * r.val = r.val; omega), Fin.ext (by show o + 1 * d.val = o + d.val; omega)⟩)
  rw [e]
  rfl

/-- The block of keys. -/
theorem out6_at (r : Fin 512) (j : Fin 1024) :
    (out0_6 i x0 x1 x2 x3 x4 x5 (ix2 r j) : EReal) = Layer.keyAt (hRow x0 x1 x2 x3 r) (fun d j => x4 (ix2 d j)) (fun e => x5 (ix2 0 e)) j := by
  obtain ⟨e0, e1, e2, e3, e5⟩ := loads x0 x1 x2 x3 x5
  have hw : ∀ r j, (k0_pay51 i x0 x1 x2 x3 x4 x5 (ix2 r j) : EReal) = Layer.kvAt (hRow x0 x1 x2 x3 r) (fun d j => x4 (ix2 d j)) ⟨j.val, by omega⟩ := fun r j => by
    unfold k0_pay51
    rw [e0, e1, e2, e3, proj_at]
    exact Finset.sum_congr rfl fun d _ => congrArg (hRow x0 x1 x2 x3 r d * ·) (ldK x4 d j)
  unfold out0_6 k0_pay55
  rw [e5]
  refine (View.canon_apply_of_pieces (heads (k0_pay51 i x0 x1 x2 x3 x4 x5) x5) _ (View.PiecesOf.mem ?_) (ix2 r j) (cover0_6 _ _ _ _ _ _ _ _ (ix2 r j))).trans ?_
  · exact ⟨piece_at x5 _ 896 (by decide) inb_S512x1024_S512x128_0_896 _ fun r d => head7 x5 _ r d, piece_at x5 _ 768 (by decide) inb_S512x1024_S512x128_0_768 _ fun r d => head6 x5 _ r d,
      piece_at x5 _ 640 (by decide) inb_S512x1024_S512x128_0_640 _ fun r d => head5 x5 _ r d, piece_at x5 _ 512 (by decide) inb_S512x1024_S512x128_0_512 _ fun r d => head4 x5 _ r d,
      piece_at x5 _ 384 (by decide) inb_S512x1024_S512x128_0_384 _ fun r d => head3 x5 _ r d, piece_at x5 _ 256 (by decide) inb_S512x1024_S512x128_0_256 _ fun r d => head2 x5 _ r d,
      piece_at x5 _ 128 (by decide) inb_S512x1024_S512x128_0_128 _ fun r d => head1 x5 _ r d, piece_at x5 _ 0 (by decide) inb_S512x1024_S512x128_0_0 _ fun r d => by
        simp only [Nat.zero_add]; exact head0 x5 _ r d, trivial⟩
  · show Layer.headAt (fun j => k0_pay51 i x0 x1 x2 x3 x4 x5 (ix2 r j)) _ j = _
    simp only [hw]
    rfl

end Cert.KvIdeal.Pf

end
-- ==== Proof.Kv.Arrays.lean ====
/- What the key-value call's arrays hold after the run, on extended reals. -/
module

public import proofs.«01_k».proof.Proof.Kv.Block
public import Idealize.ShloMosaic.Lib.Claim

@[expose] public section

set_option maxRecDepth 16384

noncomputable section

namespace Cert.KvIdeal.Pf

open Cert.KvIdeal Cert.KvIdeal.Gen Idealize.ShloMosaic Idealize.ShloMosaic.TcCoe Idealize.ShloMosaic.Tactic
open Idealize.SL.Sem
open Idealize.ShloMosaic.Pipeline (Dat)

variable (m : (ℓ : Loc nD τ sig) → Buf (Elt Ideal) ℓ)

theorem maps : ∀ t : Fin cfg0.N, win0_0.index t = ![t.val, 0] ∧ win0_1.index t = ![0, 0] ∧ win0_2.index t = ![t.val / 16, 0, 0]
    ∧ win0_3.index t = ![t.val / 16, 0, 0] ∧ win0_4.index t = ![0, 0] ∧ win0_5.index t = ![0, 0] ∧ win0_6.index t = ![t.val, 0] ∧ win0_7.index t = ![t.val, 0] :=
  (by decide +kernel : ∀ t : Fin grid0.N, _)

theorem points (t : Fin cfg0.N) : t.val < 32 := lt_of_lt_of_eq t.isLt (show cfg0.N = 32 from N_0)

abbrev arg0 (c : Dev nD) : (⟨2, ![16384, 1024]⟩ : Shape).Idx → EReal := m ((c : Thread nD τ).loc main_arg0)
abbrev arg1 (c : Dev nD) : (⟨1, ![1024]⟩ : Shape).Idx → EReal := m ((c : Thread nD τ).loc main_arg1)
abbrev arg2 (c : Dev nD) : (⟨2, ![2, 1024]⟩ : Shape).Idx → EReal := m ((c : Thread nD τ).loc main_arg2)
abbrev arg3 (c : Dev nD) : (⟨2, ![2, 1024]⟩ : Shape).Idx → EReal := m ((c : Thread nD τ).loc main_arg3)
abbrev arg4 (c : Dev nD) : (⟨2, ![1024, 2048]⟩ : Shape).Idx → EReal := m ((c : Thread nD τ).loc main_arg4)
abbrev arg5 (c : Dev nD) : (⟨1, ![128]⟩ : Shape).Idx → EReal := m ((c : Thread nD τ).loc main_arg5)

theorem V_g (c : Dev nD) : (V m c main_v0 : S1x1024.Idx → EReal) = shapeCast S1x1024 (arg1 m c : FVec Ideal S1024 .f32) shapeCasts_S1024_S1x1024 := by
  show StableHlo.after hostOps0 (fun b => m (c, b)) (Proc.tc.devRef main_v0) = _
  simp only [hostOps0]
  after_results
  rfl

theorem V_sh (c : Dev nD) : (V m c main_v1 : S2x1x1024.Idx → EReal) = shapeCast S2x1x1024 (arg2 m c : FVec Ideal S2x1024 .f32) shapeCasts_S2x1024_S2x1x1024 := by
  show StableHlo.after hostOps0 (fun b => m (c, b)) (Proc.tc.devRef main_v1) = _
  simp only [hostOps0]
  after_results
  rfl

theorem V_sc (c : Dev nD) : (V m c main_v2 : S2x1x1024.Idx → EReal) = shapeCast S2x1x1024 (arg3 m c : FVec Ideal S2x1024 .f32) shapeCasts_S2x1024_S2x1x1024 := by
  show StableHlo.after hostOps0 (fun b => m (c, b)) (Proc.tc.devRef main_v2) = _
  simp only [hostOps0]
  after_results
  rfl

theorem V_kn (c : Dev nD) : (V m c main_v4 : S1x128.Idx → EReal) = shapeCast S1x128 (arg5 m c : FVec Ideal S128 .f32) shapeCasts_S128_S1x128 := by
  show StableHlo.after hostOps0 (fun b => m (c, b)) (Proc.tc.devRef main_v4) = _
  simp only [hostOps0]
  after_results
  rfl

theorem blk_x (c : Dev nD) (t : Fin cfg0.N) (r : Fin 512) (d : Fin 1024) :
    (iblk m c 0 t (ix2 r d : S512x1024.Idx) : EReal) = arg0 m c (ix2 ⟨512 * t.val + r.val, by have := points t; omega⟩ d) := by
  have e := (maps t).1
  blk_ext [iblk, V, e]

theorem blk_g (c : Dev nD) (t : Fin cfg0.N) (d : Fin 1024) :
    (iblk m c 1 t (ix2 0 d : S1x1024.Idx) : EReal) = arg1 m c (ix1 d) := by
  have e := (maps t).2.1
  have hi : (((cfg0.win 1).blk t).view.emb (ix2 0 d : S1x1024.Idx) : S1x1024.Idx) = ix2 0 d := by blk_ext [e]
  refine (congrArg (V m c main_v0 : S1x1024.Idx → EReal) hi).trans ?_
  rw [V_g]
  pointwise []

theorem blk_sh (c : Dev nD) (t : Fin cfg0.N) (d : Fin 1024) :
    (iblk m c 2 t (ix3 0 0 d : S1x1x1024.Idx) : EReal) = arg2 m c (ix2 ⟨t.val / 16, by have := points t; omega⟩ d) := by
  have e := (maps t).2.2.1
  have hi : (((cfg0.win 2).blk t).view.emb (ix3 0 0 d : S1x1x1024.Idx) : S2x1x1024.Idx) = ix3 ⟨t.val / 16, by have := points t; omega⟩ 0 d := by blk_ext [e]
  refine (congrArg (V m c main_v1 : S2x1x1024.Idx → EReal) hi).trans ?_
  rw [V_sh]
  pointwise []

theorem blk_sc (c : Dev nD) (t : Fin cfg0.N) (d : Fin 1024) :
    (iblk m c 3 t (ix3 0 0 d : S1x1x1024.Idx) : EReal) = arg3 m c (ix2 ⟨t.val / 16, by have := points t; omega⟩ d) := by
  have e := (maps t).2.2.2.1
  have hi : (((cfg0.win 3).blk t).view.emb (ix3 0 0 d : S1x1x1024.Idx) : S2x1x1024.Idx) = ix3 ⟨t.val / 16, by have := points t; omega⟩ 0 d := by blk_ext [e]
  refine (congrArg (V m c main_v2 : S2x1x1024.Idx → EReal) hi).trans ?_
  rw [V_sc]
  pointwise []

theorem blk_w (c : Dev nD) (t : Fin cfg0.N) (d : Fin 1024) (j : Fin 2048) :
    (iblk m c 4 t (ix2 d j : S1024x2048.Idx) : EReal) = arg4 m c (ix2 d j) := by
  have e := (maps t).2.2.2.2.1
  blk_ext [iblk, V, e]

theorem blk_kn (c : Dev nD) (t : Fin cfg0.N) (d : Fin 128) :
    (iblk m c 5 t (ix2 0 d : S1x128.Idx) : EReal) = arg5 m c (ix1 d) := by
  have e := (maps t).2.2.2.2.2.1
  have hi : (((cfg0.win 5).blk t).view.emb (ix2 0 d : S1x128.Idx) : S1x128.Idx) = ix2 0 d := by blk_ext [e]
  refine (congrArg (V m c main_v4 : S1x128.Idx → EReal) hi).trans ?_
  rw [V_kn]
  pointwise []

/-- Row `R`, normed and modulated. -/
abbrev row (c : Dev nD) (R : Fin 16384) : Fin 1024 → EReal := Layer.row (arg0 m c) (arg1 m c) (arg2 m c) (arg3 m c) R

theorem row_eq (c : Dev nD) (t : Fin cfg0.N) (r : Fin 512) :
    hRow (iblk m c 0 t) (iblk m c 1 t) (iblk m c 2 t) (iblk m c 3 t) r = row m c ⟨512 * t.val + r.val, by have := points t; omega⟩ := by
  have hp := points t
  have e : (⟨(512 * t.val + r.val) / 8192, by omega⟩ : Fin 2) = ⟨t.val / 16, by omega⟩ := Fin.ext (by show (512 * t.val + r.val) / 8192 = t.val / 16; omega)
  unfold hRow row Layer.row
  rw [e]
  simp only [blk_x, blk_g, blk_sh, blk_sc]

/-- The keys, -/
abbrev keys (c : Dev nD) : (⟨2, ![16384, 1024]⟩ : Shape).Idx → EReal := Layer.keys (arg0 m c) (arg1 m c) (arg2 m c) (arg3 m c) (arg4 m c) (arg5 m c)

/-- and the values. -/
abbrev vals (c : Dev nD) : (⟨2, ![16384, 1024]⟩ : Shape).Idx → EReal := Layer.vals (arg0 m c) (arg1 m c) (arg2 m c) (arg3 m c) (arg4 m c)

theorem final_k (c : Dev nD) : (dats m 0 c).arrAt 6 cfg0.N = (keys m c : Buf (Elt Ideal) ((c : Thread nD τ).loc main_v5_0)) := by
  refine (dats m 0 c).arrAt_eq_of_covers 6 _ (by decide +kernel) fun t hfl y => ?_
  blk_simp
  rw [after0_6]
  have hp := points t
  have e := (maps t).2.2.2.2.2.2.1
  obtain ⟨r, j, rfl⟩ : ∃ (r : Fin 512) (j : Fin 1024), y = (ix2 r j : S512x1024.Idx) := ⟨y 0, y 1, eq_ix2 y⟩
  refine (out6_at _ _ _ _ _ _ _ r j).trans ?_
  have hi : (((cfg0.win 6).blk t).view.emb (ix2 r j : S512x1024.Idx) : S16384x1024.Idx) = ix2 ⟨512 * t.val + r.val, by omega⟩ j := by blk_ext [e]
  refine Eq.trans ?_ (congrArg (keys m c) hi).symm
  rw [row_eq]
  simp only [blk_w, blk_kn]
  rfl

theorem final_v (c : Dev nD) : (dats m 0 c).arrAt 7 cfg0.N = (vals m c : Buf (Elt Ideal) ((c : Thread nD τ).loc main_v5_1)) := by
  refine (dats m 0 c).arrAt_eq_of_covers 7 _ (by decide +kernel) fun t hfl y => ?_
  blk_simp
  rw [after0_7]
  have hp := points t
  have e := (maps t).2.2.2.2.2.2.2
  obtain ⟨r, j, rfl⟩ : ∃ (r : Fin 512) (j : Fin 1024), y = (ix2 r j : S512x1024.Idx) := ⟨y 0, y 1, eq_ix2 y⟩
  refine (out7_at _ _ _ _ _ _ _ r j).trans ?_
  have hi : (((cfg0.win 7).blk t).view.emb (ix2 r j : S512x1024.Idx) : S16384x1024.Idx) = ix2 ⟨512 * t.val + r.val, by omega⟩ j := by blk_ext [e]
  refine Eq.trans ?_ (congrArg (vals m c) hi).symm
  rw [row_eq]
  simp only [blk_w]
  rfl

/-- The call's run: its keys and values, and the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v5_0) = keys m c
      ∧ r.2.mem ((c.tc : Thread nD τ).loc main_v5_1) = vals m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => by
    obtain ⟨h6, h7, _, _, _, h⟩ := h c
    exact ⟨h6.trans (final_k m c), h7.trans (final_v m c), h⟩) (Value.run_blocks m ρ)

end Cert.KvIdeal.Pf

end
-- ==== Proof.Kv.Ref.lean ====
/- The key-value reference, read at an index on extended reals. -/
module

public import proofs.«01_k».proof.Proof.Layer
public import proofs.«01_k».proof.Proof.Gen.KvRefIdeal.Run
public import Idealize.ShloMosaic.Lib.Pipeline.ValueKit

@[expose] public section

set_option maxRecDepth 16384

noncomputable section

namespace Cert.KvRefIdeal.Pf

open Cert.KvRefIdeal Cert.KvRefIdeal.Gen Idealize.ShloMosaic Idealize.ShloMosaic.TcCoe Idealize.ShloMosaic.Tactic

variable (x : FVec Ideal S16384x1024 .f32) (g : FVec Ideal S1024 .f32) (sh sc : FVec Ideal S2x1024 .f32)
  (w : FVec Ideal S1024x2048 .f32) (kn : FVec Ideal S128 .f32)

/-- The rows, by sequence. -/
def xr : FVec Ideal S2x8192x1024 .f32 := shapeCast _ x shapeCasts_S16384x1024_S2x8192x1024

/-- The mean square of every row. -/
def ms : FVec Ideal S2x8192x1 .f32 :=
  Host.divf (broadcastInDim S2x8192x1 ![0, 1] bcast_S2x8192_S2x8192x1_0_1 (Host.reduceAdd (mulf (xr x) (xr x)) (constant S_ .f32 0x00000000#32) reducesTo_S2x8192x1024_S2x8192_d2 h_S_))
    (broadcastInDim S2x8192x1 ![] bcast_S_S2x8192x1 (constant S_ .f32 0x44800000#32))

/-- The normalized, scaled and shifted rows. -/
def h : FVec Ideal S2x8192x1024 .f32 :=
  addf (mulf (mulf (mulf (xr x) (broadcastInDim S2x8192x1024 ![0, 1, 2] bcast_S2x8192x1_S2x8192x1024_0_1_2 (Host.rsqrt (addf (ms x) (broadcastInDim S2x8192x1 ![] bcast_S_S2x8192x1 (constant S_ .f32 0x358637BD#32))))))
      (broadcastInDim S2x8192x1024 ![0, 1, 2] bcast_S1x1x1024_S2x8192x1024_0_1_2 (broadcastInDim S1x1x1024 ![2] bcast_S1024_S1x1x1024_2 g)))
    (broadcastInDim S2x8192x1024 ![0, 1, 2] bcast_S2x1x1024_S2x8192x1024_0_1_2 (addf (broadcastInDim S2x1x1024 ![] bcast_S_S2x1x1024 (constant S_ .f32 0x3F800000#32)) (broadcastInDim S2x1x1024 ![0, 2] bcast_S2x1024_S2x1x1024_0_2 sc))))
    (broadcastInDim S2x8192x1024 ![0, 1, 2] bcast_S2x1x1024_S2x8192x1024_0_1_2 (broadcastInDim S2x1x1024 ![0, 2] bcast_S2x1024_S2x1x1024_0_2 sh))

/-- The projected rows. -/
def kv : FVec Ideal S2x8192x2048 .f32 := Host.dotGeneral dot_S2x8192x1024_S1024x2048_S2x8192x2048_2_0_01_1_n_n none (h x g sh sc) w

/-- The keys before their norm. -/
def k0 : FVec Ideal S2x8192x8x128 .f32 :=
  shapeCast _ (extractStridedSlice S2x8192x1024 ![0, 0, 0] (kv x g sh sc w) slices_S2x8192x2048_S2x8192x1024_0_0_0) shapeCasts_S2x8192x1024_S2x8192x8x128

/-- The keys. -/
def kR : FVec Ideal S16384x1024 .f32 :=
  shapeCast _ (mulf (mulf (k0 x g sh sc w) (broadcastInDim S2x8192x8x128 ![0, 1, 2, 3] bcast_S2x8192x8x1_S2x8192x8x128_0_1_2_3 (Host.rsqrt (addf
    (Host.divf (broadcastInDim S2x8192x8x1 ![0, 1, 2] bcast_S2x8192x8_S2x8192x8x1_0_1_2 (Host.reduceAdd (mulf (k0 x g sh sc w) (k0 x g sh sc w)) (constant S_ .f32 0x00000000#32) reducesTo_S2x8192x8x128_S2x8192x8_d3 h_S_))
      (broadcastInDim S2x8192x8x1 ![] bcast_S_S2x8192x8x1 (constant S_ .f32 0x43000000#32)))
    (broadcastInDim S2x8192x8x1 ![] bcast_S_S2x8192x8x1 (constant S_ .f32 0x358637BD#32))))))
    (broadcastInDim S2x8192x8x128 ![0, 1, 2, 3] bcast_S1x1x1x128_S2x8192x8x128_0_1_2_3 (broadcastInDim S1x1x1x128 ![3] bcast_S128_S1x1x1x128_3 kn))) shapeCasts_S2x8192x8x128_S16384x1024

/-- The values. -/
def vR : FVec Ideal S16384x1024 .f32 :=
  shapeCast _ (extractStridedSlice S2x8192x1024 ![0, 0, 1024] (kv x g sh sc w) slices_S2x8192x2048_S2x8192x1024_0_0_1024) shapeCasts_S2x8192x1024_S16384x1024

theorem xr_at (b : Fin 2) (t : Fin 8192) (d : Fin 1024) : (xr x (ix3 b t d) : EReal) = x (ix2 ⟨b.val * 8192 + t.val, by omega⟩ d) := by
  pointwise [xr]

/-- Row `t` of sequence `b`, normed and modulated. -/
abbrev hRow (b : Fin 2) (R : Fin 16384) : Fin 1024 → EReal :=
  Layer.pre (fun d => x (ix2 R d)) (fun d => g (ix1 d)) (fun d => sh (ix2 b d)) (fun d => sc (ix2 b d))

theorem h_at (b : Fin 2) (t : Fin 8192) (d : Fin 1024) : (h x g sh sc (ix3 b t d) : EReal) = hRow x g sh sc b ⟨b.val * 8192 + t.val, by omega⟩ d := by
  have e : (ms x (ix3 b t 0) : EReal) = Layer.ms fun d => x (ix2 ⟨b.val * 8192 + t.val, by omega⟩ d) := by
    pointwise [ms]
    simp only [xr_at]
    rfl
  pointwise [h]
  rw [e, xr_at]
  rfl

theorem seq_row (R : Fin 16384) (h : R.val / 8192 * 8192 + R.val % 8192 < 16384) : (⟨R.val / 8192 * 8192 + R.val % 8192, h⟩ : Fin 16384) = R := Fin.ext (by show R.val / 8192 * 8192 + R.val % 8192 = R.val; omega)

theorem k_at (R : Fin 16384) (j : Fin 1024) :
    (kR x g sh sc w kn (ix2 R j) : EReal) = Layer.keyAt (hRow x g sh sc ⟨R.val / 8192, by omega⟩ R) (fun d j => w (ix2 d j)) (fun e => kn (ix1 e)) j := by
  pointwise [kR, k0, kv]
  simp only [h_at, seq_row]
  rfl

theorem v_at (R : Fin 16384) (j : Fin 1024) :
    (vR x g sh sc w (ix2 R j) : EReal) = Layer.valAt (hRow x g sh sc ⟨R.val / 8192, by omega⟩ R) (fun d j => w (ix2 d j)) j := by
  pointwise [vR, kv]
  simp only [h_at, seq_row]
  rfl

open Idealize.SL.Sem

variable (m : (ℓ : Loc nD τ sig) → Buf (Elt Ideal) ℓ)

/-- The reference's run: the same keys and values, and the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v39) = Layer.keys (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v40) = Layer.vals (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => by
    obtain ⟨h0, h1, h⟩ := h c
    refine ⟨h0.trans ?_, h1.trans ?_, h⟩
    · unfold Value.res_main_v39
      refine Eq.trans (b := kR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) rfl ?_
      funext i
      obtain ⟨R, j, rfl⟩ : ∃ (R : Fin 16384) (j : Fin 1024), i = (ix2 R j : S16384x1024.Idx) := ⟨i 0, i 1, eq_ix2 i⟩
      exact k_at _ _ _ _ _ _ R j
    · refine Eq.trans (b := vR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) rfl ?_
      funext i
      obtain ⟨R, j, rfl⟩ : ∃ (R : Fin 16384) (j : Fin 1024), i = (ix2 R j : S16384x1024.Idx) := ⟨i 0, i 1, eq_ix2 i⟩
      exact v_at _ _ _ _ _ R j) (Value.run m ρ)

end Cert.KvRefIdeal.Pf

end
-- ==== Proof.Kv.Agree.lean ====
/- The key-value call and its reference end with the same keys and values. -/
module

public import proofs.«01_k».proof.Defs
public import proofs.«01_k».proof.Proof.Kv.Arrays
public import proofs.«01_k».proof.Proof.Kv.Ref
public import Idealize.ShloMosaic.Adequacy
public import Idealize.ShloMosaic.Init

@[expose] public section

noncomputable section

namespace Cert.Proof

open Idealize.ShloMosaic Idealize.SL.Sem

theorem kv_frame_reference : Cert.quiescent_KvRefIdeal := fun m ρ _ =>
  (θ_run Cert.KvRefIdeal.defs _ _).mono (fun r h => ⟨fun c => (h c).2.2, Idealize.ShloMosaic.sem_eq_zero_of_no_sems (by decide) r.2⟩)
    (Cert.KvRefIdeal.Value.run m ρ)

theorem kv : Cert.algebraic_KvIdeal_KvRefIdeal := by
  intro m ρ m' ρ' hpre hagree
  refine ⟨_, _, Cert.KvIdeal.Pf.run m ρ, ?_⟩
  refine (θ_run Cert.KvRefIdeal.defs _ _).mono (fun r h c => ?_) (Cert.KvRefIdeal.Pf.run m' ρ')
  obtain ⟨h0, h1, h2⟩ := h c
  obtain ⟨e0, e1, e2, e3, e4, e5⟩ := hagree c
  rw [e0, e1, e2, e3, e4] at h0 h1
  rw [e5] at h0
  exact ⟨h0, h1, h2⟩

end Cert.Proof

end
-- ==== Proof.Gated.lean ====
/- The linear attention's output before its projection, on extended reals: each head normed and gated by `t * logistic t`. -/
module

public import proofs.«01_k».proof.Proof.FeedForward

@[expose] public section

noncomputable section

namespace Cert.Layer

open Idealize.ShloMosaic Idealize.ShloMosaic.Tactic

/-- One head of 256 columns, normed with weight `on` and gated by `t`. -/
def gatedH (o t on : Fin 256 → EReal) (d : Fin 256) : EReal :=
  o d * Ideal.rsqrt (Ideal.div (∑ e, o e * o e) (Ideal.ofBits .f32 0x43800000#32) + eps) * on d * (t d * Ideal.logistic (t d))

/-- The four heads of a row. -/
def gated (o t : Fin 1024 → EReal) (on : Fin 256 → EReal) (d : Fin 1024) : EReal :=
  gatedH (fun e => o ⟨d.val / 256 * 256 + e.val, by omega⟩) (fun e => t ⟨d.val / 256 * 256 + e.val, by omega⟩) on ⟨d.val % 256, Nat.mod_lt _ (by decide)⟩

/-- The head that starts at column `p`. -/
theorem gated_at (o t : Fin 1024 → EReal) (on : Fin 256 → EReal) (p : ℕ) (h0 : p % 256 = 0) (h1 : p + 256 ≤ 1024) (d : Fin 256) :
    gated o t on ⟨p + d.val, by omega⟩ = gatedH (fun e => o ⟨p + e.val, by omega⟩) (fun e => t ⟨p + e.val, by omega⟩) on d := by
  have e1 : (p + d.val) / 256 * 256 = p := by omega
  have e2 : (⟨(p + d.val) % 256, Nat.mod_lt _ (by decide)⟩ : Fin 256) = d := Fin.ext (by show (p + d.val) % 256 = d.val; omega)
  unfold gated
  rw [e2]
  simp only [e1]

/-- A sum over a row, head by head. -/
theorem sum_heads (F : Fin 1024 → EReal) :
    ∑ d, F d = (((∑ d : Fin 256, F ⟨0 + d.val, by omega⟩) + ∑ d : Fin 256, F ⟨256 + d.val, by omega⟩) + ∑ d : Fin 256, F ⟨512 + d.val, by omega⟩) + ∑ d : Fin 256, F ⟨768 + d.val, by omega⟩ := by
  rw [← (finProdFinEquiv (m := 4) (n := 256)).sum_comp F, Fintype.sum_prod_type, Fin.sum_univ_four]
  have e : ∀ (k : Fin 4) (d : Fin 256), finProdFinEquiv (m := 4) (n := 256) (k, d) = ⟨256 * k.val + d.val, by omega⟩ := fun k d =>
    Fin.ext (by show d.val + 256 * k.val = 256 * k.val + d.val; omega)
  simp only [e]
  rfl

/-- A gated row through the projection, head by head. -/
theorem mix_heads (x g1 o t : Fin 1024 → EReal) (on : Fin 256 → EReal) (wo : Fin 1024 → Fin 1024 → EReal) (j : Fin 1024) :
    mix x (gated o t on) g1 wo j = x j + g1 j *
      ((((∑ d : Fin 256, gatedH (fun e => o ⟨0 + e.val, by omega⟩) (fun e => t ⟨0 + e.val, by omega⟩) on d * wo ⟨0 + d.val, by omega⟩ j)
        + ∑ d : Fin 256, gatedH (fun e => o ⟨256 + e.val, by omega⟩) (fun e => t ⟨256 + e.val, by omega⟩) on d * wo ⟨256 + d.val, by omega⟩ j)
        + ∑ d : Fin 256, gatedH (fun e => o ⟨512 + e.val, by omega⟩) (fun e => t ⟨512 + e.val, by omega⟩) on d * wo ⟨512 + d.val, by omega⟩ j)
        + ∑ d : Fin 256, gatedH (fun e => o ⟨768 + e.val, by omega⟩) (fun e => t ⟨768 + e.val, by omega⟩) on d * wo ⟨768 + d.val, by omega⟩ j) := by
  unfold mix
  rw [sum_heads]
  simp only [gated_at o t on 0 (by decide) (by decide), gated_at o t on 256 (by decide) (by decide), gated_at o t on 512 (by decide) (by decide), gated_at o t on 768 (by decide) (by decide)]

theorem logistic_real {x : EReal} : IsReal x → IsReal (Ideal.logistic x)
  | ⟨a, ha⟩ => by
    have hp : (0 : ℝ) < 1 + Real.exp (-a) := by positivity
    refine ⟨1 * (1 / (1 + Real.exp (-a))), ?_⟩
    rw [ha]
    exact Ideal.div_coe (x := 1) hp.ne'

theorem gatedH_real {o t on : Fin 256 → EReal} (ho : ∀ d, IsReal (o d)) (ht : ∀ d, IsReal (t d)) (hn : ∀ d, IsReal (on d)) (d : Fin 256) : IsReal (gatedH o t on d) := by
  have hrs : IsReal (Ideal.rsqrt (Ideal.div (∑ e, o e * o e) (Ideal.ofBits .f32 0x43800000#32) + eps)) := by
    choose y hy using ho
    have e : Ideal.ofBits .f32 0x43800000#32 = ((256 : ℝ) : EReal) := by
      simp [Ideal.ofBits, Ideal.ieee]
      exact congrArg ((↑) : ℝ → EReal) (show (8388608 : ℝ) * (2 ^ 15)⁻¹ = 256 by norm_num)
    have hs : (∑ d, o d * o d : EReal) = ((∑ d, y d * y d : ℝ) : EReal) := by
      simp only [hy]
      rw [coe_sum]
      rfl
    obtain ⟨p, hp, ep⟩ := eps_pos
    have hr : 0 ≤ (∑ d, y d * y d) * (1 / 256) := mul_nonneg (Finset.sum_nonneg fun d _ => mul_self_nonneg _) (by norm_num)
    rw [e, hs, ep, Ideal.div_coe (by norm_num)]
    refine ⟨(Real.sqrt ((∑ d, y d * y d) * (1 / 256) + p))⁻¹, ?_⟩
    show Ideal.rsqrt (((∑ d, y d * y d) * (1 / 256) + p : ℝ) : EReal) = _
    rw [Ideal.rsqrt_coe, if_neg (by linarith), if_neg (by linarith)]
  exact (((ho d).mul hrs).mul (hn d)).mul ((ht d).mul (logistic_real (ht d)))

section Arrays
variable (o t : (⟨2, ![16384, 1024]⟩ : Shape).Idx → EReal) (on : (⟨1, ![256]⟩ : Shape).Idx → EReal) (x : (⟨2, ![16384, 1024]⟩ : Shape).Idx → EReal)
  (wo : (⟨2, ![1024, 1024]⟩ : Shape).Idx → EReal) (g1 : (⟨2, ![2, 1024]⟩ : Shape).Idx → EReal)

/-- The heads of every row. -/
def gatedA : (⟨2, ![16384, 1024]⟩ : Shape).Idx → EReal := fun i => gated (fun d => o (ix2 (i 0) d)) (fun d => t (ix2 (i 0) d)) (fun e => on (ix1 e)) (i 1)

theorem gatedA_real (ho : ∀ i, IsReal (o i)) (ht : ∀ i, IsReal (t i)) (hn : ∀ i, IsReal (on i)) (i : (⟨2, ![16384, 1024]⟩ : Shape).Idx) : IsReal (gatedA o t on i) := by
  unfold gatedA gated
  exact gatedH_real (fun _ => ho _) (fun _ => ht _) (fun _ => hn _) _

end Arrays

end Cert.Layer

end
-- ==== Proof.Gla.Parts.lean ====
/- The linear layers' closing call: each part's rows, read at an index on extended reals. -/
module

public import proofs.«01_k».proof.Proof.Gated
public import proofs.«01_k».proof.Proof.Gen.GlaIdeal.Value
public import Idealize.ShloMosaic.Lib.Pipeline.ReadBack
public import Idealize.ShloMosaic.Lib.Pipeline.ValueKit

@[expose] public section

set_option maxRecDepth 16384

noncomputable section

namespace Cert.GlaIdeal.Pf

open Cert.GlaIdeal Cert.GlaIdeal.Gen Idealize.ShloMosaic Idealize.ShloMosaic.TcCoe Idealize.ShloMosaic.Tactic

section Parts
variable (o0 o1 o2 o3 t0 t1 t2 t3 : Vec Ideal S256x256 .bf16) (on : Vec Ideal S1x256 .f32) (w0 w1 w2 w3 : Vec Ideal S256x1024 .bf16)
  (x : Vec Ideal S256x1024 .f32) (g1 : Vec Ideal S1x1x1024 .f32)
  (g : Vec Ideal S1x1024 .f32) (sh sc : Vec Ideal S1x1x1024 .f32) (r : Fin 256) (j : Fin 1024)

/-- A head of row `r`, gated. -/
abbrev headB (o t : Vec Ideal S256x256 .bf16) (r : Fin 256) : Fin 256 → EReal :=
  Layer.gatedH (fun e => o (ix2 r e)) (fun e => t (ix2 r e)) (fun e => on (ix2 0 e))

/-- And through its rows of the projection. -/
abbrev dotB (o t : Vec Ideal S256x256 .bf16) (w : Vec Ideal S256x1024 .bf16) (r : Fin 256) (j : Fin 1024) : EReal :=
  ∑ d : Fin 256, headB on o t r d * w (ix2 d j)

/-- Row `r` of a part after the projection. -/
abbrev mixRow (j : Fin 1024) : EReal :=
  x (ix2 r j) + g1 (ix3 0 0 j) * (((dotB on o0 t0 w0 r j + dotB on o1 t1 w1 r j) + dotB on o2 t2 w2 r j) + dotB on o3 t3 w3 r j)

theorem p3 : (k0_pay3 o0 on t0 w0 (ix2 r j) : EReal) = dotB on o0 t0 w0 r j := by
  pointwise [k0_pay3]
  rfl
theorem p24 : (k0_pay24 o0 on t0 w0 (ix2 r j) : EReal) = dotB on o0 t0 w0 r j := by
  pointwise [k0_pay24]
  rfl
theorem p7 (a : FVec Ideal S256x1024 .f32) : (k0_pay7 a (k0_pay4 o1) (k0_pay5 on) (k0_pay6 o1) t1 w1 o2 on t2 w2 (ix2 r j) : EReal) = a (ix2 r j) + dotB on o1 t1 w1 r j + dotB on o2 t2 w2 r j := by
  pointwise [k0_pay7, k0_pay4, k0_pay5, k0_pay6]
  rfl
theorem p9 (a : FVec Ideal S256x1024 .f32) : (k0_pay9 a (k0_pay8 o3) on t3 w3 x g1 (ix2 r j) : EReal) = x (ix2 r j) + g1 (ix3 0 0 j) * (a (ix2 r j) + dotB on o3 t3 w3 r j) := by
  pointwise [k0_pay9, k0_pay8]
  rfl
theorem p15 : (k0_pay15 k0_pay13 (k0_pay14 o0 on) t0 w0 o1 on t1 w1 (ix2 r j) : EReal) = dotB on o0 t0 w0 r j + dotB on o1 t1 w1 r j := by
  pointwise [k0_pay15, k0_pay13, k0_pay14]
  rfl
theorem p19 (a : FVec Ideal S256x1024 .f32) : (k0_pay19 a (k0_pay16 o2) (k0_pay17 on) (k0_pay18 o2) t2 w2 (ix2 r j) : EReal) = a (ix2 r j) + dotB on o2 t2 w2 r j := by
  pointwise [k0_pay19, k0_pay16, k0_pay17, k0_pay18]
  rfl
theorem p21 (a : FVec Ideal S256x1024 .f32) : (k0_pay21 a (k0_pay20 o3 on t3) w3 x g1 (ix2 r j) : EReal) = x (ix2 r j) + g1 (ix3 0 0 j) * (a (ix2 r j) + dotB on o3 t3 w3 r j) := by
  pointwise [k0_pay21, k0_pay20]
  rfl
theorem p28 (a : FVec Ideal S256x1024 .f32) : (k0_pay28 a (k0_pay25 o1) (k0_pay26 on) (k0_pay27 o1) (Scalar.ofBits .f32 0x358637BD#32) t1 w1 o2 on t2 w2 (ix2 r j) : EReal) = a (ix2 r j) + dotB on o1 t1 w1 r j + dotB on o2 t2 w2 r j := by
  pointwise [k0_pay28, k0_pay25, k0_pay26, k0_pay27]
  rfl
theorem p29 (a : FVec Ideal S256x1024 .f32) : (k0_pay29 a o3 on t3 w3 x g1 (ix2 r j) : EReal) = x (ix2 r j) + g1 (ix3 0 0 j) * (a (ix2 r j) + dotB on o3 t3 w3 r j) := by
  pointwise [k0_pay29]
  rfl
theorem p35 : (k0_pay35 k0_pay32 (k0_pay33 o0) (k0_pay34 on) t0 w0 o1 on t1 w1 (ix2 r j) : EReal) = dotB on o0 t0 w0 r j + dotB on o1 t1 w1 r j := by
  pointwise [k0_pay35, k0_pay32, k0_pay33, k0_pay34]
  rfl
theorem p37 (a : FVec Ideal S256x1024 .f32) : (k0_pay37 a (k0_pay36 o2) on t2 w2 (ix2 r j) : EReal) = a (ix2 r j) + dotB on o2 t2 w2 r j := by
  pointwise [k0_pay37, k0_pay36]
  rfl
theorem p41 (a : FVec Ideal S256x1024 .f32) : (k0_pay41 a (k0_pay38 o3 on) (k0_pay39 t3) (k0_pay40 t3) w3 x g1 (ix2 r j) : EReal) = x (ix2 r j) + g1 (ix3 0 0 j) * (a (ix2 r j) + dotB on o3 t3 w3 r j) := by
  pointwise [k0_pay41, k0_pay38, k0_pay39, k0_pay40]
  rfl

/-- The four parts after the projection. -/
abbrev X0 := k0_pay9 (k0_pay7 (k0_pay3 o0 on t0 w0) (k0_pay4 o1) (k0_pay5 on) (k0_pay6 o1) t1 w1 o2 on t2 w2) (k0_pay8 o3) on t3 w3 x g1
abbrev A1 := k0_pay19 (k0_pay15 k0_pay13 (k0_pay14 o0 on) t0 w0 o1 on t1 w1) (k0_pay16 o2) (k0_pay17 on) (k0_pay18 o2) t2 w2
abbrev X1 := k0_pay21 (A1 o0 o1 o2 t0 t1 t2 on w0 w1 w2) (k0_pay20 o3 on t3) w3 x g1
abbrev X2 := k0_pay29 (k0_pay28 (k0_pay24 o0 on t0 w0) (k0_pay25 o1) (k0_pay26 on) (k0_pay27 o1) (Scalar.ofBits .f32 0x358637BD#32) t1 w1 o2 on t2 w2) o3 on t3 w3 x g1
abbrev A3 := k0_pay37 (k0_pay35 k0_pay32 (k0_pay33 o0) (k0_pay34 on) t0 w0 o1 on t1 w1) (k0_pay36 o2) on t2 w2
abbrev X3 := k0_pay41 (A3 o0 o1 o2 t0 t1 t2 on w0 w1 w2) (k0_pay38 o3 on) (k0_pay39 t3) (k0_pay40 t3) w3 x g1

theorem x1_0 : (X0 o0 o1 o2 o3 t0 t1 t2 t3 on w0 w1 w2 w3 x g1 (ix2 r j) : EReal) = mixRow o0 o1 o2 o3 t0 t1 t2 t3 on w0 w1 w2 w3 x g1 r j := by
  unfold X0
  rw [p9, p7, p3]
theorem x1_1 : (X1 o0 o1 o2 o3 t0 t1 t2 t3 on w0 w1 w2 w3 x g1 (ix2 r j) : EReal) = mixRow o0 o1 o2 o3 t0 t1 t2 t3 on w0 w1 w2 w3 x g1 r j := by
  unfold X1 A1
  rw [p21, p19, p15]
theorem x1_2 : (X2 o0 o1 o2 o3 t0 t1 t2 t3 on w0 w1 w2 w3 x g1 (ix2 r j) : EReal) = mixRow o0 o1 o2 o3 t0 t1 t2 t3 on w0 w1 w2 w3 x g1 r j := by
  unfold X2
  rw [p29, p28, p24]
theorem x1_3 : (X3 o0 o1 o2 o3 t0 t1 t2 t3 on w0 w1 w2 w3 x g1 (ix2 r j) : EReal) = mixRow o0 o1 o2 o3 t0 t1 t2 t3 on w0 w1 w2 w3 x g1 r j := by
  unfold X3 A3
  rw [p41, p37, p35]

/-- Row `r` of a part, normed and modulated. -/
abbrev hRow : Fin 1024 → EReal :=
  Layer.pre (mixRow o0 o1 o2 o3 t0 t1 t2 t3 on w0 w1 w2 w3 x g1 r) (fun d => g (ix2 0 d)) (fun d => sh (ix3 0 0 d)) (fun d => sc (ix3 0 0 d))

theorem q12 (a : FVec Ideal S256x1024 .f32) : (k0_pay12 a (k0_pay10 g) (k0_pay11 sh) sc (ix2 r j) : EReal) = Layer.pre (fun d => a (ix2 r d)) (fun d => g (ix2 0 d)) (fun d => sh (ix3 0 0 d)) (fun d => sc (ix3 0 0 d)) j := by
  pointwise [k0_pay12, k0_pay10, k0_pay11]
  rfl
theorem q22 (a : FVec Ideal S256x1024 .f32) (b : FVec Ideal S256x256 .bf16) : (k0_pay23 (k0_pay22 a b w3 x g1 g sh sc) (ix2 r j) : EReal) = Layer.pre (fun d => k0_pay21 a b w3 x g1 (ix2 r d)) (fun d => g (ix2 0 d)) (fun d => sh (ix3 0 0 d)) (fun d => sc (ix3 0 0 d)) j := by
  pointwise [k0_pay23, k0_pay22]
  rfl
theorem q31 (a : FVec Ideal S256x1024 .f32) : (k0_pay31 a (k0_pay30 g) sh sc (ix2 r j) : EReal) = Layer.pre (fun d => a (ix2 r d)) (fun d => g (ix2 0 d)) (fun d => sh (ix3 0 0 d)) (fun d => sc (ix3 0 0 d)) j := by
  pointwise [k0_pay31, k0_pay30]
  rfl
theorem q42 (a : FVec Ideal S256x1024 .f32) (b c d : FVec Ideal S256x256 .f32) : (k0_pay1 (k0_pay42 a b c d w3 x g1 g sc) (k0_pay43 sh) (ix2 r j) : EReal) = Layer.pre (fun e => k0_pay41 a b c d w3 x g1 (ix2 r e)) (fun d => g (ix2 0 d)) (fun d => sh (ix3 0 0 d)) (fun d => sc (ix3 0 0 d)) j := by
  pointwise [k0_pay1, k0_pay42, k0_pay43]
  rfl

theorem h_0 : (k0_pay12 (X0 o0 o1 o2 o3 t0 t1 t2 t3 on w0 w1 w2 w3 x g1) (k0_pay10 g) (k0_pay11 sh) sc (ix2 r j) : EReal) = hRow o0 o1 o2 o3 t0 t1 t2 t3 on w0 w1 w2 w3 x g1 g sh sc r j := by
  rw [q12]
  simp only [x1_0]
theorem h_1 : (k0_pay23 (k0_pay22 (A1 o0 o1 o2 t0 t1 t2 on w0 w1 w2) (k0_pay20 o3 on t3) w3 x g1 g sh sc) (ix2 r j) : EReal) = hRow o0 o1 o2 o3 t0 t1 t2 t3 on w0 w1 w2 w3 x g1 g sh sc r j := by
  rw [q22]
  have e := fun d => x1_1 o0 o1 o2 o3 t0 t1 t2 t3 on w0 w1 w2 w3 x g1 r d
  simp only [e]
theorem h_2 : (k0_pay31 (X2 o0 o1 o2 o3 t0 t1 t2 t3 on w0 w1 w2 w3 x g1) (k0_pay30 g) sh sc (ix2 r j) : EReal) = hRow o0 o1 o2 o3 t0 t1 t2 t3 on w0 w1 w2 w3 x g1 g sh sc r j := by
  rw [q31]
  simp only [x1_2]
theorem h_3 : (k0_pay1 (k0_pay42 (A3 o0 o1 o2 t0 t1 t2 on w0 w1 w2) (k0_pay38 o3 on) (k0_pay39 t3) (k0_pay40 t3) w3 x g1 g sc) (k0_pay43 sh) (ix2 r j) : EReal) = hRow o0 o1 o2 o3 t0 t1 t2 t3 on w0 w1 w2 w3 x g1 g sh sc r j := by
  rw [q42]
  have e := fun d => x1_3 o0 o1 o2 o3 t0 t1 t2 t3 on w0 w1 w2 w3 x g1 r d
  simp only [e]

end Parts

theorem acc_at (h wu : Vec Ideal S1024x1024 .bf16) (out : Vec Ideal S1024x1024 .f32) (g2 : Vec Ideal S1x1x1024 .f32) (wd : Vec Ideal S1024x1024 .bf16) (r j : Fin 1024) :
    (k0_pay2 h wu out g2 wd (ix2 r j) : EReal) = out (ix2 r j) + g2 (ix3 0 0 j) * ∑ f : Fin 1024, Layer.up (fun d => h (ix2 r d)) (fun d f => wu (ix2 d f)) f * wd (ix2 f j) := by
  pointwise [k0_pay2]
  rfl

end Cert.GlaIdeal.Pf

end
-- ==== Proof.Gla.Block.lean ====
/- The linear layers' closing call's blocks, read at an index on extended reals. -/
module

public import proofs.«01_k».proof.Proof.Gla.Parts

@[expose] public section

set_option maxRecDepth 16384

noncomputable section

namespace Cert.GlaIdeal.Pf

open Cert.GlaIdeal Cert.GlaIdeal.Gen Idealize.ShloMosaic Idealize.ShloMosaic.TcCoe Idealize.ShloMosaic.Tactic

section Whole
variable (x0 x1 : Vec Ideal S1024x1024 .bf16) (x2 : Vec Ideal S1x256 .f32) (x3 : Vec Ideal S1024x1024 .f32) (x4 : Vec Ideal S1024x1024 .bf16) (x5 : Vec Ideal S1x1x1024 .f32) (x6 : Vec Ideal S1x1024 .f32) (x7 x8 : Vec Ideal S1x1x1024 .f32)

/-- Row `r` of the block after the projection, -/
abbrev mixB (r : Fin 1024) : Fin 1024 → EReal :=
  Layer.mix (fun d => x3 (ix2 r d)) (Layer.gated (fun d => x0 (ix2 r d)) (fun d => x1 (ix2 r d)) (fun e => x2 (ix2 0 e))) (fun d => x5 (ix3 0 0 d)) (fun d j => x4 (ix2 d j))

/-- and normed and modulated. -/
abbrev hB (r : Fin 1024) : Fin 1024 → EReal :=
  Layer.pre (mixB x0 x1 x2 x3 x4 x5 r) (fun d => x6 (ix2 0 d)) (fun d => x7 (ix3 0 0 d)) (fun d => x8 (ix3 0 0 d))

/-- The two over the whole block. -/
def mixA : S1024x1024.Idx → EReal := fun y => mixB x0 x1 x2 x3 x4 x5 (y 0) (y 1)
def hA : S1024x1024.Idx → EReal := fun y => hB x0 x1 x2 x3 x4 x5 x6 x7 x8 (y 0) (y 1)

theorem part_emb (o : ℕ) (ho : o + 256 ≤ 1024) (inb : ∀ a, (![o, 0] : Fin 2 → ℕ) a + S256x1024.size a ≤ S1024x1024.size a) (r : Fin 256) (d : Fin 1024) :
    (Rect.unit (s := S1024x1024) ![o, 0] S256x1024.size inb).emb (ix2 r d : S256x1024.Idx) = (ix2 ⟨o + r.val, by omega⟩ d : S1024x1024.Idx) :=
  funext (Fin.forall_fin_two.mpr ⟨Fin.ext (by show o + 1 * r.val = o + r.val; omega), Fin.ext (by show 0 + 1 * d.val = d.val; omega)⟩)

theorem head_emb (p q : ℕ) (hp : p + 256 ≤ 1024) (hq : q + 256 ≤ 1024) (inb : ∀ a, (![p, q] : Fin 2 → ℕ) a + S256x256.size a ≤ S1024x1024.size a) (r d : Fin 256) :
    (Rect.unit (s := S1024x1024) ![p, q] S256x256.size inb).emb (ix2 r d : S256x256.Idx) = (ix2 ⟨p + r.val, by omega⟩ ⟨q + d.val, by omega⟩ : S1024x1024.Idx) :=
  funext (Fin.forall_fin_two.mpr ⟨Fin.ext (by show p + 1 * r.val = p + r.val; omega), Fin.ext (by show q + 1 * d.val = q + d.val; omega)⟩)

/-- The head at column `q` of a part, through its rows of the projection. -/
theorem dot_part (p q : ℕ) (hp : p + 256 ≤ 1024) (hq : q + 256 ≤ 1024) (inb : ∀ a, (![p, q] : Fin 2 → ℕ) a + S256x256.size a ≤ S1024x1024.size a)
    (inw : ∀ a, (![q, 0] : Fin 2 → ℕ) a + S256x1024.size a ≤ S1024x1024.size a) (r : Fin 256) (j : Fin 1024) :
    dotB x2 (View.ld x0 (Rect.unit (s := S1024x1024) ![p, q] S256x256.size inb)) (View.ld x1 (Rect.unit (s := S1024x1024) ![p, q] S256x256.size inb)) (View.ld x4 (Rect.unit (s := S1024x1024) ![q, 0] S256x1024.size inw)) r j
      = ∑ d : Fin 256, Layer.gatedH (fun e => x0 (ix2 ⟨p + r.val, by omega⟩ ⟨q + e.val, by omega⟩)) (fun e => x1 (ix2 ⟨p + r.val, by omega⟩ ⟨q + e.val, by omega⟩)) (fun e => x2 (ix2 0 e)) d * x4 (ix2 ⟨q + d.val, by omega⟩ j) :=
  Finset.sum_congr rfl fun d _ => congrArg₂ (fun a b : EReal => a * b)
    (congrArg₂ (fun a b : Fin 256 → EReal => Layer.gatedH a b (fun e => x2 (ix2 0 e)) d)
      (funext fun e => congrArg x0 (head_emb p q hp hq inb r e)) (funext fun e => congrArg x1 (head_emb p q hp hq inb r e)))
    (congrArg x4 (part_emb q hq inw d j))

section Part
variable (p : ℕ) (hp : p + 256 ≤ 1024) (inb : ∀ a, (![p, 0] : Fin 2 → ℕ) a + S256x1024.size a ≤ S1024x1024.size a)
  (i0 : ∀ a, (![p, 0] : Fin 2 → ℕ) a + S256x256.size a ≤ S1024x1024.size a) (i256 : ∀ a, (![p, 256] : Fin 2 → ℕ) a + S256x256.size a ≤ S1024x1024.size a) (i512 : ∀ a, (![p, 512] : Fin 2 → ℕ) a + S256x256.size a ≤ S1024x1024.size a) (i768 : ∀ a, (![p, 768] : Fin 2 → ℕ) a + S256x256.size a ≤ S1024x1024.size a)

theorem mix_part (r : Fin 256) (j : Fin 1024) :
    mixRow (View.ld x0 (Rect.unit (s := S1024x1024) ![p, 0] S256x256.size i0)) (View.ld x0 (Rect.unit (s := S1024x1024) ![p, 256] S256x256.size i256)) (View.ld x0 (Rect.unit (s := S1024x1024) ![p, 512] S256x256.size i512)) (View.ld x0 (Rect.unit (s := S1024x1024) ![p, 768] S256x256.size i768)) (View.ld x1 (Rect.unit (s := S1024x1024) ![p, 0] S256x256.size i0)) (View.ld x1 (Rect.unit (s := S1024x1024) ![p, 256] S256x256.size i256)) (View.ld x1 (Rect.unit (s := S1024x1024) ![p, 512] S256x256.size i512)) (View.ld x1 (Rect.unit (s := S1024x1024) ![p, 768] S256x256.size i768)) x2 (View.ld x4 (Rect.unit (s := S1024x1024) ![0, 0] S256x1024.size inb_S1024x1024_S256x1024_0_0)) (View.ld x4 (Rect.unit (s := S1024x1024) ![256, 0] S256x1024.size inb_S1024x1024_S256x1024_256_0)) (View.ld x4 (Rect.unit (s := S1024x1024) ![512, 0] S256x1024.size inb_S1024x1024_S256x1024_512_0)) (View.ld x4 (Rect.unit (s := S1024x1024) ![768, 0] S256x1024.size inb_S1024x1024_S256x1024_768_0)) (View.ld x3 (Rect.unit (s := S1024x1024) ![p, 0] S256x1024.size inb)) x5 r j
      = mixB x0 x1 x2 x3 x4 x5 ⟨p + r.val, by omega⟩ j := by
  refine Eq.trans ?_ (Layer.mix_heads _ _ _ _ _ _ j).symm
  exact congrArg₂ (fun a b : EReal => a + x5 (ix3 0 0 j) * b) (congrArg x3 (part_emb p hp inb r j))
    (congrArg₂ (fun a b : EReal => a + b) (congrArg₂ (fun a b : EReal => a + b) (congrArg₂ (fun a b : EReal => a + b)
      (dot_part x0 x1 x2 x4 p 0 hp (by decide) i0 _ r j) (dot_part x0 x1 x2 x4 p 256 hp (by decide) i256 _ r j))
      (dot_part x0 x1 x2 x4 p 512 hp (by decide) i512 _ r j)) (dot_part x0 x1 x2 x4 p 768 hp (by decide) i768 _ r j))

theorem h_part (r : Fin 256) (j : Fin 1024) :
    hRow (View.ld x0 (Rect.unit (s := S1024x1024) ![p, 0] S256x256.size i0)) (View.ld x0 (Rect.unit (s := S1024x1024) ![p, 256] S256x256.size i256)) (View.ld x0 (Rect.unit (s := S1024x1024) ![p, 512] S256x256.size i512)) (View.ld x0 (Rect.unit (s := S1024x1024) ![p, 768] S256x256.size i768)) (View.ld x1 (Rect.unit (s := S1024x1024) ![p, 0] S256x256.size i0)) (View.ld x1 (Rect.unit (s := S1024x1024) ![p, 256] S256x256.size i256)) (View.ld x1 (Rect.unit (s := S1024x1024) ![p, 512] S256x256.size i512)) (View.ld x1 (Rect.unit (s := S1024x1024) ![p, 768] S256x256.size i768)) x2 (View.ld x4 (Rect.unit (s := S1024x1024) ![0, 0] S256x1024.size inb_S1024x1024_S256x1024_0_0)) (View.ld x4 (Rect.unit (s := S1024x1024) ![256, 0] S256x1024.size inb_S1024x1024_S256x1024_256_0)) (View.ld x4 (Rect.unit (s := S1024x1024) ![512, 0] S256x1024.size inb_S1024x1024_S256x1024_512_0)) (View.ld x4 (Rect.unit (s := S1024x1024) ![768, 0] S256x1024.size inb_S1024x1024_S256x1024_768_0)) (View.ld x3 (Rect.unit (s := S1024x1024) ![p, 0] S256x1024.size inb)) x5 x6 x7 x8 r j
      = hB x0 x1 x2 x3 x4 x5 x6 x7 x8 ⟨p + r.val, by omega⟩ j :=
  congrArg (fun a : Fin 1024 → EReal => Layer.pre a (fun d => x6 (ix2 0 d)) (fun d => x7 (ix3 0 0 d)) (fun d => x8 (ix3 0 0 d)) j)
    (funext fun d => mix_part x0 x1 x2 x3 x4 x5 p hp inb i0 i256 i512 i768 r d)

end Part

/-- A store of one part of a block that is `G` throughout. -/
theorem part_at (o : ℕ) (ho : o + 256 ≤ 1024) (inb : ∀ a, (![o, 0] : Fin 2 → ℕ) a + S256x1024.size a ≤ S1024x1024.size a) (G : Fin 1024 → Fin 1024 → EReal) (p : S256x1024.Idx → EReal)
    (h : ∀ (r : Fin 256) (d : Fin 1024), p (ix2 r d) = G ⟨o + r.val, by omega⟩ d)
    (y : (Rect.unit (s := S1024x1024) ![o, 0] S256x1024.size inb).shape.Idx) :
    p y = (fun y : S1024x1024.Idx => G (y 0) (y 1)) ((Rect.unit (s := S1024x1024) ![o, 0] S256x1024.size inb).emb y) := by
  obtain ⟨r, d, rfl⟩ : ∃ (r : Fin 256) (d : Fin 1024), y = (ix2 r d : S256x1024.Idx) := ⟨y 0, y 1, eq_ix2 y⟩
  refine (h r d).trans ?_
  rw [part_emb o ho inb r d]
  rfl

end Whole

section Cases
variable (c : Dev nD) (i : grid0.Coords) (a2 : Memref sig .tc .vmem S1024x1024 .bf16) (h2 : a2.IsWhole) (a3 : Memref sig .tc .vmem S1024x1024 .bf16) (h3 : a3.IsWhole) (a4 : Memref sig .tc .vmem S1x256 .f32) (h4 : a4.IsWhole) (a5 : Memref sig .tc .vmem S1024x1024 .f32) (h5 : a5.IsWhole) (a6 : Memref sig .tc .vmem S1024x1024 .bf16) (h6 : a6.IsWhole) (a7 : Memref sig .tc .vmem S1x1x1024 .f32) (h7 : a7.IsWhole) (a8 : Memref sig .tc .vmem S1x1024 .f32) (h8 : a8.IsWhole) (a9 : Memref sig .tc .vmem S1x1x1024 .f32) (h9 : a9.IsWhole) (a10 : Memref sig .tc .vmem S1x1x1024 .f32) (h10 : a10.IsWhole) (a11 : Memref sig .tc .vmem S1x1x1024 .f32) (h11 : a11.IsWhole) (a12 : Memref sig .tc .vmem S1024x1024 .bf16) (h12 : a12.IsWhole) (a13 : Memref sig .tc .vmem S1024x1024 .bf16) (h13 : a13.IsWhole) (a14 : Memref sig .tc .vmem S1024x1024 .f32) (h14 : a14.IsWhole) (a15 : Memref sig .tc .vmem S1024x1024 .bf16) (h15 : a15.IsWhole)
  (x0 : Vec Ideal S1024x1024 .bf16) (x1 : Vec Ideal S1024x1024 .bf16) (x2 : Vec Ideal S1x256 .f32) (x3 : Vec Ideal S1024x1024 .f32) (x4 : Vec Ideal S1024x1024 .bf16) (x5 : Vec Ideal S1x1x1024 .f32) (x6 : Vec Ideal S1x1024 .f32) (x7 : Vec Ideal S1x1x1024 .f32) (x8 : Vec Ideal S1x1x1024 .f32) (x9 : Vec Ideal S1x1x1024 .f32) (x10 : Vec Ideal S1024x1024 .bf16) (x11 : Vec Ideal S1024x1024 .bf16)

theorem out_B (hc : ¬cond0_0 i) (xo : Vec Ideal S1024x1024 .f32) (xs : Vec Ideal S1024x1024 .bf16) :
    out0_B_12 c i a2 h2 a3 h3 a4 h4 a5 h5 a6 h6 a7 h7 a8 h8 a9 h9 a10 h10 a11 h11 a12 h12 a13 h13 a14 h14 a15 h15 hc x0 x1 x2 x3 x4 x5 x6 x7 x8 x9 x10 x11 xo xs = k0_pay2 xs x10 xo x9 x11 := by
  unfold out0_B_12
  rw [View.read_writes_eq_canon _ _ _ (cover0_B_12 c i a2 h2 a3 h3 a4 h4 a5 h5 a6 h6 a7 h7 a8 h8 a9 h9 a10 h10 a11 h11 a12 h12 a13 h13 a14 h14 a15 h15 hc x0 x1 x2 x3 x4 x5 x6 x7 x8 x9 x10 x11 xo xs)]
  unfold kernelRun0_B
  dsimp only
  sl_unfold_words
  rw [View.canon_cons_unit_lit _ _ _ (by decide)]
  simp only [View.readAt_eq_ld, h15.read_unread, h14.read_unread, h13.read_unread, h12.read_unread, h11.read_unread]
  rw [View.ld_unit_lit _ xs (by decide), View.ld_unit_lit _ xo (by decide), View.ld_unit_lit _ x9 (by decide), View.ld_unit_lit _ x10 (by decide), View.ld_unit_lit _ x11 (by decide)]

theorem sout_A (hc : cond0_0 i) :
    (sout0_A_0 c i a2 h2 a3 h3 a4 h4 a5 h5 a6 h6 a7 h7 a8 h8 a9 h9 a10 h10 a11 h11 a12 h12 a13 h13 a14 h14 a15 h15 hc x0 x1 x2 x3 x4 x5 x6 x7 x8 x9 x10 x11 : S1024x1024.Idx → EReal) = hA x0 x1 x2 x3 x4 x5 x6 x7 x8 := by
  unfold sout0_A_0
  rw [View.read_writes_eq_canon _ _ _ (scover0_A_0 c i a2 h2 a3 h3 a4 h4 a5 h5 a6 h6 a7 h7 a8 h8 a9 h9 a10 h10 a11 h11 a12 h12 a13 h13 a14 h14 a15 h15 hc x0 x1 x2 x3 x4 x5 x6 x7 x8 x9 x10 x11)]
  have hcov := scover0_A_0 c i a2 h2 a3 h3 a4 h4 a5 h5 a6 h6 a7 h7 a8 h8 a9 h9 a10 h10 a11 h11 a12 h12 a13 h13 a14 h14 a15 h15 hc x0 x1 x2 x3 x4 x5 x6 x7 x8 x9 x10 x11
  revert hcov
  unfold kernelRun0_A
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread]
  intro hcov
  rw [View.ld_unit_lit _ x2 (by decide), View.ld_unit_lit _ x5 (by decide), View.ld_unit_lit _ x6 (by decide), View.ld_unit_lit _ x7 (by decide), View.ld_unit_lit _ x8 (by decide)] at hcov ⊢
  funext y
  refine View.canon_apply_of_pieces (hA x0 x1 x2 x3 x4 x5 x6 x7 x8) _ (View.PiecesOf.mem ?_) y (hcov y)
  exact ⟨part_at 768 (by decide) inb_S1024x1024_S256x1024_768_0 (hB x0 x1 x2 x3 x4 x5 x6 x7 x8) _ fun r d => (h_3 _ _ _ _ _ _ _ _ _ _ _ _ _ _ _ _ _ _ r d).trans (h_part x0 x1 x2 x3 x4 x5 x6 x7 x8 768 (by decide) inb_S1024x1024_S256x1024_768_0 inb_S1024x1024_S256x256_768_0 inb_S1024x1024_S256x256_768_256 inb_S1024x1024_S256x256_768_512 inb_S1024x1024_S256x256_768_768 r d),
    part_at 512 (by decide) inb_S1024x1024_S256x1024_512_0 (hB x0 x1 x2 x3 x4 x5 x6 x7 x8) _ fun r d => (h_2 _ _ _ _ _ _ _ _ _ _ _ _ _ _ _ _ _ _ r d).trans (h_part x0 x1 x2 x3 x4 x5 x6 x7 x8 512 (by decide) inb_S1024x1024_S256x1024_512_0 inb_S1024x1024_S256x256_512_0 inb_S1024x1024_S256x256_512_256 inb_S1024x1024_S256x256_512_512 inb_S1024x1024_S256x256_512_768 r d),
    part_at 256 (by decide) inb_S1024x1024_S256x1024_256_0 (hB x0 x1 x2 x3 x4 x5 x6 x7 x8) _ fun r d => (h_1 _ _ _ _ _ _ _ _ _ _ _ _ _ _ _ _ _ _ r d).trans (h_part x0 x1 x2 x3 x4 x5 x6 x7 x8 256 (by decide) inb_S1024x1024_S256x1024_256_0 inb_S1024x1024_S256x256_256_0 inb_S1024x1024_S256x256_256_256 inb_S1024x1024_S256x256_256_512 inb_S1024x1024_S256x256_256_768 r d),
    part_at 0 (by decide) inb_S1024x1024_S256x1024_0_0 (hB x0 x1 x2 x3 x4 x5 x6 x7 x8) _ fun r d => (h_0 _ _ _ _ _ _ _ _ _ _ _ _ _ _ _ _ _ _ r d).trans (h_part x0 x1 x2 x3 x4 x5 x6 x7 x8 0 (by decide) inb_S1024x1024_S256x1024_0_0 inb_S1024x1024_S256x256_0_0 inb_S1024x1024_S256x256_0_256 inb_S1024x1024_S256x256_0_512 inb_S1024x1024_S256x256_0_768 r d), trivial⟩

theorem out_A (hc : cond0_0 i) :
    out0_A_12 c i a2 h2 a3 h3 a4 h4 a5 h5 a6 h6 a7 h7 a8 h8 a9 h9 a10 h10 a11 h11 a12 h12 a13 h13 a14 h14 a15 h15 hc x0 x1 x2 x3 x4 x5 x6 x7 x8 x9 x10 x11 = k0_pay2 (hA x0 x1 x2 x3 x4 x5 x6 x7 x8) x10 (mixA x0 x1 x2 x3 x4 x5) x9 x11 := by
  have hs := sout_A c i a2 h2 a3 h3 a4 h4 a5 h5 a6 h6 a7 h7 a8 h8 a9 h9 a10 h10 a11 h11 a12 h12 a13 h13 a14 h14 a15 h15 x0 x1 x2 x3 x4 x5 x6 x7 x8 x9 x10 x11 hc
  have hscov := scover0_A_0 c i a2 h2 a3 h3 a4 h4 a5 h5 a6 h6 a7 h7 a8 h8 a9 h9 a10 h10 a11 h11 a12 h12 a13 h13 a14 h14 a15 h15 hc x0 x1 x2 x3 x4 x5 x6 x7 x8 x9 x10 x11
  unfold sout0_A_0 at hs
  rw [View.read_writes_eq_canon _ _ _ hscov] at hs
  unfold out0_A_12
  rw [View.read_writes_eq_canon _ _ _ (cover0_A_12 c i a2 h2 a3 h3 a4 h4 a5 h5 a6 h6 a7 h7 a8 h8 a9 h9 a10 h10 a11 h11 a12 h12 a13 h13 a14 h14 a15 h15 hc x0 x1 x2 x3 x4 x5 x6 x7 x8 x9 x10 x11)]
  clear hscov
  revert hs
  unfold kernelRun0_A
  dsimp only
  sl_unfold_words
  intro hs
  rw [View.canon_cons_unit_lit _ _ _ (by decide), View.readCov_eq_canon', View.readCov_eq_canon']
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread] at hs ⊢
  rw [View.ld_unit_lit _ x2 (by decide), View.ld_unit_lit _ x5 (by decide), View.ld_unit_lit _ x6 (by decide), View.ld_unit_lit _ x7 (by decide), View.ld_unit_lit _ x8 (by decide)] at hs ⊢
  rw [View.ld_unit_lit _ x9 (by decide), View.ld_unit_lit _ x10 (by decide), View.ld_unit_lit _ x11 (by decide)]
  refine congrArg₂ (fun a b => k0_pay2 a x10 b x9 x11) ((View.ld_unit_lit _ _ (by decide)).trans hs) ((View.ld_unit_lit _ _ (by decide)).trans (funext fun y => ?_))
  refine View.canon_apply_of_pieces (Val := Elt Ideal) (e := .f32) (S := S1024x1024) (mixA x0 x1 x2 x3 x4 x5) _ (View.PiecesOf.mem ?_) y (View.cover_of_tiledL (s := S1024x1024) _ S256x1024.size (by sl_kernel_rfl) y)
  exact ⟨part_at 768 (by decide) inb_S1024x1024_S256x1024_768_0 (mixB x0 x1 x2 x3 x4 x5) _ fun r d => (x1_3 _ _ _ _ _ _ _ _ _ _ _ _ _ _ _ r d).trans (mix_part x0 x1 x2 x3 x4 x5 768 (by decide) inb_S1024x1024_S256x1024_768_0 inb_S1024x1024_S256x256_768_0 inb_S1024x1024_S256x256_768_256 inb_S1024x1024_S256x256_768_512 inb_S1024x1024_S256x256_768_768 r d),
    part_at 512 (by decide) inb_S1024x1024_S256x1024_512_0 (mixB x0 x1 x2 x3 x4 x5) _ fun r d => (x1_2 _ _ _ _ _ _ _ _ _ _ _ _ _ _ _ r d).trans (mix_part x0 x1 x2 x3 x4 x5 512 (by decide) inb_S1024x1024_S256x1024_512_0 inb_S1024x1024_S256x256_512_0 inb_S1024x1024_S256x256_512_256 inb_S1024x1024_S256x256_512_512 inb_S1024x1024_S256x256_512_768 r d),
    part_at 256 (by decide) inb_S1024x1024_S256x1024_256_0 (mixB x0 x1 x2 x3 x4 x5) _ fun r d => (x1_1 _ _ _ _ _ _ _ _ _ _ _ _ _ _ _ r d).trans (mix_part x0 x1 x2 x3 x4 x5 256 (by decide) inb_S1024x1024_S256x1024_256_0 inb_S1024x1024_S256x256_256_0 inb_S1024x1024_S256x256_256_256 inb_S1024x1024_S256x256_256_512 inb_S1024x1024_S256x256_256_768 r d),
    part_at 0 (by decide) inb_S1024x1024_S256x1024_0_0 (mixB x0 x1 x2 x3 x4 x5) _ fun r d => (x1_0 _ _ _ _ _ _ _ _ _ _ _ _ _ _ _ r d).trans (mix_part x0 x1 x2 x3 x4 x5 0 (by decide) inb_S1024x1024_S256x1024_0_0 inb_S1024x1024_S256x256_0_0 inb_S1024x1024_S256x256_0_256 inb_S1024x1024_S256x256_0_512 inb_S1024x1024_S256x256_0_768 r d), trivial⟩

end Cases

end Cert.GlaIdeal.Pf

end
-- ==== Proof.Gla.Arrays.lean ====
/- What the linear layers' closing call's array holds after the run, on extended reals. -/
module

public import proofs.«01_k».proof.Proof.Gla.Block
public import proofs.«01_k».proof.Proof.Gated
public import Idealize.ShloMosaic.Lib.Claim
public import Idealize.ShloMosaic.Lib.Pipeline.ValueKit

@[expose] public section

set_option maxRecDepth 16384

noncomputable section

namespace Cert.GlaIdeal.Pf

open Cert.GlaIdeal Cert.GlaIdeal.Gen Idealize.ShloMosaic Idealize.ShloMosaic.TcCoe Idealize.ShloMosaic.Tactic
open Idealize.SL.Sem
open Idealize.ShloMosaic.Pipeline (Dat)

variable (m : (ℓ : Loc nD τ sig) → Buf (Elt Ideal) ℓ)

theorem maps : ∀ t : Fin cfg0.N, win0_0.index t = ![t.val / 4, 0]
    ∧ win0_1.index t = ![t.val / 4, 0]
    ∧ win0_2.index t = ![0, 0]
    ∧ win0_3.index t = ![t.val / 4, 0]
    ∧ win0_4.index t = ![0, 0]
    ∧ win0_5.index t = ![t.val / 32, 0, 0]
    ∧ win0_6.index t = ![0, 0]
    ∧ win0_7.index t = ![t.val / 32, 0, 0]
    ∧ win0_8.index t = ![t.val / 32, 0, 0]
    ∧ win0_9.index t = ![t.val / 32, 0, 0]
    ∧ win0_10.index t = ![0, t.val % 4]
    ∧ win0_11.index t = ![t.val % 4, 0]
    ∧ win0_12.index t = ![t.val / 4, 0] :=
  (by decide +kernel : ∀ t : Fin grid0.N, _)

theorem points (t : Fin cfg0.N) : t.val < 64 := lt_of_lt_of_eq t.isLt (show cfg0.N = 64 from N_0)

abbrev arg0 (c : Dev nD) : (⟨2, ![16384, 1024]⟩ : Shape).Idx → EReal := m ((c : Thread nD τ).loc main_arg0)
abbrev arg1 (c : Dev nD) : (⟨2, ![16384, 1024]⟩ : Shape).Idx → EReal := m ((c : Thread nD τ).loc main_arg1)
abbrev arg2 (c : Dev nD) : (⟨1, ![256]⟩ : Shape).Idx → EReal := m ((c : Thread nD τ).loc main_arg2)
abbrev arg3 (c : Dev nD) : (⟨2, ![16384, 1024]⟩ : Shape).Idx → EReal := m ((c : Thread nD τ).loc main_arg3)
abbrev arg4 (c : Dev nD) : (⟨2, ![1024, 1024]⟩ : Shape).Idx → EReal := m ((c : Thread nD τ).loc main_arg4)
abbrev arg5 (c : Dev nD) : (⟨2, ![2, 1024]⟩ : Shape).Idx → EReal := m ((c : Thread nD τ).loc main_arg5)
abbrev arg6 (c : Dev nD) : (⟨1, ![1024]⟩ : Shape).Idx → EReal := m ((c : Thread nD τ).loc main_arg6)
abbrev arg7 (c : Dev nD) : (⟨2, ![2, 1024]⟩ : Shape).Idx → EReal := m ((c : Thread nD τ).loc main_arg7)
abbrev arg8 (c : Dev nD) : (⟨2, ![2, 1024]⟩ : Shape).Idx → EReal := m ((c : Thread nD τ).loc main_arg8)
abbrev arg9 (c : Dev nD) : (⟨2, ![2, 1024]⟩ : Shape).Idx → EReal := m ((c : Thread nD τ).loc main_arg9)
abbrev arg10 (c : Dev nD) : (⟨2, ![1024, 4096]⟩ : Shape).Idx → EReal := m ((c : Thread nD τ).loc main_arg10)
abbrev arg11 (c : Dev nD) : (⟨2, ![4096, 1024]⟩ : Shape).Idx → EReal := m ((c : Thread nD τ).loc main_arg11)

theorem V_on (c : Dev nD) : (V m c main_v0 : S1x256.Idx → EReal) = shapeCast S1x256 (arg2 m c : FVec Ideal S256 .f32) shapeCasts_S256_S1x256 := by
  show StableHlo.after hostOps0 (fun b => m (c, b)) (Proc.tc.devRef main_v0) = _
  simp only [hostOps0]
  after_results
  rfl

theorem V_g1 (c : Dev nD) : (V m c main_v2 : S2x1x1024.Idx → EReal) = shapeCast S2x1x1024 (arg5 m c : FVec Ideal S2x1024 .f32) shapeCasts_S2x1024_S2x1x1024 := by
  show StableHlo.after hostOps0 (fun b => m (c, b)) (Proc.tc.devRef main_v2) = _
  simp only [hostOps0]
  after_results
  rfl

theorem V_g (c : Dev nD) : (V m c main_v3 : S1x1024.Idx → EReal) = shapeCast S1x1024 (arg6 m c : FVec Ideal S1024 .f32) shapeCasts_S1024_S1x1024 := by
  show StableHlo.after hostOps0 (fun b => m (c, b)) (Proc.tc.devRef main_v3) = _
  simp only [hostOps0]
  after_results
  rfl

theorem V_sh (c : Dev nD) : (V m c main_v4 : S2x1x1024.Idx → EReal) = shapeCast S2x1x1024 (arg7 m c : FVec Ideal S2x1024 .f32) shapeCasts_S2x1024_S2x1x1024 := by
  show StableHlo.after hostOps0 (fun b => m (c, b)) (Proc.tc.devRef main_v4) = _
  simp only [hostOps0]
  after_results
  rfl

theorem V_sc (c : Dev nD) : (V m c main_v5 : S2x1x1024.Idx → EReal) = shapeCast S2x1x1024 (arg8 m c : FVec Ideal S2x1024 .f32) shapeCasts_S2x1024_S2x1x1024 := by
  show StableHlo.after hostOps0 (fun b => m (c, b)) (Proc.tc.devRef main_v5) = _
  simp only [hostOps0]
  after_results
  rfl

theorem V_g2 (c : Dev nD) : (V m c main_v6 : S2x1x1024.Idx → EReal) = shapeCast S2x1x1024 (arg9 m c : FVec Ideal S2x1024 .f32) shapeCasts_S2x1024_S2x1x1024 := by
  show StableHlo.after hostOps0 (fun b => m (c, b)) (Proc.tc.devRef main_v6) = _
  simp only [hostOps0]
  after_results
  rfl

theorem blk_o (c : Dev nD) (t : Fin cfg0.N) (r : Fin 1024) (d : Fin 1024) :
    (iblk m c 0 t (ix2 r d : S1024x1024.Idx) : EReal) = arg0 m c (ix2 ⟨1024 * (t.val / 4) + r.val, by have := points t; omega⟩ d) := by
  have e := (maps t).1
  blk_ext [iblk, V, e]

theorem blk_t (c : Dev nD) (t : Fin cfg0.N) (r : Fin 1024) (d : Fin 1024) :
    (iblk m c 1 t (ix2 r d : S1024x1024.Idx) : EReal) = arg1 m c (ix2 ⟨1024 * (t.val / 4) + r.val, by have := points t; omega⟩ d) := by
  have e := (maps t).2.1
  blk_ext [iblk, V, e]

theorem blk_on (c : Dev nD) (t : Fin cfg0.N) (d : Fin 256) :
    (iblk m c 2 t (ix2 0 d : S1x256.Idx) : EReal) = arg2 m c (ix1 d) := by
  have e := (maps t).2.2.1
  have hi : (((cfg0.win 2).blk t).view.emb (ix2 0 d : S1x256.Idx) : S1x256.Idx) = ix2 0 d := by blk_ext [e]
  refine (congrArg (V m c main_v0 : S1x256.Idx → EReal) hi).trans ?_
  rw [V_on]
  pointwise []

theorem blk_x (c : Dev nD) (t : Fin cfg0.N) (r : Fin 1024) (d : Fin 1024) :
    (iblk m c 3 t (ix2 r d : S1024x1024.Idx) : EReal) = arg3 m c (ix2 ⟨1024 * (t.val / 4) + r.val, by have := points t; omega⟩ d) := by
  have e := (maps t).2.2.2.1
  blk_ext [iblk, V, e]

theorem blk_wo (c : Dev nD) (t : Fin cfg0.N) (d j : Fin 1024) :
    (iblk m c 4 t (ix2 d j : S1024x1024.Idx) : EReal) = arg4 m c (ix2 d j) := by
  have e := (maps t).2.2.2.2.1
  blk_ext [iblk, V, e]

theorem blk_g (c : Dev nD) (t : Fin cfg0.N) (d : Fin 1024) :
    (iblk m c 6 t (ix2 0 d : S1x1024.Idx) : EReal) = arg6 m c (ix1 d) := by
  have e := (maps t).2.2.2.2.2.2.1
  have hi : (((cfg0.win 6).blk t).view.emb (ix2 0 d : S1x1024.Idx) : S1x1024.Idx) = ix2 0 d := by blk_ext [e]
  refine (congrArg (V m c main_v3 : S1x1024.Idx → EReal) hi).trans ?_
  rw [V_g]
  pointwise []

theorem blk_g1 (c : Dev nD) (t : Fin cfg0.N) (d : Fin 1024) :
    (iblk m c 5 t (ix3 0 0 d : S1x1x1024.Idx) : EReal) = arg5 m c (ix2 ⟨t.val / 32, by have := points t; omega⟩ d) := by
  have e := (maps t).2.2.2.2.2.1
  have hi : (((cfg0.win 5).blk t).view.emb (ix3 0 0 d : S1x1x1024.Idx) : S2x1x1024.Idx) = ix3 ⟨t.val / 32, by have := points t; omega⟩ 0 d := by blk_ext [e]
  refine (congrArg (V m c main_v2 : S2x1x1024.Idx → EReal) hi).trans ?_
  rw [V_g1]
  pointwise []

theorem blk_sh (c : Dev nD) (t : Fin cfg0.N) (d : Fin 1024) :
    (iblk m c 7 t (ix3 0 0 d : S1x1x1024.Idx) : EReal) = arg7 m c (ix2 ⟨t.val / 32, by have := points t; omega⟩ d) := by
  have e := (maps t).2.2.2.2.2.2.2.1
  have hi : (((cfg0.win 7).blk t).view.emb (ix3 0 0 d : S1x1x1024.Idx) : S2x1x1024.Idx) = ix3 ⟨t.val / 32, by have := points t; omega⟩ 0 d := by blk_ext [e]
  refine (congrArg (V m c main_v4 : S2x1x1024.Idx → EReal) hi).trans ?_
  rw [V_sh]
  pointwise []

theorem blk_sc (c : Dev nD) (t : Fin cfg0.N) (d : Fin 1024) :
    (iblk m c 8 t (ix3 0 0 d : S1x1x1024.Idx) : EReal) = arg8 m c (ix2 ⟨t.val / 32, by have := points t; omega⟩ d) := by
  have e := (maps t).2.2.2.2.2.2.2.2.1
  have hi : (((cfg0.win 8).blk t).view.emb (ix3 0 0 d : S1x1x1024.Idx) : S2x1x1024.Idx) = ix3 ⟨t.val / 32, by have := points t; omega⟩ 0 d := by blk_ext [e]
  refine (congrArg (V m c main_v5 : S2x1x1024.Idx → EReal) hi).trans ?_
  rw [V_sc]
  pointwise []

theorem blk_g2 (c : Dev nD) (t : Fin cfg0.N) (d : Fin 1024) :
    (iblk m c 9 t (ix3 0 0 d : S1x1x1024.Idx) : EReal) = arg9 m c (ix2 ⟨t.val / 32, by have := points t; omega⟩ d) := by
  have e := (maps t).2.2.2.2.2.2.2.2.2.1
  have hi : (((cfg0.win 9).blk t).view.emb (ix3 0 0 d : S1x1x1024.Idx) : S2x1x1024.Idx) = ix3 ⟨t.val / 32, by have := points t; omega⟩ 0 d := by blk_ext [e]
  refine (congrArg (V m c main_v6 : S2x1x1024.Idx → EReal) hi).trans ?_
  rw [V_g2]
  pointwise []

theorem blk_wu (c : Dev nD) (t : Fin cfg0.N) (d f : Fin 1024) :
    (iblk m c 10 t (ix2 d f : S1024x1024.Idx) : EReal) = arg10 m c (ix2 d (Layer.col (t.val % 4) f)) := by
  have e := (maps t).2.2.2.2.2.2.2.2.2.2.1
  have ec : Layer.col (t.val % 4) f = ⟨1024 * (t.val % 4) + f.val, by omega⟩ := Fin.ext (by show (1024 * (t.val % 4) + f.val) % 4096 = 1024 * (t.val % 4) + f.val; omega)
  rw [ec]
  blk_ext [iblk, V, e]

theorem blk_wd (c : Dev nD) (t : Fin cfg0.N) (f j : Fin 1024) :
    (iblk m c 11 t (ix2 f j : S1024x1024.Idx) : EReal) = arg11 m c (ix2 (Layer.col (t.val % 4) f) j) := by
  have e := (maps t).2.2.2.2.2.2.2.2.2.2.2.1
  have ec : Layer.col (t.val % 4) f = ⟨1024 * (t.val % 4) + f.val, by omega⟩ := Fin.ext (by show (1024 * (t.val % 4) + f.val) % 4096 = 1024 * (t.val % 4) + f.val; omega)
  rw [ec]
  blk_ext [iblk, V, e]

/-- Row `R` after the projection, -/
abbrev x1Row (c : Dev nD) (R : Fin 16384) : Fin 1024 → EReal := Layer.mixRow (Layer.gatedA (arg0 m c) (arg1 m c) (arg2 m c)) (arg3 m c) (arg4 m c) (arg5 m c) R

/-- normed and modulated, -/
abbrev preRow (c : Dev nD) (R : Fin 16384) : Fin 1024 → EReal :=
  Layer.pre (x1Row m c R) (fun d => arg6 m c (ix1 d)) (fun d => arg7 m c (ix2 ⟨R.val / 8192, by omega⟩ d)) (fun d => arg8 m c (ix2 ⟨R.val / 8192, by omega⟩ d))

/-- and with the first quarters `0 … k` of the feed-forward sum. -/
abbrev accRow (c : Dev nD) (R : Fin 16384) (k : ℕ) (j : Fin 1024) : EReal :=
  Layer.quarters (x1Row m c R) (preRow m c R) (fun d => arg9 m c (ix2 ⟨R.val / 8192, by omega⟩ d)) (fun d f => arg10 m c (ix2 d f)) (fun f j => arg11 m c (ix2 f j)) j k

theorem seq_eq (t : Fin cfg0.N) (r : Fin 1024) (h : (1024 * (t.val / 4) + r.val) / 8192 < 2) :
    (⟨(1024 * (t.val / 4) + r.val) / 8192, h⟩ : Fin 2) = ⟨t.val / 32, by have := points t; omega⟩ :=
  Fin.ext (by show (1024 * (t.val / 4) + r.val) / 8192 = t.val / 32; omega)

theorem x1_eq (c : Dev nD) (t : Fin cfg0.N) (r : Fin 1024) :
    mixB (iblk m c 0 t) (iblk m c 1 t) (iblk m c 2 t) (iblk m c 3 t) (iblk m c 4 t) (iblk m c 5 t) r = x1Row m c ⟨1024 * (t.val / 4) + r.val, by have := points t; omega⟩ := by
  unfold mixB x1Row Layer.mixRow
  rw [seq_eq]
  simp only [blk_o, blk_t, blk_on, blk_x, blk_wo, blk_g1]
  rfl

theorem pre_eq (c : Dev nD) (t : Fin cfg0.N) (r : Fin 1024) :
    hB (iblk m c 0 t) (iblk m c 1 t) (iblk m c 2 t) (iblk m c 3 t) (iblk m c 4 t) (iblk m c 5 t) (iblk m c 6 t) (iblk m c 7 t) (iblk m c 8 t) r = preRow m c ⟨1024 * (t.val / 4) + r.val, by have := points t; omega⟩ := by
  unfold hB preRow
  rw [x1_eq, seq_eq]
  simp only [blk_g, blk_sh, blk_sc]

theorem quarter_eq (c : Dev nD) (t : Fin cfg0.N) (h : Fin 1024 → EReal) (j : Fin 1024) :
    (∑ f : Fin 1024, Layer.up h (fun d f => iblk m c 10 t (ix2 d f : S1024x1024.Idx)) f * iblk m c 11 t (ix2 f j : S1024x1024.Idx) : EReal)
      = Layer.quarter h (fun d f => arg10 m c (ix2 d f)) (fun f j => arg11 m c (ix2 f j)) j (t.val % 4) := by
  unfold Layer.quarter
  simp only [blk_wu, blk_wd]

/-- What a row block's first point leaves. -/
theorem outs_A (c : Dev nD) (t : Fin cfg0.N) (h0 : t.val % 4 = 0) :
    outsAt0 m c t.val t.isLt = (k0_pay2 (F := Ideal) (hA (iblk m c 0 t) (iblk m c 1 t) (iblk m c 2 t) (iblk m c 3 t) (iblk m c 4 t) (iblk m c 5 t) (iblk m c 6 t) (iblk m c 7 t) (iblk m c 8 t)) (iblk m c 10 t) (mixA (iblk m c 0 t) (iblk m c 1 t) (iblk m c 2 t) (iblk m c 3 t) (iblk m c 4 t) (iblk m c 5 t)) (iblk m c 9 t) (iblk m c 11 t), hA (iblk m c 0 t) (iblk m c 1 t) (iblk m c 2 t) (iblk m c 3 t) (iblk m c 4 t) (iblk m c 5 t) (iblk m c 6 t) (iblk m c 7 t) (iblk m c 8 t)) :=
  (outsAt0_A m c t h0).trans (congrArg₂ Prod.mk
    (out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((hcond0_0 t).mpr h0))
    (sout_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((hcond0_0 t).mpr h0)))

/-- What a later point leaves, over what the point before left. -/
theorem outs_B (c : Dev nD) (t : Fin cfg0.N) (h0 : ¬t.val % 4 = 0) (hp : t.val - 1 < cfg0.N) :
    outsAt0 m c t.val t.isLt = (k0_pay2 (F := Ideal) (outsAt0 m c (t.val - 1) hp).2 (iblk m c 10 t) (outsAt0 m c (t.val - 1) hp).1 (iblk m c 9 t) (iblk m c 11 t), (outsAt0 m c (t.val - 1) hp).2) :=
  (outsAt0_B m c t h0).trans (congrArg₂ Prod.mk
    (out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (fun h => h0 ((hcond0_0 t).mp h)) (outsAt0 m c (t.val - 1) hp).1 (outsAt0 m c (t.val - 1) hp).2)
    rfl)

/-- The first point of a row block leaves its first quarter, and the normed rows. -/
theorem first_eq (c : Dev nD) (t : Fin cfg0.N) (h0 : t.val % 4 = 0) (r j : Fin 1024) :
    ((outsAt0 m c t.val t.isLt).1 (ix2 r j : S1024x1024.Idx) : EReal) = accRow m c ⟨1024 * (t.val / 4) + r.val, by have := points t; omega⟩ (t.val % 4) j
    ∧ ((outsAt0 m c t.val t.isLt).2 (ix2 r j : S1024x1024.Idx) : EReal) = preRow m c ⟨1024 * (t.val / 4) + r.val, by have := points t; omega⟩ j := by
  have hx : (mixA (iblk m c 0 t) (iblk m c 1 t) (iblk m c 2 t) (iblk m c 3 t) (iblk m c 4 t) (iblk m c 5 t) (ix2 r j : S1024x1024.Idx) : EReal) = x1Row m c ⟨1024 * (t.val / 4) + r.val, by have := points t; omega⟩ j :=
    congrFun (x1_eq m c t r) j
  have hh : (fun d => (hA (iblk m c 0 t) (iblk m c 1 t) (iblk m c 2 t) (iblk m c 3 t) (iblk m c 4 t) (iblk m c 5 t) (iblk m c 6 t) (iblk m c 7 t) (iblk m c 8 t) (ix2 r d : S1024x1024.Idx) : EReal)) = preRow m c ⟨1024 * (t.val / 4) + r.val, by have := points t; omega⟩ :=
    pre_eq m c t r
  have hq := quarter_eq m c t (preRow m c ⟨1024 * (t.val / 4) + r.val, by have := points t; omega⟩) j
  rw [outs_A m c t h0]
  refine ⟨(acc_at _ _ _ _ _ r j).trans ?_, congrFun hh j⟩
  rw [hx, hh, hq, blk_g2, h0]
  unfold accRow
  rw [Layer.quarters, seq_eq]

/-- After each point, the output's block holds its row block's quarters so far, and the scratch the normed rows. -/
theorem outs_eq (c : Dev nD) : ∀ (n : ℕ) (t : Fin cfg0.N) (e : t.val = n) (r j : Fin 1024),
    ((outsAt0 m c t.val t.isLt).1 (ix2 r j : S1024x1024.Idx) : EReal) = accRow m c ⟨1024 * (t.val / 4) + r.val, by have := points t; omega⟩ (t.val % 4) j
    ∧ ((outsAt0 m c t.val t.isLt).2 (ix2 r j : S1024x1024.Idx) : EReal) = preRow m c ⟨1024 * (t.val / 4) + r.val, by have := points t; omega⟩ j := by
  intro n
  induction n with
  | zero => exact fun t e => first_eq m c t (by omega)
  | succ n ih =>
    intro t e r j
    by_cases h0 : t.val % 4 = 0
    · exact first_eq m c t h0 r j
    have hp := points t
    have hpr : t.val - 1 < cfg0.N := Nat.lt_of_le_of_lt (Nat.sub_le _ _) t.isLt
    have hq := ih ⟨t.val - 1, hpr⟩ (by show t.val - 1 = n; omega)
    have e4 : (t.val - 1) / 4 = t.val / 4 := by omega
    have em : t.val % 4 = (t.val - 1) % 4 + 1 := by omega
    simp only [e4] at hq
    rw [outs_B m c t h0 hpr]
    refine ⟨(acc_at _ _ _ _ _ r j).trans ?_, (hq r j).2⟩
    have hu := quarter_eq m c t (preRow m c ⟨1024 * (t.val / 4) + r.val, by omega⟩) j
    have hh : (fun d => ((outsAt0 m c (t.val - 1) hpr).2 (ix2 r d : S1024x1024.Idx) : EReal)) = preRow m c ⟨1024 * (t.val / 4) + r.val, by omega⟩ := funext fun d => (hq r d).2
    rw [(hq r j).1, hh, hu, blk_g2]
    rw [em]
    unfold accRow
    rw [Layer.quarters, seq_eq]

/-- The result, before the quarters are joined. -/
def acc (c : Dev nD) : (⟨2, ![16384, 1024]⟩ : Shape).Idx → EReal := fun i => accRow m c (i 0) 3 (i 1)

theorem final (c : Dev nD) : (dats m 0 c).arrAt 12 cfg0.N = (acc m c : Buf (Elt Ideal) ((c : Thread nD τ).loc main_v9)) := by
  refine (dats m 0 c).arrAt_eq_of_covers 12 _ (by decide +kernel) fun t hfl y => ?_
  have hm : t.val % 4 = 3 := (flush0_12 t).mp hfl
  blk_simp
  rw [after0_12]
  have hp := points t
  have e := (maps t).2.2.2.2.2.2.2.2.2.2.2.2
  obtain ⟨r, j, rfl⟩ : ∃ (r : Fin 1024) (j : Fin 1024), y = (ix2 r j : S1024x1024.Idx) := ⟨y 0, y 1, eq_ix2 y⟩
  refine (outs_eq m c t.val t rfl r j).1.trans ?_
  have hi : (((cfg0.win 12).blk t).view.emb (ix2 r j : S1024x1024.Idx) : S16384x1024.Idx) = ix2 ⟨1024 * (t.val / 4) + r.val, by omega⟩ j := by blk_ext [e]
  refine Eq.trans ?_ (congrArg (acc m c) hi).symm
  rw [hm]
  rfl

/-- Every entry of every argument is a number. -/
structure Numbers (c : Dev nD) : Prop where
  o : ∀ i, Layer.IsReal (arg0 m c i)
  t : ∀ i, Layer.IsReal (arg1 m c i)
  on : ∀ i, Layer.IsReal (arg2 m c i)
  x : ∀ i, Layer.IsReal (arg3 m c i)
  wo : ∀ i, Layer.IsReal (arg4 m c i)
  g1 : ∀ i, Layer.IsReal (arg5 m c i)
  g : ∀ i, Layer.IsReal (arg6 m c i)
  sh : ∀ i, Layer.IsReal (arg7 m c i)
  sc : ∀ i, Layer.IsReal (arg8 m c i)
  g2 : ∀ i, Layer.IsReal (arg9 m c i)
  wu : ∀ i, Layer.IsReal (arg10 m c i)
  wd : ∀ i, Layer.IsReal (arg11 m c i)

/-- Of numbers, the quarters join. -/
theorem acc_eq (c : Dev nD) (h : Numbers m c) :
    acc m c = Layer.moba (Layer.gatedA (arg0 m c) (arg1 m c) (arg2 m c)) (arg3 m c) (arg4 m c) (arg5 m c) (arg6 m c) (arg7 m c) (arg8 m c) (arg9 m c) (arg10 m c) (arg11 m c) :=
  funext fun i => Layer.quarters_eq _ _ _ _ _ (i 1)
    (Layer.pre_real (Layer.mix_real (fun _ => h.x _) (fun _ => Layer.gatedA_real _ _ _ h.o h.t h.on _) (fun _ => h.g1 _) (fun _ _ => h.wo _)) (fun _ => h.g _) (fun _ => h.sh _) (fun _ => h.sc _))
    (fun _ => h.g2 _) (fun _ _ => h.wu _) (fun _ _ => h.wd _)

/-- The call's run: its result, and the arguments unchanged. -/
theorem run (ρ : Dev nD → PrngReg) (hn : ∀ c, Numbers m c) :
    θ_run defs (onTc (τ := τ) (main (F := Ideal))) ⟨m, fun _ => 0, ρ⟩ (fun r => ∀ c : Dev nD,
      r.2.mem ((c.tc : Thread nD τ).loc main_v9) = Layer.moba (Layer.gatedA (arg0 m c) (arg1 m c) (arg2 m c)) (arg3 m c) (arg4 m c) (arg5 m c) (arg6 m c) (arg7 m c) (arg8 m c) (arg9 m c) (arg10 m c) (arg11 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans ((final m c).trans (acc_eq m c (hn c))), (h c).2⟩) (Value.run_blocks m ρ)

end Cert.GlaIdeal.Pf

end
-- ==== Proof.Gla.Ref.lean ====
/- The linear layers' closing reference, read at an index on extended reals. -/
module

public import proofs.«01_k».proof.Proof.Gated
public import proofs.«01_k».proof.Proof.Gen.GlaRefIdeal.Run
public import Idealize.ShloMosaic.Lib.Pipeline.ValueKit

@[expose] public section

set_option maxRecDepth 16384

noncomputable section

namespace Cert.GlaRefIdeal.Pf

open Cert.GlaRefIdeal Cert.GlaRefIdeal.Gen Idealize.ShloMosaic Idealize.ShloMosaic.TcCoe Idealize.ShloMosaic.Tactic

variable (o t : FVec Ideal S16384x1024 .bf16) (on : FVec Ideal S256 .f32) (x : FVec Ideal S16384x1024 .f32) (wo : FVec Ideal S1024x1024 .f32) (g1 : FVec Ideal S2x1024 .f32)
  (g : FVec Ideal S1024 .f32) (sh sc g2 : FVec Ideal S2x1024 .f32) (wu : FVec Ideal S1024x4096 .f32) (wd : FVec Ideal S4096x1024 .f32)

/-- A per-sequence row over its sequence. -/
abbrev seqRow (a : FVec Ideal S2x1024 .f32) : FVec Ideal S2x8192x1024 .f32 :=
  broadcastInDim S2x8192x1024 ![0, 1, 2] bcast_S2x1x1024_S2x8192x1024_0_1_2 (broadcastInDim S2x1x1024 ![0, 2] bcast_S2x1024_S2x1x1024_0_2 a)

/-- The heads of every row. -/
def o4 : FVec Ideal S2x8192x4x256 .f32 := shapeCast _ (extf .f32 o bitsLt_bf16_f32) shapeCasts_S16384x1024_S2x8192x4x256

/-- Their mean squares. -/
def ms4 : FVec Ideal S2x8192x4x1 .f32 :=
  Host.divf (broadcastInDim S2x8192x4x1 ![0, 1, 2] bcast_S2x8192x4_S2x8192x4x1_0_1_2 (Host.reduceAdd (mulf (o4 o) (o4 o)) (constant S_ .f32 0x00000000#32) reducesTo_S2x8192x4x256_S2x8192x4_d3 h_S_))
    (broadcastInDim S2x8192x4x1 ![] bcast_S_S2x8192x4x1 (constant S_ .f32 0x43800000#32))

/-- The heads normed. -/
def on4 : FVec Ideal S2x8192x4x256 .f32 :=
  mulf (mulf (o4 o) (broadcastInDim S2x8192x4x256 ![0, 1, 2, 3] bcast_S2x8192x4x1_S2x8192x4x256_0_1_2_3 (Host.rsqrt (addf (ms4 o) (broadcastInDim S2x8192x4x1 ![] bcast_S_S2x8192x4x1 (constant S_ .f32 0x358637BD#32))))))
    (broadcastInDim S2x8192x4x256 ![0, 1, 2, 3] bcast_S1x1x1x256_S2x8192x4x256_0_1_2_3 (broadcastInDim S1x1x1x256 ![3] bcast_S256_S1x1x1x256_3 on))

/-- The gates. -/
def tr : FVec Ideal S2x8192x1024 .f32 := shapeCast _ (extf .f32 t bitsLt_bf16_f32) shapeCasts_S16384x1024_S2x8192x1024

/-- The rows before their projection. -/
def go : FVec Ideal S2x8192x1024 .f32 :=
  mulf (shapeCast _ (on4 o on) shapeCasts_S2x8192x4x256_S2x8192x1024) (mulf (tr t) (Host.divf (broadcastInDim S2x8192x1024 ![] bcast_S_S2x8192x1024 (constant S_ .f32 0x3F800000#32))
    (addf (broadcastInDim S2x8192x1024 ![] bcast_S_S2x8192x1024 (constant S_ .f32 0x3F800000#32)) (Host.exp (Host.negf (tr t))))))

/-- The rows plus the projected, gated mixing. -/
def x1 : FVec Ideal S2x8192x1024 .f32 :=
  addf (shapeCast _ x shapeCasts_S16384x1024_S2x8192x1024) (mulf (seqRow g1) (Host.dotGeneral dot_S2x8192x1024_S1024x1024_S2x8192x1024_2_0_01_1_n_n none (go o t on) wo))

/-- The mean square of every row. -/
def ms (y : FVec Ideal S2x8192x1024 .f32) : FVec Ideal S2x8192x1 .f32 :=
  Host.divf (broadcastInDim S2x8192x1 ![0, 1] bcast_S2x8192_S2x8192x1_0_1 (Host.reduceAdd (mulf y y) (constant S_ .f32 0x00000000#32) reducesTo_S2x8192x1024_S2x8192_d2 h_S_))
    (broadcastInDim S2x8192x1 ![] bcast_S_S2x8192x1 (constant S_ .f32 0x44800000#32))

/-- The normalized, scaled and shifted rows. -/
def h (y : FVec Ideal S2x8192x1024 .f32) : FVec Ideal S2x8192x1024 .f32 :=
  addf (mulf (mulf (mulf y (broadcastInDim S2x8192x1024 ![0, 1, 2] bcast_S2x8192x1_S2x8192x1024_0_1_2 (Host.rsqrt (addf (ms y) (broadcastInDim S2x8192x1 ![] bcast_S_S2x8192x1 (constant S_ .f32 0x358637BD#32))))))
      (broadcastInDim S2x8192x1024 ![0, 1, 2] bcast_S1x1x1024_S2x8192x1024_0_1_2 (broadcastInDim S1x1x1024 ![2] bcast_S1024_S1x1x1024_2 g)))
    (broadcastInDim S2x8192x1024 ![0, 1, 2] bcast_S2x1x1024_S2x8192x1024_0_1_2 (addf (broadcastInDim S2x1x1024 ![] bcast_S_S2x1x1024 (constant S_ .f32 0x3F800000#32)) (broadcastInDim S2x1x1024 ![0, 2] bcast_S2x1024_S2x1x1024_0_2 sc))))
    (seqRow sh)

/-- The hidden values, rectified. -/
def u (y : FVec Ideal S2x8192x1024 .f32) : FVec Ideal S2x8192x4096 .f32 :=
  maximumf (Host.dotGeneral dot_S2x8192x1024_S1024x4096_S2x8192x4096_2_0_01_1_n_n none (h g sh sc y) wu) (broadcastInDim S2x8192x4096 ![] bcast_S_S2x8192x4096 (constant S_ .f32 0x00000000#32))

/-- The result. -/
def res (y : FVec Ideal S2x8192x1024 .f32) : FVec Ideal S16384x1024 .f32 :=
  shapeCast _ (addf y (mulf (seqRow g2) (Host.dotGeneral dot_S2x8192x4096_S4096x1024_S2x8192x1024_2_0_01_1_n_n none (mulf (u g sh sc wu y) (u g sh sc wu y)) wd))) shapeCasts_S2x8192x1024_S16384x1024

theorem go_at (b : Fin 2) (s : Fin 8192) (d : Fin 1024) :
    (go o t on (ix3 b s d) : EReal) = Layer.gatedA o t on (ix2 ⟨b.val * 8192 + s.val, by omega⟩ d) := by
  have e : (⟨d.val / 256 * 256 + d.val % 256, by omega⟩ : Fin 1024) = d := Fin.ext (by show d.val / 256 * 256 + d.val % 256 = d.val; omega)
  pointwise [go, on4, ms4, o4, tr]
  show _ = Layer.gated (fun d => o (ix2 ⟨b.val * 8192 + s.val, by omega⟩ d)) (fun d => t (ix2 ⟨b.val * 8192 + s.val, by omega⟩ d)) (fun e => on (ix1 e)) d
  unfold Layer.gated Layer.gatedH
  simp only [e]
  rfl

theorem x1_at (b : Fin 2) (s : Fin 8192) (d : Fin 1024) :
    (x1 o t on x wo g1 (ix3 b s d) : EReal) = Layer.mix (fun d => x (ix2 ⟨b.val * 8192 + s.val, by omega⟩ d)) (fun d => Layer.gatedA o t on (ix2 ⟨b.val * 8192 + s.val, by omega⟩ d)) (fun d => g1 (ix2 b d)) (fun d j => wo (ix2 d j)) d := by
  pointwise [x1]
  simp only [go_at]
  rfl

theorem h_at (y : FVec Ideal S2x8192x1024 .f32) (b : Fin 2) (t : Fin 8192) (d : Fin 1024) :
    (h g sh sc y (ix3 b t d) : EReal) = Layer.pre (fun d => y (ix3 b t d)) (fun d => g (ix1 d)) (fun d => sh (ix2 b d)) (fun d => sc (ix2 b d)) d := by
  have e : (ms y (ix3 b t 0) : EReal) = Layer.ms fun d => y (ix3 b t d) := by
    pointwise [ms]
    rfl
  pointwise [h]
  rw [e]
  rfl

theorem res_at (y : FVec Ideal S2x8192x1024 .f32) (R : Fin 16384) (j : Fin 1024) :
    (res g sh sc g2 wu wd y (ix2 R j) : EReal) = Layer.ff (fun d => y (ix3 ⟨R.val / 8192, by omega⟩ ⟨R.val % 8192, by omega⟩ d)) (fun d => g (ix1 d)) (fun d => sh (ix2 ⟨R.val / 8192, by omega⟩ d))
      (fun d => sc (ix2 ⟨R.val / 8192, by omega⟩ d)) (fun d => g2 (ix2 ⟨R.val / 8192, by omega⟩ d)) (fun d f => wu (ix2 d f)) (fun f j => wd (ix2 f j)) j := by
  pointwise [res, u]
  simp only [h_at]
  rfl

theorem seq_row (R : Fin 16384) (h : R.val / 8192 * 8192 + R.val % 8192 < 16384) : (⟨R.val / 8192 * 8192 + R.val % 8192, h⟩ : Fin 16384) = R := Fin.ext (by show R.val / 8192 * 8192 + R.val % 8192 = R.val; omega)

theorem res_eq : (res g sh sc g2 wu wd (x1 o t on x wo g1) : S16384x1024.Idx → EReal) = Layer.moba (Layer.gatedA o t on) x wo g1 g sh sc g2 wu wd := by
  funext i
  obtain ⟨R, j, rfl⟩ : ∃ (R : Fin 16384) (j : Fin 1024), i = (ix2 R j : S16384x1024.Idx) := ⟨i 0, i 1, eq_ix2 i⟩
  rw [res_at]
  simp only [x1_at, seq_row]
  rfl

open Idealize.SL.Sem

variable (m : (ℓ : Loc nD τ sig) → Buf (Elt Ideal) ℓ)

/-- The reference's run: the result, and the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v55) = Layer.moba (Layer.gatedA (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => by
    obtain ⟨h0, h⟩ := h c
    refine ⟨h0.trans ?_, h⟩
    unfold Value.res_main_v55
    exact res_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) (Value.run m ρ)

end Cert.GlaRefIdeal.Pf

end
-- ==== Proof.Gla.Precond.lean ====
/- The precondition `numbers_gla` in words: every entry of every argument is a number. -/
module

public import proofs.«01_k».proof.Defs
public import proofs.«01_k».proof.Proof.Moba.Precond

@[expose] public section

noncomputable section

namespace Cert.Pre_numbers_gla

open Idealize.ShloMosaic
open Cert.Pre_numbers (real_of_all and_one)

instance facts : Facts := ⟨by decide, by decide, by decide, by decide, by decide, by decide, by decide, by decide, by decide, by decide, by decide, by decide, by decide, by decide, by decide, by decide⟩

/-- What the predicate says of the twelve arguments. -/
theorem allReal (a0 : FVec Ideal S16384x1024 .bf16) (a1 : FVec Ideal S16384x1024 .bf16) (a2 : FVec Ideal S256 .f32) (a3 : FVec Ideal S16384x1024 .f32) (a4 : FVec Ideal S1024x1024 .f32) (a5 : FVec Ideal S2x1024 .f32) (a6 : FVec Ideal S1024 .f32) (a7 : FVec Ideal S2x1024 .f32) (a8 : FVec Ideal S2x1024 .f32) (a9 : FVec Ideal S2x1024 .f32) (a10 : FVec Ideal S1024x4096 .f32) (a11 : FVec Ideal S4096x1024 .f32)
    (h : fn (F := Ideal) a0 a1 a2 a3 a4 a5 a6 a7 a8 a9 a10 a11 = fun _ => 1#1) :
    (∀ i, Layer.IsReal (a0 i)) ∧ (∀ i, Layer.IsReal (a1 i)) ∧ (∀ i, Layer.IsReal (a2 i)) ∧ (∀ i, Layer.IsReal (a3 i)) ∧ (∀ i, Layer.IsReal (a4 i)) ∧ (∀ i, Layer.IsReal (a5 i)) ∧ (∀ i, Layer.IsReal (a6 i)) ∧ (∀ i, Layer.IsReal (a7 i)) ∧ (∀ i, Layer.IsReal (a8 i)) ∧ (∀ i, Layer.IsReal (a9 i)) ∧ (∀ i, Layer.IsReal (a10 i)) ∧ (∀ i, Layer.IsReal (a11 i)) := by
  have h11 := congrFun h ix0
  obtain ⟨h10, e11⟩ := and_one _ _ h11
  obtain ⟨h9, e10⟩ := and_one _ _ h10
  obtain ⟨h8, e9⟩ := and_one _ _ h9
  obtain ⟨h7, e8⟩ := and_one _ _ h8
  obtain ⟨h6, e7⟩ := and_one _ _ h7
  obtain ⟨h5, e6⟩ := and_one _ _ h6
  obtain ⟨h4, e5⟩ := and_one _ _ h5
  obtain ⟨h3, e4⟩ := and_one _ _ h4
  obtain ⟨h2, e3⟩ := and_one _ _ h3
  obtain ⟨h1, e2⟩ := and_one _ _ h2
  obtain ⟨h0, e1⟩ := and_one _ _ h1
  exact ⟨real_of_all a0 _ _ h0, real_of_all a1 _ _ e1, real_of_all a2 _ _ e2, real_of_all a3 _ _ e3, real_of_all a4 _ _ e4, real_of_all a5 _ _ e5, real_of_all a6 _ _ e6, real_of_all a7 _ _ e7, real_of_all a8 _ _ e8, real_of_all a9 _ _ e9, real_of_all a10 _ _ e10, real_of_all a11 _ _ e11⟩

end Cert.Pre_numbers_gla

end
-- ==== Proof.Gla.Agree.lean ====
/- The linear layers' closing call and its reference end with the same rows. -/
module

public import proofs.«01_k».proof.Defs
public import proofs.«01_k».proof.Proof.Gla.Arrays
public import proofs.«01_k».proof.Proof.Gla.Ref
public import proofs.«01_k».proof.Proof.Gla.Precond
public import Idealize.ShloMosaic.Adequacy
public import Idealize.ShloMosaic.Init

@[expose] public section

noncomputable section

namespace Cert.Proof

open Idealize.ShloMosaic Idealize.SL.Sem

theorem gla_frame_reference : Cert.quiescent_GlaRefIdeal := fun m ρ _ =>
  (θ_run Cert.GlaRefIdeal.defs _ _).mono (fun r h => ⟨fun c => (h c).2, Idealize.ShloMosaic.sem_eq_zero_of_no_sems (by decide) r.2⟩)
    (Cert.GlaRefIdeal.Value.run m ρ)

theorem gla_frame_reference_pre : Cert.quiescent_GlaRefIdeal_pre_numbers_gla := fun m ρ _ =>
  (θ_run Cert.GlaRefIdeal.defs _ _).mono (fun r h => ⟨fun c => (h c).2, Idealize.ShloMosaic.sem_eq_zero_of_no_sems (by decide) r.2⟩)
    (Cert.GlaRefIdeal.Value.run m ρ)

theorem gla : Cert.algebraic_GlaIdeal_GlaRefIdeal_pre_numbers_gla := by
  intro m ρ m' ρ' hpre hagree
  have hn : ∀ c, Cert.GlaIdeal.Pf.Numbers m c := fun c => by
    obtain ⟨h0, h1, h2, h3, h4, h5, h6, h7, h8, h9, h10, h11⟩ := Cert.Pre_numbers_gla.allReal _ _ _ _ _ _ _ _ _ _ _ _ (hpre c)
    exact ⟨h0, h1, h2, h3, h4, h5, h6, h7, h8, h9, h10, h11⟩
  refine ⟨_, Cert.GlaIdeal.Pf.run m ρ hn, ?_⟩
  refine (θ_run Cert.GlaRefIdeal.defs _ _).mono (fun r h c => ?_) (Cert.GlaRefIdeal.Pf.run m' ρ')
  obtain ⟨h0, h2⟩ := h c
  obtain ⟨e0, e1, e2, e3, e4, e5, e6, e7, e8, e9, e10, e11⟩ := hagree c
  rw [e0, e1, e2, e3, e4, e5, e6, e7, e8, e9, e10, e11] at h0
  exact ⟨h0, h2⟩

end Cert.Proof

end
-- ==== Proof.GlaIn.Math.lean ====
/- The linear layers' input projections of a row, on extended reals: queries and keys, values, gates, log-decays. -/
module

public import proofs.«01_k».proof.Proof.FeedForward

@[expose] public section

noncomputable section

namespace Cert.Layer

open Idealize.ShloMosaic Idealize.ShloMosaic.Tactic

/-- A row through weights of any width. -/
def proj {n : ℕ} (h : Fin 1024 → EReal) (w : Fin 1024 → Fin n → EReal) (j : Fin n) : EReal := ∑ d, h d * w d j

/-- The queries, scaled, and after them the keys. -/
def qkAt (h : Fin 1024 → EReal) (w : Fin 1024 → Fin 3072 → EReal) (j : Fin 1024) : EReal :=
  if j.val < 512 then proj h w ⟨j.val, by omega⟩ * Ideal.ofBits .f32 0x3DB504F3#32 else proj h w ⟨j.val, by omega⟩

/-- The logarithm of the logistic function, scaled: a log-decay. -/
def decay (z : EReal) : EReal := (min z 0 - Ideal.log1p (Ideal.exp (0 - max z (-z)))) * Ideal.ofBits .f32 0x3D800000#32

/-- The log-decays of a row: through the low rank and back. -/
def laAt (h : Fin 1024 → EReal) (wr : Fin 1024 → Fin 16 → EReal) (wg : Fin 16 → Fin 512 → EReal) (b : Fin 512 → EReal) (j : Fin 512) : EReal :=
  decay ((∑ k, proj h wr k * wg k j) + b j)

/-- The same with the rank padded to 128, its rows split in a head and a rest, and the weights `w0` in a head and a rest `w1`. -/
def laSplit (h : Fin 1024 → EReal) (wr : Fin 1024 → Fin 128 → EReal) (w0 w1 : Fin 128 → Fin 512 → EReal) (b : Fin 512 → EReal) (j : Fin 512) : EReal :=
  decay ((((∑ k, proj h wr k * w0 k j) + ∑ k, (proj h wr k - proj h wr k) * w0 k j) + ∑ k, proj h wr k * w1 k j) + b j)

theorem IsReal.sub_self {x : EReal} : IsReal x → x - x = 0
  | ⟨a, ha⟩ => by rw [ha, ← EReal.coe_sub, _root_.sub_self]; rfl

theorem sum_pad (f : Fin 128 → EReal) (h : ∀ k : Fin 128, 16 ≤ k.val → f k = 0) : ∑ k, f k = ∑ k : Fin 16, f ⟨k.val, by omega⟩ := by
  refine (Fin.sum_univ_add (a := 16) (b := 112) f).trans ?_
  have z : ∑ k : Fin 112, f (Fin.natAdd 16 k) = 0 := Finset.sum_eq_zero fun k _ => h (Fin.natAdd 16 k) (Nat.le_add_right 16 k.val)
  rw [z, add_zero]
  rfl

/-- With numbers for the row and the low rank's weights the two agree. -/
theorem laSplit_eq {h : Fin 1024 → EReal} {wr : Fin 1024 → Fin 128 → EReal} {w0 w1 : Fin 128 → Fin 512 → EReal} {b : Fin 512 → EReal}
    {vr : Fin 1024 → Fin 16 → EReal} {vg : Fin 16 → Fin 512 → EReal}
    (hr : ∀ d k, wr d k = if hk : k.val < 16 then vr d ⟨k.val, hk⟩ else 0) (h0 : ∀ k j, w0 k j = if hk : k.val < 16 then vg ⟨k.val, hk⟩ j else 0)
    (h1 : ∀ k j, w1 k j = w0 k j - w0 k j) (hh : ∀ d, IsReal (h d)) (hvr : ∀ d k, IsReal (vr d k)) (hvg : ∀ k j, IsReal (vg k j)) (j : Fin 512) :
    laSplit h wr w0 w1 b j = laAt h vr vg b j := by
  have zero : IsReal 0 := ⟨0, rfl⟩
  have r0 : ∀ k j, IsReal (w0 k j) := fun k j => by
    rw [h0]
    split
    · exact hvg _ _
    · exact zero
  have rr : ∀ k, IsReal (proj h wr k) := fun k => IsReal.sum fun d => (hh d).mul (by
    rw [hr]
    split
    · exact hvr _ _
    · exact zero)
  have s2 : (∑ k, (proj h wr k - proj h wr k) * w0 k j) = 0 := Finset.sum_eq_zero fun k _ => by rw [(rr k).sub_self, zero_mul]
  have s3 : (∑ k, proj h wr k * w1 k j) = 0 := Finset.sum_eq_zero fun k _ => by rw [h1, (r0 k j).sub_self, mul_zero]
  have s1 : (∑ k, proj h wr k * w0 k j) = ∑ k, proj h vr k * vg k j := by
    rw [sum_pad _ fun k hk => by rw [h0, dif_neg (by omega), mul_zero]]
    refine Finset.sum_congr rfl fun k _ => ?_
    rw [h0, dif_pos k.isLt]
    refine congrArg (· * vg k j) (Finset.sum_congr rfl fun d _ => ?_)
    rw [hr, dif_pos k.isLt]
  unfold laSplit laAt
  rw [s1, s2, s3, add_zero, add_zero]

theorem coe_max' (a b : ℝ) : ((max a b : ℝ) : EReal) = max (a : EReal) b := EReal.coe_strictMono.monotone.map_max

theorem coe_min' (a b : ℝ) : ((min a b : ℝ) : EReal) = min (a : EReal) b := EReal.coe_strictMono.monotone.map_min

theorem softplus_real (z : EReal) : IsReal (Ideal.log1p (Ideal.exp (0 - max z (-z)))) := by
  have key : ∀ x : ℝ, 0 ≤ x → IsReal (Ideal.log1p (x : EReal)) := fun x hx => by
    refine ⟨Real.log (1 + x), ?_⟩
    show Ideal.log (((1 + x : ℝ) : EReal)) = _
    rw [Ideal.log_coe, if_neg (by linarith)]
  induction z with
  | bot => exact (by simpa using key 0 le_rfl)
  | top => exact (by simpa using key 0 le_rfl)
  | coe a =>
    rw [← EReal.coe_neg, ← coe_max', zero_sub, ← EReal.coe_neg, Ideal.exp_coe]
    exact key _ (Real.exp_pos _).le

theorem neg_max_add (z : EReal) {L : EReal} : IsReal L → -(max (-z) 0 + L) = min z 0 - L
  | ⟨l, hl⟩ => by
    subst hl
    induction z with
    | bot => simp
    | top => simp
    | coe a =>
      rw [← EReal.coe_zero, ← EReal.coe_neg, ← coe_max', ← EReal.coe_add, ← EReal.coe_neg, ← coe_min', ← EReal.coe_sub]
      congr 1
      rcases le_total a 0 with h | h
      · rw [max_eq_left (by linarith), min_eq_left h]; ring
      · rw [max_eq_right (by linarith), min_eq_right h]; ring

/-- The reference's spelling of a log-decay. -/
theorem decay_ref (z : EReal) :
    Ideal.div (-(max (-z) 0 + Ideal.log1p (Ideal.exp (-max (-z) (- -z))))) (Ideal.ofBits .f32 0x41800000#32) = decay z := by
  have e16 : Ideal.ofBits .f32 0x41800000#32 = ((16 : ℝ) : EReal) := by
    simp [Ideal.ofBits, Ideal.ieee]
    exact congrArg ((↑) : ℝ → EReal) (show (8388608 : ℝ) * (2 ^ 19)⁻¹ = 16 by norm_num)
  have ec : Ideal.ofBits .f32 0x3D800000#32 = ((1 / 16 : ℝ) : EReal) := by
    simp [Ideal.ofBits, Ideal.ieee]
    exact congrArg ((↑) : ℝ → EReal) (show (8388608 : ℝ) * (2 ^ 27)⁻¹ = 16⁻¹ by norm_num)
  unfold decay
  have em : -max (-z) (- -z) = 0 - max z (-z) := by rw [neg_neg, max_comm, zero_sub]
  rw [e16, ec, em, neg_max_add z (softplus_real z), Ideal.div_coe (by norm_num)]

section Arrays
variable (x : (⟨2, ![16384, 1024]⟩ : Shape).Idx → EReal) (g : (⟨1, ![1024]⟩ : Shape).Idx → EReal) (sh sc : (⟨2, ![2, 1024]⟩ : Shape).Idx → EReal)
  (w : (⟨2, ![1024, 3088]⟩ : Shape).Idx → EReal) (wg : (⟨2, ![16, 512]⟩ : Shape).Idx → EReal) (b : (⟨1, ![512]⟩ : Shape).Idx → EReal)

/-- Every row's queries and keys, -/
def qkA : (⟨2, ![16384, 1024]⟩ : Shape).Idx → EReal := fun i => qkAt (row x g sh sc (i 0)) (fun d j => w (ix2 d ⟨j.val, by omega⟩)) (i 1)

/-- its values, -/
def vA : (⟨2, ![16384, 1024]⟩ : Shape).Idx → EReal := fun i => proj (row x g sh sc (i 0)) (fun d (j : Fin 1024) => w (ix2 d ⟨1024 + j.val, by omega⟩)) (i 1)

/-- its gates, -/
def gateA : (⟨2, ![16384, 1024]⟩ : Shape).Idx → EReal := fun i => proj (row x g sh sc (i 0)) (fun d (j : Fin 1024) => w (ix2 d ⟨2048 + j.val, by omega⟩)) (i 1)

/-- and its log-decays. -/
def laA : (⟨2, ![16384, 512]⟩ : Shape).Idx → EReal := fun i =>
  laAt (row x g sh sc (i 0)) (fun d k => w (ix2 d ⟨3072 + k.val, by omega⟩)) (fun k j => wg (ix2 k j)) (fun j => b (ix1 j)) (i 1)

end Arrays

end Cert.Layer

end
-- ==== Proof.GlaIn.Block.lean ====
/- The linear layers' input call's blocks, read at an index on extended reals. -/
module

public import proofs.«01_k».proof.Proof.GlaIn.Math
public import proofs.«01_k».proof.Proof.Gen.GlaInIdeal.Value
public import Idealize.ShloMosaic.Lib.Pipeline.ReadBack
public import Idealize.ShloMosaic.Lib.Pipeline.ValueKit

@[expose] public section

set_option maxRecDepth 16384

noncomputable section

namespace Cert.GlaInIdeal.Pf

open Cert.GlaInIdeal Cert.GlaInIdeal.Gen Idealize.ShloMosaic Idealize.ShloMosaic.TcCoe Idealize.ShloMosaic.Tactic

section Half
variable (a : Vec Ideal S256x1024 .f32) (x1 : Vec Ideal S1x1024 .f32) (x2 x3 : Vec Ideal S1x1x1024 .f32) (r : Fin 256)

/-- Row `r` of a half block, normed and modulated. -/
abbrev halfRow : Fin 1024 → EReal :=
  Layer.pre (fun d => a (ix2 r d)) (fun d => x1 (ix2 0 d)) (fun d => x2 (ix3 0 0 d)) (fun d => x3 (ix3 0 0 d))

theorem first_at (d : Fin 1024) : (k0_pay5 a x1 x2 x3 (ix2 r d) : EReal) = halfRow a x1 x2 x3 r d := by
  pointwise [k0_pay5]
  rfl

theorem second_at (d : Fin 1024) : (k0_pay18 (k0_pay15 x2) (k0_pay16 a x1) (k0_pay17 x3) (ix2 r d) : EReal) = halfRow a x1 x2 x3 r d := by
  pointwise [k0_pay18, k0_pay15, k0_pay16, k0_pay17]
  rfl

variable (h : FVec Ideal S256x1024 .bf16) (w : Vec Ideal S1024x512 .bf16) (u : Vec Ideal S1024x1024 .bf16)

theorem q1_at (j : Fin 512) : (k0_pay1 h w (ix2 r j) : EReal) = (∑ d, h (ix2 r d) * w (ix2 d j)) * Ideal.ofBits .f32 0x3DB504F3#32 := by
  pointwise [k0_pay1]
theorem q0_at (j : Fin 512) : (k0_pay11 h w (ix2 r j) : EReal) = (∑ d, h (ix2 r d) * w (ix2 d j)) * Ideal.ofBits .f32 0x3DB504F3#32 := by
  pointwise [k0_pay11]
theorem k1_at (j : Fin 512) : (k0_pay2 h w (ix2 r j) : EReal) = ∑ d, h (ix2 r d) * w (ix2 d j) := by
  pointwise [k0_pay2]
theorem k0_at (j : Fin 512) : (k0_pay12 h w (ix2 r j) : EReal) = ∑ d, h (ix2 r d) * w (ix2 d j) := by
  pointwise [k0_pay12]
theorem v1_at (j : Fin 1024) : (k0_pay3 h u (ix2 r j) : EReal) = ∑ d, h (ix2 r d) * u (ix2 d j) := by
  pointwise [k0_pay3]
theorem v0_at (j : Fin 1024) : (k0_pay13 h u (ix2 r j) : EReal) = ∑ d, h (ix2 r d) * u (ix2 d j) := by
  pointwise [k0_pay13]
theorem g1_at (j : Fin 1024) : (k0_pay4 h u (ix2 r j) : EReal) = ∑ d, h (ix2 r d) * u (ix2 d j) := by
  pointwise [k0_pay4]
theorem g0_at (j : Fin 1024) : (k0_pay14 h u (ix2 r j) : EReal) = ∑ d, h (ix2 r d) * u (ix2 d j) := by
  pointwise [k0_pay14]

variable (wr : Vec Ideal S1024x128 .bf16) (w0 w1 : Vec Ideal S1x128x512 .bf16) (b : Vec Ideal S1x512 .f32)

theorem la0_at (j : Fin 512) :
    (k0_pay10 (k0_pay7 a x1 x2 x3 wr) (k0_pay8 a x1 x2 x3 wr) (k0_pay9 a x1 x2 x3 wr w0) w0 w1 b (ix2 r j) : EReal)
      = Layer.laSplit (halfRow a x1 x2 x3 r) (fun d k => wr (ix2 d k)) (fun k j => w0 (ix3 0 k j)) (fun k j => w1 (ix3 0 k j)) (fun j => b (ix2 0 j)) j := by
  pointwise [k0_pay10, k0_pay9, k0_pay8, k0_pay7, k0_pay6]
  simp only [first_at]
  rfl

theorem la1_at (j : Fin 512) :
    (k0_pay19 (k0_pay15 x2) (k0_pay16 a x1) (k0_pay17 x3) wr w0 w0 w1 b (ix2 r j) : EReal)
      = Layer.laSplit (halfRow a x1 x2 x3 r) (fun d k => wr (ix2 d k)) (fun k j => w0 (ix3 0 k j)) (fun k j => w1 (ix3 0 k j)) (fun j => b (ix2 0 j)) j := by
  pointwise [k0_pay19]
  simp only [second_at]
  rfl

end Half

/-- A rectangle's place in the block. -/
theorem emb_at {A B n k : ℕ} (o q : ℕ) (ho : o + n ≤ A) (hq : q + k ≤ B)
    (inb : ∀ a, (![o, q] : Fin 2 → ℕ) a + (⟨2, ![n, k]⟩ : Shape).size a ≤ (⟨2, ![A, B]⟩ : Shape).size a) (r : Fin n) (d : Fin k) :
    (Rect.unit (s := (⟨2, ![A, B]⟩ : Shape)) ![o, q] (⟨2, ![n, k]⟩ : Shape).size inb).emb (ix2 r d) = ix2 ⟨o + r.val, by omega⟩ ⟨q + d.val, by omega⟩ :=
  funext (Fin.forall_fin_two.mpr ⟨Fin.ext (by show o + 1 * r.val = o + r.val; omega), Fin.ext (by show q + 1 * d.val = q + d.val; omega)⟩)

/-- A block, by row and column. -/
def whole {A B : ℕ} (G : Fin A → Fin B → EReal) : (⟨2, ![A, B]⟩ : Shape).Idx → EReal := fun y => G (y 0) (y 1)

/-- A rectangle of the block stored. -/
theorem piece {A B n k : ℕ} (o q : ℕ) (ho : o + n ≤ A) (hq : q + k ≤ B)
    (inb : ∀ a, (![o, q] : Fin 2 → ℕ) a + (⟨2, ![n, k]⟩ : Shape).size a ≤ (⟨2, ![A, B]⟩ : Shape).size a) (G : Fin A → Fin B → EReal)
    (p : (⟨2, ![n, k]⟩ : Shape).Idx → EReal) (h : ∀ (r : Fin n) (d : Fin k), p (ix2 r d) = G ⟨o + r.val, by omega⟩ ⟨q + d.val, by omega⟩)
    (y : (Rect.unit (s := (⟨2, ![A, B]⟩ : Shape)) ![o, q] (⟨2, ![n, k]⟩ : Shape).size inb).shape.Idx) :
    p y = whole G ((Rect.unit (s := (⟨2, ![A, B]⟩ : Shape)) ![o, q] (⟨2, ![n, k]⟩ : Shape).size inb).emb y) := by
  obtain ⟨r, d, rfl⟩ : ∃ (r : Fin n) (d : Fin k), y = (ix2 r d : (⟨2, ![n, k]⟩ : Shape).Idx) := ⟨y 0, y 1, eq_ix2 y⟩
  refine (h r d).trans ?_
  rw [emb_at o q ho hq inb r d]
  rfl

section Outs
variable (x0 : Vec Ideal S512x1024 .f32) (x1 : Vec Ideal S1x1024 .f32) (x2 x3 : Vec Ideal S1x1x1024 .f32) (x4 : Vec Ideal S1024x3072 .bf16)
  (x5 : Vec Ideal S1024x128 .bf16) (x6 : Vec Ideal S2x128x512 .bf16) (x7 : Vec Ideal S1x512 .f32)

/-- Row `r` of the block, normed and modulated. -/
abbrev hRow (r : Fin 512) : Fin 1024 → EReal :=
  Layer.pre (fun d => x0 (ix2 r d)) (fun d => x1 (ix2 0 d)) (fun d => x2 (ix3 0 0 d)) (fun d => x3 (ix3 0 0 d))

/-- Its queries and keys, -/
abbrev qkRow (r : Fin 512) (j : Fin 1024) : EReal := Layer.qkAt (hRow x0 x1 x2 x3 r) (fun d j => x4 (ix2 d j)) j

/-- its values, -/
abbrev vRow (r : Fin 512) (j : Fin 1024) : EReal := Layer.proj (hRow x0 x1 x2 x3 r) (fun d (j : Fin 1024) => x4 (ix2 d ⟨1024 + j.val, by omega⟩)) j

/-- its gates, -/
abbrev gRow (r : Fin 512) (j : Fin 1024) : EReal := Layer.proj (hRow x0 x1 x2 x3 r) (fun d (j : Fin 1024) => x4 (ix2 d ⟨2048 + j.val, by omega⟩)) j

/-- and its log-decays. -/
abbrev laRow (r j : Fin 512) : EReal :=
  Layer.laSplit (hRow x0 x1 x2 x3 r) (fun d k => x5 (ix2 d k)) (fun k j => x6 (ix3 0 k j)) (fun k j => x6 (ix3 1 k j)) (fun j => x7 (ix2 0 j)) j

theorem loads : View.ld x1 r0_1 = x1 ∧ View.ld x2 r0_2 = x2 ∧ View.ld x3 r0_2 = x3 ∧ View.ld x5 r0_3 = x5 ∧ View.ld x7 r0_6 = x7 :=
  ⟨View.ld_unit_lit _ x1 (by decide), View.ld_unit_lit _ x2 (by decide), View.ld_unit_lit _ x3 (by decide), View.ld_unit_lit _ x5 (by decide), View.ld_unit_lit _ x7 (by decide)⟩

theorem first_row (r : Fin 256) : halfRow (View.ld x0 r0_0) x1 x2 x3 r = hRow x0 x1 x2 x3 ⟨0 + r.val, by omega⟩ :=
  congrArg (fun f => Layer.pre f _ _ _) (funext fun d => congrArg x0 ((emb_at 0 0 (by decide) (by decide) inb_S512x1024_S256x1024_0_0 r d).trans
    (congrArg (ix2 _) (Fin.ext (Nat.zero_add _)))))

theorem second_row (r : Fin 256) : halfRow (View.ld x0 r0_14) x1 x2 x3 r = hRow x0 x1 x2 x3 ⟨256 + r.val, by omega⟩ :=
  congrArg (fun f => Layer.pre f _ _ _) (funext fun d => congrArg x0 ((emb_at 256 0 (by decide) (by decide) inb_S512x1024_S256x1024_256_0 r d).trans
    (congrArg (ix2 _) (Fin.ext (Nat.zero_add _)))))

theorem p20_at (r : Fin 256) (d : Fin 1024) : (k0_pay20 x0 x1 x2 x3 x4 x5 x6 x7 (ix2 r d) : EReal) = hRow x0 x1 x2 x3 ⟨0 + r.val, by omega⟩ d := by
  obtain ⟨e1, e2, e3, e5, e7⟩ := loads x1 x2 x3 x5 x7
  unfold k0_pay20
  rw [e1, e2, e3, first_at, first_row]

theorem p24_at (r : Fin 256) (d : Fin 1024) : (k0_pay24 x0 x1 x2 x3 x4 x5 x6 x7 (ix2 r d) : EReal) = hRow x0 x1 x2 x3 ⟨256 + r.val, by omega⟩ d := by
  obtain ⟨e1, e2, e3, e5, e7⟩ := loads x1 x2 x3 x5 x7
  unfold k0_pay24 k0_pay23 k0_pay22 k0_pay21
  rw [e1, e2, e3, second_at, second_row]

theorem ldQ (d : Fin 1024) (j : Fin 512) : (View.ld x4 r0_8 (ix2 d j) : EReal) = x4 (ix2 d ⟨0 + j.val, by omega⟩) :=
  congrArg x4 ((emb_at 0 0 (by decide) (by decide) inb_S1024x3072_S1024x512_0_0 d j).trans (congrArg (ix2 · _) (Fin.ext (Nat.zero_add _))))

theorem ldK (d : Fin 1024) (j : Fin 512) : (View.ld x4 r0_10 (ix2 d j) : EReal) = x4 (ix2 d ⟨512 + j.val, by omega⟩) :=
  congrArg x4 ((emb_at 0 512 (by decide) (by decide) inb_S1024x3072_S1024x512_0_512 d j).trans (congrArg (ix2 · _) (Fin.ext (Nat.zero_add _))))

theorem ldV (d j : Fin 1024) : (View.ld x4 r0_12 (ix2 d j) : EReal) = x4 (ix2 d ⟨1024 + (0 + j.val), by omega⟩) :=
  congrArg x4 ((emb_at 0 1024 (by decide) (by decide) inb_S1024x3072_S1024x1024_0_1024 d j).trans
    (congrArg₂ ix2 (Fin.ext (Nat.zero_add _)) (Fin.ext (congrArg (1024 + ·) (Nat.zero_add _).symm))))

theorem ldG (d j : Fin 1024) : (View.ld x4 r0_13 (ix2 d j) : EReal) = x4 (ix2 d ⟨2048 + (0 + j.val), by omega⟩) :=
  congrArg x4 ((emb_at 0 2048 (by decide) (by decide) inb_S1024x3072_S1024x1024_0_2048 d j).trans
    (congrArg₂ ix2 (Fin.ext (Nat.zero_add _)) (Fin.ext (congrArg (2048 + ·) (Nat.zero_add _).symm))))

theorem ldH (k : Fin 128) (j : Fin 512) : (View.ld x6 r0_4 (ix3 0 k j) : EReal) = x6 (ix3 0 k j) :=
  congrArg x6 (funext (Fin.forall_fin_succ.mpr ⟨rfl, Fin.forall_fin_two.mpr ⟨Fin.ext (by show 0 + 1 * k.val = k.val; omega), Fin.ext (by show 0 + 1 * j.val = j.val; omega)⟩⟩))

theorem ldL (k : Fin 128) (j : Fin 512) : (View.ld x6 r0_5 (ix3 0 k j) : EReal) = x6 (ix3 1 k j) :=
  congrArg x6 (funext (Fin.forall_fin_succ.mpr ⟨rfl, Fin.forall_fin_two.mpr ⟨Fin.ext (by show 0 + 1 * k.val = k.val; omega), Fin.ext (by show 0 + 1 * j.val = j.val; omega)⟩⟩))

/-- A row's query, -/
theorem q_fold (r : Fin 512) (j : Fin 512) :
    (∑ d, hRow x0 x1 x2 x3 r d * x4 (ix2 d ⟨0 + j.val, by omega⟩)) * Ideal.ofBits .f32 0x3DB504F3#32 = qkRow x0 x1 x2 x3 x4 r ⟨0 + j.val, by omega⟩ :=
  (if_pos (show 0 + j.val < 512 by omega)).symm

/-- and its key. -/
theorem k_fold (r : Fin 512) (j : Fin 512) :
    (∑ d, hRow x0 x1 x2 x3 r d * x4 (ix2 d ⟨512 + j.val, by omega⟩)) = qkRow x0 x1 x2 x3 x4 r ⟨512 + j.val, by omega⟩ :=
  (if_neg (show ¬ 512 + j.val < 512 by omega)).symm

/-- A row's log-decay. -/
theorem la_fold (r j : Fin 512) :
    Layer.laSplit (hRow x0 x1 x2 x3 r) (fun d k => x5 (ix2 d k)) (fun k j => View.ld x6 r0_4 (ix3 0 k j)) (fun k j => View.ld x6 r0_5 (ix3 0 k j)) (fun j => x7 (ix2 0 j)) j
      = laRow x0 x1 x2 x3 x5 x6 x7 r ⟨0 + j.val, by omega⟩ := by
  have e : (⟨0 + j.val, by omega⟩ : Fin 512) = j := Fin.ext (Nat.zero_add _)
  rw [e, funext fun k => funext fun j => ldH x6 k j, funext fun k => funext fun j => ldL x6 k j]

/-- The block of queries and keys. -/
theorem out8_at (r : Fin 512) (j : Fin 1024) : (out0_8 x0 x1 x2 x3 x4 x5 x6 x7 (ix2 r j) : EReal) = qkRow x0 x1 x2 x3 x4 r j := by
  unfold out0_8
  refine View.canon_apply_of_pieces (Val := Elt Ideal) (e := .bf16) (S := S512x1024) (whole (qkRow x0 x1 x2 x3 x4)) _ (View.PiecesOf.mem ?_) (ix2 r j) (cover0_8 _ _ _ _ (ix2 r j))
  exact ⟨piece 256 512 (by decide) (by decide) inb_S512x1024_S256x512_256_512 _ _ fun r j => by
      exact ((k1_at r _ _ j).trans (Finset.sum_congr rfl fun d _ => congrArg₂ (· * ·) (p24_at x0 x1 x2 x3 x4 x5 x6 x7 r d) (ldK x4 d j))).trans (k_fold x0 x1 x2 x3 x4 _ j),
    piece 256 0 (by decide) (by decide) inb_S512x1024_S256x512_256_0 _ _ fun r j => by
      exact ((q1_at r _ _ j).trans (congrArg (· * _) (Finset.sum_congr rfl fun d _ => congrArg₂ (· * ·) (p24_at x0 x1 x2 x3 x4 x5 x6 x7 r d) (ldQ x4 d j)))).trans (q_fold x0 x1 x2 x3 x4 _ j),
    piece 0 512 (by decide) (by decide) inb_S512x1024_S256x512_0_512 _ _ fun r j => by
      exact ((k0_at r _ _ j).trans (Finset.sum_congr rfl fun d _ => congrArg₂ (· * ·) (p20_at x0 x1 x2 x3 x4 x5 x6 x7 r d) (ldK x4 d j))).trans (k_fold x0 x1 x2 x3 x4 _ j),
    piece 0 0 (by decide) (by decide) inb_S512x1024_S256x512_0_0 _ _ fun r j => by
      exact ((q0_at r _ _ j).trans (congrArg (· * _) (Finset.sum_congr rfl fun d _ => congrArg₂ (· * ·) (p20_at x0 x1 x2 x3 x4 x5 x6 x7 r d) (ldQ x4 d j)))).trans (q_fold x0 x1 x2 x3 x4 _ j), trivial⟩

/-- The block of values. -/
theorem out9_at (r : Fin 512) (j : Fin 1024) : (out0_9 x0 x1 x2 x3 x4 x5 x6 x7 (ix2 r j) : EReal) = vRow x0 x1 x2 x3 x4 r j := by
  unfold out0_9
  refine View.canon_apply_of_pieces (Val := Elt Ideal) (e := .bf16) (S := S512x1024) (whole (vRow x0 x1 x2 x3 x4)) _ (View.PiecesOf.mem ?_) (ix2 r j) (cover0_9 _ _ (ix2 r j))
  exact ⟨piece 256 0 (by decide) (by decide) inb_S512x1024_S256x1024_256_0 _ _ fun r j => by
      exact (v1_at r _ _ j).trans (Finset.sum_congr rfl fun d _ => congrArg₂ (· * ·) (p24_at x0 x1 x2 x3 x4 x5 x6 x7 r d) (ldV x4 d j)),
    piece 0 0 (by decide) (by decide) inb_S512x1024_S256x1024_0_0 _ _ fun r j => by
      exact (v0_at r _ _ j).trans (Finset.sum_congr rfl fun d _ => congrArg₂ (· * ·) (p20_at x0 x1 x2 x3 x4 x5 x6 x7 r d) (ldV x4 d j)), trivial⟩

/-- The block of gates. -/
theorem out10_at (r : Fin 512) (j : Fin 1024) : (out0_10 x0 x1 x2 x3 x4 x5 x6 x7 (ix2 r j) : EReal) = gRow x0 x1 x2 x3 x4 r j := by
  unfold out0_10
  refine View.canon_apply_of_pieces (Val := Elt Ideal) (e := .bf16) (S := S512x1024) (whole (gRow x0 x1 x2 x3 x4)) _ (View.PiecesOf.mem ?_) (ix2 r j) (cover0_10 _ _ (ix2 r j))
  exact ⟨piece 256 0 (by decide) (by decide) inb_S512x1024_S256x1024_256_0 _ _ fun r j => by
      exact (g1_at r _ _ j).trans (Finset.sum_congr rfl fun d _ => congrArg₂ (· * ·) (p24_at x0 x1 x2 x3 x4 x5 x6 x7 r d) (ldG x4 d j)),
    piece 0 0 (by decide) (by decide) inb_S512x1024_S256x1024_0_0 _ _ fun r j => by
      exact (g0_at r _ _ j).trans (Finset.sum_congr rfl fun d _ => congrArg₂ (· * ·) (p20_at x0 x1 x2 x3 x4 x5 x6 x7 r d) (ldG x4 d j)), trivial⟩

/-- The block of log-decays. -/
theorem out11_at (r j : Fin 512) : (out0_11 x0 x1 x2 x3 x4 x5 x6 x7 (ix2 r j) : EReal) = laRow x0 x1 x2 x3 x5 x6 x7 r j := by
  obtain ⟨e1, e2, e3, e5, e7⟩ := loads x1 x2 x3 x5 x7
  unfold out0_11 k0_pay23 k0_pay22 k0_pay21
  rw [e1, e2, e3, e5, e7]
  refine View.canon_apply_of_pieces (Val := Elt Ideal) (e := .f32) (S := S512x512) (whole (laRow x0 x1 x2 x3 x5 x6 x7)) _ (View.PiecesOf.mem ?_) (ix2 r j) (cover0_11 _ _ (ix2 r j))
  exact ⟨piece 256 0 (by decide) (by decide) inb_S512x512_S256x512_256_0 _ _ fun r j => by
      refine (la1_at _ x1 x2 x3 r x5 _ _ x7 j).trans ?_; rw [second_row]; exact la_fold x0 x1 x2 x3 x5 x6 x7 _ j,
    piece 0 0 (by decide) (by decide) inb_S512x512_S256x512_0_0 _ _ fun r j => by
      refine (la0_at _ x1 x2 x3 r x5 _ _ x7 j).trans ?_; rw [first_row]; exact la_fold x0 x1 x2 x3 x5 x6 x7 _ j, trivial⟩

end Outs

end Cert.GlaInIdeal.Pf

end
-- ==== Proof.GlaIn.Arrays.lean ====
/- What the linear layers' input call's arrays hold after the run, on extended reals. -/
module

public import proofs.«01_k».proof.Proof.GlaIn.Block
public import Idealize.ShloMosaic.Lib.Claim

@[expose] public section

set_option maxRecDepth 16384

noncomputable section

namespace Cert.GlaInIdeal.Pf

open Cert.GlaInIdeal Cert.GlaInIdeal.Gen Idealize.ShloMosaic Idealize.ShloMosaic.TcCoe Idealize.ShloMosaic.Tactic
open Idealize.SL.Sem
open Idealize.ShloMosaic.Pipeline (Dat)

variable (m : (ℓ : Loc nD τ sig) → Buf (Elt Ideal) ℓ)

theorem maps : ∀ t : Fin cfg0.N, win0_0.index t = ![t.val, 0] ∧ win0_1.index t = ![0, 0] ∧ win0_2.index t = ![t.val / 16, 0, 0]
    ∧ win0_3.index t = ![t.val / 16, 0, 0] ∧ win0_4.index t = ![0, 0] ∧ win0_5.index t = ![0, 0] ∧ win0_6.index t = ![0, 0, 0] ∧ win0_7.index t = ![0, 0]
    ∧ win0_8.index t = ![t.val, 0] ∧ win0_9.index t = ![t.val, 0] ∧ win0_10.index t = ![t.val, 0] ∧ win0_11.index t = ![t.val, 0] :=
  (by decide +kernel : ∀ t : Fin grid0.N, _)

theorem points (t : Fin cfg0.N) : t.val < 32 := lt_of_lt_of_eq t.isLt (show cfg0.N = 32 from N_0)

abbrev arg0 (c : Dev nD) : (⟨2, ![16384, 1024]⟩ : Shape).Idx → EReal := m ((c : Thread nD τ).loc main_arg0)
abbrev arg1 (c : Dev nD) : (⟨1, ![1024]⟩ : Shape).Idx → EReal := m ((c : Thread nD τ).loc main_arg1)
abbrev arg2 (c : Dev nD) : (⟨2, ![2, 1024]⟩ : Shape).Idx → EReal := m ((c : Thread nD τ).loc main_arg2)
abbrev arg3 (c : Dev nD) : (⟨2, ![2, 1024]⟩ : Shape).Idx → EReal := m ((c : Thread nD τ).loc main_arg3)
abbrev arg4 (c : Dev nD) : (⟨2, ![1024, 3088]⟩ : Shape).Idx → EReal := m ((c : Thread nD τ).loc main_arg4)
abbrev arg5 (c : Dev nD) : (⟨2, ![16, 512]⟩ : Shape).Idx → EReal := m ((c : Thread nD τ).loc main_arg5)
abbrev arg6 (c : Dev nD) : (⟨1, ![512]⟩ : Shape).Idx → EReal := m ((c : Thread nD τ).loc main_arg6)

/-- The low rank's weights padded to a rank of 128. -/
def padW (c : Dev nD) : FVec Ideal S1x128x512 .f32 :=
  pad S1x128x512 ![0, 0, 0] ![0, 112, 0] ![0, 0, 0] (broadcastInDim S1x16x512 ![1, 2] bcast_S16x512_S1x16x512_1_2 (arg5 m c : FVec Ideal S16x512 .f32))
    (sitofp (F := Ideal) .f32 (constantI S_ 32 0#32)) pads_S1x16x512_S1x128x512_000_01120_000 h_S_

/-- The low rank's input weights padded likewise. -/
def padR (c : Dev nD) : FVec Ideal S1024x128 .f32 :=
  pad S1024x128 ![0, 0] ![0, 112] ![0, 0] (extractStridedSlice S1024x16 ![0, 3072] (arg4 m c : FVec Ideal S1024x3088 .f32) slices_S1024x3088_S1024x16_0_3072)
    (sitofp (F := Ideal) .f32 (constantI S_ 32 0#32)) pads_S1024x16_S1024x128_000_01120 h_S_

theorem V_g (c : Dev nD) : (V m c main_v15 : S1x1024.Idx → EReal) = shapeCast S1x1024 (arg1 m c : FVec Ideal S1024 .f32) shapeCasts_S1024_S1x1024 := by
  show StableHlo.after (List.flatten [hostOps0, hostOps0_1, hostOps0_2, hostOps0_3, hostOps0_4]) (fun b => m (c, b)) (Proc.tc.devRef main_v15) = _
  simp only [hostOps0, hostOps0_1, hostOps0_2, hostOps0_3, hostOps0_4, List.flatten_cons, List.flatten_nil, List.append_nil, List.cons_append, List.nil_append]
  after_results
  rfl

theorem V_sh (c : Dev nD) : (V m c main_v16 : S2x1x1024.Idx → EReal) = shapeCast S2x1x1024 (arg2 m c : FVec Ideal S2x1024 .f32) shapeCasts_S2x1024_S2x1x1024 := by
  show StableHlo.after (List.flatten [hostOps0, hostOps0_1, hostOps0_2, hostOps0_3, hostOps0_4]) (fun b => m (c, b)) (Proc.tc.devRef main_v16) = _
  simp only [hostOps0, hostOps0_1, hostOps0_2, hostOps0_3, hostOps0_4, List.flatten_cons, List.flatten_nil, List.append_nil, List.cons_append, List.nil_append]
  after_results
  rfl

theorem V_sc (c : Dev nD) : (V m c main_v17 : S2x1x1024.Idx → EReal) = shapeCast S2x1x1024 (arg3 m c : FVec Ideal S2x1024 .f32) shapeCasts_S2x1024_S2x1x1024 := by
  show StableHlo.after (List.flatten [hostOps0, hostOps0_1, hostOps0_2, hostOps0_3, hostOps0_4]) (fun b => m (c, b)) (Proc.tc.devRef main_v17) = _
  simp only [hostOps0, hostOps0_1, hostOps0_2, hostOps0_3, hostOps0_4, List.flatten_cons, List.flatten_nil, List.append_nil, List.cons_append, List.nil_append]
  after_results
  rfl

theorem V_w (c : Dev nD) : (V m c main_v1 : S1024x3072.Idx → EReal) = extractStridedSlice S1024x3072 ![0, 0] (arg4 m c : FVec Ideal S1024x3088 .f32) slices_S1024x3088_S1024x3072_0_0 := by
  show StableHlo.after (List.flatten [hostOps0, hostOps0_1, hostOps0_2, hostOps0_3, hostOps0_4]) (fun b => m (c, b)) (Proc.tc.devRef main_v1) = _
  simp only [hostOps0, hostOps0_1, hostOps0_2, hostOps0_3, hostOps0_4, List.flatten_cons, List.flatten_nil, List.append_nil, List.cons_append, List.nil_append]
  after_results
  rfl

theorem V_b (c : Dev nD) : (V m c main_v18 : S1x512.Idx → EReal) = shapeCast S1x512 (arg6 m c : FVec Ideal S512 .f32) shapeCasts_S512_S1x512 := by
  show StableHlo.after (List.flatten [hostOps0, hostOps0_1, hostOps0_2, hostOps0_3, hostOps0_4]) (fun b => m (c, b)) (Proc.tc.devRef main_v18) = _
  simp only [hostOps0, hostOps0_1, hostOps0_2, hostOps0_3, hostOps0_4, List.flatten_cons, List.flatten_nil, List.append_nil, List.cons_append, List.nil_append]
  after_results
  rfl

theorem V_r (c : Dev nD) : (V m c main_v4 : S1024x128.Idx → EReal) = padR m c := by
  show StableHlo.after (List.flatten [hostOps0, hostOps0_1, hostOps0_2, hostOps0_3, hostOps0_4]) (fun b => m (c, b)) (Proc.tc.devRef main_v4) = _
  simp only [hostOps0, hostOps0_1, hostOps0_2, hostOps0_3, hostOps0_4, List.flatten_cons, List.flatten_nil, List.append_nil, List.cons_append, List.nil_append]
  after_results
  rfl

theorem V_g2 (c : Dev nD) : (V m c main_v14 : S2x128x512.Idx → EReal) = shapeCast S2x128x512 (concatenate S1x2x128x512 1
      [⟨_, broadcastInDim S1x1x128x512 ![0, 2, 3] bcast_S1x128x512_S1x1x128x512_0_2_3 (padW m c)⟩,
       ⟨_, broadcastInDim S1x1x128x512 ![0, 2, 3] bcast_S1x128x512_S1x1x128x512_0_2_3 (subf (padW m c) (padW m c))⟩]
      concatenates_S1x1x128x512_S1x1x128x512_S1x2x128x512_d1) shapeCasts_S1x2x128x512_S2x128x512 := by
  show StableHlo.after (List.flatten [hostOps0, hostOps0_1, hostOps0_2, hostOps0_3, hostOps0_4]) (fun b => m (c, b)) (Proc.tc.devRef main_v14) = _
  simp only [hostOps0, hostOps0_1, hostOps0_2, hostOps0_3, hostOps0_4, List.flatten_cons, List.flatten_nil, List.append_nil, List.cons_append, List.nil_append]
  after_results
  rfl

theorem blk_x (c : Dev nD) (t : Fin cfg0.N) (r : Fin 512) (d : Fin 1024) :
    (iblk m c 0 t (ix2 r d : S512x1024.Idx) : EReal) = arg0 m c (ix2 ⟨512 * t.val + r.val, by have := points t; omega⟩ d) := by
  have e := (maps t).1
  blk_ext [iblk, V, e]

theorem blk_g (c : Dev nD) (t : Fin cfg0.N) (d : Fin 1024) :
    (iblk m c 1 t (ix2 0 d : S1x1024.Idx) : EReal) = arg1 m c (ix1 d) := by
  have e := (maps t).2.1
  have hi : (((cfg0.win 1).blk t).view.emb (ix2 0 d : S1x1024.Idx) : S1x1024.Idx) = ix2 0 d := by blk_ext [e]
  refine (congrArg (V m c main_v15 : S1x1024.Idx → EReal) hi).trans ?_
  rw [V_g]
  pointwise []

theorem blk_sh (c : Dev nD) (t : Fin cfg0.N) (d : Fin 1024) :
    (iblk m c 2 t (ix3 0 0 d : S1x1x1024.Idx) : EReal) = arg2 m c (ix2 ⟨t.val / 16, by have := points t; omega⟩ d) := by
  have e := (maps t).2.2.1
  have hi : (((cfg0.win 2).blk t).view.emb (ix3 0 0 d : S1x1x1024.Idx) : S2x1x1024.Idx) = ix3 ⟨t.val / 16, by have := points t; omega⟩ 0 d := by blk_ext [e]
  refine (congrArg (V m c main_v16 : S2x1x1024.Idx → EReal) hi).trans ?_
  rw [V_sh]
  pointwise []

theorem blk_sc (c : Dev nD) (t : Fin cfg0.N) (d : Fin 1024) :
    (iblk m c 3 t (ix3 0 0 d : S1x1x1024.Idx) : EReal) = arg3 m c (ix2 ⟨t.val / 16, by have := points t; omega⟩ d) := by
  have e := (maps t).2.2.2.1
  have hi : (((cfg0.win 3).blk t).view.emb (ix3 0 0 d : S1x1x1024.Idx) : S2x1x1024.Idx) = ix3 ⟨t.val / 16, by have := points t; omega⟩ 0 d := by blk_ext [e]
  refine (congrArg (V m c main_v17 : S2x1x1024.Idx → EReal) hi).trans ?_
  rw [V_sc]
  pointwise []

theorem blk_w (c : Dev nD) (t : Fin cfg0.N) (d : Fin 1024) (j : Fin 3072) :
    (iblk m c 4 t (ix2 d j : S1024x3072.Idx) : EReal) = arg4 m c (ix2 d ⟨j.val, by omega⟩) := by
  have e := (maps t).2.2.2.2.1
  have hi : (((cfg0.win 4).blk t).view.emb (ix2 d j : S1024x3072.Idx) : S1024x3072.Idx) = ix2 d j := by blk_ext [e]
  refine (congrArg (V m c main_v1 : S1024x3072.Idx → EReal) hi).trans ?_
  rw [V_w]
  pointwise []

theorem sitofp_zero : (FloatOps.sitofp (F := Ideal) .f32 (0#32 : BitVec 32) : EReal) = 0 := by
  show (((0#32 : BitVec 32).toInt : ℝ) : EReal) = 0
  simp

theorem padR_at (c : Dev nD) (d : Fin 1024) (k : Fin 128) :
    (padR m c (ix2 d k) : EReal) = if hk : k.val < 16 then arg4 m c (ix2 d ⟨3072 + k.val, by omega⟩) else 0 := by
  pointwise [padR]
  rw [sitofp_zero]

theorem padW_at (c : Dev nD) (k : Fin 128) (j : Fin 512) :
    (padW m c (ix3 0 k j) : EReal) = if hk : k.val < 16 then arg5 m c (ix2 ⟨k.val, hk⟩ j) else 0 := by
  pointwise [padW]
  rw [sitofp_zero]

theorem blk_r (c : Dev nD) (t : Fin cfg0.N) (d : Fin 1024) (k : Fin 128) :
    (iblk m c 5 t (ix2 d k : S1024x128.Idx) : EReal) = padR m c (ix2 d k) := by
  have e := (maps t).2.2.2.2.2.1
  have hi : (((cfg0.win 5).blk t).view.emb (ix2 d k : S1024x128.Idx) : S1024x128.Idx) = ix2 d k := by blk_ext [e]
  refine (congrArg (V m c main_v4 : S1024x128.Idx → EReal) hi).trans ?_
  rw [V_r]

theorem blk_h (c : Dev nD) (t : Fin cfg0.N) (k : Fin 128) (j : Fin 512) :
    (iblk m c 6 t (ix3 0 k j : S2x128x512.Idx) : EReal) = padW m c (ix3 0 k j) := by
  have e := (maps t).2.2.2.2.2.2.1
  have hi : (((cfg0.win 6).blk t).view.emb (ix3 0 k j : S2x128x512.Idx) : S2x128x512.Idx) = ix3 0 k j := by blk_ext [e]
  refine (congrArg (V m c main_v14 : S2x128x512.Idx → EReal) hi).trans ?_
  rw [V_g2]
  pointwise []

theorem blk_l (c : Dev nD) (t : Fin cfg0.N) (k : Fin 128) (j : Fin 512) :
    (iblk m c 6 t (ix3 1 k j : S2x128x512.Idx) : EReal) = padW m c (ix3 0 k j) - padW m c (ix3 0 k j) := by
  have e := (maps t).2.2.2.2.2.2.1
  have hi : (((cfg0.win 6).blk t).view.emb (ix3 1 k j : S2x128x512.Idx) : S2x128x512.Idx) = ix3 1 k j := by blk_ext [e]
  refine (congrArg (V m c main_v14 : S2x128x512.Idx → EReal) hi).trans ?_
  rw [V_g2]
  pointwise []

theorem blk_b (c : Dev nD) (t : Fin cfg0.N) (j : Fin 512) :
    (iblk m c 7 t (ix2 0 j : S1x512.Idx) : EReal) = arg6 m c (ix1 j) := by
  have e := (maps t).2.2.2.2.2.2.2.1
  have hi : (((cfg0.win 7).blk t).view.emb (ix2 0 j : S1x512.Idx) : S1x512.Idx) = ix2 0 j := by blk_ext [e]
  refine (congrArg (V m c main_v18 : S1x512.Idx → EReal) hi).trans ?_
  rw [V_b]
  pointwise []

/-- Row `R`, normed and modulated. -/
abbrev row (c : Dev nD) (R : Fin 16384) : Fin 1024 → EReal := Layer.row (arg0 m c) (arg1 m c) (arg2 m c) (arg3 m c) R

theorem row_eq (c : Dev nD) (t : Fin cfg0.N) (r : Fin 512) :
    hRow (iblk m c 0 t) (iblk m c 1 t) (iblk m c 2 t) (iblk m c 3 t) r = row m c ⟨512 * t.val + r.val, by have := points t; omega⟩ := by
  have hp := points t
  have e : (⟨(512 * t.val + r.val) / 8192, by omega⟩ : Fin 2) = ⟨t.val / 16, by omega⟩ := Fin.ext (by show (512 * t.val + r.val) / 8192 = t.val / 16; omega)
  unfold hRow row Layer.row
  rw [e]
  simp only [blk_x, blk_g, blk_sh, blk_sc]

/-- The numbers the log-decays need. -/
structure Numbers (c : Dev nD) : Prop where
  x : ∀ i, Layer.IsReal (arg0 m c i)
  g : ∀ i, Layer.IsReal (arg1 m c i)
  sh : ∀ i, Layer.IsReal (arg2 m c i)
  sc : ∀ i, Layer.IsReal (arg3 m c i)
  wr : ∀ d (k : Fin 16), Layer.IsReal (arg4 m c (ix2 d ⟨3072 + k.val, by omega⟩))
  wg : ∀ i, Layer.IsReal (arg5 m c i)

/-- The queries and keys, -/
abbrev qks (c : Dev nD) : (⟨2, ![16384, 1024]⟩ : Shape).Idx → EReal := Layer.qkA (arg0 m c) (arg1 m c) (arg2 m c) (arg3 m c) (arg4 m c)

/-- the values, -/
abbrev vals (c : Dev nD) : (⟨2, ![16384, 1024]⟩ : Shape).Idx → EReal := Layer.vA (arg0 m c) (arg1 m c) (arg2 m c) (arg3 m c) (arg4 m c)

/-- the gates, -/
abbrev gates (c : Dev nD) : (⟨2, ![16384, 1024]⟩ : Shape).Idx → EReal := Layer.gateA (arg0 m c) (arg1 m c) (arg2 m c) (arg3 m c) (arg4 m c)

/-- and the log-decays. -/
abbrev decays (c : Dev nD) : (⟨2, ![16384, 512]⟩ : Shape).Idx → EReal := Layer.laA (arg0 m c) (arg1 m c) (arg2 m c) (arg3 m c) (arg4 m c) (arg5 m c) (arg6 m c)

theorem final_qk (c : Dev nD) : (dats m 0 c).arrAt 8 cfg0.N = (qks m c : Buf (Elt Ideal) ((c : Thread nD τ).loc main_v19_0)) := by
  refine (dats m 0 c).arrAt_eq_of_covers 8 _ (by decide +kernel) fun t hfl y => ?_
  blk_simp
  rw [after0_8]
  have hp := points t
  have e := (maps t).2.2.2.2.2.2.2.2.1
  obtain ⟨r, j, rfl⟩ : ∃ (r : Fin 512) (j : Fin 1024), y = (ix2 r j : S512x1024.Idx) := ⟨y 0, y 1, eq_ix2 y⟩
  refine (out8_at _ _ _ _ _ _ _ _ r j).trans ?_
  have hi : (((cfg0.win 8).blk t).view.emb (ix2 r j : S512x1024.Idx) : S16384x1024.Idx) = ix2 ⟨512 * t.val + r.val, by omega⟩ j := by blk_ext [e]
  refine Eq.trans ?_ (congrArg (qks m c) hi).symm
  unfold qkRow
  rw [row_eq]
  simp only [blk_w]
  rfl

theorem final_v (c : Dev nD) : (dats m 0 c).arrAt 9 cfg0.N = (vals m c : Buf (Elt Ideal) ((c : Thread nD τ).loc main_v19_1)) := by
  refine (dats m 0 c).arrAt_eq_of_covers 9 _ (by decide +kernel) fun t hfl y => ?_
  blk_simp
  rw [after0_9]
  have hp := points t
  have e := (maps t).2.2.2.2.2.2.2.2.2.1
  obtain ⟨r, j, rfl⟩ : ∃ (r : Fin 512) (j : Fin 1024), y = (ix2 r j : S512x1024.Idx) := ⟨y 0, y 1, eq_ix2 y⟩
  refine (out9_at _ _ _ _ _ _ _ _ r j).trans ?_
  have hi : (((cfg0.win 9).blk t).view.emb (ix2 r j : S512x1024.Idx) : S16384x1024.Idx) = ix2 ⟨512 * t.val + r.val, by omega⟩ j := by blk_ext [e]
  refine Eq.trans ?_ (congrArg (vals m c) hi).symm
  unfold vRow
  rw [row_eq]
  simp only [blk_w]
  rfl

theorem final_g (c : Dev nD) : (dats m 0 c).arrAt 10 cfg0.N = (gates m c : Buf (Elt Ideal) ((c : Thread nD τ).loc main_v19_2)) := by
  refine (dats m 0 c).arrAt_eq_of_covers 10 _ (by decide +kernel) fun t hfl y => ?_
  blk_simp
  rw [after0_10]
  have hp := points t
  have e := (maps t).2.2.2.2.2.2.2.2.2.2.1
  obtain ⟨r, j, rfl⟩ : ∃ (r : Fin 512) (j : Fin 1024), y = (ix2 r j : S512x1024.Idx) := ⟨y 0, y 1, eq_ix2 y⟩
  refine (out10_at _ _ _ _ _ _ _ _ r j).trans ?_
  have hi : (((cfg0.win 10).blk t).view.emb (ix2 r j : S512x1024.Idx) : S16384x1024.Idx) = ix2 ⟨512 * t.val + r.val, by omega⟩ j := by blk_ext [e]
  refine Eq.trans ?_ (congrArg (gates m c) hi).symm
  unfold gRow
  rw [row_eq]
  simp only [blk_w]
  rfl

theorem final_la (c : Dev nD) (hn : Numbers m c) : (dats m 0 c).arrAt 11 cfg0.N = (decays m c : Buf (Elt Ideal) ((c : Thread nD τ).loc main_v19_3)) := by
  refine (dats m 0 c).arrAt_eq_of_covers 11 _ (by decide +kernel) fun t hfl y => ?_
  blk_simp
  rw [after0_11]
  have hp := points t
  have e := (maps t).2.2.2.2.2.2.2.2.2.2.2
  obtain ⟨r, j, rfl⟩ : ∃ (r : Fin 512) (j : Fin 512), y = (ix2 r j : S512x512.Idx) := ⟨y 0, y 1, eq_ix2 y⟩
  refine (out11_at _ _ _ _ _ _ _ _ r j).trans ?_
  have hi : (((cfg0.win 11).blk t).view.emb (ix2 r j : S512x512.Idx) : S16384x512.Idx) = ix2 ⟨512 * t.val + r.val, by omega⟩ j := by blk_ext [e]
  refine Eq.trans ?_ (congrArg (decays m c) hi).symm
  unfold laRow
  rw [row_eq]
  simp only [blk_r, blk_h, blk_l, blk_b]
  exact Layer.laSplit_eq (vr := fun d k => arg4 m c (ix2 d ⟨3072 + k.val, by omega⟩)) (vg := fun k j => arg5 m c (ix2 k j)) (fun d k => padR_at m c d k) (fun k j => padW_at m c k j) (fun k j => rfl)
    (fun d => Layer.pre_real (fun _ => hn.x _) (fun _ => hn.g _) (fun _ => hn.sh _) (fun _ => hn.sc _) d) hn.wr (fun _ _ => hn.wg _) j

/-- The call's run: its four arrays, and the arguments unchanged. -/
theorem run (ρ : Dev nD → PrngReg) (hn : ∀ c, Numbers m c) :
    θ_run defs (onTc (τ := τ) (main (F := Ideal))) ⟨m, fun _ => 0, ρ⟩ (fun r => ∀ c : Dev nD,
      r.2.mem ((c.tc : Thread nD τ).loc main_v19_0) = qks m c
      ∧ r.2.mem ((c.tc : Thread nD τ).loc main_v19_1) = vals m c
      ∧ r.2.mem ((c.tc : Thread nD τ).loc main_v19_2) = gates m c
      ∧ r.2.mem ((c.tc : Thread nD τ).loc main_v19_3) = decays m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => by
    obtain ⟨h8, h9, h10, h11, h⟩ := h c
    exact ⟨h8.trans (final_qk m c), h9.trans (final_v m c), h10.trans (final_g m c), h11.trans (final_la m c (hn c)), h⟩) (Value.run_blocks m ρ)

end Cert.GlaInIdeal.Pf

end
-- ==== Proof.GlaIn.Ref.lean ====
/- The linear layers' input reference, read at an index on extended reals. -/
module

public import proofs.«01_k».proof.Proof.GlaIn.Math
public import proofs.«01_k».proof.Proof.Gen.GlaInRefIdeal.Run
public import Idealize.ShloMosaic.Lib.Pipeline.ValueKit

@[expose] public section

set_option maxRecDepth 16384

noncomputable section

namespace Cert.GlaInRefIdeal.Pf

open Cert.GlaInRefIdeal Cert.GlaInRefIdeal.Gen Idealize.ShloMosaic Idealize.ShloMosaic.TcCoe Idealize.ShloMosaic.Tactic

variable (x : FVec Ideal S16384x1024 .f32) (g : FVec Ideal S1024 .f32) (sh sc : FVec Ideal S2x1024 .f32)
  (w : FVec Ideal S1024x3088 .f32) (wg : FVec Ideal S16x512 .f32) (b : FVec Ideal S512 .f32)

/-- The rows, by sequence. -/
def xr : FVec Ideal S2x8192x1024 .f32 := shapeCast _ x shapeCasts_S16384x1024_S2x8192x1024

/-- The mean square of every row. -/
def ms : FVec Ideal S2x8192x1 .f32 :=
  Host.divf (broadcastInDim S2x8192x1 ![0, 1] bcast_S2x8192_S2x8192x1_0_1 (Host.reduceAdd (mulf (xr x) (xr x)) (constant S_ .f32 0x00000000#32) reducesTo_S2x8192x1024_S2x8192_d2 h_S_))
    (broadcastInDim S2x8192x1 ![] bcast_S_S2x8192x1 (constant S_ .f32 0x44800000#32))

/-- The normalized, scaled and shifted rows. -/
def h : FVec Ideal S2x8192x1024 .f32 :=
  addf (mulf (mulf (mulf (xr x) (broadcastInDim S2x8192x1024 ![0, 1, 2] bcast_S2x8192x1_S2x8192x1024_0_1_2 (Host.rsqrt (addf (ms x) (broadcastInDim S2x8192x1 ![] bcast_S_S2x8192x1 (constant S_ .f32 0x358637BD#32))))))
      (broadcastInDim S2x8192x1024 ![0, 1, 2] bcast_S1x1x1024_S2x8192x1024_0_1_2 (broadcastInDim S1x1x1024 ![2] bcast_S1024_S1x1x1024_2 g)))
    (broadcastInDim S2x8192x1024 ![0, 1, 2] bcast_S2x1x1024_S2x8192x1024_0_1_2 (addf (broadcastInDim S2x1x1024 ![] bcast_S_S2x1x1024 (constant S_ .f32 0x3F800000#32)) (broadcastInDim S2x1x1024 ![0, 2] bcast_S2x1024_S2x1x1024_0_2 sc))))
    (broadcastInDim S2x8192x1024 ![0, 1, 2] bcast_S2x1x1024_S2x8192x1024_0_1_2 (broadcastInDim S2x1x1024 ![0, 2] bcast_S2x1024_S2x1x1024_0_2 sh))

/-- The projected rows. -/
def P : FVec Ideal S2x8192x3088 .f32 := Host.dotGeneral dot_S2x8192x1024_S1024x3088_S2x8192x3088_2_0_01_1_n_n none (h x g sh sc) w

/-- The queries and keys. -/
def qkR : FVec Ideal S16384x1024 .f32 :=
  shapeCast _ (concatenate S2x8192x1024 2
    [⟨_, mulf (extractStridedSlice S2x8192x512 ![0, 0, 0] (P x g sh sc w) slices_S2x8192x3088_S2x8192x512_0_0_0) (broadcastInDim S2x8192x512 ![] bcast_S_S2x8192x512 (constant S_ .f32 0x3DB504F3#32))⟩,
     ⟨_, extractStridedSlice S2x8192x512 ![0, 0, 512] (P x g sh sc w) slices_S2x8192x3088_S2x8192x512_0_0_512⟩]
    concatenates_S2x8192x512_S2x8192x512_S2x8192x1024_d2) shapeCasts_S2x8192x1024_S16384x1024

/-- The values. -/
def vR : FVec Ideal S16384x1024 .f32 :=
  shapeCast _ (extractStridedSlice S2x8192x1024 ![0, 0, 1024] (P x g sh sc w) slices_S2x8192x3088_S2x8192x1024_0_0_1024) shapeCasts_S2x8192x1024_S16384x1024

/-- The gates. -/
def gR : FVec Ideal S16384x1024 .f32 :=
  shapeCast _ (extractStridedSlice S2x8192x1024 ![0, 0, 2048] (P x g sh sc w) slices_S2x8192x3088_S2x8192x1024_0_0_2048) shapeCasts_S2x8192x1024_S16384x1024

/-- What the log-decays are taken of, negated. -/
def nz : FVec Ideal S2x8192x512 .f32 :=
  Host.negf (addf (Host.dotGeneral dot_S2x8192x16_S16x512_S2x8192x512_2_0_01_1_n_n none (extractStridedSlice S2x8192x16 ![0, 0, 3072] (P x g sh sc w) slices_S2x8192x3088_S2x8192x16_0_0_3072) wg)
    (broadcastInDim S2x8192x512 ![0, 1, 2] bcast_S1x1x512_S2x8192x512_0_1_2 (broadcastInDim S1x1x512 ![2] bcast_S512_S1x1x512_2 b)))

/-- A zero everywhere. -/
def zr : FVec Ideal S2x8192x512 .f32 := broadcastInDim S2x8192x512 ![] bcast_S_S2x8192x512 (constant S_ .f32 0x00000000#32)

/-- The log-decays. -/
def laR : FVec Ideal S16384x512 .f32 :=
  shapeCast _ (Host.divf (Host.negf (select (cmpf .une (subf (nz x g sh sc w wg b) zr) (subf (nz x g sh sc w wg b) zr)) (addf (nz x g sh sc w wg b) zr)
      (addf (maximumf (nz x g sh sc w wg b) zr) (Host.log1p (Host.exp (Host.negf (Host.absf (subf (nz x g sh sc w wg b) zr))))))))
    (broadcastInDim S2x8192x512 ![] bcast_S_S2x8192x512 (constant S_ .f32 0x41800000#32))) shapeCasts_S2x8192x512_S16384x512

theorem xr_at (b : Fin 2) (t : Fin 8192) (d : Fin 1024) : (xr x (ix3 b t d) : EReal) = x (ix2 ⟨b.val * 8192 + t.val, by omega⟩ d) := by
  pointwise [xr]

/-- Row `t` of sequence `b`, normed and modulated. -/
abbrev hRow (b : Fin 2) (R : Fin 16384) : Fin 1024 → EReal :=
  Layer.pre (fun d => x (ix2 R d)) (fun d => g (ix1 d)) (fun d => sh (ix2 b d)) (fun d => sc (ix2 b d))

theorem h_at (b : Fin 2) (t : Fin 8192) (d : Fin 1024) : (h x g sh sc (ix3 b t d) : EReal) = hRow x g sh sc b ⟨b.val * 8192 + t.val, by omega⟩ d := by
  have e : (ms x (ix3 b t 0) : EReal) = Layer.ms fun d => x (ix2 ⟨b.val * 8192 + t.val, by omega⟩ d) := by
    pointwise [ms]
    simp only [xr_at]
    rfl
  pointwise [h]
  rw [e, xr_at]
  rfl

theorem seq_row (R : Fin 16384) (h : R.val / 8192 * 8192 + R.val % 8192 < 16384) : (⟨R.val / 8192 * 8192 + R.val % 8192, h⟩ : Fin 16384) = R := Fin.ext (by show R.val / 8192 * 8192 + R.val % 8192 = R.val; omega)

theorem qk_at (R : Fin 16384) (j : Fin 1024) :
    (qkR x g sh sc w (ix2 R j) : EReal) = Layer.qkAt (hRow x g sh sc ⟨R.val / 8192, by omega⟩ R) (fun d j => w (ix2 d ⟨j.val, by omega⟩)) j := by
  pointwise [qkR, P]
  simp only [h_at, seq_row]
  unfold Layer.qkAt
  split
  · rfl
  · rename_i hj
    refine Finset.sum_congr rfl fun d _ => ?_
    have e : (⟨512 + (j.val - 512), by omega⟩ : Fin 3088) = ⟨j.val, by omega⟩ := Fin.ext (by show 512 + (j.val - 512) = j.val; omega)
    exact congrArg (fun i => _ * w (ix2 d i)) e

theorem v_at (R : Fin 16384) (j : Fin 1024) :
    (vR x g sh sc w (ix2 R j) : EReal) = Layer.proj (hRow x g sh sc ⟨R.val / 8192, by omega⟩ R) (fun d (j : Fin 1024) => w (ix2 d ⟨1024 + j.val, by omega⟩)) j := by
  pointwise [vR, P]
  simp only [h_at, seq_row]
  rfl

theorem g_at (R : Fin 16384) (j : Fin 1024) :
    (gR x g sh sc w (ix2 R j) : EReal) = Layer.proj (hRow x g sh sc ⟨R.val / 8192, by omega⟩ R) (fun d (j : Fin 1024) => w (ix2 d ⟨2048 + j.val, by omega⟩)) j := by
  pointwise [gR, P]
  simp only [h_at, seq_row]
  rfl

theorem nz_at (R : Fin 16384) (j : Fin 512) :
    (nz x g sh sc w wg b (ix3 ⟨R.val / 8192, by omega⟩ ⟨R.val % 8192, by omega⟩ j) : EReal)
      = -((∑ k : Fin 16, Layer.proj (hRow x g sh sc ⟨R.val / 8192, by omega⟩ R) (fun d (k : Fin 16) => w (ix2 d ⟨3072 + k.val, by omega⟩)) k * wg (ix2 k j)) + b (ix1 j)) := by
  pointwise [nz, P]
  simp only [h_at, seq_row]
  rfl

theorem la_at (R : Fin 16384) (j : Fin 512) :
    (laR x g sh sc w wg b (ix2 R j) : EReal) = Layer.laAt (hRow x g sh sc ⟨R.val / 8192, by omega⟩ R) (fun d k => w (ix2 d ⟨3072 + k.val, by omega⟩)) (fun k j => wg (ix2 k j)) (fun j => b (ix1 j)) j := by
  pointwise [laR, zr]
  rw [if_neg (fun h => h rfl), nz_at]
  unfold Layer.laAt
  rw [← Layer.decay_ref]
  rfl

open Idealize.SL.Sem

variable (m : (ℓ : Loc nD τ sig) → Buf (Elt Ideal) ℓ)

/-- The reference's run: the same four arrays, and the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v39) = Layer.qkA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v41) = Layer.vA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v43) = Layer.gateA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v44) = Layer.laA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => by
    obtain ⟨h0, h1, h2, h3, h⟩ := h c
    refine ⟨h0.trans ?_, h1.trans ?_, h2.trans ?_, h3.trans ?_, h⟩
    · refine Eq.trans (b := qkR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) rfl ?_
      funext i
      obtain ⟨R, j, rfl⟩ : ∃ (R : Fin 16384) (j : Fin 1024), i = (ix2 R j : S16384x1024.Idx) := ⟨i 0, i 1, eq_ix2 i⟩
      exact qk_at _ _ _ _ _ R j
    · refine Eq.trans (b := vR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) rfl ?_
      funext i
      obtain ⟨R, j, rfl⟩ : ∃ (R : Fin 16384) (j : Fin 1024), i = (ix2 R j : S16384x1024.Idx) := ⟨i 0, i 1, eq_ix2 i⟩
      exact v_at _ _ _ _ _ R j
    · refine Eq.trans (b := gR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) rfl ?_
      funext i
      obtain ⟨R, j, rfl⟩ : ∃ (R : Fin 16384) (j : Fin 1024), i = (ix2 R j : S16384x1024.Idx) := ⟨i 0, i 1, eq_ix2 i⟩
      exact g_at _ _ _ _ _ R j
    · unfold Value.res_main_v44
      refine Eq.trans (b := laR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) rfl ?_
      funext i
      obtain ⟨R, j, rfl⟩ : ∃ (R : Fin 16384) (j : Fin 512), i = (ix2 R j : S16384x512.Idx) := ⟨i 0, i 1, eq_ix2 i⟩
      exact la_at _ _ _ _ _ _ _ R j) (Value.run m ρ)

end Cert.GlaInRefIdeal.Pf

end
-- ==== Proof.GlaIn.Precond.lean ====
/- The precondition `numbers_in` in words: every entry of the arguments the log-decays are taken of is a number. -/
module

public import proofs.«01_k».proof.Defs
public import proofs.«01_k».proof.Proof.Moba.Precond

@[expose] public section

set_option maxRecDepth 16384

noncomputable section

namespace Cert.Pre_numbers_in

open Idealize.ShloMosaic Idealize.ShloMosaic.Tactic
open Cert.Pre_numbers (real_of_all and_one)

instance facts : Facts := ⟨by decide, by decide, by decide, by decide, by decide, by decide, by decide, by decide, by decide, by decide, by decide, by decide⟩

/-- What the predicate says of the arguments. -/
theorem allReal (a0 : FVec Ideal S16384x1024 .f32) (a1 : FVec Ideal S1024 .f32) (a2 : FVec Ideal S2x1024 .f32) (a3 : FVec Ideal S2x1024 .f32) (a4 : FVec Ideal S1024x3088 .f32) (a5 : FVec Ideal S16x512 .f32) (a6 : FVec Ideal S512 .f32)
    (h : fn (F := Ideal) a0 a1 a2 a3 a4 a5 a6 = fun _ => 1#1) :
    (∀ i, Layer.IsReal (a0 i)) ∧ (∀ i, Layer.IsReal (a1 i)) ∧ (∀ i, Layer.IsReal (a2 i)) ∧ (∀ i, Layer.IsReal (a3 i)) ∧ (∀ d (k : Fin 16), Layer.IsReal (a4 (ix2 d ⟨3072 + k.val, by omega⟩))) ∧ (∀ i, Layer.IsReal (a5 i)) := by
  have h5 := congrFun h ix0
  obtain ⟨h4, e5⟩ := and_one _ _ h5
  obtain ⟨h3, e4⟩ := and_one _ _ h4
  obtain ⟨h2, e3⟩ := and_one _ _ h3
  obtain ⟨h1, e2⟩ := and_one _ _ h2
  obtain ⟨h0, e1⟩ := and_one _ _ h1
  refine ⟨real_of_all a0 _ _ h0, real_of_all a1 _ _ e1, real_of_all a2 _ _ e2, real_of_all a3 _ _ e3, fun d k => ?_, real_of_all a5 _ _ e5⟩
  have h : ∀ i : S1024x16.Idx, Layer.IsReal (extractStridedSlice S1024x16 ![0, 3072] a4 Facts.slices_S1024x3088_S1024x16_0_3072 i) := real_of_all _ Facts.bcast_S_S1024x16 Facts.reducesTo_S1024x16_S_d0_1 e4
  have e : (extractStridedSlice S1024x16 ![0, 3072] a4 Facts.slices_S1024x3088_S1024x16_0_3072 (ix2 d k) : EReal) = a4 (ix2 d ⟨3072 + k.val, by omega⟩) := by pointwise []
  exact e ▸ h (ix2 d k)

end Cert.Pre_numbers_in

end
-- ==== Proof.GlaIn.Agree.lean ====
/- The linear layers' input call and its reference end with the same four arrays. -/
module

public import proofs.«01_k».proof.Defs
public import proofs.«01_k».proof.Proof.GlaIn.Arrays
public import proofs.«01_k».proof.Proof.GlaIn.Ref
public import proofs.«01_k».proof.Proof.GlaIn.Precond
public import Idealize.ShloMosaic.Adequacy
public import Idealize.ShloMosaic.Init

@[expose] public section

noncomputable section

namespace Cert.Proof

open Idealize.ShloMosaic Idealize.SL.Sem

theorem glaIn_frame_reference : Cert.quiescent_GlaInRefIdeal := fun m ρ _ =>
  (θ_run Cert.GlaInRefIdeal.defs _ _).mono (fun r h => ⟨fun c => (h c).2.2.2.2, Idealize.ShloMosaic.sem_eq_zero_of_no_sems (by decide) r.2⟩)
    (Cert.GlaInRefIdeal.Value.run m ρ)

theorem glaIn_frame_reference_pre : Cert.quiescent_GlaInRefIdeal_pre_numbers_in := fun m ρ _ =>
  (θ_run Cert.GlaInRefIdeal.defs _ _).mono (fun r h => ⟨fun c => (h c).2.2.2.2, Idealize.ShloMosaic.sem_eq_zero_of_no_sems (by decide) r.2⟩)
    (Cert.GlaInRefIdeal.Value.run m ρ)

theorem glaIn : Cert.algebraic_GlaInIdeal_GlaInRefIdeal_pre_numbers_in := by
  intro m ρ m' ρ' hpre hagree
  have hn : ∀ c, Cert.GlaInIdeal.Pf.Numbers m c := fun c => by
    obtain ⟨h0, h1, h2, h3, h4, h5⟩ := Cert.Pre_numbers_in.allReal _ _ _ _ _ _ _ (hpre c)
    exact ⟨h0, h1, h2, h3, h4, h5⟩
  refine ⟨_, _, _, _, Cert.GlaInIdeal.Pf.run m ρ hn, ?_⟩
  refine (θ_run Cert.GlaInRefIdeal.defs _ _).mono (fun r h c => ?_) (Cert.GlaInRefIdeal.Pf.run m' ρ')
  obtain ⟨h0, h1, h2, h3, h4⟩ := h c
  obtain ⟨e0, e1, e2, e3, e4, e5, e6⟩ := hagree c
  rw [e0, e1, e2, e3, e4] at h0 h1 h2
  rw [e0, e1, e2, e3, e4, e5, e6] at h3
  exact ⟨h0, h1, h2, h3, h4⟩

end Cert.Proof

end
-- ==== Proof.LayerSample.lean ====
/- The layers' arrays over the sample batch: 32 sequences of 4 rows each. -/
module

public import proofs.«01_k».proof.Proof.Layer

@[expose] public section

noncomputable section

namespace Cert.Layer.Sample

open Idealize.ShloMosaic Idealize.ShloMosaic.Tactic Cert.Layer

section Arrays
variable (x : (⟨2, ![128, 1024]⟩ : Shape).Idx → EReal) (g : (⟨1, ![1024]⟩ : Shape).Idx → EReal) (sh sc : (⟨2, ![32, 1024]⟩ : Shape).Idx → EReal)
  (w : (⟨2, ![1024, 2048]⟩ : Shape).Idx → EReal) (kn : (⟨1, ![128]⟩ : Shape).Idx → EReal)

/-- Row `R` of the array, normed and modulated by its sequence's shift and scale. -/
abbrev row (R : Fin 128) : Fin 1024 → EReal :=
  pre (fun d => x (ix2 R d)) (fun d => g (ix1 d)) (fun d => sh (ix2 ⟨R.val / 4, by omega⟩ d)) (fun d => sc (ix2 ⟨R.val / 4, by omega⟩ d))

/-- The keys of every row, -/
def keys : (⟨2, ![128, 1024]⟩ : Shape).Idx → EReal := fun i => keyAt (row x g sh sc (i 0)) (fun d j => w (ix2 d j)) (fun e => kn (ix1 e)) (i 1)

/-- and the values. -/
def vals : (⟨2, ![128, 1024]⟩ : Shape).Idx → EReal := fun i => valAt (row x g sh sc (i 0)) (fun d j => w (ix2 d j)) (i 1)

/-- The queries: every row through the query weights `wq`, its heads normed with `qn`. -/
def queries (wq : (⟨2, ![1024, 1024]⟩ : Shape).Idx → EReal) (qn : (⟨1, ![128]⟩ : Shape).Idx → EReal) : (⟨2, ![128, 1024]⟩ : Shape).Idx → EReal := fun i =>
  headAt (fun j => ∑ d, row x g sh sc (i 0) d * wq (ix2 d j)) (fun e => qn (ix1 e)) (i 1)

end Arrays

section Mix
variable (o x : (⟨2, ![128, 1024]⟩ : Shape).Idx → EReal) (wo : (⟨2, ![1024, 1024]⟩ : Shape).Idx → EReal) (g1 : (⟨2, ![32, 1024]⟩ : Shape).Idx → EReal)
  (g : (⟨1, ![1024]⟩ : Shape).Idx → EReal) (sh sc g2 : (⟨2, ![32, 1024]⟩ : Shape).Idx → EReal)
  (wu : (⟨2, ![1024, 4096]⟩ : Shape).Idx → EReal) (wd : (⟨2, ![4096, 1024]⟩ : Shape).Idx → EReal)

/-- Row `R` of `x` plus the projected, gated row of `o`. -/
abbrev mixRow (R : Fin 128) : Fin 1024 → EReal :=
  mix (fun d => x (ix2 R d)) (fun d => o (ix2 R d)) (fun d => g1 (ix2 ⟨R.val / 4, by omega⟩ d)) (fun d j => wo (ix2 d j))

/-- The second half of a layer, over every row. -/
def moba : (⟨2, ![128, 1024]⟩ : Shape).Idx → EReal := fun i =>
  ff (mixRow o x wo g1 (i 0)) (fun d => g (ix1 d)) (fun d => sh (ix2 ⟨(i 0).val / 4, by have : (i 0).val < 128 := (i 0).isLt; omega⟩ d))
    (fun d => sc (ix2 ⟨(i 0).val / 4, by have : (i 0).val < 128 := (i 0).isLt; omega⟩ d)) (fun d => g2 (ix2 ⟨(i 0).val / 4, by have : (i 0).val < 128 := (i 0).isLt; omega⟩ d))
    (fun d f => wu (ix2 d f)) (fun f j => wd (ix2 f j)) (i 1)

end Mix

end Cert.Layer.Sample

end
-- ==== Proof.KvSample.Block.lean ====
/- The sample's key-value call's blocks, read at an index on extended reals. -/
module

public import proofs.«01_k».proof.Proof.LayerSample
public import proofs.«01_k».proof.Proof.Gen.KvSampleIdeal.Value
public import Idealize.ShloMosaic.Lib.Pipeline.ReadBack
public import Idealize.ShloMosaic.Lib.Pipeline.ValueKit

@[expose] public section

set_option maxRecDepth 16384

noncomputable section

namespace Cert.KvSampleIdeal.Pf

open Cert.KvSampleIdeal Cert.KvSampleIdeal.Gen Idealize.ShloMosaic Idealize.ShloMosaic.TcCoe Idealize.ShloMosaic.Tactic

variable (x0 : Vec Ideal S128x1024 .f32) (x1 : Vec Ideal S1x1024 .f32) (x2 x3 : Vec Ideal S1x128x1024 .f32) (x4 : Vec Ideal S1024x2048 .bf16) (x5 : Vec Ideal S1x128 .f32)

/-- Row `r` of the block, normed and modulated. -/
abbrev hRow (r : Fin 128) : Fin 1024 → EReal :=
  Layer.pre (fun d => x0 (ix2 r d)) (fun d => x1 (ix2 0 d)) (fun d => x2 (ix3 0 r d)) (fun d => x3 (ix3 0 r d))

theorem h_at (r : Fin 128) (d : Fin 1024) : (k0_pay2 x0 x1 x2 x3 (ix2 r d) : EReal) = hRow x0 x1 x2 x3 r d := by
  pointwise [k0_pay2]
  rfl

theorem proj_at (w : Vec Ideal S1024x1024 .bf16) (r : Fin 128) (j : Fin 1024) :
    (k0_pay3 x0 x1 x2 x3 w (ix2 r j) : EReal) = ∑ d, hRow x0 x1 x2 x3 r d * w (ix2 d j) := by
  pointwise [k0_pay3]
  simp only [h_at]

theorem proj_at' (w : Vec Ideal S1024x1024 .bf16) (r : Fin 128) (j : Fin 1024) :
    (k0_pay4 x0 x1 x2 x3 w (ix2 r j) : EReal) = ∑ d, hRow x0 x1 x2 x3 r d * w (ix2 d j) := by
  pointwise [k0_pay4]
  simp only [h_at]

theorem loads : View.ld x0 r0_0 = x0 ∧ View.ld x1 r0_1 = x1 ∧ View.ld x2 r0_2 = x2 ∧ View.ld x3 r0_2 = x3 ∧ View.ld x5 r0_5 = x5 :=
  ⟨View.ld_unit_lit _ x0 (by decide), View.ld_unit_lit _ x1 (by decide), View.ld_unit_lit _ x2 (by decide), View.ld_unit_lit _ x3 (by decide), View.ld_unit_lit _ x5 (by decide)⟩

theorem ldK (d j : Fin 1024) : (View.ld x4 r0_3 (ix2 d j) : EReal) = x4 (ix2 d ⟨j.val, by omega⟩) :=
  congrArg x4 (funext (Fin.forall_fin_two.mpr ⟨Fin.ext (by show 0 + 1 * d.val = d.val; omega), Fin.ext (by show 0 + 1 * j.val = j.val; omega)⟩))

theorem ldV (d j : Fin 1024) : (View.ld x4 r0_4 (ix2 d j) : EReal) = x4 (ix2 d ⟨1024 + j.val, by omega⟩) :=
  congrArg x4 (funext (Fin.forall_fin_two.mpr ⟨Fin.ext (by show 0 + 1 * d.val = d.val; omega), Fin.ext (by show 1024 + 1 * j.val = 1024 + j.val; omega)⟩))

/-- The block of values. -/
theorem out7_at (r : Fin 128) (j : Fin 1024) :
    (out0_7 x0 x1 x2 x3 x4 x5 (ix2 r j) : EReal) = Layer.valAt (hRow x0 x1 x2 x3 r) (fun d j => x4 (ix2 d j)) j := by
  obtain ⟨e0, e1, e2, e3, e5⟩ := loads x0 x1 x2 x3 x5
  unfold out0_7
  rw [View.canon_cons_unit_lit _ _ _ (by decide), e0, e1, e2, e3, proj_at']
  exact Finset.sum_congr rfl fun d _ => congrArg (hRow x0 x1 x2 x3 r d * ·) (ldV x4 d j)

section Heads
variable (w : FVec Ideal S128x1024 .f32) (r : Fin 128) (d : Fin 128)

theorem head0 (v0 : Vec Ideal S128x1024 .f32) (v1 : Vec Ideal S1x1024 .f32) (v3 v5 : Vec Ideal S1x128x1024 .f32) (v24 : Vec Ideal S1024x1024 .bf16) :
    (k0_pay7 (k0_pay5 v0 v1 v3 v5 v24) (k0_pay6 x5) (ix2 r d) : EReal) = Layer.headAt (fun j => k0_pay3 v0 v1 v3 v5 v24 (ix2 r j)) (fun e => x5 (ix2 0 e)) ⟨d.val, by omega⟩ := by
  pointwise [k0_pay7, k0_pay5, k0_pay6]
  have h := Layer.headAt_block (fun j => (k0_pay3 v0 v1 v3 v5 v24 (ix2 r j) : EReal)) (fun e => x5 (ix2 0 e)) 0 rfl (by decide) d
  simp only [Nat.zero_add] at h
  exact h.symm
theorem head1 : (k0_pay8 w x5 (ix2 r d) : EReal) = Layer.headAt (fun j => w (ix2 r j)) (fun e => x5 (ix2 0 e)) ⟨128 + d.val, by omega⟩ := by
  pointwise [k0_pay8]
  exact (Layer.headAt_block (fun j => (w (ix2 r j) : EReal)) (fun e => x5 (ix2 0 e)) 128 rfl (by decide) d).symm
theorem head2 : (k0_pay12 (k0_pay9 w) (k0_pay10 x5) (k0_pay11 w) (ix2 r d) : EReal) = Layer.headAt (fun j => w (ix2 r j)) (fun e => x5 (ix2 0 e)) ⟨256 + d.val, by omega⟩ := by
  pointwise [k0_pay12, k0_pay9, k0_pay10, k0_pay11]
  exact (Layer.headAt_block (fun j => (w (ix2 r j) : EReal)) (fun e => x5 (ix2 0 e)) 256 rfl (by decide) d).symm
theorem head3 : (k0_pay13 w x5 (ix2 r d) : EReal) = Layer.headAt (fun j => w (ix2 r j)) (fun e => x5 (ix2 0 e)) ⟨384 + d.val, by omega⟩ := by
  pointwise [k0_pay13]
  exact (Layer.headAt_block (fun j => (w (ix2 r j) : EReal)) (fun e => x5 (ix2 0 e)) 384 rfl (by decide) d).symm
theorem head4 : (k0_pay14 w x5 (ix2 r d) : EReal) = Layer.headAt (fun j => w (ix2 r j)) (fun e => x5 (ix2 0 e)) ⟨512 + d.val, by omega⟩ := by
  pointwise [k0_pay14]
  exact (Layer.headAt_block (fun j => (w (ix2 r j) : EReal)) (fun e => x5 (ix2 0 e)) 512 rfl (by decide) d).symm
theorem head5 : (k0_pay17 (k0_pay15 w) (k0_pay16 x5) (ix2 r d) : EReal) = Layer.headAt (fun j => w (ix2 r j)) (fun e => x5 (ix2 0 e)) ⟨640 + d.val, by omega⟩ := by
  pointwise [k0_pay17, k0_pay15, k0_pay16]
  exact (Layer.headAt_block (fun j => (w (ix2 r j) : EReal)) (fun e => x5 (ix2 0 e)) 640 rfl (by decide) d).symm
theorem head6 : (k0_pay18 w x5 (ix2 r d) : EReal) = Layer.headAt (fun j => w (ix2 r j)) (fun e => x5 (ix2 0 e)) ⟨768 + d.val, by omega⟩ := by
  pointwise [k0_pay18]
  exact (Layer.headAt_block (fun j => (w (ix2 r j) : EReal)) (fun e => x5 (ix2 0 e)) 768 rfl (by decide) d).symm
theorem head7 : (k0_pay1 (k0_pay19 w) (k0_pay20 x5) (k0_pay21 w) (ix2 r d) : EReal) = Layer.headAt (fun j => w (ix2 r j)) (fun e => x5 (ix2 0 e)) ⟨896 + d.val, by omega⟩ := by
  pointwise [k0_pay1, k0_pay19, k0_pay20, k0_pay21]
  exact (Layer.headAt_block (fun j => (w (ix2 r j) : EReal)) (fun e => x5 (ix2 0 e)) 896 rfl (by decide) d).symm
end Heads

/-- The heads' norms over the whole block. -/
def heads (w : FVec Ideal S128x1024 .f32) (x5 : Vec Ideal S1x128 .f32) (y : S128x1024.Idx) : EReal :=
  Layer.headAt (fun j => w (ix2 (y 0) j)) (fun e => x5 (ix2 0 e)) (y 1)

/-- One store of the block: the columns from `o`. -/
theorem piece_at (w : FVec Ideal S128x1024 .f32) (o : ℕ) (ho : o + 128 ≤ 1024) (inb : ∀ a, (![0, o] : Fin 2 → ℕ) a + S128x128.size a ≤ S128x1024.size a)
    (p : FVec Ideal S128x128 .f32)
    (h : ∀ r d, (p (ix2 r d) : EReal) = Layer.headAt (fun j => w (ix2 r j)) (fun e => x5 (ix2 0 e)) ⟨o + d.val, by omega⟩)
    (y : (Rect.unit (s := S128x1024) ![0, o] S128x128.size inb).shape.Idx) : p y = heads w x5 ((Rect.unit (s := S128x1024) ![0, o] S128x128.size inb).emb y) := by
  obtain ⟨r, d, rfl⟩ : ∃ (r : Fin 128) (d : Fin 128), y = (ix2 r d : S128x128.Idx) := ⟨y 0, y 1, eq_ix2 y⟩
  refine (h r d).trans ?_
  have e : (Rect.unit (s := S128x1024) ![0, o] S128x128.size inb).emb (ix2 r d : S128x128.Idx) = (ix2 r ⟨o + d.val, by omega⟩ : S128x1024.Idx) :=
    funext (Fin.forall_fin_two.mpr ⟨Fin.ext (by show 0 + 1 * r.val = r.val; omega), Fin.ext (by show o + 1 * d.val = o + d.val; omega)⟩)
  rw [e]
  rfl

/-- The block of keys. -/
theorem out6_at (r : Fin 128) (j : Fin 1024) :
    (out0_6 x0 x1 x2 x3 x4 x5 (ix2 r j) : EReal) = Layer.keyAt (hRow x0 x1 x2 x3 r) (fun d j => x4 (ix2 d j)) (fun e => x5 (ix2 0 e)) j := by
  obtain ⟨e0, e1, e2, e3, e5⟩ := loads x0 x1 x2 x3 x5
  have hw : ∀ r j, (k0_pay22 x0 x1 x2 x3 x4 x5 (ix2 r j) : EReal) = Layer.kvAt (hRow x0 x1 x2 x3 r) (fun d j => x4 (ix2 d j)) ⟨j.val, by omega⟩ := fun r j => by
    unfold k0_pay22
    rw [e0, e1, e2, e3, proj_at]
    exact Finset.sum_congr rfl fun d _ => congrArg (hRow x0 x1 x2 x3 r d * ·) (ldK x4 d j)
  unfold out0_6
  rw [e5]
  refine (View.canon_apply_of_pieces (heads (k0_pay22 x0 x1 x2 x3 x4 x5) x5) _ (View.PiecesOf.mem ?_) (ix2 r j) (cover0_6 _ _ _ _ _ _ _ _ (ix2 r j))).trans ?_
  · exact ⟨piece_at x5 _ 896 (by decide) inb_S128x1024_S128x128_0_896 _ fun r d => head7 x5 _ r d, piece_at x5 _ 768 (by decide) inb_S128x1024_S128x128_0_768 _ fun r d => head6 x5 _ r d,
      piece_at x5 _ 640 (by decide) inb_S128x1024_S128x128_0_640 _ fun r d => head5 x5 _ r d, piece_at x5 _ 512 (by decide) inb_S128x1024_S128x128_0_512 _ fun r d => head4 x5 _ r d,
      piece_at x5 _ 384 (by decide) inb_S128x1024_S128x128_0_384 _ fun r d => head3 x5 _ r d, piece_at x5 _ 256 (by decide) inb_S128x1024_S128x128_0_256 _ fun r d => head2 x5 _ r d,
      piece_at x5 _ 128 (by decide) inb_S128x1024_S128x128_0_128 _ fun r d => head1 x5 _ r d, piece_at x5 _ 0 (by decide) inb_S128x1024_S128x128_0_0 _ fun r d => by
        simp only [Nat.zero_add]; exact head0 x5 r d _ _ _ _ _, trivial⟩
  · show Layer.headAt (fun j => k0_pay22 x0 x1 x2 x3 x4 x5 (ix2 r j)) _ j = _
    simp only [hw]
    rfl

end Cert.KvSampleIdeal.Pf

end
-- ==== Proof.KvSample.Arrays.lean ====
/- What the sample's key-value call's arrays hold after the run, on extended reals. -/
module

public import proofs.«01_k».proof.Proof.KvSample.Block
public import Idealize.ShloMosaic.Lib.Claim

@[expose] public section

set_option maxRecDepth 16384

noncomputable section

namespace Cert.KvSampleIdeal.Pf

open Cert.KvSampleIdeal Cert.KvSampleIdeal.Gen Idealize.ShloMosaic Idealize.ShloMosaic.TcCoe Idealize.ShloMosaic.Tactic
open Idealize.SL.Sem
open Idealize.ShloMosaic.Pipeline (Dat)

variable (m : (ℓ : Loc nD τ sig) → Buf (Elt Ideal) ℓ)

theorem maps : ∀ t : Fin cfg0.N, win0_0.index t = ![0, 0] ∧ win0_1.index t = ![0, 0] ∧ win0_2.index t = ![0, 0, 0]
    ∧ win0_3.index t = ![0, 0, 0] ∧ win0_4.index t = ![0, 0] ∧ win0_5.index t = ![0, 0] ∧ win0_6.index t = ![0, 0] ∧ win0_7.index t = ![0, 0] :=
  (by decide +kernel : ∀ t : Fin grid0.N, _)

abbrev arg0 (c : Dev nD) : (⟨2, ![128, 1024]⟩ : Shape).Idx → EReal := m ((c : Thread nD τ).loc main_arg0)
abbrev arg1 (c : Dev nD) : (⟨1, ![1024]⟩ : Shape).Idx → EReal := m ((c : Thread nD τ).loc main_arg1)
abbrev arg2 (c : Dev nD) : (⟨2, ![32, 1024]⟩ : Shape).Idx → EReal := m ((c : Thread nD τ).loc main_arg2)
abbrev arg3 (c : Dev nD) : (⟨2, ![32, 1024]⟩ : Shape).Idx → EReal := m ((c : Thread nD τ).loc main_arg3)
abbrev arg4 (c : Dev nD) : (⟨2, ![1024, 2048]⟩ : Shape).Idx → EReal := m ((c : Thread nD τ).loc main_arg4)
abbrev arg5 (c : Dev nD) : (⟨1, ![128]⟩ : Shape).Idx → EReal := m ((c : Thread nD τ).loc main_arg5)

theorem V_g (c : Dev nD) : (V m c main_v0 : S1x1024.Idx → EReal) = shapeCast S1x1024 (arg1 m c : FVec Ideal S1024 .f32) shapeCasts_S1024_S1x1024 := by
  show StableHlo.after hostOps0 (fun b => m (c, b)) (Proc.tc.devRef main_v0) = _
  simp only [hostOps0]
  after_results
  rfl

/-- Every row's vector: its sequence's, one of 4 rows each. -/
def rep (x : FVec Ideal S32x1024 .f32) : FVec Ideal S1x128x1024 .f32 :=
  shapeCast S1x128x1024 (shapeCast S128x1024 (broadcastInDim S32x4x1024 ![0, 2] bcast_S32x1024_S32x4x1024_0_2 x) shapeCasts_S32x4x1024_S128x1024) shapeCasts_S128x1024_S1x128x1024

theorem rep_at (x : FVec Ideal S32x1024 .f32) (r : Fin 128) (d : Fin 1024) : (rep x (ix3 0 r d) : EReal) = x (ix2 ⟨r.val / 4, by omega⟩ d) := by
  pointwise [rep]

theorem V_sh (c : Dev nD) : (V m c main_v3 : S1x128x1024.Idx → EReal) = rep (arg2 m c) := by
  show StableHlo.after hostOps0 (fun b => m (c, b)) (Proc.tc.devRef main_v3) = _
  simp only [hostOps0]
  after_results
  rfl

theorem V_sc (c : Dev nD) : (V m c main_v6 : S1x128x1024.Idx → EReal) = rep (arg3 m c) := by
  show StableHlo.after hostOps0 (fun b => m (c, b)) (Proc.tc.devRef main_v6) = _
  simp only [hostOps0]
  after_results
  rfl

theorem V_kn (c : Dev nD) : (V m c main_v8 : S1x128.Idx → EReal) = shapeCast S1x128 (arg5 m c : FVec Ideal S128 .f32) shapeCasts_S128_S1x128 := by
  show StableHlo.after hostOps0 (fun b => m (c, b)) (Proc.tc.devRef main_v8) = _
  simp only [hostOps0]
  after_results
  rfl

theorem blk_x (c : Dev nD) (t : Fin cfg0.N) (r : Fin 128) (d : Fin 1024) :
    (iblk m c 0 t (ix2 r d : S128x1024.Idx) : EReal) = arg0 m c (ix2 r d) := by
  have e := (maps t).1
  blk_ext [iblk, V, e]

theorem blk_g (c : Dev nD) (t : Fin cfg0.N) (d : Fin 1024) :
    (iblk m c 1 t (ix2 0 d : S1x1024.Idx) : EReal) = arg1 m c (ix1 d) := by
  have e := (maps t).2.1
  have hi : (((cfg0.win 1).blk t).view.emb (ix2 0 d : S1x1024.Idx) : S1x1024.Idx) = ix2 0 d := by blk_ext [e]
  refine (congrArg (V m c main_v0 : S1x1024.Idx → EReal) hi).trans ?_
  rw [V_g]
  pointwise []

theorem blk_sh (c : Dev nD) (t : Fin cfg0.N) (r : Fin 128) (d : Fin 1024) :
    (iblk m c 2 t (ix3 0 r d : S1x128x1024.Idx) : EReal) = arg2 m c (ix2 ⟨r.val / 4, by omega⟩ d) := by
  have e := (maps t).2.2.1
  have hi : (((cfg0.win 2).blk t).view.emb (ix3 0 r d : S1x128x1024.Idx) : S1x128x1024.Idx) = ix3 0 r d := by blk_ext [e]
  refine (congrArg (V m c main_v3 : S1x128x1024.Idx → EReal) hi).trans ?_
  rw [V_sh]
  exact rep_at _ r d

theorem blk_sc (c : Dev nD) (t : Fin cfg0.N) (r : Fin 128) (d : Fin 1024) :
    (iblk m c 3 t (ix3 0 r d : S1x128x1024.Idx) : EReal) = arg3 m c (ix2 ⟨r.val / 4, by omega⟩ d) := by
  have e := (maps t).2.2.2.1
  have hi : (((cfg0.win 3).blk t).view.emb (ix3 0 r d : S1x128x1024.Idx) : S1x128x1024.Idx) = ix3 0 r d := by blk_ext [e]
  refine (congrArg (V m c main_v6 : S1x128x1024.Idx → EReal) hi).trans ?_
  rw [V_sc]
  exact rep_at _ r d

theorem blk_w (c : Dev nD) (t : Fin cfg0.N) (d : Fin 1024) (j : Fin 2048) :
    (iblk m c 4 t (ix2 d j : S1024x2048.Idx) : EReal) = arg4 m c (ix2 d j) := by
  have e := (maps t).2.2.2.2.1
  blk_ext [iblk, V, e]

theorem blk_kn (c : Dev nD) (t : Fin cfg0.N) (d : Fin 128) :
    (iblk m c 5 t (ix2 0 d : S1x128.Idx) : EReal) = arg5 m c (ix1 d) := by
  have e := (maps t).2.2.2.2.2.1
  have hi : (((cfg0.win 5).blk t).view.emb (ix2 0 d : S1x128.Idx) : S1x128.Idx) = ix2 0 d := by blk_ext [e]
  refine (congrArg (V m c main_v8 : S1x128.Idx → EReal) hi).trans ?_
  rw [V_kn]
  pointwise []

/-- Row `R`, normed and modulated. -/
abbrev row (c : Dev nD) (R : Fin 128) : Fin 1024 → EReal := Layer.Sample.row (arg0 m c) (arg1 m c) (arg2 m c) (arg3 m c) R

theorem row_eq (c : Dev nD) (t : Fin cfg0.N) (r : Fin 128) :
    hRow (iblk m c 0 t) (iblk m c 1 t) (iblk m c 2 t) (iblk m c 3 t) r = row m c r := by
  unfold hRow row Layer.Sample.row
  simp only [blk_x, blk_g, blk_sh, blk_sc]

/-- The keys, -/
abbrev keys (c : Dev nD) : (⟨2, ![128, 1024]⟩ : Shape).Idx → EReal := Layer.Sample.keys (arg0 m c) (arg1 m c) (arg2 m c) (arg3 m c) (arg4 m c) (arg5 m c)

/-- and the values. -/
abbrev vals (c : Dev nD) : (⟨2, ![128, 1024]⟩ : Shape).Idx → EReal := Layer.Sample.vals (arg0 m c) (arg1 m c) (arg2 m c) (arg3 m c) (arg4 m c)

theorem final_k (c : Dev nD) : (dats m 0 c).arrAt 6 cfg0.N = (keys m c : Buf (Elt Ideal) ((c : Thread nD τ).loc main_v9_0)) := by
  refine (dats m 0 c).arrAt_eq_of_covers 6 _ (by decide +kernel) fun t hfl y => ?_
  blk_simp
  rw [after0_6]
  have e := (maps t).2.2.2.2.2.2.1
  obtain ⟨r, j, rfl⟩ : ∃ (r : Fin 128) (j : Fin 1024), y = (ix2 r j : S128x1024.Idx) := ⟨y 0, y 1, eq_ix2 y⟩
  refine (out6_at _ _ _ _ _ _ r j).trans ?_
  have hi : (((cfg0.win 6).blk t).view.emb (ix2 r j : S128x1024.Idx) : S128x1024.Idx) = ix2 r j := by blk_ext [e]
  refine Eq.trans ?_ (congrArg (keys m c) hi).symm
  rw [row_eq]
  simp only [blk_w, blk_kn]
  rfl

theorem final_v (c : Dev nD) : (dats m 0 c).arrAt 7 cfg0.N = (vals m c : Buf (Elt Ideal) ((c : Thread nD τ).loc main_v9_1)) := by
  refine (dats m 0 c).arrAt_eq_of_covers 7 _ (by decide +kernel) fun t hfl y => ?_
  blk_simp
  rw [after0_7]
  have e := (maps t).2.2.2.2.2.2.2
  obtain ⟨r, j, rfl⟩ : ∃ (r : Fin 128) (j : Fin 1024), y = (ix2 r j : S128x1024.Idx) := ⟨y 0, y 1, eq_ix2 y⟩
  refine (out7_at _ _ _ _ _ _ r j).trans ?_
  have hi : (((cfg0.win 7).blk t).view.emb (ix2 r j : S128x1024.Idx) : S128x1024.Idx) = ix2 r j := by blk_ext [e]
  refine Eq.trans ?_ (congrArg (vals m c) hi).symm
  rw [row_eq]
  simp only [blk_w]
  rfl

/-- The call's run: its keys and values, and the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v9_0) = keys m c
      ∧ r.2.mem ((c.tc : Thread nD τ).loc main_v9_1) = vals m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => by
    obtain ⟨h6, h7, h⟩ := h c
    exact ⟨h6.trans (final_k m c), h7.trans (final_v m c), h⟩) (Value.run_blocks m ρ)

end Cert.KvSampleIdeal.Pf

end
-- ==== Proof.KvSample.Ref.lean ====
/- The sample's key-value reference, read at an index on extended reals. -/
module

public import proofs.«01_k».proof.Proof.LayerSample
public import proofs.«01_k».proof.Proof.Gen.KvSampleRefIdeal.Run
public import Idealize.ShloMosaic.Lib.Pipeline.ValueKit

@[expose] public section

set_option maxRecDepth 16384

noncomputable section

namespace Cert.KvSampleRefIdeal.Pf

open Cert.KvSampleRefIdeal Cert.KvSampleRefIdeal.Gen Idealize.ShloMosaic Idealize.ShloMosaic.TcCoe Idealize.ShloMosaic.Tactic

variable (x : FVec Ideal S128x1024 .f32) (g : FVec Ideal S1024 .f32) (sh sc : FVec Ideal S32x1024 .f32)
  (w : FVec Ideal S1024x2048 .f32) (kn : FVec Ideal S128 .f32)

/-- The rows, by sequence. -/
def xr : FVec Ideal S32x4x1024 .f32 := shapeCast _ x shapeCasts_S128x1024_S32x4x1024

/-- The mean square of every row. -/
def ms : FVec Ideal S32x4x1 .f32 :=
  Host.divf (broadcastInDim S32x4x1 ![0, 1] bcast_S32x4_S32x4x1_0_1 (Host.reduceAdd (mulf (xr x) (xr x)) (constant S_ .f32 0x00000000#32) reducesTo_S32x4x1024_S32x4_d2 h_S_))
    (broadcastInDim S32x4x1 ![] bcast_S_S32x4x1 (constant S_ .f32 0x44800000#32))

/-- The normalized, scaled and shifted rows. -/
def h : FVec Ideal S32x4x1024 .f32 :=
  addf (mulf (mulf (mulf (xr x) (broadcastInDim S32x4x1024 ![0, 1, 2] bcast_S32x4x1_S32x4x1024_0_1_2 (Host.rsqrt (addf (ms x) (broadcastInDim S32x4x1 ![] bcast_S_S32x4x1 (constant S_ .f32 0x358637BD#32))))))
      (broadcastInDim S32x4x1024 ![0, 1, 2] bcast_S1x1x1024_S32x4x1024_0_1_2 (broadcastInDim S1x1x1024 ![2] bcast_S1024_S1x1x1024_2 g)))
    (broadcastInDim S32x4x1024 ![0, 1, 2] bcast_S32x1x1024_S32x4x1024_0_1_2 (addf (broadcastInDim S32x1x1024 ![] bcast_S_S32x1x1024 (constant S_ .f32 0x3F800000#32)) (broadcastInDim S32x1x1024 ![0, 2] bcast_S32x1024_S32x1x1024_0_2 sc))))
    (broadcastInDim S32x4x1024 ![0, 1, 2] bcast_S32x1x1024_S32x4x1024_0_1_2 (broadcastInDim S32x1x1024 ![0, 2] bcast_S32x1024_S32x1x1024_0_2 sh))

/-- The projected rows. -/
def kv : FVec Ideal S32x4x2048 .f32 := Host.dotGeneral dot_S32x4x1024_S1024x2048_S32x4x2048_2_0_01_1_n_n none (h x g sh sc) w

/-- The keys before their norm. -/
def k0 : FVec Ideal S32x4x8x128 .f32 :=
  shapeCast _ (extractStridedSlice S32x4x1024 ![0, 0, 0] (kv x g sh sc w) slices_S32x4x2048_S32x4x1024_0_0_0) shapeCasts_S32x4x1024_S32x4x8x128

/-- The keys. -/
def kR : FVec Ideal S128x1024 .f32 :=
  shapeCast _ (mulf (mulf (k0 x g sh sc w) (broadcastInDim S32x4x8x128 ![0, 1, 2, 3] bcast_S32x4x8x1_S32x4x8x128_0_1_2_3 (Host.rsqrt (addf
    (Host.divf (broadcastInDim S32x4x8x1 ![0, 1, 2] bcast_S32x4x8_S32x4x8x1_0_1_2 (Host.reduceAdd (mulf (k0 x g sh sc w) (k0 x g sh sc w)) (constant S_ .f32 0x00000000#32) reducesTo_S32x4x8x128_S32x4x8_d3 h_S_))
      (broadcastInDim S32x4x8x1 ![] bcast_S_S32x4x8x1 (constant S_ .f32 0x43000000#32)))
    (broadcastInDim S32x4x8x1 ![] bcast_S_S32x4x8x1 (constant S_ .f32 0x358637BD#32))))))
    (broadcastInDim S32x4x8x128 ![0, 1, 2, 3] bcast_S1x1x1x128_S32x4x8x128_0_1_2_3 (broadcastInDim S1x1x1x128 ![3] bcast_S128_S1x1x1x128_3 kn))) shapeCasts_S32x4x8x128_S128x1024

/-- The values. -/
def vR : FVec Ideal S128x1024 .f32 :=
  shapeCast _ (extractStridedSlice S32x4x1024 ![0, 0, 1024] (kv x g sh sc w) slices_S32x4x2048_S32x4x1024_0_0_1024) shapeCasts_S32x4x1024_S128x1024

theorem xr_at (b : Fin 32) (t : Fin 4) (d : Fin 1024) : (xr x (ix3 b t d) : EReal) = x (ix2 ⟨b.val * 4 + t.val, by omega⟩ d) := by
  pointwise [xr]

/-- Row `t` of sequence `b`, normed and modulated. -/
abbrev hRow (b : Fin 32) (R : Fin 128) : Fin 1024 → EReal :=
  Layer.pre (fun d => x (ix2 R d)) (fun d => g (ix1 d)) (fun d => sh (ix2 b d)) (fun d => sc (ix2 b d))

theorem h_at (b : Fin 32) (t : Fin 4) (d : Fin 1024) : (h x g sh sc (ix3 b t d) : EReal) = hRow x g sh sc b ⟨b.val * 4 + t.val, by omega⟩ d := by
  have e : (ms x (ix3 b t 0) : EReal) = Layer.ms fun d => x (ix2 ⟨b.val * 4 + t.val, by omega⟩ d) := by
    pointwise [ms]
    simp only [xr_at]
    rfl
  pointwise [h]
  rw [e, xr_at]
  rfl

theorem seq_row (R : Fin 128) (h : R.val / 4 * 4 + R.val % 4 < 128) : (⟨R.val / 4 * 4 + R.val % 4, h⟩ : Fin 128) = R := Fin.ext (by show R.val / 4 * 4 + R.val % 4 = R.val; omega)

theorem k_at (R : Fin 128) (j : Fin 1024) :
    (kR x g sh sc w kn (ix2 R j) : EReal) = Layer.keyAt (hRow x g sh sc ⟨R.val / 4, by omega⟩ R) (fun d j => w (ix2 d j)) (fun e => kn (ix1 e)) j := by
  pointwise [kR, k0, kv]
  simp only [h_at, seq_row]
  rfl

theorem v_at (R : Fin 128) (j : Fin 1024) :
    (vR x g sh sc w (ix2 R j) : EReal) = Layer.valAt (hRow x g sh sc ⟨R.val / 4, by omega⟩ R) (fun d j => w (ix2 d j)) j := by
  pointwise [vR, kv]
  simp only [h_at, seq_row]
  rfl

open Idealize.SL.Sem

variable (m : (ℓ : Loc nD τ sig) → Buf (Elt Ideal) ℓ)

/-- The reference's run: the same keys and values, and the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v39) = Layer.Sample.keys (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v40) = Layer.Sample.vals (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => by
    obtain ⟨h0, h1, h⟩ := h c
    refine ⟨h0.trans ?_, h1.trans ?_, h⟩
    · unfold Value.res_main_v39
      refine Eq.trans (b := kR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) rfl ?_
      funext i
      obtain ⟨R, j, rfl⟩ : ∃ (R : Fin 128) (j : Fin 1024), i = (ix2 R j : S128x1024.Idx) := ⟨i 0, i 1, eq_ix2 i⟩
      exact k_at _ _ _ _ _ _ R j
    · refine Eq.trans (b := vR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) rfl ?_
      funext i
      obtain ⟨R, j, rfl⟩ : ∃ (R : Fin 128) (j : Fin 1024), i = (ix2 R j : S128x1024.Idx) := ⟨i 0, i 1, eq_ix2 i⟩
      exact v_at _ _ _ _ _ R j) (Value.run m ρ)

end Cert.KvSampleRefIdeal.Pf

end
-- ==== Proof.KvSample.Agree.lean ====
/- The sample's key-value call and its reference end with the same keys and values. -/
module

public import proofs.«01_k».proof.Defs
public import proofs.«01_k».proof.Proof.KvSample.Arrays
public import proofs.«01_k».proof.Proof.KvSample.Ref
public import Idealize.ShloMosaic.Adequacy
public import Idealize.ShloMosaic.Init

@[expose] public section

noncomputable section

namespace Cert.Proof

open Idealize.ShloMosaic Idealize.SL.Sem

theorem kvSample_frame_reference : Cert.quiescent_KvSampleRefIdeal := fun m ρ _ =>
  (θ_run Cert.KvSampleRefIdeal.defs _ _).mono (fun r h => ⟨fun c => (h c).2.2, Idealize.ShloMosaic.sem_eq_zero_of_no_sems (by decide) r.2⟩)
    (Cert.KvSampleRefIdeal.Value.run m ρ)

theorem kvSample : Cert.algebraic_KvSampleIdeal_KvSampleRefIdeal := by
  intro m ρ m' ρ' hpre hagree
  refine ⟨_, _, Cert.KvSampleIdeal.Pf.run m ρ, ?_⟩
  refine (θ_run Cert.KvSampleRefIdeal.defs _ _).mono (fun r h c => ?_) (Cert.KvSampleRefIdeal.Pf.run m' ρ')
  obtain ⟨h0, h1, h2⟩ := h c
  obtain ⟨e0, e1, e2, e3, e4, e5⟩ := hagree c
  rw [e0, e1, e2, e3, e4] at h0 h1
  rw [e5] at h0
  exact ⟨h0, h1, h2⟩

end Cert.Proof

end
-- ==== Proof.MobaSample.Block.lean ====
/- The sample's output-projection and feed-forward call's blocks, read at an index on extended reals. -/
module

public import proofs.«01_k».proof.Proof.LayerSample
public import proofs.«01_k».proof.Proof.Gen.MobaSampleIdeal.Value
public import Idealize.ShloMosaic.Lib.Pipeline.ReadBack
public import Idealize.ShloMosaic.Lib.Pipeline.ValueKit

@[expose] public section

set_option maxRecDepth 16384

noncomputable section

namespace Cert.MobaSampleIdeal.Pf

open Cert.MobaSampleIdeal Cert.MobaSampleIdeal.Gen Idealize.ShloMosaic Idealize.ShloMosaic.TcCoe Idealize.ShloMosaic.Tactic

section Whole
variable (x0 x1 : Vec Ideal S128x1024 .f32) (x2 : Vec Ideal S1024x1024 .bf16) (x3 : Vec Ideal S1x128x1024 .f32) (x4 : Vec Ideal S1x1024 .f32) (x5 x6 : Vec Ideal S1x128x1024 .f32) (r : Fin 128) (j : Fin 1024)

/-- Row `r` of the block after the projection, -/
abbrev mixB : Fin 1024 → EReal :=
  Layer.mix (fun d => x1 (ix2 r d)) (fun d => x0 (ix2 r d)) (fun d => x3 (ix3 0 r d)) (fun d j => x2 (ix2 d j))

/-- and normed and modulated. -/
abbrev hB : Fin 1024 → EReal :=
  Layer.pre (mixB x0 x1 x2 x3 r) (fun d => x4 (ix2 0 d)) (fun d => x5 (ix3 0 r d)) (fun d => x6 (ix3 0 r d))

theorem x1_at : (k0_pay3 x0 x2 x1 x3 (ix2 r j) : EReal) = mixB x0 x1 x2 x3 r j := by
  pointwise [k0_pay3]
  rfl

theorem h_at : (k0_pay1 (k0_pay4 x0 x2 x1 x3 x4 x5 x6) (ix2 r j) : EReal) = hB x0 x1 x2 x3 x4 x5 x6 r j := by
  pointwise [k0_pay1, k0_pay4]
  simp only [x1_at]
  rfl

end Whole

theorem acc_at (h : Vec Ideal S128x1024 .bf16) (wu : Vec Ideal S1024x1024 .bf16) (out : Vec Ideal S128x1024 .f32) (g2 : Vec Ideal S1x128x1024 .f32) (wd : Vec Ideal S1024x1024 .bf16) (r : Fin 128) (j : Fin 1024) :
    (k0_pay2 h wu out g2 wd (ix2 r j) : EReal) = out (ix2 r j) + g2 (ix3 0 r j) * ∑ f : Fin 1024, Layer.up (fun d => h (ix2 r d)) (fun d f => wu (ix2 d f)) f * wd (ix2 f j) := by
  pointwise [k0_pay2]
  rfl

section Cases
variable (c : Dev nD) (i : grid0.Coords) (a2 : Memref sig .tc .vmem S128x1024 .f32) (h2 : a2.IsWhole) (a3 : Memref sig .tc .vmem S128x1024 .f32) (h3 : a3.IsWhole) (a4 : Memref sig .tc .vmem S1024x1024 .bf16) (h4 : a4.IsWhole) (a5 : Memref sig .tc .vmem S1x128x1024 .f32) (h5 : a5.IsWhole) (a6 : Memref sig .tc .vmem S1x1024 .f32) (h6 : a6.IsWhole) (a7 : Memref sig .tc .vmem S1x128x1024 .f32) (h7 : a7.IsWhole) (a8 : Memref sig .tc .vmem S1x128x1024 .f32) (h8 : a8.IsWhole) (a9 : Memref sig .tc .vmem S1x128x1024 .f32) (h9 : a9.IsWhole) (a10 : Memref sig .tc .vmem S1024x1024 .bf16) (h10 : a10.IsWhole) (a11 : Memref sig .tc .vmem S1024x1024 .bf16) (h11 : a11.IsWhole) (a12 : Memref sig .tc .vmem S128x1024 .f32) (h12 : a12.IsWhole) (a13 : Memref sig .tc .vmem S128x1024 .bf16) (h13 : a13.IsWhole)
  (x0 : Vec Ideal S128x1024 .f32) (x1 : Vec Ideal S128x1024 .f32) (x2 : Vec Ideal S1024x1024 .bf16) (x3 : Vec Ideal S1x128x1024 .f32) (x4 : Vec Ideal S1x1024 .f32) (x5 : Vec Ideal S1x128x1024 .f32) (x6 : Vec Ideal S1x128x1024 .f32) (x7 : Vec Ideal S1x128x1024 .f32) (x8 : Vec Ideal S1024x1024 .bf16) (x9 : Vec Ideal S1024x1024 .bf16)

theorem out_B (hc : ¬cond0_0 i) (xo : Vec Ideal S128x1024 .f32) (xs : Vec Ideal S128x1024 .bf16) :
    out0_B_10 c i a2 h2 a3 h3 a4 h4 a5 h5 a6 h6 a7 h7 a8 h8 a9 h9 a10 h10 a11 h11 a12 h12 a13 h13 hc x0 x1 x2 x3 x4 x5 x6 x7 x8 x9 xo xs = k0_pay2 xs x8 xo x7 x9 := by
  unfold out0_B_10
  rw [View.read_writes_eq_canon _ _ _ (cover0_B_10 c i a2 h2 a3 h3 a4 h4 a5 h5 a6 h6 a7 h7 a8 h8 a9 h9 a10 h10 a11 h11 a12 h12 a13 h13 hc x0 x1 x2 x3 x4 x5 x6 x7 x8 x9 xo xs)]
  unfold kernelRun0_B
  dsimp only
  sl_unfold_words
  rw [View.canon_cons_unit_lit _ _ _ (by decide)]
  simp only [View.readAt_eq_ld, h13.read_unread, h12.read_unread, h10.read_unread, h11.read_unread, h9.read_unread]
  rw [View.ld_unit_lit _ xs (by decide), View.ld_unit_lit _ xo (by decide), View.ld_unit_lit _ x8 (by decide), View.ld_unit_lit _ x7 (by decide), View.ld_unit_lit _ x9 (by decide)]

theorem sout_A (hc : cond0_0 i) :
    sout0_A_0 c i a2 h2 a3 h3 a4 h4 a5 h5 a6 h6 a7 h7 a8 h8 a9 h9 a10 h10 a11 h11 a12 h12 a13 h13 hc x0 x1 x2 x3 x4 x5 x6 x7 x8 x9 = k0_pay1 (k0_pay4 x0 x2 x1 x3 x4 x5 x6) := by
  unfold sout0_A_0
  rw [View.read_writes_eq_canon _ _ _ (scover0_A_0 c i a2 h2 a3 h3 a4 h4 a5 h5 a6 h6 a7 h7 a8 h8 a9 h9 a10 h10 a11 h11 a12 h12 a13 h13 hc x0 x1 x2 x3 x4 x5 x6 x7 x8 x9)]
  unfold kernelRun0_A
  dsimp only
  sl_unfold_words
  simp only [View.readAt_eq_ld, h13.read_unread, h12.read_unread, h10.read_unread, h11.read_unread, h9.read_unread, h2.read_unread, h3.read_unread, h4.read_unread, h5.read_unread, h6.read_unread, h7.read_unread, h8.read_unread]
  rw [View.canon_cons_unit_lit _ _ _ (by decide), View.ld_unit_lit _ x0 (by decide), View.ld_unit_lit _ x1 (by decide), View.ld_unit_lit _ x2 (by decide), View.ld_unit_lit _ x3 (by decide), View.ld_unit_lit _ x4 (by decide), View.ld_unit_lit _ x5 (by decide), View.ld_unit_lit _ x6 (by decide)]

theorem out_A (hc : cond0_0 i) :
    out0_A_10 c i a2 h2 a3 h3 a4 h4 a5 h5 a6 h6 a7 h7 a8 h8 a9 h9 a10 h10 a11 h11 a12 h12 a13 h13 hc x0 x1 x2 x3 x4 x5 x6 x7 x8 x9 = k0_pay2 (k0_pay1 (k0_pay4 x0 x2 x1 x3 x4 x5 x6)) x8 (k0_pay3 x0 x2 x1 x3) x7 x9 := by
  unfold out0_A_10
  rw [View.read_writes_eq_canon _ _ _ (cover0_A_10 c i a2 h2 a3 h3 a4 h4 a5 h5 a6 h6 a7 h7 a8 h8 a9 h9 a10 h10 a11 h11 a12 h12 a13 h13 hc x0 x1 x2 x3 x4 x5 x6 x7 x8 x9)]
  unfold kernelRun0_A
  dsimp only
  sl_unfold_words
  rw [View.canon_cons_unit_lit _ _ _ (by decide), View.readCov_eq_canon', View.readCov_eq_canon']
  simp only [View.readAt_eq_ld, h13.read_unread, h12.read_unread, h10.read_unread, h11.read_unread, h9.read_unread, h2.read_unread, h3.read_unread, h4.read_unread, h5.read_unread, h6.read_unread, h7.read_unread, h8.read_unread]
  rw [View.ld_unit_lit _ x0 (by decide), View.ld_unit_lit _ x1 (by decide), View.ld_unit_lit _ x2 (by decide), View.ld_unit_lit _ x3 (by decide), View.ld_unit_lit _ x4 (by decide), View.ld_unit_lit _ x5 (by decide), View.ld_unit_lit _ x6 (by decide), View.ld_unit_lit _ x7 (by decide), View.ld_unit_lit _ x8 (by decide), View.ld_unit_lit _ x9 (by decide)]
  exact congrArg₂ (fun a b => k0_pay2 a x8 b x7 x9) ((View.ld_unit_lit _ _ (by decide)).trans (View.canon_cons_unit_lit _ _ _ (by decide))) ((View.ld_unit_lit _ _ (by decide)).trans (View.canon_cons_unit_lit _ _ _ (by decide)))

end Cases

end Cert.MobaSampleIdeal.Pf

end
-- ==== Proof.MobaSample.Arrays.lean ====
/- What the sample's output-projection and feed-forward call's array holds after the run, on extended reals. -/
module

public import proofs.«01_k».proof.Proof.MobaSample.Block
public import proofs.«01_k».proof.Proof.FeedForward
public import Idealize.ShloMosaic.Lib.Claim
public import Idealize.ShloMosaic.Lib.Pipeline.ValueKit

@[expose] public section

set_option maxRecDepth 16384

noncomputable section

namespace Cert.MobaSampleIdeal.Pf

open Cert.MobaSampleIdeal Cert.MobaSampleIdeal.Gen Idealize.ShloMosaic Idealize.ShloMosaic.TcCoe Idealize.ShloMosaic.Tactic
open Idealize.SL.Sem
open Idealize.ShloMosaic.Pipeline (Dat)

variable (m : (ℓ : Loc nD τ sig) → Buf (Elt Ideal) ℓ)

theorem maps : ∀ t : Fin cfg0.N, win0_0.index t = ![0, 0]
    ∧ win0_1.index t = ![0, 0]
    ∧ win0_2.index t = ![0, 0]
    ∧ win0_3.index t = ![0, 0, 0]
    ∧ win0_4.index t = ![0, 0]
    ∧ win0_5.index t = ![0, 0, 0]
    ∧ win0_6.index t = ![0, 0, 0]
    ∧ win0_7.index t = ![0, 0, 0]
    ∧ win0_8.index t = ![0, t.val]
    ∧ win0_9.index t = ![t.val, 0]
    ∧ win0_10.index t = ![0, 0] :=
  (by decide +kernel : ∀ t : Fin grid0.N, _)

theorem points (t : Fin cfg0.N) : t.val < 4 := lt_of_lt_of_eq t.isLt (show cfg0.N = 4 from N_0)

abbrev arg0 (c : Dev nD) : (⟨2, ![128, 1024]⟩ : Shape).Idx → EReal := m ((c : Thread nD τ).loc main_arg0)
abbrev arg1 (c : Dev nD) : (⟨2, ![128, 1024]⟩ : Shape).Idx → EReal := m ((c : Thread nD τ).loc main_arg1)
abbrev arg2 (c : Dev nD) : (⟨2, ![1024, 1024]⟩ : Shape).Idx → EReal := m ((c : Thread nD τ).loc main_arg2)
abbrev arg3 (c : Dev nD) : (⟨2, ![32, 1024]⟩ : Shape).Idx → EReal := m ((c : Thread nD τ).loc main_arg3)
abbrev arg4 (c : Dev nD) : (⟨1, ![1024]⟩ : Shape).Idx → EReal := m ((c : Thread nD τ).loc main_arg4)
abbrev arg5 (c : Dev nD) : (⟨2, ![32, 1024]⟩ : Shape).Idx → EReal := m ((c : Thread nD τ).loc main_arg5)
abbrev arg6 (c : Dev nD) : (⟨2, ![32, 1024]⟩ : Shape).Idx → EReal := m ((c : Thread nD τ).loc main_arg6)
abbrev arg7 (c : Dev nD) : (⟨2, ![32, 1024]⟩ : Shape).Idx → EReal := m ((c : Thread nD τ).loc main_arg7)
abbrev arg8 (c : Dev nD) : (⟨2, ![1024, 4096]⟩ : Shape).Idx → EReal := m ((c : Thread nD τ).loc main_arg8)
abbrev arg9 (c : Dev nD) : (⟨2, ![4096, 1024]⟩ : Shape).Idx → EReal := m ((c : Thread nD τ).loc main_arg9)

/-- Every row's vector: its sequence's, one of 4 rows each. -/
def rep (x : FVec Ideal S32x1024 .f32) : FVec Ideal S1x128x1024 .f32 :=
  shapeCast S1x128x1024 (shapeCast S128x1024 (broadcastInDim S32x4x1024 ![0, 2] bcast_S32x1024_S32x4x1024_0_2 x) shapeCasts_S32x4x1024_S128x1024) shapeCasts_S128x1024_S1x128x1024

theorem rep_at (x : FVec Ideal S32x1024 .f32) (r : Fin 128) (d : Fin 1024) : (rep x (ix3 0 r d) : EReal) = x (ix2 ⟨r.val / 4, by omega⟩ d) := by
  pointwise [rep]

theorem V_g1 (c : Dev nD) : (V m c main_v3 : S1x128x1024.Idx → EReal) = rep (arg3 m c) := by
  show StableHlo.after hostOps0 (fun b => m (c, b)) (Proc.tc.devRef main_v3) = _
  simp only [hostOps0]
  after_results
  rfl

theorem V_sh (c : Dev nD) : (V m c main_v7 : S1x128x1024.Idx → EReal) = rep (arg5 m c) := by
  show StableHlo.after hostOps0 (fun b => m (c, b)) (Proc.tc.devRef main_v7) = _
  simp only [hostOps0]
  after_results
  rfl

theorem V_sc (c : Dev nD) : (V m c main_v10 : S1x128x1024.Idx → EReal) = rep (arg6 m c) := by
  show StableHlo.after hostOps0 (fun b => m (c, b)) (Proc.tc.devRef main_v10) = _
  simp only [hostOps0]
  after_results
  rfl

theorem V_g2 (c : Dev nD) : (V m c main_v13 : S1x128x1024.Idx → EReal) = rep (arg7 m c) := by
  show StableHlo.after hostOps0 (fun b => m (c, b)) (Proc.tc.devRef main_v13) = _
  simp only [hostOps0]
  after_results
  rfl

theorem V_g (c : Dev nD) : (V m c main_v4 : S1x1024.Idx → EReal) = shapeCast S1x1024 (arg4 m c : FVec Ideal S1024 .f32) shapeCasts_S1024_S1x1024 := by
  show StableHlo.after hostOps0 (fun b => m (c, b)) (Proc.tc.devRef main_v4) = _
  simp only [hostOps0]
  after_results
  rfl

theorem blk_o (c : Dev nD) (t : Fin cfg0.N) (r : Fin 128) (d : Fin 1024) :
    (iblk m c 0 t (ix2 r d : S128x1024.Idx) : EReal) = arg0 m c (ix2 r d) := by
  have e := (maps t).1
  blk_ext [iblk, V, e]

theorem blk_x (c : Dev nD) (t : Fin cfg0.N) (r : Fin 128) (d : Fin 1024) :
    (iblk m c 1 t (ix2 r d : S128x1024.Idx) : EReal) = arg1 m c (ix2 r d) := by
  have e := (maps t).2.1
  blk_ext [iblk, V, e]

theorem blk_wo (c : Dev nD) (t : Fin cfg0.N) (d j : Fin 1024) :
    (iblk m c 2 t (ix2 d j : S1024x1024.Idx) : EReal) = arg2 m c (ix2 d j) := by
  have e := (maps t).2.2.1
  blk_ext [iblk, V, e]

theorem blk_g (c : Dev nD) (t : Fin cfg0.N) (d : Fin 1024) :
    (iblk m c 4 t (ix2 0 d : S1x1024.Idx) : EReal) = arg4 m c (ix1 d) := by
  have e := (maps t).2.2.2.2.1
  have hi : (((cfg0.win 4).blk t).view.emb (ix2 0 d : S1x1024.Idx) : S1x1024.Idx) = ix2 0 d := by blk_ext [e]
  refine (congrArg (V m c main_v4 : S1x1024.Idx → EReal) hi).trans ?_
  rw [V_g]
  pointwise []

theorem blk_g1 (c : Dev nD) (t : Fin cfg0.N) (r : Fin 128) (d : Fin 1024) :
    (iblk m c 3 t (ix3 0 r d : S1x128x1024.Idx) : EReal) = arg3 m c (ix2 ⟨r.val / 4, by omega⟩ d) := by
  have e := (maps t).2.2.2.1
  have hi : (((cfg0.win 3).blk t).view.emb (ix3 0 r d : S1x128x1024.Idx) : S1x128x1024.Idx) = ix3 0 r d := by blk_ext [e]
  refine (congrArg (V m c main_v3 : S1x128x1024.Idx → EReal) hi).trans ?_
  rw [V_g1]
  exact rep_at _ r d

theorem blk_sh (c : Dev nD) (t : Fin cfg0.N) (r : Fin 128) (d : Fin 1024) :
    (iblk m c 5 t (ix3 0 r d : S1x128x1024.Idx) : EReal) = arg5 m c (ix2 ⟨r.val / 4, by omega⟩ d) := by
  have e := (maps t).2.2.2.2.2.1
  have hi : (((cfg0.win 5).blk t).view.emb (ix3 0 r d : S1x128x1024.Idx) : S1x128x1024.Idx) = ix3 0 r d := by blk_ext [e]
  refine (congrArg (V m c main_v7 : S1x128x1024.Idx → EReal) hi).trans ?_
  rw [V_sh]
  exact rep_at _ r d

theorem blk_sc (c : Dev nD) (t : Fin cfg0.N) (r : Fin 128) (d : Fin 1024) :
    (iblk m c 6 t (ix3 0 r d : S1x128x1024.Idx) : EReal) = arg6 m c (ix2 ⟨r.val / 4, by omega⟩ d) := by
  have e := (maps t).2.2.2.2.2.2.1
  have hi : (((cfg0.win 6).blk t).view.emb (ix3 0 r d : S1x128x1024.Idx) : S1x128x1024.Idx) = ix3 0 r d := by blk_ext [e]
  refine (congrArg (V m c main_v10 : S1x128x1024.Idx → EReal) hi).trans ?_
  rw [V_sc]
  exact rep_at _ r d

theorem blk_g2 (c : Dev nD) (t : Fin cfg0.N) (r : Fin 128) (d : Fin 1024) :
    (iblk m c 7 t (ix3 0 r d : S1x128x1024.Idx) : EReal) = arg7 m c (ix2 ⟨r.val / 4, by omega⟩ d) := by
  have e := (maps t).2.2.2.2.2.2.2.1
  have hi : (((cfg0.win 7).blk t).view.emb (ix3 0 r d : S1x128x1024.Idx) : S1x128x1024.Idx) = ix3 0 r d := by blk_ext [e]
  refine (congrArg (V m c main_v13 : S1x128x1024.Idx → EReal) hi).trans ?_
  rw [V_g2]
  exact rep_at _ r d

theorem blk_wu (c : Dev nD) (t : Fin cfg0.N) (d f : Fin 1024) :
    (iblk m c 8 t (ix2 d f : S1024x1024.Idx) : EReal) = arg8 m c (ix2 d (Layer.col (t.val % 4) f)) := by
  have e := (maps t).2.2.2.2.2.2.2.2.1
  have ec : Layer.col (t.val % 4) f = ⟨1024 * (t.val % 4) + f.val, by omega⟩ := Fin.ext (by show (1024 * (t.val % 4) + f.val) % 4096 = 1024 * (t.val % 4) + f.val; omega)
  rw [ec]
  blk_ext [iblk, V, e]

theorem blk_wd (c : Dev nD) (t : Fin cfg0.N) (f j : Fin 1024) :
    (iblk m c 9 t (ix2 f j : S1024x1024.Idx) : EReal) = arg9 m c (ix2 (Layer.col (t.val % 4) f) j) := by
  have e := (maps t).2.2.2.2.2.2.2.2.2.1
  have ec : Layer.col (t.val % 4) f = ⟨1024 * (t.val % 4) + f.val, by omega⟩ := Fin.ext (by show (1024 * (t.val % 4) + f.val) % 4096 = 1024 * (t.val % 4) + f.val; omega)
  rw [ec]
  blk_ext [iblk, V, e]

/-- Row `R` after the projection, -/
abbrev x1Row (c : Dev nD) (R : Fin 128) : Fin 1024 → EReal := Layer.Sample.mixRow (arg0 m c) (arg1 m c) (arg2 m c) (arg3 m c) R

/-- normed and modulated, -/
abbrev preRow (c : Dev nD) (R : Fin 128) : Fin 1024 → EReal :=
  Layer.pre (x1Row m c R) (fun d => arg4 m c (ix1 d)) (fun d => arg5 m c (ix2 ⟨R.val / 4, by omega⟩ d)) (fun d => arg6 m c (ix2 ⟨R.val / 4, by omega⟩ d))

/-- and with the first quarters `0 … k` of the feed-forward sum. -/
abbrev accRow (c : Dev nD) (R : Fin 128) (k : ℕ) (j : Fin 1024) : EReal :=
  Layer.quarters (x1Row m c R) (preRow m c R) (fun d => arg7 m c (ix2 ⟨R.val / 4, by omega⟩ d)) (fun d f => arg8 m c (ix2 d f)) (fun f j => arg9 m c (ix2 f j)) j k

theorem x1_eq (c : Dev nD) (t : Fin cfg0.N) (r : Fin 128) :
    mixB (iblk m c 0 t) (iblk m c 1 t) (iblk m c 2 t) (iblk m c 3 t) r = x1Row m c r := by
  unfold mixB x1Row Layer.Sample.mixRow
  simp only [blk_o, blk_x, blk_wo, blk_g1]

theorem pre_eq (c : Dev nD) (t : Fin cfg0.N) (r : Fin 128) :
    hB (iblk m c 0 t) (iblk m c 1 t) (iblk m c 2 t) (iblk m c 3 t) (iblk m c 4 t) (iblk m c 5 t) (iblk m c 6 t) r = preRow m c r := by
  unfold hB preRow
  rw [x1_eq]
  simp only [blk_g, blk_sh, blk_sc]

theorem quarter_eq (c : Dev nD) (t : Fin cfg0.N) (h : Fin 1024 → EReal) (j : Fin 1024) :
    (∑ f : Fin 1024, Layer.up h (fun d f => iblk m c 8 t (ix2 d f : S1024x1024.Idx)) f * iblk m c 9 t (ix2 f j : S1024x1024.Idx) : EReal)
      = Layer.quarter h (fun d f => arg8 m c (ix2 d f)) (fun f j => arg9 m c (ix2 f j)) j (t.val % 4) := by
  unfold Layer.quarter
  simp only [blk_wu, blk_wd]

/-- What the first point leaves. -/
theorem outs_A (c : Dev nD) (t : Fin cfg0.N) (h0 : t.val % 4 = 0) :
    outsAt0 m c t.val t.isLt = (k0_pay2 (F := Ideal) (k0_pay1 (F := Ideal) (k0_pay4 (iblk m c 0 t) (iblk m c 2 t) (iblk m c 1 t) (iblk m c 3 t) (iblk m c 4 t) (iblk m c 5 t) (iblk m c 6 t))) (iblk m c 8 t) (k0_pay3 (F := Ideal) (iblk m c 0 t) (iblk m c 2 t) (iblk m c 1 t) (iblk m c 3 t)) (iblk m c 7 t) (iblk m c 9 t), k0_pay1 (F := Ideal) (k0_pay4 (iblk m c 0 t) (iblk m c 2 t) (iblk m c 1 t) (iblk m c 3 t) (iblk m c 4 t) (iblk m c 5 t) (iblk m c 6 t))) :=
  (outsAt0_A m c t h0).trans (congrArg₂ Prod.mk
    (out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) ((hcond0_0 t).mpr h0))
    (sout_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) ((hcond0_0 t).mpr h0)))

/-- What a later point leaves, over what the point before left. -/
theorem outs_B (c : Dev nD) (t : Fin cfg0.N) (h0 : ¬t.val % 4 = 0) (hp : t.val - 1 < cfg0.N) :
    outsAt0 m c t.val t.isLt = (k0_pay2 (F := Ideal) (outsAt0 m c (t.val - 1) hp).2 (iblk m c 8 t) (outsAt0 m c (t.val - 1) hp).1 (iblk m c 7 t) (iblk m c 9 t), (outsAt0 m c (t.val - 1) hp).2) :=
  (outsAt0_B m c t h0).trans (congrArg₂ Prod.mk
    (out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (fun h => h0 ((hcond0_0 t).mp h)) (outsAt0 m c (t.val - 1) hp).1 (outsAt0 m c (t.val - 1) hp).2)
    rfl)

/-- The first point leaves the first quarter, and the normed rows. -/
theorem first_eq (c : Dev nD) (t : Fin cfg0.N) (h0 : t.val % 4 = 0) (r : Fin 128) (j : Fin 1024) :
    ((outsAt0 m c t.val t.isLt).1 (ix2 r j : S128x1024.Idx) : EReal) = accRow m c r (t.val % 4) j
    ∧ ((outsAt0 m c t.val t.isLt).2 (ix2 r j : S128x1024.Idx) : EReal) = preRow m c r j := by
  have hx : (k0_pay3 (F := Ideal) (iblk m c 0 t) (iblk m c 2 t) (iblk m c 1 t) (iblk m c 3 t) (ix2 r j : S128x1024.Idx) : EReal) = x1Row m c r j :=
    (x1_at _ _ _ _ r j).trans (congrFun (x1_eq m c t r) j)
  have hh : (fun d => (k0_pay1 (F := Ideal) (k0_pay4 (iblk m c 0 t) (iblk m c 2 t) (iblk m c 1 t) (iblk m c 3 t) (iblk m c 4 t) (iblk m c 5 t) (iblk m c 6 t)) (ix2 r d : S128x1024.Idx) : EReal)) = preRow m c r :=
    (funext fun d => h_at _ _ _ _ _ _ _ r d).trans (pre_eq m c t r)
  have hq := quarter_eq m c t (preRow m c r) j
  rw [outs_A m c t h0]
  refine ⟨(acc_at _ _ _ _ _ r j).trans ?_, congrFun hh j⟩
  rw [hx, hh, hq, blk_g2, h0]
  unfold accRow
  rw [Layer.quarters]

/-- After each point, the output's block holds the quarters so far, and the scratch the normed rows. -/
theorem outs_eq (c : Dev nD) : ∀ (n : ℕ) (t : Fin cfg0.N) (e : t.val = n) (r : Fin 128) (j : Fin 1024),
    ((outsAt0 m c t.val t.isLt).1 (ix2 r j : S128x1024.Idx) : EReal) = accRow m c r (t.val % 4) j
    ∧ ((outsAt0 m c t.val t.isLt).2 (ix2 r j : S128x1024.Idx) : EReal) = preRow m c r j := by
  intro n
  induction n with
  | zero => exact fun t e => first_eq m c t (by omega)
  | succ n ih =>
    intro t e r j
    by_cases h0 : t.val % 4 = 0
    · exact first_eq m c t h0 r j
    have hp := points t
    have hpr : t.val - 1 < cfg0.N := Nat.lt_of_le_of_lt (Nat.sub_le _ _) t.isLt
    have hq := ih ⟨t.val - 1, hpr⟩ (by show t.val - 1 = n; omega)
    have e4 : (t.val - 1) / 4 = t.val / 4 := by omega
    have em : t.val % 4 = (t.val - 1) % 4 + 1 := by omega
    simp only [e4] at hq
    rw [outs_B m c t h0 hpr]
    refine ⟨(acc_at _ _ _ _ _ r j).trans ?_, (hq r j).2⟩
    have hu := quarter_eq m c t (preRow m c r) j
    have hh : (fun d => ((outsAt0 m c (t.val - 1) hpr).2 (ix2 r d : S128x1024.Idx) : EReal)) = preRow m c r := funext fun d => (hq r d).2
    rw [(hq r j).1, hh, hu, blk_g2]
    rw [em]
    unfold accRow
    rw [Layer.quarters]

/-- The result, before the quarters are joined. -/
def acc (c : Dev nD) : (⟨2, ![128, 1024]⟩ : Shape).Idx → EReal := fun i => accRow m c (i 0) 3 (i 1)

theorem final (c : Dev nD) : (dats m 0 c).arrAt 10 cfg0.N = (acc m c : Buf (Elt Ideal) ((c : Thread nD τ).loc main_v16)) := by
  refine (dats m 0 c).arrAt_eq_of_covers 10 _ (by decide +kernel) fun t hfl y => ?_
  have hm : t.val % 4 = 3 := (flush0_10 t).mp hfl
  blk_simp
  rw [after0_10]
  have e := (maps t).2.2.2.2.2.2.2.2.2.2
  obtain ⟨r, j, rfl⟩ : ∃ (r : Fin 128) (j : Fin 1024), y = (ix2 r j : S128x1024.Idx) := ⟨y 0, y 1, eq_ix2 y⟩
  refine (outs_eq m c t.val t rfl r j).1.trans ?_
  have hi : (((cfg0.win 10).blk t).view.emb (ix2 r j : S128x1024.Idx) : S128x1024.Idx) = ix2 r j := by blk_ext [e]
  refine Eq.trans ?_ (congrArg (acc m c) hi).symm
  rw [hm]
  rfl

/-- Every entry of every argument is a number. -/
structure Numbers (c : Dev nD) : Prop where
  o : ∀ i, Layer.IsReal (arg0 m c i)
  x : ∀ i, Layer.IsReal (arg1 m c i)
  wo : ∀ i, Layer.IsReal (arg2 m c i)
  g1 : ∀ i, Layer.IsReal (arg3 m c i)
  g : ∀ i, Layer.IsReal (arg4 m c i)
  sh : ∀ i, Layer.IsReal (arg5 m c i)
  sc : ∀ i, Layer.IsReal (arg6 m c i)
  g2 : ∀ i, Layer.IsReal (arg7 m c i)
  wu : ∀ i, Layer.IsReal (arg8 m c i)
  wd : ∀ i, Layer.IsReal (arg9 m c i)

/-- Of numbers, the quarters join. -/
theorem acc_eq (c : Dev nD) (h : Numbers m c) :
    acc m c = Layer.Sample.moba (arg0 m c) (arg1 m c) (arg2 m c) (arg3 m c) (arg4 m c) (arg5 m c) (arg6 m c) (arg7 m c) (arg8 m c) (arg9 m c) :=
  funext fun i => Layer.quarters_eq _ _ _ _ _ (i 1)
    (Layer.pre_real (Layer.mix_real (fun _ => h.x _) (fun _ => h.o _) (fun _ => h.g1 _) (fun _ _ => h.wo _)) (fun _ => h.g _) (fun _ => h.sh _) (fun _ => h.sc _))
    (fun _ => h.g2 _) (fun _ _ => h.wu _) (fun _ _ => h.wd _)

/-- The call's run: its result, and the arguments unchanged. -/
theorem run (ρ : Dev nD → PrngReg) (hn : ∀ c, Numbers m c) :
    θ_run defs (onTc (τ := τ) (main (F := Ideal))) ⟨m, fun _ => 0, ρ⟩ (fun r => ∀ c : Dev nD,
      r.2.mem ((c.tc : Thread nD τ).loc main_v16) = Layer.Sample.moba (arg0 m c) (arg1 m c) (arg2 m c) (arg3 m c) (arg4 m c) (arg5 m c) (arg6 m c) (arg7 m c) (arg8 m c) (arg9 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans ((final m c).trans (acc_eq m c (hn c))), (h c).2⟩) (Value.run_blocks m ρ)

end Cert.MobaSampleIdeal.Pf

end
-- ==== Proof.MobaSample.Ref.lean ====
/- The sample's output-projection and feed-forward reference, read at an index on extended reals. -/
module

public import proofs.«01_k».proof.Proof.LayerSample
public import proofs.«01_k».proof.Proof.Gen.MobaSampleRefIdeal.Run
public import Idealize.ShloMosaic.Lib.Pipeline.ValueKit

@[expose] public section

set_option maxRecDepth 16384

noncomputable section

namespace Cert.MobaSampleRefIdeal.Pf

open Cert.MobaSampleRefIdeal Cert.MobaSampleRefIdeal.Gen Idealize.ShloMosaic Idealize.ShloMosaic.TcCoe Idealize.ShloMosaic.Tactic

variable (o : FVec Ideal S128x1024 .f32) (x : FVec Ideal S128x1024 .f32) (wo : FVec Ideal S1024x1024 .f32) (g1 : FVec Ideal S32x1024 .f32)
  (g : FVec Ideal S1024 .f32) (sh sc g2 : FVec Ideal S32x1024 .f32) (wu : FVec Ideal S1024x4096 .f32) (wd : FVec Ideal S4096x1024 .f32)

/-- A per-sequence row over its sequence. -/
abbrev seqRow (a : FVec Ideal S32x1024 .f32) : FVec Ideal S32x4x1024 .f32 :=
  broadcastInDim S32x4x1024 ![0, 1, 2] bcast_S32x1x1024_S32x4x1024_0_1_2 (broadcastInDim S32x1x1024 ![0, 2] bcast_S32x1024_S32x1x1024_0_2 a)

/-- The rows plus the projected, gated mixing. -/
def x1 : FVec Ideal S32x4x1024 .f32 :=
  addf (shapeCast _ x shapeCasts_S128x1024_S32x4x1024) (mulf (seqRow g1)
    (Host.dotGeneral dot_S32x4x1024_S1024x1024_S32x4x1024_2_0_01_1_n_n none (shapeCast _ o shapeCasts_S128x1024_S32x4x1024) wo))

/-- The mean square of every row. -/
def ms (y : FVec Ideal S32x4x1024 .f32) : FVec Ideal S32x4x1 .f32 :=
  Host.divf (broadcastInDim S32x4x1 ![0, 1] bcast_S32x4_S32x4x1_0_1 (Host.reduceAdd (mulf y y) (constant S_ .f32 0x00000000#32) reducesTo_S32x4x1024_S32x4_d2 h_S_))
    (broadcastInDim S32x4x1 ![] bcast_S_S32x4x1 (constant S_ .f32 0x44800000#32))

/-- The normalized, scaled and shifted rows. -/
def h (y : FVec Ideal S32x4x1024 .f32) : FVec Ideal S32x4x1024 .f32 :=
  addf (mulf (mulf (mulf y (broadcastInDim S32x4x1024 ![0, 1, 2] bcast_S32x4x1_S32x4x1024_0_1_2 (Host.rsqrt (addf (ms y) (broadcastInDim S32x4x1 ![] bcast_S_S32x4x1 (constant S_ .f32 0x358637BD#32))))))
      (broadcastInDim S32x4x1024 ![0, 1, 2] bcast_S1x1x1024_S32x4x1024_0_1_2 (broadcastInDim S1x1x1024 ![2] bcast_S1024_S1x1x1024_2 g)))
    (broadcastInDim S32x4x1024 ![0, 1, 2] bcast_S32x1x1024_S32x4x1024_0_1_2 (addf (broadcastInDim S32x1x1024 ![] bcast_S_S32x1x1024 (constant S_ .f32 0x3F800000#32)) (broadcastInDim S32x1x1024 ![0, 2] bcast_S32x1024_S32x1x1024_0_2 sc))))
    (seqRow sh)

/-- The hidden values, rectified. -/
def u (y : FVec Ideal S32x4x1024 .f32) : FVec Ideal S32x4x4096 .f32 :=
  maximumf (Host.dotGeneral dot_S32x4x1024_S1024x4096_S32x4x4096_2_0_01_1_n_n none (h g sh sc y) wu) (broadcastInDim S32x4x4096 ![] bcast_S_S32x4x4096 (constant S_ .f32 0x00000000#32))

/-- The result. -/
def res (y : FVec Ideal S32x4x1024 .f32) : FVec Ideal S128x1024 .f32 :=
  shapeCast _ (addf y (mulf (seqRow g2) (Host.dotGeneral dot_S32x4x4096_S4096x1024_S32x4x1024_2_0_01_1_n_n none (mulf (u g sh sc wu y) (u g sh sc wu y)) wd))) shapeCasts_S32x4x1024_S128x1024

theorem x1_at (b : Fin 32) (t : Fin 4) (d : Fin 1024) :
    (x1 o x wo g1 (ix3 b t d) : EReal) = Layer.mix (fun d => x (ix2 ⟨b.val * 4 + t.val, by omega⟩ d)) (fun d => o (ix2 ⟨b.val * 4 + t.val, by omega⟩ d)) (fun d => g1 (ix2 b d)) (fun d j => wo (ix2 d j)) d := by
  pointwise [x1]
  rfl

theorem h_at (y : FVec Ideal S32x4x1024 .f32) (b : Fin 32) (t : Fin 4) (d : Fin 1024) :
    (h g sh sc y (ix3 b t d) : EReal) = Layer.pre (fun d => y (ix3 b t d)) (fun d => g (ix1 d)) (fun d => sh (ix2 b d)) (fun d => sc (ix2 b d)) d := by
  have e : (ms y (ix3 b t 0) : EReal) = Layer.ms fun d => y (ix3 b t d) := by
    pointwise [ms]
    rfl
  pointwise [h]
  rw [e]
  rfl

theorem res_at (y : FVec Ideal S32x4x1024 .f32) (R : Fin 128) (j : Fin 1024) :
    (res g sh sc g2 wu wd y (ix2 R j) : EReal) = Layer.ff (fun d => y (ix3 ⟨R.val / 4, by omega⟩ ⟨R.val % 4, by omega⟩ d)) (fun d => g (ix1 d)) (fun d => sh (ix2 ⟨R.val / 4, by omega⟩ d))
      (fun d => sc (ix2 ⟨R.val / 4, by omega⟩ d)) (fun d => g2 (ix2 ⟨R.val / 4, by omega⟩ d)) (fun d f => wu (ix2 d f)) (fun f j => wd (ix2 f j)) j := by
  pointwise [res, u]
  simp only [h_at]
  rfl

theorem seq_row (R : Fin 128) (h : R.val / 4 * 4 + R.val % 4 < 128) : (⟨R.val / 4 * 4 + R.val % 4, h⟩ : Fin 128) = R := Fin.ext (by show R.val / 4 * 4 + R.val % 4 = R.val; omega)

theorem res_eq : (res g sh sc g2 wu wd (x1 o x wo g1) : S128x1024.Idx → EReal) = Layer.Sample.moba o x wo g1 g sh sc g2 wu wd := by
  funext i
  obtain ⟨R, j, rfl⟩ : ∃ (R : Fin 128) (j : Fin 1024), i = (ix2 R j : S128x1024.Idx) := ⟨i 0, i 1, eq_ix2 i⟩
  rw [res_at]
  simp only [x1_at, seq_row]
  rfl

open Idealize.SL.Sem

variable (m : (ℓ : Loc nD τ sig) → Buf (Elt Ideal) ℓ)

/-- The reference's run: the result, and the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v36) = Layer.Sample.moba (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => by
    obtain ⟨h0, h⟩ := h c
    refine ⟨h0.trans ?_, h⟩
    unfold Value.res_main_v36
    exact res_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) (Value.run m ρ)

end Cert.MobaSampleRefIdeal.Pf

end
-- ==== Proof.MobaSample.Precond.lean ====
/- The precondition `numbers_sample` in words: every entry of every argument is a number. -/
module

public import proofs.«01_k».proof.Defs
public import proofs.«01_k».proof.Proof.Moba.Precond
public import Idealize.ShloMosaic.Lib.Pipeline.ValueKit
public import Idealize.ShloMosaic.Lib.ReduceAll

@[expose] public section

noncomputable section

namespace Cert.Pre_numbers_sample

open Idealize.ShloMosaic

instance facts : Facts := ⟨by decide, by decide, by decide, by decide, by decide, by decide, by decide, by decide, by decide, by decide, by decide, by decide, by decide, by decide⟩

open Facts
open Cert.Pre_numbers (real_of_all and_one)

/-- What the predicate says of the ten arguments. -/
theorem allReal (a0 : FVec Ideal S128x1024 .f32) (a1 : FVec Ideal S128x1024 .f32) (a2 : FVec Ideal S1024x1024 .f32) (a3 : FVec Ideal S32x1024 .f32) (a4 : FVec Ideal S1024 .f32) (a5 : FVec Ideal S32x1024 .f32) (a6 : FVec Ideal S32x1024 .f32) (a7 : FVec Ideal S32x1024 .f32) (a8 : FVec Ideal S1024x4096 .f32) (a9 : FVec Ideal S4096x1024 .f32)
    (h : fn (F := Ideal) a0 a1 a2 a3 a4 a5 a6 a7 a8 a9 = fun _ => 1#1) :
    (∀ i, Layer.IsReal (a0 i)) ∧ (∀ i, Layer.IsReal (a1 i)) ∧ (∀ i, Layer.IsReal (a2 i)) ∧ (∀ i, Layer.IsReal (a3 i)) ∧ (∀ i, Layer.IsReal (a4 i)) ∧ (∀ i, Layer.IsReal (a5 i)) ∧ (∀ i, Layer.IsReal (a6 i)) ∧ (∀ i, Layer.IsReal (a7 i)) ∧ (∀ i, Layer.IsReal (a8 i)) ∧ (∀ i, Layer.IsReal (a9 i)) := by
  have h9 := congrFun h ix0
  obtain ⟨h8, e9⟩ := and_one _ _ h9
  obtain ⟨h7, e8⟩ := and_one _ _ h8
  obtain ⟨h6, e7⟩ := and_one _ _ h7
  obtain ⟨h5, e6⟩ := and_one _ _ h6
  obtain ⟨h4, e5⟩ := and_one _ _ h5
  obtain ⟨h3, e4⟩ := and_one _ _ h4
  obtain ⟨h2, e3⟩ := and_one _ _ h3
  obtain ⟨h1, e2⟩ := and_one _ _ h2
  obtain ⟨h0, e1⟩ := and_one _ _ h1
  exact ⟨real_of_all a0 _ _ h0, real_of_all a1 _ _ e1, real_of_all a2 _ _ e2, real_of_all a3 _ _ e3, real_of_all a4 _ _ e4, real_of_all a5 _ _ e5, real_of_all a6 _ _ e6, real_of_all a7 _ _ e7, real_of_all a8 _ _ e8, real_of_all a9 _ _ e9⟩

end Cert.Pre_numbers_sample

end
-- ==== Proof.MobaSample.Agree.lean ====
/- The attention layer's closing call over the sample and its reference end with the same rows. -/
module

public import proofs.«01_k».proof.Defs
public import proofs.«01_k».proof.Proof.MobaSample.Arrays
public import proofs.«01_k».proof.Proof.MobaSample.Ref
public import proofs.«01_k».proof.Proof.MobaSample.Precond
public import Idealize.ShloMosaic.Adequacy
public import Idealize.ShloMosaic.Init

@[expose] public section

noncomputable section

namespace Cert.Proof

open Idealize.ShloMosaic Idealize.SL.Sem

theorem mobaSample_frame_reference : Cert.quiescent_MobaSampleRefIdeal := fun m ρ _ =>
  (θ_run Cert.MobaSampleRefIdeal.defs _ _).mono (fun r h => ⟨fun c => (h c).2, Idealize.ShloMosaic.sem_eq_zero_of_no_sems (by decide) r.2⟩)
    (Cert.MobaSampleRefIdeal.Value.run m ρ)

theorem mobaSample_frame_reference_pre : Cert.quiescent_MobaSampleRefIdeal_pre_numbers_sample := fun m ρ _ =>
  (θ_run Cert.MobaSampleRefIdeal.defs _ _).mono (fun r h => ⟨fun c => (h c).2, Idealize.ShloMosaic.sem_eq_zero_of_no_sems (by decide) r.2⟩)
    (Cert.MobaSampleRefIdeal.Value.run m ρ)

theorem mobaSample : Cert.algebraic_MobaSampleIdeal_MobaSampleRefIdeal_pre_numbers_sample := by
  intro m ρ m' ρ' hpre hagree
  have hn : ∀ c, Cert.MobaSampleIdeal.Pf.Numbers m c := fun c => by
    obtain ⟨h0, h1, h2, h3, h4, h5, h6, h7, h8, h9⟩ := Cert.Pre_numbers_sample.allReal _ _ _ _ _ _ _ _ _ _ (hpre c)
    exact ⟨h0, h1, h2, h3, h4, h5, h6, h7, h8, h9⟩
  refine ⟨_, Cert.MobaSampleIdeal.Pf.run m ρ hn, ?_⟩
  refine (θ_run Cert.MobaSampleRefIdeal.defs _ _).mono (fun r h c => ?_) (Cert.MobaSampleRefIdeal.Pf.run m' ρ')
  obtain ⟨h0, h2⟩ := h c
  obtain ⟨e0, e1, e2, e3, e4, e5, e6, e7, e8, e9⟩ := hagree c
  rw [e0, e1, e2, e3, e4, e5, e6, e7, e8, e9] at h0
  exact ⟨h0, h2⟩

end Cert.Proof

end
-- ==== Proof.RecSample.Math.lean ====
/- The recurrence of one head over one short chunk, for any number of positions, on extended reals; and that a chunk of
   four positions padded with zeros to sixteen gives the same four rows and the same state. -/
module

public import proofs.«01_k».proof.Proof.Math

@[expose] public section

noncomputable section

namespace Cert.Math.Short

open Idealize.ShloMosaic

variable {n : ℕ}

/-- The decays summed up to position `t`. -/
def cum (la : Fin n → Fin 128 → EReal) (t : Fin n) (d : Fin 128) : EReal := ∑ s : Fin n, if s ≤ t then la s d else 0

/-- The score of query position `t` against key position `s`, decayed from `s` to `t`; nothing comes from the future. -/
def score (la q k : Fin n → Fin 128 → EReal) (t s : Fin n) : EReal :=
  if s ≤ t then ∑ d : Fin 128, Ideal.exp (cum la t d - cum la s d) * (k s d * q t d) else 0

/-- The output of position `t` in column `c`. -/
def out (la q k : Fin n → Fin 128 → EReal) (v : Fin n → Fin 256 → EReal) (S : Fin 128 → Fin 256 → EReal) (t : Fin n) (c : Fin 256) : EReal :=
  (∑ s : Fin n, v s c * score la q k t s) + ∑ d : Fin 128, S d c * (q t d * Ideal.exp (cum la t d))

/-- The state after the chunk, whose last position is `e`. -/
def next (e : Fin n) (la k : Fin n → Fin 128 → EReal) (v : Fin n → Fin 256 → EReal) (S : Fin 128 → Fin 256 → EReal) (d : Fin 128) (c : Fin 256) : EReal :=
  Ideal.exp (cum la e d) * S d c + ∑ s : Fin n, k s d * Ideal.exp (cum la e d - cum la s d) * v s c

/-- The decays are numbers. -/
def Finite (la : Fin n → Fin 128 → EReal) : Prop := ∀ s d, ∃ r : ℝ, la s d = (r : EReal)

theorem cum_coe (la : Fin n → Fin 128 → EReal) (h : Finite la) (t : Fin n) (d : Fin 128) : ∃ r : ℝ, cum la t d = (r : EReal) := by
  refine sum_coe _ fun s => ?_
  by_cases hs : s ≤ t
  · rw [if_pos hs]; exact h s d
  · rw [if_neg hs]; exact ⟨0, rfl⟩

/-- A score with queries and keys each moved to a common position first. -/
theorem score_mid (la q k : Fin n → Fin 128 → EReal) (h : Finite la) (m t s : Fin n) (hs : s ≤ t) :
    ∑ d : Fin 128, q t d * Ideal.exp (cum la t d - cum la m d) * (k s d * Ideal.exp (cum la m d - cum la s d)) = score la q k t s := by
  rw [score, if_pos hs]
  refine Finset.sum_congr rfl fun d _ => ?_
  obtain ⟨x, hx⟩ := cum_coe la h t d
  obtain ⟨y, hy⟩ := cum_coe la h m d
  obtain ⟨z, hz⟩ := cum_coe la h s d
  rw [hx, hy, hz, ← exp_split x y z, mul_mul_mul_comm, mul_comm (q t d), mul_comm (k s d * q t d)]

/-- Four positions padded with zeros to sixteen. -/
def pad {w : ℕ} (x : Fin 4 → Fin w → EReal) (t : Fin 16) (j : Fin w) : EReal := if h : t.val < 4 then x ⟨t.val, h⟩ j else 0

/-- One of the four positions among the sixteen. -/
abbrev at16 (t : Fin 4) : Fin 16 := ⟨t.val, by omega⟩

theorem pad_at {w : ℕ} (x : Fin 4 → Fin w → EReal) (t : Fin 4) (j : Fin w) : pad x (at16 t) j = x t j := dif_pos t.isLt

theorem pad_lt {w : ℕ} (x : Fin 4 → Fin w → EReal) (t : Fin 16) (h : t.val < 4) (j : Fin w) : pad x t j = x ⟨t.val, h⟩ j := dif_pos h

theorem pad_off {w : ℕ} (x : Fin 4 → Fin w → EReal) (t : Fin 16) (h : 4 ≤ t.val) (j : Fin w) : pad x t j = 0 := dif_neg (by omega)

/-- A sum over the sixteen of what vanishes past the fourth. -/
theorem sum_short (f : Fin 16 → EReal) (h : ∀ s : Fin 16, 4 ≤ s.val → f s = 0) : ∑ s : Fin 16, f s = ∑ s : Fin 4, f (at16 s) := by
  rw [Fin.sum_univ_add (a := 4) (b := 12) f]
  have e : ∑ i : Fin 12, f (Fin.natAdd 4 i) = 0 := Finset.sum_eq_zero fun i _ => h _ (by show 4 ≤ 4 + i.val; omega)
  exact (congrArg (_ + ·) e).trans (add_zero _)

theorem finite_pad (la : Fin 4 → Fin 128 → EReal) (h : Finite la) : Finite (pad la) := fun s d => by
  by_cases hs : s.val < 4
  · exact ⟨_, (dif_pos hs).trans (h ⟨s.val, hs⟩ d).choose_spec⟩
  · exact ⟨0, dif_neg hs⟩

theorem cum_pad (la : Fin 4 → Fin 128 → EReal) (t : Fin 4) (d : Fin 128) : cum (pad la) (at16 t) d = cum la t d := by
  unfold cum
  rw [sum_short _ fun s hs => by rw [pad_off la s hs, ite_self]]
  exact Finset.sum_congr rfl fun s _ => by rw [pad_at]; rfl

/-- The sums stay at the fourth's past it. -/
theorem cum_end (la : Fin 4 → Fin 128 → EReal) (d : Fin 128) : cum (pad la) 15 d = cum la 3 d := by
  unfold cum
  rw [sum_short _ fun s hs => by rw [pad_off la s hs, ite_self]]
  refine Finset.sum_congr rfl fun s _ => ?_
  rw [pad_at, if_pos (show at16 s ≤ 15 by show s.val ≤ 15; omega), if_pos (show s ≤ 3 by show s.val ≤ 3; omega)]

theorem score_pad (la q k : Fin 4 → Fin 128 → EReal) (t s : Fin 4) : score (pad la) (pad q) (pad k) (at16 t) (at16 s) = score la q k t s := by
  unfold score
  simp only [cum_pad, pad_at]
  rfl

theorem out_pad (la q k : Fin 4 → Fin 128 → EReal) (v : Fin 4 → Fin 256 → EReal) (S : Fin 128 → Fin 256 → EReal) (t : Fin 4) (c : Fin 256) :
    out (pad la) (pad q) (pad k) (pad v) S (at16 t) c = out la q k v S t c := by
  unfold out
  rw [sum_short _ fun s hs => by rw [pad_off v s hs, zero_mul]]
  simp only [score_pad, cum_pad, pad_at]

theorem next_pad (la k : Fin 4 → Fin 128 → EReal) (v : Fin 4 → Fin 256 → EReal) (S : Fin 128 → Fin 256 → EReal) (d : Fin 128) (c : Fin 256) :
    next 15 (pad la) (pad k) (pad v) S d c = next 3 la k v S d c := by
  unfold next
  rw [sum_short _ fun s hs => by rw [pad_off v s hs, mul_zero]]
  simp only [cum_end, cum_pad, pad_at]

end Cert.Math.Short

end
-- ==== Proof.RecSample.Heads.lean ====
/- The sample's recurrence: what its body computes for one head, read at an index on extended reals. -/
module

public import proofs.«01_k».proof.Proof.RecSample.Math
public import proofs.«01_k».proof.Proof.Gen.RecSampleIdeal.Frame
public import Idealize.ShloMosaic.Lib.Pointwise
public import Idealize.ShloMosaic.Lib.IdealHost

@[expose] public section

set_option maxRecDepth 16384

noncomputable section

namespace Cert.RecSampleIdeal.Pf

open Cert.RecSampleIdeal Cert.RecSampleIdeal.Gen Idealize.ShloMosaic Idealize.ShloMosaic.TcCoe Idealize.ShloMosaic.Tactic
open Cert.Math

/-- The causal mask: position `s` is seen from position `t` when it is not later. -/
theorem mask_at (t s : Fin 16) : k0_pay11 (ix2 t s) = if s ≤ t then 1#1 else 0#1 := by
  pointwise [k0_pay11]
  revert t s
  decide +kernel

/-- The summed decays: the two correction terms of the split into three parts are zero, the decays being numbers. -/
theorem cum_at (la : Vec Ideal S16x512 .f32) (d : Fin 512) (hf : ∀ s : Fin 16, ∃ r : ℝ, (la (ix2 s d) : EReal) = (r : EReal)) (t : Fin 16) :
    (k0_pay12 (F := Ideal) la (ix2 t d) : EReal) = ∑ s : Fin 16, if s ≤ t then (la (ix2 s d) : EReal) else 0 := by
  pointwise [k0_pay12]
  have h0 : ∀ s : Fin 16, (la (ix2 s d) : EReal) - la (ix2 s d) = 0 := fun s => by
    obtain ⟨r, hr⟩ := hf s
    rw [hr, ← EReal.coe_sub, sub_self, EReal.coe_zero]
  have hz : ∀ m : BitVec 1, Scalar.select m (0 : EReal) 0 = 0 := fun m => ite_self _
  simp only [h0, sub_zero, mul_zero, hz, Finset.sum_const_zero, add_zero]
  refine Finset.sum_congr rfl fun s _ => ?_
  rw [mask_at]
  by_cases h : s ≤ t
  · rw [if_pos h, if_pos h]; rfl
  · rw [if_neg h, if_neg h]; rfl

/-- Head `h`'s columns of them. -/
def colsOf (b : FVec Ideal S16x512 .f32) : Fin 4 → FVec Ideal S16x128 .f32 := ![k0_pay16 b, k0_pay22 b, k0_pay29 b, k0_pay38 b]

theorem colsOf_at (b : FVec Ideal S16x512 .f32) (h : Fin 4) (t : Fin 16) (d : Fin 128) :
    colsOf b h (ix2 t d) = b (ix2 t ⟨128 * h.val + d.val, by have := h.isLt; have := d.isLt; omega⟩) := by
  match h with
  | ⟨0, _⟩ => show k0_pay16 b (ix2 t d) = _; pointwise [k0_pay16]
  | ⟨1, _⟩ => show k0_pay22 b (ix2 t d) = _; pointwise [k0_pay22]
  | ⟨2, _⟩ => show k0_pay29 b (ix2 t d) = _; pointwise [k0_pay29]
  | ⟨3, _⟩ => show k0_pay38 b (ix2 t d) = _; pointwise [k0_pay38]

/-- The causal scores of one head: queries and keys moved to the middle position, their products, and zero above the
    diagonal. -/
def scores (l : FVec Ideal S16x128 .f32) (q k : Vec Ideal S16x128 .bf16) : FVec Ideal S16x16 .bf16 :=
  let mid : FVec Ideal S16x128 .f32 := broadcastTo S16x128 (extractStridedSlice S1x128 ![7, 0] l slices_S16x128_o7_0_S1x128) broadcasts_S1x128_S16x128
  let qm : FVec Ideal S16x128 .bf16 := truncf .bf16 (mulf (k0_pay13 q) (exp (subf l mid))) bitsLt_bf16_f32
  let km : FVec Ideal S16x128 .bf16 := truncf .bf16 (mulf (k0_pay14 k) (exp (subf mid l))) bitsLt_bf16_f32
  let a : FVec Ideal S16x16 .f32 := matmul dot_S16x128_S16x128_S16x16_1_1_0_0_n_n none qm km (constant S16x16 .f32 0x00000000#32)
  truncf .bf16 (select k0_pay11 a (broadcast S16x16 (Scalar.ofBits .f32 0x00000000#32))) bitsLt_bf16_f32

/-- The output rows of one head, from the state `S`. -/
def headO (l : FVec Ideal S16x128 .f32) (q k : Vec Ideal S16x128 .bf16) (v : Vec Ideal S16x256 .bf16) (S : Vec Ideal S1x256x128 .f32) : FVec Ideal S16x256 .bf16 :=
  let qe : FVec Ideal S16x128 .bf16 := truncf .bf16 (mulf (k0_pay13 q) (exp l)) bitsLt_bf16_f32
  truncf .bf16 (addf (matmul dot_S16x16_S16x256_S16x256_1_0_0_1_n_n none (scores l q k) (k0_pay15 v) (constant S16x256 .f32 0x00000000#32))
    (matmul dot_S16x128_S256x128_S16x256_1_1_0_0_n_n none qe (truncf .bf16 (k0_pay17 S) bitsLt_bf16_f32) (constant S16x256 .f32 0x00000000#32))) bitsLt_bf16_f32

/-- The state one head leaves, from the state `S`. -/
def headS (l : FVec Ideal S16x128 .f32) (k : Vec Ideal S16x128 .bf16) (v : Vec Ideal S16x256 .bf16) (S : Vec Ideal S1x256x128 .f32) : FVec Ideal S1x256x128 .f32 :=
  let e : FVec Ideal S1x128 .f32 := extractStridedSlice S1x128 ![15, 0] l slices_S16x128_o15_0_S1x128
  let ke : FVec Ideal S16x128 .bf16 := truncf .bf16 (mulf (k0_pay14 k) (exp (subf (broadcastTo S16x128 e broadcasts_S1x128_S16x128) l))) bitsLt_bf16_f32
  shapeCast S1x256x128 (addf (mulf (k0_pay17 S) (broadcastTo S256x128 (exp e) broadcasts_S1x128_S256x128))
    (matmul dot_S16x256_S16x128_S256x128_0_0_1_1_n_n none (k0_pay15 v) ke (constant S256x128 .f32 0x00000000#32))) shapeCasts_S256x128_S1x256x128

section heads
variable (b : FVec Ideal S16x512 .f32) (q k : Vec Ideal S16x128 .bf16) (v : Vec Ideal S16x256 .bf16) (S : Vec Ideal S1x256x128 .f32)

theorem o_0 : k0_pay18 k0_pay11 b (k0_pay13 q) (k0_pay14 k) v S = headO (colsOf b 0) q k v S := rfl
theorem o_1 : k0_pay24 k0_pay11 b q k v S = headO (colsOf b 1) q k v S := rfl
theorem o_2 : k0_pay32 k0_pay11 b q k v S = headO (colsOf b 2) q k v S := rfl
theorem o_3 : k0_pay1 (k0_pay40 S) (k0_pay41 b q) (k0_pay42 k0_pay11 b q k v) = headO (colsOf b 3) q k v S := rfl
theorem s_0 : k0_pay19 b (k0_pay14 k) v S = headS (colsOf b 0) k v S := rfl
theorem s_1 : k0_pay26 (k0_pay25 b k v S) = headS (colsOf b 1) k v S := rfl
theorem s_2 : k0_pay34 (k0_pay27 k) (k0_pay28 v) (k0_pay29 b) (k0_pay30 b) (k0_pay31 S) (k0_pay33 b) = headS (colsOf b 2) k v S := rfl
theorem s_3 : k0_pay2 (k0_pay36 k) (k0_pay37 v) (k0_pay38 b) (k0_pay39 b) (k0_pay40 S) = headS (colsOf b 3) k v S := rfl
theorem i_1 (x : Vec Ideal S1x1x128x256 .f32) : k0_pay8 x = k0_pay7 x := rfl
theorem i_2 (x : Vec Ideal S1x1x128x256 .f32) : k0_pay9 x = k0_pay7 x := rfl
theorem i_3 (x : Vec Ideal S1x1x128x256 .f32) : k0_pay10 x = k0_pay7 x := rfl
theorem f_1 : k0_pay4 S = k0_pay3 S := rfl
theorem f_2 : k0_pay5 S = k0_pay3 S := rfl
theorem f_3 : k0_pay6 S = k0_pay3 S := rfl
theorem i_at (x : Vec Ideal S1x1x128x256 .f32) (c : Fin 256) (d : Fin 128) : (k0_pay7 x (ix3 0 c d) : EReal) = x (ix4 0 0 d c) := by pointwise [k0_pay7]
theorem f_at (c : Fin 256) (d : Fin 128) : (k0_pay3 S (ix4 0 0 d c) : EReal) = S (ix3 0 c d) := by pointwise [k0_pay3]

end heads

section chunk

variable (la q k : Fin 16 → Fin 128 → EReal) (v : Fin 16 → Fin 256 → EReal) (S : Fin 128 → Fin 256 → EReal)
variable (l : FVec Ideal S16x128 .f32) (q' k' : Vec Ideal S16x128 .bf16) (v' : Vec Ideal S16x256 .bf16) (S' : Vec Ideal S1x256x128 .f32)

theorem headS_at (hl : ∀ t d, (l (ix2 t d) : EReal) = Short.cum la t d) (hk : ∀ t d, (k' (ix2 t d) : EReal) = k t d)
    (hv : ∀ t c, (v' (ix2 t c) : EReal) = v t c) (hS : ∀ d c, (S' (ix3 0 c d) : EReal) = S d c) (c : Fin 256) (d : Fin 128) :
    (headS l k' v' S' (ix3 0 c d) : EReal) = Short.next 15 la k v S d c := by
  unfold headS
  pointwise [k0_pay15, k0_pay17, k0_pay14]
  simp only [hl, hk, hv, hS, Short.next]
  rw [mul_comm]
  congr 1
  exact Finset.sum_congr rfl fun s _ => mul_comm _ _

theorem scores_at (hf : Short.Finite la) (hl : ∀ t d, (l (ix2 t d) : EReal) = Short.cum la t d) (hq : ∀ t d, (q' (ix2 t d) : EReal) = q t d)
    (hk : ∀ t d, (k' (ix2 t d) : EReal) = k t d) (t s : Fin 16) :
    (scores l q' k' (ix2 t s) : EReal) = Short.score la q k t s := by
  unfold scores
  pointwise [k0_pay13, k0_pay14]
  rw [mask_at]
  by_cases h : s ≤ t
  · rw [if_pos h]
    simp only [hl, hq, hk]
    exact Short.score_mid la q k hf 7 t s h
  · rw [if_neg h, Short.score, if_neg h]; rfl

theorem headO_at (hf : Short.Finite la) (hl : ∀ t d, (l (ix2 t d) : EReal) = Short.cum la t d) (hq : ∀ t d, (q' (ix2 t d) : EReal) = q t d)
    (hk : ∀ t d, (k' (ix2 t d) : EReal) = k t d) (hv : ∀ t c, (v' (ix2 t c) : EReal) = v t c) (hS : ∀ d c, (S' (ix3 0 c d) : EReal) = S d c)
    (t : Fin 16) (c : Fin 256) :
    (headO l q' k' v' S' (ix2 t c) : EReal) = Short.out la q k v S t c := by
  have hA := scores_at la q k l q' k' hf hl hq hk
  unfold headO
  generalize scores l q' k' = A at hA
  pointwise [k0_pay15, k0_pay17, k0_pay13]
  simp only [hA, hl, hq, hv, hS, Short.out]
  congr 1
  · exact Finset.sum_congr rfl fun s _ => mul_comm _ _
  · exact Finset.sum_congr rfl fun s _ => mul_comm _ _

end chunk

end Cert.RecSampleIdeal.Pf

end
-- ==== Proof.RecSample.Block.lean ====
/- The sample's recurrence: the two blocks one point of the grid leaves, read at an index on extended reals. -/
module

public import proofs.«01_k».proof.Proof.RecSample.Heads
public import Idealize.ShloMosaic.Lib.Pipeline.ReadBack
public import Idealize.ShloMosaic.Lib.Pipeline.ValueKit

@[expose] public section

set_option maxRecDepth 16384

noncomputable section

namespace Cert.RecSampleIdeal.Pf

open Cert.RecSampleIdeal Cert.RecSampleIdeal.Gen Idealize.ShloMosaic Idealize.ShloMosaic.TcCoe Idealize.ShloMosaic.Tactic
open Cert.Math

section Loads
variable (x0 : Vec Ideal S16x512 .bf16) (x2 : Vec Ideal S16x1024 .bf16) (x3 : Vec Ideal S16x512 .f32) (x4 : Vec Ideal S1x4x128x256 .f32) (h : Fin 4)

/-- Head `h`'s columns of a block of queries or keys, -/
def qB (t : Fin 16) (d : Fin 128) : EReal := x0 (ix2 t ⟨128 * h.val + d.val, by omega⟩)
/-- of values, -/
def vB (t : Fin 16) (c : Fin 256) : EReal := x2 (ix2 t ⟨256 * h.val + c.val, by omega⟩)
/-- of decays, -/
def laB (t : Fin 16) (d : Fin 128) : EReal := x3 (ix2 t ⟨128 * h.val + d.val, by omega⟩)
/-- and its state. -/
def SB (d : Fin 128) (c : Fin 256) : EReal := x4 (ix4 0 h d c)

theorem ld_q {off : Fin 2 → ℕ} (inb : ∀ a, off a + S16x128.size a ≤ S16x512.size a) (ho : off = ![0, 128 * h.val]) (t : Fin 16) (d : Fin 128) :
    (View.ld x0 (Rect.unit off S16x128.size inb) (ix2 t d : S16x128.Idx) : EReal) = qB x0 h t d := by
  subst ho
  refine View.ld_unit_apply_of x0 _ _ inb (ix2 t d : S16x128.Idx) _ fun a => ?_
  match a with
  | ⟨0, _⟩ => exact (Nat.zero_add _).symm
  | ⟨1, _⟩ => rfl

theorem ld_v {off : Fin 2 → ℕ} (inb : ∀ a, off a + S16x256.size a ≤ S16x1024.size a) (ho : off = ![0, 256 * h.val]) (t : Fin 16) (c : Fin 256) :
    (View.ld x2 (Rect.unit off S16x256.size inb) (ix2 t c : S16x256.Idx) : EReal) = vB x2 h t c := by
  subst ho
  refine View.ld_unit_apply_of x2 _ _ inb (ix2 t c : S16x256.Idx) _ fun a => ?_
  match a with
  | ⟨0, _⟩ => exact (Nat.zero_add _).symm
  | ⟨1, _⟩ => rfl

theorem ld_s {off : Fin 4 → ℕ} (inb : ∀ a, off a + S1x1x128x256.size a ≤ S1x4x128x256.size a) (ho : off = ![0, h.val, 0, 0]) (d : Fin 128) (c : Fin 256) :
    (k0_pay7 (View.ld x4 (Rect.unit off S1x1x128x256.size inb)) (ix3 0 c d) : EReal) = SB x4 h d c := by
  subst ho
  rw [i_at]
  refine View.ld_unit_apply_of x4 _ _ inb (ix4 0 0 d c : S1x1x128x256.Idx) _ fun a => ?_
  match a with
  | ⟨0, _⟩ => rfl
  | ⟨1, _⟩ => rfl
  | ⟨2, _⟩ => exact (Nat.zero_add _).symm
  | ⟨3, _⟩ => exact (Nat.zero_add _).symm

/-- The decays of a block are numbers. -/
def FiniteB : Prop := ∀ i, ∃ r : ℝ, (x3 i : EReal) = (r : EReal)

theorem cols_at (hf : FiniteB x3) {off : Fin 2 → ℕ} (inb : ∀ a, off a + S16x512.size a ≤ S16x512.size a) (ho : off = ![0, 0]) (t : Fin 16) (d : Fin 128) :
    (colsOf (k0_pay12 (View.ld x3 (Rect.unit off S16x512.size inb))) h (ix2 t d) : EReal) = Short.cum (laB x3 h) t d := by
  rw [View.ld_unit_lit _ x3 (by subst ho; decide), colsOf_at, cum_at x3 _ fun s => hf _]
  rfl

end Loads

section Whole
variable (x0 x1 : Vec Ideal S16x512 .bf16) (x2 : Vec Ideal S16x1024 .bf16) (x3 : Vec Ideal S16x512 .f32) (x4 : Vec Ideal S1x4x128x256 .f32)

/-- The block of output rows: column `256 h + c` is head `h`'s column `c`. -/
def blkO : S16x1024.Idx → EReal := fun y =>
  have hy : (y 1).val < 1024 := (y 1).isLt
  Short.out (laB x3 ⟨(y 1).val / 256, by omega⟩) (qB x0 ⟨(y 1).val / 256, by omega⟩) (qB x1 ⟨(y 1).val / 256, by omega⟩) (vB x2 ⟨(y 1).val / 256, by omega⟩) (SB x4 ⟨(y 1).val / 256, by omega⟩)
    (show Fin 16 from y 0) ⟨(y 1).val % 256, Nat.mod_lt _ (by decide)⟩

/-- The block of states. -/
def blkS : S1x4x128x256.Idx → EReal := fun y =>
  Short.next 15 (laB x3 (show Fin 4 from y 1)) (qB x1 (show Fin 4 from y 1)) (vB x2 (show Fin 4 from y 1)) (SB x4 (show Fin 4 from y 1)) (show Fin 128 from y 2) (show Fin 256 from y 3)

theorem blkO_at (h : Fin 4) (t : Fin 16) (c : Fin 256) (hlt : 256 * h.val + c.val < 1024) :
    blkO x0 x1 x2 x3 x4 (ix2 t ⟨256 * h.val + c.val, hlt⟩) = Short.out (laB x3 h) (qB x0 h) (qB x1 h) (vB x2 h) (SB x4 h) t c := by
  have e1 : (⟨(256 * h.val + c.val) / 256, by omega⟩ : Fin 4) = h := Fin.ext (by show (256 * h.val + c.val) / 256 = h.val; omega)
  have e2 : (⟨(256 * h.val + c.val) % 256, Nat.mod_lt _ (by decide)⟩ : Fin 256) = c := Fin.ext (by show (256 * h.val + c.val) % 256 = c.val; omega)
  show Short.out (laB x3 ⟨(256 * h.val + c.val) / 256, _⟩) (qB x0 ⟨(256 * h.val + c.val) / 256, _⟩) (qB x1 ⟨(256 * h.val + c.val) / 256, _⟩) (vB x2 ⟨(256 * h.val + c.val) / 256, _⟩) (SB x4 ⟨(256 * h.val + c.val) / 256, _⟩) t ⟨(256 * h.val + c.val) % 256, _⟩ = _
  rw [e1, e2]

/-- A piece of the output block. -/
theorem piece_o (h : Fin 4) {off : Fin 2 → ℕ} (inb : ∀ a, off a + S16x256.size a ≤ S16x1024.size a) (ho : off = ![0, 256 * h.val]) (p : S16x256.Idx → EReal)
    (hp : ∀ (t : Fin 16) (c : Fin 256), p (ix2 t c) = Short.out (laB x3 h) (qB x0 h) (qB x1 h) (vB x2 h) (SB x4 h) t c)
    (y : (Rect.unit (s := S16x1024) off S16x256.size inb).shape.Idx) :
    p y = blkO x0 x1 x2 x3 x4 ((Rect.unit (s := S16x1024) off S16x256.size inb).emb y) := by
  subst ho
  obtain ⟨t, c, rfl⟩ : ∃ (t : Fin 16) (c : Fin 256), y = (ix2 t c : S16x256.Idx) := ⟨y 0, y 1, eq_ix2 y⟩
  refine (hp t c).trans ?_
  have e : (Rect.unit (s := S16x1024) ![0, 256 * h.val] S16x256.size inb).emb (ix2 t c : S16x256.Idx) = ix2 t ⟨256 * h.val + c.val, by omega⟩ := by
    funext a
    have hv := Rect.idx_unit_val (s := S16x1024) ![0, 256 * h.val] S16x256.size inb (ix2 t c : S16x256.Idx) a
    refine Fin.ext (hv.trans ?_)
    match a with
    | ⟨0, _⟩ => exact Nat.zero_add _
    | ⟨1, _⟩ => rfl
  rw [e]
  exact (blkO_at x0 x1 x2 x3 x4 h t c _).symm

/-- A piece of the block of states. -/
theorem piece_s (h : Fin 4) {off : Fin 4 → ℕ} (inb : ∀ a, off a + S1x1x128x256.size a ≤ S1x4x128x256.size a) (ho : off = ![0, h.val, 0, 0]) (p : S1x256x128.Idx → EReal)
    (hp : ∀ (c : Fin 256) (d : Fin 128), p (ix3 0 c d) = Short.next 15 (laB x3 h) (qB x1 h) (vB x2 h) (SB x4 h) d c)
    (y : (Rect.unit (s := S1x4x128x256) off S1x1x128x256.size inb).shape.Idx) :
    (k0_pay3 (F := Ideal) p y : EReal) = blkS x1 x2 x3 x4 ((Rect.unit (s := S1x4x128x256) off S1x1x128x256.size inb).emb y) := by
  subst ho
  obtain ⟨a, b, d, c, rfl⟩ : ∃ (a : Fin 1) (b : Fin 1) (d : Fin 128) (c : Fin 256), y = (ix4 a b d c : S1x1x128x256.Idx) := ⟨y 0, y 1, y 2, y 3, eq_ix4 y⟩
  obtain rfl : a = 0 := Subsingleton.elim _ _
  obtain rfl : b = 0 := Subsingleton.elim _ _
  refine (f_at p c d).trans ((hp c d).trans ?_)
  have e : (Rect.unit (s := S1x4x128x256) ![0, h.val, 0, 0] S1x1x128x256.size inb).emb (ix4 0 0 d c : S1x1x128x256.Idx) = ix4 0 h d c := by
    funext a
    have hv := Rect.idx_unit_val (s := S1x4x128x256) ![0, h.val, 0, 0] S1x1x128x256.size inb (ix4 0 0 d c : S1x1x128x256.Idx) a
    refine Fin.ext (hv.trans ?_)
    match a with
    | ⟨0, _⟩ => rfl
    | ⟨1, _⟩ => rfl
    | ⟨2, _⟩ => exact Nat.zero_add _
    | ⟨3, _⟩ => exact Nat.zero_add _
  rw [e]
  rfl

end Whole

/-- A load of one head's state passes over a store of another head's. -/
theorem skip (v : View sig .tc .vmem S4x256x128 .f32) (a b : ℕ) (hne : a ≠ b) (i : ∀ x, (![a, 0, 0] : Fin 3 → ℕ) x + (![1, 256, 128] : Fin 3 → ℕ) x ≤ S4x256x128.size x)
    (i' : ∀ x, (![b, 0, 0] : Fin 3 → ℕ) x + (![1, 256, 128] : Fin 3 → ℕ) x ≤ S4x256x128.size x) (w : S1x256x128.Idx → EReal) (L : List (View.Piece (Elt Ideal) S4x256x128 .f32)) :
    v.readCov ((⟨Rect.unit (s := S4x256x128) ![a, 0, 0] ![1, 256, 128] i, w⟩ : View.Piece (Elt Ideal) S4x256x128 .f32) :: L) (Rect.unit (s := S4x256x128) ![b, 0, 0] ![1, 256, 128] i').toLoadRect
      = v.readCov L (Rect.unit (s := S4x256x128) ![b, 0, 0] ![1, 256, 128] i').toLoadRect := by
  refine View.readCov_cons_of_disjoint v _ L _ ?_
  rw [Finset.disjoint_left]
  intro y hy hy'
  have h1 := (Rect.mem_set_unit (inb := i)).mp hy 0
  have h2 := (Rect.mem_set_unit (inb := i')).mp hy' 0
  change a ≤ (y 0).val ∧ (y 0).val < a + 1 at h1
  change b ≤ (y 0).val ∧ (y 0).val < b + 1 at h2
  omega

section Cases
variable (c : Dev nD) (i : grid0.Coords) (arg2 : Memref sig .tc .vmem S16x512 .bf16) (harg2 : arg2.IsWhole) (arg3 : Memref sig .tc .vmem S16x512 .bf16) (harg3 : arg3.IsWhole) (arg4 : Memref sig .tc .vmem S16x1024 .bf16) (harg4 : arg4.IsWhole) (arg5 : Memref sig .tc .vmem S16x512 .f32) (harg5 : arg5.IsWhole) (arg6 : Memref sig .tc .vmem S1x4x128x256 .f32) (harg6 : arg6.IsWhole) (arg7 : Memref sig .tc .vmem S16x1024 .bf16) (harg7 : arg7.IsWhole) (arg8 : Memref sig .tc .vmem S1x4x128x256 .f32) (harg8 : arg8.IsWhole) (arg9 : Memref sig .tc .vmem S4x256x128 .f32) (harg9 : arg9.IsWhole) (hc0 : cond0_0 i) (hc1 : cond0_1 i)
    (x0 : Vec Ideal S16x512 .bf16) (x1 : Vec Ideal S16x512 .bf16) (x2 : Vec Ideal S16x1024 .bf16) (x3 : Vec Ideal S16x512 .f32) (x4 : Vec Ideal S1x4x128x256 .f32)

set_option maxHeartbeats 1600000 in
theorem out_6 (hf : FiniteB x3) :
    (out0_A_6 c i arg2 harg2 arg3 harg3 arg4 harg4 arg5 harg5 arg6 harg6 arg7 harg7 arg8 harg8 arg9 harg9 hc0 hc1 x0 x1 x2 x3 x4 : S1x4x128x256.Idx → EReal) = blkS x1 x2 x3 x4 := by
  unfold out0_A_6
  have hcov := cover0_A_6 c i arg2 harg2 arg3 harg3 arg4 harg4 arg5 harg5 arg6 harg6 arg7 harg7 arg8 harg8 arg9 harg9 hc0 hc1 x0 x1 x2 x3 x4
  rw [View.read_writes_eq_canon _ _ _ hcov]
  revert hcov
  unfold kernelRun0_A
  dsimp only
  sl_unfold_words
  simp only [View.readAt_eq_ld, harg2.read_unread, harg3.read_unread, harg4.read_unread, harg5.read_unread, harg6.read_unread]
  intro hcov
  funext y
  refine View.canon_apply_of_pieces (blkS x1 x2 x3 x4) _ (View.PiecesOf.mem ?_) y (hcov y)
  clear hcov
  simp (disch := decide) only [skip, View.readCov_cons_toLoadRect, i_1, i_2, i_3, f_1, f_2, f_3, s_0, s_1, s_2, s_3]
  exact ⟨piece_s x1 x2 x3 x4 3 inb_S1x4x128x256_S1x1x128x256_0_3_0_0 rfl _ (headS_at _ _ _ _ _ _ _ _ (cols_at x3 3 hf k0_off1_inb rfl) (ld_q x1 3 k0_off8_inb rfl) (ld_v x2 3 k0_off9_inb rfl) (ld_s x4 3 inb_S1x4x128x256_S1x1x128x256_0_3_0_0 rfl)),
    piece_s x1 x2 x3 x4 2 inb_S1x4x128x256_S1x1x128x256_0_2_0_0 rfl _ (headS_at _ _ _ _ _ _ _ _ (cols_at x3 2 hf k0_off1_inb rfl) (ld_q x1 2 k0_off6_inb rfl) (ld_v x2 2 k0_off7_inb rfl) (ld_s x4 2 inb_S1x4x128x256_S1x1x128x256_0_2_0_0 rfl)),
    piece_s x1 x2 x3 x4 1 inb_S1x4x128x256_S1x1x128x256_0_1_0_0 rfl _ (headS_at _ _ _ _ _ _ _ _ (cols_at x3 1 hf k0_off1_inb rfl) (ld_q x1 1 k0_off4_inb rfl) (ld_v x2 1 k0_off5_inb rfl) (ld_s x4 1 inb_S1x4x128x256_S1x1x128x256_0_1_0_0 rfl)),
    piece_s x1 x2 x3 x4 0 inb_S1x4x128x256_S1x1x128x256_0_0_0_0 rfl _ (headS_at _ _ _ _ _ _ _ _ (cols_at x3 0 hf k0_off1_inb rfl) (ld_q x1 0 k0_off2_inb rfl) (ld_v x2 0 k0_off3_inb rfl) (ld_s x4 0 inb_S1x4x128x256_S1x1x128x256_0_0_0_0 rfl)), trivial⟩

set_option maxHeartbeats 1600000 in
theorem out_5 (hf : FiniteB x3) :
    (out0_A_5 c i arg2 harg2 arg3 harg3 arg4 harg4 arg5 harg5 arg6 harg6 arg7 harg7 arg8 harg8 arg9 harg9 hc0 hc1 x0 x1 x2 x3 x4 : S16x1024.Idx → EReal) = blkO x0 x1 x2 x3 x4 := by
  unfold out0_A_5
  have hcov := cover0_A_5 c i arg2 harg2 arg3 harg3 arg4 harg4 arg5 harg5 arg6 harg6 arg7 harg7 arg8 harg8 arg9 harg9 hc0 hc1 x0 x1 x2 x3 x4
  rw [View.read_writes_eq_canon _ _ _ hcov]
  revert hcov
  unfold kernelRun0_A
  dsimp only
  sl_unfold_words
  simp only [View.readAt_eq_ld, harg2.read_unread, harg3.read_unread, harg4.read_unread, harg5.read_unread, harg6.read_unread]
  intro hcov
  funext y
  refine View.canon_apply_of_pieces (blkO x0 x1 x2 x3 x4) _ (View.PiecesOf.mem ?_) y (hcov y)
  clear hcov
  simp (disch := decide) only [skip, View.readCov_cons_toLoadRect, i_1, i_2, i_3, o_0, o_1, o_2, o_3]
  exact ⟨piece_o x0 x1 x2 x3 x4 3 k0_off9_inb rfl _ (headO_at _ _ _ _ _ _ _ _ _ _ (fun _ _ => hf _) (cols_at x3 3 hf k0_off1_inb rfl) (ld_q x0 3 k0_off8_inb rfl) (ld_q x1 3 k0_off8_inb rfl) (ld_v x2 3 k0_off9_inb rfl) (ld_s x4 3 inb_S1x4x128x256_S1x1x128x256_0_3_0_0 rfl)),
    piece_o x0 x1 x2 x3 x4 2 k0_off7_inb rfl _ (headO_at _ _ _ _ _ _ _ _ _ _ (fun _ _ => hf _) (cols_at x3 2 hf k0_off1_inb rfl) (ld_q x0 2 k0_off6_inb rfl) (ld_q x1 2 k0_off6_inb rfl) (ld_v x2 2 k0_off7_inb rfl) (ld_s x4 2 inb_S1x4x128x256_S1x1x128x256_0_2_0_0 rfl)),
    piece_o x0 x1 x2 x3 x4 1 k0_off5_inb rfl _ (headO_at _ _ _ _ _ _ _ _ _ _ (fun _ _ => hf _) (cols_at x3 1 hf k0_off1_inb rfl) (ld_q x0 1 k0_off4_inb rfl) (ld_q x1 1 k0_off4_inb rfl) (ld_v x2 1 k0_off5_inb rfl) (ld_s x4 1 inb_S1x4x128x256_S1x1x128x256_0_1_0_0 rfl)),
    piece_o x0 x1 x2 x3 x4 0 k0_off3_inb rfl _ (headO_at _ _ _ _ _ _ _ _ _ _ (fun _ _ => hf _) (cols_at x3 0 hf k0_off1_inb rfl) (ld_q x0 0 k0_off2_inb rfl) (ld_q x1 0 k0_off2_inb rfl) (ld_v x2 0 k0_off3_inb rfl) (ld_s x4 0 inb_S1x4x128x256_S1x1x128x256_0_0_0_0 rfl)), trivial⟩

end Cases

end Cert.RecSampleIdeal.Pf

end
-- ==== Proof.RecSample.Spec.lean ====
/- What the sample's recurrence computes, on its arrays: 32 sequences of 4 tokens each, four heads. -/
module

public import proofs.«01_k».proof.Proof.RecSample.Math
public import Idealize.ShloMosaic.Lib.Pointwise

@[expose] public section

noncomputable section

namespace Cert.Math.Short

open Idealize.ShloMosaic

section Arrays

variable (qk v : (⟨2, ![128, 1024]⟩ : Shape).Idx → EReal) (la : (⟨2, ![128, 512]⟩ : Shape).Idx → EReal)
  (S : (⟨4, ![32, 4, 128, 256]⟩ : Shape).Idx → EReal) (b : Fin 32) (h : Fin 4)

/-- Sequence `b`'s queries for head `h`: the projected array's first four blocks of 128 columns, -/
def qC (t : Fin 4) (d : Fin 128) : EReal := qk (ix2 ⟨4 * b.val + t.val, by omega⟩ ⟨128 * h.val + d.val, by omega⟩)

/-- its keys: the last four, -/
def kC (t : Fin 4) (d : Fin 128) : EReal := qk (ix2 ⟨4 * b.val + t.val, by omega⟩ ⟨512 + 128 * h.val + d.val, by omega⟩)

/-- its values, -/
def vC (t : Fin 4) (c : Fin 256) : EReal := v (ix2 ⟨4 * b.val + t.val, by omega⟩ ⟨256 * h.val + c.val, by omega⟩)

/-- its decays, -/
def laC (t : Fin 4) (d : Fin 128) : EReal := la (ix2 ⟨4 * b.val + t.val, by omega⟩ ⟨128 * h.val + d.val, by omega⟩)

/-- and the state it starts from. -/
def SC (d : Fin 128) (c : Fin 256) : EReal := S (ix4 b h d c)

/-- Head `h`'s output for token `t` of sequence `b`. -/
abbrev outAt (t : Fin 4) (c : Fin 256) : EReal := out (laC la b h) (qC qk b h) (kC qk b h) (vC v b h) (SC S b h) t c

/-- The state sequence `b` ends in. -/
abbrev nextAt (d : Fin 128) (c : Fin 256) : EReal := next 3 (laC la b h) (kC qk b h) (vC v b h) (SC S b h) d c

/-- The output array: row `4 b + t`, column `256 h + c`. -/
def resultO : (⟨2, ![128, 1024]⟩ : Shape).Idx → EReal := fun y =>
  have h0 : (y 0).val < 128 := (y 0).isLt
  have h1 : (y 1).val < 1024 := (y 1).isLt
  outAt qk v la S ⟨(y 0).val / 4, by omega⟩ ⟨(y 1).val / 256, by omega⟩ ⟨(y 0).val % 4, Nat.mod_lt _ (by decide)⟩ ⟨(y 1).val % 256, Nat.mod_lt _ (by decide)⟩

/-- The state array. -/
def resultS : (⟨4, ![32, 4, 128, 256]⟩ : Shape).Idx → EReal := fun y =>
  nextAt qk v la S (show Fin 32 from y 0) (show Fin 4 from y 1) (show Fin 128 from y 2) (show Fin 256 from y 3)

/-- Every decay is a number. -/
def AllFinite : Prop := ∀ i, ∃ r : ℝ, la i = (r : EReal)

end Arrays

end Cert.Math.Short

end
-- ==== Proof.RecSample.Arrays.lean ====
/- What the sample's recurrence's arrays hold after the run, on extended reals, given that the decays are numbers. -/
module

public import proofs.«01_k».proof.Proof.RecSample.Block
public import proofs.«01_k».proof.Proof.RecSample.Spec
public import Idealize.ShloMosaic.Lib.KernelVsHost
public import Idealize.ShloMosaic.Lib.Claim

@[expose] public section

set_option maxRecDepth 16384

noncomputable section

namespace Cert.RecSampleIdeal.Pf

open Cert.RecSampleIdeal Cert.RecSampleIdeal.Gen Idealize.ShloMosaic Idealize.ShloMosaic.TcCoe Idealize.ShloMosaic.Tactic
open Cert.Math
open Idealize.SL.Sem
open Idealize.ShloMosaic.Pipeline (Dat)

variable (m : (ℓ : Loc nD τ sig) → Buf (Elt Ideal) ℓ)

theorem maps : ∀ t : Fin cfg0.N, win0_0.index t = ![t.val, 0] ∧ win0_1.index t = ![t.val, 1] ∧ win0_2.index t = ![t.val, 0]
    ∧ win0_3.index t = ![t.val, 0] ∧ win0_4.index t = ![t.val, 0, 0, 0] ∧ win0_5.index t = ![t.val, 0] ∧ win0_6.index t = ![t.val, 0, 0, 0] :=
  (by decide +kernel : ∀ t : Fin grid0.N, _)

theorem t_lt (t : Fin cfg0.N) : t.val < 32 := Nat.lt_of_lt_of_eq t.isLt N_0

abbrev arg0 (c : Dev nD) : (⟨2, ![128, 1024]⟩ : Shape).Idx → EReal := m ((c : Thread nD τ).loc main_arg0)
abbrev arg1 (c : Dev nD) : (⟨2, ![128, 1024]⟩ : Shape).Idx → EReal := m ((c : Thread nD τ).loc main_arg1)
abbrev arg2 (c : Dev nD) : (⟨2, ![128, 512]⟩ : Shape).Idx → EReal := m ((c : Thread nD τ).loc main_arg2)
abbrev arg3 (c : Dev nD) : (⟨4, ![32, 4, 128, 256]⟩ : Shape).Idx → EReal := m ((c : Thread nD τ).loc main_arg3)

/-! ## The padded arrays -/

/-- Each sequence's 4 rows followed by 12 of zeros. -/
def padO (x : FVec Ideal S128x1024 .bf16) : FVec Ideal S512x1024 .bf16 :=
  shapeCast S512x1024 (pad S32x16x1024 ![0, 0, 0] ![0, 12, 0] ![0, 0, 0] (shapeCast S32x4x1024 x shapeCasts_S128x1024_S32x4x1024)
    (sitofp .bf16 (constantI S_ 32 0#32)) pads_S32x4x1024_S32x16x1024_000_0120_000 h_S_) shapeCasts_S32x16x1024_S512x1024

/-- The same of the decays. -/
def padL (x : FVec Ideal S128x512 .f32) : FVec Ideal S512x512 .f32 :=
  shapeCast S512x512 (pad S32x16x512 ![0, 0, 0] ![0, 12, 0] ![0, 0, 0] (shapeCast S32x4x512 x shapeCasts_S128x512_S32x4x512)
    (sitofp .f32 (constantI S_ 32 0#32)) pads_S32x4x512_S32x16x512_000_0120_000 h_S_) shapeCasts_S32x16x512_S512x512

theorem flat_o (P : FVec Ideal S32x16x1024 .bf16) (b : Fin 32) (t : Fin 16) (j : Fin 1024) :
    (shapeCast S512x1024 P shapeCasts_S32x16x1024_S512x1024 (ix2 ⟨16 * b.val + t.val, by omega⟩ j) : EReal) = P (ix3 b t j) := by pointwise []

theorem flat_l (P : FVec Ideal S32x16x512 .f32) (b : Fin 32) (t : Fin 16) (j : Fin 512) :
    (shapeCast S512x512 P shapeCasts_S32x16x512_S512x512 (ix2 ⟨16 * b.val + t.val, by omega⟩ j) : EReal) = P (ix3 b t j) := by pointwise []

theorem rows_o (x : FVec Ideal S128x1024 .bf16) (b : Fin 32) (t : Fin 4) (j : Fin 1024) :
    (shapeCast S32x4x1024 x shapeCasts_S128x1024_S32x4x1024 (ix3 b t j) : EReal) = x (ix2 ⟨4 * b.val + t.val, by omega⟩ j) := by
  pointwise []
  simp only [Nat.mul_comm]

theorem rows_l (x : FVec Ideal S128x512 .f32) (b : Fin 32) (t : Fin 4) (j : Fin 512) :
    (shapeCast S32x4x512 x shapeCasts_S128x512_S32x4x512 (ix3 b t j) : EReal) = x (ix2 ⟨4 * b.val + t.val, by omega⟩ j) := by
  pointwise []
  simp only [Nat.mul_comm]

theorem zero_at (j : S_.Idx) : (sitofp (F := Ideal) .bf16 (constantI S_ 32 0#32) j : EReal) = 0 := by
  show (((0#32 : BitVec 32).toInt : ℝ) : EReal) = 0
  simp

theorem padO_at (x : FVec Ideal S128x1024 .bf16) (b : Fin 32) (t : Fin 16) (j : Fin 1024) :
    (padO x (ix2 ⟨16 * b.val + t.val, by omega⟩ j) : EReal) = Short.pad (fun (s : Fin 4) (j : Fin 1024) => (x (ix2 ⟨4 * b.val + s.val, by omega⟩ j) : EReal)) t j := by
  unfold padO
  rw [flat_o]
  by_cases ht : t.val < 4
  · rw [pad_apply_of_inside _ _ _ _ _ _ _ _ (ix3 b (⟨t.val, ht⟩ : Fin 4) j : S32x4x1024.Idx) (fun a => by fin_cases a <;> simp [ix3])]
    exact (rows_o x b ⟨t.val, ht⟩ j).trans (by rw [Short.pad_lt _ t ht j])
  · rw [pad_apply_of_not_inside _ _ _ _ _ _ _ _ (1 : Fin 3) (fun h => ht (by simpa [ix3] using h.2.2))]
    exact (zero_at _).trans (Short.pad_off _ t (by omega) j).symm

theorem padL_at (x : FVec Ideal S128x512 .f32) (b : Fin 32) (t : Fin 16) (j : Fin 512) :
    (padL x (ix2 ⟨16 * b.val + t.val, by omega⟩ j) : EReal) = Short.pad (fun (s : Fin 4) (j : Fin 512) => (x (ix2 ⟨4 * b.val + s.val, by omega⟩ j) : EReal)) t j := by
  unfold padL
  rw [flat_l]
  by_cases ht : t.val < 4
  · rw [pad_apply_of_inside _ _ _ _ _ _ _ _ (ix3 b (⟨t.val, ht⟩ : Fin 4) j : S32x4x512.Idx) (fun a => by fin_cases a <;> simp [ix3])]
    exact (rows_l x b ⟨t.val, ht⟩ j).trans (by rw [Short.pad_lt _ t ht j])
  · rw [pad_apply_of_not_inside _ _ _ _ _ _ _ _ (1 : Fin 3) (fun h => ht (by simpa [ix3] using h.2.2))]
    exact (zero_at _).trans (Short.pad_off _ t (by omega) j).symm

theorem V_qk (c : Dev nD) : (V m c main_v2 : S512x1024.Idx → EReal) = padO (arg0 m c) := by
  show StableHlo.after (List.flatten [hostOps0, hostOps0_1, hostOps0_2, hostOps0_3, hostOps0_4, hostOps0_5, hostOps0_6]) (fun b => m (c, b)) (Proc.tc.devRef main_v2) = _
  simp only [hostOps0, hostOps0_1, hostOps0_2, hostOps0_3, hostOps0_4, hostOps0_5, hostOps0_6, List.flatten_cons, List.flatten_nil, List.append_nil, List.cons_append,
    List.nil_append, StableHlo.TRef.unary, StableHlo.TRef.binary, StableHlo.TRef.toBuf, StableHlo.TRef.ofBuf, cast_eq]
  after_results
  rfl

theorem V_v (c : Dev nD) : (V m c main_v5 : S512x1024.Idx → EReal) = padO (arg1 m c) := by
  show StableHlo.after (List.flatten [hostOps0, hostOps0_1, hostOps0_2, hostOps0_3, hostOps0_4, hostOps0_5, hostOps0_6]) (fun b => m (c, b)) (Proc.tc.devRef main_v5) = _
  simp only [hostOps0, hostOps0_1, hostOps0_2, hostOps0_3, hostOps0_4, hostOps0_5, hostOps0_6, List.flatten_cons, List.flatten_nil, List.append_nil, List.cons_append,
    List.nil_append, StableHlo.TRef.unary, StableHlo.TRef.binary, StableHlo.TRef.toBuf, StableHlo.TRef.ofBuf, cast_eq]
  after_results
  rfl

theorem V_la (c : Dev nD) : (V m c main_v8 : S512x512.Idx → EReal) = padL (arg2 m c) := by
  show StableHlo.after (List.flatten [hostOps0, hostOps0_1, hostOps0_2, hostOps0_3, hostOps0_4, hostOps0_5, hostOps0_6]) (fun b => m (c, b)) (Proc.tc.devRef main_v8) = _
  simp only [hostOps0, hostOps0_1, hostOps0_2, hostOps0_3, hostOps0_4, hostOps0_5, hostOps0_6, List.flatten_cons, List.flatten_nil, List.append_nil, List.cons_append,
    List.nil_append, StableHlo.TRef.unary, StableHlo.TRef.binary, StableHlo.TRef.toBuf, StableHlo.TRef.ofBuf, cast_eq]
  after_results
  rfl

/-! ## The blocks -/

/-- The sequence of point `t`. -/
abbrev seq (t : Fin cfg0.N) : Fin 32 := ⟨t.val, t_lt t⟩

theorem blk_q (c : Dev nD) (t : Fin cfg0.N) (r : Fin 16) (j : Fin 512) :
    (iblk m c 0 t (ix2 r j : S16x512.Idx) : EReal) = padO (arg0 m c) (ix2 ⟨16 * (seq t).val + r.val, by omega⟩ ⟨j.val, by omega⟩) := by
  have e := (maps t).1
  have ht := t_lt t
  have hi : (((cfg0.win 0).blk t).view.emb (ix2 r j : S16x512.Idx) : S512x1024.Idx) = ix2 ⟨16 * (seq t).val + r.val, by omega⟩ ⟨j.val, by omega⟩ := by blk_ext [e]
  refine (congrArg (V m c main_v2 : S512x1024.Idx → EReal) hi).trans ?_
  rw [V_qk]

theorem blk_k (c : Dev nD) (t : Fin cfg0.N) (r : Fin 16) (j : Fin 512) :
    (iblk m c 1 t (ix2 r j : S16x512.Idx) : EReal) = padO (arg0 m c) (ix2 ⟨16 * (seq t).val + r.val, by omega⟩ ⟨512 + j.val, by omega⟩) := by
  have e := (maps t).2.1
  have ht := t_lt t
  have hi : (((cfg0.win 1).blk t).view.emb (ix2 r j : S16x512.Idx) : S512x1024.Idx) = ix2 ⟨16 * (seq t).val + r.val, by omega⟩ ⟨512 + j.val, by omega⟩ := by blk_ext [e]
  refine (congrArg (V m c main_v2 : S512x1024.Idx → EReal) hi).trans ?_
  rw [V_qk]

theorem blk_v (c : Dev nD) (t : Fin cfg0.N) (r : Fin 16) (j : Fin 1024) :
    (iblk m c 2 t (ix2 r j : S16x1024.Idx) : EReal) = padO (arg1 m c) (ix2 ⟨16 * (seq t).val + r.val, by omega⟩ j) := by
  have e := (maps t).2.2.1
  have ht := t_lt t
  have hi : (((cfg0.win 2).blk t).view.emb (ix2 r j : S16x1024.Idx) : S512x1024.Idx) = ix2 ⟨16 * (seq t).val + r.val, by omega⟩ j := by blk_ext [e]
  refine (congrArg (V m c main_v5 : S512x1024.Idx → EReal) hi).trans ?_
  rw [V_v]

theorem blk_la (c : Dev nD) (t : Fin cfg0.N) (r : Fin 16) (j : Fin 512) :
    (iblk m c 3 t (ix2 r j : S16x512.Idx) : EReal) = padL (arg2 m c) (ix2 ⟨16 * (seq t).val + r.val, by omega⟩ j) := by
  have e := (maps t).2.2.2.1
  have ht := t_lt t
  have hi : (((cfg0.win 3).blk t).view.emb (ix2 r j : S16x512.Idx) : S512x512.Idx) = ix2 ⟨16 * (seq t).val + r.val, by omega⟩ j := by blk_ext [e]
  refine (congrArg (V m c main_v8 : S512x512.Idx → EReal) hi).trans ?_
  rw [V_la]

theorem blk_s (c : Dev nD) (t : Fin cfg0.N) (h : Fin 4) (d : Fin 128) (j : Fin 256) :
    (iblk m c 4 t (ix4 0 h d j : S1x4x128x256.Idx) : EReal) = arg3 m c (ix4 (seq t) h d j) := by
  have e := (maps t).2.2.2.2.1
  have ht := t_lt t
  have hi : (((cfg0.win 4).blk t).view.emb (ix4 0 h d j : S1x4x128x256.Idx) : S32x4x128x256.Idx) = ix4 (seq t) h d j := by blk_ext [e]
  refine (congrArg (V m c main_arg3 : S32x4x128x256.Idx → EReal) hi).trans ?_
  rw [V_main_arg3]

/-- Point `t`'s blocks are its sequence's rows, padded. -/
theorem q_eq (c : Dev nD) (t : Fin cfg0.N) (h : Fin 4) : qB (iblk m c 0 t) h = Short.pad (Short.qC (arg0 m c) (seq t) h) := by
  funext r d
  refine (blk_q m c t r _).trans ?_
  exact padO_at _ (seq t) r _

theorem k_eq (c : Dev nD) (t : Fin cfg0.N) (h : Fin 4) : qB (iblk m c 1 t) h = Short.pad (Short.kC (arg0 m c) (seq t) h) := by
  funext r d
  refine (blk_k m c t r _).trans ?_
  refine (padO_at _ (seq t) r _).trans ?_
  unfold Short.pad Short.kC
  simp only [Nat.add_assoc]

theorem v_eq (c : Dev nD) (t : Fin cfg0.N) (h : Fin 4) : vB (iblk m c 2 t) h = Short.pad (Short.vC (arg1 m c) (seq t) h) := by
  funext r d
  refine (blk_v m c t r _).trans ?_
  exact padO_at _ (seq t) r _

theorem la_eq (c : Dev nD) (t : Fin cfg0.N) (h : Fin 4) : laB (iblk m c 3 t) h = Short.pad (Short.laC (arg2 m c) (seq t) h) := by
  funext r d
  refine (blk_la m c t r _).trans ?_
  exact padL_at _ (seq t) r _

theorem S_eq (c : Dev nD) (t : Fin cfg0.N) (h : Fin 4) : SB (iblk m c 4 t) h = Short.SC (arg3 m c) (seq t) h := by
  funext d j
  exact blk_s m c t h d j

theorem fin_eq (c : Dev nD) (hf : Short.AllFinite (arg2 m c)) (t : Fin cfg0.N) : FiniteB (iblk m c 3 t) := by
  intro y
  obtain ⟨r, j, rfl⟩ : ∃ (r : Fin 16) (j : Fin 512), y = (ix2 r j : S16x512.Idx) := ⟨y 0, y 1, eq_ix2 y⟩
  by_cases hs : r.val < 4
  · exact ⟨_, (blk_la m c t r j).trans ((padL_at _ (seq t) r j).trans ((Short.pad_lt _ r hs j).trans (hf _).choose_spec))⟩
  · exact ⟨0, (blk_la m c t r j).trans ((padL_at _ (seq t) r j).trans (Short.pad_off _ r (by omega) j))⟩

/-! ## The output arrays -/

/-- Head `h`'s output for row `t` of sequence `b`'s 16, -/
def outF (c : Dev nD) (b : Fin 32) (h : Fin 4) (t : Fin 16) (j : Fin 256) : EReal :=
  Short.out (Short.pad (Short.laC (arg2 m c) b h)) (Short.pad (Short.qC (arg0 m c) b h)) (Short.pad (Short.kC (arg0 m c) b h)) (Short.pad (Short.vC (arg1 m c) b h)) (Short.SC (arg3 m c) b h) t j

/-- and the array of these rows. -/
def outs (c : Dev nD) : S512x1024.Idx → EReal := fun y =>
  have h0 : (y 0).val < 512 := (y 0).isLt
  have h1 : (y 1).val < 1024 := (y 1).isLt
  outF m c ⟨(y 0).val / 16, by omega⟩ ⟨(y 1).val / 256, by omega⟩ ⟨(y 0).val % 16, Nat.mod_lt _ (by decide)⟩ ⟨(y 1).val % 256, Nat.mod_lt _ (by decide)⟩

theorem outs_at (c : Dev nD) (b : Fin 32) (t : Fin 16) (j : Fin 1024) :
    outs m c (ix2 ⟨16 * b.val + t.val, by omega⟩ j) = outF m c b ⟨j.val / 256, by omega⟩ t ⟨j.val % 256, Nat.mod_lt _ (by decide)⟩ := by
  have e1 : (⟨(16 * b.val + t.val) / 16, by omega⟩ : Fin 32) = b := Fin.ext (by show (16 * b.val + t.val) / 16 = b.val; omega)
  have e2 : (⟨(16 * b.val + t.val) % 16, Nat.mod_lt _ (by decide)⟩ : Fin 16) = t := Fin.ext (by show (16 * b.val + t.val) % 16 = t.val; omega)
  exact congrArg₂ (fun b t => outF m c b ⟨j.val / 256, by omega⟩ t ⟨j.val % 256, Nat.mod_lt _ (by decide)⟩) e1 e2

theorem outsAt_o (c : Dev nD) (hf : Short.AllFinite (arg2 m c)) (t : Fin cfg0.N) :
    ((outsAt0 m c t).1 : S16x1024.Idx → EReal) = blkO (iblk m c 0 t) (iblk m c 1 t) (iblk m c 2 t) (iblk m c 3 t) (iblk m c 4 t) := by
  dsimp only [outsAt0]
  exact out_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (hcond0_0 t) (hcond0_1 t) (iblk m c 0 t) (iblk m c 1 t) (iblk m c 2 t) (iblk m c 3 t) (iblk m c 4 t) (fin_eq m c hf t)

theorem outsAt_s (c : Dev nD) (hf : Short.AllFinite (arg2 m c)) (t : Fin cfg0.N) :
    ((outsAt0 m c t).2 : S1x4x128x256.Idx → EReal) = blkS (iblk m c 1 t) (iblk m c 2 t) (iblk m c 3 t) (iblk m c 4 t) := by
  dsimp only [outsAt0]
  exact out_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (hcond0_0 t) (hcond0_1 t) (iblk m c 0 t) (iblk m c 1 t) (iblk m c 2 t) (iblk m c 3 t) (iblk m c 4 t) (fin_eq m c hf t)

theorem final_o (c : Dev nD) (hf : Short.AllFinite (arg2 m c)) : (dats m 0 c).arrAt 5 cfg0.N = (outs m c : Buf (Elt Ideal) ((c : Thread nD τ).loc main_v9_0)) := by
  refine (dats m 0 c).arrAt_eq_of_covers 5 _ (by decide +kernel) fun t hfl y => ?_
  blk_simp
  rw [after0_5, outsAt_o m c hf]
  have e := (maps t).2.2.2.2.2.1
  have ht := t_lt t
  obtain ⟨r, j, rfl⟩ : ∃ (r : Fin 16) (j : Fin 1024), y = (ix2 r j : S16x1024.Idx) := ⟨y 0, y 1, eq_ix2 y⟩
  have hi : (((cfg0.win 5).blk t).view.emb (ix2 r j : S16x1024.Idx) : S512x1024.Idx) = ix2 ⟨16 * (seq t).val + r.val, by omega⟩ j := by blk_ext [e]
  refine Eq.trans ?_ ((congrArg (outs m c) hi).trans (outs_at m c (seq t) r j)).symm
  unfold outF
  rw [← q_eq, ← k_eq, ← v_eq, ← la_eq, ← S_eq]
  rfl

/-- The states. -/
abbrev states (c : Dev nD) : (⟨4, ![32, 4, 128, 256]⟩ : Shape).Idx → EReal := Short.resultS (arg0 m c) (arg1 m c) (arg2 m c) (arg3 m c)

theorem final_s (c : Dev nD) (hf : Short.AllFinite (arg2 m c)) : (dats m 0 c).arrAt 6 cfg0.N = (states m c : Buf (Elt Ideal) ((c : Thread nD τ).loc main_v9_1)) := by
  refine (dats m 0 c).arrAt_eq_of_covers 6 _ (by decide +kernel) fun t hfl y => ?_
  blk_simp
  rw [after0_6, outsAt_s m c hf]
  have e := (maps t).2.2.2.2.2.2
  have ht := t_lt t
  obtain ⟨z, h, d, j, rfl⟩ : ∃ (z : Fin 1) (h : Fin 4) (d : Fin 128) (j : Fin 256), y = (ix4 z h d j : S1x4x128x256.Idx) := ⟨y 0, y 1, y 2, y 3, eq_ix4 y⟩
  obtain rfl : z = 0 := Subsingleton.elim _ _
  have hi : (((cfg0.win 6).blk t).view.emb (ix4 0 h d j : S1x4x128x256.Idx) : S32x4x128x256.Idx) = ix4 (seq t) h d j := by blk_ext [e]
  refine Eq.trans ?_ (congrArg (states m c) hi).symm
  unfold blkS
  rw [k_eq, v_eq, la_eq, S_eq]
  exact Short.next_pad _ _ _ _ _ _

/-- The first 4 of each sequence's 16 rows. -/
def cut (x : FVec Ideal S512x1024 .bf16) : FVec Ideal S128x1024 .bf16 :=
  shapeCast S128x1024 (extractStridedSlice S32x4x1024 ![0, 0, 0] (shapeCast S32x16x1024 x shapeCasts_S512x1024_S32x16x1024) slices_S32x16x1024_S32x4x1024_0_0_0) shapeCasts_S32x4x1024_S128x1024

theorem cut_at (x : FVec Ideal S512x1024 .bf16) (R : Fin 128) (j : Fin 1024) : (cut x (ix2 R j) : EReal) = x (ix2 ⟨16 * (R.val / 4) + R.val % 4, by omega⟩ j) := by
  pointwise [cut]
  simp only [Nat.mul_comm]

/-- The outputs. -/
abbrev outputs (c : Dev nD) : (⟨2, ![128, 1024]⟩ : Shape).Idx → EReal := Short.resultO (arg0 m c) (arg1 m c) (arg2 m c) (arg3 m c)

theorem cut_outs (c : Dev nD) : cut (outs m c) = outputs m c := by
  funext y
  obtain ⟨R, j, rfl⟩ : ∃ (R : Fin 128) (j : Fin 1024), y = (ix2 R j : S128x1024.Idx) := ⟨y 0, y 1, eq_ix2 y⟩
  refine (cut_at _ R j).trans ?_
  refine (outs_at m c ⟨R.val / 4, by omega⟩ (Short.at16 ⟨R.val % 4, Nat.mod_lt _ (by decide)⟩) j).trans ?_
  exact Short.out_pad _ _ _ _ _ _ _

theorem tail_o (c : Dev nD) (hf : Short.AllFinite (arg2 m c)) :
    (Pipeline.afterTail₀ cfgs (dats m) 0 (V0 m) [hostOps1] c main_v12 : S128x1024.Idx → EReal) = outputs m c := by
  have h5 : Pipeline.withArrays (cfgs 0).spec c (V0 m c) (fun w => (dats m 0 c).arrAt w (cfgs 0).N) (Proc.devRef .tc main_v9_0) = outs m c :=
    ((dats m 0 c).withArrays_arrAt sharedIn0 (V0 m c) (A_eq m c) 5).trans (final_o m c hf)
  unfold Pipeline.afterTail₀
  simp only [hostOps1, List.flatten_cons, List.flatten_nil, List.append_nil]
  after_results
  rw [h5]
  exact cut_outs m c

/-- The call's run: its outputs and states, and the arguments unchanged. -/
theorem run (ρ : Dev nD → PrngReg) (hf : ∀ c, Short.AllFinite (arg2 m c)) :
    θ_run defs (onTc (τ := τ) (main (F := Ideal))) ⟨m, fun _ => 0, ρ⟩ (fun r => ∀ c : Dev nD,
      r.2.mem ((c.tc : Thread nD τ).loc main_v12) = outputs m c
      ∧ r.2.mem ((c.tc : Thread nD τ).loc main_v9_1) = states m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h.1 c).2 main_v12 (Pipeline.mem_restRefs_of main_v12 (by decide) (by decide))).trans (tail_o m c (hf c)),
      ((h.1 c).1 6).trans (final_s m c (hf c)), h.2 c⟩) (θ_run_and (run_main m ρ) (unchanged m ρ))

end Cert.RecSampleIdeal.Pf

end
-- ==== Proof.RecSample.Ref.lean ====
/- The recurrence's reference on the sample: the scan's one step, read at an index on extended reals. -/
module

public import proofs.«01_k».proof.Proof.Window
public import proofs.«01_k».proof.Proof.RecSample.Spec
public import proofs.«01_k».proof.Proof.Gen.RecSampleRefIdeal.Run
public import Idealize.ShloMosaic.Lib.Pipeline.ValueKit
public import Idealize.ShloMosaic.Lib.Claim

@[expose] public section

set_option maxRecDepth 16384

noncomputable section

namespace Cert.RecSampleRefIdeal.Pf

open Cert.RecSampleRefIdeal Cert.RecSampleRefIdeal.Gen Idealize.ShloMosaic Idealize.ShloMosaic.TcCoe Idealize.ShloMosaic.Tactic
open Cert.Math
open Idealize.SL.Sem

section Terms

variable (qk v : FVec Ideal S128x1024 .bf16) (la : FVec Ideal S128x512 .f32) (S : FVec Ideal S32x4x128x256 .f32)

/-- The queries, keys, values and decays, by sequence, token and head. -/
def qR : FVec Ideal S32x4x4x128 .f32 :=
  extf .f32 (shapeCast S32x4x4x128 (extractStridedSlice S128x512 ![0, 0] qk slices_S128x1024_S128x512_0_0) shapeCasts_S128x512_S32x4x4x128) bitsLt_bf16_f32
def kR : FVec Ideal S32x4x4x128 .f32 :=
  extf .f32 (shapeCast S32x4x4x128 (extractStridedSlice S128x512 ![0, 512] qk slices_S128x1024_S128x512_0_512) shapeCasts_S128x512_S32x4x4x128) bitsLt_bf16_f32
def vR : FVec Ideal S32x4x4x256 .f32 := extf .f32 (shapeCast S32x4x4x256 v shapeCasts_S128x1024_S32x4x4x256) bitsLt_bf16_f32
def laR : FVec Ideal S32x4x4x128 .f32 := shapeCast S32x4x4x128 la shapeCasts_S128x512_S32x4x4x128

/-- The decays' running sums, -/
def cumR : FVec Ideal S32x4x4x128 .f32 :=
  Host.reduceWindowAdd ![1, 4, 1, 1] ![1, 1, 1, 1] ![0, 3, 0, 0] ![0, 0, 0, 0] (laR la) (broadcastInDim S_ ![] bcast_S_S_ (constant S_ .f32 0x00000000#32))
    reduceWindows_S32x4x4x128_S32x4x4x128_w1s1p0_0_w4s1p3_0_w1s1p0_0_w1s1p0_0 h_S_

/-- and the last of them. -/
def endR : FVec Ideal S32x4x128 .f32 :=
  shapeCast S32x4x128 (extractStridedSlice S32x1x4x128 ![0, 3, 0, 0] (cumR la) slices_S32x4x4x128_S32x1x4x128_0_3_0_0) shapeCasts_S32x1x4x128_S32x4x128

/-- Which tokens a token sees: those not later. -/
def maskR : IVec S1x4x4x1x1 1 :=
  broadcastInDim S1x4x4x1x1 ![1, 2] bcast_S4x4_S1x4x4x1x1_1_2 (select (cmpi .sge (addi (iotaInDim S4x4 32 0) (broadcastInDim S4x4 ![] bcast_S_S4x4 (constantI S_ 32 0#32))) (iotaInDim S4x4 32 1))
    (broadcastInDim S4x4 ![] bcast_S_S4x4 (constantI S_ 1 1#1)) (broadcastInDim S4x4 ![] bcast_S_S4x4 (constantI S_ 1 0#1)))

/-- The decay from one token to another. -/
def decayR : FVec Ideal S32x4x4x4x128 .f32 :=
  Host.exp (select (broadcastInDim S32x4x4x4x128 ![0, 1, 2, 3, 4] bcast_S1x4x4x1x1_S32x4x4x4x128_0_1_2_3_4 maskR)
    (subf (broadcastInDim S32x4x4x4x128 ![0, 1, 2, 3, 4] bcast_S32x4x1x4x128_S32x4x4x4x128_0_1_2_3_4 (broadcastInDim S32x4x1x4x128 ![0, 1, 3, 4] bcast_S32x4x4x128_S32x4x1x4x128_0_1_3_4 (cumR la)))
      (broadcastInDim S32x4x4x4x128 ![0, 1, 2, 3, 4] bcast_S32x1x4x4x128_S32x4x4x4x128_0_1_2_3_4 (broadcastInDim S32x1x4x4x128 ![0, 2, 3, 4] bcast_S32x4x4x128_S32x1x4x4x128_0_2_3_4 (cumR la))))
    (broadcastInDim S32x4x4x4x128 ![] bcast_S_S32x4x4x4x128 (id (constant S_ .f32 0xFF800000#32))))

/-- The scores, -/
def scoreR : FVec Ideal S32x4x4x4 .f32 :=
  Host.dotGeneral dot_S32x4x4x128_S32x4x4x4x128_S32x4x4x4_3_4_n_2_021_031 none (qR qk)
    (mulf (broadcastInDim S32x4x4x4x128 ![0, 1, 2, 3, 4] bcast_S32x1x4x4x128_S32x4x4x4x128_0_1_2_3_4 (broadcastInDim S32x1x4x4x128 ![0, 2, 3, 4] bcast_S32x4x4x128_S32x1x4x4x128_0_2_3_4 (kR qk))) (decayR la))

/-- the outputs, -/
def outR : FVec Ideal S32x4x4x256 .f32 :=
  addf (transpose S32x4x4x256 [0, 3, 1, 2] (Host.dotGeneral dot_S32x4x4x256_S32x4x4x4_S32x4x256x4_1_3_3_2_02_01 none (vR v) (scoreR qk la)) transposes_S32x4x256x4_S32x4x4x256_0_3_1_2)
    (transpose S32x4x4x256 [0, 3, 1, 2] (Host.dotGeneral dot_S32x4x128x256_S32x4x4x128_S32x4x256x4_2_3_3_1_01_02 none S (mulf (qR qk) (Host.exp (cumR la)))) transposes_S32x4x256x4_S32x4x4x256_0_3_1_2)

/-- as the call gives them, -/
def resR : FVec Ideal S128x1024 .bf16 := truncf .bf16 (shapeCast S128x1024 (outR qk v la S) shapeCasts_S32x4x4x256_S128x1024) bitsLt_bf16_f32

/-- and the states. -/
def nextR : FVec Ideal S32x4x128x256 .f32 :=
  addf (mulf (broadcastInDim S32x4x128x256 ![0, 1, 2, 3] bcast_S32x4x128x1_S32x4x128x256_0_1_2_3 (broadcastInDim S32x4x128x1 ![0, 1, 2] bcast_S32x4x128_S32x4x128x1_0_1_2 (Host.exp (endR la)))) S)
    (Host.dotGeneral dot_S32x4x4x128_S32x4x4x256_S32x4x128x256_1_1_3_3_02_02 none
      (mulf (kR qk) (Host.exp (subf (broadcastInDim S32x4x4x128 ![0, 1, 2, 3] bcast_S32x1x4x128_S32x4x4x128_0_1_2_3 (broadcastInDim S32x1x4x128 ![0, 2, 3] bcast_S32x4x128_S32x1x4x128_0_2_3 (endR la))) (cumR la)))) (vR v))

variable (b : Fin 32) (h : Fin 4)

theorem q_at (t : Fin 4) (d : Fin 128) : (qR qk (ix4 b t h d) : EReal) = Short.qC qk b h t d := by
  pointwise [qR, Short.qC]
  simp only [Nat.mul_comm, Nat.zero_add]

theorem k_at (t : Fin 4) (d : Fin 128) : (kR qk (ix4 b t h d) : EReal) = Short.kC qk b h t d := by
  pointwise [kR, Short.kC]
  simp only [Nat.mul_comm, Nat.add_assoc]

theorem v_at (t : Fin 4) (d : Fin 256) : (vR v (ix4 b t h d) : EReal) = Short.vC v b h t d := by
  pointwise [vR, Short.vC]
  simp only [Nat.mul_comm]

theorem la_at (t : Fin 4) (d : Fin 128) : (laR la (ix4 b t h d) : EReal) = Short.laC la b h t d := by
  pointwise [laR, Short.laC]
  simp only [Nat.mul_comm]

theorem zero_at (i : S_.Idx) : (broadcastInDim S_ ![] bcast_S_S_ (constant (F := Ideal) S_ .f32 0x00000000#32) i : EReal) = 0 := by
  pointwise []

theorem cum_at (t : Fin 4) (d : Fin 128) : (cumR la (ix4 b t h d) : EReal) = Short.cum (Short.laC la b h) t d := by
  refine (running_sum (n := 3) (laR la) _ (zero_at _) reduceWindows_S32x4x4x128_S32x4x4x128_w1s1p0_0_w4s1p3_0_w1s1p0_0_w1s1p0_0 b t h d).trans ?_
  simp only [la_at]
  rfl

theorem mask_at (t u : Fin 4) : maskR (ix5 0 t u 0 0) = if u ≤ t then 1#1 else 0#1 := by
  pointwise [maskR]
  revert t u
  decide +kernel

theorem decay_at (t u : Fin 4) (d : Fin 128) :
    (decayR la (ix5 b t u h d) : EReal) = if u ≤ t then Ideal.exp (Short.cum (Short.laC la b h) t d - Short.cum (Short.laC la b h) u d) else 0 := by
  pointwise [decayR]
  rw [mask_at, cum_at, cum_at]
  by_cases hu : u ≤ t
  · rw [if_pos hu, if_pos hu]
    rfl
  · rw [if_neg hu, if_neg hu]
    have e : Ideal.ofBits .f32 0xFF800000#32 = ⊥ := by simp [Ideal.ofBits, Ideal.ieee]
    exact congrArg Ideal.exp e

theorem score_at (t u : Fin 4) : (scoreR qk la (ix4 b h t u) : EReal) = Short.score (Short.laC la b h) (Short.qC qk b h) (Short.kC qk b h) t u := by
  pointwise [scoreR]
  unfold Short.score
  by_cases hu : u ≤ t
  · rw [if_pos hu]
    refine Finset.sum_congr rfl fun d _ => ?_
    rw [decay_at, if_pos hu, q_at, k_at]
    ac_rfl
  · rw [if_neg hu]
    refine Finset.sum_eq_zero fun d _ => ?_
    rw [decay_at, if_neg hu, mul_zero, mul_zero]

theorem out_at (t : Fin 4) (c : Fin 256) : (outR qk v la S (ix4 b t h c) : EReal) = Short.outAt qk v la S b h t c := by
  pointwise [outR]
  unfold Short.outAt Short.out
  simp only [score_at, cum_at, v_at, q_at]
  rfl

theorem end_at (d : Fin 128) : (endR la (ix3 b h d) : EReal) = Short.cum (Short.laC la b h) 3 d := by
  pointwise [endR]
  exact cum_at la b h 3 d

theorem next_at (d : Fin 128) (c : Fin 256) : (nextR qk v la S (ix4 b h d c) : EReal) = Short.nextAt qk v la S b h d c := by
  pointwise [nextR]
  unfold Short.nextAt Short.next
  simp only [end_at, cum_at, k_at, v_at]
  rfl

theorem res_eq : (resR qk v la S : S128x1024.Idx → EReal) = Short.resultO qk v la S := by
  funext y
  obtain ⟨R, j, rfl⟩ : ∃ (R : Fin 128) (j : Fin 1024), y = (ix2 R j : S128x1024.Idx) := ⟨y 0, y 1, eq_ix2 y⟩
  have e : (resR qk v la S (ix2 R j) : EReal) = outR qk v la S (ix4 ⟨R.val / 4, by omega⟩ ⟨R.val % 4, Nat.mod_lt _ (by decide)⟩ ⟨j.val / 256, by omega⟩ ⟨j.val % 256, Nat.mod_lt _ (by decide)⟩) := by
    pointwise [resR]
  exact e.trans (out_at qk v la S _ _ _ _)

theorem next_eq : (nextR qk v la S : S32x4x128x256.Idx → EReal) = Short.resultS qk v la S := by
  funext y
  obtain ⟨b, h, d, c, rfl⟩ : ∃ (b : Fin 32) (h : Fin 4) (d : Fin 128) (c : Fin 256), y = (ix4 b h d c : S32x4x128x256.Idx) := ⟨y 0, y 1, y 2, y 3, eq_ix4 y⟩
  exact next_at qk v la S b h d c

end Terms

variable (m : (ℓ : Loc nD τ sig) → Buf (Elt Ideal) ℓ)

abbrev arg0 (c : Dev nD) : (⟨2, ![128, 1024]⟩ : Shape).Idx → EReal := m ((c : Thread nD τ).loc main_arg0)
abbrev arg1 (c : Dev nD) : (⟨2, ![128, 1024]⟩ : Shape).Idx → EReal := m ((c : Thread nD τ).loc main_arg1)
abbrev arg2 (c : Dev nD) : (⟨2, ![128, 512]⟩ : Shape).Idx → EReal := m ((c : Thread nD τ).loc main_arg2)
abbrev arg3 (c : Dev nD) : (⟨4, ![32, 4, 128, 256]⟩ : Shape).Idx → EReal := m ((c : Thread nD τ).loc main_arg3)

/-- The reference's run: its outputs and states, and the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v45) = Short.resultO (arg0 m c) (arg1 m c) (arg2 m c) (arg3 m c)
      ∧ r.2.mem ((c.tc : Thread nD τ).loc main_v43) = Short.resultS (arg0 m c) (arg1 m c) (arg2 m c) (arg3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => by
    obtain ⟨ho, hs, h⟩ := h c
    exact ⟨ho.trans (res_eq (arg0 m c) (arg1 m c) (arg2 m c) (arg3 m c)), hs.trans (next_eq (arg0 m c) (arg1 m c) (arg2 m c) (arg3 m c)), h⟩) (Value.run m ρ)

end Cert.RecSampleRefIdeal.Pf

end
-- ==== Proof.RecSample.Precond.lean ====
/- The sample's precondition in words: `finite_sample` says of every log-decay that its absolute value is below infinity,
   so that it is a number. -/
module

public import proofs.«01_k».proof.Defs
public import proofs.«01_k».proof.Proof.Moba.Precond
public import proofs.«01_k».proof.Proof.RecSample.Spec

@[expose] public section

set_option maxRecDepth 16384

noncomputable section

namespace Cert.Pre_finite_sample

open Idealize.ShloMosaic

/-- The predicate's side conditions, a broadcast's and a reduction's. -/
instance facts : Facts := ⟨by decide, by decide, by decide⟩

/-- What the predicate says of the log-decays. -/
theorem allFinite (x y : FVec Ideal S128x1024 .bf16) (la : FVec Ideal S128x512 .f32) (s : FVec Ideal S32x4x128x256 .f32)
    (h : fn (F := Ideal) x y la s = fun _ => 1#1) : Math.Short.AllFinite la := by
  have h0 := congrFun h ix0
  unfold fn at h0
  intro i
  exact Pre_numbers.real_of_all la Facts.bcast_S_S128x512 Facts.reducesTo_S128x512_S_d0_1 h0 i

end Cert.Pre_finite_sample

end
-- ==== Proof.RecSample.Agree.lean ====
/- The sample's recurrence and its reference end with the same outputs and states. -/
module

public import proofs.«01_k».proof.Defs
public import proofs.«01_k».proof.Proof.RecSample.Arrays
public import proofs.«01_k».proof.Proof.RecSample.Ref
public import proofs.«01_k».proof.Proof.RecSample.Precond
public import Idealize.ShloMosaic.Adequacy
public import Idealize.ShloMosaic.Init

@[expose] public section

noncomputable section

namespace Cert.Proof

open Idealize.ShloMosaic Idealize.SL.Sem

theorem recSample_frame_reference : Cert.quiescent_RecSampleRefIdeal := fun m ρ _ =>
  (θ_run Cert.RecSampleRefIdeal.defs _ _).mono (fun r h => ⟨fun c => (h c).2.2, Idealize.ShloMosaic.sem_eq_zero_of_no_sems (by decide) r.2⟩)
    (Cert.RecSampleRefIdeal.Pf.run m ρ)

theorem recSample_frame_reference_pre : Cert.quiescent_RecSampleRefIdeal_pre_finite_sample := fun m ρ _ => recSample_frame_reference m ρ trivial

theorem recSample : Cert.algebraic_RecSampleIdeal_RecSampleRefIdeal_pre_finite_sample := by
  intro m ρ m' ρ' hpre hagree
  refine ⟨_, _, Cert.RecSampleIdeal.Pf.run m ρ fun c => Cert.Pre_finite_sample.allFinite _ _ _ _ (hpre c), ?_⟩
  refine (θ_run Cert.RecSampleRefIdeal.defs _ _).mono (fun r h c => ?_) (Cert.RecSampleRefIdeal.Pf.run m' ρ')
  obtain ⟨h0, h1, h2⟩ := h c
  obtain ⟨e0, e1, e2, e3⟩ := hagree c
  unfold Cert.RecSampleRefIdeal.Pf.arg0 Cert.RecSampleRefIdeal.Pf.arg1 Cert.RecSampleRefIdeal.Pf.arg2 Cert.RecSampleRefIdeal.Pf.arg3 at h0 h1
  rw [e0, e1, e2, e3] at h0 h1
  exact ⟨h0, h1, h2⟩

end Cert.Proof

end
-- ==== Proof.Ada.Arrays.lean ====
/- What the modulation call's array holds after the run, on extended reals. -/
module

public import proofs.«01_k».proof.Proof.Gated
public import proofs.«01_k».proof.Proof.Gen.AdaIdeal.Value
public import Idealize.ShloMosaic.Lib.Pipeline.ReadBack
public import Idealize.ShloMosaic.Lib.Pipeline.ValueKit
public import Idealize.ShloMosaic.Lib.Claim

@[expose] public section

set_option maxRecDepth 16384

noncomputable section

namespace Cert.Layer

open Idealize.ShloMosaic Idealize.ShloMosaic.TcCoe Idealize.ShloMosaic.Tactic

/-- One entry of a modulation: the gated condition `c` against a column of the weights, plus the bias. -/
def adaAt (c w : Fin 1024 → EReal) (b : EReal) : EReal := (∑ d, c d * Ideal.logistic (c d) * w d) + b

/-- All layers' modulations of all conditions. -/
def ada (c : (⟨2, ![40, 1024]⟩ : Shape).Idx → EReal) (w : (⟨3, ![4, 1024, 6144]⟩ : Shape).Idx → EReal) (b : (⟨2, ![4, 6144]⟩ : Shape).Idx → EReal)
    (i : (⟨3, ![4, 40, 6144]⟩ : Shape).Idx) : EReal :=
  adaAt (fun d => c (ix2 (i 1) d)) (fun d => w (ix3 (i 0) d (i 2))) (b (ix2 (i 0) (i 2)))

end Cert.Layer

namespace Cert.AdaIdeal.Pf

open Cert.AdaIdeal Cert.AdaIdeal.Gen Idealize.ShloMosaic Idealize.ShloMosaic.TcCoe Idealize.ShloMosaic.Tactic
open Idealize.SL.Sem

/-- The block: one layer, 1024 columns. -/
theorem out_at (x0 : Vec Ideal S40x1024 .f32) (x1 : Vec Ideal S1x1024x1024 .f32) (x2 : Vec Ideal S1x1x1024 .f32) (r : Fin 40) (j : Fin 1024) :
    (out0_3 x0 x1 x2 (ix3 0 r j) : EReal) = Layer.adaAt (fun d => x0 (ix2 r d)) (fun d => x1 (ix3 0 d j)) (x2 (ix3 0 0 j)) := by
  unfold out0_3
  rw [View.canon_cons_unit_lit _ _ _ (by decide), View.ld_unit_lit _ x0 (by decide), View.ld_unit_lit _ x1 (by decide), View.ld_unit_lit _ x2 (by decide)]
  pointwise [k0_pay1]
  rfl

variable (m : (ℓ : Loc nD τ sig) → Buf (Elt Ideal) ℓ)

theorem maps : ∀ t : Fin cfg0.N, win0_0.index t = ![0, 0] ∧ win0_1.index t = ![t.val / 6, 0, t.val % 6] ∧ win0_2.index t = ![t.val / 6, 0, t.val % 6]
    ∧ win0_3.index t = ![t.val / 6, 0, t.val % 6] :=
  (by decide +kernel : ∀ t : Fin grid0.N, _)

theorem points (t : Fin cfg0.N) : t.val < 24 := lt_of_lt_of_eq t.isLt (show cfg0.N = 24 from N_0)

abbrev arg0 (c : Dev nD) : (⟨2, ![40, 1024]⟩ : Shape).Idx → EReal := m ((c : Thread nD τ).loc main_arg0)
abbrev arg1 (c : Dev nD) : (⟨3, ![4, 1024, 6144]⟩ : Shape).Idx → EReal := m ((c : Thread nD τ).loc main_arg1)
abbrev arg2 (c : Dev nD) : (⟨2, ![4, 6144]⟩ : Shape).Idx → EReal := m ((c : Thread nD τ).loc main_arg2)

theorem V_b (c : Dev nD) : (V m c main_v0 : S4x1x6144.Idx → EReal) = shapeCast S4x1x6144 (arg2 m c : FVec Ideal S4x6144 .f32) shapeCasts_S4x6144_S4x1x6144 := by
  show StableHlo.after hostOps0 (fun b => m (c, b)) (Proc.tc.devRef main_v0) = _
  simp only [hostOps0]
  after_results
  rfl

theorem blk_c (c : Dev nD) (t : Fin cfg0.N) (r : Fin 40) (d : Fin 1024) : (iblk m c 0 t (ix2 r d : S40x1024.Idx) : EReal) = arg0 m c (ix2 r d) := by
  have e := (maps t).1
  blk_ext [iblk, V, e]

theorem blk_w (c : Dev nD) (t : Fin cfg0.N) (d j : Fin 1024) : (iblk m c 1 t (ix3 0 d j : S1x1024x1024.Idx) : EReal)
    = arg1 m c (ix3 ⟨t.val / 6, by have := points t; omega⟩ d ⟨1024 * (t.val % 6) + j.val, by omega⟩) := by
  have e := (maps t).2.1
  blk_ext [iblk, V, e]

theorem blk_b (c : Dev nD) (t : Fin cfg0.N) (j : Fin 1024) : (iblk m c 2 t (ix3 0 0 j : S1x1x1024.Idx) : EReal)
    = arg2 m c (ix2 ⟨t.val / 6, by have := points t; omega⟩ ⟨1024 * (t.val % 6) + j.val, by omega⟩) := by
  have e := (maps t).2.2.1
  have hi : (((cfg0.win 2).blk t).view.emb (ix3 0 0 j : S1x1x1024.Idx) : S4x1x6144.Idx) = ix3 ⟨t.val / 6, by have := points t; omega⟩ 0 ⟨1024 * (t.val % 6) + j.val, by omega⟩ := by blk_ext [e]
  refine (congrArg (V m c main_v0 : S4x1x6144.Idx → EReal) hi).trans ?_
  rw [V_b]
  pointwise []

theorem final (c : Dev nD) : (dats m 0 c).arrAt 3 cfg0.N = (Layer.ada (arg0 m c) (arg1 m c) (arg2 m c) : Buf (Elt Ideal) ((c : Thread nD τ).loc main_v1)) := by
  refine (dats m 0 c).arrAt_eq_of_covers 3 _ (by decide +kernel) fun t hfl y => ?_
  blk_simp
  rw [after0_3]
  have hp := points t
  have e := (maps t).2.2.2
  obtain ⟨r, j, rfl⟩ : ∃ (r : Fin 40) (j : Fin 1024), y = (ix3 0 r j : S1x40x1024.Idx) :=
    ⟨y 1, y 2, (eq_ix3 y).trans (congrArg (fun z : Fin 1 => (ix3 z (y 1) (y 2) : S1x40x1024.Idx)) (Subsingleton.elim _ _))⟩
  refine (out_at _ _ _ r j).trans ?_
  have hi : (((cfg0.win 3).blk t).view.emb (ix3 0 r j : S1x40x1024.Idx) : S4x40x6144.Idx) = ix3 ⟨t.val / 6, by omega⟩ r ⟨1024 * (t.val % 6) + j.val, by omega⟩ := by blk_ext [e]
  refine Eq.trans ?_ (congrArg (Layer.ada (arg0 m c) (arg1 m c) (arg2 m c)) hi).symm
  simp only [blk_c, blk_w, blk_b]
  rfl

/-- The call's run: its array, and the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v1) = Layer.ada (arg0 m c) (arg1 m c) (arg2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (final m c), (h c).2⟩) (Value.run_blocks m ρ)

end Cert.AdaIdeal.Pf

end
-- ==== Proof.Ada.Agree.lean ====
/- The modulation call and its reference end with the same array. -/
module

public import proofs.«01_k».proof.Defs
public import proofs.«01_k».proof.Proof.Ada.Arrays
public import proofs.«01_k».proof.Proof.Gen.AdaRefIdeal.Run
public import Idealize.ShloMosaic.Adequacy
public import Idealize.ShloMosaic.Init

@[expose] public section

noncomputable section

namespace Cert.AdaRefIdeal.Pf

open Cert.AdaRefIdeal Cert.AdaRefIdeal.Gen Idealize.ShloMosaic Idealize.ShloMosaic.Tactic

/-- The reference's term. -/
def term (c : FVec Ideal S40x1024 .f32) (w : FVec Ideal S4x1024x6144 .f32) (b : FVec Ideal S4x6144 .f32) : FVec Ideal S4x40x6144 .f32 :=
  addf (transpose S4x40x6144 [0, 2, 1] (Host.dotGeneral dot_S4x1024x6144_S40x1024_S4x6144x40_1_1_02_0_n_n none w
    (mulf c (Host.divf (broadcastInDim S40x1024 ![] bcast_S_S40x1024 (constant S_ .f32 0x3F800000#32))
      (addf (broadcastInDim S40x1024 ![] bcast_S_S40x1024 (constant S_ .f32 0x3F800000#32)) (Host.exp (Host.negf c)))))) transposes_S4x6144x40_S4x40x6144_0_2_1)
    (broadcastInDim S4x40x6144 ![0, 1, 2] bcast_S4x1x6144_S4x40x6144_0_1_2 (broadcastInDim S4x1x6144 ![0, 2] bcast_S4x6144_S4x1x6144_0_2 b))

theorem term_eq (c : FVec Ideal S40x1024 .f32) (w : FVec Ideal S4x1024x6144 .f32) (b : FVec Ideal S4x6144 .f32) : term c w b = Layer.ada c w b := by
  funext i
  obtain ⟨l, r, j, rfl⟩ : ∃ (l : Fin 4) (r : Fin 40) (j : Fin 6144), i = (ix3 l r j : S4x40x6144.Idx) := ⟨i 0, i 1, i 2, eq_ix3 i⟩
  pointwise [term]
  refine congrArg (· + _) (Finset.sum_congr rfl fun d _ => (mul_comm _ _).trans ?_)
  rfl

end Cert.AdaRefIdeal.Pf

namespace Cert.Proof

open Idealize.ShloMosaic Idealize.SL.Sem

theorem ada_frame_reference : Cert.quiescent_AdaRefIdeal := fun m ρ _ =>
  (θ_run Cert.AdaRefIdeal.defs _ _).mono (fun r h => ⟨fun c => (h c).2, Idealize.ShloMosaic.sem_eq_zero_of_no_sems (by decide) r.2⟩)
    (Cert.AdaRefIdeal.Value.run m ρ)

theorem ada : Cert.algebraic_AdaIdeal_AdaRefIdeal := by
  intro m ρ m' ρ' hpre hagree
  refine ⟨_, Cert.AdaIdeal.Pf.run m ρ, ?_⟩
  refine (θ_run Cert.AdaRefIdeal.defs _ _).mono (fun r h c => ?_) (Cert.AdaRefIdeal.Value.run m' ρ')
  obtain ⟨h0, h1⟩ := h c
  obtain ⟨e0, e1, e2⟩ := hagree c
  rw [e0, e1, e2] at h0
  exact ⟨h0.trans (Cert.AdaRefIdeal.Pf.term_eq _ _ _), h1⟩

end Cert.Proof

end
-- ==== Proof.Select.Math.lean ====
/- The three greatest of 32 numbers: by three rounds of taking the first greatest and leaving it out, and as the head of a stable
   sort. -/
module

public import proofs.«01_k».proof.Proof.GlaIn.Math
public import Idealize.ShloMosaic.Lib.SortPrefix
public import Idealize.ShloMosaic.Lib.PlanTiles.Rows

@[expose] public section

noncomputable section

namespace Cert.Layer

open Idealize.ShloMosaic Idealize.ShloMosaic.Tactic

theorem exists_first (f : Fin 32 → EReal) : ∃ p, (∀ n, f n ≤ f p) ∧ ∀ n, n < p → f n < f p := by
  obtain ⟨n, hn⟩ := Finite.exists_max f
  obtain ⟨p, hp, hmin⟩ := WellFounded.has_min (wellFounded_lt (α := Fin 32)) {p | ∀ n, f n ≤ f p} ⟨n, hn⟩
  exact ⟨p, hp, fun k hk => lt_of_not_ge fun h => hmin k (fun n => (hp n).trans h) hk⟩

/-- The first position of the greatest entry. -/
def first (f : Fin 32 → EReal) : Fin 32 := Classical.choose (exists_first f)

theorem first_le (f : Fin 32 → EReal) (n : Fin 32) : f n ≤ f (first f) := (Classical.choose_spec (exists_first f)).1 n
theorem first_lt (f : Fin 32 → EReal) (n : Fin 32) (h : n < first f) : f n < f (first f) := (Classical.choose_spec (exists_first f)).2 n h

/-- The entries with the first greatest left out. -/
def rest (f : Fin 32 → EReal) (n : Fin 32) : EReal := if n = first f then ⊥ else f n

/-- The three picks. -/
def picks (f : Fin 32 → EReal) : Fin 3 → Fin 32 := ![first f, first (rest f), first (rest (rest f))]

/-- What a maximum taken over the entries, and a minimum over the positions that hold it, find. -/
theorem fold_max (f : Fin 32 → EReal) : Finset.univ.fold max ⊥ f = f (first f) :=
  le_antisymm (Finset.fold_max_le _ |>.mpr ⟨bot_le, fun n _ => first_le f n⟩) (Finset.le_fold_max _ |>.mpr (Or.inr ⟨first f, Finset.mem_univ _, le_rfl⟩))

theorem fold_words (s : Finset (Fin 32)) (k : Fin 32 → ℕ) (hk : ∀ n, k n ≤ 32) :
    s.fold IntOp.minsi 2147483647#32 (fun n => BitVec.ofNat 32 (k n)) = BitVec.ofNat 32 (s.fold min 2147483647 k) ∧ s.fold min 2147483647 k < 2 ^ 31 := by
  refine Finset.induction_on s ⟨rfl, by simp⟩ fun a s ha ih => ?_
  rw [Finset.fold_insert ha, Finset.fold_insert ha, ih.1]
  have := hk a
  exact ⟨(PlanTiles.minsi_word (by omega) ih.2).trans (congrArg _ (min_comm _ _)), lt_of_le_of_lt (min_le_left _ _) (by omega)⟩

theorem fold_first (f : Fin 32 → EReal) (g : Fin 32 → BitVec 32) (hg : ∀ n, g n = BitVec.ofNat 32 (if f n = f (first f) then n.val else 32)) :
    Finset.univ.fold IntOp.minsi 2147483647#32 g = BitVec.ofNat 32 (first f).val := by
  rw [funext hg, (fold_words Finset.univ (fun n => if f n = f (first f) then n.val else 32) (fun n => by split <;> omega)).1]
  congr 1
  refine le_antisymm (Finset.fold_min_le _ |>.mpr (Or.inr ⟨first f, Finset.mem_univ _, by simp⟩)) (Finset.le_fold_min _ |>.mpr ⟨by have := (first f).isLt; omega, fun n _ => ?_⟩)
  split
  · next h => exact not_lt.mp fun hn => absurd h (first_lt f n hn).ne
  · exact (first f).isLt.le

/-! ## The stable sort -/

/-- Greater first, equal ones by position. -/
def before (f : Fin 32 → EReal) (k k' : Fin 32) : Bool := decide (f k' < f k) || (decide (f k = f k') && decide (k < k'))

theorem before_total (f : Fin 32 → EReal) : StrictTotalBefore (before f) :=
  StrictTotalBefore.of_key_then_position (fun a b : EReal => decide (b < a)) f (by simp) (fun a b c => by simpa using fun h h' => lt_trans h' h)
    (fun a b => by
      rcases lt_trichotomy a b with h | h | h
      · exact Or.inr (Or.inr (by simpa using h))
      · exact Or.inr (Or.inl h)
      · exact Or.inl (by simpa using h))

/-- A stable sort that compares the entries only is the sort that compares equal entries' positions too. -/
theorem stable (f : Fin 32 → EReal) (l : List (Fin 32)) (hl : l.Pairwise (· < ·)) :
    stableSort (fun k k' => decide (f k' < f k)) l = stableSort (before f) l := by
  induction l with
  | nil => rfl
  | cons a l ih =>
    obtain ⟨ha, hl⟩ := List.pairwise_cons.mp hl
    unfold stableSort
    rw [ih hl]
    refine insertBefore_congr _ _ a _ fun b hb => ?_
    have h := ha b ((perm_stableSort _ l).mem_iff.mp hb)
    simp [before, not_lt.mpr h.le]

theorem sortedFrom_of {n : ℕ} {R R' : Fin n → Fin n → Bool} (e : stableSort R (List.finRange n) = stableSort R' (List.finRange n)) : sortedFrom R = sortedFrom R' := by
  funext k
  unfold sortedFrom sortPositions
  rw [List.get_of_eq e]
  rfl

theorem first_ne {f g : Fin 32 → EReal} {p q : Fin 32} (hp : g p = ⊥) (hq : g q = f q) (hf : ⊥ < f q) : first g ≠ p := fun e =>
  absurd (first_le g q) (not_le.mpr (by rw [e, hp, hq]; exact hf))

/-- No entry still there goes before the first greatest. -/
theorem not_before {f g : Fin 32 → EReal} {p : Fin 32} (hp : g p = f p) (hs : g (first g) = f (first g)) : before f p (first g) = false := by
  have h := first_le g p
  rw [hp, hs] at h
  have h2 : ¬(f p = f (first g) ∧ p < first g) := fun ⟨e, hl⟩ => absurd (first_lt g p hl) (not_lt.mpr (by rw [hp, hs, e]))
  simp only [before, Bool.or_eq_false_iff, decide_eq_false_iff_not, not_lt, Bool.and_eq_false_iff]
  exact ⟨h, (not_and_or.mp h2).imp id (fun h => by simpa using h)⟩

theorem sorted_picks (f : Fin 32 → EReal) (hf : ∀ n, ⊥ < f n) (i : Fin 3) (h : i.val < 32) :
    sortedFrom (fun k k' => decide (f k' < f k)) ⟨i.val, h⟩ = picks f i := by
  refine (congrFun (sortedFrom_of (stable f (List.finRange 32) (List.pairwise_lt_finRange 32))) _).trans ?_
  have r1 : ∀ n, n ≠ first f → rest f n = f n := fun n h => if_neg h
  have z1 : rest f (first f) = ⊥ := if_pos rfl
  have n1 : first (rest f) ≠ first f := by
    by_cases h0 : first f = 0
    · exact first_ne z1 (r1 1 (by rw [h0]; decide)) (hf 1)
    · exact first_ne z1 (r1 0 (Ne.symm h0)) (hf 0)
  have r2 : ∀ n, n ≠ first f → n ≠ first (rest f) → rest (rest f) n = f n := fun n h h' => (if_neg h').trans (r1 n h)
  have z2 : rest (rest f) (first (rest f)) = ⊥ := if_pos rfl
  have z2' : rest (rest f) (first f) = ⊥ := (if_neg (Ne.symm n1)).trans z1
  obtain ⟨q, hq, hq'⟩ : ∃ q, q ≠ first f ∧ q ≠ first (rest f) := by
    by_contra hc
    have : (Finset.univ : Finset (Fin 32)) ⊆ {first f, first (rest f)} := fun q _ => by
      by_contra hn
      simp only [Finset.mem_insert, Finset.mem_singleton, not_or] at hn
      exact hc ⟨q, hn⟩
    exact absurd ((Finset.card_le_card this).trans Finset.card_le_two) (by rw [Finset.card_univ, Fintype.card_fin]; decide)
  have n2 : first (rest (rest f)) ≠ first f := first_ne z2' (r2 q hq hq') (hf q)
  have n2' : first (rest (rest f)) ≠ first (rest f) := first_ne z2 (r2 q hq hq') (hf q)
  have b0 : ∀ p, before f p (first f) = false := fun p => not_before rfl rfl
  have b1 : ∀ p, p ≠ first f → before f p (first (rest f)) = false := fun p h => not_before (r1 p h) (r1 _ n1)
  have b2 : ∀ p, p ≠ first f → p ≠ first (rest f) → before f p (first (rest (rest f))) = false := fun p h h' => not_before (r2 p h h') (r2 _ n2 n2')
  refine (before_total f).sortedFrom_eq_of_prefix (k := 3) (by decide) (picks f) ?_ ?_ ?_ i
  · intro a b hab
    fin_cases a <;> fin_cases b <;> first | rfl | (exfalso; simp [picks] at hab; first | exact n1 hab | exact n1 hab.symm | exact n2 hab | exact n2 hab.symm | exact n2' hab | exact n2' hab.symm)
  · intro a b hab
    fin_cases a <;> fin_cases b <;> first | exact absurd hab (by decide) | exact b0 _ | exact b1 _ n2
  · intro a p hp
    fin_cases a
    · exact b0 p
    · exact b1 p (hp 0).symm
    · exact b2 p (hp 0).symm (hp 1).symm

/-! ## The scores -/

theorem of256 (x : EReal) : Ideal.div x (Ideal.ofBits .f32 0x43800000#32) = x * Ideal.ofBits .f32 0x3B800000#32 := by
  have e : Ideal.ofBits .f32 0x43800000#32 = ((256 : ℝ) : EReal) := by
    simp [Ideal.ofBits, Ideal.ieee]
    exact congrArg ((↑) : ℝ → EReal) (show (8388608 : ℝ) * (2 ^ 15)⁻¹ = 256 by norm_num)
  have ec : Ideal.ofBits .f32 0x3B800000#32 = ((1 / 256 : ℝ) : EReal) := by
    simp [Ideal.ofBits, Ideal.ieee]
    exact congrArg ((↑) : ℝ → EReal) (show (8388608 : ℝ) * (2 ^ 31)⁻¹ = 256⁻¹ by norm_num)
  rw [e, ec, Ideal.div_coe (by norm_num)]

theorem scale_real : IsReal (Ideal.ofBits .f32 0x3B800000#32) :=
  ⟨1 / 256, by
    simp [Ideal.ofBits, Ideal.ieee]
    exact congrArg ((↑) : ℝ → EReal) (show (8388608 : ℝ) * (2 ^ 31)⁻¹ = 256⁻¹ by norm_num)⟩

/-- A query against a block's mean key. -/
def score (q k : Fin 128 → EReal) : EReal := ∑ d, q d * (k d * Ideal.ofBits .f32 0x3B800000#32)

theorem score_real {q k : Fin 128 → EReal} (hq : ∀ d, IsReal (q d)) (hk : ∀ d, IsReal (k d)) : IsReal (score q k) :=
  IsReal.sum fun d => (hq d).mul ((hk d).mul scale_real)

/-- The same with both sides split in a part and what it leaves. -/
theorem score_split {q k : Fin 128 → EReal} (hq : ∀ d, IsReal (q d)) (hk : ∀ d, IsReal (k d)) :
    ((∑ d, q d * (k d * Ideal.ofBits .f32 0x3B800000#32)) + ∑ d, (q d - q d) * (k d * Ideal.ofBits .f32 0x3B800000#32))
      + (∑ d, q d * (k d * Ideal.ofBits .f32 0x3B800000#32 - k d * Ideal.ofBits .f32 0x3B800000#32)) = score q k := by
  have s2 : (∑ d, (q d - q d) * (k d * Ideal.ofBits .f32 0x3B800000#32)) = 0 := Finset.sum_eq_zero fun d _ => by rw [(hq d).sub_self, zero_mul]
  have s3 : (∑ d, q d * (k d * Ideal.ofBits .f32 0x3B800000#32 - k d * Ideal.ofBits .f32 0x3B800000#32)) = 0 :=
    Finset.sum_eq_zero fun d _ => by rw [((hk d).mul scale_real).sub_self, mul_zero]
  rw [s2, s3, add_zero, add_zero]
  rfl

end Cert.Layer

end
-- ==== Proof.Select.Block.lean ====
/- What a grid point of the block choice writes: for each head the three blocks whose mean keys score greatest. -/
module

public import proofs.«01_k».proof.Proof.Gen.SelectIdeal.Frame
public import proofs.«01_k».proof.Proof.Select.Math
public import Idealize.ShloMosaic.Lib.Pointwise

@[expose] public section

set_option maxRecDepth 16384

noncomputable section

namespace Cert.SelectIdeal.Pf

open Cert.SelectIdeal Cert.SelectIdeal.Gen Idealize.ShloMosaic Idealize.ShloMosaic.TcCoe Idealize.ShloMosaic.Tactic
open Cert.Layer

/-- Every row's first greatest score's position, -/
def pick (x : FVec Ideal S8x32 .f32) : IVec S8x1 32 :=
  shapeCast S8x1 (multiReductionI .minsi [1] S8 (select (cmpf .oeq x (broadcastTo S8x32 (shapeCast S8x1
    (multiReduction .maximumf [1] S8 x 0xFF800000#32 reduces_S8x32_S8 (.inl rfl) rfl) shapeCasts_S8_S8x1) broadcasts_S8x1_S8x32))
    (iota .tc S8x32 32 [1] iota_S8x32_d1_w32) (broadcast S8x32 32#32)) 2147483647#32 reduces_S8x32_S8 rfl) shapeCasts_S8_S8x1

/-- the scores without it, -/
def drop (x : FVec Ideal S8x32 .f32) : FVec Ideal S8x32 .f32 :=
  select (cmpi .eq (iota .tc S8x32 32 [1] iota_S8x32_d1_w32) (broadcastTo S8x32 (pick x) broadcasts_S8x1_S8x32))
    (broadcast S8x32 (Scalar.ofBits .f32 0xFF800000#32)) x

/-- and a result with it in lane `k`. -/
def put (k : BitVec 32) (p : IVec S8x1 32) (out : IVec S8x128 32) : IVec S8x128 32 :=
  select (cmpi .eq (iota .tc S8x128 32 [1] iota_S8x128_d1_w32) (broadcast S8x128 k))
    (broadcastTo S8x128 (shapeCast S8x1 p shapeCasts_S8x1_S8x1) broadcasts_S8x1_S8x128) out

/-- A head's three rounds. -/
def rounds (k0 k1 k2 : BitVec 32) (x : FVec Ideal S8x32 .f32) (out : IVec S8x128 32) : IVec S8x128 32 :=
  put k2 (pick (drop (drop x))) (put k1 (pick (drop x)) (put k0 (pick x) out))

section Payloads
variable (out : IVec S8x128 32) (a : Vec Ideal S1x32x1x128 .f32) (b : Vec Ideal S1x8x128 .f32)

abbrev I : IVec S8x128 32 := iota .tc S8x128 32 [1] iota_S8x128_d1_w32
abbrev J : IVec S8x32 32 := iota .tc S8x32 32 [1] iota_S8x32_d1_w32

theorem p0 : k0_pay7 I out J (k0_pay4 a b) (k0_pay5 a b) (k0_pay6 a b) = rounds 0#32 1#32 2#32 (k0_pay3 a b) out := rfl
theorem p1 : k0_pay18 I out (k0_pay14 (k0_pay8 a) (k0_pay10 b) (k0_pay11 a) (k0_pay12 b)) (k0_pay16 (k0_pay8 a) (k0_pay10 b) (k0_pay11 a) (k0_pay12 b))
    (k0_pay17 (k0_pay8 a) (k0_pay10 b) (k0_pay11 a) (k0_pay12 b)) = rounds 3#32 4#32 5#32 (k0_pay3 a b) out := rfl
theorem p2 : k0_pay21 I out J (k0_pay19 a b) (k0_pay20 a b) = rounds 6#32 7#32 8#32 (k0_pay3 a b) out := rfl
theorem p3 : k0_pay26 I out J (k0_pay23 a b) (k0_pay24 a b) (k0_pay25 a b) = rounds 9#32 10#32 11#32 (k0_pay3 a b) out := rfl
theorem p4 : k0_pay41 I out (k0_pay37 (k0_pay29 b) (k0_pay30 a) (k0_pay31 b) (k0_pay32 a) (k0_pay33 a b)) (k0_pay38 (k0_pay29 b) (k0_pay30 a) (k0_pay31 b) (k0_pay32 a) (k0_pay33 a b))
    (k0_pay39 I) (k0_pay40 (k0_pay29 b) (k0_pay30 a) (k0_pay31 b) (k0_pay32 a) (k0_pay33 a b)) = rounds 12#32 13#32 14#32 (k0_pay3 a b) out := rfl
theorem p5 : k0_pay44 I out J (k0_pay42 a b) (k0_pay43 a b) = rounds 15#32 16#32 17#32 (k0_pay3 a b) out := rfl
theorem p6 : k0_pay53 I out J (k0_pay48 (k0_pay45 a) k0_pay46 b) (k0_pay49 (k0_pay45 a) k0_pay46 b) (k0_pay50 (k0_pay45 a) k0_pay46 b) (k0_pay51 (k0_pay45 a) k0_pay46 b) k0_pay52
    = rounds 18#32 19#32 20#32 (k0_pay3 a b) out := rfl
theorem p7 : k0_pay1 I (k0_pay59 (k0_pay54 a b)) (k0_pay60 I out (k0_pay54 a b)) (k0_pay61 I) (k0_pay62 (k0_pay54 a b))
    = shapeCast S1x8x128 (rounds 21#32 22#32 23#32 (k0_pay3 a b) out) shapeCasts_S8x128_S1x8x128 := rfl

end Payloads

theorem score_at (a : Vec Ideal S1x32x1x128 .f32) (b : Vec Ideal S1x8x128 .f32) (r : Fin 8) (n : Fin 32)
    (hq : ∀ d, IsReal (b (ix3 0 r d))) (hk : ∀ d, IsReal (a (ix4 0 n 0 d))) :
    (k0_pay3 a b (ix2 r n) : EReal) = score (fun d => b (ix3 0 r d)) (fun d => a (ix4 0 n 0 d)) := by
  pointwise [k0_pay3]
  have hn : IntOp.cmpi .slt (BitVec.ofNat 32 n.val) 32#32 = 1#1 := by clear hk; revert n; decide
  rw [hn]
  exact score_split hq hk

theorem bot_eq : Ideal.ofBits .f32 0xFF800000#32 = ⊥ := by simp [Ideal.ofBits, Ideal.ieee]

theorem pick_at (x : FVec Ideal S8x32 .f32) (r : Fin 8) : pick x (ix2 r 0) = BitVec.ofNat 32 (first fun n => x (ix2 r n)).val := by
  pointwise [pick]
  rw [bot_eq, fold_max fun n => x (ix2 r n)]
  exact fold_first (fun n => x (ix2 r n)) _ fun n => by split <;> rfl

theorem drop_at (x : FVec Ideal S8x32 .f32) (r : Fin 8) (n : Fin 32) : (drop x (ix2 r n) : EReal) = rest (fun n => x (ix2 r n)) n := by
  pointwise [drop]
  rw [bot_eq, pick_at]
  unfold rest
  generalize first (fun n => x (ix2 r n)) = p
  have hp : IntOp.cmpi .eq (BitVec.ofNat 32 n.val) (BitVec.ofNat 32 p.val) = if n = p then 1#1 else 0#1 := by revert n p; decide +kernel
  rw [hp]
  split <;> rfl

theorem put_at (k : BitVec 32) (p : IVec S8x1 32) (out : IVec S8x128 32) (r : Fin 8) (l : Fin 128) :
    put k p out (ix2 r l) = if BitVec.ofNat 32 l.val = k then p (ix2 r 0) else out (ix2 r l) := by
  pointwise [put]
  by_cases h : BitVec.ofNat 32 l.val = k
  · rw [if_pos h, h]
    show Scalar.select (BitVec.ofBool (k == k)) _ _ = _
    simp [Scalar.select]
  · rw [if_neg h]
    show Scalar.select (BitVec.ofBool (BitVec.ofNat 32 l.val == k)) _ _ = _
    rw [beq_false_of_ne h]
    rfl

/-- A head's rounds fill its three lanes and leave the others. -/
theorem rounds_at (a : ℕ) (ha : a < 8) {k0 k1 k2 : BitVec 32} (h0 : k0 = BitVec.ofNat 32 (3 * a)) (h1 : k1 = BitVec.ofNat 32 (3 * a + 1)) (h2 : k2 = BitVec.ofNat 32 (3 * a + 2))
    (x : FVec Ideal S8x32 .f32) (out : IVec S8x128 32) (r : Fin 8) (l : Fin 128) :
    rounds k0 k1 k2 x out (ix2 r l) = if l.val / 3 = a then BitVec.ofNat 32 (picks (fun n => x (ix2 r n)) ⟨l.val % 3, Nat.mod_lt _ (by decide)⟩).val else out (ix2 r l) := by
  have d1 : (fun n => (drop x (ix2 r n) : EReal)) = rest fun n => x (ix2 r n) := funext fun n => drop_at x r n
  have d2 : (fun n => (drop (drop x) (ix2 r n) : EReal)) = rest (rest fun n => x (ix2 r n)) := (funext fun n => drop_at (drop x) r n).trans (by rw [d1])
  have hw : ∀ k : ℕ, k < 128 → (BitVec.ofNat 32 l.val = BitVec.ofNat 32 k ↔ l.val = k) := fun k hk => by
    rw [← BitVec.toNat_inj, BitVec.toNat_ofNat, BitVec.toNat_ofNat, Nat.mod_eq_of_lt (by omega), Nat.mod_eq_of_lt (by omega)]
  unfold rounds
  rw [put_at, put_at, put_at, pick_at, pick_at, pick_at, d2, d1, h0, h1, h2]
  simp only [hw _ (show 3 * a < 128 by omega), hw _ (show 3 * a + 1 < 128 by omega), hw _ (show 3 * a + 2 < 128 by omega)]
  by_cases hl : l.val / 3 = a
  · rw [if_pos hl]
    obtain e | e | e : l.val = 3 * a ∨ l.val = 3 * a + 1 ∨ l.val = 3 * a + 2 := by omega
    · have em : (⟨l.val % 3, Nat.mod_lt _ (by decide)⟩ : Fin 3) = 0 := Fin.ext (by show l.val % 3 = 0; omega)
      rw [if_neg (by omega), if_neg (by omega), if_pos e, em]
      rfl
    · have em : (⟨l.val % 3, Nat.mod_lt _ (by decide)⟩ : Fin 3) = 1 := Fin.ext (by show l.val % 3 = 1; omega)
      rw [if_neg (by omega), if_pos e, em]
      rfl
    · have em : (⟨l.val % 3, Nat.mod_lt _ (by decide)⟩ : Fin 3) = 2 := Fin.ext (by show l.val % 3 = 2; omega)
      rw [if_pos e, em]
      rfl
  · rw [if_neg hl, if_neg (by omega), if_neg (by omega), if_neg (by omega)]

section Block
variable (x0 : Vec Ideal S1x8x1024 .f32) (x1 : Vec Ideal S1x32x8x128 .f32)

/-- Head `h`'s scores of row `r`. -/
def scores (h r : Fin 8) (n : Fin 32) : EReal := score (fun d => x0 (ix3 0 r ⟨128 * h.val + d.val, by omega⟩)) (fun d => x1 (ix4 0 n h d))

theorem scores_at (h : Fin 8) {oa : Fin 4 → ℕ} {ob : Fin 3 → ℕ} (ha : oa = ![0, 0, h.val, 0]) (hb : ob = ![0, 0, 128 * h.val]) (ia) (ib) (r : Fin 8)
    (hq : ∀ j, IsReal (x0 (ix3 0 r j))) (hk : ∀ y, IsReal (x1 y)) :
    (fun n => (k0_pay3 (View.ld x1 (Rect.unit (s := S1x32x8x128) oa S1x32x1x128.size ia)) (View.ld x0 (Rect.unit (s := S1x8x1024) ob S1x8x128.size ib)) (ix2 r n) : EReal)) = scores x0 x1 h r := by
  subst ha hb
  have ea : ∀ n d, (View.ld x1 (Rect.unit (s := S1x32x8x128) ![0, 0, h.val, 0] S1x32x1x128.size ia) (ix4 0 n 0 d : S1x32x1x128.Idx) : EReal) = x1 (ix4 0 n h d) := fun n d =>
    View.ld_unit_apply_of x1 _ _ ia (ix4 0 n 0 d : S1x32x1x128.Idx) _ fun a => by fin_cases a <;> simp [ix4]
  have eb : ∀ d : Fin 128, (View.ld x0 (Rect.unit (s := S1x8x1024) ![0, 0, 128 * h.val] S1x8x128.size ib) (ix3 0 r d : S1x8x128.Idx) : EReal) = x0 (ix3 0 r ⟨128 * h.val + d.val, by omega⟩) := fun d =>
    View.ld_unit_apply_of x0 _ _ ib (ix3 0 r d : S1x8x128.Idx) _ fun a => by fin_cases a <;> simp [ix3]
  funext n
  refine (score_at _ _ r n (fun d => ?_) (fun d => ?_)).trans ?_
  · rw [eb]; exact hq _
  · rw [ea]; exact hk _
  · exact congrArg₂ score (funext eb) (funext (ea n))

/-- Lane `l` of row `r` holds one of the three picks of head `l / 3`. -/
theorem out_at (r : Fin 8) (hq : ∀ j, IsReal (x0 (ix3 0 r j))) (hk : ∀ y, IsReal (x1 y)) (h : Fin 8) (l : Fin 128) (hl : l.val / 3 = h.val) :
    out0_2 x0 x1 (ix3 0 r l) = BitVec.ofNat 32 (picks (scores x0 x1 h r) ⟨l.val % 3, Nat.mod_lt _ (by decide)⟩).val := by
  unfold_out out0_2
  rw [View.canon_cons_unit_lit _ _ _ (by decide), p0, p1, p2, p3, p4, p5, p6, p7]
  pointwise []
  rw [rounds_at 7 (by decide) rfl rfl rfl, rounds_at 6 (by decide) rfl rfl rfl, rounds_at 5 (by decide) rfl rfl rfl, rounds_at 4 (by decide) rfl rfl rfl,
    rounds_at 3 (by decide) rfl rfl rfl, rounds_at 2 (by decide) rfl rfl rfl, rounds_at 1 (by decide) rfl rfl rfl, rounds_at 0 (by decide) rfl rfl rfl, hl]
  have e : ∀ {f g : Fin 32 → EReal} (i : Fin 3), f = g → BitVec.ofNat 32 (picks f i).val = BitVec.ofNat 32 (picks g i).val := fun i e => e ▸ rfl
  clear hl
  fin_cases h
  · exact e _ (scores_at x0 x1 0 rfl rfl _ _ r hq hk)
  · exact e _ (scores_at x0 x1 1 rfl rfl _ _ r hq hk)
  · exact e _ (scores_at x0 x1 2 rfl rfl _ _ r hq hk)
  · exact e _ (scores_at x0 x1 3 rfl rfl _ _ r hq hk)
  · exact e _ (scores_at x0 x1 4 rfl rfl _ _ r hq hk)
  · exact e _ (scores_at x0 x1 5 rfl rfl _ _ r hq hk)
  · exact e _ (scores_at x0 x1 6 rfl rfl _ _ r hq hk)
  · exact e _ (scores_at x0 x1 7 rfl rfl _ _ r hq hk)

end Block

end Cert.SelectIdeal.Pf

end
-- ==== Proof.Select.Arrays.lean ====
/- What the block choice's array holds after the run, given that its arguments are numbers. -/
module

public import proofs.«01_k».proof.Proof.Select.Block
public import Idealize.ShloMosaic.Lib.KernelVsHost
public import Idealize.ShloMosaic.Lib.Claim

@[expose] public section

set_option maxRecDepth 16384

noncomputable section

namespace Cert.Layer

open Idealize.ShloMosaic Idealize.ShloMosaic.TcCoe Idealize.ShloMosaic.Tactic

/-- Token `t` of sequence `b` scored by head `h` against a past block. -/
def scoreAt (q : (⟨2, ![128, 1024]⟩ : Shape).Idx → EReal) (s : (⟨4, ![32, 32, 8, 128]⟩ : Shape).Idx → EReal) (b : Fin 32) (h : Fin 8) (t : Fin 4) (n : Fin 32) : EReal :=
  score (fun d => q (ix2 ⟨4 * b.val + t.val, by omega⟩ ⟨128 * h.val + d.val, by omega⟩)) (fun d => s (ix4 b n h d))

/-- The chosen blocks. -/
def chosen (q : (⟨2, ![128, 1024]⟩ : Shape).Idx → EReal) (s : (⟨4, ![32, 32, 8, 128]⟩ : Shape).Idx → EReal) : (⟨4, ![32, 8, 4, 3]⟩ : Shape).Idx → BitVec 32 :=
  fun i => BitVec.ofNat 32 (picks (scoreAt q s (i 0) (i 1) (i 2)) (i 3)).val

end Cert.Layer

namespace Cert.SelectIdeal.Pf

open Cert.SelectIdeal Cert.SelectIdeal.Gen Idealize.ShloMosaic Idealize.ShloMosaic.TcCoe Idealize.ShloMosaic.Tactic
open Cert.Layer
open Idealize.SL.Sem
open Idealize.ShloMosaic.Pipeline (Dat)

variable (m : (ℓ : Loc nD τ sig) → Buf (Elt Ideal) ℓ)

theorem maps : ∀ t : Fin cfg0.N, win0_0.index t = ![t.val, 0, 0] ∧ win0_1.index t = ![t.val, 0, 0, 0] ∧ win0_2.index t = ![t.val, 0, 0] :=
  (by decide +kernel : ∀ t : Fin grid0.N, _)

/-- The sequence of point `t`. -/
abbrev seq (t : Fin cfg0.N) : Fin 32 := ⟨t.val, Nat.lt_of_lt_of_eq t.isLt N_0⟩

abbrev arg0 (c : Dev nD) : (⟨2, ![128, 1024]⟩ : Shape).Idx → EReal := m ((c : Thread nD τ).loc main_arg0)
abbrev arg1 (c : Dev nD) : (⟨4, ![32, 32, 8, 128]⟩ : Shape).Idx → EReal := m ((c : Thread nD τ).loc main_arg1)

/-- Each sequence's 4 rows followed by 4 of zeros. -/
def padQ (x : FVec Ideal S128x1024 .f32) : FVec Ideal S32x8x1024 .f32 :=
  pad S32x8x1024 ![0, 0, 0] ![0, 4, 0] ![0, 0, 0] (shapeCast S32x4x1024 x shapeCasts_S128x1024_S32x4x1024)
    (sitofp .f32 (constantI S_ 32 0#32)) pads_S32x4x1024_S32x8x1024_000_040_000 h_S_

theorem rows (x : FVec Ideal S128x1024 .f32) (b : Fin 32) (t : Fin 4) (j : Fin 1024) :
    (shapeCast S32x4x1024 x shapeCasts_S128x1024_S32x4x1024 (ix3 b t j) : EReal) = x (ix2 ⟨4 * b.val + t.val, by omega⟩ j) := by
  pointwise []
  simp only [Nat.mul_comm]

theorem padQ_at (x : FVec Ideal S128x1024 .f32) (b : Fin 32) (t : Fin 4) (j : Fin 1024) :
    (padQ x (ix3 b ⟨t.val, by omega⟩ j) : EReal) = x (ix2 ⟨4 * b.val + t.val, by omega⟩ j) := by
  unfold padQ
  rw [pad_apply_of_inside _ _ _ _ _ _ _ _ (ix3 b t j : S32x4x1024.Idx) (fun a => by fin_cases a <;> simp [ix3])]
  exact rows x b t j

theorem V_q (c : Dev nD) : (V m c main_v1 : S32x8x1024.Idx → EReal) = padQ (arg0 m c) := by
  show StableHlo.after (List.flatten [hostOps0, hostOps0_1]) (fun b => m (c, b)) (Proc.tc.devRef main_v1) = _
  simp only [hostOps0, hostOps0_1, List.flatten_cons, List.flatten_nil, List.append_nil, List.cons_append,
    List.nil_append, StableHlo.TRef.unary, StableHlo.TRef.binary, StableHlo.TRef.toBuf, StableHlo.TRef.ofBuf, cast_eq]
  after_results
  rfl

/-- Sequence `b`'s rows and its blocks' key sums. -/
def qB (c : Dev nD) (b : Fin 32) : Vec Ideal S1x8x1024 .f32 := fun y => padQ (arg0 m c) (ix3 b (y 1) (y 2))
def kB (c : Dev nD) (b : Fin 32) : Vec Ideal S1x32x8x128 .f32 := fun y => arg1 m c (ix4 b (y 1) (y 2) (y 3))

theorem blk_q (c : Dev nD) (t : Fin cfg0.N) : (iblk m c 0 t : S1x8x1024.Idx → EReal) = qB m c (seq t) := by
  funext y
  obtain ⟨z, r, j, rfl⟩ : ∃ (z : Fin 1) (r : Fin 8) (j : Fin 1024), y = (ix3 z r j : S1x8x1024.Idx) := ⟨y 0, y 1, y 2, eq_ix3 y⟩
  obtain rfl : z = 0 := Subsingleton.elim _ _
  have e := (maps t).1
  have hi : (((cfg0.win 0).blk t).view.emb (ix3 0 r j : S1x8x1024.Idx) : S32x8x1024.Idx) = ix3 (seq t) r j := by blk_ext [e]
  refine (congrArg (V m c main_v1 : S32x8x1024.Idx → EReal) hi).trans ?_
  rw [V_q]
  rfl

theorem blk_k (c : Dev nD) (t : Fin cfg0.N) : (iblk m c 1 t : S1x32x8x128.Idx → EReal) = kB m c (seq t) := by
  funext y
  obtain ⟨z, n, h, d, rfl⟩ : ∃ (z : Fin 1) (n : Fin 32) (h : Fin 8) (d : Fin 128), y = (ix4 z n h d : S1x32x8x128.Idx) := ⟨y 0, y 1, y 2, y 3, eq_ix4 y⟩
  obtain rfl : z = 0 := Subsingleton.elim _ _
  have e := (maps t).2.1
  have hi : (((cfg0.win 1).blk t).view.emb (ix4 0 n h d : S1x32x8x128.Idx) : S32x32x8x128.Idx) = ix4 (seq t) n h d := by blk_ext [e]
  refine (congrArg (V m c main_arg1 : S32x32x8x128.Idx → EReal) hi).trans ?_
  rw [V_main_arg1]
  rfl

/-- The region's array. -/
def outs (c : Dev nD) : S32x8x128.Idx → BitVec 32 := fun y => out0_2 (qB m c (y 0)) (kB m c (y 0)) (ix3 0 (y 1) (y 2))

theorem final (c : Dev nD) : (dats m 0 c).arrAt 2 cfg0.N = (outs m c : Buf (Elt Ideal) ((c : Thread nD τ).loc main_v2)) := by
  refine (dats m 0 c).arrAt_eq_of_covers 2 _ (by decide +kernel) fun t hfl y => ?_
  blk_simp
  rw [after0_2]
  have e := (maps t).2.2
  obtain ⟨z, r, l, rfl⟩ : ∃ (z : Fin 1) (r : Fin 8) (l : Fin 128), y = (ix3 z r l : S1x8x128.Idx) := ⟨y 0, y 1, y 2, eq_ix3 y⟩
  obtain rfl : z = 0 := Subsingleton.elim _ _
  have hi : (((cfg0.win 2).blk t).view.emb (ix3 0 r l : S1x8x128.Idx) : S32x8x128.Idx) = ix3 (seq t) r l := by blk_ext [e]
  refine Eq.trans ?_ (congrArg (outs m c) hi).symm
  exact congrArg₂ (fun a b => out0_2 (F := Ideal) a b (ix3 0 r l)) (blk_q m c t) (blk_k m c t)

/-- The lanes that hold picks, by head. -/
def cut (x : IVec S32x8x128 32) : IVec S32x8x4x3 32 :=
  transpose S32x8x4x3 [0, 2, 1, 3] (shapeCast S32x4x8x3 (extractStridedSlice S32x4x24 ![0, 0, 0] x slices_S32x8x128_S32x4x24_0_0_0) shapeCasts_S32x4x24_S32x4x8x3) transposes_S32x4x8x3_S32x8x4x3_0_2_1_3

theorem cut_at (x : IVec S32x8x128 32) (b : Fin 32) (h : Fin 8) (t : Fin 4) (i : Fin 3) :
    cut x (ix4 b h t i) = x (ix3 b ⟨t.val, by omega⟩ ⟨3 * h.val + i.val, by omega⟩) := by
  pointwise [cut]
  simp only [Nat.mul_comm]

theorem cut_outs (c : Dev nD) (hq : ∀ i, IsReal (arg0 m c i)) (hk : ∀ i, IsReal (arg1 m c i)) : cut (outs m c) = chosen (arg0 m c) (arg1 m c) := by
  funext y
  obtain ⟨b, h, t, i, rfl⟩ : ∃ (b : Fin 32) (h : Fin 8) (t : Fin 4) (i : Fin 3), y = (ix4 b h t i : S32x8x4x3.Idx) := ⟨y 0, y 1, y 2, y 3, eq_ix4 y⟩
  have hp : ∀ j, qB m c b (ix3 0 ⟨t.val, by omega⟩ j) = arg0 m c (ix2 ⟨4 * b.val + t.val, by omega⟩ j) := padQ_at _ b t
  refine (cut_at _ b h t i).trans ?_
  refine (out_at (qB m c b) (kB m c b) ⟨t.val, by omega⟩ (fun j => ?_) (fun y => hk _) h ⟨3 * h.val + i.val, by omega⟩ (by show (3 * h.val + i.val) / 3 = h.val; omega)).trans ?_
  · rw [hp]; exact hq _
  · have ei : (⟨(3 * h.val + i.val) % 3, Nat.mod_lt _ (by decide)⟩ : Fin 3) = i := Fin.ext (by show (3 * h.val + i.val) % 3 = i.val; omega)
    have es : scores (qB m c b) (kB m c b) h ⟨t.val, by omega⟩ = scoreAt (arg0 m c) (arg1 m c) b h t := funext fun n => congrArg (fun q => score q _) (funext fun d => hp _)
    exact congrArg₂ (fun f i => BitVec.ofNat 32 (picks f i).val) es ei

theorem tail (c : Dev nD) (hq : ∀ i, IsReal (arg0 m c i)) (hk : ∀ i, IsReal (arg1 m c i)) :
    (Pipeline.afterTail₀ cfgs (dats m) 0 (V0 m) [hostOps1] c main_v5 : S32x8x4x3.Idx → BitVec 32) = chosen (arg0 m c) (arg1 m c) := by
  have h2 : Pipeline.withArrays (cfgs 0).spec c (V0 m c) (fun w => (dats m 0 c).arrAt w (cfgs 0).N) (Proc.devRef .tc main_v2) = outs m c :=
    ((dats m 0 c).withArrays_arrAt (by decide : Pipeline.SharedIn spec0) (V0 m c) (A_eq m c) 2).trans (final m c)
  unfold Pipeline.afterTail₀
  simp only [hostOps1, List.flatten_cons, List.flatten_nil, List.append_nil]
  after_results
  rw [h2]
  exact cut_outs m c hq hk

/-- The call's run: its chosen blocks, and the arguments unchanged. -/
theorem run (ρ : Dev nD → PrngReg) (hq : ∀ c i, IsReal (arg0 m c i)) (hk : ∀ c i, IsReal (arg1 m c i)) :
    θ_run defs (onTc (τ := τ) (main (F := Ideal))) ⟨m, fun _ => 0, ρ⟩ (fun r => ∀ c : Dev nD,
      r.2.mem ((c.tc : Thread nD τ).loc main_v5) = chosen (arg0 m c) (arg1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h.1 c).2 main_v5 (Pipeline.mem_restRefs_of main_v5 (by decide) (by decide))).trans (tail m c (hq c) (hk c)), h.2 c⟩) (θ_run_and (run_main m ρ) (unchanged m ρ))

end Cert.SelectIdeal.Pf

end
-- ==== Proof.Select.Agree.lean ====
/- The block choice and its reference end with the same blocks. -/
module

public import proofs.«01_k».proof.Defs
public import proofs.«01_k».proof.Proof.Select.Arrays
public import proofs.«01_k».proof.Proof.Moba.Precond
public import proofs.«01_k».proof.Proof.Gen.SelectRefIdeal.Run
public import Idealize.ShloMosaic.Adequacy
public import Idealize.ShloMosaic.Init

@[expose] public section

set_option maxRecDepth 16384

noncomputable section

namespace Cert.Pre_numbers_select

open Idealize.ShloMosaic

instance facts : Facts := ⟨by decide, by decide, by decide, by decide, by decide⟩

/-- The precondition in words: every query and every key sum is a number. -/
theorem allReal (q : FVec Ideal S128x1024 .f32) (s : FVec Ideal S32x32x8x128 .f32) (h : fn (F := Ideal) q s = fun _ => 1#1) :
    (∀ i, Layer.IsReal (q i)) ∧ ∀ i, Layer.IsReal (s i) := by
  obtain ⟨h0, h1⟩ := Pre_numbers.and_one _ _ (congrFun h ix0)
  exact ⟨Pre_numbers.real_of_all q _ _ h0, Pre_numbers.real_of_all s _ _ h1⟩

end Cert.Pre_numbers_select

namespace Cert.SelectRefIdeal.Pf

open Cert.SelectRefIdeal Cert.SelectRefIdeal.Gen Idealize.ShloMosaic Idealize.ShloMosaic.Tactic
open Cert.Layer

/-- The reference's scores. -/
def table (q : FVec Ideal S128x1024 .f32) (s : FVec Ideal S32x32x8x128 .f32) : FVec Ideal S32x8x4x32 .f32 :=
  Host.dotGeneral dot_S32x8x4x128_S32x8x32x128_S32x8x4x32_3_3_2_2_01_01 none (transpose S32x8x4x128 [0, 2, 1, 3] (shapeCast S32x4x8x128 q shapeCasts_S128x1024_S32x4x8x128) transposes_S32x4x8x128_S32x8x4x128_0_2_1_3)
    (Host.divf (transpose S32x8x32x128 [0, 2, 1, 3] s transposes_S32x32x8x128_S32x8x32x128_0_2_1_3) (broadcastInDim S32x8x32x128 ![] bcast_S_S32x8x32x128 (constant S_ .f32 0x43800000#32)))

theorem table_at (q : FVec Ideal S128x1024 .f32) (s : FVec Ideal S32x32x8x128 .f32) (b : Fin 32) (h : Fin 8) (t : Fin 4) (n : Fin 32) :
    (table q s (ix4 b h t n) : EReal) = scoreAt q s b h t n := by
  pointwise [table]
  unfold scoreAt score
  simp only [of256, Nat.mul_comm]

theorem top_at (x : FVec Ideal S32x8x4x32 .f32) (b : Fin 32) (h : Fin 8) (t : Fin 4) (i : Fin 3) :
    (Host.topK S32x8x4x3 3 (FloatOps.cmpfTotal .gt) x sliceFits_S32x8x4x32_S32x8x4x3).2 (ix4 b h t i)
      = BitVec.ofNat 32 (sortedFrom (fun k k' => decide (x (ix4 b h t k') < x (ix4 b h t k))) ⟨i.val, by omega⟩).val := by
  unfold Host.topK Host.sort2
  pointwise []
  have e : ∀ j k : Fin 32, (ix4 b h t j : S32x8x4x32.Idx).along 3 k = ix4 b h t k := fun j k => funext fun a => by fin_cases a <;> rfl
  have eb : ∀ a : Bool, (BitVec.ofBool a == 1#1) = a := by decide
  rw [e]
  refine congrArg (fun R => BitVec.ofNat 32 (sortedFrom R (⟨i.val, by omega⟩ : Fin 32)).val) (funext fun k => funext fun k' => ?_)
  rw [e, e]
  exact eb _

theorem term_eq (q : FVec Ideal S128x1024 .f32) (s : FVec Ideal S32x32x8x128 .f32) (hq : ∀ i, IsReal (q i)) (hs : ∀ i, IsReal (s i)) :
    (Host.topK S32x8x4x3 3 (FloatOps.cmpfTotal .gt) (table q s) sliceFits_S32x8x4x32_S32x8x4x3).2 = chosen q s := by
  funext y
  obtain ⟨b, h, t, i, rfl⟩ : ∃ (b : Fin 32) (h : Fin 8) (t : Fin 4) (i : Fin 3), y = (ix4 b h t i : S32x8x4x3.Idx) := ⟨y 0, y 1, y 2, y 3, eq_ix4 y⟩
  refine (top_at _ b h t i).trans ?_
  simp only [table_at]
  exact congrArg (fun p : Fin 32 => BitVec.ofNat 32 p.val) (sorted_picks (scoreAt q s b h t) (fun n => by
    obtain ⟨x, hx⟩ : IsReal (scoreAt q s b h t n) := score_real (fun d => hq _) (fun d => hs _)
    rw [hx]
    exact EReal.bot_lt_coe x) i (by omega))

end Cert.SelectRefIdeal.Pf

namespace Cert.Proof

open Idealize.ShloMosaic Idealize.SL.Sem

theorem select_frame_reference : Cert.quiescent_SelectRefIdeal := fun m ρ _ =>
  (θ_run Cert.SelectRefIdeal.defs _ _).mono (fun r h => ⟨fun c => (h c).2, Idealize.ShloMosaic.sem_eq_zero_of_no_sems (by decide) r.2⟩)
    (Cert.SelectRefIdeal.Value.run m ρ)

theorem select_frame_reference_pre : Cert.quiescent_SelectRefIdeal_pre_numbers_select := fun m ρ _ => select_frame_reference m ρ trivial

theorem select : Cert.algebraic_SelectIdeal_SelectRefIdeal_pre_numbers_select := by
  intro m ρ m' ρ' hpre hagree
  have hn := fun c => Cert.Pre_numbers_select.allReal _ _ (hpre c)
  refine ⟨_, Cert.SelectIdeal.Pf.run m ρ (fun c => (hn c).1) (fun c => (hn c).2), ?_⟩
  refine (θ_run Cert.SelectRefIdeal.defs _ _).mono (fun r h c => ?_) (Cert.SelectRefIdeal.Value.run m' ρ')
  obtain ⟨h0, h1⟩ := h c
  obtain ⟨e0, e1⟩ := hagree c
  rw [e0, e1] at h0
  exact ⟨h0.trans (Cert.SelectRefIdeal.Pf.term_eq _ _ (hn c).1 (hn c).2), h1⟩

end Cert.Proof

end
-- ==== Proof.Queries.Block.lean ====
/- The query call's block, read at an index on extended reals. -/
module

public import proofs.«01_k».proof.Proof.LayerSample
public import proofs.«01_k».proof.Proof.Gen.QueriesIdeal.Value
public import Idealize.ShloMosaic.Lib.Pipeline.ReadBack
public import Idealize.ShloMosaic.Lib.Pipeline.ValueKit

@[expose] public section

set_option maxRecDepth 16384

noncomputable section

namespace Cert.QueriesIdeal.Pf

open Cert.QueriesIdeal Cert.QueriesIdeal.Gen Idealize.ShloMosaic Idealize.ShloMosaic.TcCoe Idealize.ShloMosaic.Tactic

variable (x0 : Vec Ideal S128x1024 .f32) (x1 : Vec Ideal S1x1024 .f32) (x2 x3 : Vec Ideal S1x128x1024 .f32) (x4 : Vec Ideal S1024x1024 .bf16) (x5 : Vec Ideal S1x128 .f32)

/-- Row `r` of the block, normed and modulated. -/
abbrev hRow (r : Fin 128) : Fin 1024 → EReal :=
  Layer.pre (fun d => x0 (ix2 r d)) (fun d => x1 (ix2 0 d)) (fun d => x2 (ix3 0 r d)) (fun d => x3 (ix3 0 r d))

/-- The projected row. -/
theorem proj_at (r : Fin 128) (j : Fin 1024) : (k0_pay1 x0 x1 x2 x3 x4 (ix2 r j) : EReal) = ∑ d, hRow x0 x1 x2 x3 r d * x4 (ix2 d j) := by
  pointwise [k0_pay1]
  rfl

/-- A head's sum of squares. -/
theorem squares_at (h : Fin 8) (r : Fin 128) :
    (Value.Fam6_1 x0 x1 x2 x3 x4 x5 h (ix1 r) : EReal)
      = ∑ e : Fin 128, k0_pay1 x0 x1 x2 x3 x4 (ix2 r ⟨h.val * 128 + e.val, by omega⟩) * k0_pay1 x0 x1 x2 x3 x4 (ix2 r ⟨h.val * 128 + e.val, by omega⟩) := by
  fin_cases h <;> (pointwise []; try simp only [Nat.zero_mul, Nat.zero_add]; try rfl)

theorem loads : View.ld x0 r0_0 = x0 ∧ View.ld x1 r0_1 = x1 ∧ View.ld x2 r0_2 = x2 ∧ View.ld x3 r0_2 = x3 ∧ View.ld x4 r0_3 = x4 ∧ View.ld x5 r0_4 = x5 :=
  ⟨View.ld_unit_lit _ x0 (by decide), View.ld_unit_lit _ x1 (by decide), View.ld_unit_lit _ x2 (by decide), View.ld_unit_lit _ x3 (by decide), View.ld_unit_lit _ x4 (by decide), View.ld_unit_lit _ x5 (by decide)⟩

/-- The block of queries. -/
theorem out6_at (r : Fin 128) (j : Fin 1024) :
    (out0_6 x0 x1 x2 x3 x4 x5 (ix2 r j) : EReal) = Layer.headAt (fun j => ∑ d, hRow x0 x1 x2 x3 r d * x4 (ix2 d j)) (fun e => x5 (ix2 0 e)) j := by
  obtain ⟨e0, e1, e2, e3, e4, e5⟩ := loads x0 x1 x2 x3 x4 x5
  unfold out0_6 k0_pay17
  rw [e0, e1, e2, e3, e4, e5, Value.canon6_eq]
  unfold Layer.headAt
  simp only [← proj_at]
  have i0 : Value.ix6_0 (ix2 r j : S128x1024.Idx) = ix2 r j := funext (Fin.forall_fin_two.mpr ⟨rfl, rfl⟩)
  have i1 : Value.ix6_1 (ix2 r j : S128x1024.Idx) = ix1 r := funext fun a => by fin_cases a; rfl
  have i2 : Value.ix6_2 (ix2 r j : S128x1024.Idx) = ix2 0 ⟨j.val % 128, Nat.mod_lt _ (by decide)⟩ := funext (Fin.forall_fin_two.mpr ⟨rfl, rfl⟩)
  have s := squares_at x0 x1 x2 x3 x4 x5 (Value.sel6 (ix2 r j : S128x1024.Idx)) r
  unfold Value.E6
  rw [i0, i1, i2, s]
  rfl

end Cert.QueriesIdeal.Pf

end
-- ==== Proof.Queries.Arrays.lean ====
/- What the query call's array holds after the run, on extended reals. -/
module

public import proofs.«01_k».proof.Proof.Queries.Block
public import Idealize.ShloMosaic.Lib.Claim

@[expose] public section

set_option maxRecDepth 16384

noncomputable section

namespace Cert.QueriesIdeal.Pf

open Cert.QueriesIdeal Cert.QueriesIdeal.Gen Idealize.ShloMosaic Idealize.ShloMosaic.TcCoe Idealize.ShloMosaic.Tactic
open Idealize.SL.Sem
open Idealize.ShloMosaic.Pipeline (Dat)

variable (m : (ℓ : Loc nD τ sig) → Buf (Elt Ideal) ℓ)

theorem maps : ∀ t : Fin cfg0.N, win0_0.index t = ![0, 0] ∧ win0_1.index t = ![0, 0] ∧ win0_2.index t = ![0, 0, 0]
    ∧ win0_3.index t = ![0, 0, 0] ∧ win0_4.index t = ![0, 0] ∧ win0_5.index t = ![0, 0] ∧ win0_6.index t = ![0, 0] :=
  (by decide +kernel : ∀ t : Fin grid0.N, _)

abbrev arg0 (c : Dev nD) : (⟨2, ![128, 1024]⟩ : Shape).Idx → EReal := m ((c : Thread nD τ).loc main_arg0)
abbrev arg1 (c : Dev nD) : (⟨1, ![1024]⟩ : Shape).Idx → EReal := m ((c : Thread nD τ).loc main_arg1)
abbrev arg2 (c : Dev nD) : (⟨2, ![32, 1024]⟩ : Shape).Idx → EReal := m ((c : Thread nD τ).loc main_arg2)
abbrev arg3 (c : Dev nD) : (⟨2, ![32, 1024]⟩ : Shape).Idx → EReal := m ((c : Thread nD τ).loc main_arg3)
abbrev arg4 (c : Dev nD) : (⟨2, ![1024, 1024]⟩ : Shape).Idx → EReal := m ((c : Thread nD τ).loc main_arg4)
abbrev arg5 (c : Dev nD) : (⟨1, ![128]⟩ : Shape).Idx → EReal := m ((c : Thread nD τ).loc main_arg5)

theorem V_g (c : Dev nD) : (V m c main_v0 : S1x1024.Idx → EReal) = shapeCast S1x1024 (arg1 m c : FVec Ideal S1024 .f32) shapeCasts_S1024_S1x1024 := by
  show StableHlo.after hostOps0 (fun b => m (c, b)) (Proc.tc.devRef main_v0) = _
  simp only [hostOps0]
  after_results
  rfl

/-- Every row's vector: its sequence's, one of 4 rows each. -/
def rep (x : FVec Ideal S32x1024 .f32) : FVec Ideal S1x128x1024 .f32 :=
  shapeCast S1x128x1024 (shapeCast S128x1024 (broadcastInDim S32x4x1024 ![0, 2] bcast_S32x1024_S32x4x1024_0_2 x) shapeCasts_S32x4x1024_S128x1024) shapeCasts_S128x1024_S1x128x1024

theorem rep_at (x : FVec Ideal S32x1024 .f32) (r : Fin 128) (d : Fin 1024) : (rep x (ix3 0 r d) : EReal) = x (ix2 ⟨r.val / 4, by omega⟩ d) := by
  pointwise [rep]

theorem V_sh (c : Dev nD) : (V m c main_v3 : S1x128x1024.Idx → EReal) = rep (arg2 m c) := by
  show StableHlo.after hostOps0 (fun b => m (c, b)) (Proc.tc.devRef main_v3) = _
  simp only [hostOps0]
  after_results
  rfl

theorem V_sc (c : Dev nD) : (V m c main_v6 : S1x128x1024.Idx → EReal) = rep (arg3 m c) := by
  show StableHlo.after hostOps0 (fun b => m (c, b)) (Proc.tc.devRef main_v6) = _
  simp only [hostOps0]
  after_results
  rfl

theorem V_kn (c : Dev nD) : (V m c main_v8 : S1x128.Idx → EReal) = shapeCast S1x128 (arg5 m c : FVec Ideal S128 .f32) shapeCasts_S128_S1x128 := by
  show StableHlo.after hostOps0 (fun b => m (c, b)) (Proc.tc.devRef main_v8) = _
  simp only [hostOps0]
  after_results
  rfl

theorem blk_x (c : Dev nD) (t : Fin cfg0.N) (r : Fin 128) (d : Fin 1024) :
    (iblk m c 0 t (ix2 r d : S128x1024.Idx) : EReal) = arg0 m c (ix2 r d) := by
  have e := (maps t).1
  blk_ext [iblk, V, e]

theorem blk_g (c : Dev nD) (t : Fin cfg0.N) (d : Fin 1024) :
    (iblk m c 1 t (ix2 0 d : S1x1024.Idx) : EReal) = arg1 m c (ix1 d) := by
  have e := (maps t).2.1
  have hi : (((cfg0.win 1).blk t).view.emb (ix2 0 d : S1x1024.Idx) : S1x1024.Idx) = ix2 0 d := by blk_ext [e]
  refine (congrArg (V m c main_v0 : S1x1024.Idx → EReal) hi).trans ?_
  rw [V_g]
  pointwise []

theorem blk_sh (c : Dev nD) (t : Fin cfg0.N) (r : Fin 128) (d : Fin 1024) :
    (iblk m c 2 t (ix3 0 r d : S1x128x1024.Idx) : EReal) = arg2 m c (ix2 ⟨r.val / 4, by omega⟩ d) := by
  have e := (maps t).2.2.1
  have hi : (((cfg0.win 2).blk t).view.emb (ix3 0 r d : S1x128x1024.Idx) : S1x128x1024.Idx) = ix3 0 r d := by blk_ext [e]
  refine (congrArg (V m c main_v3 : S1x128x1024.Idx → EReal) hi).trans ?_
  rw [V_sh]
  exact rep_at _ r d

theorem blk_sc (c : Dev nD) (t : Fin cfg0.N) (r : Fin 128) (d : Fin 1024) :
    (iblk m c 3 t (ix3 0 r d : S1x128x1024.Idx) : EReal) = arg3 m c (ix2 ⟨r.val / 4, by omega⟩ d) := by
  have e := (maps t).2.2.2.1
  have hi : (((cfg0.win 3).blk t).view.emb (ix3 0 r d : S1x128x1024.Idx) : S1x128x1024.Idx) = ix3 0 r d := by blk_ext [e]
  refine (congrArg (V m c main_v6 : S1x128x1024.Idx → EReal) hi).trans ?_
  rw [V_sc]
  exact rep_at _ r d

theorem blk_w (c : Dev nD) (t : Fin cfg0.N) (d : Fin 1024) (j : Fin 1024) :
    (iblk m c 4 t (ix2 d j : S1024x1024.Idx) : EReal) = arg4 m c (ix2 d j) := by
  have e := (maps t).2.2.2.2.1
  blk_ext [iblk, V, e]

theorem blk_kn (c : Dev nD) (t : Fin cfg0.N) (d : Fin 128) :
    (iblk m c 5 t (ix2 0 d : S1x128.Idx) : EReal) = arg5 m c (ix1 d) := by
  have e := (maps t).2.2.2.2.2.1
  have hi : (((cfg0.win 5).blk t).view.emb (ix2 0 d : S1x128.Idx) : S1x128.Idx) = ix2 0 d := by blk_ext [e]
  refine (congrArg (V m c main_v8 : S1x128.Idx → EReal) hi).trans ?_
  rw [V_kn]
  pointwise []

/-- Row `R`, normed and modulated. -/
abbrev row (c : Dev nD) (R : Fin 128) : Fin 1024 → EReal := Layer.Sample.row (arg0 m c) (arg1 m c) (arg2 m c) (arg3 m c) R

theorem row_eq (c : Dev nD) (t : Fin cfg0.N) (r : Fin 128) :
    hRow (iblk m c 0 t) (iblk m c 1 t) (iblk m c 2 t) (iblk m c 3 t) r = row m c r := by
  unfold hRow row Layer.Sample.row
  simp only [blk_x, blk_g, blk_sh, blk_sc]

/-- The queries. -/
abbrev queries (c : Dev nD) : (⟨2, ![128, 1024]⟩ : Shape).Idx → EReal := Layer.Sample.queries (arg0 m c) (arg1 m c) (arg2 m c) (arg3 m c) (arg4 m c) (arg5 m c)

theorem final_q (c : Dev nD) : (dats m 0 c).arrAt 6 cfg0.N = (queries m c : Buf (Elt Ideal) ((c : Thread nD τ).loc main_v9)) := by
  refine (dats m 0 c).arrAt_eq_of_covers 6 _ (by decide +kernel) fun t hfl y => ?_
  blk_simp
  rw [after0_6]
  have e := (maps t).2.2.2.2.2.2
  obtain ⟨r, j, rfl⟩ : ∃ (r : Fin 128) (j : Fin 1024), y = (ix2 r j : S128x1024.Idx) := ⟨y 0, y 1, eq_ix2 y⟩
  refine (out6_at _ _ _ _ _ _ r j).trans ?_
  have hi : (((cfg0.win 6).blk t).view.emb (ix2 r j : S128x1024.Idx) : S128x1024.Idx) = ix2 r j := by blk_ext [e]
  refine Eq.trans ?_ (congrArg (queries m c) hi).symm
  rw [row_eq]
  simp only [blk_w, blk_kn]
  rfl

/-- The call's run: its queries, and the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v9) = queries m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => by
    exact ⟨(h c).1.trans (final_q m c), (h c).2⟩) (Value.run_blocks m ρ)

end Cert.QueriesIdeal.Pf

end
-- ==== Proof.Queries.Ref.lean ====
/- The queries' reference, read at an index on extended reals. -/
module

public import proofs.«01_k».proof.Proof.LayerSample
public import proofs.«01_k».proof.Proof.Gen.QueriesRefIdeal.Run
public import Idealize.ShloMosaic.Lib.Pipeline.ValueKit

@[expose] public section

set_option maxRecDepth 16384

noncomputable section

namespace Cert.QueriesRefIdeal.Pf

open Cert.QueriesRefIdeal Cert.QueriesRefIdeal.Gen Idealize.ShloMosaic Idealize.ShloMosaic.TcCoe Idealize.ShloMosaic.Tactic

variable (x : FVec Ideal S128x1024 .f32) (g : FVec Ideal S1024 .f32) (sh sc : FVec Ideal S32x1024 .f32)
  (w : FVec Ideal S1024x1024 .f32) (kn : FVec Ideal S128 .f32)

/-- The rows, by sequence. -/
def xr : FVec Ideal S32x4x1024 .f32 := shapeCast _ x shapeCasts_S128x1024_S32x4x1024

/-- The mean square of every row. -/
def ms : FVec Ideal S32x4x1 .f32 :=
  Host.divf (broadcastInDim S32x4x1 ![0, 1] bcast_S32x4_S32x4x1_0_1 (Host.reduceAdd (mulf (xr x) (xr x)) (constant S_ .f32 0x00000000#32) reducesTo_S32x4x1024_S32x4_d2 h_S_))
    (broadcastInDim S32x4x1 ![] bcast_S_S32x4x1 (constant S_ .f32 0x44800000#32))

/-- The normalized, scaled and shifted rows. -/
def h : FVec Ideal S32x4x1024 .f32 :=
  addf (mulf (mulf (mulf (xr x) (broadcastInDim S32x4x1024 ![0, 1, 2] bcast_S32x4x1_S32x4x1024_0_1_2 (Host.rsqrt (addf (ms x) (broadcastInDim S32x4x1 ![] bcast_S_S32x4x1 (constant S_ .f32 0x358637BD#32))))))
      (broadcastInDim S32x4x1024 ![0, 1, 2] bcast_S1x1x1024_S32x4x1024_0_1_2 (broadcastInDim S1x1x1024 ![2] bcast_S1024_S1x1x1024_2 g)))
    (broadcastInDim S32x4x1024 ![0, 1, 2] bcast_S32x1x1024_S32x4x1024_0_1_2 (addf (broadcastInDim S32x1x1024 ![] bcast_S_S32x1x1024 (constant S_ .f32 0x3F800000#32)) (broadcastInDim S32x1x1024 ![0, 2] bcast_S32x1024_S32x1x1024_0_2 sc))))
    (broadcastInDim S32x4x1024 ![0, 1, 2] bcast_S32x1x1024_S32x4x1024_0_1_2 (broadcastInDim S32x1x1024 ![0, 2] bcast_S32x1024_S32x1x1024_0_2 sh))

/-- The projected rows, by head. -/
def q0 : FVec Ideal S32x4x8x128 .f32 :=
  shapeCast _ (Host.dotGeneral dot_S32x4x1024_S1024x1024_S32x4x1024_2_0_01_1_n_n none (h x g sh sc) w) shapeCasts_S32x4x1024_S32x4x8x128

/-- The queries. -/
def qR : FVec Ideal S128x1024 .f32 :=
  shapeCast _ (mulf (mulf (q0 x g sh sc w) (broadcastInDim S32x4x8x128 ![0, 1, 2, 3] bcast_S32x4x8x1_S32x4x8x128_0_1_2_3 (Host.rsqrt (addf
    (Host.divf (broadcastInDim S32x4x8x1 ![0, 1, 2] bcast_S32x4x8_S32x4x8x1_0_1_2 (Host.reduceAdd (mulf (q0 x g sh sc w) (q0 x g sh sc w)) (constant S_ .f32 0x00000000#32) reducesTo_S32x4x8x128_S32x4x8_d3 h_S_))
      (broadcastInDim S32x4x8x1 ![] bcast_S_S32x4x8x1 (constant S_ .f32 0x43000000#32)))
    (broadcastInDim S32x4x8x1 ![] bcast_S_S32x4x8x1 (constant S_ .f32 0x358637BD#32))))))
    (broadcastInDim S32x4x8x128 ![0, 1, 2, 3] bcast_S1x1x1x128_S32x4x8x128_0_1_2_3 (broadcastInDim S1x1x1x128 ![3] bcast_S128_S1x1x1x128_3 kn))) shapeCasts_S32x4x8x128_S128x1024

theorem xr_at (b : Fin 32) (t : Fin 4) (d : Fin 1024) : (xr x (ix3 b t d) : EReal) = x (ix2 ⟨b.val * 4 + t.val, by omega⟩ d) := by
  pointwise [xr]

/-- Row `t` of sequence `b`, normed and modulated. -/
abbrev hRow (b : Fin 32) (R : Fin 128) : Fin 1024 → EReal :=
  Layer.pre (fun d => x (ix2 R d)) (fun d => g (ix1 d)) (fun d => sh (ix2 b d)) (fun d => sc (ix2 b d))

theorem h_at (b : Fin 32) (t : Fin 4) (d : Fin 1024) : (h x g sh sc (ix3 b t d) : EReal) = hRow x g sh sc b ⟨b.val * 4 + t.val, by omega⟩ d := by
  have e : (ms x (ix3 b t 0) : EReal) = Layer.ms fun d => x (ix2 ⟨b.val * 4 + t.val, by omega⟩ d) := by
    pointwise [ms]
    simp only [xr_at]
    rfl
  pointwise [h]
  rw [e, xr_at]
  rfl

theorem seq_row (R : Fin 128) (h : R.val / 4 * 4 + R.val % 4 < 128) : (⟨R.val / 4 * 4 + R.val % 4, h⟩ : Fin 128) = R := Fin.ext (by show R.val / 4 * 4 + R.val % 4 = R.val; omega)

theorem q_at (R : Fin 128) (j : Fin 1024) :
    (qR x g sh sc w kn (ix2 R j) : EReal) = Layer.headAt (fun j => ∑ d, hRow x g sh sc ⟨R.val / 4, by omega⟩ R d * w (ix2 d j)) (fun e => kn (ix1 e)) j := by
  pointwise [qR, q0]
  simp only [h_at, seq_row]
  rfl

open Idealize.SL.Sem

variable (m : (ℓ : Loc nD τ sig) → Buf (Elt Ideal) ℓ)

/-- The reference's run: the same queries, and the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v37) = Layer.Sample.queries (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => by
    refine ⟨(h c).1.trans ?_, (h c).2⟩
    unfold Value.res_main_v37
    refine Eq.trans (b := qR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) rfl ?_
    funext i
    obtain ⟨R, j, rfl⟩ : ∃ (R : Fin 128) (j : Fin 1024), i = (ix2 R j : S128x1024.Idx) := ⟨i 0, i 1, eq_ix2 i⟩
    exact q_at _ _ _ _ _ _ R j) (Value.run m ρ)

end Cert.QueriesRefIdeal.Pf

end
-- ==== Proof.Queries.Agree.lean ====
/- The query call and its reference end with the same queries. -/
module

public import proofs.«01_k».proof.Defs
public import proofs.«01_k».proof.Proof.Queries.Arrays
public import proofs.«01_k».proof.Proof.Queries.Ref
public import Idealize.ShloMosaic.Adequacy
public import Idealize.ShloMosaic.Init

@[expose] public section

noncomputable section

namespace Cert.Proof

open Idealize.ShloMosaic Idealize.SL.Sem

theorem queries_frame_reference : Cert.quiescent_QueriesRefIdeal := fun m ρ _ =>
  (θ_run Cert.QueriesRefIdeal.defs _ _).mono (fun r h => ⟨fun c => (h c).2, Idealize.ShloMosaic.sem_eq_zero_of_no_sems (by decide) r.2⟩)
    (Cert.QueriesRefIdeal.Value.run m ρ)

theorem queries : Cert.algebraic_QueriesIdeal_QueriesRefIdeal := by
  intro m ρ m' ρ' hpre hagree
  refine ⟨_, Cert.QueriesIdeal.Pf.run m ρ, ?_⟩
  refine (θ_run Cert.QueriesRefIdeal.defs _ _).mono (fun r h c => ?_) (Cert.QueriesRefIdeal.Pf.run m' ρ')
  obtain ⟨h0, h1⟩ := h c
  obtain ⟨e0, e1, e2, e3, e4, e5⟩ := hagree c
  rw [e0, e1, e2, e3, e4, e5] at h0
  exact ⟨h0, h1⟩

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Moba
public import proofs.«01_k».proof.Proof.Gen.Moba.Frame
public import proofs.«01_k».proof.Proof.Gen.MobaIdeal
public import proofs.«01_k».proof.Proof.Gen.MobaIdeal.Frame
public import proofs.«01_k».proof.Proof.Gen.Kv
public import proofs.«01_k».proof.Proof.Gen.Kv.Frame
public import proofs.«01_k».proof.Proof.Gen.KvIdeal
public import proofs.«01_k».proof.Proof.Gen.KvIdeal.Frame
public import proofs.«01_k».proof.Proof.Gen.MobaIdeal.Value
public import proofs.«01_k».proof.Proof.Gen.KvIdeal.Value
public import proofs.«01_k».proof.Proof.Gen.MobaRefIdeal
public import proofs.«01_k».proof.Proof.Gen.MobaRefIdeal.Run
public import proofs.«01_k».proof.Proof.Gen.KvRefIdeal
public import proofs.«01_k».proof.Proof.Gen.KvRefIdeal.Run
public import proofs.«01_k».proof.Proof.Gen.Gla
public import proofs.«01_k».proof.Proof.Gen.Gla.Frame
public import proofs.«01_k».proof.Proof.Gen.GlaIdeal
public import proofs.«01_k».proof.Proof.Gen.GlaIdeal.Frame
public import proofs.«01_k».proof.Proof.Gen.GlaIdeal.Value
public import proofs.«01_k».proof.Proof.Gen.GlaRefIdeal
public import proofs.«01_k».proof.Proof.Gen.GlaRefIdeal.Run
public import proofs.«01_k».proof.Proof.Gen.GlaIn
public import proofs.«01_k».proof.Proof.Gen.GlaIn.Frame
public import proofs.«01_k».proof.Proof.Gen.GlaInIdeal
public import proofs.«01_k».proof.Proof.Gen.GlaInIdeal.Frame
public import proofs.«01_k».proof.Proof.Gen.GlaInIdeal.Value
public import proofs.«01_k».proof.Proof.Gen.GlaInRefIdeal
public import proofs.«01_k».proof.Proof.Gen.GlaInRefIdeal.Run
public import proofs.«01_k».proof.Proof.Gen.KvSample
public import proofs.«01_k».proof.Proof.Gen.KvSample.Frame
public import proofs.«01_k».proof.Proof.Gen.KvSampleIdeal
public import proofs.«01_k».proof.Proof.Gen.KvSampleIdeal.Frame
public import proofs.«01_k».proof.Proof.Gen.KvSampleIdeal.Value
public import proofs.«01_k».proof.Proof.Gen.KvSampleRefIdeal
public import proofs.«01_k».proof.Proof.Gen.KvSampleRefIdeal.Run
public import proofs.«01_k».proof.Proof.Gen.MobaSample
public import proofs.«01_k».proof.Proof.Gen.MobaSample.Frame
public import proofs.«01_k».proof.Proof.Gen.MobaSampleIdeal
public import proofs.«01_k».proof.Proof.Gen.MobaSampleIdeal.Frame
public import proofs.«01_k».proof.Proof.Gen.MobaSampleIdeal.Value
public import proofs.«01_k».proof.Proof.Gen.MobaSampleRefIdeal
public import proofs.«01_k».proof.Proof.Gen.MobaSampleRefIdeal.Run
public import proofs.«01_k».proof.Proof.Gen.RecSample
public import proofs.«01_k».proof.Proof.Gen.RecSample.Frame
public import proofs.«01_k».proof.Proof.Gen.RecSampleIdeal
public import proofs.«01_k».proof.Proof.Gen.RecSampleIdeal.Frame
public import proofs.«01_k».proof.Proof.Gen.RecSampleRefIdeal
public import proofs.«01_k».proof.Proof.Gen.RecSampleRefIdeal.Run
public import proofs.«01_k».proof.Proof.Gen.Ada
public import proofs.«01_k».proof.Proof.Gen.Ada.Frame
public import proofs.«01_k».proof.Proof.Gen.AdaIdeal
public import proofs.«01_k».proof.Proof.Gen.AdaIdeal.Frame
public import proofs.«01_k».proof.Proof.Gen.AdaIdeal.Value
public import proofs.«01_k».proof.Proof.Gen.AdaRefIdeal
public import proofs.«01_k».proof.Proof.Gen.AdaRefIdeal.Run
public import proofs.«01_k».proof.Proof.Gen.Select
public import proofs.«01_k».proof.Proof.Gen.Select.Frame
public import proofs.«01_k».proof.Proof.Gen.SelectIdeal
public import proofs.«01_k».proof.Proof.Gen.SelectIdeal.Frame
public import proofs.«01_k».proof.Proof.Gen.SelectRefIdeal
public import proofs.«01_k».proof.Proof.Gen.SelectRefIdeal.Run
public import proofs.«01_k».proof.Proof.Gen.Queries
public import proofs.«01_k».proof.Proof.Gen.Queries.Frame
public import proofs.«01_k».proof.Proof.Gen.QueriesIdeal
public import proofs.«01_k».proof.Proof.Gen.QueriesIdeal.Frame
public import proofs.«01_k».proof.Proof.Gen.QueriesIdeal.Value
public import proofs.«01_k».proof.Proof.Gen.QueriesRefIdeal
public import proofs.«01_k».proof.Proof.Gen.QueriesRefIdeal.Run
public import proofs.«01_k».proof.Proof.Frame
public import proofs.«01_k».proof.Proof.Run
public import proofs.«01_k».proof.Proof.Arrays
public import proofs.«01_k».proof.Proof.RefArrays
public import proofs.«01_k».proof.Proof.Precond
public import proofs.«01_k».proof.Proof.Moba.Agree
public import proofs.«01_k».proof.Proof.Kv.Agree
public import proofs.«01_k».proof.Proof.Gla.Agree
public import proofs.«01_k».proof.Proof.GlaIn.Agree
public import proofs.«01_k».proof.Proof.KvSample.Agree
public import proofs.«01_k».proof.Proof.MobaSample.Agree
public import proofs.«01_k».proof.Proof.RecSample.Agree
public import proofs.«01_k».proof.Proof.Ada.Agree
public import proofs.«01_k».proof.Proof.Select.Agree
public import proofs.«01_k».proof.Proof.Queries.Agree
public import Idealize.ShloMosaic.Adequacy
public import Idealize.ShloMosaic.Init

@[expose] public section

noncomputable section

namespace Cert.Proof

open Idealize.ShloMosaic Idealize.SL.Sem

/-- The kernel's idealization runs, its arguments unchanged, -/
theorem frame_ideal : Cert.quiescent_KernelIdeal := fun m ρ _ => Cert.KernelIdeal.Rec.frame m ρ

/-- also under the precondition. -/
theorem frame_ideal_pre : Cert.quiescent_KernelIdeal_pre_finite := fun m ρ _ => Cert.KernelIdeal.Rec.frame m ρ

/-- The reference runs, its arguments unchanged; it declares no semaphore. -/
theorem frame_reference : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Rec.run m ρ)

/-- And under the precondition. -/
theorem frame_reference_pre : Cert.quiescent_ReferenceIdeal_pre_finite := fun m ρ _ => frame_reference m ρ trivial

/-- Kernel and reference compute one pair of arrays. -/
theorem recurrence : Cert.algebraic_KernelIdeal_ReferenceIdeal_pre_finite := by
  intro m ρ m' ρ' hpre hagree
  refine ⟨_, _, Cert.KernelIdeal.Rec.run m ρ fun c => Cert.Pre_finite.allFinite _ _ _ _ (hpre c), ?_⟩
  refine (θ_run Cert.ReferenceIdeal.defs _ _).mono (fun r h c => ?_) (Cert.ReferenceIdeal.Rec.run m' ρ')
  obtain ⟨h0, h1, h2⟩ := h c
  obtain ⟨e0, e1, e2, e3⟩ := hagree c
  rw [e0, e1, e2, e3] at h0 h1
  exact ⟨h0, h1, h2⟩

theorem claim : Cert.Claim := ⟨Cert.Kernel.Gen.facts, Cert.KernelIdeal.Gen.facts, Cert.ReferenceIdeal.Gen.facts,
  Cert.Moba.Gen.facts, Cert.MobaIdeal.Gen.facts, Cert.MobaRefIdeal.Gen.facts,
  Cert.Kv.Gen.facts, Cert.KvIdeal.Gen.facts, Cert.KvRefIdeal.Gen.facts,
  Cert.Gla.Gen.facts, Cert.GlaIdeal.Gen.facts, Cert.GlaRefIdeal.Gen.facts,
  Cert.GlaIn.Gen.facts, Cert.GlaInIdeal.Gen.facts, Cert.GlaInRefIdeal.Gen.facts,
  Cert.KvSample.Gen.facts, Cert.KvSampleIdeal.Gen.facts, Cert.KvSampleRefIdeal.Gen.facts,
  Cert.MobaSample.Gen.facts, Cert.MobaSampleIdeal.Gen.facts, Cert.MobaSampleRefIdeal.Gen.facts,
  Cert.RecSample.Gen.facts, Cert.RecSampleIdeal.Gen.facts, Cert.RecSampleRefIdeal.Gen.facts,
  Cert.Ada.Gen.facts, Cert.AdaIdeal.Gen.facts, Cert.AdaRefIdeal.Gen.facts,
  Cert.Select.Gen.facts, Cert.SelectIdeal.Gen.facts, Cert.SelectRefIdeal.Gen.facts,
  Cert.Queries.Gen.facts, Cert.QueriesIdeal.Gen.facts, Cert.QueriesRefIdeal.Gen.facts,
  Cert.Pre_finite.facts, Cert.Pre_numbers.facts, Cert.Pre_numbers_gla.facts, Cert.Pre_numbers_in.facts, Cert.Pre_numbers_sample.facts, Cert.Pre_finite_sample.facts, Cert.Pre_numbers_select.facts,
  frame_kernel, frame_ideal, frame_ideal_pre, frame_reference, frame_reference_pre,
  fun m ρ _ => Cert.Moba.Gen.frame m ρ, fun m ρ _ => Cert.MobaIdeal.Gen.frame m ρ, fun m ρ _ => Cert.MobaIdeal.Gen.frame m ρ,
  moba_frame_reference, moba_frame_reference_pre,
  fun m ρ _ => Cert.Kv.Gen.frame m ρ, fun m ρ _ => Cert.KvIdeal.Gen.frame m ρ, kv_frame_reference,
  fun m ρ _ => Cert.Gla.Gen.frame m ρ, fun m ρ _ => Cert.GlaIdeal.Gen.frame m ρ, fun m ρ _ => Cert.GlaIdeal.Gen.frame m ρ,
  gla_frame_reference, gla_frame_reference_pre,
  fun m ρ _ => Cert.GlaIn.Gen.frame m ρ, fun m ρ _ => Cert.GlaInIdeal.Gen.frame m ρ, fun m ρ _ => Cert.GlaInIdeal.Gen.frame m ρ,
  glaIn_frame_reference, glaIn_frame_reference_pre,
  fun m ρ _ => Cert.KvSample.Gen.frame m ρ, fun m ρ _ => Cert.KvSampleIdeal.Gen.frame m ρ, kvSample_frame_reference,
  fun m ρ _ => Cert.MobaSample.Gen.frame m ρ, fun m ρ _ => Cert.MobaSampleIdeal.Gen.frame m ρ, fun m ρ _ => Cert.MobaSampleIdeal.Gen.frame m ρ,
  mobaSample_frame_reference, mobaSample_frame_reference_pre,
  fun m ρ _ => Cert.RecSample.Gen.frame m ρ, fun m ρ _ => Cert.RecSampleIdeal.Gen.frame m ρ, fun m ρ _ => Cert.RecSampleIdeal.Gen.frame m ρ,
  recSample_frame_reference, recSample_frame_reference_pre,
  fun m ρ _ => Cert.Ada.Gen.frame m ρ, fun m ρ _ => Cert.AdaIdeal.Gen.frame m ρ, ada_frame_reference,
  fun m ρ _ => Cert.Select.Gen.frame m ρ, fun m ρ _ => Cert.SelectIdeal.Gen.frame m ρ, fun m ρ _ => Cert.SelectIdeal.Gen.frame m ρ,
  select_frame_reference, select_frame_reference_pre,
  fun m ρ _ => Cert.Queries.Gen.frame m ρ, fun m ρ _ => Cert.QueriesIdeal.Gen.frame m ρ, queries_frame_reference,
  trivial, recurrence, trivial, moba, trivial, kv, trivial, gla, trivial, glaIn, trivial, kvSample, trivial, mobaSample, trivial, recSample, trivial, ada, trivial, select, trivial, queries⟩

end Cert.Proof

end
